-- ==== Defs.lean ====
def Pre_ConvBwd (m : (ℓ : Loc Cert.ConvBwd.nD Cert.ConvBwd.τ Cert.ConvBwd.sig) → Buf (Elt Bits) ℓ) : Prop :=
  True

def Pre_ConvBwdIdeal (m : (ℓ : Loc Cert.ConvBwdIdeal.nD Cert.ConvBwdIdeal.τ Cert.ConvBwdIdeal.sig) → Buf (Elt Ideal) ℓ) : Prop :=
  True

def Pre_ConvRefIdeal (m : (ℓ : Loc Cert.ConvRefIdeal.nD Cert.ConvRefIdeal.τ Cert.ConvRefIdeal.sig) → Buf (Elt Ideal) ℓ) : Prop :=
  True

def Pre_SbBwd (m : (ℓ : Loc Cert.SbBwd.nD Cert.SbBwd.τ Cert.SbBwd.sig) → Buf (Elt Bits) ℓ) : Prop :=
  True

def Pre_SbBwdIdeal (m : (ℓ : Loc Cert.SbBwdIdeal.nD Cert.SbBwdIdeal.τ Cert.SbBwdIdeal.sig) → Buf (Elt Ideal) ℓ) : Prop :=
  True

def Pre_SbBwdIdeal_sb_finite [hPre_sb_finite : Cert.Pre_sb_finite.Facts] (m : (ℓ : Loc Cert.SbBwdIdeal.nD Cert.SbBwdIdeal.τ Cert.SbBwdIdeal.sig) → Buf (Elt Ideal) ℓ) : Prop :=
  ∀ c : Dev Cert.SbBwdIdeal.nD,
    (Cert.Pre_sb_finite.fn (F := Ideal) (m ((c.tc : Thread Cert.SbBwdIdeal.nD Cert.SbBwdIdeal.τ).loc Cert.SbBwdIdeal.main_arg0)) (m ((c.tc : Thread Cert.SbBwdIdeal.nD Cert.SbBwdIdeal.τ).loc Cert.SbBwdIdeal.main_arg1)) (m ((c.tc : Thread Cert.SbBwdIdeal.nD Cert.SbBwdIdeal.τ).loc Cert.SbBwdIdeal.main_arg2)) (m ((c.tc : Thread Cert.SbBwdIdeal.nD Cert.SbBwdIdeal.τ).loc Cert.SbBwdIdeal.main_arg3))) = (fun _ => 1#1)

def Pre_SbRefIdeal (m : (ℓ : Loc Cert.SbRefIdeal.nD Cert.SbRefIdeal.τ Cert.SbRefIdeal.sig) → Buf (Elt Ideal) ℓ) : Prop :=
  True

def Pre_SbRefIdeal_sb_finite [hPre_sb_finite : Cert.Pre_sb_finite.Facts] (m : (ℓ : Loc Cert.SbRefIdeal.nD Cert.SbRefIdeal.τ Cert.SbRefIdeal.sig) → Buf (Elt Ideal) ℓ) : Prop :=
  ∀ c : Dev Cert.SbRefIdeal.nD,
    (Cert.Pre_sb_finite.fn (F := Ideal) (m ((c.tc : Thread Cert.SbRefIdeal.nD Cert.SbRefIdeal.τ).loc Cert.SbRefIdeal.main_arg0)) (m ((c.tc : Thread Cert.SbRefIdeal.nD Cert.SbRefIdeal.τ).loc Cert.SbRefIdeal.main_arg1)) (m ((c.tc : Thread Cert.SbRefIdeal.nD Cert.SbRefIdeal.τ).loc Cert.SbRefIdeal.main_arg2)) (m ((c.tc : Thread Cert.SbRefIdeal.nD Cert.SbRefIdeal.τ).loc Cert.SbRefIdeal.main_arg3))) = (fun _ => 1#1)

def Pre_CrossBwd (m : (ℓ : Loc Cert.CrossBwd.nD Cert.CrossBwd.τ Cert.CrossBwd.sig) → Buf (Elt Bits) ℓ) : Prop :=
  True

def Pre_CrossBwdIdeal (m : (ℓ : Loc Cert.CrossBwdIdeal.nD Cert.CrossBwdIdeal.τ Cert.CrossBwdIdeal.sig) → Buf (Elt Ideal) ℓ) : Prop :=
  True

def Pre_CrossBwdIdeal_cross_finite [hPre_cross_finite : Cert.Pre_cross_finite.Facts] (m : (ℓ : Loc Cert.CrossBwdIdeal.nD Cert.CrossBwdIdeal.τ Cert.CrossBwdIdeal.sig) → Buf (Elt Ideal) ℓ) : Prop :=
  ∀ c : Dev Cert.CrossBwdIdeal.nD,
    (Cert.Pre_cross_finite.fn (F := Ideal) (m ((c.tc : Thread Cert.CrossBwdIdeal.nD Cert.CrossBwdIdeal.τ).loc Cert.CrossBwdIdeal.main_arg0)) (m ((c.tc : Thread Cert.CrossBwdIdeal.nD Cert.CrossBwdIdeal.τ).loc Cert.CrossBwdIdeal.main_arg1)) (m ((c.tc : Thread Cert.CrossBwdIdeal.nD Cert.CrossBwdIdeal.τ).loc Cert.CrossBwdIdeal.main_arg2))) = (fun _ => 1#1)

def Pre_CrossRefIdeal (m : (ℓ : Loc Cert.CrossRefIdeal.nD Cert.CrossRefIdeal.τ Cert.CrossRefIdeal.sig) → Buf (Elt Ideal) ℓ) : Prop :=
  True

def Pre_CrossRefIdeal_cross_finite [hPre_cross_finite : Cert.Pre_cross_finite.Facts] (m : (ℓ : Loc Cert.CrossRefIdeal.nD Cert.CrossRefIdeal.τ Cert.CrossRefIdeal.sig) → Buf (Elt Ideal) ℓ) : Prop :=
  ∀ c : Dev Cert.CrossRefIdeal.nD,
    (Cert.Pre_cross_finite.fn (F := Ideal) (m ((c.tc : Thread Cert.CrossRefIdeal.nD Cert.CrossRefIdeal.τ).loc Cert.CrossRefIdeal.main_arg0)) (m ((c.tc : Thread Cert.CrossRefIdeal.nD Cert.CrossRefIdeal.τ).loc Cert.CrossRefIdeal.main_arg1)) (m ((c.tc : Thread Cert.CrossRefIdeal.nD Cert.CrossRefIdeal.τ).loc Cert.CrossRefIdeal.main_arg2))) = (fun _ => 1#1)

def Pre_FfnBwd (m : (ℓ : Loc Cert.FfnBwd.nD Cert.FfnBwd.τ Cert.FfnBwd.sig) → Buf (Elt Bits) ℓ) : Prop :=
  True

def Pre_FfnBwdIdeal (m : (ℓ : Loc Cert.FfnBwdIdeal.nD Cert.FfnBwdIdeal.τ Cert.FfnBwdIdeal.sig) → Buf (Elt Ideal) ℓ) : Prop :=
  True

def Pre_FfnBwdIdeal_ffn_finite [hPre_ffn_finite : Cert.Pre_ffn_finite.Facts] (m : (ℓ : Loc Cert.FfnBwdIdeal.nD Cert.FfnBwdIdeal.τ Cert.FfnBwdIdeal.sig) → Buf (Elt Ideal) ℓ) : Prop :=
  ∀ c : Dev Cert.FfnBwdIdeal.nD,
    (Cert.Pre_ffn_finite.fn (F := Ideal) (m ((c.tc : Thread Cert.FfnBwdIdeal.nD Cert.FfnBwdIdeal.τ).loc Cert.FfnBwdIdeal.main_arg0)) (m ((c.tc : Thread Cert.FfnBwdIdeal.nD Cert.FfnBwdIdeal.τ).loc Cert.FfnBwdIdeal.main_arg1)) (m ((c.tc : Thread Cert.FfnBwdIdeal.nD Cert.FfnBwdIdeal.τ).loc Cert.FfnBwdIdeal.main_arg2)) (m ((c.tc : Thread Cert.FfnBwdIdeal.nD Cert.FfnBwdIdeal.τ).loc Cert.FfnBwdIdeal.main_arg3))) = (fun _ => 1#1)

def Pre_FfnRefIdeal (m : (ℓ : Loc Cert.FfnRefIdeal.nD Cert.FfnRefIdeal.τ Cert.FfnRefIdeal.sig) → Buf (Elt Ideal) ℓ) : Prop :=
  True

def Pre_FfnRefIdeal_ffn_finite [hPre_ffn_finite : Cert.Pre_ffn_finite.Facts] (m : (ℓ : Loc Cert.FfnRefIdeal.nD Cert.FfnRefIdeal.τ Cert.FfnRefIdeal.sig) → Buf (Elt Ideal) ℓ) : Prop :=
  ∀ c : Dev Cert.FfnRefIdeal.nD,
    (Cert.Pre_ffn_finite.fn (F := Ideal) (m ((c.tc : Thread Cert.FfnRefIdeal.nD Cert.FfnRefIdeal.τ).loc Cert.FfnRefIdeal.main_arg0)) (m ((c.tc : Thread Cert.FfnRefIdeal.nD Cert.FfnRefIdeal.τ).loc Cert.FfnRefIdeal.main_arg1)) (m ((c.tc : Thread Cert.FfnRefIdeal.nD Cert.FfnRefIdeal.τ).loc Cert.FfnRefIdeal.main_arg2)) (m ((c.tc : Thread Cert.FfnRefIdeal.nD Cert.FfnRefIdeal.τ).loc Cert.FfnRefIdeal.main_arg3))) = (fun _ => 1#1)

def Pre_Ln2Bwd (m : (ℓ : Loc Cert.Ln2Bwd.nD Cert.Ln2Bwd.τ Cert.Ln2Bwd.sig) → Buf (Elt Bits) ℓ) : Prop :=
  True

def Pre_Ln2BwdIdeal (m : (ℓ : Loc Cert.Ln2BwdIdeal.nD Cert.Ln2BwdIdeal.τ Cert.Ln2BwdIdeal.sig) → Buf (Elt Ideal) ℓ) : Prop :=
  True

def Pre_Ln2BwdIdeal_ln2_finite [hPre_ln2_finite : Cert.Pre_ln2_finite.Facts] (m : (ℓ : Loc Cert.Ln2BwdIdeal.nD Cert.Ln2BwdIdeal.τ Cert.Ln2BwdIdeal.sig) → Buf (Elt Ideal) ℓ) : Prop :=
  ∀ c : Dev Cert.Ln2BwdIdeal.nD,
    (Cert.Pre_ln2_finite.fn (F := Ideal) (m ((c.tc : Thread Cert.Ln2BwdIdeal.nD Cert.Ln2BwdIdeal.τ).loc Cert.Ln2BwdIdeal.main_arg0)) (m ((c.tc : Thread Cert.Ln2BwdIdeal.nD Cert.Ln2BwdIdeal.τ).loc Cert.Ln2BwdIdeal.main_arg1)) (m ((c.tc : Thread Cert.Ln2BwdIdeal.nD Cert.Ln2BwdIdeal.τ).loc Cert.Ln2BwdIdeal.main_arg2)) (m ((c.tc : Thread Cert.Ln2BwdIdeal.nD Cert.Ln2BwdIdeal.τ).loc Cert.Ln2BwdIdeal.main_arg3)) (m ((c.tc : Thread Cert.Ln2BwdIdeal.nD Cert.Ln2BwdIdeal.τ).loc Cert.Ln2BwdIdeal.main_arg4)) (m ((c.tc : Thread Cert.Ln2BwdIdeal.nD Cert.Ln2BwdIdeal.τ).loc Cert.Ln2BwdIdeal.main_arg5)) (m ((c.tc : Thread Cert.Ln2BwdIdeal.nD Cert.Ln2BwdIdeal.τ).loc Cert.Ln2BwdIdeal.main_arg6))) = (fun _ => 1#1)

def Pre_Ln2RefIdeal (m : (ℓ : Loc Cert.Ln2RefIdeal.nD Cert.Ln2RefIdeal.τ Cert.Ln2RefIdeal.sig) → Buf (Elt Ideal) ℓ) : Prop :=
  True

def Pre_Ln2RefIdeal_ln2_finite [hPre_ln2_finite : Cert.Pre_ln2_finite.Facts] (m : (ℓ : Loc Cert.Ln2RefIdeal.nD Cert.Ln2RefIdeal.τ Cert.Ln2RefIdeal.sig) → Buf (Elt Ideal) ℓ) : Prop :=
  ∀ c : Dev Cert.Ln2RefIdeal.nD,
    (Cert.Pre_ln2_finite.fn (F := Ideal) (m ((c.tc : Thread Cert.Ln2RefIdeal.nD Cert.Ln2RefIdeal.τ).loc Cert.Ln2RefIdeal.main_arg0)) (m ((c.tc : Thread Cert.Ln2RefIdeal.nD Cert.Ln2RefIdeal.τ).loc Cert.Ln2RefIdeal.main_arg1)) (m ((c.tc : Thread Cert.Ln2RefIdeal.nD Cert.Ln2RefIdeal.τ).loc Cert.Ln2RefIdeal.main_arg2)) (m ((c.tc : Thread Cert.Ln2RefIdeal.nD Cert.Ln2RefIdeal.τ).loc Cert.Ln2RefIdeal.main_arg3)) (m ((c.tc : Thread Cert.Ln2RefIdeal.nD Cert.Ln2RefIdeal.τ).loc Cert.Ln2RefIdeal.main_arg4)) (m ((c.tc : Thread Cert.Ln2RefIdeal.nD Cert.Ln2RefIdeal.τ).loc Cert.Ln2RefIdeal.main_arg5)) (m ((c.tc : Thread Cert.Ln2RefIdeal.nD Cert.Ln2RefIdeal.τ).loc Cert.Ln2RefIdeal.main_arg6))) = (fun _ => 1#1)

def Pre_Ln1Bwd (m : (ℓ : Loc Cert.Ln1Bwd.nD Cert.Ln1Bwd.τ Cert.Ln1Bwd.sig) → Buf (Elt Bits) ℓ) : Prop :=
  True

def Pre_Ln1BwdIdeal (m : (ℓ : Loc Cert.Ln1BwdIdeal.nD Cert.Ln1BwdIdeal.τ Cert.Ln1BwdIdeal.sig) → Buf (Elt Ideal) ℓ) : Prop :=
  True

def Pre_Ln1BwdIdeal_ln1_finite [hPre_ln1_finite : Cert.Pre_ln1_finite.Facts] (m : (ℓ : Loc Cert.Ln1BwdIdeal.nD Cert.Ln1BwdIdeal.τ Cert.Ln1BwdIdeal.sig) → Buf (Elt Ideal) ℓ) : Prop :=
  ∀ c : Dev Cert.Ln1BwdIdeal.nD,
    (Cert.Pre_ln1_finite.fn (F := Ideal) (m ((c.tc : Thread Cert.Ln1BwdIdeal.nD Cert.Ln1BwdIdeal.τ).loc Cert.Ln1BwdIdeal.main_arg0)) (m ((c.tc : Thread Cert.Ln1BwdIdeal.nD Cert.Ln1BwdIdeal.τ).loc Cert.Ln1BwdIdeal.main_arg1)) (m ((c.tc : Thread Cert.Ln1BwdIdeal.nD Cert.Ln1BwdIdeal.τ).loc Cert.Ln1BwdIdeal.main_arg2)) (m ((c.tc : Thread Cert.Ln1BwdIdeal.nD Cert.Ln1BwdIdeal.τ).loc Cert.Ln1BwdIdeal.main_arg3)) (m ((c.tc : Thread Cert.Ln1BwdIdeal.nD Cert.Ln1BwdIdeal.τ).loc Cert.Ln1BwdIdeal.main_arg4)) (m ((c.tc : Thread Cert.Ln1BwdIdeal.nD Cert.Ln1BwdIdeal.τ).loc Cert.Ln1BwdIdeal.main_arg5)) (m ((c.tc : Thread Cert.Ln1BwdIdeal.nD Cert.Ln1BwdIdeal.τ).loc Cert.Ln1BwdIdeal.main_arg6)) (m ((c.tc : Thread Cert.Ln1BwdIdeal.nD Cert.Ln1BwdIdeal.τ).loc Cert.Ln1BwdIdeal.main_arg7)) (m ((c.tc : Thread Cert.Ln1BwdIdeal.nD Cert.Ln1BwdIdeal.τ).loc Cert.Ln1BwdIdeal.main_arg8)) (m ((c.tc : Thread Cert.Ln1BwdIdeal.nD Cert.Ln1BwdIdeal.τ).loc Cert.Ln1BwdIdeal.main_arg9)) (m ((c.tc : Thread Cert.Ln1BwdIdeal.nD Cert.Ln1BwdIdeal.τ).loc Cert.Ln1BwdIdeal.main_arg10))) = (fun _ => 1#1)

def Pre_Ln1RefIdeal (m : (ℓ : Loc Cert.Ln1RefIdeal.nD Cert.Ln1RefIdeal.τ Cert.Ln1RefIdeal.sig) → Buf (Elt Ideal) ℓ) : Prop :=
  True

def Pre_Ln1RefIdeal_ln1_finite [hPre_ln1_finite : Cert.Pre_ln1_finite.Facts] (m : (ℓ : Loc Cert.Ln1RefIdeal.nD Cert.Ln1RefIdeal.τ Cert.Ln1RefIdeal.sig) → Buf (Elt Ideal) ℓ) : Prop :=
  ∀ c : Dev Cert.Ln1RefIdeal.nD,
    (Cert.Pre_ln1_finite.fn (F := Ideal) (m ((c.tc : Thread Cert.Ln1RefIdeal.nD Cert.Ln1RefIdeal.τ).loc Cert.Ln1RefIdeal.main_arg0)) (m ((c.tc : Thread Cert.Ln1RefIdeal.nD Cert.Ln1RefIdeal.τ).loc Cert.Ln1RefIdeal.main_arg1)) (m ((c.tc : Thread Cert.Ln1RefIdeal.nD Cert.Ln1RefIdeal.τ).loc Cert.Ln1RefIdeal.main_arg2)) (m ((c.tc : Thread Cert.Ln1RefIdeal.nD Cert.Ln1RefIdeal.τ).loc Cert.Ln1RefIdeal.main_arg3)) (m ((c.tc : Thread Cert.Ln1RefIdeal.nD Cert.Ln1RefIdeal.τ).loc Cert.Ln1RefIdeal.main_arg4)) (m ((c.tc : Thread Cert.Ln1RefIdeal.nD Cert.Ln1RefIdeal.τ).loc Cert.Ln1RefIdeal.main_arg5)) (m ((c.tc : Thread Cert.Ln1RefIdeal.nD Cert.Ln1RefIdeal.τ).loc Cert.Ln1RefIdeal.main_arg6)) (m ((c.tc : Thread Cert.Ln1RefIdeal.nD Cert.Ln1RefIdeal.τ).loc Cert.Ln1RefIdeal.main_arg7)) (m ((c.tc : Thread Cert.Ln1RefIdeal.nD Cert.Ln1RefIdeal.τ).loc Cert.Ln1RefIdeal.main_arg8)) (m ((c.tc : Thread Cert.Ln1RefIdeal.nD Cert.Ln1RefIdeal.τ).loc Cert.Ln1RefIdeal.main_arg9)) (m ((c.tc : Thread Cert.Ln1RefIdeal.nD Cert.Ln1RefIdeal.τ).loc Cert.Ln1RefIdeal.main_arg10))) = (fun _ => 1#1)

def Pre_MixBwd (m : (ℓ : Loc Cert.MixBwd.nD Cert.MixBwd.τ Cert.MixBwd.sig) → Buf (Elt Bits) ℓ) : Prop :=
  True

def Pre_MixBwdIdeal (m : (ℓ : Loc Cert.MixBwdIdeal.nD Cert.MixBwdIdeal.τ Cert.MixBwdIdeal.sig) → Buf (Elt Ideal) ℓ) : Prop :=
  True

def Pre_MixBwdIdeal_mix_finite [hPre_mix_finite : Cert.Pre_mix_finite.Facts] (m : (ℓ : Loc Cert.MixBwdIdeal.nD Cert.MixBwdIdeal.τ Cert.MixBwdIdeal.sig) → Buf (Elt Ideal) ℓ) : Prop :=
  ∀ c : Dev Cert.MixBwdIdeal.nD,
    (Cert.Pre_mix_finite.fn (F := Ideal) (m ((c.tc : Thread Cert.MixBwdIdeal.nD Cert.MixBwdIdeal.τ).loc Cert.MixBwdIdeal.main_arg0)) (m ((c.tc : Thread Cert.MixBwdIdeal.nD Cert.MixBwdIdeal.τ).loc Cert.MixBwdIdeal.main_arg1)) (m ((c.tc : Thread Cert.MixBwdIdeal.nD Cert.MixBwdIdeal.τ).loc Cert.MixBwdIdeal.main_arg2)) (m ((c.tc : Thread Cert.MixBwdIdeal.nD Cert.MixBwdIdeal.τ).loc Cert.MixBwdIdeal.main_arg3)) (m ((c.tc : Thread Cert.MixBwdIdeal.nD Cert.MixBwdIdeal.τ).loc Cert.MixBwdIdeal.main_arg4)) (m ((c.tc : Thread Cert.MixBwdIdeal.nD Cert.MixBwdIdeal.τ).loc Cert.MixBwdIdeal.main_arg5))) = (fun _ => 1#1)

def Pre_MixRefIdeal (m : (ℓ : Loc Cert.MixRefIdeal.nD Cert.MixRefIdeal.τ Cert.MixRefIdeal.sig) → Buf (Elt Ideal) ℓ) : Prop :=
  True

def Pre_MixRefIdeal_mix_finite [hPre_mix_finite : Cert.Pre_mix_finite.Facts] (m : (ℓ : Loc Cert.MixRefIdeal.nD Cert.MixRefIdeal.τ Cert.MixRefIdeal.sig) → Buf (Elt Ideal) ℓ) : Prop :=
  ∀ c : Dev Cert.MixRefIdeal.nD,
    (Cert.Pre_mix_finite.fn (F := Ideal) (m ((c.tc : Thread Cert.MixRefIdeal.nD Cert.MixRefIdeal.τ).loc Cert.MixRefIdeal.main_arg0)) (m ((c.tc : Thread Cert.MixRefIdeal.nD Cert.MixRefIdeal.τ).loc Cert.MixRefIdeal.main_arg1)) (m ((c.tc : Thread Cert.MixRefIdeal.nD Cert.MixRefIdeal.τ).loc Cert.MixRefIdeal.main_arg2)) (m ((c.tc : Thread Cert.MixRefIdeal.nD Cert.MixRefIdeal.τ).loc Cert.MixRefIdeal.main_arg3)) (m ((c.tc : Thread Cert.MixRefIdeal.nD Cert.MixRefIdeal.τ).loc Cert.MixRefIdeal.main_arg4)) (m ((c.tc : Thread Cert.MixRefIdeal.nD Cert.MixRefIdeal.τ).loc Cert.MixRefIdeal.main_arg5))) = (fun _ => 1#1)

def Pre_Ffn2Bwd (m : (ℓ : Loc Cert.Ffn2Bwd.nD Cert.Ffn2Bwd.τ Cert.Ffn2Bwd.sig) → Buf (Elt Bits) ℓ) : Prop :=
  True

def Pre_Ffn2BwdIdeal (m : (ℓ : Loc Cert.Ffn2BwdIdeal.nD Cert.Ffn2BwdIdeal.τ Cert.Ffn2BwdIdeal.sig) → Buf (Elt Ideal) ℓ) : Prop :=
  True

def Pre_Ffn2BwdIdeal_ffn2_finite [hPre_ffn2_finite : Cert.Pre_ffn2_finite.Facts] (m : (ℓ : Loc Cert.Ffn2BwdIdeal.nD Cert.Ffn2BwdIdeal.τ Cert.Ffn2BwdIdeal.sig) → Buf (Elt Ideal) ℓ) : Prop :=
  ∀ c : Dev Cert.Ffn2BwdIdeal.nD,
    (Cert.Pre_ffn2_finite.fn (F := Ideal) (m ((c.tc : Thread Cert.Ffn2BwdIdeal.nD Cert.Ffn2BwdIdeal.τ).loc Cert.Ffn2BwdIdeal.main_arg0)) (m ((c.tc : Thread Cert.Ffn2BwdIdeal.nD Cert.Ffn2BwdIdeal.τ).loc Cert.Ffn2BwdIdeal.main_arg1)) (m ((c.tc : Thread Cert.Ffn2BwdIdeal.nD Cert.Ffn2BwdIdeal.τ).loc Cert.Ffn2BwdIdeal.main_arg2)) (m ((c.tc : Thread Cert.Ffn2BwdIdeal.nD Cert.Ffn2BwdIdeal.τ).loc Cert.Ffn2BwdIdeal.main_arg3)) (m ((c.tc : Thread Cert.Ffn2BwdIdeal.nD Cert.Ffn2BwdIdeal.τ).loc Cert.Ffn2BwdIdeal.main_arg4)) (m ((c.tc : Thread Cert.Ffn2BwdIdeal.nD Cert.Ffn2BwdIdeal.τ).loc Cert.Ffn2BwdIdeal.main_arg5)) (m ((c.tc : Thread Cert.Ffn2BwdIdeal.nD Cert.Ffn2BwdIdeal.τ).loc Cert.Ffn2BwdIdeal.main_arg6))) = (fun _ => 1#1)

def Pre_Ffn2RefIdeal (m : (ℓ : Loc Cert.Ffn2RefIdeal.nD Cert.Ffn2RefIdeal.τ Cert.Ffn2RefIdeal.sig) → Buf (Elt Ideal) ℓ) : Prop :=
  True

def Pre_Ffn2RefIdeal_ffn2_finite [hPre_ffn2_finite : Cert.Pre_ffn2_finite.Facts] (m : (ℓ : Loc Cert.Ffn2RefIdeal.nD Cert.Ffn2RefIdeal.τ Cert.Ffn2RefIdeal.sig) → Buf (Elt Ideal) ℓ) : Prop :=
  ∀ c : Dev Cert.Ffn2RefIdeal.nD,
    (Cert.Pre_ffn2_finite.fn (F := Ideal) (m ((c.tc : Thread Cert.Ffn2RefIdeal.nD Cert.Ffn2RefIdeal.τ).loc Cert.Ffn2RefIdeal.main_arg0)) (m ((c.tc : Thread Cert.Ffn2RefIdeal.nD Cert.Ffn2RefIdeal.τ).loc Cert.Ffn2RefIdeal.main_arg1)) (m ((c.tc : Thread Cert.Ffn2RefIdeal.nD Cert.Ffn2RefIdeal.τ).loc Cert.Ffn2RefIdeal.main_arg2)) (m ((c.tc : Thread Cert.Ffn2RefIdeal.nD Cert.Ffn2RefIdeal.τ).loc Cert.Ffn2RefIdeal.main_arg3)) (m ((c.tc : Thread Cert.Ffn2RefIdeal.nD Cert.Ffn2RefIdeal.τ).loc Cert.Ffn2RefIdeal.main_arg4)) (m ((c.tc : Thread Cert.Ffn2RefIdeal.nD Cert.Ffn2RefIdeal.τ).loc Cert.Ffn2RefIdeal.main_arg5)) (m ((c.tc : Thread Cert.Ffn2RefIdeal.nD Cert.Ffn2RefIdeal.τ).loc Cert.Ffn2RefIdeal.main_arg6))) = (fun _ => 1#1)

def Pre_LossHead (m : (ℓ : Loc Cert.LossHead.nD Cert.LossHead.τ Cert.LossHead.sig) → Buf (Elt Bits) ℓ) : Prop :=
  True

def Pre_LossHeadIdeal (m : (ℓ : Loc Cert.LossHeadIdeal.nD Cert.LossHeadIdeal.τ Cert.LossHeadIdeal.sig) → Buf (Elt Ideal) ℓ) : Prop :=
  True

def Pre_LossHeadIdeal_loss_finite [hPre_loss_finite : Cert.Pre_loss_finite.Facts] (m : (ℓ : Loc Cert.LossHeadIdeal.nD Cert.LossHeadIdeal.τ Cert.LossHeadIdeal.sig) → Buf (Elt Ideal) ℓ) : Prop :=
  ∀ c : Dev Cert.LossHeadIdeal.nD,
    (Cert.Pre_loss_finite.fn (F := Ideal) (m ((c.tc : Thread Cert.LossHeadIdeal.nD Cert.LossHeadIdeal.τ).loc Cert.LossHeadIdeal.main_arg0)) (m ((c.tc : Thread Cert.LossHeadIdeal.nD Cert.LossHeadIdeal.τ).loc Cert.LossHeadIdeal.main_arg1)) (m ((c.tc : Thread Cert.LossHeadIdeal.nD Cert.LossHeadIdeal.τ).loc Cert.LossHeadIdeal.main_arg2)) (m ((c.tc : Thread Cert.LossHeadIdeal.nD Cert.LossHeadIdeal.τ).loc Cert.LossHeadIdeal.main_arg3)) (m ((c.tc : Thread Cert.LossHeadIdeal.nD Cert.LossHeadIdeal.τ).loc Cert.LossHeadIdeal.main_arg4)) (m ((c.tc : Thread Cert.LossHeadIdeal.nD Cert.LossHeadIdeal.τ).loc Cert.LossHeadIdeal.main_arg5))) = (fun _ => 1#1)

def Pre_LossRefIdeal (m : (ℓ : Loc Cert.LossRefIdeal.nD Cert.LossRefIdeal.τ Cert.LossRefIdeal.sig) → Buf (Elt Ideal) ℓ) : Prop :=
  True

def Pre_LossRefIdeal_loss_finite [hPre_loss_finite : Cert.Pre_loss_finite.Facts] (m : (ℓ : Loc Cert.LossRefIdeal.nD Cert.LossRefIdeal.τ Cert.LossRefIdeal.sig) → Buf (Elt Ideal) ℓ) : Prop :=
  ∀ c : Dev Cert.LossRefIdeal.nD,
    (Cert.Pre_loss_finite.fn (F := Ideal) (m ((c.tc : Thread Cert.LossRefIdeal.nD Cert.LossRefIdeal.τ).loc Cert.LossRefIdeal.main_arg0)) (m ((c.tc : Thread Cert.LossRefIdeal.nD Cert.LossRefIdeal.τ).loc Cert.LossRefIdeal.main_arg1)) (m ((c.tc : Thread Cert.LossRefIdeal.nD Cert.LossRefIdeal.τ).loc Cert.LossRefIdeal.main_arg2)) (m ((c.tc : Thread Cert.LossRefIdeal.nD Cert.LossRefIdeal.τ).loc Cert.LossRefIdeal.main_arg3)) (m ((c.tc : Thread Cert.LossRefIdeal.nD Cert.LossRefIdeal.τ).loc Cert.LossRefIdeal.main_arg4)) (m ((c.tc : Thread Cert.LossRefIdeal.nD Cert.LossRefIdeal.τ).loc Cert.LossRefIdeal.main_arg5))) = (fun _ => 1#1)

def Pre_SbFwd (m : (ℓ : Loc Cert.SbFwd.nD Cert.SbFwd.τ Cert.SbFwd.sig) → Buf (Elt Bits) ℓ) : Prop :=
  True

def Pre_SbFwdIdeal (m : (ℓ : Loc Cert.SbFwdIdeal.nD Cert.SbFwdIdeal.τ Cert.SbFwdIdeal.sig) → Buf (Elt Ideal) ℓ) : Prop :=
  True

def Pre_SbFwdIdeal_sb_fwd_finite [hPre_sb_fwd_finite : Cert.Pre_sb_fwd_finite.Facts] (m : (ℓ : Loc Cert.SbFwdIdeal.nD Cert.SbFwdIdeal.τ Cert.SbFwdIdeal.sig) → Buf (Elt Ideal) ℓ) : Prop :=
  ∀ c : Dev Cert.SbFwdIdeal.nD,
    (Cert.Pre_sb_fwd_finite.fn (F := Ideal) (m ((c.tc : Thread Cert.SbFwdIdeal.nD Cert.SbFwdIdeal.τ).loc Cert.SbFwdIdeal.main_arg0)) (m ((c.tc : Thread Cert.SbFwdIdeal.nD Cert.SbFwdIdeal.τ).loc Cert.SbFwdIdeal.main_arg1)) (m ((c.tc : Thread Cert.SbFwdIdeal.nD Cert.SbFwdIdeal.τ).loc Cert.SbFwdIdeal.main_arg2))) = (fun _ => 1#1)

def Pre_SbFwdRefIdeal (m : (ℓ : Loc Cert.SbFwdRefIdeal.nD Cert.SbFwdRefIdeal.τ Cert.SbFwdRefIdeal.sig) → Buf (Elt Ideal) ℓ) : Prop :=
  True

def Pre_SbFwdRefIdeal_sb_fwd_finite [hPre_sb_fwd_finite : Cert.Pre_sb_fwd_finite.Facts] (m : (ℓ : Loc Cert.SbFwdRefIdeal.nD Cert.SbFwdRefIdeal.τ Cert.SbFwdRefIdeal.sig) → Buf (Elt Ideal) ℓ) : Prop :=
  ∀ c : Dev Cert.SbFwdRefIdeal.nD,
    (Cert.Pre_sb_fwd_finite.fn (F := Ideal) (m ((c.tc : Thread Cert.SbFwdRefIdeal.nD Cert.SbFwdRefIdeal.τ).loc Cert.SbFwdRefIdeal.main_arg0)) (m ((c.tc : Thread Cert.SbFwdRefIdeal.nD Cert.SbFwdRefIdeal.τ).loc Cert.SbFwdRefIdeal.main_arg1)) (m ((c.tc : Thread Cert.SbFwdRefIdeal.nD Cert.SbFwdRefIdeal.τ).loc Cert.SbFwdRefIdeal.main_arg2))) = (fun _ => 1#1)

def Pre_CrossFwd (m : (ℓ : Loc Cert.CrossFwd.nD Cert.CrossFwd.τ Cert.CrossFwd.sig) → Buf (Elt Bits) ℓ) : Prop :=
  True

def Pre_CrossFwdIdeal (m : (ℓ : Loc Cert.CrossFwdIdeal.nD Cert.CrossFwdIdeal.τ Cert.CrossFwdIdeal.sig) → Buf (Elt Ideal) ℓ) : Prop :=
  True

def Pre_CrossFwdRefIdeal (m : (ℓ : Loc Cert.CrossFwdRefIdeal.nD Cert.CrossFwdRefIdeal.τ Cert.CrossFwdRefIdeal.sig) → Buf (Elt Ideal) ℓ) : Prop :=
  True

def Pre_MixFwd (m : (ℓ : Loc Cert.MixFwd.nD Cert.MixFwd.τ Cert.MixFwd.sig) → Buf (Elt Bits) ℓ) : Prop :=
  True

def Pre_MixFwdIdeal (m : (ℓ : Loc Cert.MixFwdIdeal.nD Cert.MixFwdIdeal.τ Cert.MixFwdIdeal.sig) → Buf (Elt Ideal) ℓ) : Prop :=
  True

def Pre_MixFwdRefIdeal (m : (ℓ : Loc Cert.MixFwdRefIdeal.nD Cert.MixFwdRefIdeal.τ Cert.MixFwdRefIdeal.sig) → Buf (Elt Ideal) ℓ) : Prop :=
  True

def Pre_LnFwd (m : (ℓ : Loc Cert.LnFwd.nD Cert.LnFwd.τ Cert.LnFwd.sig) → Buf (Elt Bits) ℓ) : Prop :=
  True

def Pre_LnFwdIdeal (m : (ℓ : Loc Cert.LnFwdIdeal.nD Cert.LnFwdIdeal.τ Cert.LnFwdIdeal.sig) → Buf (Elt Ideal) ℓ) : Prop :=
  True

def Pre_LnFwdRefIdeal (m : (ℓ : Loc Cert.LnFwdRefIdeal.nD Cert.LnFwdRefIdeal.τ Cert.LnFwdRefIdeal.sig) → Buf (Elt Ideal) ℓ) : Prop :=
  True

def Pre_FfnFwd (m : (ℓ : Loc Cert.FfnFwd.nD Cert.FfnFwd.τ Cert.FfnFwd.sig) → Buf (Elt Bits) ℓ) : Prop :=
  True

def Pre_FfnFwdIdeal (m : (ℓ : Loc Cert.FfnFwdIdeal.nD Cert.FfnFwdIdeal.τ Cert.FfnFwdIdeal.sig) → Buf (Elt Ideal) ℓ) : Prop :=
  True

def Pre_FfnFwdRefIdeal (m : (ℓ : Loc Cert.FfnFwdRefIdeal.nD Cert.FfnFwdRefIdeal.τ Cert.FfnFwdRefIdeal.sig) → Buf (Elt Ideal) ℓ) : Prop :=
  True

def quiescent_ConvBwd [hConvBwd : Cert.ConvBwd.Facts] : Prop :=
  ∀ (m : (ℓ : Loc Cert.ConvBwd.nD Cert.ConvBwd.τ Cert.ConvBwd.sig) → Buf (Elt Bits) ℓ) (g : Dev Cert.ConvBwd.nD → PrngReg), Pre_ConvBwd m →
    θ_run (Cert.ConvBwd.defs (F := Bits)) (onTc (τ := Cert.ConvBwd.τ) (Cert.ConvBwd.main (F := Bits))) ⟨m, fun _ => 0, g⟩ (fun r => (∀ c : Dev Cert.ConvBwd.nD,
      r.2.mem ((c.tc : Thread Cert.ConvBwd.nD Cert.ConvBwd.τ).loc Cert.ConvBwd.main_arg0) = m ((c.tc : Thread Cert.ConvBwd.nD Cert.ConvBwd.τ).loc Cert.ConvBwd.main_arg0)
      ∧ r.2.mem ((c.tc : Thread Cert.ConvBwd.nD Cert.ConvBwd.τ).loc Cert.ConvBwd.main_arg1) = m ((c.tc : Thread Cert.ConvBwd.nD Cert.ConvBwd.τ).loc Cert.ConvBwd.main_arg1)
      ∧ r.2.mem ((c.tc : Thread Cert.ConvBwd.nD Cert.ConvBwd.τ).loc Cert.ConvBwd.main_arg2) = m ((c.tc : Thread Cert.ConvBwd.nD Cert.ConvBwd.τ).loc Cert.ConvBwd.main_arg2)
      ∧ r.2.mem ((c.tc : Thread Cert.ConvBwd.nD Cert.ConvBwd.τ).loc Cert.ConvBwd.main_arg3) = m ((c.tc : Thread Cert.ConvBwd.nD Cert.ConvBwd.τ).loc Cert.ConvBwd.main_arg3))
      ∧ r.2.sem = fun _ => 0)

def quiescent_ConvBwdIdeal [hConvBwdIdeal : Cert.ConvBwdIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg), Pre_ConvBwdIdeal m →
    θ_run (Cert.ConvBwdIdeal.defs (F := Ideal)) (onTc (τ := Cert.ConvBwdIdeal.τ) (Cert.ConvBwdIdeal.main (F := Ideal))) ⟨m, fun _ => 0, g⟩ (fun r => (∀ c : Dev Cert.ConvBwdIdeal.nD,
      r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
      ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
      ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
      ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ r.2.sem = fun _ => 0)

def quiescent_ConvRefIdeal [hConvRefIdeal : Cert.ConvRefIdeal.Facts] : Prop :=
  ∀ (m : (ℓ : Loc Cert.ConvRefIdeal.nD Cert.ConvRefIdeal.τ Cert.ConvRefIdeal.sig) → Buf (Elt Ideal) ℓ) (g : Dev Cert.ConvRefIdeal.nD → PrngReg), Pre_ConvRefIdeal m →
    θ_run (Cert.ConvRefIdeal.defs (F := Ideal)) (onTc (τ := Cert.ConvRefIdeal.τ) (Cert.ConvRefIdeal.main (F := Ideal))) ⟨m, fun _ => 0, g⟩ (fun r => (∀ c : Dev Cert.ConvRefIdeal.nD,
      r.2.mem ((c.tc : Thread Cert.ConvRefIdeal.nD Cert.ConvRefIdeal.τ).loc Cert.ConvRefIdeal.main_arg0) = m ((c.tc : Thread Cert.ConvRefIdeal.nD Cert.ConvRefIdeal.τ).loc Cert.ConvRefIdeal.main_arg0)
      ∧ r.2.mem ((c.tc : Thread Cert.ConvRefIdeal.nD Cert.ConvRefIdeal.τ).loc Cert.ConvRefIdeal.main_arg1) = m ((c.tc : Thread Cert.ConvRefIdeal.nD Cert.ConvRefIdeal.τ).loc Cert.ConvRefIdeal.main_arg1)
      ∧ r.2.mem ((c.tc : Thread Cert.ConvRefIdeal.nD Cert.ConvRefIdeal.τ).loc Cert.ConvRefIdeal.main_arg2) = m ((c.tc : Thread Cert.ConvRefIdeal.nD Cert.ConvRefIdeal.τ).loc Cert.ConvRefIdeal.main_arg2)
      ∧ r.2.mem ((c.tc : Thread Cert.ConvRefIdeal.nD Cert.ConvRefIdeal.τ).loc Cert.ConvRefIdeal.main_arg3) = m ((c.tc : Thread Cert.ConvRefIdeal.nD Cert.ConvRefIdeal.τ).loc Cert.ConvRefIdeal.main_arg3))
      ∧ r.2.sem = fun _ => 0)

def quiescent_SbBwd [hSbBwd : Cert.SbBwd.Facts] : Prop :=
  ∀ (m : (ℓ : Loc Cert.SbBwd.nD Cert.SbBwd.τ Cert.SbBwd.sig) → Buf (Elt Bits) ℓ) (g : Dev Cert.SbBwd.nD → PrngReg), Pre_SbBwd m →
    θ_run (Cert.SbBwd.defs (F := Bits)) (onTc (τ := Cert.SbBwd.τ) (Cert.SbBwd.main (F := Bits))) ⟨m, fun _ => 0, g⟩ (fun r => (∀ c : Dev Cert.SbBwd.nD,
      r.2.mem ((c.tc : Thread Cert.SbBwd.nD Cert.SbBwd.τ).loc Cert.SbBwd.main_arg0) = m ((c.tc : Thread Cert.SbBwd.nD Cert.SbBwd.τ).loc Cert.SbBwd.main_arg0)
      ∧ r.2.mem ((c.tc : Thread Cert.SbBwd.nD Cert.SbBwd.τ).loc Cert.SbBwd.main_arg1) = m ((c.tc : Thread Cert.SbBwd.nD Cert.SbBwd.τ).loc Cert.SbBwd.main_arg1)
      ∧ r.2.mem ((c.tc : Thread Cert.SbBwd.nD Cert.SbBwd.τ).loc Cert.SbBwd.main_arg2) = m ((c.tc : Thread Cert.SbBwd.nD Cert.SbBwd.τ).loc Cert.SbBwd.main_arg2)
      ∧ r.2.mem ((c.tc : Thread Cert.SbBwd.nD Cert.SbBwd.τ).loc Cert.SbBwd.main_arg3) = m ((c.tc : Thread Cert.SbBwd.nD Cert.SbBwd.τ).loc Cert.SbBwd.main_arg3))
      ∧ r.2.sem = fun _ => 0)

def quiescent_SbBwdIdeal [hSbBwdIdeal : Cert.SbBwdIdeal.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ r.2.sem = fun _ => 0)

def quiescent_SbBwdIdeal_pre_sb_finite [hSbBwdIdeal : Cert.SbBwdIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg), Pre_SbBwdIdeal_sb_finite m →
    θ_run (Cert.SbBwdIdeal.defs (F := Ideal)) (onTc (τ := Cert.SbBwdIdeal.τ) (Cert.SbBwdIdeal.main (F := Ideal))) ⟨m, fun _ => 0, g⟩ (fun r => (∀ c : Dev Cert.SbBwdIdeal.nD,
      r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
      ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
      ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
      ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ r.2.sem = fun _ => 0)

def quiescent_SbRefIdeal [hSbRefIdeal : Cert.SbRefIdeal.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_SbRefIdeal_pre_sb_finite [hSbRefIdeal : Cert.SbRefIdeal.Facts] [hPre_sb_finite : Cert.Pre_sb_finite.Facts] : Prop :=
  ∀ (m : (ℓ : Loc Cert.SbRefIdeal.nD Cert.SbRefIdeal.τ Cert.SbRefIdeal.sig) → Buf (Elt Ideal) ℓ) (g : Dev Cert.SbRefIdeal.nD → PrngReg), Pre_SbRefIdeal_sb_finite m →
    θ_run (Cert.SbRefIdeal.defs (F := Ideal)) (onTc (τ := Cert.SbRefIdeal.τ) (Cert.SbRefIdeal.main (F := Ideal))) ⟨m, fun _ => 0, g⟩ (fun r => (∀ c : Dev Cert.SbRefIdeal.nD,
      r.2.mem ((c.tc : Thread Cert.SbRefIdeal.nD Cert.SbRefIdeal.τ).loc Cert.SbRefIdeal.main_arg0) = m ((c.tc : Thread Cert.SbRefIdeal.nD Cert.SbRefIdeal.τ).loc Cert.SbRefIdeal.main_arg0)
      ∧ r.2.mem ((c.tc : Thread Cert.SbRefIdeal.nD Cert.SbRefIdeal.τ).loc Cert.SbRefIdeal.main_arg1) = m ((c.tc : Thread Cert.SbRefIdeal.nD Cert.SbRefIdeal.τ).loc Cert.SbRefIdeal.main_arg1)
      ∧ r.2.mem ((c.tc : Thread Cert.SbRefIdeal.nD Cert.SbRefIdeal.τ).loc Cert.SbRefIdeal.main_arg2) = m ((c.tc : Thread Cert.SbRefIdeal.nD Cert.SbRefIdeal.τ).loc Cert.SbRefIdeal.main_arg2)
      ∧ r.2.mem ((c.tc : Thread Cert.SbRefIdeal.nD Cert.SbRefIdeal.τ).loc Cert.SbRefIdeal.main_arg3) = m ((c.tc : Thread Cert.SbRefIdeal.nD Cert.SbRefIdeal.τ).loc Cert.SbRefIdeal.main_arg3))
      ∧ r.2.sem = fun _ => 0)

def quiescent_CrossBwd [hCrossBwd : Cert.CrossBwd.Facts] : Prop :=
  ∀ (m : (ℓ : Loc Cert.CrossBwd.nD Cert.CrossBwd.τ Cert.CrossBwd.sig) → Buf (Elt Bits) ℓ) (g : Dev Cert.CrossBwd.nD → PrngReg), Pre_CrossBwd m →
    θ_run (Cert.CrossBwd.defs (F := Bits)) (onTc (τ := Cert.CrossBwd.τ) (Cert.CrossBwd.main (F := Bits))) ⟨m, fun _ => 0, g⟩ (fun r => (∀ c : Dev Cert.CrossBwd.nD,
      r.2.mem ((c.tc : Thread Cert.CrossBwd.nD Cert.CrossBwd.τ).loc Cert.CrossBwd.main_arg0) = m ((c.tc : Thread Cert.CrossBwd.nD Cert.CrossBwd.τ).loc Cert.CrossBwd.main_arg0)
      ∧ r.2.mem ((c.tc : Thread Cert.CrossBwd.nD Cert.CrossBwd.τ).loc Cert.CrossBwd.main_arg1) = m ((c.tc : Thread Cert.CrossBwd.nD Cert.CrossBwd.τ).loc Cert.CrossBwd.main_arg1)
      ∧ r.2.mem ((c.tc : Thread Cert.CrossBwd.nD Cert.CrossBwd.τ).loc Cert.CrossBwd.main_arg2) = m ((c.tc : Thread Cert.CrossBwd.nD Cert.CrossBwd.τ).loc Cert.CrossBwd.main_arg2))
      ∧ r.2.sem = fun _ => 0)

def quiescent_CrossBwdIdeal [hCrossBwdIdeal : Cert.CrossBwdIdeal.Facts] : Prop :=
  ∀ (m : (ℓ : Loc Cert.CrossBwdIdeal.nD Cert.CrossBwdIdeal.τ Cert.CrossBwdIdeal.sig) → Buf (Elt Ideal) ℓ) (g : Dev Cert.CrossBwdIdeal.nD → PrngReg), Pre_CrossBwdIdeal m →
    θ_run (Cert.CrossBwdIdeal.defs (F := Ideal)) (onTc (τ := Cert.CrossBwdIdeal.τ) (Cert.CrossBwdIdeal.main (F := Ideal))) ⟨m, fun _ => 0, g⟩ (fun r => (∀ c : Dev Cert.CrossBwdIdeal.nD,
      r.2.mem ((c.tc : Thread Cert.CrossBwdIdeal.nD Cert.CrossBwdIdeal.τ).loc Cert.CrossBwdIdeal.main_arg0) = m ((c.tc : Thread Cert.CrossBwdIdeal.nD Cert.CrossBwdIdeal.τ).loc Cert.CrossBwdIdeal.main_arg0)
      ∧ r.2.mem ((c.tc : Thread Cert.CrossBwdIdeal.nD Cert.CrossBwdIdeal.τ).loc Cert.CrossBwdIdeal.main_arg1) = m ((c.tc : Thread Cert.CrossBwdIdeal.nD Cert.CrossBwdIdeal.τ).loc Cert.CrossBwdIdeal.main_arg1)
      ∧ r.2.mem ((c.tc : Thread Cert.CrossBwdIdeal.nD Cert.CrossBwdIdeal.τ).loc Cert.CrossBwdIdeal.main_arg2) = m ((c.tc : Thread Cert.CrossBwdIdeal.nD Cert.CrossBwdIdeal.τ).loc Cert.CrossBwdIdeal.main_arg2))
      ∧ r.2.sem = fun _ => 0)

def quiescent_CrossBwdIdeal_pre_cross_finite [hCrossBwdIdeal : Cert.CrossBwdIdeal.Facts] [hPre_cross_finite : Cert.Pre_cross_finite.Facts] : Prop :=
  ∀ (m : (ℓ : Loc Cert.CrossBwdIdeal.nD Cert.CrossBwdIdeal.τ Cert.CrossBwdIdeal.sig) → Buf (Elt Ideal) ℓ) (g : Dev Cert.CrossBwdIdeal.nD → PrngReg), Pre_CrossBwdIdeal_cross_finite m →
    θ_run (Cert.CrossBwdIdeal.defs (F := Ideal)) (onTc (τ := Cert.CrossBwdIdeal.τ) (Cert.CrossBwdIdeal.main (F := Ideal))) ⟨m, fun _ => 0, g⟩ (fun r => (∀ c : Dev Cert.CrossBwdIdeal.nD,
      r.2.mem ((c.tc : Thread Cert.CrossBwdIdeal.nD Cert.CrossBwdIdeal.τ).loc Cert.CrossBwdIdeal.main_arg0) = m ((c.tc : Thread Cert.CrossBwdIdeal.nD Cert.CrossBwdIdeal.τ).loc Cert.CrossBwdIdeal.main_arg0)
      ∧ r.2.mem ((c.tc : Thread Cert.CrossBwdIdeal.nD Cert.CrossBwdIdeal.τ).loc Cert.CrossBwdIdeal.main_arg1) = m ((c.tc : Thread Cert.CrossBwdIdeal.nD Cert.CrossBwdIdeal.τ).loc Cert.CrossBwdIdeal.main_arg1)
      ∧ r.2.mem ((c.tc : Thread Cert.CrossBwdIdeal.nD Cert.CrossBwdIdeal.τ).loc Cert.CrossBwdIdeal.main_arg2) = m ((c.tc : Thread Cert.CrossBwdIdeal.nD Cert.CrossBwdIdeal.τ).loc Cert.CrossBwdIdeal.main_arg2))
      ∧ r.2.sem = fun _ => 0)

def quiescent_CrossRefIdeal [hCrossRefIdeal : Cert.CrossRefIdeal.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_CrossRefIdeal_pre_cross_finite [hCrossRefIdeal : Cert.CrossRefIdeal.Facts] [hPre_cross_finite : Cert.Pre_cross_finite.Facts] : Prop :=
  ∀ (m : (ℓ : Loc Cert.CrossRefIdeal.nD Cert.CrossRefIdeal.τ Cert.CrossRefIdeal.sig) → Buf (Elt Ideal) ℓ) (g : Dev Cert.CrossRefIdeal.nD → PrngReg), Pre_CrossRefIdeal_cross_finite m →
    θ_run (Cert.CrossRefIdeal.defs (F := Ideal)) (onTc (τ := Cert.CrossRefIdeal.τ) (Cert.CrossRefIdeal.main (F := Ideal))) ⟨m, fun _ => 0, g⟩ (fun r => (∀ c : Dev Cert.CrossRefIdeal.nD,
      r.2.mem ((c.tc : Thread Cert.CrossRefIdeal.nD Cert.CrossRefIdeal.τ).loc Cert.CrossRefIdeal.main_arg0) = m ((c.tc : Thread Cert.CrossRefIdeal.nD Cert.CrossRefIdeal.τ).loc Cert.CrossRefIdeal.main_arg0)
      ∧ r.2.mem ((c.tc : Thread Cert.CrossRefIdeal.nD Cert.CrossRefIdeal.τ).loc Cert.CrossRefIdeal.main_arg1) = m ((c.tc : Thread Cert.CrossRefIdeal.nD Cert.CrossRefIdeal.τ).loc Cert.CrossRefIdeal.main_arg1)
      ∧ r.2.mem ((c.tc : Thread Cert.CrossRefIdeal.nD Cert.CrossRefIdeal.τ).loc Cert.CrossRefIdeal.main_arg2) = m ((c.tc : Thread Cert.CrossRefIdeal.nD Cert.CrossRefIdeal.τ).loc Cert.CrossRefIdeal.main_arg2))
      ∧ r.2.sem = fun _ => 0)

def quiescent_FfnBwd [hFfnBwd : Cert.FfnBwd.Facts] : Prop :=
  ∀ (m : (ℓ : Loc Cert.FfnBwd.nD Cert.FfnBwd.τ Cert.FfnBwd.sig) → Buf (Elt Bits) ℓ) (g : Dev Cert.FfnBwd.nD → PrngReg), Pre_FfnBwd m →
    θ_run (Cert.FfnBwd.defs (F := Bits)) (onTc (τ := Cert.FfnBwd.τ) (Cert.FfnBwd.main (F := Bits))) ⟨m, fun _ => 0, g⟩ (fun r => (∀ c : Dev Cert.FfnBwd.nD,
      r.2.mem ((c.tc : Thread Cert.FfnBwd.nD Cert.FfnBwd.τ).loc Cert.FfnBwd.main_arg0) = m ((c.tc : Thread Cert.FfnBwd.nD Cert.FfnBwd.τ).loc Cert.FfnBwd.main_arg0)
      ∧ r.2.mem ((c.tc : Thread Cert.FfnBwd.nD Cert.FfnBwd.τ).loc Cert.FfnBwd.main_arg1) = m ((c.tc : Thread Cert.FfnBwd.nD Cert.FfnBwd.τ).loc Cert.FfnBwd.main_arg1)
      ∧ r.2.mem ((c.tc : Thread Cert.FfnBwd.nD Cert.FfnBwd.τ).loc Cert.FfnBwd.main_arg2) = m ((c.tc : Thread Cert.FfnBwd.nD Cert.FfnBwd.τ).loc Cert.FfnBwd.main_arg2)
      ∧ r.2.mem ((c.tc : Thread Cert.FfnBwd.nD Cert.FfnBwd.τ).loc Cert.FfnBwd.main_arg3) = m ((c.tc : Thread Cert.FfnBwd.nD Cert.FfnBwd.τ).loc Cert.FfnBwd.main_arg3))
      ∧ r.2.sem = fun _ => 0)

def quiescent_FfnBwdIdeal [hFfnBwdIdeal : Cert.FfnBwdIdeal.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnBwdIdeal_pre_ffn_finite [hFfnBwdIdeal : Cert.FfnBwdIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg), Pre_FfnBwdIdeal_ffn_finite m →
    θ_run (Cert.FfnBwdIdeal.defs (F := Ideal)) (onTc (τ := Cert.FfnBwdIdeal.τ) (Cert.FfnBwdIdeal.main (F := Ideal))) ⟨m, fun _ => 0, g⟩ (fun r => (∀ c : Dev Cert.FfnBwdIdeal.nD,
      r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
      ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
      ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
      ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_FfnRefIdeal_pre_ffn_finite [hFfnRefIdeal : Cert.FfnRefIdeal.Facts] [hPre_ffn_finite : Cert.Pre_ffn_finite.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal_ffn_finite m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3))
      ∧ r.2.sem = fun _ => 0)

def quiescent_Ln2Bwd [hLn2Bwd : Cert.Ln2Bwd.Facts] : Prop :=
  ∀ (m : (ℓ : Loc Cert.Ln2Bwd.nD Cert.Ln2Bwd.τ Cert.Ln2Bwd.sig) → Buf (Elt Bits) ℓ) (g : Dev Cert.Ln2Bwd.nD → PrngReg), Pre_Ln2Bwd m →
    θ_run (Cert.Ln2Bwd.defs (F := Bits)) (onTc (τ := Cert.Ln2Bwd.τ) (Cert.Ln2Bwd.main (F := Bits))) ⟨m, fun _ => 0, g⟩ (fun r => (∀ c : Dev Cert.Ln2Bwd.nD,
      r.2.mem ((c.tc : Thread Cert.Ln2Bwd.nD Cert.Ln2Bwd.τ).loc Cert.Ln2Bwd.main_arg0) = m ((c.tc : Thread Cert.Ln2Bwd.nD Cert.Ln2Bwd.τ).loc Cert.Ln2Bwd.main_arg0)
      ∧ r.2.mem ((c.tc : Thread Cert.Ln2Bwd.nD Cert.Ln2Bwd.τ).loc Cert.Ln2Bwd.main_arg1) = m ((c.tc : Thread Cert.Ln2Bwd.nD Cert.Ln2Bwd.τ).loc Cert.Ln2Bwd.main_arg1)
      ∧ r.2.mem ((c.tc : Thread Cert.Ln2Bwd.nD Cert.Ln2Bwd.τ).loc Cert.Ln2Bwd.main_arg2) = m ((c.tc : Thread Cert.Ln2Bwd.nD Cert.Ln2Bwd.τ).loc Cert.Ln2Bwd.main_arg2)
      ∧ r.2.mem ((c.tc : Thread Cert.Ln2Bwd.nD Cert.Ln2Bwd.τ).loc Cert.Ln2Bwd.main_arg3) = m ((c.tc : Thread Cert.Ln2Bwd.nD Cert.Ln2Bwd.τ).loc Cert.Ln2Bwd.main_arg3)
      ∧ r.2.mem ((c.tc : Thread Cert.Ln2Bwd.nD Cert.Ln2Bwd.τ).loc Cert.Ln2Bwd.main_arg4) = m ((c.tc : Thread Cert.Ln2Bwd.nD Cert.Ln2Bwd.τ).loc Cert.Ln2Bwd.main_arg4)
      ∧ r.2.mem ((c.tc : Thread Cert.Ln2Bwd.nD Cert.Ln2Bwd.τ).loc Cert.Ln2Bwd.main_arg5) = m ((c.tc : Thread Cert.Ln2Bwd.nD Cert.Ln2Bwd.τ).loc Cert.Ln2Bwd.main_arg5)
      ∧ r.2.mem ((c.tc : Thread Cert.Ln2Bwd.nD Cert.Ln2Bwd.τ).loc Cert.Ln2Bwd.main_arg6) = m ((c.tc : Thread Cert.Ln2Bwd.nD Cert.Ln2Bwd.τ).loc Cert.Ln2Bwd.main_arg6))
      ∧ r.2.sem = fun _ => 0)

def quiescent_Ln2BwdIdeal [hLn2BwdIdeal : Cert.Ln2BwdIdeal.Facts] : Prop :=
  ∀ (m : (ℓ : Loc Cert.Ln2BwdIdeal.nD Cert.Ln2BwdIdeal.τ Cert.Ln2BwdIdeal.sig) → Buf (Elt Ideal) ℓ) (g : Dev Cert.Ln2BwdIdeal.nD → PrngReg), Pre_Ln2BwdIdeal m →
    θ_run (Cert.Ln2BwdIdeal.defs (F := Ideal)) (onTc (τ := Cert.Ln2BwdIdeal.τ) (Cert.Ln2BwdIdeal.main (F := Ideal))) ⟨m, fun _ => 0, g⟩ (fun r => (∀ c : Dev Cert.Ln2BwdIdeal.nD,
      r.2.mem ((c.tc : Thread Cert.Ln2BwdIdeal.nD Cert.Ln2BwdIdeal.τ).loc Cert.Ln2BwdIdeal.main_arg0) = m ((c.tc : Thread Cert.Ln2BwdIdeal.nD Cert.Ln2BwdIdeal.τ).loc Cert.Ln2BwdIdeal.main_arg0)
      ∧ r.2.mem ((c.tc : Thread Cert.Ln2BwdIdeal.nD Cert.Ln2BwdIdeal.τ).loc Cert.Ln2BwdIdeal.main_arg1) = m ((c.tc : Thread Cert.Ln2BwdIdeal.nD Cert.Ln2BwdIdeal.τ).loc Cert.Ln2BwdIdeal.main_arg1)
      ∧ r.2.mem ((c.tc : Thread Cert.Ln2BwdIdeal.nD Cert.Ln2BwdIdeal.τ).loc Cert.Ln2BwdIdeal.main_arg2) = m ((c.tc : Thread Cert.Ln2BwdIdeal.nD Cert.Ln2BwdIdeal.τ).loc Cert.Ln2BwdIdeal.main_arg2)
      ∧ r.2.mem ((c.tc : Thread Cert.Ln2BwdIdeal.nD Cert.Ln2BwdIdeal.τ).loc Cert.Ln2BwdIdeal.main_arg3) = m ((c.tc : Thread Cert.Ln2BwdIdeal.nD Cert.Ln2BwdIdeal.τ).loc Cert.Ln2BwdIdeal.main_arg3)
      ∧ r.2.mem ((c.tc : Thread Cert.Ln2BwdIdeal.nD Cert.Ln2BwdIdeal.τ).loc Cert.Ln2BwdIdeal.main_arg4) = m ((c.tc : Thread Cert.Ln2BwdIdeal.nD Cert.Ln2BwdIdeal.τ).loc Cert.Ln2BwdIdeal.main_arg4)
      ∧ r.2.mem ((c.tc : Thread Cert.Ln2BwdIdeal.nD Cert.Ln2BwdIdeal.τ).loc Cert.Ln2BwdIdeal.main_arg5) = m ((c.tc : Thread Cert.Ln2BwdIdeal.nD Cert.Ln2BwdIdeal.τ).loc Cert.Ln2BwdIdeal.main_arg5)
      ∧ r.2.mem ((c.tc : Thread Cert.Ln2BwdIdeal.nD Cert.Ln2BwdIdeal.τ).loc Cert.Ln2BwdIdeal.main_arg6) = m ((c.tc : Thread Cert.Ln2BwdIdeal.nD Cert.Ln2BwdIdeal.τ).loc Cert.Ln2BwdIdeal.main_arg6))
      ∧ r.2.sem = fun _ => 0)

def quiescent_Ln2BwdIdeal_pre_ln2_finite [hLn2BwdIdeal : Cert.Ln2BwdIdeal.Facts] [hPre_ln2_finite : Cert.Pre_ln2_finite.Facts] : Prop :=
  ∀ (m : (ℓ : Loc Cert.Ln2BwdIdeal.nD Cert.Ln2BwdIdeal.τ Cert.Ln2BwdIdeal.sig) → Buf (Elt Ideal) ℓ) (g : Dev Cert.Ln2BwdIdeal.nD → PrngReg), Pre_Ln2BwdIdeal_ln2_finite m →
    θ_run (Cert.Ln2BwdIdeal.defs (F := Ideal)) (onTc (τ := Cert.Ln2BwdIdeal.τ) (Cert.Ln2BwdIdeal.main (F := Ideal))) ⟨m, fun _ => 0, g⟩ (fun r => (∀ c : Dev Cert.Ln2BwdIdeal.nD,
      r.2.mem ((c.tc : Thread Cert.Ln2BwdIdeal.nD Cert.Ln2BwdIdeal.τ).loc Cert.Ln2BwdIdeal.main_arg0) = m ((c.tc : Thread Cert.Ln2BwdIdeal.nD Cert.Ln2BwdIdeal.τ).loc Cert.Ln2BwdIdeal.main_arg0)
      ∧ r.2.mem ((c.tc : Thread Cert.Ln2BwdIdeal.nD Cert.Ln2BwdIdeal.τ).loc Cert.Ln2BwdIdeal.main_arg1) = m ((c.tc : Thread Cert.Ln2BwdIdeal.nD Cert.Ln2BwdIdeal.τ).loc Cert.Ln2BwdIdeal.main_arg1)
      ∧ r.2.mem ((c.tc : Thread Cert.Ln2BwdIdeal.nD Cert.Ln2BwdIdeal.τ).loc Cert.Ln2BwdIdeal.main_arg2) = m ((c.tc : Thread Cert.Ln2BwdIdeal.nD Cert.Ln2BwdIdeal.τ).loc Cert.Ln2BwdIdeal.main_arg2)
      ∧ r.2.mem ((c.tc : Thread Cert.Ln2BwdIdeal.nD Cert.Ln2BwdIdeal.τ).loc Cert.Ln2BwdIdeal.main_arg3) = m ((c.tc : Thread Cert.Ln2BwdIdeal.nD Cert.Ln2BwdIdeal.τ).loc Cert.Ln2BwdIdeal.main_arg3)
      ∧ r.2.mem ((c.tc : Thread Cert.Ln2BwdIdeal.nD Cert.Ln2BwdIdeal.τ).loc Cert.Ln2BwdIdeal.main_arg4) = m ((c.tc : Thread Cert.Ln2BwdIdeal.nD Cert.Ln2BwdIdeal.τ).loc Cert.Ln2BwdIdeal.main_arg4)
      ∧ r.2.mem ((c.tc : Thread Cert.Ln2BwdIdeal.nD Cert.Ln2BwdIdeal.τ).loc Cert.Ln2BwdIdeal.main_arg5) = m ((c.tc : Thread Cert.Ln2BwdIdeal.nD Cert.Ln2BwdIdeal.τ).loc Cert.Ln2BwdIdeal.main_arg5)
      ∧ r.2.mem ((c.tc : Thread Cert.Ln2BwdIdeal.nD Cert.Ln2BwdIdeal.τ).loc Cert.Ln2BwdIdeal.main_arg6) = m ((c.tc : Thread Cert.Ln2BwdIdeal.nD Cert.Ln2BwdIdeal.τ).loc Cert.Ln2BwdIdeal.main_arg6))
      ∧ r.2.sem = fun _ => 0)

def quiescent_Ln2RefIdeal [hLn2RefIdeal : Cert.Ln2RefIdeal.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5)
      ∧ r.2.mem ((c.tc : Thread Cert.Ln2RefIdeal.nD Cert.Ln2RefIdeal.τ).loc Cert.Ln2RefIdeal.main_arg6) = m ((c.tc : Thread Cert.Ln2RefIdeal.nD Cert.Ln2RefIdeal.τ).loc Cert.Ln2RefIdeal.main_arg6))
      ∧ r.2.sem = fun _ => 0)

def quiescent_Ln2RefIdeal_pre_ln2_finite [hLn2RefIdeal : Cert.Ln2RefIdeal.Facts] [hPre_ln2_finite : Cert.Pre_ln2_finite.Facts] : Prop :=
  ∀ (m : (ℓ : Loc Cert.Ln2RefIdeal.nD Cert.Ln2RefIdeal.τ Cert.Ln2RefIdeal.sig) → Buf (Elt Ideal) ℓ) (g : Dev Cert.Ln2RefIdeal.nD → PrngReg), Pre_Ln2RefIdeal_ln2_finite m →
    θ_run (Cert.Ln2RefIdeal.defs (F := Ideal)) (onTc (τ := Cert.Ln2RefIdeal.τ) (Cert.Ln2RefIdeal.main (F := Ideal))) ⟨m, fun _ => 0, g⟩ (fun r => (∀ c : Dev Cert.Ln2RefIdeal.nD,
      r.2.mem ((c.tc : Thread Cert.Ln2RefIdeal.nD Cert.Ln2RefIdeal.τ).loc Cert.Ln2RefIdeal.main_arg0) = m ((c.tc : Thread Cert.Ln2RefIdeal.nD Cert.Ln2RefIdeal.τ).loc Cert.Ln2RefIdeal.main_arg0)
      ∧ r.2.mem ((c.tc : Thread Cert.Ln2RefIdeal.nD Cert.Ln2RefIdeal.τ).loc Cert.Ln2RefIdeal.main_arg1) = m ((c.tc : Thread Cert.Ln2RefIdeal.nD Cert.Ln2RefIdeal.τ).loc Cert.Ln2RefIdeal.main_arg1)
      ∧ r.2.mem ((c.tc : Thread Cert.Ln2RefIdeal.nD Cert.Ln2RefIdeal.τ).loc Cert.Ln2RefIdeal.main_arg2) = m ((c.tc : Thread Cert.Ln2RefIdeal.nD Cert.Ln2RefIdeal.τ).loc Cert.Ln2RefIdeal.main_arg2)
      ∧ r.2.mem ((c.tc : Thread Cert.Ln2RefIdeal.nD Cert.Ln2RefIdeal.τ).loc Cert.Ln2RefIdeal.main_arg3) = m ((c.tc : Thread Cert.Ln2RefIdeal.nD Cert.Ln2RefIdeal.τ).loc Cert.Ln2RefIdeal.main_arg3)
      ∧ r.2.mem ((c.tc : Thread Cert.Ln2RefIdeal.nD Cert.Ln2RefIdeal.τ).loc Cert.Ln2RefIdeal.main_arg4) = m ((c.tc : Thread Cert.Ln2RefIdeal.nD Cert.Ln2RefIdeal.τ).loc Cert.Ln2RefIdeal.main_arg4)
      ∧ r.2.mem ((c.tc : Thread Cert.Ln2RefIdeal.nD Cert.Ln2RefIdeal.τ).loc Cert.Ln2RefIdeal.main_arg5) = m ((c.tc : Thread Cert.Ln2RefIdeal.nD Cert.Ln2RefIdeal.τ).loc Cert.Ln2RefIdeal.main_arg5)
      ∧ r.2.mem ((c.tc : Thread Cert.Ln2RefIdeal.nD Cert.Ln2RefIdeal.τ).loc Cert.Ln2RefIdeal.main_arg6) = m ((c.tc : Thread Cert.Ln2RefIdeal.nD Cert.Ln2RefIdeal.τ).loc Cert.Ln2RefIdeal.main_arg6))
      ∧ r.2.sem = fun _ => 0)

def quiescent_Ln1Bwd [hLn1Bwd : Cert.Ln1Bwd.Facts] : Prop :=
  ∀ (m : (ℓ : Loc Cert.Ln1Bwd.nD Cert.Ln1Bwd.τ Cert.Ln1Bwd.sig) → Buf (Elt Bits) ℓ) (g : Dev Cert.Ln1Bwd.nD → PrngReg), Pre_Ln1Bwd m →
    θ_run (Cert.Ln1Bwd.defs (F := Bits)) (onTc (τ := Cert.Ln1Bwd.τ) (Cert.Ln1Bwd.main (F := Bits))) ⟨m, fun _ => 0, g⟩ (fun r => (∀ c : Dev Cert.Ln1Bwd.nD,
      r.2.mem ((c.tc : Thread Cert.Ln1Bwd.nD Cert.Ln1Bwd.τ).loc Cert.Ln1Bwd.main_arg0) = m ((c.tc : Thread Cert.Ln1Bwd.nD Cert.Ln1Bwd.τ).loc Cert.Ln1Bwd.main_arg0)
      ∧ r.2.mem ((c.tc : Thread Cert.Ln1Bwd.nD Cert.Ln1Bwd.τ).loc Cert.Ln1Bwd.main_arg1) = m ((c.tc : Thread Cert.Ln1Bwd.nD Cert.Ln1Bwd.τ).loc Cert.Ln1Bwd.main_arg1)
      ∧ r.2.mem ((c.tc : Thread Cert.Ln1Bwd.nD Cert.Ln1Bwd.τ).loc Cert.Ln1Bwd.main_arg2) = m ((c.tc : Thread Cert.Ln1Bwd.nD Cert.Ln1Bwd.τ).loc Cert.Ln1Bwd.main_arg2)
      ∧ r.2.mem ((c.tc : Thread Cert.Ln1Bwd.nD Cert.Ln1Bwd.τ).loc Cert.Ln1Bwd.main_arg3) = m ((c.tc : Thread Cert.Ln1Bwd.nD Cert.Ln1Bwd.τ).loc Cert.Ln1Bwd.main_arg3)
      ∧ r.2.mem ((c.tc : Thread Cert.Ln1Bwd.nD Cert.Ln1Bwd.τ).loc Cert.Ln1Bwd.main_arg4) = m ((c.tc : Thread Cert.Ln1Bwd.nD Cert.Ln1Bwd.τ).loc Cert.Ln1Bwd.main_arg4)
      ∧ r.2.mem ((c.tc : Thread Cert.Ln1Bwd.nD Cert.Ln1Bwd.τ).loc Cert.Ln1Bwd.main_arg5) = m ((c.tc : Thread Cert.Ln1Bwd.nD Cert.Ln1Bwd.τ).loc Cert.Ln1Bwd.main_arg5)
      ∧ r.2.mem ((c.tc : Thread Cert.Ln1Bwd.nD Cert.Ln1Bwd.τ).loc Cert.Ln1Bwd.main_arg6) = m ((c.tc : Thread Cert.Ln1Bwd.nD Cert.Ln1Bwd.τ).loc Cert.Ln1Bwd.main_arg6)
      ∧ r.2.mem ((c.tc : Thread Cert.Ln1Bwd.nD Cert.Ln1Bwd.τ).loc Cert.Ln1Bwd.main_arg7) = m ((c.tc : Thread Cert.Ln1Bwd.nD Cert.Ln1Bwd.τ).loc Cert.Ln1Bwd.main_arg7)
      ∧ r.2.mem ((c.tc : Thread Cert.Ln1Bwd.nD Cert.Ln1Bwd.τ).loc Cert.Ln1Bwd.main_arg8) = m ((c.tc : Thread Cert.Ln1Bwd.nD Cert.Ln1Bwd.τ).loc Cert.Ln1Bwd.main_arg8)
      ∧ r.2.mem ((c.tc : Thread Cert.Ln1Bwd.nD Cert.Ln1Bwd.τ).loc Cert.Ln1Bwd.main_arg9) = m ((c.tc : Thread Cert.Ln1Bwd.nD Cert.Ln1Bwd.τ).loc Cert.Ln1Bwd.main_arg9)
      ∧ r.2.mem ((c.tc : Thread Cert.Ln1Bwd.nD Cert.Ln1Bwd.τ).loc Cert.Ln1Bwd.main_arg10) = m ((c.tc : Thread Cert.Ln1Bwd.nD Cert.Ln1Bwd.τ).loc Cert.Ln1Bwd.main_arg10))
      ∧ r.2.sem = fun _ => 0)

def quiescent_Ln1BwdIdeal [hLn1BwdIdeal : Cert.Ln1BwdIdeal.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg), Pre_Ln1BwdIdeal m →
    θ_run (Cert.Ln1BwdIdeal.defs (F := Ideal)) (onTc (τ := Cert.Ln1BwdIdeal.τ) (Cert.Ln1BwdIdeal.main (F := Ideal))) ⟨m, fun _ => 0, g⟩ (fun r => (∀ c : Dev Cert.Ln1BwdIdeal.nD,
      r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
      ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
      ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
      ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
      ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
      ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5)
      ∧ r.2.mem ((c.tc : Thread Cert.Ln1BwdIdeal.nD Cert.Ln1BwdIdeal.τ).loc Cert.Ln1BwdIdeal.main_arg6) = m ((c.tc : Thread Cert.Ln1BwdIdeal.nD Cert.Ln1BwdIdeal.τ).loc Cert.Ln1BwdIdeal.main_arg6)
      ∧ r.2.mem ((c.tc : Thread Cert.Ln1BwdIdeal.nD Cert.Ln1BwdIdeal.τ).loc Cert.Ln1BwdIdeal.main_arg7) = m ((c.tc : Thread Cert.Ln1BwdIdeal.nD Cert.Ln1BwdIdeal.τ).loc Cert.Ln1BwdIdeal.main_arg7)
      ∧ r.2.mem ((c.tc : Thread Cert.Ln1BwdIdeal.nD Cert.Ln1BwdIdeal.τ).loc Cert.Ln1BwdIdeal.main_arg8) = m ((c.tc : Thread Cert.Ln1BwdIdeal.nD Cert.Ln1BwdIdeal.τ).loc Cert.Ln1BwdIdeal.main_arg8)
      ∧ r.2.mem ((c.tc : Thread Cert.Ln1BwdIdeal.nD Cert.Ln1BwdIdeal.τ).loc Cert.Ln1BwdIdeal.main_arg9) = m ((c.tc : Thread Cert.Ln1BwdIdeal.nD Cert.Ln1BwdIdeal.τ).loc Cert.Ln1BwdIdeal.main_arg9)
      ∧ r.2.mem ((c.tc : Thread Cert.Ln1BwdIdeal.nD Cert.Ln1BwdIdeal.τ).loc Cert.Ln1BwdIdeal.main_arg10) = m ((c.tc : Thread Cert.Ln1BwdIdeal.nD Cert.Ln1BwdIdeal.τ).loc Cert.Ln1BwdIdeal.main_arg10))
      ∧ r.2.sem = fun _ => 0)

def quiescent_Ln1BwdIdeal_pre_ln1_finite [hLn1BwdIdeal : Cert.Ln1BwdIdeal.Facts] [hPre_ln1_finite : Cert.Pre_ln1_finite.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg), Pre_Ln1BwdIdeal_ln1_finite m →
    θ_run (Cert.Ln1BwdIdeal.defs (F := Ideal)) (onTc (τ := Cert.Ln1BwdIdeal.τ) (Cert.Ln1BwdIdeal.main (F := Ideal))) ⟨m, fun _ => 0, g⟩ (fun r => (∀ c : Dev Cert.Ln1BwdIdeal.nD,
      r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
      ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
      ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
      ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
      ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
      ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5)
      ∧ r.2.mem ((c.tc : Thread Cert.Ln1BwdIdeal.nD Cert.Ln1BwdIdeal.τ).loc Cert.Ln1BwdIdeal.main_arg6) = m ((c.tc : Thread Cert.Ln1BwdIdeal.nD Cert.Ln1BwdIdeal.τ).loc Cert.Ln1BwdIdeal.main_arg6)
      ∧ r.2.mem ((c.tc : Thread Cert.Ln1BwdIdeal.nD Cert.Ln1BwdIdeal.τ).loc Cert.Ln1BwdIdeal.main_arg7) = m ((c.tc : Thread Cert.Ln1BwdIdeal.nD Cert.Ln1BwdIdeal.τ).loc Cert.Ln1BwdIdeal.main_arg7)
      ∧ r.2.mem ((c.tc : Thread Cert.Ln1BwdIdeal.nD Cert.Ln1BwdIdeal.τ).loc Cert.Ln1BwdIdeal.main_arg8) = m ((c.tc : Thread Cert.Ln1BwdIdeal.nD Cert.Ln1BwdIdeal.τ).loc Cert.Ln1BwdIdeal.main_arg8)
      ∧ r.2.mem ((c.tc : Thread Cert.Ln1BwdIdeal.nD Cert.Ln1BwdIdeal.τ).loc Cert.Ln1BwdIdeal.main_arg9) = m ((c.tc : Thread Cert.Ln1BwdIdeal.nD Cert.Ln1BwdIdeal.τ).loc Cert.Ln1BwdIdeal.main_arg9)
      ∧ r.2.mem ((c.tc : Thread Cert.Ln1BwdIdeal.nD Cert.Ln1BwdIdeal.τ).loc Cert.Ln1BwdIdeal.main_arg10) = m ((c.tc : Thread Cert.Ln1BwdIdeal.nD Cert.Ln1BwdIdeal.τ).loc Cert.Ln1BwdIdeal.main_arg10))
      ∧ r.2.sem = fun _ => 0)

def quiescent_Ln1RefIdeal [hLn1RefIdeal : Cert.Ln1RefIdeal.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5)
      ∧ r.2.mem ((c.tc : Thread Cert.Ln1RefIdeal.nD Cert.Ln1RefIdeal.τ).loc Cert.Ln1RefIdeal.main_arg6) = m ((c.tc : Thread Cert.Ln1RefIdeal.nD Cert.Ln1RefIdeal.τ).loc Cert.Ln1RefIdeal.main_arg6)
      ∧ r.2.mem ((c.tc : Thread Cert.Ln1RefIdeal.nD Cert.Ln1RefIdeal.τ).loc Cert.Ln1RefIdeal.main_arg7) = m ((c.tc : Thread Cert.Ln1RefIdeal.nD Cert.Ln1RefIdeal.τ).loc Cert.Ln1RefIdeal.main_arg7)
      ∧ r.2.mem ((c.tc : Thread Cert.Ln1RefIdeal.nD Cert.Ln1RefIdeal.τ).loc Cert.Ln1RefIdeal.main_arg8) = m ((c.tc : Thread Cert.Ln1RefIdeal.nD Cert.Ln1RefIdeal.τ).loc Cert.Ln1RefIdeal.main_arg8)
      ∧ r.2.mem ((c.tc : Thread Cert.Ln1RefIdeal.nD Cert.Ln1RefIdeal.τ).loc Cert.Ln1RefIdeal.main_arg9) = m ((c.tc : Thread Cert.Ln1RefIdeal.nD Cert.Ln1RefIdeal.τ).loc Cert.Ln1RefIdeal.main_arg9)
      ∧ r.2.mem ((c.tc : Thread Cert.Ln1RefIdeal.nD Cert.Ln1RefIdeal.τ).loc Cert.Ln1RefIdeal.main_arg10) = m ((c.tc : Thread Cert.Ln1RefIdeal.nD Cert.Ln1RefIdeal.τ).loc Cert.Ln1RefIdeal.main_arg10))
      ∧ r.2.sem = fun _ => 0)

def quiescent_Ln1RefIdeal_pre_ln1_finite [hLn1RefIdeal : Cert.Ln1RefIdeal.Facts] [hPre_ln1_finite : Cert.Pre_ln1_finite.Facts] : Prop :=
  ∀ (m : (ℓ : Loc Cert.Ln1RefIdeal.nD Cert.Ln1RefIdeal.τ Cert.Ln1RefIdeal.sig) → Buf (Elt Ideal) ℓ) (g : Dev Cert.Ln1RefIdeal.nD → PrngReg), Pre_Ln1RefIdeal_ln1_finite m →
    θ_run (Cert.Ln1RefIdeal.defs (F := Ideal)) (onTc (τ := Cert.Ln1RefIdeal.τ) (Cert.Ln1RefIdeal.main (F := Ideal))) ⟨m, fun _ => 0, g⟩ (fun r => (∀ c : Dev Cert.Ln1RefIdeal.nD,
      r.2.mem ((c.tc : Thread Cert.Ln1RefIdeal.nD Cert.Ln1RefIdeal.τ).loc Cert.Ln1RefIdeal.main_arg0) = m ((c.tc : Thread Cert.Ln1RefIdeal.nD Cert.Ln1RefIdeal.τ).loc Cert.Ln1RefIdeal.main_arg0)
      ∧ r.2.mem ((c.tc : Thread Cert.Ln1RefIdeal.nD Cert.Ln1RefIdeal.τ).loc Cert.Ln1RefIdeal.main_arg1) = m ((c.tc : Thread Cert.Ln1RefIdeal.nD Cert.Ln1RefIdeal.τ).loc Cert.Ln1RefIdeal.main_arg1)
      ∧ r.2.mem ((c.tc : Thread Cert.Ln1RefIdeal.nD Cert.Ln1RefIdeal.τ).loc Cert.Ln1RefIdeal.main_arg2) = m ((c.tc : Thread Cert.Ln1RefIdeal.nD Cert.Ln1RefIdeal.τ).loc Cert.Ln1RefIdeal.main_arg2)
      ∧ r.2.mem ((c.tc : Thread Cert.Ln1RefIdeal.nD Cert.Ln1RefIdeal.τ).loc Cert.Ln1RefIdeal.main_arg3) = m ((c.tc : Thread Cert.Ln1RefIdeal.nD Cert.Ln1RefIdeal.τ).loc Cert.Ln1RefIdeal.main_arg3)
      ∧ r.2.mem ((c.tc : Thread Cert.Ln1RefIdeal.nD Cert.Ln1RefIdeal.τ).loc Cert.Ln1RefIdeal.main_arg4) = m ((c.tc : Thread Cert.Ln1RefIdeal.nD Cert.Ln1RefIdeal.τ).loc Cert.Ln1RefIdeal.main_arg4)
      ∧ r.2.mem ((c.tc : Thread Cert.Ln1RefIdeal.nD Cert.Ln1RefIdeal.τ).loc Cert.Ln1RefIdeal.main_arg5) = m ((c.tc : Thread Cert.Ln1RefIdeal.nD Cert.Ln1RefIdeal.τ).loc Cert.Ln1RefIdeal.main_arg5)
      ∧ r.2.mem ((c.tc : Thread Cert.Ln1RefIdeal.nD Cert.Ln1RefIdeal.τ).loc Cert.Ln1RefIdeal.main_arg6) = m ((c.tc : Thread Cert.Ln1RefIdeal.nD Cert.Ln1RefIdeal.τ).loc Cert.Ln1RefIdeal.main_arg6)
      ∧ r.2.mem ((c.tc : Thread Cert.Ln1RefIdeal.nD Cert.Ln1RefIdeal.τ).loc Cert.Ln1RefIdeal.main_arg7) = m ((c.tc : Thread Cert.Ln1RefIdeal.nD Cert.Ln1RefIdeal.τ).loc Cert.Ln1RefIdeal.main_arg7)
      ∧ r.2.mem ((c.tc : Thread Cert.Ln1RefIdeal.nD Cert.Ln1RefIdeal.τ).loc Cert.Ln1RefIdeal.main_arg8) = m ((c.tc : Thread Cert.Ln1RefIdeal.nD Cert.Ln1RefIdeal.τ).loc Cert.Ln1RefIdeal.main_arg8)
      ∧ r.2.mem ((c.tc : Thread Cert.Ln1RefIdeal.nD Cert.Ln1RefIdeal.τ).loc Cert.Ln1RefIdeal.main_arg9) = m ((c.tc : Thread Cert.Ln1RefIdeal.nD Cert.Ln1RefIdeal.τ).loc Cert.Ln1RefIdeal.main_arg9)
      ∧ r.2.mem ((c.tc : Thread Cert.Ln1RefIdeal.nD Cert.Ln1RefIdeal.τ).loc Cert.Ln1RefIdeal.main_arg10) = m ((c.tc : Thread Cert.Ln1RefIdeal.nD Cert.Ln1RefIdeal.τ).loc Cert.Ln1RefIdeal.main_arg10))
      ∧ r.2.sem = fun _ => 0)

def quiescent_MixBwd [hMixBwd : Cert.MixBwd.Facts] : Prop :=
  ∀ (m : (ℓ : Loc Cert.MixBwd.nD Cert.MixBwd.τ Cert.MixBwd.sig) → Buf (Elt Bits) ℓ) (g : Dev Cert.MixBwd.nD → PrngReg), Pre_MixBwd m →
    θ_run (Cert.MixBwd.defs (F := Bits)) (onTc (τ := Cert.MixBwd.τ) (Cert.MixBwd.main (F := Bits))) ⟨m, fun _ => 0, g⟩ (fun r => (∀ c : Dev Cert.MixBwd.nD,
      r.2.mem ((c.tc : Thread Cert.MixBwd.nD Cert.MixBwd.τ).loc Cert.MixBwd.main_arg0) = m ((c.tc : Thread Cert.MixBwd.nD Cert.MixBwd.τ).loc Cert.MixBwd.main_arg0)
      ∧ r.2.mem ((c.tc : Thread Cert.MixBwd.nD Cert.MixBwd.τ).loc Cert.MixBwd.main_arg1) = m ((c.tc : Thread Cert.MixBwd.nD Cert.MixBwd.τ).loc Cert.MixBwd.main_arg1)
      ∧ r.2.mem ((c.tc : Thread Cert.MixBwd.nD Cert.MixBwd.τ).loc Cert.MixBwd.main_arg2) = m ((c.tc : Thread Cert.MixBwd.nD Cert.MixBwd.τ).loc Cert.MixBwd.main_arg2)
      ∧ r.2.mem ((c.tc : Thread Cert.MixBwd.nD Cert.MixBwd.τ).loc Cert.MixBwd.main_arg3) = m ((c.tc : Thread Cert.MixBwd.nD Cert.MixBwd.τ).loc Cert.MixBwd.main_arg3)
      ∧ r.2.mem ((c.tc : Thread Cert.MixBwd.nD Cert.MixBwd.τ).loc Cert.MixBwd.main_arg4) = m ((c.tc : Thread Cert.MixBwd.nD Cert.MixBwd.τ).loc Cert.MixBwd.main_arg4)
      ∧ r.2.mem ((c.tc : Thread Cert.MixBwd.nD Cert.MixBwd.τ).loc Cert.MixBwd.main_arg5) = m ((c.tc : Thread Cert.MixBwd.nD Cert.MixBwd.τ).loc Cert.MixBwd.main_arg5))
      ∧ r.2.sem = fun _ => 0)

def quiescent_MixBwdIdeal [hMixBwdIdeal : Cert.MixBwdIdeal.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixBwdIdeal_pre_mix_finite [hMixBwdIdeal : Cert.MixBwdIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg), Pre_MixBwdIdeal_mix_finite m →
    θ_run (Cert.MixBwdIdeal.defs (F := Ideal)) (onTc (τ := Cert.MixBwdIdeal.τ) (Cert.MixBwdIdeal.main (F := Ideal))) ⟨m, fun _ => 0, g⟩ (fun r => (∀ c : Dev Cert.MixBwdIdeal.nD,
      r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
      ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
      ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
      ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
      ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
      ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_MixRefIdeal_pre_mix_finite [hMixRefIdeal : Cert.MixRefIdeal.Facts] [hPre_mix_finite : Cert.Pre_mix_finite.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal_mix_finite m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5))
      ∧ r.2.sem = fun _ => 0)

def quiescent_Ffn2Bwd [hFfn2Bwd : Cert.Ffn2Bwd.Facts] : Prop :=
  ∀ (m : (ℓ : Loc Cert.Ffn2Bwd.nD Cert.Ffn2Bwd.τ Cert.Ffn2Bwd.sig) → Buf (Elt Bits) ℓ) (g : Dev Cert.Ffn2Bwd.nD → PrngReg), Pre_Ffn2Bwd m →
    θ_run (Cert.Ffn2Bwd.defs (F := Bits)) (onTc (τ := Cert.Ffn2Bwd.τ) (Cert.Ffn2Bwd.main (F := Bits))) ⟨m, fun _ => 0, g⟩ (fun r => (∀ c : Dev Cert.Ffn2Bwd.nD,
      r.2.mem ((c.tc : Thread Cert.Ffn2Bwd.nD Cert.Ffn2Bwd.τ).loc Cert.Ffn2Bwd.main_arg0) = m ((c.tc : Thread Cert.Ffn2Bwd.nD Cert.Ffn2Bwd.τ).loc Cert.Ffn2Bwd.main_arg0)
      ∧ r.2.mem ((c.tc : Thread Cert.Ffn2Bwd.nD Cert.Ffn2Bwd.τ).loc Cert.Ffn2Bwd.main_arg1) = m ((c.tc : Thread Cert.Ffn2Bwd.nD Cert.Ffn2Bwd.τ).loc Cert.Ffn2Bwd.main_arg1)
      ∧ r.2.mem ((c.tc : Thread Cert.Ffn2Bwd.nD Cert.Ffn2Bwd.τ).loc Cert.Ffn2Bwd.main_arg2) = m ((c.tc : Thread Cert.Ffn2Bwd.nD Cert.Ffn2Bwd.τ).loc Cert.Ffn2Bwd.main_arg2)
      ∧ r.2.mem ((c.tc : Thread Cert.Ffn2Bwd.nD Cert.Ffn2Bwd.τ).loc Cert.Ffn2Bwd.main_arg3) = m ((c.tc : Thread Cert.Ffn2Bwd.nD Cert.Ffn2Bwd.τ).loc Cert.Ffn2Bwd.main_arg3)
      ∧ r.2.mem ((c.tc : Thread Cert.Ffn2Bwd.nD Cert.Ffn2Bwd.τ).loc Cert.Ffn2Bwd.main_arg4) = m ((c.tc : Thread Cert.Ffn2Bwd.nD Cert.Ffn2Bwd.τ).loc Cert.Ffn2Bwd.main_arg4)
      ∧ r.2.mem ((c.tc : Thread Cert.Ffn2Bwd.nD Cert.Ffn2Bwd.τ).loc Cert.Ffn2Bwd.main_arg5) = m ((c.tc : Thread Cert.Ffn2Bwd.nD Cert.Ffn2Bwd.τ).loc Cert.Ffn2Bwd.main_arg5)
      ∧ r.2.mem ((c.tc : Thread Cert.Ffn2Bwd.nD Cert.Ffn2Bwd.τ).loc Cert.Ffn2Bwd.main_arg6) = m ((c.tc : Thread Cert.Ffn2Bwd.nD Cert.Ffn2Bwd.τ).loc Cert.Ffn2Bwd.main_arg6))
      ∧ r.2.sem = fun _ => 0)

def quiescent_Ffn2BwdIdeal [hFfn2BwdIdeal : Cert.Ffn2BwdIdeal.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg), Pre_Ffn2BwdIdeal m →
    θ_run (Cert.Ffn2BwdIdeal.defs (F := Ideal)) (onTc (τ := Cert.Ffn2BwdIdeal.τ) (Cert.Ffn2BwdIdeal.main (F := Ideal))) ⟨m, fun _ => 0, g⟩ (fun r => (∀ c : Dev Cert.Ffn2BwdIdeal.nD,
      r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
      ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
      ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
      ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
      ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4)
      ∧ r.2.mem ((c.tc : Thread Cert.Ffn2BwdIdeal.nD Cert.Ffn2BwdIdeal.τ).loc Cert.Ffn2BwdIdeal.main_arg5) = m ((c.tc : Thread Cert.Ffn2BwdIdeal.nD Cert.Ffn2BwdIdeal.τ).loc Cert.Ffn2BwdIdeal.main_arg5)
      ∧ r.2.mem ((c.tc : Thread Cert.Ffn2BwdIdeal.nD Cert.Ffn2BwdIdeal.τ).loc Cert.Ffn2BwdIdeal.main_arg6) = m ((c.tc : Thread Cert.Ffn2BwdIdeal.nD Cert.Ffn2BwdIdeal.τ).loc Cert.Ffn2BwdIdeal.main_arg6))
      ∧ r.2.sem = fun _ => 0)

def quiescent_Ffn2BwdIdeal_pre_ffn2_finite [hFfn2BwdIdeal : Cert.Ffn2BwdIdeal.Facts] [hPre_ffn2_finite : Cert.Pre_ffn2_finite.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg), Pre_Ffn2BwdIdeal_ffn2_finite m →
    θ_run (Cert.Ffn2BwdIdeal.defs (F := Ideal)) (onTc (τ := Cert.Ffn2BwdIdeal.τ) (Cert.Ffn2BwdIdeal.main (F := Ideal))) ⟨m, fun _ => 0, g⟩ (fun r => (∀ c : Dev Cert.Ffn2BwdIdeal.nD,
      r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
      ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
      ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
      ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
      ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4)
      ∧ r.2.mem ((c.tc : Thread Cert.Ffn2BwdIdeal.nD Cert.Ffn2BwdIdeal.τ).loc Cert.Ffn2BwdIdeal.main_arg5) = m ((c.tc : Thread Cert.Ffn2BwdIdeal.nD Cert.Ffn2BwdIdeal.τ).loc Cert.Ffn2BwdIdeal.main_arg5)
      ∧ r.2.mem ((c.tc : Thread Cert.Ffn2BwdIdeal.nD Cert.Ffn2BwdIdeal.τ).loc Cert.Ffn2BwdIdeal.main_arg6) = m ((c.tc : Thread Cert.Ffn2BwdIdeal.nD Cert.Ffn2BwdIdeal.τ).loc Cert.Ffn2BwdIdeal.main_arg6))
      ∧ r.2.sem = fun _ => 0)

def quiescent_Ffn2RefIdeal [hFfn2RefIdeal : Cert.Ffn2RefIdeal.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0)

def quiescent_Ffn2RefIdeal_pre_ffn2_finite [hFfn2RefIdeal : Cert.Ffn2RefIdeal.Facts] [hPre_ffn2_finite : Cert.Pre_ffn2_finite.Facts] : Prop :=
  ∀ (m : (ℓ : Loc Cert.Ffn2RefIdeal.nD Cert.Ffn2RefIdeal.τ Cert.Ffn2RefIdeal.sig) → Buf (Elt Ideal) ℓ) (g : Dev Cert.Ffn2RefIdeal.nD → PrngReg), Pre_Ffn2RefIdeal_ffn2_finite m →
    θ_run (Cert.Ffn2RefIdeal.defs (F := Ideal)) (onTc (τ := Cert.Ffn2RefIdeal.τ) (Cert.Ffn2RefIdeal.main (F := Ideal))) ⟨m, fun _ => 0, g⟩ (fun r => (∀ c : Dev Cert.Ffn2RefIdeal.nD,
      r.2.mem ((c.tc : Thread Cert.Ffn2RefIdeal.nD Cert.Ffn2RefIdeal.τ).loc Cert.Ffn2RefIdeal.main_arg0) = m ((c.tc : Thread Cert.Ffn2RefIdeal.nD Cert.Ffn2RefIdeal.τ).loc Cert.Ffn2RefIdeal.main_arg0)
      ∧ r.2.mem ((c.tc : Thread Cert.Ffn2RefIdeal.nD Cert.Ffn2RefIdeal.τ).loc Cert.Ffn2RefIdeal.main_arg1) = m ((c.tc : Thread Cert.Ffn2RefIdeal.nD Cert.Ffn2RefIdeal.τ).loc Cert.Ffn2RefIdeal.main_arg1)
      ∧ r.2.mem ((c.tc : Thread Cert.Ffn2RefIdeal.nD Cert.Ffn2RefIdeal.τ).loc Cert.Ffn2RefIdeal.main_arg2) = m ((c.tc : Thread Cert.Ffn2RefIdeal.nD Cert.Ffn2RefIdeal.τ).loc Cert.Ffn2RefIdeal.main_arg2)
      ∧ r.2.mem ((c.tc : Thread Cert.Ffn2RefIdeal.nD Cert.Ffn2RefIdeal.τ).loc Cert.Ffn2RefIdeal.main_arg3) = m ((c.tc : Thread Cert.Ffn2RefIdeal.nD Cert.Ffn2RefIdeal.τ).loc Cert.Ffn2RefIdeal.main_arg3)
      ∧ r.2.mem ((c.tc : Thread Cert.Ffn2RefIdeal.nD Cert.Ffn2RefIdeal.τ).loc Cert.Ffn2RefIdeal.main_arg4) = m ((c.tc : Thread Cert.Ffn2RefIdeal.nD Cert.Ffn2RefIdeal.τ).loc Cert.Ffn2RefIdeal.main_arg4)
      ∧ r.2.mem ((c.tc : Thread Cert.Ffn2RefIdeal.nD Cert.Ffn2RefIdeal.τ).loc Cert.Ffn2RefIdeal.main_arg5) = m ((c.tc : Thread Cert.Ffn2RefIdeal.nD Cert.Ffn2RefIdeal.τ).loc Cert.Ffn2RefIdeal.main_arg5)
      ∧ r.2.mem ((c.tc : Thread Cert.Ffn2RefIdeal.nD Cert.Ffn2RefIdeal.τ).loc Cert.Ffn2RefIdeal.main_arg6) = m ((c.tc : Thread Cert.Ffn2RefIdeal.nD Cert.Ffn2RefIdeal.τ).loc Cert.Ffn2RefIdeal.main_arg6))
      ∧ r.2.sem = fun _ => 0)

def quiescent_LossHead [hLossHead : Cert.LossHead.Facts] : Prop :=
  ∀ (m : (ℓ : Loc Cert.LossHead.nD Cert.LossHead.τ Cert.LossHead.sig) → Buf (Elt Bits) ℓ) (g : Dev Cert.LossHead.nD → PrngReg), Pre_LossHead m →
    θ_run (Cert.LossHead.defs (F := Bits)) (onTc (τ := Cert.LossHead.τ) (Cert.LossHead.main (F := Bits))) ⟨m, fun _ => 0, g⟩ (fun r => (∀ c : Dev Cert.LossHead.nD,
      r.2.mem ((c.tc : Thread Cert.LossHead.nD Cert.LossHead.τ).loc Cert.LossHead.main_arg0) = m ((c.tc : Thread Cert.LossHead.nD Cert.LossHead.τ).loc Cert.LossHead.main_arg0)
      ∧ r.2.mem ((c.tc : Thread Cert.LossHead.nD Cert.LossHead.τ).loc Cert.LossHead.main_arg1) = m ((c.tc : Thread Cert.LossHead.nD Cert.LossHead.τ).loc Cert.LossHead.main_arg1)
      ∧ r.2.mem ((c.tc : Thread Cert.LossHead.nD Cert.LossHead.τ).loc Cert.LossHead.main_arg2) = m ((c.tc : Thread Cert.LossHead.nD Cert.LossHead.τ).loc Cert.LossHead.main_arg2)
      ∧ r.2.mem ((c.tc : Thread Cert.LossHead.nD Cert.LossHead.τ).loc Cert.LossHead.main_arg3) = m ((c.tc : Thread Cert.LossHead.nD Cert.LossHead.τ).loc Cert.LossHead.main_arg3)
      ∧ r.2.mem ((c.tc : Thread Cert.LossHead.nD Cert.LossHead.τ).loc Cert.LossHead.main_arg4) = m ((c.tc : Thread Cert.LossHead.nD Cert.LossHead.τ).loc Cert.LossHead.main_arg4)
      ∧ r.2.mem ((c.tc : Thread Cert.LossHead.nD Cert.LossHead.τ).loc Cert.LossHead.main_arg5) = m ((c.tc : Thread Cert.LossHead.nD Cert.LossHead.τ).loc Cert.LossHead.main_arg5))
      ∧ r.2.sem = fun _ => 0)

def quiescent_LossHeadIdeal [hLossHeadIdeal : Cert.LossHeadIdeal.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossHeadIdeal_pre_loss_finite [hLossHeadIdeal : Cert.LossHeadIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg), Pre_LossHeadIdeal_loss_finite m →
    θ_run (Cert.LossHeadIdeal.defs (F := Ideal)) (onTc (τ := Cert.LossHeadIdeal.τ) (Cert.LossHeadIdeal.main (F := Ideal))) ⟨m, fun _ => 0, g⟩ (fun r => (∀ c : Dev Cert.LossHeadIdeal.nD,
      r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
      ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
      ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
      ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
      ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
      ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_LossRefIdeal_pre_loss_finite [hLossRefIdeal : Cert.LossRefIdeal.Facts] [hPre_loss_finite : Cert.Pre_loss_finite.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal_loss_finite m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def quiescent_SbFwd [hSbFwd : Cert.SbFwd.Facts] : Prop :=
  ∀ (m : (ℓ : Loc Cert.SbFwd.nD Cert.SbFwd.τ Cert.SbFwd.sig) → Buf (Elt Bits) ℓ) (g : Dev Cert.SbFwd.nD → PrngReg), Pre_SbFwd m →
    θ_run (Cert.SbFwd.defs (F := Bits)) (onTc (τ := Cert.SbFwd.τ) (Cert.SbFwd.main (F := Bits))) ⟨m, fun _ => 0, g⟩ (fun r => (∀ c : Dev Cert.SbFwd.nD,
      r.2.mem ((c.tc : Thread Cert.SbFwd.nD Cert.SbFwd.τ).loc Cert.SbFwd.main_arg0) = m ((c.tc : Thread Cert.SbFwd.nD Cert.SbFwd.τ).loc Cert.SbFwd.main_arg0)
      ∧ r.2.mem ((c.tc : Thread Cert.SbFwd.nD Cert.SbFwd.τ).loc Cert.SbFwd.main_arg1) = m ((c.tc : Thread Cert.SbFwd.nD Cert.SbFwd.τ).loc Cert.SbFwd.main_arg1)
      ∧ r.2.mem ((c.tc : Thread Cert.SbFwd.nD Cert.SbFwd.τ).loc Cert.SbFwd.main_arg2) = m ((c.tc : Thread Cert.SbFwd.nD Cert.SbFwd.τ).loc Cert.SbFwd.main_arg2))
      ∧ r.2.sem = fun _ => 0)

def quiescent_SbFwdIdeal [hSbFwdIdeal : Cert.SbFwdIdeal.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdIdeal_pre_sb_fwd_finite [hSbFwdIdeal : Cert.SbFwdIdeal.Facts] [hPre_sb_fwd_finite : Cert.Pre_sb_fwd_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg), Pre_SbFwdIdeal_sb_fwd_finite m →
    θ_run (Cert.SbFwdIdeal.defs (F := Ideal)) (onTc (τ := Cert.SbFwdIdeal.τ) (Cert.SbFwdIdeal.main (F := Ideal))) ⟨m, fun _ => 0, g⟩ (fun r => (∀ c : Dev Cert.SbFwdIdeal.nD,
      r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
      ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
      ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ r.2.sem = fun _ => 0)

def quiescent_SbFwdRefIdeal [hSbFwdRefIdeal : Cert.SbFwdRefIdeal.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2))
      ∧ r.2.sem = fun _ => 0)

def quiescent_SbFwdRefIdeal_pre_sb_fwd_finite [hSbFwdRefIdeal : Cert.SbFwdRefIdeal.Facts] [hPre_sb_fwd_finite : Cert.Pre_sb_fwd_finite.Facts] : Prop :=
  ∀ (m : (ℓ : Loc Cert.SbFwdRefIdeal.nD Cert.SbFwdRefIdeal.τ Cert.SbFwdRefIdeal.sig) → Buf (Elt Ideal) ℓ) (g : Dev Cert.SbFwdRefIdeal.nD → PrngReg), Pre_SbFwdRefIdeal_sb_fwd_finite m →
    θ_run (Cert.SbFwdRefIdeal.defs (F := Ideal)) (onTc (τ := Cert.SbFwdRefIdeal.τ) (Cert.SbFwdRefIdeal.main (F := Ideal))) ⟨m, fun _ => 0, g⟩ (fun r => (∀ c : Dev Cert.SbFwdRefIdeal.nD,
      r.2.mem ((c.tc : Thread Cert.SbFwdRefIdeal.nD Cert.SbFwdRefIdeal.τ).loc Cert.SbFwdRefIdeal.main_arg0) = m ((c.tc : Thread Cert.SbFwdRefIdeal.nD Cert.SbFwdRefIdeal.τ).loc Cert.SbFwdRefIdeal.main_arg0)
      ∧ r.2.mem ((c.tc : Thread Cert.SbFwdRefIdeal.nD Cert.SbFwdRefIdeal.τ).loc Cert.SbFwdRefIdeal.main_arg1) = m ((c.tc : Thread Cert.SbFwdRefIdeal.nD Cert.SbFwdRefIdeal.τ).loc Cert.SbFwdRefIdeal.main_arg1)
      ∧ r.2.mem ((c.tc : Thread Cert.SbFwdRefIdeal.nD Cert.SbFwdRefIdeal.τ).loc Cert.SbFwdRefIdeal.main_arg2) = m ((c.tc : Thread Cert.SbFwdRefIdeal.nD Cert.SbFwdRefIdeal.τ).loc Cert.SbFwdRefIdeal.main_arg2))
      ∧ r.2.sem = fun _ => 0)

def quiescent_CrossFwd [hCrossFwd : Cert.CrossFwd.Facts] : Prop :=
  ∀ (m : (ℓ : Loc Cert.CrossFwd.nD Cert.CrossFwd.τ Cert.CrossFwd.sig) → Buf (Elt Bits) ℓ) (g : Dev Cert.CrossFwd.nD → PrngReg), Pre_CrossFwd m →
    θ_run (Cert.CrossFwd.defs (F := Bits)) (onTc (τ := Cert.CrossFwd.τ) (Cert.CrossFwd.main (F := Bits))) ⟨m, fun _ => 0, g⟩ (fun r => (∀ c : Dev Cert.CrossFwd.nD,
      r.2.mem ((c.tc : Thread Cert.CrossFwd.nD Cert.CrossFwd.τ).loc Cert.CrossFwd.main_arg0) = m ((c.tc : Thread Cert.CrossFwd.nD Cert.CrossFwd.τ).loc Cert.CrossFwd.main_arg0)
      ∧ r.2.mem ((c.tc : Thread Cert.CrossFwd.nD Cert.CrossFwd.τ).loc Cert.CrossFwd.main_arg1) = m ((c.tc : Thread Cert.CrossFwd.nD Cert.CrossFwd.τ).loc Cert.CrossFwd.main_arg1))
      ∧ r.2.sem = fun _ => 0)

def quiescent_CrossFwdIdeal [hCrossFwdIdeal : Cert.CrossFwdIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg), Pre_CrossFwdIdeal m →
    θ_run (Cert.CrossFwdIdeal.defs (F := Ideal)) (onTc (τ := Cert.CrossFwdIdeal.τ) (Cert.CrossFwdIdeal.main (F := Ideal))) ⟨m, fun _ => 0, g⟩ (fun r => (∀ c : Dev Cert.CrossFwdIdeal.nD,
      r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
      ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ r.2.sem = fun _ => 0)

def quiescent_CrossFwdRefIdeal [hCrossFwdRefIdeal : Cert.CrossFwdRefIdeal.Facts] : Prop :=
  ∀ (m : (ℓ : Loc Cert.CrossFwdRefIdeal.nD Cert.CrossFwdRefIdeal.τ Cert.CrossFwdRefIdeal.sig) → Buf (Elt Ideal) ℓ) (g : Dev Cert.CrossFwdRefIdeal.nD → PrngReg), Pre_CrossFwdRefIdeal m →
    θ_run (Cert.CrossFwdRefIdeal.defs (F := Ideal)) (onTc (τ := Cert.CrossFwdRefIdeal.τ) (Cert.CrossFwdRefIdeal.main (F := Ideal))) ⟨m, fun _ => 0, g⟩ (fun r => (∀ c : Dev Cert.CrossFwdRefIdeal.nD,
      r.2.mem ((c.tc : Thread Cert.CrossFwdRefIdeal.nD Cert.CrossFwdRefIdeal.τ).loc Cert.CrossFwdRefIdeal.main_arg0) = m ((c.tc : Thread Cert.CrossFwdRefIdeal.nD Cert.CrossFwdRefIdeal.τ).loc Cert.CrossFwdRefIdeal.main_arg0)
      ∧ r.2.mem ((c.tc : Thread Cert.CrossFwdRefIdeal.nD Cert.CrossFwdRefIdeal.τ).loc Cert.CrossFwdRefIdeal.main_arg1) = m ((c.tc : Thread Cert.CrossFwdRefIdeal.nD Cert.CrossFwdRefIdeal.τ).loc Cert.CrossFwdRefIdeal.main_arg1))
      ∧ r.2.sem = fun _ => 0)

def quiescent_MixFwd [hMixFwd : Cert.MixFwd.Facts] : Prop :=
  ∀ (m : (ℓ : Loc Cert.MixFwd.nD Cert.MixFwd.τ Cert.MixFwd.sig) → Buf (Elt Bits) ℓ) (g : Dev Cert.MixFwd.nD → PrngReg), Pre_MixFwd m →
    θ_run (Cert.MixFwd.defs (F := Bits)) (onTc (τ := Cert.MixFwd.τ) (Cert.MixFwd.main (F := Bits))) ⟨m, fun _ => 0, g⟩ (fun r => (∀ c : Dev Cert.MixFwd.nD,
      r.2.mem ((c.tc : Thread Cert.MixFwd.nD Cert.MixFwd.τ).loc Cert.MixFwd.main_arg0) = m ((c.tc : Thread Cert.MixFwd.nD Cert.MixFwd.τ).loc Cert.MixFwd.main_arg0)
      ∧ r.2.mem ((c.tc : Thread Cert.MixFwd.nD Cert.MixFwd.τ).loc Cert.MixFwd.main_arg1) = m ((c.tc : Thread Cert.MixFwd.nD Cert.MixFwd.τ).loc Cert.MixFwd.main_arg1)
      ∧ r.2.mem ((c.tc : Thread Cert.MixFwd.nD Cert.MixFwd.τ).loc Cert.MixFwd.main_arg2) = m ((c.tc : Thread Cert.MixFwd.nD Cert.MixFwd.τ).loc Cert.MixFwd.main_arg2)
      ∧ r.2.mem ((c.tc : Thread Cert.MixFwd.nD Cert.MixFwd.τ).loc Cert.MixFwd.main_arg3) = m ((c.tc : Thread Cert.MixFwd.nD Cert.MixFwd.τ).loc Cert.MixFwd.main_arg3))
      ∧ r.2.sem = fun _ => 0)

def quiescent_MixFwdIdeal [hMixFwdIdeal : Cert.MixFwdIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg), Pre_MixFwdIdeal m →
    θ_run (Cert.MixFwdIdeal.defs (F := Ideal)) (onTc (τ := Cert.MixFwdIdeal.τ) (Cert.MixFwdIdeal.main (F := Ideal))) ⟨m, fun _ => 0, g⟩ (fun r => (∀ c : Dev Cert.MixFwdIdeal.nD,
      r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
      ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
      ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
      ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ r.2.sem = fun _ => 0)

def quiescent_MixFwdRefIdeal [hMixFwdRefIdeal : Cert.MixFwdRefIdeal.Facts] : Prop :=
  ∀ (m : (ℓ : Loc Cert.MixFwdRefIdeal.nD Cert.MixFwdRefIdeal.τ Cert.MixFwdRefIdeal.sig) → Buf (Elt Ideal) ℓ) (g : Dev Cert.MixFwdRefIdeal.nD → PrngReg), Pre_MixFwdRefIdeal m →
    θ_run (Cert.MixFwdRefIdeal.defs (F := Ideal)) (onTc (τ := Cert.MixFwdRefIdeal.τ) (Cert.MixFwdRefIdeal.main (F := Ideal))) ⟨m, fun _ => 0, g⟩ (fun r => (∀ c : Dev Cert.MixFwdRefIdeal.nD,
      r.2.mem ((c.tc : Thread Cert.MixFwdRefIdeal.nD Cert.MixFwdRefIdeal.τ).loc Cert.MixFwdRefIdeal.main_arg0) = m ((c.tc : Thread Cert.MixFwdRefIdeal.nD Cert.MixFwdRefIdeal.τ).loc Cert.MixFwdRefIdeal.main_arg0)
      ∧ r.2.mem ((c.tc : Thread Cert.MixFwdRefIdeal.nD Cert.MixFwdRefIdeal.τ).loc Cert.MixFwdRefIdeal.main_arg1) = m ((c.tc : Thread Cert.MixFwdRefIdeal.nD Cert.MixFwdRefIdeal.τ).loc Cert.MixFwdRefIdeal.main_arg1)
      ∧ r.2.mem ((c.tc : Thread Cert.MixFwdRefIdeal.nD Cert.MixFwdRefIdeal.τ).loc Cert.MixFwdRefIdeal.main_arg2) = m ((c.tc : Thread Cert.MixFwdRefIdeal.nD Cert.MixFwdRefIdeal.τ).loc Cert.MixFwdRefIdeal.main_arg2)
      ∧ r.2.mem ((c.tc : Thread Cert.MixFwdRefIdeal.nD Cert.MixFwdRefIdeal.τ).loc Cert.MixFwdRefIdeal.main_arg3) = m ((c.tc : Thread Cert.MixFwdRefIdeal.nD Cert.MixFwdRefIdeal.τ).loc Cert.MixFwdRefIdeal.main_arg3))
      ∧ r.2.sem = fun _ => 0)

def quiescent_LnFwd [hLnFwd : Cert.LnFwd.Facts] : Prop :=
  ∀ (m : (ℓ : Loc Cert.LnFwd.nD Cert.LnFwd.τ Cert.LnFwd.sig) → Buf (Elt Bits) ℓ) (g : Dev Cert.LnFwd.nD → PrngReg), Pre_LnFwd m →
    θ_run (Cert.LnFwd.defs (F := Bits)) (onTc (τ := Cert.LnFwd.τ) (Cert.LnFwd.main (F := Bits))) ⟨m, fun _ => 0, g⟩ (fun r => (∀ c : Dev Cert.LnFwd.nD,
      r.2.mem ((c.tc : Thread Cert.LnFwd.nD Cert.LnFwd.τ).loc Cert.LnFwd.main_arg0) = m ((c.tc : Thread Cert.LnFwd.nD Cert.LnFwd.τ).loc Cert.LnFwd.main_arg0)
      ∧ r.2.mem ((c.tc : Thread Cert.LnFwd.nD Cert.LnFwd.τ).loc Cert.LnFwd.main_arg1) = m ((c.tc : Thread Cert.LnFwd.nD Cert.LnFwd.τ).loc Cert.LnFwd.main_arg1)
      ∧ r.2.mem ((c.tc : Thread Cert.LnFwd.nD Cert.LnFwd.τ).loc Cert.LnFwd.main_arg2) = m ((c.tc : Thread Cert.LnFwd.nD Cert.LnFwd.τ).loc Cert.LnFwd.main_arg2)
      ∧ r.2.mem ((c.tc : Thread Cert.LnFwd.nD Cert.LnFwd.τ).loc Cert.LnFwd.main_arg3) = m ((c.tc : Thread Cert.LnFwd.nD Cert.LnFwd.τ).loc Cert.LnFwd.main_arg3)
      ∧ r.2.mem ((c.tc : Thread Cert.LnFwd.nD Cert.LnFwd.τ).loc Cert.LnFwd.main_arg4) = m ((c.tc : Thread Cert.LnFwd.nD Cert.LnFwd.τ).loc Cert.LnFwd.main_arg4))
      ∧ r.2.sem = fun _ => 0)

def quiescent_LnFwdIdeal [hLnFwdIdeal : Cert.LnFwdIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg), Pre_LnFwdIdeal m →
    θ_run (Cert.LnFwdIdeal.defs (F := Ideal)) (onTc (τ := Cert.LnFwdIdeal.τ) (Cert.LnFwdIdeal.main (F := Ideal))) ⟨m, fun _ => 0, g⟩ (fun r => (∀ c : Dev Cert.LnFwdIdeal.nD,
      r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
      ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
      ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
      ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3)
      ∧ r.2.mem ((c.tc : Thread Cert.LnFwdIdeal.nD Cert.LnFwdIdeal.τ).loc Cert.LnFwdIdeal.main_arg4) = m ((c.tc : Thread Cert.LnFwdIdeal.nD Cert.LnFwdIdeal.τ).loc Cert.LnFwdIdeal.main_arg4))
      ∧ r.2.sem = fun _ => 0)

def quiescent_LnFwdRefIdeal [hLnFwdRefIdeal : Cert.LnFwdRefIdeal.Facts] : Prop :=
  ∀ (m : (ℓ : Loc Cert.LnFwdRefIdeal.nD Cert.LnFwdRefIdeal.τ Cert.LnFwdRefIdeal.sig) → Buf (Elt Ideal) ℓ) (g : Dev Cert.LnFwdRefIdeal.nD → PrngReg), Pre_LnFwdRefIdeal m →
    θ_run (Cert.LnFwdRefIdeal.defs (F := Ideal)) (onTc (τ := Cert.LnFwdRefIdeal.τ) (Cert.LnFwdRefIdeal.main (F := Ideal))) ⟨m, fun _ => 0, g⟩ (fun r => (∀ c : Dev Cert.LnFwdRefIdeal.nD,
      r.2.mem ((c.tc : Thread Cert.LnFwdRefIdeal.nD Cert.LnFwdRefIdeal.τ).loc Cert.LnFwdRefIdeal.main_arg0) = m ((c.tc : Thread Cert.LnFwdRefIdeal.nD Cert.LnFwdRefIdeal.τ).loc Cert.LnFwdRefIdeal.main_arg0)
      ∧ r.2.mem ((c.tc : Thread Cert.LnFwdRefIdeal.nD Cert.LnFwdRefIdeal.τ).loc Cert.LnFwdRefIdeal.main_arg1) = m ((c.tc : Thread Cert.LnFwdRefIdeal.nD Cert.LnFwdRefIdeal.τ).loc Cert.LnFwdRefIdeal.main_arg1)
      ∧ r.2.mem ((c.tc : Thread Cert.LnFwdRefIdeal.nD Cert.LnFwdRefIdeal.τ).loc Cert.LnFwdRefIdeal.main_arg2) = m ((c.tc : Thread Cert.LnFwdRefIdeal.nD Cert.LnFwdRefIdeal.τ).loc Cert.LnFwdRefIdeal.main_arg2)
      ∧ r.2.mem ((c.tc : Thread Cert.LnFwdRefIdeal.nD Cert.LnFwdRefIdeal.τ).loc Cert.LnFwdRefIdeal.main_arg3) = m ((c.tc : Thread Cert.LnFwdRefIdeal.nD Cert.LnFwdRefIdeal.τ).loc Cert.LnFwdRefIdeal.main_arg3)
      ∧ r.2.mem ((c.tc : Thread Cert.LnFwdRefIdeal.nD Cert.LnFwdRefIdeal.τ).loc Cert.LnFwdRefIdeal.main_arg4) = m ((c.tc : Thread Cert.LnFwdRefIdeal.nD Cert.LnFwdRefIdeal.τ).loc Cert.LnFwdRefIdeal.main_arg4))
      ∧ r.2.sem = fun _ => 0)

def quiescent_FfnFwd [hFfnFwd : Cert.FfnFwd.Facts] : Prop :=
  ∀ (m : (ℓ : Loc Cert.FfnFwd.nD Cert.FfnFwd.τ Cert.FfnFwd.sig) → Buf (Elt Bits) ℓ) (g : Dev Cert.FfnFwd.nD → PrngReg), Pre_FfnFwd m →
    θ_run (Cert.FfnFwd.defs (F := Bits)) (onTc (τ := Cert.FfnFwd.τ) (Cert.FfnFwd.main (F := Bits))) ⟨m, fun _ => 0, g⟩ (fun r => (∀ c : Dev Cert.FfnFwd.nD,
      r.2.mem ((c.tc : Thread Cert.FfnFwd.nD Cert.FfnFwd.τ).loc Cert.FfnFwd.main_arg0) = m ((c.tc : Thread Cert.FfnFwd.nD Cert.FfnFwd.τ).loc Cert.FfnFwd.main_arg0)
      ∧ r.2.mem ((c.tc : Thread Cert.FfnFwd.nD Cert.FfnFwd.τ).loc Cert.FfnFwd.main_arg1) = m ((c.tc : Thread Cert.FfnFwd.nD Cert.FfnFwd.τ).loc Cert.FfnFwd.main_arg1)
      ∧ r.2.mem ((c.tc : Thread Cert.FfnFwd.nD Cert.FfnFwd.τ).loc Cert.FfnFwd.main_arg2) = m ((c.tc : Thread Cert.FfnFwd.nD Cert.FfnFwd.τ).loc Cert.FfnFwd.main_arg2)
      ∧ r.2.mem ((c.tc : Thread Cert.FfnFwd.nD Cert.FfnFwd.τ).loc Cert.FfnFwd.main_arg3) = m ((c.tc : Thread Cert.FfnFwd.nD Cert.FfnFwd.τ).loc Cert.FfnFwd.main_arg3)
      ∧ r.2.mem ((c.tc : Thread Cert.FfnFwd.nD Cert.FfnFwd.τ).loc Cert.FfnFwd.main_arg4) = m ((c.tc : Thread Cert.FfnFwd.nD Cert.FfnFwd.τ).loc Cert.FfnFwd.main_arg4))
      ∧ r.2.sem = fun _ => 0)

def quiescent_FfnFwdIdeal [hFfnFwdIdeal : Cert.FfnFwdIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg), Pre_FfnFwdIdeal m →
    θ_run (Cert.FfnFwdIdeal.defs (F := Ideal)) (onTc (τ := Cert.FfnFwdIdeal.τ) (Cert.FfnFwdIdeal.main (F := Ideal))) ⟨m, fun _ => 0, g⟩ (fun r => (∀ c : Dev Cert.FfnFwdIdeal.nD,
      r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
      ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
      ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
      ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
      ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ r.2.sem = fun _ => 0)

def quiescent_FfnFwdRefIdeal [hFfnFwdRefIdeal : Cert.FfnFwdRefIdeal.Facts] : Prop :=
  ∀ (m : (ℓ : Loc Cert.FfnFwdRefIdeal.nD Cert.FfnFwdRefIdeal.τ Cert.FfnFwdRefIdeal.sig) → Buf (Elt Ideal) ℓ) (g : Dev Cert.FfnFwdRefIdeal.nD → PrngReg), Pre_FfnFwdRefIdeal m →
    θ_run (Cert.FfnFwdRefIdeal.defs (F := Ideal)) (onTc (τ := Cert.FfnFwdRefIdeal.τ) (Cert.FfnFwdRefIdeal.main (F := Ideal))) ⟨m, fun _ => 0, g⟩ (fun r => (∀ c : Dev Cert.FfnFwdRefIdeal.nD,
      r.2.mem ((c.tc : Thread Cert.FfnFwdRefIdeal.nD Cert.FfnFwdRefIdeal.τ).loc Cert.FfnFwdRefIdeal.main_arg0) = m ((c.tc : Thread Cert.FfnFwdRefIdeal.nD Cert.FfnFwdRefIdeal.τ).loc Cert.FfnFwdRefIdeal.main_arg0)
      ∧ r.2.mem ((c.tc : Thread Cert.FfnFwdRefIdeal.nD Cert.FfnFwdRefIdeal.τ).loc Cert.FfnFwdRefIdeal.main_arg1) = m ((c.tc : Thread Cert.FfnFwdRefIdeal.nD Cert.FfnFwdRefIdeal.τ).loc Cert.FfnFwdRefIdeal.main_arg1)
      ∧ r.2.mem ((c.tc : Thread Cert.FfnFwdRefIdeal.nD Cert.FfnFwdRefIdeal.τ).loc Cert.FfnFwdRefIdeal.main_arg2) = m ((c.tc : Thread Cert.FfnFwdRefIdeal.nD Cert.FfnFwdRefIdeal.τ).loc Cert.FfnFwdRefIdeal.main_arg2)
      ∧ r.2.mem ((c.tc : Thread Cert.FfnFwdRefIdeal.nD Cert.FfnFwdRefIdeal.τ).loc Cert.FfnFwdRefIdeal.main_arg3) = m ((c.tc : Thread Cert.FfnFwdRefIdeal.nD Cert.FfnFwdRefIdeal.τ).loc Cert.FfnFwdRefIdeal.main_arg3)
      ∧ r.2.mem ((c.tc : Thread Cert.FfnFwdRefIdeal.nD Cert.FfnFwdRefIdeal.τ).loc Cert.FfnFwdRefIdeal.main_arg4) = m ((c.tc : Thread Cert.FfnFwdRefIdeal.nD Cert.FfnFwdRefIdeal.τ).loc Cert.FfnFwdRefIdeal.main_arg4))
      ∧ r.2.sem = fun _ => 0)

def preserves_ConvBwd_ConvBwdIdeal : Prop :=
  True

def algebraic_ConvBwdIdeal_ConvRefIdeal [hConvBwdIdeal : Cert.ConvBwdIdeal.Facts] [hConvRefIdeal : Cert.ConvRefIdeal.Facts] : Prop :=
  ∀ (m : (ℓ : Loc Cert.ConvBwdIdeal.nD Cert.ConvBwdIdeal.τ Cert.ConvBwdIdeal.sig) → Buf (Elt Ideal) ℓ) (g : Dev Cert.ConvBwdIdeal.nD → PrngReg)
    (m' : (ℓ : Loc Cert.ConvRefIdeal.nD Cert.ConvRefIdeal.τ Cert.ConvRefIdeal.sig) → Buf (Elt Ideal) ℓ) (g' : Dev Cert.ConvRefIdeal.nD → PrngReg), Pre_ConvBwdIdeal m →
    (∀ c : Dev Cert.ConvBwdIdeal.nD,
      m' ((c.tc : Thread Cert.ConvRefIdeal.nD Cert.ConvRefIdeal.τ).loc Cert.ConvRefIdeal.main_arg0) = m ((c.tc : Thread Cert.ConvBwdIdeal.nD Cert.ConvBwdIdeal.τ).loc Cert.ConvBwdIdeal.main_arg0)
      ∧ m' ((c.tc : Thread Cert.ConvRefIdeal.nD Cert.ConvRefIdeal.τ).loc Cert.ConvRefIdeal.main_arg1) = m ((c.tc : Thread Cert.ConvBwdIdeal.nD Cert.ConvBwdIdeal.τ).loc Cert.ConvBwdIdeal.main_arg1)
      ∧ m' ((c.tc : Thread Cert.ConvRefIdeal.nD Cert.ConvRefIdeal.τ).loc Cert.ConvRefIdeal.main_arg2) = m ((c.tc : Thread Cert.ConvBwdIdeal.nD Cert.ConvBwdIdeal.τ).loc Cert.ConvBwdIdeal.main_arg2)
      ∧ m' ((c.tc : Thread Cert.ConvRefIdeal.nD Cert.ConvRefIdeal.τ).loc Cert.ConvRefIdeal.main_arg3) = m ((c.tc : Thread Cert.ConvBwdIdeal.nD Cert.ConvBwdIdeal.τ).loc Cert.ConvBwdIdeal.main_arg3)) →
    ∃ (v0 : (c : Dev Cert.ConvBwdIdeal.nD) → Buf (Elt Ideal) ((c.tc : Thread Cert.ConvBwdIdeal.nD Cert.ConvBwdIdeal.τ).loc Cert.ConvBwdIdeal.main_v0_0)) (v1 : (c : Dev Cert.ConvBwdIdeal.nD) → Buf (Elt Ideal) ((c.tc : Thread Cert.ConvBwdIdeal.nD Cert.ConvBwdIdeal.τ).loc Cert.ConvBwdIdeal.main_v0_1)) (v2 : (c : Dev Cert.ConvBwdIdeal.nD) → Buf (Elt Ideal) ((c.tc : Thread Cert.ConvBwdIdeal.nD Cert.ConvBwdIdeal.τ).loc Cert.ConvBwdIdeal.main_v0_2)),
      θ_run (Cert.ConvBwdIdeal.defs (F := Ideal)) (onTc (τ := Cert.ConvBwdIdeal.τ) (Cert.ConvBwdIdeal.main (F := Ideal))) ⟨m, fun _ => 0, g⟩ (fun r => ∀ c : Dev Cert.ConvBwdIdeal.nD,
          r.2.mem ((c.tc : Thread Cert.ConvBwdIdeal.nD Cert.ConvBwdIdeal.τ).loc Cert.ConvBwdIdeal.main_v0_0) = v0 c
          ∧ r.2.mem ((c.tc : Thread Cert.ConvBwdIdeal.nD Cert.ConvBwdIdeal.τ).loc Cert.ConvBwdIdeal.main_v0_1) = v1 c
          ∧ r.2.mem ((c.tc : Thread Cert.ConvBwdIdeal.nD Cert.ConvBwdIdeal.τ).loc Cert.ConvBwdIdeal.main_v0_2) = v2 c
          ∧ r.2.mem ((c.tc : Thread Cert.ConvBwdIdeal.nD Cert.ConvBwdIdeal.τ).loc Cert.ConvBwdIdeal.main_arg0) = m ((c.tc : Thread Cert.ConvBwdIdeal.nD Cert.ConvBwdIdeal.τ).loc Cert.ConvBwdIdeal.main_arg0)
          ∧ r.2.mem ((c.tc : Thread Cert.ConvBwdIdeal.nD Cert.ConvBwdIdeal.τ).loc Cert.ConvBwdIdeal.main_arg1) = m ((c.tc : Thread Cert.ConvBwdIdeal.nD Cert.ConvBwdIdeal.τ).loc Cert.ConvBwdIdeal.main_arg1)
          ∧ r.2.mem ((c.tc : Thread Cert.ConvBwdIdeal.nD Cert.ConvBwdIdeal.τ).loc Cert.ConvBwdIdeal.main_arg2) = m ((c.tc : Thread Cert.ConvBwdIdeal.nD Cert.ConvBwdIdeal.τ).loc Cert.ConvBwdIdeal.main_arg2)
          ∧ r.2.mem ((c.tc : Thread Cert.ConvBwdIdeal.nD Cert.ConvBwdIdeal.τ).loc Cert.ConvBwdIdeal.main_arg3) = m ((c.tc : Thread Cert.ConvBwdIdeal.nD Cert.ConvBwdIdeal.τ).loc Cert.ConvBwdIdeal.main_arg3))
      ∧ θ_run (Cert.ConvRefIdeal.defs (F := Ideal)) (onTc (τ := Cert.ConvRefIdeal.τ) (Cert.ConvRefIdeal.main (F := Ideal))) ⟨m', fun _ => 0, g'⟩ (fun r => ∀ c : Dev Cert.ConvRefIdeal.nD,
          r.2.mem ((c.tc : Thread Cert.ConvRefIdeal.nD Cert.ConvRefIdeal.τ).loc Cert.ConvRefIdeal.main_v81) = v0 c
          ∧ r.2.mem ((c.tc : Thread Cert.ConvRefIdeal.nD Cert.ConvRefIdeal.τ).loc Cert.ConvRefIdeal.main_v76) = v1 c
          ∧ r.2.mem ((c.tc : Thread Cert.ConvRefIdeal.nD Cert.ConvRefIdeal.τ).loc Cert.ConvRefIdeal.main_v67) = v2 c
          ∧ r.2.mem ((c.tc : Thread Cert.ConvRefIdeal.nD Cert.ConvRefIdeal.τ).loc Cert.ConvRefIdeal.main_arg0) = m' ((c.tc : Thread Cert.ConvRefIdeal.nD Cert.ConvRefIdeal.τ).loc Cert.ConvRefIdeal.main_arg0)
          ∧ r.2.mem ((c.tc : Thread Cert.ConvRefIdeal.nD Cert.ConvRefIdeal.τ).loc Cert.ConvRefIdeal.main_arg1) = m' ((c.tc : Thread Cert.ConvRefIdeal.nD Cert.ConvRefIdeal.τ).loc Cert.ConvRefIdeal.main_arg1)
          ∧ r.2.mem ((c.tc : Thread Cert.ConvRefIdeal.nD Cert.ConvRefIdeal.τ).loc Cert.ConvRefIdeal.main_arg2) = m' ((c.tc : Thread Cert.ConvRefIdeal.nD Cert.ConvRefIdeal.τ).loc Cert.ConvRefIdeal.main_arg2)
          ∧ r.2.mem ((c.tc : Thread Cert.ConvRefIdeal.nD Cert.ConvRefIdeal.τ).loc Cert.ConvRefIdeal.main_arg3) = m' ((c.tc : Thread Cert.ConvRefIdeal.nD Cert.ConvRefIdeal.τ).loc Cert.ConvRefIdeal.main_arg3))

def preserves_SbBwd_SbBwdIdeal : Prop :=
  IdealRules.named_const.Statement Cert.SbBwdIdeal.κ "skip" .f32 0xC2DC0000#32 ⊥

def algebraic_SbBwdIdeal_SbRefIdeal_pre_sb_finite [hSbBwdIdeal : Cert.SbBwdIdeal.Facts] [hSbRefIdeal : Cert.SbRefIdeal.Facts] [hPre_sb_finite : Cert.Pre_sb_finite.Facts] : Prop :=
  ∀ (m : (ℓ : Loc Cert.SbBwdIdeal.nD Cert.SbBwdIdeal.τ Cert.SbBwdIdeal.sig) → Buf (Elt Ideal) ℓ) (g : Dev Cert.SbBwdIdeal.nD → PrngReg)
    (m' : (ℓ : Loc Cert.SbRefIdeal.nD Cert.SbRefIdeal.τ Cert.SbRefIdeal.sig) → Buf (Elt Ideal) ℓ) (g' : Dev Cert.SbRefIdeal.nD → PrngReg), Pre_SbBwdIdeal_sb_finite m →
    (∀ c : Dev Cert.SbBwdIdeal.nD,
      m' ((c.tc : Thread Cert.SbRefIdeal.nD Cert.SbRefIdeal.τ).loc Cert.SbRefIdeal.main_arg0) = m ((c.tc : Thread Cert.SbBwdIdeal.nD Cert.SbBwdIdeal.τ).loc Cert.SbBwdIdeal.main_arg0)
      ∧ m' ((c.tc : Thread Cert.SbRefIdeal.nD Cert.SbRefIdeal.τ).loc Cert.SbRefIdeal.main_arg1) = m ((c.tc : Thread Cert.SbBwdIdeal.nD Cert.SbBwdIdeal.τ).loc Cert.SbBwdIdeal.main_arg1)
      ∧ m' ((c.tc : Thread Cert.SbRefIdeal.nD Cert.SbRefIdeal.τ).loc Cert.SbRefIdeal.main_arg2) = m ((c.tc : Thread Cert.SbBwdIdeal.nD Cert.SbBwdIdeal.τ).loc Cert.SbBwdIdeal.main_arg2)
      ∧ m' ((c.tc : Thread Cert.SbRefIdeal.nD Cert.SbRefIdeal.τ).loc Cert.SbRefIdeal.main_arg3) = m ((c.tc : Thread Cert.SbBwdIdeal.nD Cert.SbBwdIdeal.τ).loc Cert.SbBwdIdeal.main_arg3)) →
    ∃ (v0 : (c : Dev Cert.SbBwdIdeal.nD) → Buf (Elt Ideal) ((c.tc : Thread Cert.SbBwdIdeal.nD Cert.SbBwdIdeal.τ).loc Cert.SbBwdIdeal.main_v34_0)) (v1 : (c : Dev Cert.SbBwdIdeal.nD) → Buf (Elt Ideal) ((c.tc : Thread Cert.SbBwdIdeal.nD Cert.SbBwdIdeal.τ).loc Cert.SbBwdIdeal.main_v34_1)) (v2 : (c : Dev Cert.SbBwdIdeal.nD) → Buf (Elt Ideal) ((c.tc : Thread Cert.SbBwdIdeal.nD Cert.SbBwdIdeal.τ).loc Cert.SbBwdIdeal.main_v34_2)),
      θ_run (Cert.SbBwdIdeal.defs (F := Ideal)) (onTc (τ := Cert.SbBwdIdeal.τ) (Cert.SbBwdIdeal.main (F := Ideal))) ⟨m, fun _ => 0, g⟩ (fun r => ∀ c : Dev Cert.SbBwdIdeal.nD,
          r.2.mem ((c.tc : Thread Cert.SbBwdIdeal.nD Cert.SbBwdIdeal.τ).loc Cert.SbBwdIdeal.main_v34_0) = v0 c
          ∧ r.2.mem ((c.tc : Thread Cert.SbBwdIdeal.nD Cert.SbBwdIdeal.τ).loc Cert.SbBwdIdeal.main_v34_1) = v1 c
          ∧ r.2.mem ((c.tc : Thread Cert.SbBwdIdeal.nD Cert.SbBwdIdeal.τ).loc Cert.SbBwdIdeal.main_v34_2) = v2 c
          ∧ r.2.mem ((c.tc : Thread Cert.SbBwdIdeal.nD Cert.SbBwdIdeal.τ).loc Cert.SbBwdIdeal.main_arg0) = m ((c.tc : Thread Cert.SbBwdIdeal.nD Cert.SbBwdIdeal.τ).loc Cert.SbBwdIdeal.main_arg0)
          ∧ r.2.mem ((c.tc : Thread Cert.SbBwdIdeal.nD Cert.SbBwdIdeal.τ).loc Cert.SbBwdIdeal.main_arg1) = m ((c.tc : Thread Cert.SbBwdIdeal.nD Cert.SbBwdIdeal.τ).loc Cert.SbBwdIdeal.main_arg1)
          ∧ r.2.mem ((c.tc : Thread Cert.SbBwdIdeal.nD Cert.SbBwdIdeal.τ).loc Cert.SbBwdIdeal.main_arg2) = m ((c.tc : Thread Cert.SbBwdIdeal.nD Cert.SbBwdIdeal.τ).loc Cert.SbBwdIdeal.main_arg2)
          ∧ r.2.mem ((c.tc : Thread Cert.SbBwdIdeal.nD Cert.SbBwdIdeal.τ).loc Cert.SbBwdIdeal.main_arg3) = m ((c.tc : Thread Cert.SbBwdIdeal.nD Cert.SbBwdIdeal.τ).loc Cert.SbBwdIdeal.main_arg3))
      ∧ θ_run (Cert.SbRefIdeal.defs (F := Ideal)) (onTc (τ := Cert.SbRefIdeal.τ) (Cert.SbRefIdeal.main (F := Ideal))) ⟨m', fun _ => 0, g'⟩ (fun r => ∀ c : Dev Cert.SbRefIdeal.nD,
          r.2.mem ((c.tc : Thread Cert.SbRefIdeal.nD Cert.SbRefIdeal.τ).loc Cert.SbRefIdeal.main_v53) = v0 c
          ∧ r.2.mem ((c.tc : Thread Cert.SbRefIdeal.nD Cert.SbRefIdeal.τ).loc Cert.SbRefIdeal.main_v54) = v1 c
          ∧ r.2.mem ((c.tc : Thread Cert.SbRefIdeal.nD Cert.SbRefIdeal.τ).loc Cert.SbRefIdeal.main_v55) = v2 c
          ∧ r.2.mem ((c.tc : Thread Cert.SbRefIdeal.nD Cert.SbRefIdeal.τ).loc Cert.SbRefIdeal.main_arg0) = m' ((c.tc : Thread Cert.SbRefIdeal.nD Cert.SbRefIdeal.τ).loc Cert.SbRefIdeal.main_arg0)
          ∧ r.2.mem ((c.tc : Thread Cert.SbRefIdeal.nD Cert.SbRefIdeal.τ).loc Cert.SbRefIdeal.main_arg1) = m' ((c.tc : Thread Cert.SbRefIdeal.nD Cert.SbRefIdeal.τ).loc Cert.SbRefIdeal.main_arg1)
          ∧ r.2.mem ((c.tc : Thread Cert.SbRefIdeal.nD Cert.SbRefIdeal.τ).loc Cert.SbRefIdeal.main_arg2) = m' ((c.tc : Thread Cert.SbRefIdeal.nD Cert.SbRefIdeal.τ).loc Cert.SbRefIdeal.main_arg2)
          ∧ r.2.mem ((c.tc : Thread Cert.SbRefIdeal.nD Cert.SbRefIdeal.τ).loc Cert.SbRefIdeal.main_arg3) = m' ((c.tc : Thread Cert.SbRefIdeal.nD Cert.SbRefIdeal.τ).loc Cert.SbRefIdeal.main_arg3))

def preserves_CrossBwd_CrossBwdIdeal : Prop :=
  True

def algebraic_CrossBwdIdeal_CrossRefIdeal_pre_cross_finite [hCrossBwdIdeal : Cert.CrossBwdIdeal.Facts] [hCrossRefIdeal : Cert.CrossRefIdeal.Facts] [hPre_cross_finite : Cert.Pre_cross_finite.Facts] : Prop :=
  ∀ (m : (ℓ : Loc Cert.CrossBwdIdeal.nD Cert.CrossBwdIdeal.τ Cert.CrossBwdIdeal.sig) → Buf (Elt Ideal) ℓ) (g : Dev Cert.CrossBwdIdeal.nD → PrngReg)
    (m' : (ℓ : Loc Cert.CrossRefIdeal.nD Cert.CrossRefIdeal.τ Cert.CrossRefIdeal.sig) → Buf (Elt Ideal) ℓ) (g' : Dev Cert.CrossRefIdeal.nD → PrngReg), Pre_CrossBwdIdeal_cross_finite m →
    (∀ c : Dev Cert.CrossBwdIdeal.nD,
      m' ((c.tc : Thread Cert.CrossRefIdeal.nD Cert.CrossRefIdeal.τ).loc Cert.CrossRefIdeal.main_arg0) = m ((c.tc : Thread Cert.CrossBwdIdeal.nD Cert.CrossBwdIdeal.τ).loc Cert.CrossBwdIdeal.main_arg0)
      ∧ m' ((c.tc : Thread Cert.CrossRefIdeal.nD Cert.CrossRefIdeal.τ).loc Cert.CrossRefIdeal.main_arg1) = m ((c.tc : Thread Cert.CrossBwdIdeal.nD Cert.CrossBwdIdeal.τ).loc Cert.CrossBwdIdeal.main_arg1)
      ∧ m' ((c.tc : Thread Cert.CrossRefIdeal.nD Cert.CrossRefIdeal.τ).loc Cert.CrossRefIdeal.main_arg2) = m ((c.tc : Thread Cert.CrossBwdIdeal.nD Cert.CrossBwdIdeal.τ).loc Cert.CrossBwdIdeal.main_arg2)) →
    ∃ (v0 : (c : Dev Cert.CrossBwdIdeal.nD) → Buf (Elt Ideal) ((c.tc : Thread Cert.CrossBwdIdeal.nD Cert.CrossBwdIdeal.τ).loc Cert.CrossBwdIdeal.main_v4_0)) (v1 : (c : Dev Cert.CrossBwdIdeal.nD) → Buf (Elt Ideal) ((c.tc : Thread Cert.CrossBwdIdeal.nD Cert.CrossBwdIdeal.τ).loc Cert.CrossBwdIdeal.main_v4_1)),
      θ_run (Cert.CrossBwdIdeal.defs (F := Ideal)) (onTc (τ := Cert.CrossBwdIdeal.τ) (Cert.CrossBwdIdeal.main (F := Ideal))) ⟨m, fun _ => 0, g⟩ (fun r => ∀ c : Dev Cert.CrossBwdIdeal.nD,
          r.2.mem ((c.tc : Thread Cert.CrossBwdIdeal.nD Cert.CrossBwdIdeal.τ).loc Cert.CrossBwdIdeal.main_v4_0) = v0 c
          ∧ r.2.mem ((c.tc : Thread Cert.CrossBwdIdeal.nD Cert.CrossBwdIdeal.τ).loc Cert.CrossBwdIdeal.main_v4_1) = v1 c
          ∧ r.2.mem ((c.tc : Thread Cert.CrossBwdIdeal.nD Cert.CrossBwdIdeal.τ).loc Cert.CrossBwdIdeal.main_arg0) = m ((c.tc : Thread Cert.CrossBwdIdeal.nD Cert.CrossBwdIdeal.τ).loc Cert.CrossBwdIdeal.main_arg0)
          ∧ r.2.mem ((c.tc : Thread Cert.CrossBwdIdeal.nD Cert.CrossBwdIdeal.τ).loc Cert.CrossBwdIdeal.main_arg1) = m ((c.tc : Thread Cert.CrossBwdIdeal.nD Cert.CrossBwdIdeal.τ).loc Cert.CrossBwdIdeal.main_arg1)
          ∧ r.2.mem ((c.tc : Thread Cert.CrossBwdIdeal.nD Cert.CrossBwdIdeal.τ).loc Cert.CrossBwdIdeal.main_arg2) = m ((c.tc : Thread Cert.CrossBwdIdeal.nD Cert.CrossBwdIdeal.τ).loc Cert.CrossBwdIdeal.main_arg2))
      ∧ θ_run (Cert.CrossRefIdeal.defs (F := Ideal)) (onTc (τ := Cert.CrossRefIdeal.τ) (Cert.CrossRefIdeal.main (F := Ideal))) ⟨m', fun _ => 0, g'⟩ (fun r => ∀ c : Dev Cert.CrossRefIdeal.nD,
          r.2.mem ((c.tc : Thread Cert.CrossRefIdeal.nD Cert.CrossRefIdeal.τ).loc Cert.CrossRefIdeal.main_v66) = v0 c
          ∧ r.2.mem ((c.tc : Thread Cert.CrossRefIdeal.nD Cert.CrossRefIdeal.τ).loc Cert.CrossRefIdeal.main_v68) = v1 c
          ∧ r.2.mem ((c.tc : Thread Cert.CrossRefIdeal.nD Cert.CrossRefIdeal.τ).loc Cert.CrossRefIdeal.main_arg0) = m' ((c.tc : Thread Cert.CrossRefIdeal.nD Cert.CrossRefIdeal.τ).loc Cert.CrossRefIdeal.main_arg0)
          ∧ r.2.mem ((c.tc : Thread Cert.CrossRefIdeal.nD Cert.CrossRefIdeal.τ).loc Cert.CrossRefIdeal.main_arg1) = m' ((c.tc : Thread Cert.CrossRefIdeal.nD Cert.CrossRefIdeal.τ).loc Cert.CrossRefIdeal.main_arg1)
          ∧ r.2.mem ((c.tc : Thread Cert.CrossRefIdeal.nD Cert.CrossRefIdeal.τ).loc Cert.CrossRefIdeal.main_arg2) = m' ((c.tc : Thread Cert.CrossRefIdeal.nD Cert.CrossRefIdeal.τ).loc Cert.CrossRefIdeal.main_arg2))

def preserves_FfnBwd_FfnBwdIdeal : Prop :=
  True

def algebraic_FfnBwdIdeal_FfnRefIdeal_pre_ffn_finite [hFfnBwdIdeal : Cert.FfnBwdIdeal.Facts] [hFfnRefIdeal : Cert.FfnRefIdeal.Facts] [hPre_ffn_finite : Cert.Pre_ffn_finite.Facts] : Prop :=
  ∀ (m : (ℓ : Loc Cert.FfnBwdIdeal.nD Cert.FfnBwdIdeal.τ Cert.FfnBwdIdeal.sig) → Buf (Elt Ideal) ℓ) (g : Dev Cert.FfnBwdIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnBwdIdeal_ffn_finite m →
    (∀ c : Dev Cert.FfnBwdIdeal.nD,
      m' ((c.tc : Thread Cert.FfnRefIdeal.nD Cert.FfnRefIdeal.τ).loc Cert.FfnRefIdeal.main_arg0) = m ((c.tc : Thread Cert.FfnBwdIdeal.nD Cert.FfnBwdIdeal.τ).loc Cert.FfnBwdIdeal.main_arg0)
      ∧ m' ((c.tc : Thread Cert.FfnRefIdeal.nD Cert.FfnRefIdeal.τ).loc Cert.FfnRefIdeal.main_arg1) = m ((c.tc : Thread Cert.FfnBwdIdeal.nD Cert.FfnBwdIdeal.τ).loc Cert.FfnBwdIdeal.main_arg1)
      ∧ m' ((c.tc : Thread Cert.FfnRefIdeal.nD Cert.FfnRefIdeal.τ).loc Cert.FfnRefIdeal.main_arg2) = m ((c.tc : Thread Cert.FfnBwdIdeal.nD Cert.FfnBwdIdeal.τ).loc Cert.FfnBwdIdeal.main_arg2)
      ∧ m' ((c.tc : Thread Cert.FfnRefIdeal.nD Cert.FfnRefIdeal.τ).loc Cert.FfnRefIdeal.main_arg3) = m ((c.tc : Thread Cert.FfnBwdIdeal.nD Cert.FfnBwdIdeal.τ).loc Cert.FfnBwdIdeal.main_arg3)) →
    ∃ (v0 : (c : Dev Cert.FfnBwdIdeal.nD) → Buf (Elt Ideal) ((c.tc : Thread Cert.FfnBwdIdeal.nD Cert.FfnBwdIdeal.τ).loc Cert.FfnBwdIdeal.main_v8_0)) (v1 : (c : Dev Cert.FfnBwdIdeal.nD) → Buf (Elt Ideal) ((c.tc : Thread Cert.FfnBwdIdeal.nD Cert.FfnBwdIdeal.τ).loc Cert.FfnBwdIdeal.main_v8_1)) (v2 : (c : Dev Cert.FfnBwdIdeal.nD) → Buf (Elt Ideal) ((c.tc : Thread Cert.FfnBwdIdeal.nD Cert.FfnBwdIdeal.τ).loc Cert.FfnBwdIdeal.main_v8_2)),
      θ_run (Cert.FfnBwdIdeal.defs (F := Ideal)) (onTc (τ := Cert.FfnBwdIdeal.τ) (Cert.FfnBwdIdeal.main (F := Ideal))) ⟨m, fun _ => 0, g⟩ (fun r => ∀ c : Dev Cert.FfnBwdIdeal.nD,
          r.2.mem ((c.tc : Thread Cert.FfnBwdIdeal.nD Cert.FfnBwdIdeal.τ).loc Cert.FfnBwdIdeal.main_v8_0) = v0 c
          ∧ r.2.mem ((c.tc : Thread Cert.FfnBwdIdeal.nD Cert.FfnBwdIdeal.τ).loc Cert.FfnBwdIdeal.main_v8_1) = v1 c
          ∧ r.2.mem ((c.tc : Thread Cert.FfnBwdIdeal.nD Cert.FfnBwdIdeal.τ).loc Cert.FfnBwdIdeal.main_v8_2) = v2 c
          ∧ r.2.mem ((c.tc : Thread Cert.FfnBwdIdeal.nD Cert.FfnBwdIdeal.τ).loc Cert.FfnBwdIdeal.main_arg0) = m ((c.tc : Thread Cert.FfnBwdIdeal.nD Cert.FfnBwdIdeal.τ).loc Cert.FfnBwdIdeal.main_arg0)
          ∧ r.2.mem ((c.tc : Thread Cert.FfnBwdIdeal.nD Cert.FfnBwdIdeal.τ).loc Cert.FfnBwdIdeal.main_arg1) = m ((c.tc : Thread Cert.FfnBwdIdeal.nD Cert.FfnBwdIdeal.τ).loc Cert.FfnBwdIdeal.main_arg1)
          ∧ r.2.mem ((c.tc : Thread Cert.FfnBwdIdeal.nD Cert.FfnBwdIdeal.τ).loc Cert.FfnBwdIdeal.main_arg2) = m ((c.tc : Thread Cert.FfnBwdIdeal.nD Cert.FfnBwdIdeal.τ).loc Cert.FfnBwdIdeal.main_arg2)
          ∧ r.2.mem ((c.tc : Thread Cert.FfnBwdIdeal.nD Cert.FfnBwdIdeal.τ).loc Cert.FfnBwdIdeal.main_arg3) = m ((c.tc : Thread Cert.FfnBwdIdeal.nD Cert.FfnBwdIdeal.τ).loc Cert.FfnBwdIdeal.main_arg3))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v23) = v0 c
          ∧ r.2.mem ((c.tc : Thread Cert.FfnRefIdeal.nD Cert.FfnRefIdeal.τ).loc Cert.FfnRefIdeal.main_v26) = v1 c
          ∧ r.2.mem ((c.tc : Thread Cert.FfnRefIdeal.nD Cert.FfnRefIdeal.τ).loc Cert.FfnRefIdeal.main_v29) = v2 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3))

def preserves_Ln2Bwd_Ln2BwdIdeal : Prop :=
  True

def algebraic_Ln2BwdIdeal_Ln2RefIdeal_pre_ln2_finite [hLn2BwdIdeal : Cert.Ln2BwdIdeal.Facts] [hLn2RefIdeal : Cert.Ln2RefIdeal.Facts] [hPre_ln2_finite : Cert.Pre_ln2_finite.Facts] : Prop :=
  ∀ (m : (ℓ : Loc Cert.Ln2BwdIdeal.nD Cert.Ln2BwdIdeal.τ Cert.Ln2BwdIdeal.sig) → Buf (Elt Ideal) ℓ) (g : Dev Cert.Ln2BwdIdeal.nD → PrngReg)
    (m' : (ℓ : Loc Cert.Ln2RefIdeal.nD Cert.Ln2RefIdeal.τ Cert.Ln2RefIdeal.sig) → Buf (Elt Ideal) ℓ) (g' : Dev Cert.Ln2RefIdeal.nD → PrngReg), Pre_Ln2BwdIdeal_ln2_finite m →
    (∀ c : Dev Cert.Ln2BwdIdeal.nD,
      m' ((c.tc : Thread Cert.Ln2RefIdeal.nD Cert.Ln2RefIdeal.τ).loc Cert.Ln2RefIdeal.main_arg0) = m ((c.tc : Thread Cert.Ln2BwdIdeal.nD Cert.Ln2BwdIdeal.τ).loc Cert.Ln2BwdIdeal.main_arg0)
      ∧ m' ((c.tc : Thread Cert.Ln2RefIdeal.nD Cert.Ln2RefIdeal.τ).loc Cert.Ln2RefIdeal.main_arg1) = m ((c.tc : Thread Cert.Ln2BwdIdeal.nD Cert.Ln2BwdIdeal.τ).loc Cert.Ln2BwdIdeal.main_arg1)
      ∧ m' ((c.tc : Thread Cert.Ln2RefIdeal.nD Cert.Ln2RefIdeal.τ).loc Cert.Ln2RefIdeal.main_arg2) = m ((c.tc : Thread Cert.Ln2BwdIdeal.nD Cert.Ln2BwdIdeal.τ).loc Cert.Ln2BwdIdeal.main_arg2)
      ∧ m' ((c.tc : Thread Cert.Ln2RefIdeal.nD Cert.Ln2RefIdeal.τ).loc Cert.Ln2RefIdeal.main_arg3) = m ((c.tc : Thread Cert.Ln2BwdIdeal.nD Cert.Ln2BwdIdeal.τ).loc Cert.Ln2BwdIdeal.main_arg3)
      ∧ m' ((c.tc : Thread Cert.Ln2RefIdeal.nD Cert.Ln2RefIdeal.τ).loc Cert.Ln2RefIdeal.main_arg4) = m ((c.tc : Thread Cert.Ln2BwdIdeal.nD Cert.Ln2BwdIdeal.τ).loc Cert.Ln2BwdIdeal.main_arg4)
      ∧ m' ((c.tc : Thread Cert.Ln2RefIdeal.nD Cert.Ln2RefIdeal.τ).loc Cert.Ln2RefIdeal.main_arg5) = m ((c.tc : Thread Cert.Ln2BwdIdeal.nD Cert.Ln2BwdIdeal.τ).loc Cert.Ln2BwdIdeal.main_arg5)
      ∧ m' ((c.tc : Thread Cert.Ln2RefIdeal.nD Cert.Ln2RefIdeal.τ).loc Cert.Ln2RefIdeal.main_arg6) = m ((c.tc : Thread Cert.Ln2BwdIdeal.nD Cert.Ln2BwdIdeal.τ).loc Cert.Ln2BwdIdeal.main_arg6)) →
    ∃ (v0 : (c : Dev Cert.Ln2BwdIdeal.nD) → Buf (Elt Ideal) ((c.tc : Thread Cert.Ln2BwdIdeal.nD Cert.Ln2BwdIdeal.τ).loc Cert.Ln2BwdIdeal.main_v3_0)) (v1 : (c : Dev Cert.Ln2BwdIdeal.nD) → Buf (Elt Ideal) ((c.tc : Thread Cert.Ln2BwdIdeal.nD Cert.Ln2BwdIdeal.τ).loc Cert.Ln2BwdIdeal.main_v3_1)) (v2 : (c : Dev Cert.Ln2BwdIdeal.nD) → Buf (Elt Ideal) ((c.tc : Thread Cert.Ln2BwdIdeal.nD Cert.Ln2BwdIdeal.τ).loc Cert.Ln2BwdIdeal.main_v3_2)) (v3 : (c : Dev Cert.Ln2BwdIdeal.nD) → Buf (Elt Ideal) ((c.tc : Thread Cert.Ln2BwdIdeal.nD Cert.Ln2BwdIdeal.τ).loc Cert.Ln2BwdIdeal.main_v3_3)),
      θ_run (Cert.Ln2BwdIdeal.defs (F := Ideal)) (onTc (τ := Cert.Ln2BwdIdeal.τ) (Cert.Ln2BwdIdeal.main (F := Ideal))) ⟨m, fun _ => 0, g⟩ (fun r => ∀ c : Dev Cert.Ln2BwdIdeal.nD,
          r.2.mem ((c.tc : Thread Cert.Ln2BwdIdeal.nD Cert.Ln2BwdIdeal.τ).loc Cert.Ln2BwdIdeal.main_v3_0) = v0 c
          ∧ r.2.mem ((c.tc : Thread Cert.Ln2BwdIdeal.nD Cert.Ln2BwdIdeal.τ).loc Cert.Ln2BwdIdeal.main_v3_1) = v1 c
          ∧ r.2.mem ((c.tc : Thread Cert.Ln2BwdIdeal.nD Cert.Ln2BwdIdeal.τ).loc Cert.Ln2BwdIdeal.main_v3_2) = v2 c
          ∧ r.2.mem ((c.tc : Thread Cert.Ln2BwdIdeal.nD Cert.Ln2BwdIdeal.τ).loc Cert.Ln2BwdIdeal.main_v3_3) = v3 c
          ∧ r.2.mem ((c.tc : Thread Cert.Ln2BwdIdeal.nD Cert.Ln2BwdIdeal.τ).loc Cert.Ln2BwdIdeal.main_arg0) = m ((c.tc : Thread Cert.Ln2BwdIdeal.nD Cert.Ln2BwdIdeal.τ).loc Cert.Ln2BwdIdeal.main_arg0)
          ∧ r.2.mem ((c.tc : Thread Cert.Ln2BwdIdeal.nD Cert.Ln2BwdIdeal.τ).loc Cert.Ln2BwdIdeal.main_arg1) = m ((c.tc : Thread Cert.Ln2BwdIdeal.nD Cert.Ln2BwdIdeal.τ).loc Cert.Ln2BwdIdeal.main_arg1)
          ∧ r.2.mem ((c.tc : Thread Cert.Ln2BwdIdeal.nD Cert.Ln2BwdIdeal.τ).loc Cert.Ln2BwdIdeal.main_arg2) = m ((c.tc : Thread Cert.Ln2BwdIdeal.nD Cert.Ln2BwdIdeal.τ).loc Cert.Ln2BwdIdeal.main_arg2)
          ∧ r.2.mem ((c.tc : Thread Cert.Ln2BwdIdeal.nD Cert.Ln2BwdIdeal.τ).loc Cert.Ln2BwdIdeal.main_arg3) = m ((c.tc : Thread Cert.Ln2BwdIdeal.nD Cert.Ln2BwdIdeal.τ).loc Cert.Ln2BwdIdeal.main_arg3)
          ∧ r.2.mem ((c.tc : Thread Cert.Ln2BwdIdeal.nD Cert.Ln2BwdIdeal.τ).loc Cert.Ln2BwdIdeal.main_arg4) = m ((c.tc : Thread Cert.Ln2BwdIdeal.nD Cert.Ln2BwdIdeal.τ).loc Cert.Ln2BwdIdeal.main_arg4)
          ∧ r.2.mem ((c.tc : Thread Cert.Ln2BwdIdeal.nD Cert.Ln2BwdIdeal.τ).loc Cert.Ln2BwdIdeal.main_arg5) = m ((c.tc : Thread Cert.Ln2BwdIdeal.nD Cert.Ln2BwdIdeal.τ).loc Cert.Ln2BwdIdeal.main_arg5)
          ∧ r.2.mem ((c.tc : Thread Cert.Ln2BwdIdeal.nD Cert.Ln2BwdIdeal.τ).loc Cert.Ln2BwdIdeal.main_arg6) = m ((c.tc : Thread Cert.Ln2BwdIdeal.nD Cert.Ln2BwdIdeal.τ).loc Cert.Ln2BwdIdeal.main_arg6))
      ∧ θ_run (Cert.Ln2RefIdeal.defs (F := Ideal)) (onTc (τ := Cert.Ln2RefIdeal.τ) (Cert.Ln2RefIdeal.main (F := Ideal))) ⟨m', fun _ => 0, g'⟩ (fun r => ∀ c : Dev Cert.Ln2RefIdeal.nD,
          r.2.mem ((c.tc : Thread Cert.Ln2RefIdeal.nD Cert.Ln2RefIdeal.τ).loc Cert.Ln2RefIdeal.main_v68) = v0 c
          ∧ r.2.mem ((c.tc : Thread Cert.Ln2RefIdeal.nD Cert.Ln2RefIdeal.τ).loc Cert.Ln2RefIdeal.main_v69) = v1 c
          ∧ r.2.mem ((c.tc : Thread Cert.Ln2RefIdeal.nD Cert.Ln2RefIdeal.τ).loc Cert.Ln2RefIdeal.main_v41) = v2 c
          ∧ r.2.mem ((c.tc : Thread Cert.Ln2RefIdeal.nD Cert.Ln2RefIdeal.τ).loc Cert.Ln2RefIdeal.main_v38) = v3 c
          ∧ r.2.mem ((c.tc : Thread Cert.Ln2RefIdeal.nD Cert.Ln2RefIdeal.τ).loc Cert.Ln2RefIdeal.main_arg0) = m' ((c.tc : Thread Cert.Ln2RefIdeal.nD Cert.Ln2RefIdeal.τ).loc Cert.Ln2RefIdeal.main_arg0)
          ∧ r.2.mem ((c.tc : Thread Cert.Ln2RefIdeal.nD Cert.Ln2RefIdeal.τ).loc Cert.Ln2RefIdeal.main_arg1) = m' ((c.tc : Thread Cert.Ln2RefIdeal.nD Cert.Ln2RefIdeal.τ).loc Cert.Ln2RefIdeal.main_arg1)
          ∧ r.2.mem ((c.tc : Thread Cert.Ln2RefIdeal.nD Cert.Ln2RefIdeal.τ).loc Cert.Ln2RefIdeal.main_arg2) = m' ((c.tc : Thread Cert.Ln2RefIdeal.nD Cert.Ln2RefIdeal.τ).loc Cert.Ln2RefIdeal.main_arg2)
          ∧ r.2.mem ((c.tc : Thread Cert.Ln2RefIdeal.nD Cert.Ln2RefIdeal.τ).loc Cert.Ln2RefIdeal.main_arg3) = m' ((c.tc : Thread Cert.Ln2RefIdeal.nD Cert.Ln2RefIdeal.τ).loc Cert.Ln2RefIdeal.main_arg3)
          ∧ r.2.mem ((c.tc : Thread Cert.Ln2RefIdeal.nD Cert.Ln2RefIdeal.τ).loc Cert.Ln2RefIdeal.main_arg4) = m' ((c.tc : Thread Cert.Ln2RefIdeal.nD Cert.Ln2RefIdeal.τ).loc Cert.Ln2RefIdeal.main_arg4)
          ∧ r.2.mem ((c.tc : Thread Cert.Ln2RefIdeal.nD Cert.Ln2RefIdeal.τ).loc Cert.Ln2RefIdeal.main_arg5) = m' ((c.tc : Thread Cert.Ln2RefIdeal.nD Cert.Ln2RefIdeal.τ).loc Cert.Ln2RefIdeal.main_arg5)
          ∧ r.2.mem ((c.tc : Thread Cert.Ln2RefIdeal.nD Cert.Ln2RefIdeal.τ).loc Cert.Ln2RefIdeal.main_arg6) = m' ((c.tc : Thread Cert.Ln2RefIdeal.nD Cert.Ln2RefIdeal.τ).loc Cert.Ln2RefIdeal.main_arg6))

def preserves_Ln1Bwd_Ln1BwdIdeal : Prop :=
  True

def algebraic_Ln1BwdIdeal_Ln1RefIdeal_pre_ln1_finite [hLn1BwdIdeal : Cert.Ln1BwdIdeal.Facts] [hLn1RefIdeal : Cert.Ln1RefIdeal.Facts] [hPre_ln1_finite : Cert.Pre_ln1_finite.Facts] : Prop :=
  ∀ (m : (ℓ : Loc Cert.Ln1BwdIdeal.nD Cert.Ln1BwdIdeal.τ Cert.Ln1BwdIdeal.sig) → Buf (Elt Ideal) ℓ) (g : Dev Cert.Ln1BwdIdeal.nD → PrngReg)
    (m' : (ℓ : Loc Cert.Ln1RefIdeal.nD Cert.Ln1RefIdeal.τ Cert.Ln1RefIdeal.sig) → Buf (Elt Ideal) ℓ) (g' : Dev Cert.Ln1RefIdeal.nD → PrngReg), Pre_Ln1BwdIdeal_ln1_finite m →
    (∀ c : Dev Cert.Ln1BwdIdeal.nD,
      m' ((c.tc : Thread Cert.Ln1RefIdeal.nD Cert.Ln1RefIdeal.τ).loc Cert.Ln1RefIdeal.main_arg0) = m ((c.tc : Thread Cert.Ln1BwdIdeal.nD Cert.Ln1BwdIdeal.τ).loc Cert.Ln1BwdIdeal.main_arg0)
      ∧ m' ((c.tc : Thread Cert.Ln1RefIdeal.nD Cert.Ln1RefIdeal.τ).loc Cert.Ln1RefIdeal.main_arg1) = m ((c.tc : Thread Cert.Ln1BwdIdeal.nD Cert.Ln1BwdIdeal.τ).loc Cert.Ln1BwdIdeal.main_arg1)
      ∧ m' ((c.tc : Thread Cert.Ln1RefIdeal.nD Cert.Ln1RefIdeal.τ).loc Cert.Ln1RefIdeal.main_arg2) = m ((c.tc : Thread Cert.Ln1BwdIdeal.nD Cert.Ln1BwdIdeal.τ).loc Cert.Ln1BwdIdeal.main_arg2)
      ∧ m' ((c.tc : Thread Cert.Ln1RefIdeal.nD Cert.Ln1RefIdeal.τ).loc Cert.Ln1RefIdeal.main_arg3) = m ((c.tc : Thread Cert.Ln1BwdIdeal.nD Cert.Ln1BwdIdeal.τ).loc Cert.Ln1BwdIdeal.main_arg3)
      ∧ m' ((c.tc : Thread Cert.Ln1RefIdeal.nD Cert.Ln1RefIdeal.τ).loc Cert.Ln1RefIdeal.main_arg4) = m ((c.tc : Thread Cert.Ln1BwdIdeal.nD Cert.Ln1BwdIdeal.τ).loc Cert.Ln1BwdIdeal.main_arg4)
      ∧ m' ((c.tc : Thread Cert.Ln1RefIdeal.nD Cert.Ln1RefIdeal.τ).loc Cert.Ln1RefIdeal.main_arg5) = m ((c.tc : Thread Cert.Ln1BwdIdeal.nD Cert.Ln1BwdIdeal.τ).loc Cert.Ln1BwdIdeal.main_arg5)
      ∧ m' ((c.tc : Thread Cert.Ln1RefIdeal.nD Cert.Ln1RefIdeal.τ).loc Cert.Ln1RefIdeal.main_arg6) = m ((c.tc : Thread Cert.Ln1BwdIdeal.nD Cert.Ln1BwdIdeal.τ).loc Cert.Ln1BwdIdeal.main_arg6)
      ∧ m' ((c.tc : Thread Cert.Ln1RefIdeal.nD Cert.Ln1RefIdeal.τ).loc Cert.Ln1RefIdeal.main_arg7) = m ((c.tc : Thread Cert.Ln1BwdIdeal.nD Cert.Ln1BwdIdeal.τ).loc Cert.Ln1BwdIdeal.main_arg7)
      ∧ m' ((c.tc : Thread Cert.Ln1RefIdeal.nD Cert.Ln1RefIdeal.τ).loc Cert.Ln1RefIdeal.main_arg8) = m ((c.tc : Thread Cert.Ln1BwdIdeal.nD Cert.Ln1BwdIdeal.τ).loc Cert.Ln1BwdIdeal.main_arg8)
      ∧ m' ((c.tc : Thread Cert.Ln1RefIdeal.nD Cert.Ln1RefIdeal.τ).loc Cert.Ln1RefIdeal.main_arg9) = m ((c.tc : Thread Cert.Ln1BwdIdeal.nD Cert.Ln1BwdIdeal.τ).loc Cert.Ln1BwdIdeal.main_arg9)
      ∧ m' ((c.tc : Thread Cert.Ln1RefIdeal.nD Cert.Ln1RefIdeal.τ).loc Cert.Ln1RefIdeal.main_arg10) = m ((c.tc : Thread Cert.Ln1BwdIdeal.nD Cert.Ln1BwdIdeal.τ).loc Cert.Ln1BwdIdeal.main_arg10)) →
    ∃ (v0 : (c : Dev Cert.Ln1BwdIdeal.nD) → Buf (Elt Ideal) ((c.tc : Thread Cert.Ln1BwdIdeal.nD Cert.Ln1BwdIdeal.τ).loc Cert.Ln1BwdIdeal.main_v7_0)) (v1 : (c : Dev Cert.Ln1BwdIdeal.nD) → Buf (Elt Ideal) ((c.tc : Thread Cert.Ln1BwdIdeal.nD Cert.Ln1BwdIdeal.τ).loc Cert.Ln1BwdIdeal.main_v7_1)) (v2 : (c : Dev Cert.Ln1BwdIdeal.nD) → Buf (Elt Ideal) ((c.tc : Thread Cert.Ln1BwdIdeal.nD Cert.Ln1BwdIdeal.τ).loc Cert.Ln1BwdIdeal.main_v7_2)) (v3 : (c : Dev Cert.Ln1BwdIdeal.nD) → Buf (Elt Ideal) ((c.tc : Thread Cert.Ln1BwdIdeal.nD Cert.Ln1BwdIdeal.τ).loc Cert.Ln1BwdIdeal.main_v7_3)),
      θ_run (Cert.Ln1BwdIdeal.defs (F := Ideal)) (onTc (τ := Cert.Ln1BwdIdeal.τ) (Cert.Ln1BwdIdeal.main (F := Ideal))) ⟨m, fun _ => 0, g⟩ (fun r => ∀ c : Dev Cert.Ln1BwdIdeal.nD,
          r.2.mem ((c.tc : Thread Cert.Ln1BwdIdeal.nD Cert.Ln1BwdIdeal.τ).loc Cert.Ln1BwdIdeal.main_v7_0) = v0 c
          ∧ r.2.mem ((c.tc : Thread Cert.Ln1BwdIdeal.nD Cert.Ln1BwdIdeal.τ).loc Cert.Ln1BwdIdeal.main_v7_1) = v1 c
          ∧ r.2.mem ((c.tc : Thread Cert.Ln1BwdIdeal.nD Cert.Ln1BwdIdeal.τ).loc Cert.Ln1BwdIdeal.main_v7_2) = v2 c
          ∧ r.2.mem ((c.tc : Thread Cert.Ln1BwdIdeal.nD Cert.Ln1BwdIdeal.τ).loc Cert.Ln1BwdIdeal.main_v7_3) = v3 c
          ∧ r.2.mem ((c.tc : Thread Cert.Ln1BwdIdeal.nD Cert.Ln1BwdIdeal.τ).loc Cert.Ln1BwdIdeal.main_arg0) = m ((c.tc : Thread Cert.Ln1BwdIdeal.nD Cert.Ln1BwdIdeal.τ).loc Cert.Ln1BwdIdeal.main_arg0)
          ∧ r.2.mem ((c.tc : Thread Cert.Ln1BwdIdeal.nD Cert.Ln1BwdIdeal.τ).loc Cert.Ln1BwdIdeal.main_arg1) = m ((c.tc : Thread Cert.Ln1BwdIdeal.nD Cert.Ln1BwdIdeal.τ).loc Cert.Ln1BwdIdeal.main_arg1)
          ∧ r.2.mem ((c.tc : Thread Cert.Ln1BwdIdeal.nD Cert.Ln1BwdIdeal.τ).loc Cert.Ln1BwdIdeal.main_arg2) = m ((c.tc : Thread Cert.Ln1BwdIdeal.nD Cert.Ln1BwdIdeal.τ).loc Cert.Ln1BwdIdeal.main_arg2)
          ∧ r.2.mem ((c.tc : Thread Cert.Ln1BwdIdeal.nD Cert.Ln1BwdIdeal.τ).loc Cert.Ln1BwdIdeal.main_arg3) = m ((c.tc : Thread Cert.Ln1BwdIdeal.nD Cert.Ln1BwdIdeal.τ).loc Cert.Ln1BwdIdeal.main_arg3)
          ∧ r.2.mem ((c.tc : Thread Cert.Ln1BwdIdeal.nD Cert.Ln1BwdIdeal.τ).loc Cert.Ln1BwdIdeal.main_arg4) = m ((c.tc : Thread Cert.Ln1BwdIdeal.nD Cert.Ln1BwdIdeal.τ).loc Cert.Ln1BwdIdeal.main_arg4)
          ∧ r.2.mem ((c.tc : Thread Cert.Ln1BwdIdeal.nD Cert.Ln1BwdIdeal.τ).loc Cert.Ln1BwdIdeal.main_arg5) = m ((c.tc : Thread Cert.Ln1BwdIdeal.nD Cert.Ln1BwdIdeal.τ).loc Cert.Ln1BwdIdeal.main_arg5)
          ∧ r.2.mem ((c.tc : Thread Cert.Ln1BwdIdeal.nD Cert.Ln1BwdIdeal.τ).loc Cert.Ln1BwdIdeal.main_arg6) = m ((c.tc : Thread Cert.Ln1BwdIdeal.nD Cert.Ln1BwdIdeal.τ).loc Cert.Ln1BwdIdeal.main_arg6)
          ∧ r.2.mem ((c.tc : Thread Cert.Ln1BwdIdeal.nD Cert.Ln1BwdIdeal.τ).loc Cert.Ln1BwdIdeal.main_arg7) = m ((c.tc : Thread Cert.Ln1BwdIdeal.nD Cert.Ln1BwdIdeal.τ).loc Cert.Ln1BwdIdeal.main_arg7)
          ∧ r.2.mem ((c.tc : Thread Cert.Ln1BwdIdeal.nD Cert.Ln1BwdIdeal.τ).loc Cert.Ln1BwdIdeal.main_arg8) = m ((c.tc : Thread Cert.Ln1BwdIdeal.nD Cert.Ln1BwdIdeal.τ).loc Cert.Ln1BwdIdeal.main_arg8)
          ∧ r.2.mem ((c.tc : Thread Cert.Ln1BwdIdeal.nD Cert.Ln1BwdIdeal.τ).loc Cert.Ln1BwdIdeal.main_arg9) = m ((c.tc : Thread Cert.Ln1BwdIdeal.nD Cert.Ln1BwdIdeal.τ).loc Cert.Ln1BwdIdeal.main_arg9)
          ∧ r.2.mem ((c.tc : Thread Cert.Ln1BwdIdeal.nD Cert.Ln1BwdIdeal.τ).loc Cert.Ln1BwdIdeal.main_arg10) = m ((c.tc : Thread Cert.Ln1BwdIdeal.nD Cert.Ln1BwdIdeal.τ).loc Cert.Ln1BwdIdeal.main_arg10))
      ∧ θ_run (Cert.Ln1RefIdeal.defs (F := Ideal)) (onTc (τ := Cert.Ln1RefIdeal.τ) (Cert.Ln1RefIdeal.main (F := Ideal))) ⟨m', fun _ => 0, g'⟩ (fun r => ∀ c : Dev Cert.Ln1RefIdeal.nD,
          r.2.mem ((c.tc : Thread Cert.Ln1RefIdeal.nD Cert.Ln1RefIdeal.τ).loc Cert.Ln1RefIdeal.main_v75) = v0 c
          ∧ r.2.mem ((c.tc : Thread Cert.Ln1RefIdeal.nD Cert.Ln1RefIdeal.τ).loc Cert.Ln1RefIdeal.main_v76) = v1 c
          ∧ r.2.mem ((c.tc : Thread Cert.Ln1RefIdeal.nD Cert.Ln1RefIdeal.τ).loc Cert.Ln1RefIdeal.main_v49) = v2 c
          ∧ r.2.mem ((c.tc : Thread Cert.Ln1RefIdeal.nD Cert.Ln1RefIdeal.τ).loc Cert.Ln1RefIdeal.main_v46) = v3 c
          ∧ r.2.mem ((c.tc : Thread Cert.Ln1RefIdeal.nD Cert.Ln1RefIdeal.τ).loc Cert.Ln1RefIdeal.main_arg0) = m' ((c.tc : Thread Cert.Ln1RefIdeal.nD Cert.Ln1RefIdeal.τ).loc Cert.Ln1RefIdeal.main_arg0)
          ∧ r.2.mem ((c.tc : Thread Cert.Ln1RefIdeal.nD Cert.Ln1RefIdeal.τ).loc Cert.Ln1RefIdeal.main_arg1) = m' ((c.tc : Thread Cert.Ln1RefIdeal.nD Cert.Ln1RefIdeal.τ).loc Cert.Ln1RefIdeal.main_arg1)
          ∧ r.2.mem ((c.tc : Thread Cert.Ln1RefIdeal.nD Cert.Ln1RefIdeal.τ).loc Cert.Ln1RefIdeal.main_arg2) = m' ((c.tc : Thread Cert.Ln1RefIdeal.nD Cert.Ln1RefIdeal.τ).loc Cert.Ln1RefIdeal.main_arg2)
          ∧ r.2.mem ((c.tc : Thread Cert.Ln1RefIdeal.nD Cert.Ln1RefIdeal.τ).loc Cert.Ln1RefIdeal.main_arg3) = m' ((c.tc : Thread Cert.Ln1RefIdeal.nD Cert.Ln1RefIdeal.τ).loc Cert.Ln1RefIdeal.main_arg3)
          ∧ r.2.mem ((c.tc : Thread Cert.Ln1RefIdeal.nD Cert.Ln1RefIdeal.τ).loc Cert.Ln1RefIdeal.main_arg4) = m' ((c.tc : Thread Cert.Ln1RefIdeal.nD Cert.Ln1RefIdeal.τ).loc Cert.Ln1RefIdeal.main_arg4)
          ∧ r.2.mem ((c.tc : Thread Cert.Ln1RefIdeal.nD Cert.Ln1RefIdeal.τ).loc Cert.Ln1RefIdeal.main_arg5) = m' ((c.tc : Thread Cert.Ln1RefIdeal.nD Cert.Ln1RefIdeal.τ).loc Cert.Ln1RefIdeal.main_arg5)
          ∧ r.2.mem ((c.tc : Thread Cert.Ln1RefIdeal.nD Cert.Ln1RefIdeal.τ).loc Cert.Ln1RefIdeal.main_arg6) = m' ((c.tc : Thread Cert.Ln1RefIdeal.nD Cert.Ln1RefIdeal.τ).loc Cert.Ln1RefIdeal.main_arg6)
          ∧ r.2.mem ((c.tc : Thread Cert.Ln1RefIdeal.nD Cert.Ln1RefIdeal.τ).loc Cert.Ln1RefIdeal.main_arg7) = m' ((c.tc : Thread Cert.Ln1RefIdeal.nD Cert.Ln1RefIdeal.τ).loc Cert.Ln1RefIdeal.main_arg7)
          ∧ r.2.mem ((c.tc : Thread Cert.Ln1RefIdeal.nD Cert.Ln1RefIdeal.τ).loc Cert.Ln1RefIdeal.main_arg8) = m' ((c.tc : Thread Cert.Ln1RefIdeal.nD Cert.Ln1RefIdeal.τ).loc Cert.Ln1RefIdeal.main_arg8)
          ∧ r.2.mem ((c.tc : Thread Cert.Ln1RefIdeal.nD Cert.Ln1RefIdeal.τ).loc Cert.Ln1RefIdeal.main_arg9) = m' ((c.tc : Thread Cert.Ln1RefIdeal.nD Cert.Ln1RefIdeal.τ).loc Cert.Ln1RefIdeal.main_arg9)
          ∧ r.2.mem ((c.tc : Thread Cert.Ln1RefIdeal.nD Cert.Ln1RefIdeal.τ).loc Cert.Ln1RefIdeal.main_arg10) = m' ((c.tc : Thread Cert.Ln1RefIdeal.nD Cert.Ln1RefIdeal.τ).loc Cert.Ln1RefIdeal.main_arg10))

def preserves_MixBwd_MixBwdIdeal : Prop :=
  True

def algebraic_MixBwdIdeal_MixRefIdeal_pre_mix_finite [hMixBwdIdeal : Cert.MixBwdIdeal.Facts] [hMixRefIdeal : Cert.MixRefIdeal.Facts] [hPre_mix_finite : Cert.Pre_mix_finite.Facts] : Prop :=
  ∀ (m : (ℓ : Loc Cert.MixBwdIdeal.nD Cert.MixBwdIdeal.τ Cert.MixBwdIdeal.sig) → Buf (Elt Ideal) ℓ) (g : Dev Cert.MixBwdIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixBwdIdeal_mix_finite m →
    (∀ c : Dev Cert.MixBwdIdeal.nD,
      m' ((c.tc : Thread Cert.MixRefIdeal.nD Cert.MixRefIdeal.τ).loc Cert.MixRefIdeal.main_arg0) = m ((c.tc : Thread Cert.MixBwdIdeal.nD Cert.MixBwdIdeal.τ).loc Cert.MixBwdIdeal.main_arg0)
      ∧ m' ((c.tc : Thread Cert.MixRefIdeal.nD Cert.MixRefIdeal.τ).loc Cert.MixRefIdeal.main_arg1) = m ((c.tc : Thread Cert.MixBwdIdeal.nD Cert.MixBwdIdeal.τ).loc Cert.MixBwdIdeal.main_arg1)
      ∧ m' ((c.tc : Thread Cert.MixRefIdeal.nD Cert.MixRefIdeal.τ).loc Cert.MixRefIdeal.main_arg2) = m ((c.tc : Thread Cert.MixBwdIdeal.nD Cert.MixBwdIdeal.τ).loc Cert.MixBwdIdeal.main_arg2)
      ∧ m' ((c.tc : Thread Cert.MixRefIdeal.nD Cert.MixRefIdeal.τ).loc Cert.MixRefIdeal.main_arg3) = m ((c.tc : Thread Cert.MixBwdIdeal.nD Cert.MixBwdIdeal.τ).loc Cert.MixBwdIdeal.main_arg3)
      ∧ m' ((c.tc : Thread Cert.MixRefIdeal.nD Cert.MixRefIdeal.τ).loc Cert.MixRefIdeal.main_arg4) = m ((c.tc : Thread Cert.MixBwdIdeal.nD Cert.MixBwdIdeal.τ).loc Cert.MixBwdIdeal.main_arg4)
      ∧ m' ((c.tc : Thread Cert.MixRefIdeal.nD Cert.MixRefIdeal.τ).loc Cert.MixRefIdeal.main_arg5) = m ((c.tc : Thread Cert.MixBwdIdeal.nD Cert.MixBwdIdeal.τ).loc Cert.MixBwdIdeal.main_arg5)) →
    ∃ (v0 : (c : Dev Cert.MixBwdIdeal.nD) → Buf (Elt Ideal) ((c.tc : Thread Cert.MixBwdIdeal.nD Cert.MixBwdIdeal.τ).loc Cert.MixBwdIdeal.main_v2_0)) (v1 : (c : Dev Cert.MixBwdIdeal.nD) → Buf (Elt Ideal) ((c.tc : Thread Cert.MixBwdIdeal.nD Cert.MixBwdIdeal.τ).loc Cert.MixBwdIdeal.main_v2_1)) (v2 : (c : Dev Cert.MixBwdIdeal.nD) → Buf (Elt Ideal) ((c.tc : Thread Cert.MixBwdIdeal.nD Cert.MixBwdIdeal.τ).loc Cert.MixBwdIdeal.main_v2_2)) (v3 : (c : Dev Cert.MixBwdIdeal.nD) → Buf (Elt Ideal) ((c.tc : Thread Cert.MixBwdIdeal.nD Cert.MixBwdIdeal.τ).loc Cert.MixBwdIdeal.main_v2_3)),
      θ_run (Cert.MixBwdIdeal.defs (F := Ideal)) (onTc (τ := Cert.MixBwdIdeal.τ) (Cert.MixBwdIdeal.main (F := Ideal))) ⟨m, fun _ => 0, g⟩ (fun r => ∀ c : Dev Cert.MixBwdIdeal.nD,
          r.2.mem ((c.tc : Thread Cert.MixBwdIdeal.nD Cert.MixBwdIdeal.τ).loc Cert.MixBwdIdeal.main_v2_0) = v0 c
          ∧ r.2.mem ((c.tc : Thread Cert.MixBwdIdeal.nD Cert.MixBwdIdeal.τ).loc Cert.MixBwdIdeal.main_v2_1) = v1 c
          ∧ r.2.mem ((c.tc : Thread Cert.MixBwdIdeal.nD Cert.MixBwdIdeal.τ).loc Cert.MixBwdIdeal.main_v2_2) = v2 c
          ∧ r.2.mem ((c.tc : Thread Cert.MixBwdIdeal.nD Cert.MixBwdIdeal.τ).loc Cert.MixBwdIdeal.main_v2_3) = v3 c
          ∧ r.2.mem ((c.tc : Thread Cert.MixBwdIdeal.nD Cert.MixBwdIdeal.τ).loc Cert.MixBwdIdeal.main_arg0) = m ((c.tc : Thread Cert.MixBwdIdeal.nD Cert.MixBwdIdeal.τ).loc Cert.MixBwdIdeal.main_arg0)
          ∧ r.2.mem ((c.tc : Thread Cert.MixBwdIdeal.nD Cert.MixBwdIdeal.τ).loc Cert.MixBwdIdeal.main_arg1) = m ((c.tc : Thread Cert.MixBwdIdeal.nD Cert.MixBwdIdeal.τ).loc Cert.MixBwdIdeal.main_arg1)
          ∧ r.2.mem ((c.tc : Thread Cert.MixBwdIdeal.nD Cert.MixBwdIdeal.τ).loc Cert.MixBwdIdeal.main_arg2) = m ((c.tc : Thread Cert.MixBwdIdeal.nD Cert.MixBwdIdeal.τ).loc Cert.MixBwdIdeal.main_arg2)
          ∧ r.2.mem ((c.tc : Thread Cert.MixBwdIdeal.nD Cert.MixBwdIdeal.τ).loc Cert.MixBwdIdeal.main_arg3) = m ((c.tc : Thread Cert.MixBwdIdeal.nD Cert.MixBwdIdeal.τ).loc Cert.MixBwdIdeal.main_arg3)
          ∧ r.2.mem ((c.tc : Thread Cert.MixBwdIdeal.nD Cert.MixBwdIdeal.τ).loc Cert.MixBwdIdeal.main_arg4) = m ((c.tc : Thread Cert.MixBwdIdeal.nD Cert.MixBwdIdeal.τ).loc Cert.MixBwdIdeal.main_arg4)
          ∧ r.2.mem ((c.tc : Thread Cert.MixBwdIdeal.nD Cert.MixBwdIdeal.τ).loc Cert.MixBwdIdeal.main_arg5) = m ((c.tc : Thread Cert.MixBwdIdeal.nD Cert.MixBwdIdeal.τ).loc Cert.MixBwdIdeal.main_arg5))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v72) = v0 c
          ∧ r.2.mem ((c.tc : Thread Cert.MixRefIdeal.nD Cert.MixRefIdeal.τ).loc Cert.MixRefIdeal.main_v73) = v1 c
          ∧ r.2.mem ((c.tc : Thread Cert.MixRefIdeal.nD Cert.MixRefIdeal.τ).loc Cert.MixRefIdeal.main_v58) = v2 c
          ∧ r.2.mem ((c.tc : Thread Cert.MixRefIdeal.nD Cert.MixRefIdeal.τ).loc Cert.MixRefIdeal.main_v41) = v3 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5))

def preserves_Ffn2Bwd_Ffn2BwdIdeal : Prop :=
  True

def algebraic_Ffn2BwdIdeal_Ffn2RefIdeal_pre_ffn2_finite [hFfn2BwdIdeal : Cert.Ffn2BwdIdeal.Facts] [hFfn2RefIdeal : Cert.Ffn2RefIdeal.Facts] [hPre_ffn2_finite : Cert.Pre_ffn2_finite.Facts] : Prop :=
  ∀ (m : (ℓ : Loc Cert.Ffn2BwdIdeal.nD Cert.Ffn2BwdIdeal.τ Cert.Ffn2BwdIdeal.sig) → Buf (Elt Ideal) ℓ) (g : Dev Cert.Ffn2BwdIdeal.nD → PrngReg)
    (m' : (ℓ : Loc Cert.Ffn2RefIdeal.nD Cert.Ffn2RefIdeal.τ Cert.Ffn2RefIdeal.sig) → Buf (Elt Ideal) ℓ) (g' : Dev Cert.Ffn2RefIdeal.nD → PrngReg), Pre_Ffn2BwdIdeal_ffn2_finite m →
    (∀ c : Dev Cert.Ffn2BwdIdeal.nD,
      m' ((c.tc : Thread Cert.Ffn2RefIdeal.nD Cert.Ffn2RefIdeal.τ).loc Cert.Ffn2RefIdeal.main_arg0) = m ((c.tc : Thread Cert.Ffn2BwdIdeal.nD Cert.Ffn2BwdIdeal.τ).loc Cert.Ffn2BwdIdeal.main_arg0)
      ∧ m' ((c.tc : Thread Cert.Ffn2RefIdeal.nD Cert.Ffn2RefIdeal.τ).loc Cert.Ffn2RefIdeal.main_arg1) = m ((c.tc : Thread Cert.Ffn2BwdIdeal.nD Cert.Ffn2BwdIdeal.τ).loc Cert.Ffn2BwdIdeal.main_arg1)
      ∧ m' ((c.tc : Thread Cert.Ffn2RefIdeal.nD Cert.Ffn2RefIdeal.τ).loc Cert.Ffn2RefIdeal.main_arg2) = m ((c.tc : Thread Cert.Ffn2BwdIdeal.nD Cert.Ffn2BwdIdeal.τ).loc Cert.Ffn2BwdIdeal.main_arg2)
      ∧ m' ((c.tc : Thread Cert.Ffn2RefIdeal.nD Cert.Ffn2RefIdeal.τ).loc Cert.Ffn2RefIdeal.main_arg3) = m ((c.tc : Thread Cert.Ffn2BwdIdeal.nD Cert.Ffn2BwdIdeal.τ).loc Cert.Ffn2BwdIdeal.main_arg3)
      ∧ m' ((c.tc : Thread Cert.Ffn2RefIdeal.nD Cert.Ffn2RefIdeal.τ).loc Cert.Ffn2RefIdeal.main_arg4) = m ((c.tc : Thread Cert.Ffn2BwdIdeal.nD Cert.Ffn2BwdIdeal.τ).loc Cert.Ffn2BwdIdeal.main_arg4)
      ∧ m' ((c.tc : Thread Cert.Ffn2RefIdeal.nD Cert.Ffn2RefIdeal.τ).loc Cert.Ffn2RefIdeal.main_arg5) = m ((c.tc : Thread Cert.Ffn2BwdIdeal.nD Cert.Ffn2BwdIdeal.τ).loc Cert.Ffn2BwdIdeal.main_arg5)
      ∧ m' ((c.tc : Thread Cert.Ffn2RefIdeal.nD Cert.Ffn2RefIdeal.τ).loc Cert.Ffn2RefIdeal.main_arg6) = m ((c.tc : Thread Cert.Ffn2BwdIdeal.nD Cert.Ffn2BwdIdeal.τ).loc Cert.Ffn2BwdIdeal.main_arg6)) →
    ∃ (v0 : (c : Dev Cert.Ffn2BwdIdeal.nD) → Buf (Elt Ideal) ((c.tc : Thread Cert.Ffn2BwdIdeal.nD Cert.Ffn2BwdIdeal.τ).loc Cert.Ffn2BwdIdeal.main_v33_0)) (v1 : (c : Dev Cert.Ffn2BwdIdeal.nD) → Buf (Elt Ideal) ((c.tc : Thread Cert.Ffn2BwdIdeal.nD Cert.Ffn2BwdIdeal.τ).loc Cert.Ffn2BwdIdeal.main_v33_1)) (v2 : (c : Dev Cert.Ffn2BwdIdeal.nD) → Buf (Elt Ideal) ((c.tc : Thread Cert.Ffn2BwdIdeal.nD Cert.Ffn2BwdIdeal.τ).loc Cert.Ffn2BwdIdeal.main_v33_2)) (v3 : (c : Dev Cert.Ffn2BwdIdeal.nD) → Buf (Elt Ideal) ((c.tc : Thread Cert.Ffn2BwdIdeal.nD Cert.Ffn2BwdIdeal.τ).loc Cert.Ffn2BwdIdeal.main_v33_3)) (v4 : (c : Dev Cert.Ffn2BwdIdeal.nD) → Buf (Elt Ideal) ((c.tc : Thread Cert.Ffn2BwdIdeal.nD Cert.Ffn2BwdIdeal.τ).loc Cert.Ffn2BwdIdeal.main_v33_4)) (v5 : (c : Dev Cert.Ffn2BwdIdeal.nD) → Buf (Elt Ideal) ((c.tc : Thread Cert.Ffn2BwdIdeal.nD Cert.Ffn2BwdIdeal.τ).loc Cert.Ffn2BwdIdeal.main_v33_5)),
      θ_run (Cert.Ffn2BwdIdeal.defs (F := Ideal)) (onTc (τ := Cert.Ffn2BwdIdeal.τ) (Cert.Ffn2BwdIdeal.main (F := Ideal))) ⟨m, fun _ => 0, g⟩ (fun r => ∀ c : Dev Cert.Ffn2BwdIdeal.nD,
          r.2.mem ((c.tc : Thread Cert.Ffn2BwdIdeal.nD Cert.Ffn2BwdIdeal.τ).loc Cert.Ffn2BwdIdeal.main_v33_0) = v0 c
          ∧ r.2.mem ((c.tc : Thread Cert.Ffn2BwdIdeal.nD Cert.Ffn2BwdIdeal.τ).loc Cert.Ffn2BwdIdeal.main_v33_1) = v1 c
          ∧ r.2.mem ((c.tc : Thread Cert.Ffn2BwdIdeal.nD Cert.Ffn2BwdIdeal.τ).loc Cert.Ffn2BwdIdeal.main_v33_2) = v2 c
          ∧ r.2.mem ((c.tc : Thread Cert.Ffn2BwdIdeal.nD Cert.Ffn2BwdIdeal.τ).loc Cert.Ffn2BwdIdeal.main_v33_3) = v3 c
          ∧ r.2.mem ((c.tc : Thread Cert.Ffn2BwdIdeal.nD Cert.Ffn2BwdIdeal.τ).loc Cert.Ffn2BwdIdeal.main_v33_4) = v4 c
          ∧ r.2.mem ((c.tc : Thread Cert.Ffn2BwdIdeal.nD Cert.Ffn2BwdIdeal.τ).loc Cert.Ffn2BwdIdeal.main_v33_5) = v5 c
          ∧ r.2.mem ((c.tc : Thread Cert.Ffn2BwdIdeal.nD Cert.Ffn2BwdIdeal.τ).loc Cert.Ffn2BwdIdeal.main_arg0) = m ((c.tc : Thread Cert.Ffn2BwdIdeal.nD Cert.Ffn2BwdIdeal.τ).loc Cert.Ffn2BwdIdeal.main_arg0)
          ∧ r.2.mem ((c.tc : Thread Cert.Ffn2BwdIdeal.nD Cert.Ffn2BwdIdeal.τ).loc Cert.Ffn2BwdIdeal.main_arg1) = m ((c.tc : Thread Cert.Ffn2BwdIdeal.nD Cert.Ffn2BwdIdeal.τ).loc Cert.Ffn2BwdIdeal.main_arg1)
          ∧ r.2.mem ((c.tc : Thread Cert.Ffn2BwdIdeal.nD Cert.Ffn2BwdIdeal.τ).loc Cert.Ffn2BwdIdeal.main_arg2) = m ((c.tc : Thread Cert.Ffn2BwdIdeal.nD Cert.Ffn2BwdIdeal.τ).loc Cert.Ffn2BwdIdeal.main_arg2)
          ∧ r.2.mem ((c.tc : Thread Cert.Ffn2BwdIdeal.nD Cert.Ffn2BwdIdeal.τ).loc Cert.Ffn2BwdIdeal.main_arg3) = m ((c.tc : Thread Cert.Ffn2BwdIdeal.nD Cert.Ffn2BwdIdeal.τ).loc Cert.Ffn2BwdIdeal.main_arg3)
          ∧ r.2.mem ((c.tc : Thread Cert.Ffn2BwdIdeal.nD Cert.Ffn2BwdIdeal.τ).loc Cert.Ffn2BwdIdeal.main_arg4) = m ((c.tc : Thread Cert.Ffn2BwdIdeal.nD Cert.Ffn2BwdIdeal.τ).loc Cert.Ffn2BwdIdeal.main_arg4)
          ∧ r.2.mem ((c.tc : Thread Cert.Ffn2BwdIdeal.nD Cert.Ffn2BwdIdeal.τ).loc Cert.Ffn2BwdIdeal.main_arg5) = m ((c.tc : Thread Cert.Ffn2BwdIdeal.nD Cert.Ffn2BwdIdeal.τ).loc Cert.Ffn2BwdIdeal.main_arg5)
          ∧ r.2.mem ((c.tc : Thread Cert.Ffn2BwdIdeal.nD Cert.Ffn2BwdIdeal.τ).loc Cert.Ffn2BwdIdeal.main_arg6) = m ((c.tc : Thread Cert.Ffn2BwdIdeal.nD Cert.Ffn2BwdIdeal.τ).loc Cert.Ffn2BwdIdeal.main_arg6))
      ∧ θ_run (Cert.Ffn2RefIdeal.defs (F := Ideal)) (onTc (τ := Cert.Ffn2RefIdeal.τ) (Cert.Ffn2RefIdeal.main (F := Ideal))) ⟨m', fun _ => 0, g'⟩ (fun r => ∀ c : Dev Cert.Ffn2RefIdeal.nD,
          r.2.mem ((c.tc : Thread Cert.Ffn2RefIdeal.nD Cert.Ffn2RefIdeal.τ).loc Cert.Ffn2RefIdeal.main_v84) = v0 c
          ∧ r.2.mem ((c.tc : Thread Cert.Ffn2RefIdeal.nD Cert.Ffn2RefIdeal.τ).loc Cert.Ffn2RefIdeal.main_v85) = v1 c
          ∧ r.2.mem ((c.tc : Thread Cert.Ffn2RefIdeal.nD Cert.Ffn2RefIdeal.τ).loc Cert.Ffn2RefIdeal.main_v88) = v2 c
          ∧ r.2.mem ((c.tc : Thread Cert.Ffn2RefIdeal.nD Cert.Ffn2RefIdeal.τ).loc Cert.Ffn2RefIdeal.main_v91) = v3 c
          ∧ r.2.mem ((c.tc : Thread Cert.Ffn2RefIdeal.nD Cert.Ffn2RefIdeal.τ).loc Cert.Ffn2RefIdeal.main_v58) = v4 c
          ∧ r.2.mem ((c.tc : Thread Cert.Ffn2RefIdeal.nD Cert.Ffn2RefIdeal.τ).loc Cert.Ffn2RefIdeal.main_v55) = v5 c
          ∧ r.2.mem ((c.tc : Thread Cert.Ffn2RefIdeal.nD Cert.Ffn2RefIdeal.τ).loc Cert.Ffn2RefIdeal.main_arg0) = m' ((c.tc : Thread Cert.Ffn2RefIdeal.nD Cert.Ffn2RefIdeal.τ).loc Cert.Ffn2RefIdeal.main_arg0)
          ∧ r.2.mem ((c.tc : Thread Cert.Ffn2RefIdeal.nD Cert.Ffn2RefIdeal.τ).loc Cert.Ffn2RefIdeal.main_arg1) = m' ((c.tc : Thread Cert.Ffn2RefIdeal.nD Cert.Ffn2RefIdeal.τ).loc Cert.Ffn2RefIdeal.main_arg1)
          ∧ r.2.mem ((c.tc : Thread Cert.Ffn2RefIdeal.nD Cert.Ffn2RefIdeal.τ).loc Cert.Ffn2RefIdeal.main_arg2) = m' ((c.tc : Thread Cert.Ffn2RefIdeal.nD Cert.Ffn2RefIdeal.τ).loc Cert.Ffn2RefIdeal.main_arg2)
          ∧ r.2.mem ((c.tc : Thread Cert.Ffn2RefIdeal.nD Cert.Ffn2RefIdeal.τ).loc Cert.Ffn2RefIdeal.main_arg3) = m' ((c.tc : Thread Cert.Ffn2RefIdeal.nD Cert.Ffn2RefIdeal.τ).loc Cert.Ffn2RefIdeal.main_arg3)
          ∧ r.2.mem ((c.tc : Thread Cert.Ffn2RefIdeal.nD Cert.Ffn2RefIdeal.τ).loc Cert.Ffn2RefIdeal.main_arg4) = m' ((c.tc : Thread Cert.Ffn2RefIdeal.nD Cert.Ffn2RefIdeal.τ).loc Cert.Ffn2RefIdeal.main_arg4)
          ∧ r.2.mem ((c.tc : Thread Cert.Ffn2RefIdeal.nD Cert.Ffn2RefIdeal.τ).loc Cert.Ffn2RefIdeal.main_arg5) = m' ((c.tc : Thread Cert.Ffn2RefIdeal.nD Cert.Ffn2RefIdeal.τ).loc Cert.Ffn2RefIdeal.main_arg5)
          ∧ r.2.mem ((c.tc : Thread Cert.Ffn2RefIdeal.nD Cert.Ffn2RefIdeal.τ).loc Cert.Ffn2RefIdeal.main_arg6) = m' ((c.tc : Thread Cert.Ffn2RefIdeal.nD Cert.Ffn2RefIdeal.τ).loc Cert.Ffn2RefIdeal.main_arg6))

def preserves_LossHead_LossHeadIdeal : Prop :=
  True

def algebraic_LossHeadIdeal_LossRefIdeal_pre_loss_finite [hLossHeadIdeal : Cert.LossHeadIdeal.Facts] [hLossRefIdeal : Cert.LossRefIdeal.Facts] [hPre_loss_finite : Cert.Pre_loss_finite.Facts] : Prop :=
  ∀ (m : (ℓ : Loc Cert.LossHeadIdeal.nD Cert.LossHeadIdeal.τ Cert.LossHeadIdeal.sig) → Buf (Elt Ideal) ℓ) (g : Dev Cert.LossHeadIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossHeadIdeal_loss_finite m →
    (∀ c : Dev Cert.LossHeadIdeal.nD,
      m' ((c.tc : Thread Cert.LossRefIdeal.nD Cert.LossRefIdeal.τ).loc Cert.LossRefIdeal.main_arg0) = m ((c.tc : Thread Cert.LossHeadIdeal.nD Cert.LossHeadIdeal.τ).loc Cert.LossHeadIdeal.main_arg0)
      ∧ m' ((c.tc : Thread Cert.LossRefIdeal.nD Cert.LossRefIdeal.τ).loc Cert.LossRefIdeal.main_arg1) = m ((c.tc : Thread Cert.LossHeadIdeal.nD Cert.LossHeadIdeal.τ).loc Cert.LossHeadIdeal.main_arg1)
      ∧ m' ((c.tc : Thread Cert.LossRefIdeal.nD Cert.LossRefIdeal.τ).loc Cert.LossRefIdeal.main_arg2) = m ((c.tc : Thread Cert.LossHeadIdeal.nD Cert.LossHeadIdeal.τ).loc Cert.LossHeadIdeal.main_arg2)
      ∧ m' ((c.tc : Thread Cert.LossRefIdeal.nD Cert.LossRefIdeal.τ).loc Cert.LossRefIdeal.main_arg3) = m ((c.tc : Thread Cert.LossHeadIdeal.nD Cert.LossHeadIdeal.τ).loc Cert.LossHeadIdeal.main_arg3)
      ∧ m' ((c.tc : Thread Cert.LossRefIdeal.nD Cert.LossRefIdeal.τ).loc Cert.LossRefIdeal.main_arg4) = m ((c.tc : Thread Cert.LossHeadIdeal.nD Cert.LossHeadIdeal.τ).loc Cert.LossHeadIdeal.main_arg4)
      ∧ m' ((c.tc : Thread Cert.LossRefIdeal.nD Cert.LossRefIdeal.τ).loc Cert.LossRefIdeal.main_arg5) = m ((c.tc : Thread Cert.LossHeadIdeal.nD Cert.LossHeadIdeal.τ).loc Cert.LossHeadIdeal.main_arg5)) →
    ∃ (v0 : (c : Dev Cert.LossHeadIdeal.nD) → Buf (Elt Ideal) ((c.tc : Thread Cert.LossHeadIdeal.nD Cert.LossHeadIdeal.τ).loc Cert.LossHeadIdeal.main_v5_0)) (v1 : (c : Dev Cert.LossHeadIdeal.nD) → Buf (Elt Ideal) ((c.tc : Thread Cert.LossHeadIdeal.nD Cert.LossHeadIdeal.τ).loc Cert.LossHeadIdeal.main_v5_1)) (v2 : (c : Dev Cert.LossHeadIdeal.nD) → Buf (Elt Ideal) ((c.tc : Thread Cert.LossHeadIdeal.nD Cert.LossHeadIdeal.τ).loc Cert.LossHeadIdeal.main_v5_2)) (v3 : (c : Dev Cert.LossHeadIdeal.nD) → Buf (Elt Ideal) ((c.tc : Thread Cert.LossHeadIdeal.nD Cert.LossHeadIdeal.τ).loc Cert.LossHeadIdeal.main_v5_3)) (v4 : (c : Dev Cert.LossHeadIdeal.nD) → Buf (Elt Ideal) ((c.tc : Thread Cert.LossHeadIdeal.nD Cert.LossHeadIdeal.τ).loc Cert.LossHeadIdeal.main_v5_4)) (v5 : (c : Dev Cert.LossHeadIdeal.nD) → Buf (Elt Ideal) ((c.tc : Thread Cert.LossHeadIdeal.nD Cert.LossHeadIdeal.τ).loc Cert.LossHeadIdeal.main_v5_5)),
      θ_run (Cert.LossHeadIdeal.defs (F := Ideal)) (onTc (τ := Cert.LossHeadIdeal.τ) (Cert.LossHeadIdeal.main (F := Ideal))) ⟨m, fun _ => 0, g⟩ (fun r => ∀ c : Dev Cert.LossHeadIdeal.nD,
          r.2.mem ((c.tc : Thread Cert.LossHeadIdeal.nD Cert.LossHeadIdeal.τ).loc Cert.LossHeadIdeal.main_v5_0) = v0 c
          ∧ r.2.mem ((c.tc : Thread Cert.LossHeadIdeal.nD Cert.LossHeadIdeal.τ).loc Cert.LossHeadIdeal.main_v5_1) = v1 c
          ∧ r.2.mem ((c.tc : Thread Cert.LossHeadIdeal.nD Cert.LossHeadIdeal.τ).loc Cert.LossHeadIdeal.main_v5_2) = v2 c
          ∧ r.2.mem ((c.tc : Thread Cert.LossHeadIdeal.nD Cert.LossHeadIdeal.τ).loc Cert.LossHeadIdeal.main_v5_3) = v3 c
          ∧ r.2.mem ((c.tc : Thread Cert.LossHeadIdeal.nD Cert.LossHeadIdeal.τ).loc Cert.LossHeadIdeal.main_v5_4) = v4 c
          ∧ r.2.mem ((c.tc : Thread Cert.LossHeadIdeal.nD Cert.LossHeadIdeal.τ).loc Cert.LossHeadIdeal.main_v5_5) = v5 c
          ∧ r.2.mem ((c.tc : Thread Cert.LossHeadIdeal.nD Cert.LossHeadIdeal.τ).loc Cert.LossHeadIdeal.main_arg0) = m ((c.tc : Thread Cert.LossHeadIdeal.nD Cert.LossHeadIdeal.τ).loc Cert.LossHeadIdeal.main_arg0)
          ∧ r.2.mem ((c.tc : Thread Cert.LossHeadIdeal.nD Cert.LossHeadIdeal.τ).loc Cert.LossHeadIdeal.main_arg1) = m ((c.tc : Thread Cert.LossHeadIdeal.nD Cert.LossHeadIdeal.τ).loc Cert.LossHeadIdeal.main_arg1)
          ∧ r.2.mem ((c.tc : Thread Cert.LossHeadIdeal.nD Cert.LossHeadIdeal.τ).loc Cert.LossHeadIdeal.main_arg2) = m ((c.tc : Thread Cert.LossHeadIdeal.nD Cert.LossHeadIdeal.τ).loc Cert.LossHeadIdeal.main_arg2)
          ∧ r.2.mem ((c.tc : Thread Cert.LossHeadIdeal.nD Cert.LossHeadIdeal.τ).loc Cert.LossHeadIdeal.main_arg3) = m ((c.tc : Thread Cert.LossHeadIdeal.nD Cert.LossHeadIdeal.τ).loc Cert.LossHeadIdeal.main_arg3)
          ∧ r.2.mem ((c.tc : Thread Cert.LossHeadIdeal.nD Cert.LossHeadIdeal.τ).loc Cert.LossHeadIdeal.main_arg4) = m ((c.tc : Thread Cert.LossHeadIdeal.nD Cert.LossHeadIdeal.τ).loc Cert.LossHeadIdeal.main_arg4)
          ∧ r.2.mem ((c.tc : Thread Cert.LossHeadIdeal.nD Cert.LossHeadIdeal.τ).loc Cert.LossHeadIdeal.main_arg5) = m ((c.tc : Thread Cert.LossHeadIdeal.nD Cert.LossHeadIdeal.τ).loc Cert.LossHeadIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v86) = v0 c
          ∧ r.2.mem ((c.tc : Thread Cert.LossRefIdeal.nD Cert.LossRefIdeal.τ).loc Cert.LossRefIdeal.main_v83) = v1 c
          ∧ r.2.mem ((c.tc : Thread Cert.LossRefIdeal.nD Cert.LossRefIdeal.τ).loc Cert.LossRefIdeal.main_v87) = v2 c
          ∧ r.2.mem ((c.tc : Thread Cert.LossRefIdeal.nD Cert.LossRefIdeal.τ).loc Cert.LossRefIdeal.main_v57) = v3 c
          ∧ r.2.mem ((c.tc : Thread Cert.LossRefIdeal.nD Cert.LossRefIdeal.τ).loc Cert.LossRefIdeal.main_v54) = v4 c
          ∧ r.2.mem ((c.tc : Thread Cert.LossRefIdeal.nD Cert.LossRefIdeal.τ).loc Cert.LossRefIdeal.main_v88) = v5 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def preserves_SbFwd_SbFwdIdeal : Prop :=
  IdealRules.named_const.Statement Cert.SbFwdIdeal.κ "skip" .f32 0xC2DC0000#32 ⊥

def algebraic_SbFwdIdeal_SbFwdRefIdeal_pre_sb_fwd_finite [hSbFwdIdeal : Cert.SbFwdIdeal.Facts] [hSbFwdRefIdeal : Cert.SbFwdRefIdeal.Facts] [hPre_sb_fwd_finite : Cert.Pre_sb_fwd_finite.Facts] : Prop :=
  ∀ (m : (ℓ : Loc Cert.SbFwdIdeal.nD Cert.SbFwdIdeal.τ Cert.SbFwdIdeal.sig) → Buf (Elt Ideal) ℓ) (g : Dev Cert.SbFwdIdeal.nD → PrngReg)
    (m' : (ℓ : Loc Cert.SbFwdRefIdeal.nD Cert.SbFwdRefIdeal.τ Cert.SbFwdRefIdeal.sig) → Buf (Elt Ideal) ℓ) (g' : Dev Cert.SbFwdRefIdeal.nD → PrngReg), Pre_SbFwdIdeal_sb_fwd_finite m →
    (∀ c : Dev Cert.SbFwdIdeal.nD,
      m' ((c.tc : Thread Cert.SbFwdRefIdeal.nD Cert.SbFwdRefIdeal.τ).loc Cert.SbFwdRefIdeal.main_arg0) = m ((c.tc : Thread Cert.SbFwdIdeal.nD Cert.SbFwdIdeal.τ).loc Cert.SbFwdIdeal.main_arg0)
      ∧ m' ((c.tc : Thread Cert.SbFwdRefIdeal.nD Cert.SbFwdRefIdeal.τ).loc Cert.SbFwdRefIdeal.main_arg1) = m ((c.tc : Thread Cert.SbFwdIdeal.nD Cert.SbFwdIdeal.τ).loc Cert.SbFwdIdeal.main_arg1)
      ∧ m' ((c.tc : Thread Cert.SbFwdRefIdeal.nD Cert.SbFwdRefIdeal.τ).loc Cert.SbFwdRefIdeal.main_arg2) = m ((c.tc : Thread Cert.SbFwdIdeal.nD Cert.SbFwdIdeal.τ).loc Cert.SbFwdIdeal.main_arg2)) →
    ∃ (v0 : (c : Dev Cert.SbFwdIdeal.nD) → Buf (Elt Ideal) ((c.tc : Thread Cert.SbFwdIdeal.nD Cert.SbFwdIdeal.τ).loc Cert.SbFwdIdeal.main_v5)),
      θ_run (Cert.SbFwdIdeal.defs (F := Ideal)) (onTc (τ := Cert.SbFwdIdeal.τ) (Cert.SbFwdIdeal.main (F := Ideal))) ⟨m, fun _ => 0, g⟩ (fun r => ∀ c : Dev Cert.SbFwdIdeal.nD,
          r.2.mem ((c.tc : Thread Cert.SbFwdIdeal.nD Cert.SbFwdIdeal.τ).loc Cert.SbFwdIdeal.main_v5) = v0 c
          ∧ r.2.mem ((c.tc : Thread Cert.SbFwdIdeal.nD Cert.SbFwdIdeal.τ).loc Cert.SbFwdIdeal.main_arg0) = m ((c.tc : Thread Cert.SbFwdIdeal.nD Cert.SbFwdIdeal.τ).loc Cert.SbFwdIdeal.main_arg0)
          ∧ r.2.mem ((c.tc : Thread Cert.SbFwdIdeal.nD Cert.SbFwdIdeal.τ).loc Cert.SbFwdIdeal.main_arg1) = m ((c.tc : Thread Cert.SbFwdIdeal.nD Cert.SbFwdIdeal.τ).loc Cert.SbFwdIdeal.main_arg1)
          ∧ r.2.mem ((c.tc : Thread Cert.SbFwdIdeal.nD Cert.SbFwdIdeal.τ).loc Cert.SbFwdIdeal.main_arg2) = m ((c.tc : Thread Cert.SbFwdIdeal.nD Cert.SbFwdIdeal.τ).loc Cert.SbFwdIdeal.main_arg2))
      ∧ θ_run (Cert.SbFwdRefIdeal.defs (F := Ideal)) (onTc (τ := Cert.SbFwdRefIdeal.τ) (Cert.SbFwdRefIdeal.main (F := Ideal))) ⟨m', fun _ => 0, g'⟩ (fun r => ∀ c : Dev Cert.SbFwdRefIdeal.nD,
          r.2.mem ((c.tc : Thread Cert.SbFwdRefIdeal.nD Cert.SbFwdRefIdeal.τ).loc Cert.SbFwdRefIdeal.main_v27) = v0 c
          ∧ r.2.mem ((c.tc : Thread Cert.SbFwdRefIdeal.nD Cert.SbFwdRefIdeal.τ).loc Cert.SbFwdRefIdeal.main_arg0) = m' ((c.tc : Thread Cert.SbFwdRefIdeal.nD Cert.SbFwdRefIdeal.τ).loc Cert.SbFwdRefIdeal.main_arg0)
          ∧ r.2.mem ((c.tc : Thread Cert.SbFwdRefIdeal.nD Cert.SbFwdRefIdeal.τ).loc Cert.SbFwdRefIdeal.main_arg1) = m' ((c.tc : Thread Cert.SbFwdRefIdeal.nD Cert.SbFwdRefIdeal.τ).loc Cert.SbFwdRefIdeal.main_arg1)
          ∧ r.2.mem ((c.tc : Thread Cert.SbFwdRefIdeal.nD Cert.SbFwdRefIdeal.τ).loc Cert.SbFwdRefIdeal.main_arg2) = m' ((c.tc : Thread Cert.SbFwdRefIdeal.nD Cert.SbFwdRefIdeal.τ).loc Cert.SbFwdRefIdeal.main_arg2))

def preserves_CrossFwd_CrossFwdIdeal : Prop :=
  True

def algebraic_CrossFwdIdeal_CrossFwdRefIdeal [hCrossFwdIdeal : Cert.CrossFwdIdeal.Facts] [hCrossFwdRefIdeal : Cert.CrossFwdRefIdeal.Facts] : Prop :=
  ∀ (m : (ℓ : Loc Cert.CrossFwdIdeal.nD Cert.CrossFwdIdeal.τ Cert.CrossFwdIdeal.sig) → Buf (Elt Ideal) ℓ) (g : Dev Cert.CrossFwdIdeal.nD → PrngReg)
    (m' : (ℓ : Loc Cert.CrossFwdRefIdeal.nD Cert.CrossFwdRefIdeal.τ Cert.CrossFwdRefIdeal.sig) → Buf (Elt Ideal) ℓ) (g' : Dev Cert.CrossFwdRefIdeal.nD → PrngReg), Pre_CrossFwdIdeal m →
    (∀ c : Dev Cert.CrossFwdIdeal.nD,
      m' ((c.tc : Thread Cert.CrossFwdRefIdeal.nD Cert.CrossFwdRefIdeal.τ).loc Cert.CrossFwdRefIdeal.main_arg0) = m ((c.tc : Thread Cert.CrossFwdIdeal.nD Cert.CrossFwdIdeal.τ).loc Cert.CrossFwdIdeal.main_arg0)
      ∧ m' ((c.tc : Thread Cert.CrossFwdRefIdeal.nD Cert.CrossFwdRefIdeal.τ).loc Cert.CrossFwdRefIdeal.main_arg1) = m ((c.tc : Thread Cert.CrossFwdIdeal.nD Cert.CrossFwdIdeal.τ).loc Cert.CrossFwdIdeal.main_arg1)) →
    ∃ (v0 : (c : Dev Cert.CrossFwdIdeal.nD) → Buf (Elt Ideal) ((c.tc : Thread Cert.CrossFwdIdeal.nD Cert.CrossFwdIdeal.τ).loc Cert.CrossFwdIdeal.main_v3)),
      θ_run (Cert.CrossFwdIdeal.defs (F := Ideal)) (onTc (τ := Cert.CrossFwdIdeal.τ) (Cert.CrossFwdIdeal.main (F := Ideal))) ⟨m, fun _ => 0, g⟩ (fun r => ∀ c : Dev Cert.CrossFwdIdeal.nD,
          r.2.mem ((c.tc : Thread Cert.CrossFwdIdeal.nD Cert.CrossFwdIdeal.τ).loc Cert.CrossFwdIdeal.main_v3) = v0 c
          ∧ r.2.mem ((c.tc : Thread Cert.CrossFwdIdeal.nD Cert.CrossFwdIdeal.τ).loc Cert.CrossFwdIdeal.main_arg0) = m ((c.tc : Thread Cert.CrossFwdIdeal.nD Cert.CrossFwdIdeal.τ).loc Cert.CrossFwdIdeal.main_arg0)
          ∧ r.2.mem ((c.tc : Thread Cert.CrossFwdIdeal.nD Cert.CrossFwdIdeal.τ).loc Cert.CrossFwdIdeal.main_arg1) = m ((c.tc : Thread Cert.CrossFwdIdeal.nD Cert.CrossFwdIdeal.τ).loc Cert.CrossFwdIdeal.main_arg1))
      ∧ θ_run (Cert.CrossFwdRefIdeal.defs (F := Ideal)) (onTc (τ := Cert.CrossFwdRefIdeal.τ) (Cert.CrossFwdRefIdeal.main (F := Ideal))) ⟨m', fun _ => 0, g'⟩ (fun r => ∀ c : Dev Cert.CrossFwdRefIdeal.nD,
          r.2.mem ((c.tc : Thread Cert.CrossFwdRefIdeal.nD Cert.CrossFwdRefIdeal.τ).loc Cert.CrossFwdRefIdeal.main_v22) = v0 c
          ∧ r.2.mem ((c.tc : Thread Cert.CrossFwdRefIdeal.nD Cert.CrossFwdRefIdeal.τ).loc Cert.CrossFwdRefIdeal.main_arg0) = m' ((c.tc : Thread Cert.CrossFwdRefIdeal.nD Cert.CrossFwdRefIdeal.τ).loc Cert.CrossFwdRefIdeal.main_arg0)
          ∧ r.2.mem ((c.tc : Thread Cert.CrossFwdRefIdeal.nD Cert.CrossFwdRefIdeal.τ).loc Cert.CrossFwdRefIdeal.main_arg1) = m' ((c.tc : Thread Cert.CrossFwdRefIdeal.nD Cert.CrossFwdRefIdeal.τ).loc Cert.CrossFwdRefIdeal.main_arg1))

def preserves_MixFwd_MixFwdIdeal : Prop :=
  True

def algebraic_MixFwdIdeal_MixFwdRefIdeal [hMixFwdIdeal : Cert.MixFwdIdeal.Facts] [hMixFwdRefIdeal : Cert.MixFwdRefIdeal.Facts] : Prop :=
  ∀ (m : (ℓ : Loc Cert.MixFwdIdeal.nD Cert.MixFwdIdeal.τ Cert.MixFwdIdeal.sig) → Buf (Elt Ideal) ℓ) (g : Dev Cert.MixFwdIdeal.nD → PrngReg)
    (m' : (ℓ : Loc Cert.MixFwdRefIdeal.nD Cert.MixFwdRefIdeal.τ Cert.MixFwdRefIdeal.sig) → Buf (Elt Ideal) ℓ) (g' : Dev Cert.MixFwdRefIdeal.nD → PrngReg), Pre_MixFwdIdeal m →
    (∀ c : Dev Cert.MixFwdIdeal.nD,
      m' ((c.tc : Thread Cert.MixFwdRefIdeal.nD Cert.MixFwdRefIdeal.τ).loc Cert.MixFwdRefIdeal.main_arg0) = m ((c.tc : Thread Cert.MixFwdIdeal.nD Cert.MixFwdIdeal.τ).loc Cert.MixFwdIdeal.main_arg0)
      ∧ m' ((c.tc : Thread Cert.MixFwdRefIdeal.nD Cert.MixFwdRefIdeal.τ).loc Cert.MixFwdRefIdeal.main_arg1) = m ((c.tc : Thread Cert.MixFwdIdeal.nD Cert.MixFwdIdeal.τ).loc Cert.MixFwdIdeal.main_arg1)
      ∧ m' ((c.tc : Thread Cert.MixFwdRefIdeal.nD Cert.MixFwdRefIdeal.τ).loc Cert.MixFwdRefIdeal.main_arg2) = m ((c.tc : Thread Cert.MixFwdIdeal.nD Cert.MixFwdIdeal.τ).loc Cert.MixFwdIdeal.main_arg2)
      ∧ m' ((c.tc : Thread Cert.MixFwdRefIdeal.nD Cert.MixFwdRefIdeal.τ).loc Cert.MixFwdRefIdeal.main_arg3) = m ((c.tc : Thread Cert.MixFwdIdeal.nD Cert.MixFwdIdeal.τ).loc Cert.MixFwdIdeal.main_arg3)) →
    ∃ (v0 : (c : Dev Cert.MixFwdIdeal.nD) → Buf (Elt Ideal) ((c.tc : Thread Cert.MixFwdIdeal.nD Cert.MixFwdIdeal.τ).loc Cert.MixFwdIdeal.main_v0)),
      θ_run (Cert.MixFwdIdeal.defs (F := Ideal)) (onTc (τ := Cert.MixFwdIdeal.τ) (Cert.MixFwdIdeal.main (F := Ideal))) ⟨m, fun _ => 0, g⟩ (fun r => ∀ c : Dev Cert.MixFwdIdeal.nD,
          r.2.mem ((c.tc : Thread Cert.MixFwdIdeal.nD Cert.MixFwdIdeal.τ).loc Cert.MixFwdIdeal.main_v0) = v0 c
          ∧ r.2.mem ((c.tc : Thread Cert.MixFwdIdeal.nD Cert.MixFwdIdeal.τ).loc Cert.MixFwdIdeal.main_arg0) = m ((c.tc : Thread Cert.MixFwdIdeal.nD Cert.MixFwdIdeal.τ).loc Cert.MixFwdIdeal.main_arg0)
          ∧ r.2.mem ((c.tc : Thread Cert.MixFwdIdeal.nD Cert.MixFwdIdeal.τ).loc Cert.MixFwdIdeal.main_arg1) = m ((c.tc : Thread Cert.MixFwdIdeal.nD Cert.MixFwdIdeal.τ).loc Cert.MixFwdIdeal.main_arg1)
          ∧ r.2.mem ((c.tc : Thread Cert.MixFwdIdeal.nD Cert.MixFwdIdeal.τ).loc Cert.MixFwdIdeal.main_arg2) = m ((c.tc : Thread Cert.MixFwdIdeal.nD Cert.MixFwdIdeal.τ).loc Cert.MixFwdIdeal.main_arg2)
          ∧ r.2.mem ((c.tc : Thread Cert.MixFwdIdeal.nD Cert.MixFwdIdeal.τ).loc Cert.MixFwdIdeal.main_arg3) = m ((c.tc : Thread Cert.MixFwdIdeal.nD Cert.MixFwdIdeal.τ).loc Cert.MixFwdIdeal.main_arg3))
      ∧ θ_run (Cert.MixFwdRefIdeal.defs (F := Ideal)) (onTc (τ := Cert.MixFwdRefIdeal.τ) (Cert.MixFwdRefIdeal.main (F := Ideal))) ⟨m', fun _ => 0, g'⟩ (fun r => ∀ c : Dev Cert.MixFwdRefIdeal.nD,
          r.2.mem ((c.tc : Thread Cert.MixFwdRefIdeal.nD Cert.MixFwdRefIdeal.τ).loc Cert.MixFwdRefIdeal.main_v25) = v0 c
          ∧ r.2.mem ((c.tc : Thread Cert.MixFwdRefIdeal.nD Cert.MixFwdRefIdeal.τ).loc Cert.MixFwdRefIdeal.main_arg0) = m' ((c.tc : Thread Cert.MixFwdRefIdeal.nD Cert.MixFwdRefIdeal.τ).loc Cert.MixFwdRefIdeal.main_arg0)
          ∧ r.2.mem ((c.tc : Thread Cert.MixFwdRefIdeal.nD Cert.MixFwdRefIdeal.τ).loc Cert.MixFwdRefIdeal.main_arg1) = m' ((c.tc : Thread Cert.MixFwdRefIdeal.nD Cert.MixFwdRefIdeal.τ).loc Cert.MixFwdRefIdeal.main_arg1)
          ∧ r.2.mem ((c.tc : Thread Cert.MixFwdRefIdeal.nD Cert.MixFwdRefIdeal.τ).loc Cert.MixFwdRefIdeal.main_arg2) = m' ((c.tc : Thread Cert.MixFwdRefIdeal.nD Cert.MixFwdRefIdeal.τ).loc Cert.MixFwdRefIdeal.main_arg2)
          ∧ r.2.mem ((c.tc : Thread Cert.MixFwdRefIdeal.nD Cert.MixFwdRefIdeal.τ).loc Cert.MixFwdRefIdeal.main_arg3) = m' ((c.tc : Thread Cert.MixFwdRefIdeal.nD Cert.MixFwdRefIdeal.τ).loc Cert.MixFwdRefIdeal.main_arg3))

def preserves_LnFwd_LnFwdIdeal : Prop :=
  True

def algebraic_LnFwdIdeal_LnFwdRefIdeal [hLnFwdIdeal : Cert.LnFwdIdeal.Facts] [hLnFwdRefIdeal : Cert.LnFwdRefIdeal.Facts] : Prop :=
  ∀ (m : (ℓ : Loc Cert.LnFwdIdeal.nD Cert.LnFwdIdeal.τ Cert.LnFwdIdeal.sig) → Buf (Elt Ideal) ℓ) (g : Dev Cert.LnFwdIdeal.nD → PrngReg)
    (m' : (ℓ : Loc Cert.LnFwdRefIdeal.nD Cert.LnFwdRefIdeal.τ Cert.LnFwdRefIdeal.sig) → Buf (Elt Ideal) ℓ) (g' : Dev Cert.LnFwdRefIdeal.nD → PrngReg), Pre_LnFwdIdeal m →
    (∀ c : Dev Cert.LnFwdIdeal.nD,
      m' ((c.tc : Thread Cert.LnFwdRefIdeal.nD Cert.LnFwdRefIdeal.τ).loc Cert.LnFwdRefIdeal.main_arg0) = m ((c.tc : Thread Cert.LnFwdIdeal.nD Cert.LnFwdIdeal.τ).loc Cert.LnFwdIdeal.main_arg0)
      ∧ m' ((c.tc : Thread Cert.LnFwdRefIdeal.nD Cert.LnFwdRefIdeal.τ).loc Cert.LnFwdRefIdeal.main_arg1) = m ((c.tc : Thread Cert.LnFwdIdeal.nD Cert.LnFwdIdeal.τ).loc Cert.LnFwdIdeal.main_arg1)
      ∧ m' ((c.tc : Thread Cert.LnFwdRefIdeal.nD Cert.LnFwdRefIdeal.τ).loc Cert.LnFwdRefIdeal.main_arg2) = m ((c.tc : Thread Cert.LnFwdIdeal.nD Cert.LnFwdIdeal.τ).loc Cert.LnFwdIdeal.main_arg2)
      ∧ m' ((c.tc : Thread Cert.LnFwdRefIdeal.nD Cert.LnFwdRefIdeal.τ).loc Cert.LnFwdRefIdeal.main_arg3) = m ((c.tc : Thread Cert.LnFwdIdeal.nD Cert.LnFwdIdeal.τ).loc Cert.LnFwdIdeal.main_arg3)
      ∧ m' ((c.tc : Thread Cert.LnFwdRefIdeal.nD Cert.LnFwdRefIdeal.τ).loc Cert.LnFwdRefIdeal.main_arg4) = m ((c.tc : Thread Cert.LnFwdIdeal.nD Cert.LnFwdIdeal.τ).loc Cert.LnFwdIdeal.main_arg4)) →
    ∃ (v0 : (c : Dev Cert.LnFwdIdeal.nD) → Buf (Elt Ideal) ((c.tc : Thread Cert.LnFwdIdeal.nD Cert.LnFwdIdeal.τ).loc Cert.LnFwdIdeal.main_v2_0)) (v1 : (c : Dev Cert.LnFwdIdeal.nD) → Buf (Elt Ideal) ((c.tc : Thread Cert.LnFwdIdeal.nD Cert.LnFwdIdeal.τ).loc Cert.LnFwdIdeal.main_v2_1)) (v2 : (c : Dev Cert.LnFwdIdeal.nD) → Buf (Elt Ideal) ((c.tc : Thread Cert.LnFwdIdeal.nD Cert.LnFwdIdeal.τ).loc Cert.LnFwdIdeal.main_v2_2)),
      θ_run (Cert.LnFwdIdeal.defs (F := Ideal)) (onTc (τ := Cert.LnFwdIdeal.τ) (Cert.LnFwdIdeal.main (F := Ideal))) ⟨m, fun _ => 0, g⟩ (fun r => ∀ c : Dev Cert.LnFwdIdeal.nD,
          r.2.mem ((c.tc : Thread Cert.LnFwdIdeal.nD Cert.LnFwdIdeal.τ).loc Cert.LnFwdIdeal.main_v2_0) = v0 c
          ∧ r.2.mem ((c.tc : Thread Cert.LnFwdIdeal.nD Cert.LnFwdIdeal.τ).loc Cert.LnFwdIdeal.main_v2_1) = v1 c
          ∧ r.2.mem ((c.tc : Thread Cert.LnFwdIdeal.nD Cert.LnFwdIdeal.τ).loc Cert.LnFwdIdeal.main_v2_2) = v2 c
          ∧ r.2.mem ((c.tc : Thread Cert.LnFwdIdeal.nD Cert.LnFwdIdeal.τ).loc Cert.LnFwdIdeal.main_arg0) = m ((c.tc : Thread Cert.LnFwdIdeal.nD Cert.LnFwdIdeal.τ).loc Cert.LnFwdIdeal.main_arg0)
          ∧ r.2.mem ((c.tc : Thread Cert.LnFwdIdeal.nD Cert.LnFwdIdeal.τ).loc Cert.LnFwdIdeal.main_arg1) = m ((c.tc : Thread Cert.LnFwdIdeal.nD Cert.LnFwdIdeal.τ).loc Cert.LnFwdIdeal.main_arg1)
          ∧ r.2.mem ((c.tc : Thread Cert.LnFwdIdeal.nD Cert.LnFwdIdeal.τ).loc Cert.LnFwdIdeal.main_arg2) = m ((c.tc : Thread Cert.LnFwdIdeal.nD Cert.LnFwdIdeal.τ).loc Cert.LnFwdIdeal.main_arg2)
          ∧ r.2.mem ((c.tc : Thread Cert.LnFwdIdeal.nD Cert.LnFwdIdeal.τ).loc Cert.LnFwdIdeal.main_arg3) = m ((c.tc : Thread Cert.LnFwdIdeal.nD Cert.LnFwdIdeal.τ).loc Cert.LnFwdIdeal.main_arg3)
          ∧ r.2.mem ((c.tc : Thread Cert.LnFwdIdeal.nD Cert.LnFwdIdeal.τ).loc Cert.LnFwdIdeal.main_arg4) = m ((c.tc : Thread Cert.LnFwdIdeal.nD Cert.LnFwdIdeal.τ).loc Cert.LnFwdIdeal.main_arg4))
      ∧ θ_run (Cert.LnFwdRefIdeal.defs (F := Ideal)) (onTc (τ := Cert.LnFwdRefIdeal.τ) (Cert.LnFwdRefIdeal.main (F := Ideal))) ⟨m', fun _ => 0, g'⟩ (fun r => ∀ c : Dev Cert.LnFwdRefIdeal.nD,
          r.2.mem ((c.tc : Thread Cert.LnFwdRefIdeal.nD Cert.LnFwdRefIdeal.τ).loc Cert.LnFwdRefIdeal.main_v26) = v0 c
          ∧ r.2.mem ((c.tc : Thread Cert.LnFwdRefIdeal.nD Cert.LnFwdRefIdeal.τ).loc Cert.LnFwdRefIdeal.main_v25) = v1 c
          ∧ r.2.mem ((c.tc : Thread Cert.LnFwdRefIdeal.nD Cert.LnFwdRefIdeal.τ).loc Cert.LnFwdRefIdeal.main_v27) = v2 c
          ∧ r.2.mem ((c.tc : Thread Cert.LnFwdRefIdeal.nD Cert.LnFwdRefIdeal.τ).loc Cert.LnFwdRefIdeal.main_arg0) = m' ((c.tc : Thread Cert.LnFwdRefIdeal.nD Cert.LnFwdRefIdeal.τ).loc Cert.LnFwdRefIdeal.main_arg0)
          ∧ r.2.mem ((c.tc : Thread Cert.LnFwdRefIdeal.nD Cert.LnFwdRefIdeal.τ).loc Cert.LnFwdRefIdeal.main_arg1) = m' ((c.tc : Thread Cert.LnFwdRefIdeal.nD Cert.LnFwdRefIdeal.τ).loc Cert.LnFwdRefIdeal.main_arg1)
          ∧ r.2.mem ((c.tc : Thread Cert.LnFwdRefIdeal.nD Cert.LnFwdRefIdeal.τ).loc Cert.LnFwdRefIdeal.main_arg2) = m' ((c.tc : Thread Cert.LnFwdRefIdeal.nD Cert.LnFwdRefIdeal.τ).loc Cert.LnFwdRefIdeal.main_arg2)
          ∧ r.2.mem ((c.tc : Thread Cert.LnFwdRefIdeal.nD Cert.LnFwdRefIdeal.τ).loc Cert.LnFwdRefIdeal.main_arg3) = m' ((c.tc : Thread Cert.LnFwdRefIdeal.nD Cert.LnFwdRefIdeal.τ).loc Cert.LnFwdRefIdeal.main_arg3)
          ∧ r.2.mem ((c.tc : Thread Cert.LnFwdRefIdeal.nD Cert.LnFwdRefIdeal.τ).loc Cert.LnFwdRefIdeal.main_arg4) = m' ((c.tc : Thread Cert.LnFwdRefIdeal.nD Cert.LnFwdRefIdeal.τ).loc Cert.LnFwdRefIdeal.main_arg4))

def preserves_FfnFwd_FfnFwdIdeal : Prop :=
  True

def algebraic_FfnFwdIdeal_FfnFwdRefIdeal [hFfnFwdIdeal : Cert.FfnFwdIdeal.Facts] [hFfnFwdRefIdeal : Cert.FfnFwdRefIdeal.Facts] : Prop :=
  ∀ (m : (ℓ : Loc Cert.FfnFwdIdeal.nD Cert.FfnFwdIdeal.τ Cert.FfnFwdIdeal.sig) → Buf (Elt Ideal) ℓ) (g : Dev Cert.FfnFwdIdeal.nD → PrngReg)
    (m' : (ℓ : Loc Cert.FfnFwdRefIdeal.nD Cert.FfnFwdRefIdeal.τ Cert.FfnFwdRefIdeal.sig) → Buf (Elt Ideal) ℓ) (g' : Dev Cert.FfnFwdRefIdeal.nD → PrngReg), Pre_FfnFwdIdeal m →
    (∀ c : Dev Cert.FfnFwdIdeal.nD,
      m' ((c.tc : Thread Cert.FfnFwdRefIdeal.nD Cert.FfnFwdRefIdeal.τ).loc Cert.FfnFwdRefIdeal.main_arg0) = m ((c.tc : Thread Cert.FfnFwdIdeal.nD Cert.FfnFwdIdeal.τ).loc Cert.FfnFwdIdeal.main_arg0)
      ∧ m' ((c.tc : Thread Cert.FfnFwdRefIdeal.nD Cert.FfnFwdRefIdeal.τ).loc Cert.FfnFwdRefIdeal.main_arg1) = m ((c.tc : Thread Cert.FfnFwdIdeal.nD Cert.FfnFwdIdeal.τ).loc Cert.FfnFwdIdeal.main_arg1)
      ∧ m' ((c.tc : Thread Cert.FfnFwdRefIdeal.nD Cert.FfnFwdRefIdeal.τ).loc Cert.FfnFwdRefIdeal.main_arg2) = m ((c.tc : Thread Cert.FfnFwdIdeal.nD Cert.FfnFwdIdeal.τ).loc Cert.FfnFwdIdeal.main_arg2)
      ∧ m' ((c.tc : Thread Cert.FfnFwdRefIdeal.nD Cert.FfnFwdRefIdeal.τ).loc Cert.FfnFwdRefIdeal.main_arg3) = m ((c.tc : Thread Cert.FfnFwdIdeal.nD Cert.FfnFwdIdeal.τ).loc Cert.FfnFwdIdeal.main_arg3)
      ∧ m' ((c.tc : Thread Cert.FfnFwdRefIdeal.nD Cert.FfnFwdRefIdeal.τ).loc Cert.FfnFwdRefIdeal.main_arg4) = m ((c.tc : Thread Cert.FfnFwdIdeal.nD Cert.FfnFwdIdeal.τ).loc Cert.FfnFwdIdeal.main_arg4)) →
    ∃ (v0 : (c : Dev Cert.FfnFwdIdeal.nD) → Buf (Elt Ideal) ((c.tc : Thread Cert.FfnFwdIdeal.nD Cert.FfnFwdIdeal.τ).loc Cert.FfnFwdIdeal.main_v4_0)) (v1 : (c : Dev Cert.FfnFwdIdeal.nD) → Buf (Elt Ideal) ((c.tc : Thread Cert.FfnFwdIdeal.nD Cert.FfnFwdIdeal.τ).loc Cert.FfnFwdIdeal.main_v4_1)) (v2 : (c : Dev Cert.FfnFwdIdeal.nD) → Buf (Elt Ideal) ((c.tc : Thread Cert.FfnFwdIdeal.nD Cert.FfnFwdIdeal.τ).loc Cert.FfnFwdIdeal.main_v4_2)) (v3 : (c : Dev Cert.FfnFwdIdeal.nD) → Buf (Elt Ideal) ((c.tc : Thread Cert.FfnFwdIdeal.nD Cert.FfnFwdIdeal.τ).loc Cert.FfnFwdIdeal.main_v4_3)) (v4 : (c : Dev Cert.FfnFwdIdeal.nD) → Buf (Elt Ideal) ((c.tc : Thread Cert.FfnFwdIdeal.nD Cert.FfnFwdIdeal.τ).loc Cert.FfnFwdIdeal.main_v4_4)),
      θ_run (Cert.FfnFwdIdeal.defs (F := Ideal)) (onTc (τ := Cert.FfnFwdIdeal.τ) (Cert.FfnFwdIdeal.main (F := Ideal))) ⟨m, fun _ => 0, g⟩ (fun r => ∀ c : Dev Cert.FfnFwdIdeal.nD,
          r.2.mem ((c.tc : Thread Cert.FfnFwdIdeal.nD Cert.FfnFwdIdeal.τ).loc Cert.FfnFwdIdeal.main_v4_0) = v0 c
          ∧ r.2.mem ((c.tc : Thread Cert.FfnFwdIdeal.nD Cert.FfnFwdIdeal.τ).loc Cert.FfnFwdIdeal.main_v4_1) = v1 c
          ∧ r.2.mem ((c.tc : Thread Cert.FfnFwdIdeal.nD Cert.FfnFwdIdeal.τ).loc Cert.FfnFwdIdeal.main_v4_2) = v2 c
          ∧ r.2.mem ((c.tc : Thread Cert.FfnFwdIdeal.nD Cert.FfnFwdIdeal.τ).loc Cert.FfnFwdIdeal.main_v4_3) = v3 c
          ∧ r.2.mem ((c.tc : Thread Cert.FfnFwdIdeal.nD Cert.FfnFwdIdeal.τ).loc Cert.FfnFwdIdeal.main_v4_4) = v4 c
          ∧ r.2.mem ((c.tc : Thread Cert.FfnFwdIdeal.nD Cert.FfnFwdIdeal.τ).loc Cert.FfnFwdIdeal.main_arg0) = m ((c.tc : Thread Cert.FfnFwdIdeal.nD Cert.FfnFwdIdeal.τ).loc Cert.FfnFwdIdeal.main_arg0)
          ∧ r.2.mem ((c.tc : Thread Cert.FfnFwdIdeal.nD Cert.FfnFwdIdeal.τ).loc Cert.FfnFwdIdeal.main_arg1) = m ((c.tc : Thread Cert.FfnFwdIdeal.nD Cert.FfnFwdIdeal.τ).loc Cert.FfnFwdIdeal.main_arg1)
          ∧ r.2.mem ((c.tc : Thread Cert.FfnFwdIdeal.nD Cert.FfnFwdIdeal.τ).loc Cert.FfnFwdIdeal.main_arg2) = m ((c.tc : Thread Cert.FfnFwdIdeal.nD Cert.FfnFwdIdeal.τ).loc Cert.FfnFwdIdeal.main_arg2)
          ∧ r.2.mem ((c.tc : Thread Cert.FfnFwdIdeal.nD Cert.FfnFwdIdeal.τ).loc Cert.FfnFwdIdeal.main_arg3) = m ((c.tc : Thread Cert.FfnFwdIdeal.nD Cert.FfnFwdIdeal.τ).loc Cert.FfnFwdIdeal.main_arg3)
          ∧ r.2.mem ((c.tc : Thread Cert.FfnFwdIdeal.nD Cert.FfnFwdIdeal.τ).loc Cert.FfnFwdIdeal.main_arg4) = m ((c.tc : Thread Cert.FfnFwdIdeal.nD Cert.FfnFwdIdeal.τ).loc Cert.FfnFwdIdeal.main_arg4))
      ∧ θ_run (Cert.FfnFwdRefIdeal.defs (F := Ideal)) (onTc (τ := Cert.FfnFwdRefIdeal.τ) (Cert.FfnFwdRefIdeal.main (F := Ideal))) ⟨m', fun _ => 0, g'⟩ (fun r => ∀ c : Dev Cert.FfnFwdRefIdeal.nD,
          r.2.mem ((c.tc : Thread Cert.FfnFwdRefIdeal.nD Cert.FfnFwdRefIdeal.τ).loc Cert.FfnFwdRefIdeal.main_v35) = v0 c
          ∧ r.2.mem ((c.tc : Thread Cert.FfnFwdRefIdeal.nD Cert.FfnFwdRefIdeal.τ).loc Cert.FfnFwdRefIdeal.main_v5) = v1 c
          ∧ r.2.mem ((c.tc : Thread Cert.FfnFwdRefIdeal.nD Cert.FfnFwdRefIdeal.τ).loc Cert.FfnFwdRefIdeal.main_v36) = v2 c
          ∧ r.2.mem ((c.tc : Thread Cert.FfnFwdRefIdeal.nD Cert.FfnFwdRefIdeal.τ).loc Cert.FfnFwdRefIdeal.main_v32) = v3 c
          ∧ r.2.mem ((c.tc : Thread Cert.FfnFwdRefIdeal.nD Cert.FfnFwdRefIdeal.τ).loc Cert.FfnFwdRefIdeal.main_v37) = v4 c
          ∧ r.2.mem ((c.tc : Thread Cert.FfnFwdRefIdeal.nD Cert.FfnFwdRefIdeal.τ).loc Cert.FfnFwdRefIdeal.main_arg0) = m' ((c.tc : Thread Cert.FfnFwdRefIdeal.nD Cert.FfnFwdRefIdeal.τ).loc Cert.FfnFwdRefIdeal.main_arg0)
          ∧ r.2.mem ((c.tc : Thread Cert.FfnFwdRefIdeal.nD Cert.FfnFwdRefIdeal.τ).loc Cert.FfnFwdRefIdeal.main_arg1) = m' ((c.tc : Thread Cert.FfnFwdRefIdeal.nD Cert.FfnFwdRefIdeal.τ).loc Cert.FfnFwdRefIdeal.main_arg1)
          ∧ r.2.mem ((c.tc : Thread Cert.FfnFwdRefIdeal.nD Cert.FfnFwdRefIdeal.τ).loc Cert.FfnFwdRefIdeal.main_arg2) = m' ((c.tc : Thread Cert.FfnFwdRefIdeal.nD Cert.FfnFwdRefIdeal.τ).loc Cert.FfnFwdRefIdeal.main_arg2)
          ∧ r.2.mem ((c.tc : Thread Cert.FfnFwdRefIdeal.nD Cert.FfnFwdRefIdeal.τ).loc Cert.FfnFwdRefIdeal.main_arg3) = m' ((c.tc : Thread Cert.FfnFwdRefIdeal.nD Cert.FfnFwdRefIdeal.τ).loc Cert.FfnFwdRefIdeal.main_arg3)
          ∧ r.2.mem ((c.tc : Thread Cert.FfnFwdRefIdeal.nD Cert.FfnFwdRefIdeal.τ).loc Cert.FfnFwdRefIdeal.main_arg4) = m' ((c.tc : Thread Cert.FfnFwdRefIdeal.nD Cert.FfnFwdRefIdeal.τ).loc Cert.FfnFwdRefIdeal.main_arg4))

def Claim : Prop :=
  ∃ (hConvBwd : Cert.ConvBwd.Facts) (hConvBwdIdeal : Cert.ConvBwdIdeal.Facts) (hConvRefIdeal : Cert.ConvRefIdeal.Facts) (hSbBwd : Cert.SbBwd.Facts) (hSbBwdIdeal : Cert.SbBwdIdeal.Facts) (hSbRefIdeal : Cert.SbRefIdeal.Facts) (hCrossBwd : Cert.CrossBwd.Facts) (hCrossBwdIdeal : Cert.CrossBwdIdeal.Facts) (hCrossRefIdeal : Cert.CrossRefIdeal.Facts) (hFfnBwd : Cert.FfnBwd.Facts) (hFfnBwdIdeal : Cert.FfnBwdIdeal.Facts) (hFfnRefIdeal : Cert.FfnRefIdeal.Facts) (hLn2Bwd : Cert.Ln2Bwd.Facts) (hLn2BwdIdeal : Cert.Ln2BwdIdeal.Facts) (hLn2RefIdeal : Cert.Ln2RefIdeal.Facts) (hLn1Bwd : Cert.Ln1Bwd.Facts) (hLn1BwdIdeal : Cert.Ln1BwdIdeal.Facts) (hLn1RefIdeal : Cert.Ln1RefIdeal.Facts) (hMixBwd : Cert.MixBwd.Facts) (hMixBwdIdeal : Cert.MixBwdIdeal.Facts) (hMixRefIdeal : Cert.MixRefIdeal.Facts) (hFfn2Bwd : Cert.Ffn2Bwd.Facts) (hFfn2BwdIdeal : Cert.Ffn2BwdIdeal.Facts) (hFfn2RefIdeal : Cert.Ffn2RefIdeal.Facts) (hLossHead : Cert.LossHead.Facts) (hLossHeadIdeal : Cert.LossHeadIdeal.Facts) (hLossRefIdeal : Cert.LossRefIdeal.Facts) (hSbFwd : Cert.SbFwd.Facts) (hSbFwdIdeal : Cert.SbFwdIdeal.Facts) (hSbFwdRefIdeal : Cert.SbFwdRefIdeal.Facts) (hCrossFwd : Cert.CrossFwd.Facts) (hCrossFwdIdeal : Cert.CrossFwdIdeal.Facts) (hCrossFwdRefIdeal : Cert.CrossFwdRefIdeal.Facts) (hMixFwd : Cert.MixFwd.Facts) (hMixFwdIdeal : Cert.MixFwdIdeal.Facts) (hMixFwdRefIdeal : Cert.MixFwdRefIdeal.Facts) (hLnFwd : Cert.LnFwd.Facts) (hLnFwdIdeal : Cert.LnFwdIdeal.Facts) (hLnFwdRefIdeal : Cert.LnFwdRefIdeal.Facts) (hFfnFwd : Cert.FfnFwd.Facts) (hFfnFwdIdeal : Cert.FfnFwdIdeal.Facts) (hFfnFwdRefIdeal : Cert.FfnFwdRefIdeal.Facts) (hPre_sb_finite : Cert.Pre_sb_finite.Facts) (hPre_cross_finite : Cert.Pre_cross_finite.Facts) (hPre_ffn_finite : Cert.Pre_ffn_finite.Facts) (hPre_ln2_finite : Cert.Pre_ln2_finite.Facts) (hPre_ln1_finite : Cert.Pre_ln1_finite.Facts) (hPre_mix_finite : Cert.Pre_mix_finite.Facts) (hPre_ffn2_finite : Cert.Pre_ffn2_finite.Facts) (hPre_loss_finite : Cert.Pre_loss_finite.Facts) (hPre_sb_fwd_finite : Cert.Pre_sb_fwd_finite.Facts),
    quiescent_ConvBwd (hConvBwd := hConvBwd)
    ∧ quiescent_ConvBwdIdeal (hConvBwdIdeal := hConvBwdIdeal)
    ∧ quiescent_ConvRefIdeal (hConvRefIdeal := hConvRefIdeal)
    ∧ quiescent_SbBwd (hSbBwd := hSbBwd)
    ∧ quiescent_SbBwdIdeal (hSbBwdIdeal := hSbBwdIdeal)
    ∧ quiescent_SbBwdIdeal_pre_sb_finite (hSbBwdIdeal := hSbBwdIdeal) (hPre_sb_finite := hPre_sb_finite)
    ∧ quiescent_SbRefIdeal (hSbRefIdeal := hSbRefIdeal)
    ∧ quiescent_SbRefIdeal_pre_sb_finite (hSbRefIdeal := hSbRefIdeal) (hPre_sb_finite := hPre_sb_finite)
    ∧ quiescent_CrossBwd (hCrossBwd := hCrossBwd)
    ∧ quiescent_CrossBwdIdeal (hCrossBwdIdeal := hCrossBwdIdeal)
    ∧ quiescent_CrossBwdIdeal_pre_cross_finite (hCrossBwdIdeal := hCrossBwdIdeal) (hPre_cross_finite := hPre_cross_finite)
    ∧ quiescent_CrossRefIdeal (hCrossRefIdeal := hCrossRefIdeal)
    ∧ quiescent_CrossRefIdeal_pre_cross_finite (hCrossRefIdeal := hCrossRefIdeal) (hPre_cross_finite := hPre_cross_finite)
    ∧ quiescent_FfnBwd (hFfnBwd := hFfnBwd)
    ∧ quiescent_FfnBwdIdeal (hFfnBwdIdeal := hFfnBwdIdeal)
    ∧ quiescent_FfnBwdIdeal_pre_ffn_finite (hFfnBwdIdeal := hFfnBwdIdeal) (hPre_ffn_finite := hPre_ffn_finite)
    ∧ quiescent_FfnRefIdeal (hFfnRefIdeal := hFfnRefIdeal)
    ∧ quiescent_FfnRefIdeal_pre_ffn_finite (hFfnRefIdeal := hFfnRefIdeal) (hPre_ffn_finite := hPre_ffn_finite)
    ∧ quiescent_Ln2Bwd (hLn2Bwd := hLn2Bwd)
    ∧ quiescent_Ln2BwdIdeal (hLn2BwdIdeal := hLn2BwdIdeal)
    ∧ quiescent_Ln2BwdIdeal_pre_ln2_finite (hLn2BwdIdeal := hLn2BwdIdeal) (hPre_ln2_finite := hPre_ln2_finite)
    ∧ quiescent_Ln2RefIdeal (hLn2RefIdeal := hLn2RefIdeal)
    ∧ quiescent_Ln2RefIdeal_pre_ln2_finite (hLn2RefIdeal := hLn2RefIdeal) (hPre_ln2_finite := hPre_ln2_finite)
    ∧ quiescent_Ln1Bwd (hLn1Bwd := hLn1Bwd)
    ∧ quiescent_Ln1BwdIdeal (hLn1BwdIdeal := hLn1BwdIdeal)
    ∧ quiescent_Ln1BwdIdeal_pre_ln1_finite (hLn1BwdIdeal := hLn1BwdIdeal) (hPre_ln1_finite := hPre_ln1_finite)
    ∧ quiescent_Ln1RefIdeal (hLn1RefIdeal := hLn1RefIdeal)
    ∧ quiescent_Ln1RefIdeal_pre_ln1_finite (hLn1RefIdeal := hLn1RefIdeal) (hPre_ln1_finite := hPre_ln1_finite)
    ∧ quiescent_MixBwd (hMixBwd := hMixBwd)
    ∧ quiescent_MixBwdIdeal (hMixBwdIdeal := hMixBwdIdeal)
    ∧ quiescent_MixBwdIdeal_pre_mix_finite (hMixBwdIdeal := hMixBwdIdeal) (hPre_mix_finite := hPre_mix_finite)
    ∧ quiescent_MixRefIdeal (hMixRefIdeal := hMixRefIdeal)
    ∧ quiescent_MixRefIdeal_pre_mix_finite (hMixRefIdeal := hMixRefIdeal) (hPre_mix_finite := hPre_mix_finite)
    ∧ quiescent_Ffn2Bwd (hFfn2Bwd := hFfn2Bwd)
    ∧ quiescent_Ffn2BwdIdeal (hFfn2BwdIdeal := hFfn2BwdIdeal)
    ∧ quiescent_Ffn2BwdIdeal_pre_ffn2_finite (hFfn2BwdIdeal := hFfn2BwdIdeal) (hPre_ffn2_finite := hPre_ffn2_finite)
    ∧ quiescent_Ffn2RefIdeal (hFfn2RefIdeal := hFfn2RefIdeal)
    ∧ quiescent_Ffn2RefIdeal_pre_ffn2_finite (hFfn2RefIdeal := hFfn2RefIdeal) (hPre_ffn2_finite := hPre_ffn2_finite)
    ∧ quiescent_LossHead (hLossHead := hLossHead)
    ∧ quiescent_LossHeadIdeal (hLossHeadIdeal := hLossHeadIdeal)
    ∧ quiescent_LossHeadIdeal_pre_loss_finite (hLossHeadIdeal := hLossHeadIdeal) (hPre_loss_finite := hPre_loss_finite)
    ∧ quiescent_LossRefIdeal (hLossRefIdeal := hLossRefIdeal)
    ∧ quiescent_LossRefIdeal_pre_loss_finite (hLossRefIdeal := hLossRefIdeal) (hPre_loss_finite := hPre_loss_finite)
    ∧ quiescent_SbFwd (hSbFwd := hSbFwd)
    ∧ quiescent_SbFwdIdeal (hSbFwdIdeal := hSbFwdIdeal)
    ∧ quiescent_SbFwdIdeal_pre_sb_fwd_finite (hSbFwdIdeal := hSbFwdIdeal) (hPre_sb_fwd_finite := hPre_sb_fwd_finite)
    ∧ quiescent_SbFwdRefIdeal (hSbFwdRefIdeal := hSbFwdRefIdeal)
    ∧ quiescent_SbFwdRefIdeal_pre_sb_fwd_finite (hSbFwdRefIdeal := hSbFwdRefIdeal) (hPre_sb_fwd_finite := hPre_sb_fwd_finite)
    ∧ quiescent_CrossFwd (hCrossFwd := hCrossFwd)
    ∧ quiescent_CrossFwdIdeal (hCrossFwdIdeal := hCrossFwdIdeal)
    ∧ quiescent_CrossFwdRefIdeal (hCrossFwdRefIdeal := hCrossFwdRefIdeal)
    ∧ quiescent_MixFwd (hMixFwd := hMixFwd)
    ∧ quiescent_MixFwdIdeal (hMixFwdIdeal := hMixFwdIdeal)
    ∧ quiescent_MixFwdRefIdeal (hMixFwdRefIdeal := hMixFwdRefIdeal)
    ∧ quiescent_LnFwd (hLnFwd := hLnFwd)
    ∧ quiescent_LnFwdIdeal (hLnFwdIdeal := hLnFwdIdeal)
    ∧ quiescent_LnFwdRefIdeal (hLnFwdRefIdeal := hLnFwdRefIdeal)
    ∧ quiescent_FfnFwd (hFfnFwd := hFfnFwd)
    ∧ quiescent_FfnFwdIdeal (hFfnFwdIdeal := hFfnFwdIdeal)
    ∧ quiescent_FfnFwdRefIdeal (hFfnFwdRefIdeal := hFfnFwdRefIdeal)
    ∧ preserves_ConvBwd_ConvBwdIdeal
    ∧ algebraic_ConvBwdIdeal_ConvRefIdeal (hConvBwdIdeal := hConvBwdIdeal) (hConvRefIdeal := hConvRefIdeal)
    ∧ preserves_SbBwd_SbBwdIdeal
    ∧ algebraic_SbBwdIdeal_SbRefIdeal_pre_sb_finite (hSbBwdIdeal := hSbBwdIdeal) (hSbRefIdeal := hSbRefIdeal) (hPre_sb_finite := hPre_sb_finite)
    ∧ preserves_CrossBwd_CrossBwdIdeal
    ∧ algebraic_CrossBwdIdeal_CrossRefIdeal_pre_cross_finite (hCrossBwdIdeal := hCrossBwdIdeal) (hCrossRefIdeal := hCrossRefIdeal) (hPre_cross_finite := hPre_cross_finite)
    ∧ preserves_FfnBwd_FfnBwdIdeal
    ∧ algebraic_FfnBwdIdeal_FfnRefIdeal_pre_ffn_finite (hFfnBwdIdeal := hFfnBwdIdeal) (hFfnRefIdeal := hFfnRefIdeal) (hPre_ffn_finite := hPre_ffn_finite)
    ∧ preserves_Ln2Bwd_Ln2BwdIdeal
    ∧ algebraic_Ln2BwdIdeal_Ln2RefIdeal_pre_ln2_finite (hLn2BwdIdeal := hLn2BwdIdeal) (hLn2RefIdeal := hLn2RefIdeal) (hPre_ln2_finite := hPre_ln2_finite)
    ∧ preserves_Ln1Bwd_Ln1BwdIdeal
    ∧ algebraic_Ln1BwdIdeal_Ln1RefIdeal_pre_ln1_finite (hLn1BwdIdeal := hLn1BwdIdeal) (hLn1RefIdeal := hLn1RefIdeal) (hPre_ln1_finite := hPre_ln1_finite)
    ∧ preserves_MixBwd_MixBwdIdeal
    ∧ algebraic_MixBwdIdeal_MixRefIdeal_pre_mix_finite (hMixBwdIdeal := hMixBwdIdeal) (hMixRefIdeal := hMixRefIdeal) (hPre_mix_finite := hPre_mix_finite)
    ∧ preserves_Ffn2Bwd_Ffn2BwdIdeal
    ∧ algebraic_Ffn2BwdIdeal_Ffn2RefIdeal_pre_ffn2_finite (hFfn2BwdIdeal := hFfn2BwdIdeal) (hFfn2RefIdeal := hFfn2RefIdeal) (hPre_ffn2_finite := hPre_ffn2_finite)
    ∧ preserves_LossHead_LossHeadIdeal
    ∧ algebraic_LossHeadIdeal_LossRefIdeal_pre_loss_finite (hLossHeadIdeal := hLossHeadIdeal) (hLossRefIdeal := hLossRefIdeal) (hPre_loss_finite := hPre_loss_finite)
    ∧ preserves_SbFwd_SbFwdIdeal
    ∧ algebraic_SbFwdIdeal_SbFwdRefIdeal_pre_sb_fwd_finite (hSbFwdIdeal := hSbFwdIdeal) (hSbFwdRefIdeal := hSbFwdRefIdeal) (hPre_sb_fwd_finite := hPre_sb_fwd_finite)
    ∧ preserves_CrossFwd_CrossFwdIdeal
    ∧ algebraic_CrossFwdIdeal_CrossFwdRefIdeal (hCrossFwdIdeal := hCrossFwdIdeal) (hCrossFwdRefIdeal := hCrossFwdRefIdeal)
    ∧ preserves_MixFwd_MixFwdIdeal
    ∧ algebraic_MixFwdIdeal_MixFwdRefIdeal (hMixFwdIdeal := hMixFwdIdeal) (hMixFwdRefIdeal := hMixFwdRefIdeal)
    ∧ preserves_LnFwd_LnFwdIdeal
    ∧ algebraic_LnFwdIdeal_LnFwdRefIdeal (hLnFwdIdeal := hLnFwdIdeal) (hLnFwdRefIdeal := hLnFwdRefIdeal)
    ∧ preserves_FfnFwd_FfnFwdIdeal
    ∧ algebraic_FfnFwdIdeal_FfnFwdRefIdeal (hFfnFwdIdeal := hFfnFwdIdeal) (hFfnFwdRefIdeal := hFfnFwdRefIdeal)
-- ==== Pre_cross_finite.lean ====
abbrev S8192x1024 : Shape := ⟨2, ![8192, 1024]⟩
abbrev S256x2048 : Shape := ⟨2, ![256, 2048]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S256x2048 : S_.BroadcastsInDim S256x2048 (![] : Fin 0 → Fin S256x2048.rank)
  reducesTo_S256x2048_S_d0_1 : S256x2048.ReducesTo [0, 1] S_

variable [Facts]

def fn {F : FTy → Type} [FloatOps F] (main_arg0 : FVec F S8192x1024 .f32) (main_arg1 : FVec F S256x2048 .f32) (main_arg2 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S256x2048 .f32 := Host.absf main_arg1
  let main_cst_0 : FVec F S_ .f32 := constant S_ .f32 0x7F800000#32
  let main_v5 : FVec F S256x2048 .f32 := broadcastInDim S256x2048 ![] bcast_S_S256x2048 main_cst_0
  let main_v6 : IVec S256x2048 1 := cmpf .olt main_v4 main_v5
  let main_c_1 : IVec S_ 1 := constantI S_ 1 1#1
  let main_v7 : IVec S_ 1 := (fun x v => Host.reduce IntOp.andi x v reducesTo_S256x2048_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  main_v13
-- ==== Pre_ffn2_finite.lean ====
abbrev S8192x1024 : Shape := ⟨2, ![8192, 1024]⟩
abbrev S1x1024 : Shape := ⟨2, ![1, 1024]⟩
abbrev S1024x5376 : Shape := ⟨2, ![1024, 5376]⟩
abbrev S2688x1024 : Shape := ⟨2, ![2688, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5376 : S_.BroadcastsInDim S1024x5376 (![] : Fin 0 → Fin S1024x5376.rank)
  reducesTo_S1024x5376_S_d0_1 : S1024x5376.ReducesTo [0, 1] S_
  bcast_S_S2688x1024 : S_.BroadcastsInDim S2688x1024 (![] : Fin 0 → Fin S2688x1024.rank)
  reducesTo_S2688x1024_S_d0_1 : S2688x1024.ReducesTo [0, 1] S_

variable [Facts]

def fn_part1 {F : FTy → Type} [FloatOps F] (main_arg4 : FVec F S1024x5376 .f32) (main_arg5 : FVec F S2688x1024 .f32) (main_arg6 : FVec F S8192x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x5376 .f32 := Host.absf main_arg4
  let main_cst_6 : FVec F S_ .f32 := constant S_ .f32 0x7F800000#32
  let main_v20 : FVec F S1024x5376 .f32 := broadcastInDim S1024x5376 ![] bcast_S_S1024x5376 main_cst_6
  let main_v21 : IVec S1024x5376 1 := cmpf .olt main_v19 main_v20
  let main_c_7 : IVec S_ 1 := constantI S_ 1 1#1
  let main_v22 : IVec S_ 1 := (fun x v => Host.reduce IntOp.andi x v reducesTo_S1024x5376_S_d0_1 h_S_) main_v21 main_c_7
  let main_v23 : IVec S_ 1 := andi main_v18 main_v22
  let main_v24 : FVec F S2688x1024 .f32 := Host.absf main_arg5
  let main_cst_8 : FVec F S_ .f32 := constant S_ .f32 0x7F800000#32
  let main_v25 : FVec F S2688x1024 .f32 := broadcastInDim S2688x1024 ![] bcast_S_S2688x1024 main_cst_8
  let main_v26 : IVec S2688x1024 1 := cmpf .olt main_v24 main_v25
  let main_c_9 : IVec S_ 1 := constantI S_ 1 1#1
  let main_v27 : IVec S_ 1 := (fun x v => Host.reduce IntOp.andi x v reducesTo_S2688x1024_S_d0_1 h_S_) main_v26 main_c_9
  let main_v28 : IVec S_ 1 := andi main_v23 main_v27
  let main_v29 : FVec F S8192x1024 .f32 := Host.absf main_arg6
  let main_cst_10 : FVec F S_ .f32 := constant S_ .f32 0x7F800000#32
  let main_v30 : FVec F S8192x1024 .f32 := broadcastInDim S8192x1024 ![] bcast_S_S8192x1024 main_cst_10
  let main_v31 : IVec S8192x1024 1 := cmpf .olt main_v29 main_v30
  let main_c_11 : IVec S_ 1 := constantI S_ 1 1#1
  let main_v32 : IVec S_ 1 := (fun x v => Host.reduce IntOp.andi x v reducesTo_S8192x1024_S_d0_1 h_S_) main_v31 main_c_11
  let main_v33 : IVec S_ 1 := andi main_v28 main_v32
  main_v33

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x5376 .f32) (main_arg5 : FVec F S2688x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_arg6 main_v13 main_v16
-- ==== Pre_ffn_finite.lean ====
abbrev S8192x1024 : Shape := ⟨2, ![8192, 1024]⟩
abbrev S1024x5376 : Shape := ⟨2, ![1024, 5376]⟩
abbrev S2688x1024 : Shape := ⟨2, ![2688, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x5376 : S_.BroadcastsInDim S1024x5376 (![] : Fin 0 → Fin S1024x5376.rank)
  reducesTo_S1024x5376_S_d0_1 : S1024x5376.ReducesTo [0, 1] S_
  bcast_S_S2688x1024 : S_.BroadcastsInDim S2688x1024 (![] : Fin 0 → Fin S2688x1024.rank)
  reducesTo_S2688x1024_S_d0_1 : S2688x1024.ReducesTo [0, 1] S_

variable [Facts]

def fn_part1 {F : FTy → Type} [FloatOps F] (main_v13 : IVec S_ 1) (main_v16 : IVec S8192x1024 1) : IVec S_ 1 :=
  let main_c_5 : IVec S_ 1 := constantI S_ 1 1#1
  let main_v17 : IVec S_ 1 := (fun x v => Host.reduce IntOp.andi x v reducesTo_S8192x1024_S_d0_1 h_S_) main_v16 main_c_5
  let main_v18 : IVec S_ 1 := andi main_v13 main_v17
  main_v18

def fn {F : FTy → Type} [FloatOps F] (main_arg0 : FVec F S8192x1024 .f32) (main_arg1 : FVec F S1024x5376 .f32) (main_arg2 : FVec F S2688x1024 .f32) (main_arg3 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024x5376 .f32 := Host.absf main_arg1
  let main_cst_0 : FVec F S_ .f32 := constant S_ .f32 0x7F800000#32
  let main_v5 : FVec F S1024x5376 .f32 := broadcastInDim S1024x5376 ![] bcast_S_S1024x5376 main_cst_0
  let main_v6 : IVec S1024x5376 1 := cmpf .olt main_v4 main_v5
  let main_c_1 : IVec S_ 1 := constantI S_ 1 1#1
  let main_v7 : IVec S_ 1 := (fun x v => Host.reduce IntOp.andi x v reducesTo_S1024x5376_S_d0_1 h_S_) main_v6 main_c_1
  let main_v8 : IVec S_ 1 := andi main_v3 main_v7
  let main_v9 : FVec F S2688x1024 .f32 := Host.absf main_arg2
  let main_cst_2 : FVec F S_ .f32 := constant S_ .f32 0x7F800000#32
  let main_v10 : FVec F S2688x1024 .f32 := broadcastInDim S2688x1024 ![] bcast_S_S2688x1024 main_cst_2
  let main_v11 : IVec S2688x1024 1 := cmpf .olt main_v9 main_v10
  let main_c_3 : IVec S_ 1 := constantI S_ 1 1#1
  let main_v12 : IVec S_ 1 := (fun x v => Host.reduce IntOp.andi x v reducesTo_S2688x1024_S_d0_1 h_S_) main_v11 main_c_3
  let main_v13 : IVec S_ 1 := andi main_v8 main_v12
  let main_v14 : FVec F S8192x1024 .f32 := Host.absf main_arg3
  let main_cst_4 : FVec F S_ .f32 := constant S_ .f32 0x7F800000#32
  let main_v15 : FVec F S8192x1024 .f32 := broadcastInDim S8192x1024 ![] bcast_S_S8192x1024 main_cst_4
  let main_v16 : IVec S8192x1024 1 := cmpf .olt main_v14 main_v15
  fn_part1 (F := F) main_v13 main_v16
-- ==== Pre_ln1_finite.lean ====
abbrev S8192x1024 : Shape := ⟨2, ![8192, 1024]⟩
abbrev S1x1024 : Shape := ⟨2, ![1, 1024]⟩
abbrev S1024x2560 : Shape := ⟨2, ![1024, 2560]⟩
abbrev S8192x512 : Shape := ⟨2, ![8192, 512]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x2560 : S_.BroadcastsInDim S1024x2560 (![] : Fin 0 → Fin S1024x2560.rank)
  reducesTo_S1024x2560_S_d0_1 : S1024x2560.ReducesTo [0, 1] S_
  bcast_S_S8192x512 : S_.BroadcastsInDim S8192x512 (![] : Fin 0 → Fin S8192x512.rank)
  reducesTo_S8192x512_S_d0_1 : S8192x512.ReducesTo [0, 1] S_

variable [Facts]

def fn_part2 {F : FTy → Type} [FloatOps F] (main_arg8 : FVec F S8192x512 .f32) (main_arg9 : FVec F S8192x512 .f32) (main_arg10 : FVec F S8192x1024 .f32) (main_v33 : IVec S_ 1) : IVec S_ 1 :=
  let main_v34 : FVec F S8192x512 .f32 := Host.absf main_arg8
  let main_cst_12 : FVec F S_ .f32 := constant S_ .f32 0x7F800000#32
  let main_v35 : FVec F S8192x512 .f32 := broadcastInDim S8192x512 ![] bcast_S_S8192x512 main_cst_12
  let main_v36 : IVec S8192x512 1 := cmpf .olt main_v34 main_v35
  let main_c_13 : IVec S_ 1 := constantI S_ 1 1#1
  let main_v37 : IVec S_ 1 := (fun x v => Host.reduce IntOp.andi x v reducesTo_S8192x512_S_d0_1 h_S_) main_v36 main_c_13
  let main_v38 : IVec S_ 1 := andi main_v33 main_v37
  let main_v39 : FVec F S8192x512 .f32 := Host.absf main_arg9
  let main_cst_14 : FVec F S_ .f32 := constant S_ .f32 0x7F800000#32
  let main_v40 : FVec F S8192x512 .f32 := broadcastInDim S8192x512 ![] bcast_S_S8192x512 main_cst_14
  let main_v41 : IVec S8192x512 1 := cmpf .olt main_v39 main_v40
  let main_c_15 : IVec S_ 1 := constantI S_ 1 1#1
  let main_v42 : IVec S_ 1 := (fun x v => Host.reduce IntOp.andi x v reducesTo_S8192x512_S_d0_1 h_S_) main_v41 main_c_15
  let main_v43 : IVec S_ 1 := andi main_v38 main_v42
  let main_v44 : FVec F S8192x1024 .f32 := Host.absf main_arg10
  let main_cst_16 : FVec F S_ .f32 := constant S_ .f32 0x7F800000#32
  let main_v45 : FVec F S8192x1024 .f32 := broadcastInDim S8192x1024 ![] bcast_S_S8192x1024 main_cst_16
  let main_v46 : IVec S8192x1024 1 := cmpf .olt main_v44 main_v45
  let main_c_17 : IVec S_ 1 := constantI S_ 1 1#1
  let main_v47 : IVec S_ 1 := (fun x v => Host.reduce IntOp.andi x v reducesTo_S8192x1024_S_d0_1 h_S_) main_v46 main_c_17
  let main_v48 : IVec S_ 1 := andi main_v43 main_v47
  main_v48

def fn_part1 {F : FTy → Type} [FloatOps F] (main_arg5 : FVec F S8192x512 .f32) (main_arg6 : FVec F S8192x512 .f32) (main_arg7 : FVec F S8192x512 .f32) (main_arg8 : FVec F S8192x512 .f32) (main_arg9 : FVec F S8192x512 .f32) (main_arg10 : FVec F S8192x1024 .f32) (main_v13 : IVec S_ 1) (main_v16 : IVec S1024x2560 1) : IVec S_ 1 :=
  let main_c_5 : IVec S_ 1 := constantI S_ 1 1#1
  let main_v17 : IVec S_ 1 := (fun x v => Host.reduce IntOp.andi x v reducesTo_S1024x2560_S_d0_1 h_S_) main_v16 main_c_5
  let main_v18 : IVec S_ 1 := andi main_v13 main_v17
  let main_v19 : FVec F S8192x512 .f32 := Host.absf main_arg5
  let main_cst_6 : FVec F S_ .f32 := constant S_ .f32 0x7F800000#32
  let main_v20 : FVec F S8192x512 .f32 := broadcastInDim S8192x512 ![] bcast_S_S8192x512 main_cst_6
  let main_v21 : IVec S8192x512 1 := cmpf .olt main_v19 main_v20
  let main_c_7 : IVec S_ 1 := constantI S_ 1 1#1
  let main_v22 : IVec S_ 1 := (fun x v => Host.reduce IntOp.andi x v reducesTo_S8192x512_S_d0_1 h_S_) main_v21 main_c_7
  let main_v23 : IVec S_ 1 := andi main_v18 main_v22
  let main_v24 : FVec F S8192x512 .f32 := Host.absf main_arg6
  let main_cst_8 : FVec F S_ .f32 := constant S_ .f32 0x7F800000#32
  let main_v25 : FVec F S8192x512 .f32 := broadcastInDim S8192x512 ![] bcast_S_S8192x512 main_cst_8
  let main_v26 : IVec S8192x512 1 := cmpf .olt main_v24 main_v25
  let main_c_9 : IVec S_ 1 := constantI S_ 1 1#1
  let main_v27 : IVec S_ 1 := (fun x v => Host.reduce IntOp.andi x v reducesTo_S8192x512_S_d0_1 h_S_) main_v26 main_c_9
  let main_v28 : IVec S_ 1 := andi main_v23 main_v27
  let main_v29 : FVec F S8192x512 .f32 := Host.absf main_arg7
  let main_cst_10 : FVec F S_ .f32 := constant S_ .f32 0x7F800000#32
  let main_v30 : FVec F S8192x512 .f32 := broadcastInDim S8192x512 ![] bcast_S_S8192x512 main_cst_10
  let main_v31 : IVec S8192x512 1 := cmpf .olt main_v29 main_v30
  let main_c_11 : IVec S_ 1 := constantI S_ 1 1#1
  let main_v32 : IVec S_ 1 := (fun x v => Host.reduce IntOp.andi x v reducesTo_S8192x512_S_d0_1 h_S_) main_v31 main_c_11
  let main_v33 : IVec S_ 1 := andi main_v28 main_v32
  fn_part2 (F := F) main_arg8 main_arg9 main_arg10 main_v33

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x2560 .f32) (main_arg5 : FVec F S8192x512 .f32) (main_arg6 : FVec F S8192x512 .f32) (main_arg7 : FVec F S8192x512 .f32) (main_arg8 : FVec F S8192x512 .f32) (main_arg9 : FVec F S8192x512 .f32) (main_arg10 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x2560 .f32 := Host.absf main_arg4
  let main_cst_4 : FVec F S_ .f32 := constant S_ .f32 0x7F800000#32
  let main_v15 : FVec F S1024x2560 .f32 := broadcastInDim S1024x2560 ![] bcast_S_S1024x2560 main_cst_4
  let main_v16 : IVec S1024x2560 1 := cmpf .olt main_v14 main_v15
  fn_part1 (F := F) main_arg5 main_arg6 main_arg7 main_arg8 main_arg9 main_arg10 main_v13 main_v16
-- ==== Pre_ln2_finite.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_arg5 : FVec F S8192x1024 .f32) (main_arg6 : FVec F S8192x1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S8192x1024 .f32 := Host.absf main_arg5
  let main_cst_6 : FVec F S_ .f32 := constant S_ .f32 0x7F800000#32
  let main_v20 : FVec F S8192x1024 .f32 := broadcastInDim S8192x1024 ![] bcast_S_S8192x1024 main_cst_6
  let main_v21 : IVec S8192x1024 1 := cmpf .olt main_v19 main_v20
  let main_c_7 : IVec S_ 1 := constantI S_ 1 1#1
  let main_v22 : IVec S_ 1 := (fun x v => Host.reduce IntOp.andi x v reducesTo_S8192x1024_S_d0_1 h_S_) main_v21 main_c_7
  let main_v23 : IVec S_ 1 := andi main_v18 main_v22
  let main_v24 : FVec F S8192x1024 .f32 := Host.absf main_arg6
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x1024 .f32) (main_arg5 : FVec F S8192x1024 .f32) (main_arg6 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1024x1024 .f32 := Host.absf main_arg4
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg5 main_arg6 main_v13 main_v16
-- ==== Pre_loss_finite.lean ====
abbrev S8192x1024 : Shape := ⟨2, ![8192, 1024]⟩
abbrev S1x1024 : Shape := ⟨2, ![1, 1024]⟩
abbrev S1024x5376 : Shape := ⟨2, ![1024, 5376]⟩
abbrev S2688x1024 : Shape := ⟨2, ![2688, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1x1024 : S_.BroadcastsInDim S1x1024 (![] : Fin 0 → Fin S1x1024.rank)
  reducesTo_S1x1024_S_d0_1 : S1x1024.ReducesTo [0, 1] S_
  bcast_S_S1024x5376 : S_.BroadcastsInDim S1024x5376 (![] : Fin 0 → Fin S1024x5376.rank)
  reducesTo_S1024x5376_S_d0_1 : S1024x5376.ReducesTo [0, 1] S_
  bcast_S_S2688x1024 : S_.BroadcastsInDim S2688x1024 (![] : Fin 0 → Fin S2688x1024.rank)
  reducesTo_S2688x1024_S_d0_1 : S2688x1024.ReducesTo [0, 1] S_

variable [Facts]

def fn_part1 {F : FTy → Type} [FloatOps F] (main_arg4 : FVec F S1024x5376 .f32) (main_arg5 : FVec F S2688x1024 .f32) (main_v13 : IVec S_ 1) (main_v16 : IVec S1x1024 1) : IVec S_ 1 :=
  let main_c_5 : IVec S_ 1 := constantI S_ 1 1#1
  let main_v17 : IVec S_ 1 := (fun x v => Host.reduce IntOp.andi x v reducesTo_S1x1024_S_d0_1 h_S_) main_v16 main_c_5
  let main_v18 : IVec S_ 1 := andi main_v13 main_v17
  let main_v19 : FVec F S1024x5376 .f32 := Host.absf main_arg4
  let main_cst_6 : FVec F S_ .f32 := constant S_ .f32 0x7F800000#32
  let main_v20 : FVec F S1024x5376 .f32 := broadcastInDim S1024x5376 ![] bcast_S_S1024x5376 main_cst_6
  let main_v21 : IVec S1024x5376 1 := cmpf .olt main_v19 main_v20
  let main_c_7 : IVec S_ 1 := constantI S_ 1 1#1
  let main_v22 : IVec S_ 1 := (fun x v => Host.reduce IntOp.andi x v reducesTo_S1024x5376_S_d0_1 h_S_) main_v21 main_c_7
  let main_v23 : IVec S_ 1 := andi main_v18 main_v22
  let main_v24 : FVec F S2688x1024 .f32 := Host.absf main_arg5
  let main_cst_8 : FVec F S_ .f32 := constant S_ .f32 0x7F800000#32
  let main_v25 : FVec F S2688x1024 .f32 := broadcastInDim S2688x1024 ![] bcast_S_S2688x1024 main_cst_8
  let main_v26 : IVec S2688x1024 1 := cmpf .olt main_v24 main_v25
  let main_c_9 : IVec S_ 1 := constantI S_ 1 1#1
  let main_v27 : IVec S_ 1 := (fun x v => Host.reduce IntOp.andi x v reducesTo_S2688x1024_S_d0_1 h_S_) main_v26 main_c_9
  let main_v28 : IVec S_ 1 := andi main_v23 main_v27
  main_v28

def fn {F : FTy → Type} [FloatOps F] (main_arg0 : FVec F S8192x1024 .f32) (main_arg1 : FVec F S8192x1024 .f32) (main_arg2 : FVec F S1x1024 .f32) (main_arg3 : FVec F S1x1024 .f32) (main_arg4 : FVec F S1024x5376 .f32) (main_arg5 : FVec F S2688x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S1x1024 .f32 := Host.absf main_arg2
  let main_cst_2 : FVec F S_ .f32 := constant S_ .f32 0x7F800000#32
  let main_v10 : FVec F S1x1024 .f32 := broadcastInDim S1x1024 ![] bcast_S_S1x1024 main_cst_2
  let main_v11 : IVec S1x1024 1 := cmpf .olt main_v9 main_v10
  let main_c_3 : IVec S_ 1 := constantI S_ 1 1#1
  let main_v12 : IVec S_ 1 := (fun x v => Host.reduce IntOp.andi x v reducesTo_S1x1024_S_d0_1 h_S_) main_v11 main_c_3
  let main_v13 : IVec S_ 1 := andi main_v8 main_v12
  let main_v14 : FVec F S1x1024 .f32 := Host.absf main_arg3
  let main_cst_4 : FVec F S_ .f32 := constant S_ .f32 0x7F800000#32
  let main_v15 : FVec F S1x1024 .f32 := broadcastInDim S1x1024 ![] bcast_S_S1x1024 main_cst_4
  let main_v16 : IVec S1x1024 1 := cmpf .olt main_v14 main_v15
  fn_part1 (F := F) main_arg4 main_arg5 main_v13 main_v16
-- ==== Pre_mix_finite.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S1x512 : S_.BroadcastsInDim S1x512 (![] : Fin 0 → Fin S1x512.rank)
  reducesTo_S1x512_S_d0_1 : S1x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S8192x1024 : S_.BroadcastsInDim S8192x1024 (![] : Fin 0 → Fin S8192x1024.rank)
  reducesTo_S8192x1024_S_d0_1 : S8192x1024.ReducesTo [0, 1] S_

variable [Facts]

def fn_part1 {F : FTy → Type} [FloatOps F] (main_arg4 : FVec F S1024x1024 .f32) (main_arg5 : FVec F S8192x1024 .f32) (main_v13 : IVec S_ 1) (main_v16 : IVec S1x512 1) : IVec S_ 1 :=
  let main_c_5 : IVec S_ 1 := constantI S_ 1 1#1
  let main_v17 : IVec S_ 1 := (fun x v => Host.reduce IntOp.andi x v reducesTo_S1x512_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x512 .f32) (main_arg1 : FVec F S8192x512 .f32) (main_arg2 : FVec F S1x512 .f32) (main_arg3 : FVec F S1x512 .f32) (main_arg4 : FVec F S1024x1024 .f32) (main_arg5 : FVec F S8192x1024 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S1x512 .f32 := Host.absf main_arg2
  let main_cst_2 : FVec F S_ .f32 := constant S_ .f32 0x7F800000#32
  let main_v10 : FVec F S1x512 .f32 := broadcastInDim S1x512 ![] bcast_S_S1x512 main_cst_2
  let main_v11 : IVec S1x512 1 := cmpf .olt main_v9 main_v10
  let main_c_3 : IVec S_ 1 := constantI S_ 1 1#1
  let main_v12 : IVec S_ 1 := (fun x v => Host.reduce IntOp.andi x v reducesTo_S1x512_S_d0_1 h_S_) main_v11 main_c_3
  let main_v13 : IVec S_ 1 := andi main_v8 main_v12
  let main_v14 : FVec F S1x512 .f32 := Host.absf main_arg3
  let main_cst_4 : FVec F S_ .f32 := constant S_ .f32 0x7F800000#32
  let main_v15 : FVec F S1x512 .f32 := broadcastInDim S1x512 ![] bcast_S_S1x512 main_cst_4
  let main_v16 : IVec S1x512 1 := cmpf .olt main_v14 main_v15
  fn_part1 (F := F) main_arg4 main_arg5 main_v13 main_v16
-- ==== Pre_sb_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn_part1 {F : FTy → Type} [FloatOps F] (main_v13 : IVec S_ 1) (main_v16 : IVec S8192x512 1) : IVec S_ 1 :=
  let main_c_5 : IVec S_ 1 := constantI S_ 1 1#1
  let main_v17 : IVec S_ 1 := (fun x v => Host.reduce IntOp.andi x v reducesTo_S8192x512_S_d0_1 h_S_) main_v16 main_c_5
  let main_v18 : IVec S_ 1 := andi main_v13 main_v17
  main_v18

def fn {F : FTy → Type} [FloatOps F] (main_arg0 : FVec F S8192x512 .f32) (main_arg1 : FVec F S8192x512 .f32) (main_arg2 : FVec F S8192x512 .f32) (main_arg3 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  let main_v14 : FVec F S8192x512 .f32 := Host.absf main_arg3
  let main_cst_4 : FVec F S_ .f32 := constant S_ .f32 0x7F800000#32
  let main_v15 : FVec F S8192x512 .f32 := broadcastInDim S8192x512 ![] bcast_S_S8192x512 main_cst_4
  let main_v16 : IVec S8192x512 1 := cmpf .olt main_v14 main_v15
  fn_part1 (F := F) main_v13 main_v16
-- ==== Pre_sb_fwd_finite.lean ====
abbrev S8192x512 : Shape := ⟨2, ![8192, 512]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel

variable [Facts]

def fn {F : FTy → Type} [FloatOps F] (main_arg0 : FVec F S8192x512 .f32) (main_arg1 : FVec F S8192x512 .f32) (main_arg2 : FVec F S8192x512 .f32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S8192x512 .f32 := Host.absf main_arg1
  let main_cst_0 : FVec F S_ .f32 := constant S_ .f32 0x7F800000#32
  let main_v5 : FVec F S8192x512 .f32 := broadcastInDim S8192x512 ![] bcast_S_S8192x512 main_cst_0
  let main_v6 : IVec S8192x512 1 := cmpf .olt main_v4 main_v5
  let main_c_1 : IVec S_ 1 := constantI S_ 1 1#1
  let main_v7 : IVec S_ 1 := (fun x v => Host.reduce IntOp.andi x v reducesTo_S8192x512_S_d0_1 h_S_) main_v6 main_c_1
  let main_v8 : IVec S_ 1 := andi main_v3 main_v7
  let main_v9 : FVec F S8192x512 .f32 := Host.absf main_arg2
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  let main_c_3 : IVec S_ 1 := constantI S_ 1 1#1
  let main_v12 : IVec S_ 1 := (fun x v => Host.reduce IntOp.andi x v reducesTo_S8192x512_S_d0_1 h_S_) main_v11 main_c_3
  let main_v13 : IVec S_ 1 := andi main_v8 main_v12
  main_v13
-- ==== ConvBwd.lean ====
abbrev S8192x1024 : Shape := ⟨2, ![8192, 1024]⟩
abbrev S4x512 : Shape := ⟨2, ![4, 512]⟩
abbrev S1x512 : Shape := ⟨2, ![1, 512]⟩
abbrev S8192x512 : Shape := ⟨2, ![8192, 512]⟩
abbrev S512x512 : Shape := ⟨2, ![512, 512]⟩
abbrev S8x512 : Shape := ⟨2, ![8, 512]⟩
abbrev S512 : Shape := ⟨1, ![512]⟩
abbrev S504x512 : Shape := ⟨2, ![504, 512]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S4x512, .f32⟩
  | .hbm, ⟨2, _⟩ => ⟨S1x512, .f32⟩
  | .hbm, ⟨3, _⟩ => ⟨S8192x512, .f32⟩
  | .hbm, ⟨4, _⟩ => ⟨S8192x512, .bf16⟩
  | .hbm, ⟨5, _⟩ => ⟨S4x512, .f32⟩
  | .hbm, ⟨6, _⟩ => ⟨S1x512, .f32⟩
  | .local _ .vmem, ⟨0, _⟩ => ⟨S512x512, .f32⟩
  | .local _ .vmem, ⟨1, _⟩ => ⟨S512x512, .f32⟩
  | .local _ .vmem, ⟨2, _⟩ => ⟨S8x512, .f32⟩
  | .local _ .vmem, ⟨3, _⟩ => ⟨S8x512, .f32⟩
  | .local _ .vmem, ⟨4, _⟩ => ⟨S512x512, .f32⟩
  | .local _ .vmem, ⟨5, _⟩ => ⟨S512x512, .f32⟩
  | .local _ .vmem, ⟨6, _⟩ => ⟨S8x512, .f32⟩
  | .local _ .vmem, ⟨7, _⟩ => ⟨S8x512, .f32⟩
  | .local _ .vmem, ⟨8, _⟩ => ⟨S4x512, .f32⟩
  | .local _ .vmem, ⟨9, _⟩ => ⟨S512x512, .bf16⟩
  | .local _ .vmem, ⟨10, _⟩ => ⟨S512x512, .bf16⟩
  | .local _ .vmem, ⟨11, _⟩ => ⟨S4x512, .f32⟩
  | .local _ .vmem, ⟨12, _⟩ => ⟨S1x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.addi arg0 c1_i32
  let c64_i32 : BitVec 32 := 64#32
  let v1 : BitVec 32 := Scalar.muli v0 c64_i32
  let c1023_i32 : BitVec 32 := 1023#32
  let v2 : BitVec 32 := Scalar.minsi v1 c1023_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== ConvRefIdeal.lean ====
abbrev S8192x1024 : Shape := ⟨2, ![8192, 1024]⟩
abbrev S4x512 : Shape := ⟨2, ![4, 512]⟩
abbrev S1x512 : Shape := ⟨2, ![1, 512]⟩
abbrev S8192x512 : Shape := ⟨2, ![8192, 512]⟩
abbrev S_ : Shape := ⟨0, ![]⟩
abbrev S3x512 : Shape := ⟨2, ![3, 512]⟩
abbrev S8195x512 : Shape := ⟨2, ![8195, 512]⟩
abbrev S512 : Shape := ⟨1, ![512]⟩

abbrev nBuf : Space → Nat
  | .hbm => 105
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S4x512, .f32⟩
  | .hbm, ⟨2, _⟩ => ⟨S1x512, .f32⟩
  | .hbm, ⟨3, _⟩ => ⟨S8192x512, .f32⟩
  | .hbm, ⟨4, _⟩ => ⟨S8192x512, .f32⟩
  | .hbm, ⟨5, _⟩ => ⟨S_, .f32⟩
  | .hbm, ⟨6, _⟩ => ⟨S3x512, .f32⟩
  | .hbm, ⟨7, _⟩ => ⟨S8195x512, .f32⟩
  | .hbm, ⟨8, _⟩ => ⟨S_, .f32⟩
  | .hbm, ⟨9, _⟩ => ⟨S3x512, .f32⟩
  | .hbm, ⟨10, _⟩ => ⟨S8192x512, .f32⟩
  | .hbm, ⟨11, _⟩ => ⟨S1x512, .f32⟩
  | .hbm, ⟨12, _⟩ => ⟨S512, .f32⟩
  | .hbm, ⟨13, _⟩ => ⟨S1x512, .f32⟩
  | .hbm, ⟨14, _⟩ => ⟨S8192x512, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S1x512, .f32⟩
  | .hbm, ⟨20, _⟩ => ⟨S512, .f32⟩
  | .hbm, ⟨21, _⟩ => ⟨S1x512, .f32⟩
  | .hbm, ⟨22, _⟩ => ⟨S8192x512, .f32⟩
  | .hbm, ⟨23, _⟩ => ⟨S8192x512, .f32⟩
  | .hbm, ⟨24, _⟩ => ⟨S8192x512, .f32⟩
  | .hbm, ⟨25, _⟩ => ⟨S8192x512, .f32⟩
  | .hbm, ⟨26, _⟩ => ⟨S1x512, .f32⟩
  | .hbm, ⟨27, _⟩ => ⟨S512, .f32⟩
  | .hbm, ⟨28, _⟩ => ⟨S1x512, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S1x512, .f32⟩
  | .hbm, ⟨34, _⟩ => ⟨S512, .f32⟩
  | .hbm, ⟨35, _⟩ => ⟨S1x512, .f32⟩
  | .hbm, ⟨36, _⟩ => ⟨S8192x512, .f32⟩
  | .hbm, ⟨37, _⟩ => ⟨S8192x512, .f32⟩
  | .hbm, ⟨38, _⟩ => ⟨S8192x512, .f32⟩
  | .hbm, ⟨39, _⟩ => ⟨S8192x512, .f32⟩
  | .hbm, ⟨40, _⟩ => ⟨S8192x512, .f32⟩
  | .hbm, ⟨41, _⟩ => ⟨S8192x512, .f32⟩
  | .hbm, ⟨42, _⟩ => ⟨S_, .f32⟩
  | .hbm, ⟨43, _⟩ => ⟨S512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S_, .f32⟩
  | .hbm, ⟨48, _⟩ => ⟨S512, .f32⟩
  | .hbm, ⟨49, _⟩ => ⟨S1x512, .f32⟩
  | .hbm, ⟨50, _⟩ => ⟨S_, .f32⟩
  | .hbm, ⟨51, _⟩ => ⟨S4x512, .f32⟩
  | .hbm, ⟨52, _⟩ => ⟨S_, .f32⟩
  | .hbm, ⟨53, _⟩ => ⟨S8195x512, .f32⟩
  | .hbm, ⟨54, _⟩ => ⟨S8192x512, .f32⟩
  | .hbm, ⟨55, _⟩ => ⟨S_, .f32⟩
  | .hbm, ⟨56, _⟩ => ⟨S512, .f32⟩
  | .hbm, ⟨57, _⟩ => ⟨S1x512, .f32⟩
  | .hbm, ⟨58, _⟩ => ⟨S8192x512, .f32⟩
  | .hbm, ⟨59, _⟩ => ⟨S8192x512, .f32⟩
  | .hbm, ⟨60, _⟩ => ⟨S_, .f32⟩
  | .hbm, ⟨61, _⟩ => ⟨S512, .f32⟩
  | .hbm, ⟨62, _⟩ => ⟨S1x512, .f32⟩
  | .hbm, ⟨63, _⟩ => ⟨S_, .f32⟩
  | .hbm, ⟨64, _⟩ => ⟨S4x512, .f32⟩
  | .hbm, ⟨65, _⟩ => ⟨S4x512, .f32⟩
  | .hbm, ⟨66, _⟩ => ⟨S_, .f32⟩
  | .hbm, ⟨67, _⟩ => ⟨S8195x512, .f32⟩
  | .hbm, ⟨68, _⟩ => ⟨S8195x512, .f32⟩
  | .hbm, ⟨69, _⟩ => ⟨S8192x512, .f32⟩
  | .hbm, ⟨70, _⟩ => ⟨S_, .f32⟩
  | .hbm, ⟨71, _⟩ => ⟨S512, .f32⟩
  | .hbm, ⟨72, _⟩ => ⟨S1x512, .f32⟩
  | .hbm, ⟨73, _⟩ => ⟨S8192x512, .f32⟩
  | .hbm, ⟨74, _⟩ => ⟨S8192x512, .f32⟩
  | .hbm, ⟨75, _⟩ => ⟨S_, .f32⟩
  | .hbm, ⟨76, _⟩ => ⟨S512, .f32⟩
  | .hbm, ⟨77, _⟩ => ⟨S1x512, .f32⟩
  | .hbm, ⟨78, _⟩ => ⟨S_, .f32⟩
  | .hbm, ⟨79, _⟩ => ⟨S4x512, .f32⟩
  | .hbm, ⟨80, _⟩ => ⟨S4x512, .f32⟩
  | .hbm, ⟨81, _⟩ => ⟨S_, .f32⟩
  | .hbm, ⟨82, _⟩ => ⟨S8195x512, .f32⟩
  | .hbm, ⟨83, _⟩ => ⟨S8195x512, .f32⟩
  | .hbm, ⟨84, _⟩ => ⟨S_, .f32⟩
  | .hbm, ⟨85, _⟩ => ⟨S512, .f32⟩
  | .hbm, ⟨86, _⟩ => ⟨S1x512, .f32⟩
  | .hbm, ⟨87, _⟩ => ⟨S8192x512, .f32⟩
  | .hbm, ⟨88, _⟩ => ⟨S_, .f32⟩
  | .hbm, ⟨89, _⟩ => ⟨S512, .f32⟩
  | .hbm, ⟨90, _⟩ => ⟨S1x512, .f32⟩
  | .hbm, ⟨91, _⟩ => ⟨S8192x512, .f32⟩
  | .hbm, ⟨92, _⟩ => ⟨S8192x512, .f32⟩
  | .hbm, ⟨93, _⟩ => ⟨S_, .f32⟩
  | .hbm, ⟨94, _⟩ => ⟨S512, .f32⟩
  | .hbm, ⟨95, _⟩ => ⟨S1x512, .f32⟩
  | .hbm, ⟨96, _⟩ => ⟨S_, .f32⟩
  | .hbm, ⟨97, _⟩ => ⟨S4x512, .f32⟩
  | .hbm, ⟨98, _⟩ => ⟨S4x512, .f32⟩
  | .hbm, ⟨99, _⟩ => ⟨S_, .f32⟩
  | .hbm, ⟨100, _⟩ => ⟨S8195x512, .f32⟩
  | .hbm, ⟨101, _⟩ => ⟨S8195x512, .f32⟩
  | .hbm, ⟨102, _⟩ => ⟨S3x512, .f32⟩
  | .hbm, ⟨103, _⟩ => ⟨S8192x512, .f32⟩
  | .hbm, ⟨104, _⟩ => ⟨S8192x512, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_cst_1 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_cst_2 : Ref sig .tc := ⟨.hbm, 47, rfl⟩
abbrev main_v40 : Ref sig .tc := ⟨.hbm, 48, rfl⟩
abbrev main_v41 : Ref sig .tc := ⟨.hbm, 49, rfl⟩
abbrev main_cst_3 : Ref sig .tc := ⟨.hbm, 50, rfl⟩
abbrev main_v42 : Ref sig .tc := ⟨.hbm, 51, rfl⟩
abbrev main_cst_4 : Ref sig .tc := ⟨.hbm, 52, rfl⟩
abbrev main_v43 : Ref sig .tc := ⟨.hbm, 53, rfl⟩
abbrev main_v44 : Ref sig .tc := ⟨.hbm, 54, rfl⟩
abbrev main_cst_5 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_cst_6 : Ref sig .tc := ⟨.hbm, 60, rfl⟩
abbrev main_v49 : Ref sig .tc := ⟨.hbm, 61, rfl⟩
abbrev main_v50 : Ref sig .tc := ⟨.hbm, 62, rfl⟩
abbrev main_cst_7 : Ref sig .tc := ⟨.hbm, 63, rfl⟩
abbrev main_v51 : Ref sig .tc := ⟨.hbm, 64, rfl⟩
abbrev main_v52 : Ref sig .tc := ⟨.hbm, 65, rfl⟩
abbrev main_cst_8 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_cst_9 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_cst_10 : Ref sig .tc := ⟨.hbm, 75, rfl⟩
abbrev main_v60 : Ref sig .tc := ⟨.hbm, 76, rfl⟩
abbrev main_v61 : Ref sig .tc := ⟨.hbm, 77, rfl⟩
abbrev main_cst_11 : Ref sig .tc := ⟨.hbm, 78, rfl⟩
abbrev main_v62 : Ref sig .tc := ⟨.hbm, 79, rfl⟩
abbrev main_v63 : Ref sig .tc := ⟨.hbm, 80, rfl⟩
abbrev main_cst_12 : Ref sig .tc := ⟨.hbm, 81, rfl⟩
abbrev main_v64 : Ref sig .tc := ⟨.hbm, 82, rfl⟩
abbrev main_v65 : Ref sig .tc := ⟨.hbm, 83, rfl⟩
abbrev main_cst_13 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_cst_14 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_15 : Ref sig .tc := ⟨.hbm, 93, rfl⟩
abbrev main_v73 : Ref sig .tc := ⟨.hbm, 94, rfl⟩
abbrev main_v74 : Ref sig .tc := ⟨.hbm, 95, rfl⟩
abbrev main_cst_16 : Ref sig .tc := ⟨.hbm, 96, rfl⟩
abbrev main_v75 : Ref sig .tc := ⟨.hbm, 97, rfl⟩
abbrev main_v76 : Ref sig .tc := ⟨.hbm, 98, rfl⟩
abbrev main_cst_17 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩

abbrev nD : Nat := 1
abbrev τ : Topo := Topo.v7x

variable {F : FTy → Type} [FloatOps F]
-- ==== SbBwd.lean ====
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8192x1024 : Shape := ⟨2, ![8192, 1024]⟩
abbrev S256x128 : Shape := ⟨2, ![256, 128]⟩
abbrev S8192x128 : Shape := ⟨2, ![8192, 128]⟩
abbrev S256 : Shape := ⟨1, ![256]⟩
abbrev S256x1 : Shape := ⟨2, ![256, 1]⟩
abbrev S256x256 : Shape := ⟨2, ![256, 256]⟩
abbrev S128x256 : Shape := ⟨2, ![128, 256]⟩
abbrev S128x1 : Shape := ⟨2, ![128, 1]⟩
abbrev S128x128 : Shape := ⟨2, ![128, 128]⟩
abbrev S128 : Shape := ⟨1, ![128]⟩
abbrev S512x128 : Shape := ⟨2, ![512, 128]⟩
abbrev S128x512 : Shape := ⟨2, ![128, 512]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 83
  | .vmem => 18
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x512, .f32⟩
  | .hbm, ⟨4, _⟩ => ⟨S8192x8x64, .f32⟩
  | .hbm, ⟨5, _⟩ => ⟨S8x8192x64, .f32⟩
  | .hbm, ⟨6, _⟩ => ⟨S8192x8x64, .f32⟩
  | .hbm, ⟨7, _⟩ => ⟨S8x8192x64, .f32⟩
  | .hbm, ⟨8, _⟩ => ⟨S8192x8x64, .f32⟩
  | .hbm, ⟨9, _⟩ => ⟨S8x8192x64, .f32⟩
  | .hbm, ⟨10, _⟩ => ⟨S8x8192x8192, .f32⟩
  | .hbm, ⟨11, _⟩ => ⟨S_, .f32⟩
  | .hbm, ⟨12, _⟩ => ⟨S8x8192x8192, .f32⟩
  | .hbm, ⟨13, _⟩ => ⟨S8x8192x8192, .f32⟩
  | .hbm, ⟨14, _⟩ => ⟨S8192, .i32⟩
  | .hbm, ⟨15, _⟩ => ⟨S8192x1, .i32⟩
  | .hbm, ⟨16, _⟩ => ⟨S8192, .i32⟩
  | .hbm, ⟨17, _⟩ => ⟨S1x8192, .i32⟩
  | .hbm, ⟨18, _⟩ => ⟨S8192x8192, .i32⟩
  | .hbm, ⟨19, _⟩ => ⟨S8192x8192, .i32⟩
  | .hbm, ⟨20, _⟩ => ⟨S8192x8192, .i1⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .f32⟩
  | .hbm, ⟨28, _⟩ => ⟨S8x8192x8192, .i1⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S8x8192x8192, .f32⟩
  | .hbm, ⟨38, _⟩ => ⟨S_, .f32⟩
  | .hbm, ⟨39, _⟩ => ⟨S_, .f32⟩
  | .hbm, ⟨40, _⟩ => ⟨S8x8192x8192, .i1⟩
  | .hbm, ⟨41, _⟩ => ⟨S8x8192x8192, .f32⟩
  | .hbm, ⟨42, _⟩ => ⟨S8x8192x8192, .f32⟩
  | .hbm, ⟨43, _⟩ => ⟨S_, .f32⟩
  | .hbm, ⟨44, _⟩ => ⟨S_, .f32⟩
  | .hbm, ⟨45, _⟩ => ⟨S8x8192x8192, .f32⟩
  | .hbm, ⟨46, _⟩ => ⟨S8x8192x8192, .f32⟩
  | .hbm, ⟨47, _⟩ => ⟨S8x8192x8192, .f32⟩
  | .hbm, ⟨48, _⟩ => ⟨S_, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .f32⟩
  | .hbm, ⟨53, _⟩ => ⟨S8x8192x8192, .i1⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S8x8192x8192, .f32⟩
  | .hbm, ⟨65, _⟩ => ⟨S_, .f32⟩
  | .hbm, ⟨66, _⟩ => ⟨S_, .f32⟩
  | .hbm, ⟨67, _⟩ => ⟨S8x8192x8192, .i1⟩
  | .hbm, ⟨68, _⟩ => ⟨S8x8192x8192, .f32⟩
  | .hbm, ⟨69, _⟩ => ⟨S8x8192x8192, .f32⟩
  | .hbm, ⟨70, _⟩ => ⟨S8x8192x64, .f32⟩
  | .hbm, ⟨71, _⟩ => ⟨S8192x8x64, .f32⟩
  | .hbm, ⟨72, _⟩ => ⟨S8192x512, .f32⟩
  | .hbm, ⟨73, _⟩ => ⟨S_, .f32⟩
  | .hbm, ⟨74, _⟩ => ⟨S8192x512, .f32⟩
  | .hbm, ⟨75, _⟩ => ⟨S8192x512, .f32⟩
  | .hbm, ⟨76, _⟩ => ⟨S8192x512, .bf16⟩
  | .hbm, ⟨77, _⟩ => ⟨S8192x1024, .f32⟩
  | .hbm, ⟨78, _⟩ => ⟨S8192x1024, .bf16⟩
  | .hbm, ⟨79, _⟩ => ⟨S8192x512, .bf16⟩
  | .hbm, ⟨80, _⟩ => ⟨S8192x512, .bf16⟩
  | .hbm, ⟨81, _⟩ => ⟨S8192x512, .bf16⟩
  | .hbm, ⟨82, _⟩ => ⟨S8192x512, .bf16⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S8192x128, .bf16⟩
  | .local _ .vmem, ⟨13, _⟩ => ⟨S8192x128, .bf16⟩
  | .local _ .vmem, ⟨14, _⟩ => ⟨S8192x128, .bf16⟩
  | .local _ .vmem, ⟨15, _⟩ => ⟨S8192x128, .bf16⟩
  | .local _ .vmem, ⟨16, _⟩ => ⟨S8192x128, .f32⟩
  | .local _ .vmem, ⟨17, _⟩ => ⟨S8192x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1 : Ref sig .tc := ⟨.hbm, 36, rfl⟩
abbrev main_v17 : Ref sig .tc := ⟨.hbm, 37, rfl⟩
abbrev main_cst_0 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_call2_cst : Ref sig .tc := ⟨.hbm, 43, rfl⟩
abbrev main_call2_v0 : Ref sig .tc := ⟨.hbm, 44, rfl⟩
abbrev main_v19 : Ref sig .tc := ⟨.hbm, 45, rfl⟩
abbrev main_v20 : Ref sig .tc := ⟨.hbm, 46, rfl⟩
abbrev main_call3_v0 : Ref sig .tc := ⟨.hbm, 47, rfl⟩
abbrev main_call3_call0_cst : Ref sig .tc := ⟨.hbm, 48, rfl⟩
abbrev main_call3_call0_v0 : Ref sig .tc := ⟨.hbm, 49, rfl⟩
abbrev main_call3_call0_v1 : Ref sig .tc := ⟨.hbm, 50, rfl⟩
abbrev main_call3_call0_v2 : Ref sig .tc := ⟨.hbm, 51, rfl⟩
abbrev main_call3_call0_v3 : Ref sig .tc := ⟨.hbm, 52, rfl⟩
abbrev main_call3_call0_v4 : Ref sig .tc := ⟨.hbm, 53, rfl⟩
abbrev main_call3_call0_v5 : Ref sig .tc := ⟨.hbm, 54, rfl⟩
abbrev main_call3_call0_v6 : Ref sig .tc := ⟨.hbm, 55, rfl⟩
abbrev main_call3_call0_v7 : Ref sig .tc := ⟨.hbm, 56, rfl⟩
abbrev main_call3_call0_v8 : Ref sig .tc := ⟨.hbm, 57, rfl⟩
abbrev main_call3_call0_v9 : Ref sig .tc := ⟨.hbm, 58, rfl⟩
abbrev main_call3_call0_v10 : Ref sig .tc := ⟨.hbm, 59, rfl⟩
abbrev main_call3_call0_v11 : Ref sig .tc := ⟨.hbm, 60, rfl⟩
abbrev main_call3_v1 : Ref sig .tc := ⟨.hbm, 61, rfl⟩
abbrev main_v21 : Ref sig .tc := ⟨.hbm, 62, rfl⟩
abbrev main_v22 : Ref sig .tc := ⟨.hbm, 63, rfl⟩
abbrev main_v23 : Ref sig .tc := ⟨.hbm, 64, rfl⟩
abbrev main_cst_1 : Ref sig .tc := ⟨.hbm, 65, rfl⟩
abbrev main_call4_v0 : Ref sig .tc := ⟨.hbm, 66, rfl⟩
abbrev main_call4_v1 : Ref sig .tc := ⟨.hbm, 67, rfl⟩
abbrev main_call4_v2 : Ref sig .tc := ⟨.hbm, 68, rfl⟩
abbrev main_v24 : Ref sig .tc := ⟨.hbm, 69, rfl⟩
abbrev main_v25 : Ref sig .tc := ⟨.hbm, 70, rfl⟩
abbrev main_v26 : Ref sig .tc := ⟨.hbm, 71, rfl⟩
abbrev main_v27 : Ref sig .tc := ⟨.hbm, 72, rfl⟩
abbrev main_cst_2 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34_0 : Ref sig .tc := ⟨.hbm, 80, rfl⟩
abbrev main_v34_1 : Ref sig .tc := ⟨.hbm, 81, rfl⟩
abbrev main_v34_2 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 32], ![false, false]⟩

def k0_cond2 (i : grid0.Coords) : BitVec 1 :=
  let arg1 : BitVec 32 := BitVec.ofNat 32 (i 1).val
  let c0_i32_15 : BitVec 32 := 0#32
  let v51 : BitVec 1 := Scalar.cmpi .eq arg1 c0_i32_15
  let v52 : BitVec 32 := Scalar.extui v51
  let c0_i32_16 : BitVec 32 := 0#32
  let v53 : BitVec 1 := Scalar.cmpi .ne v52 c0_i32_16
  v53

def k0_mult1 : BitVec 32 :=
  let c0_i32_23 : BitVec 32 := 0#32
  c0_i32_23
def k0_mult2 : BitVec 32 :=
  let c0_i32_96 : BitVec 32 := 0#32
  c0_i32_96
def k0_mult3 : BitVec 32 :=
  let c0_i32_99 : BitVec 32 := 0#32
  c0_i32_99
def k0_mult4 (i : grid0.Coords) : BitVec 32 :=
  let arg1 : BitVec 32 := BitVec.ofNat 32 (i 1).val
  let c1_i32 : BitVec 32 := 1#32
  let v75 : BitVec 32 := Scalar.subi arg1 c1_i32
  let c256_i32 : BitVec 32 := 256#32
  let v76 : BitVec 32 := Scalar.muli v75 c256_i32
  v76
def k0_off1 (i : grid0.Coords) : Fin 2 → Nat :=
  let arg1 : BitVec 32 := BitVec.ofNat 32 (i 1).val
  let c1_i32 : BitVec 32 := 1#32
  let v75 : BitVec 32 := Scalar.subi arg1 c1_i32
  let c256_i32 : BitVec 32 := 256#32
  let v76 : BitVec 32 := Scalar.muli v75 c256_i32
  let v77 : BitVec 32 := v76
  let v78 : Index := Scalar.indexCast v77
  let c0_23 : Index := 0#32
  ![v78.toNat, 0]
def k0_mult5 (i : grid0.Coords) : BitVec 32 :=
  let arg1 : BitVec 32 := BitVec.ofNat 32 (i 1).val
  let c1_i32 : BitVec 32 := 1#32
  let v75 : BitVec 32 := Scalar.subi arg1 c1_i32
  let c0_i32_141 : BitVec 32 := 0#32
  let v616 : BitVec 32 := Scalar.addi v75 c0_i32_141
  let c256_i32_142 : BitVec 32 := 256#32
  let v617 : BitVec 32 := Scalar.muli v616 c256_i32_142
  v617
def k0_off2 (i : grid0.Coords) (c0_i32_141 : BitVec 32) : Fin 2 → Nat :=
  let arg1 : BitVec 32 := BitVec.ofNat 32 (i 1).val
  let c1_i32 : BitVec 32 := 1#32
  let v75 : BitVec 32 := Scalar.subi arg1 c1_i32
  let v616 : BitVec 32 := Scalar.addi v75 c0_i32_141
  let c256_i32_142 : BitVec 32 := 256#32
  let v617 : BitVec 32 := Scalar.muli v616 c256_i32_142
  let v618 : BitVec 32 := v617
  let v619 : Index := Scalar.indexCast v618
  let c0_143 : Index := 0#32
  ![v619.toNat, 0]
def k0_mult6 (i : grid0.Coords) : BitVec 32 :=
  let arg1 : BitVec 32 := BitVec.ofNat 32 (i 1).val
  let c1_i32 : BitVec 32 := 1#32
  let v75 : BitVec 32 := Scalar.subi arg1 c1_i32
  let c0_i32_145 : BitVec 32 := 0#32
  let v626 : BitVec 32 := Scalar.addi v75 c0_i32_145
  let c256_i32_146 : BitVec 32 := 256#32
  let v627 : BitVec 32 := Scalar.muli v626 c256_i32_146
  v627
def k0_mult7 (i : grid0.Coords) : BitVec 32 :=
  let arg1 : BitVec 32 := BitVec.ofNat 32 (i 1).val
  let c1_i32 : BitVec 32 := 1#32
  let v75 : BitVec 32 := Scalar.subi arg1 c1_i32
  let c1_i32_149 : BitVec 32 := 1#32
  let v636 : BitVec 32 := Scalar.addi v75 c1_i32_149
  let c256_i32_150 : BitVec 32 := 256#32
  let v637 : BitVec 32 := Scalar.muli v636 c256_i32_150
  v637
def k0_mult8 (i : grid0.Coords) : BitVec 32 :=
  let arg1 : BitVec 32 := BitVec.ofNat 32 (i 1).val
  let c1_i32 : BitVec 32 := 1#32
  let v75 : BitVec 32 := Scalar.subi arg1 c1_i32
  let c1_i32_153 : BitVec 32 := 1#32
  let v646 : BitVec 32 := Scalar.addi v75 c1_i32_153
  let c256_i32_154 : BitVec 32 := 256#32
  let v647 : BitVec 32 := Scalar.muli v646 c256_i32_154
  v647
def k0_mult9 (arg12 : BitVec 32) : BitVec 32 :=
  let c256_i32 : BitVec 32 := 256#32
  let v75 : BitVec 32 := Scalar.muli arg12 c256_i32
  v75

def k0_off3 (arg12 : BitVec 32) : Fin 2 → Nat :=
  let c256_i32 : BitVec 32 := 256#32
  let v75 : BitVec 32 := Scalar.muli arg12 c256_i32
  let v76 : BitVec 32 := v75
  let v77 : Index := Scalar.indexCast v76
  let c0_23 : Index := 0#32
  ![v77.toNat, 0]
def k0_mult10 (arg12 : BitVec 32) : BitVec 32 :=
  let c0_i32_83 : BitVec 32 := 0#32
  let v345 : BitVec 32 := Scalar.addi arg12 c0_i32_83
  let c256_i32_84 : BitVec 32 := 256#32
  let v346 : BitVec 32 := Scalar.muli v345 c256_i32_84
  v346
def k0_off4 (arg12 : BitVec 32) : Fin 2 → Nat :=
  let c0_i32_83 : BitVec 32 := 0#32
  let v345 : BitVec 32 := Scalar.addi arg12 c0_i32_83
  let c256_i32_84 : BitVec 32 := 256#32
  let v346 : BitVec 32 := Scalar.muli v345 c256_i32_84
  let v347 : BitVec 32 := v346
  let v348 : Index := Scalar.indexCast v347
  let c0_85 : Index := 0#32
  ![v348.toNat, 0]
def k0_mult11 (arg12 : BitVec 32) : BitVec 32 :=
  let c0_i32_87 : BitVec 32 := 0#32
  let v355 : BitVec 32 := Scalar.addi arg12 c0_i32_87
  let c256_i32_88 : BitVec 32 := 256#32
  let v356 : BitVec 32 := Scalar.muli v355 c256_i32_88
  v356

def k0_chk1 (arg12 : BitVec 32) : Prop :=
  (256 ∣ (k0_mult9 arg12).toNat) ∧
  (∀ a, (k0_off3 arg12) a + S256x128.size a ≤ S8192x128.size a) ∧
  (256 ∣ (k0_mult10 arg12).toNat) ∧
  (∀ a, (k0_off4 arg12) a + S256x128.size a ≤ S8192x128.size a) ∧
  (256 ∣ (k0_mult11 arg12).toNat)
theorem k0_mult9_dvd : ∀ (arg12 : BitVec 32) (k0_hw1 : k0_chk1 arg12), 256 ∣ (k0_mult9 arg12).toNat := fun arg12 k0_hw1 => k0_hw1.1
theorem k0_off3_inb : ∀ (arg12 : BitVec 32) (k0_hw1 : k0_chk1 arg12), ∀ a, (k0_off3 arg12) a + S256x128.size a ≤ S8192x128.size a := fun arg12 k0_hw1 => k0_hw1.2.1
theorem k0_mult10_dvd : ∀ (arg12 : BitVec 32) (k0_hw1 : k0_chk1 arg12), 256 ∣ (k0_mult10 arg12).toNat := fun arg12 k0_hw1 => k0_hw1.2.2.1
theorem k0_off4_inb : ∀ (arg12 : BitVec 32) (k0_hw1 : k0_chk1 arg12), ∀ a, (k0_off4 arg12) a + S256x128.size a ≤ S8192x128.size a := fun arg12 k0_hw1 => k0_hw1.2.2.2.1
theorem k0_mult11_dvd : ∀ (arg12 : BitVec 32) (k0_hw1 : k0_chk1 arg12), 256 ∣ (k0_mult11 arg12).toNat := fun arg12 k0_hw1 => k0_hw1.2.2.2.2

def k0_cond3 (i : grid0.Coords) : BitVec 1 :=
  let arg1 : BitVec 32 := BitVec.ofNat 32 (i 1).val
  let c31_i32 : BitVec 32 := 31#32
  let v72 : BitVec 1 := Scalar.cmpi .eq arg1 c31_i32
  let v73 : BitVec 32 := Scalar.extui v72
  let c0_i32_22 : BitVec 32 := 0#32
  let v74 : BitVec 1 := Scalar.cmpi .ne v73 c0_i32_22
  v74

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8192x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S8192x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== SbBwdIdeal.lean ====
variable {F : FTy → Type} [FloatOps F] [Named F]
def κ : String → Option EReal := fun
  | "skip" => some ⊥
  | _ => none
-- ==== SbRefIdeal.lean ====
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S8x64x8192 : Shape := ⟨3, ![8, 64, 8192]⟩

abbrev nBuf : Space → Nat
  | .hbm => 180
  | .vmem => 0
  | .smem => 0
  | _ => 0

abbrev hbmTy0_0 (i : Nat) : BufTy := match i % 128 with
  | 0 => ⟨S8192x512, .f32⟩
  | 1 => ⟨S8192x512, .f32⟩
  | 2 => ⟨S8192x512, .f32⟩
  | 3 => ⟨S8192x512, .f32⟩
  | 4 => ⟨S8192x8x64, .f32⟩
  | 5 => ⟨S8x8192x64, .f32⟩
  | 6 => ⟨S8192x8x64, .f32⟩
  | 7 => ⟨S8x8192x64, .f32⟩
  | 8 => ⟨S8192x8x64, .f32⟩
  | 9 => ⟨S8x8192x64, .f32⟩
  | 10 => ⟨S8x8192x8192, .f32⟩
  | 11 => ⟨S_, .f32⟩
  | 12 => ⟨S8x8192x8192, .f32⟩
  | 13 => ⟨S8x8192x8192, .f32⟩
  | 14 => ⟨S8192, .i32⟩
  | 15 => ⟨S8192x1, .i32⟩
  | 16 => ⟨S8192, .i32⟩
  | 17 => ⟨S1x8192, .i32⟩
  | 18 => ⟨S8192x8192, .i32⟩
  | 19 => ⟨S8192x8192, .i32⟩
  | 20 => ⟨S8192x8192, .i1⟩
  | 21 => ⟨S8x8192x8192, .f32⟩
  | 22 => ⟨S8x8192x8192, .f32⟩
  | 23 => ⟨S_, .f32⟩
  | 24 => ⟨S8x8192x8192, .f32⟩
  | 25 => ⟨S8x8192x8192, .f32⟩
  | 26 => ⟨S8x8192x8192, .f32⟩
  | 27 => ⟨S8x8192x8192, .f32⟩
  | 28 => ⟨S8x8192x8192, .i1⟩
  | 29 => ⟨S8x8192x8192, .f32⟩
  | 30 => ⟨S8x8192x8192, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S_, .f32⟩
  | 38 => ⟨S8x8192x8192, .f32⟩
  | 39 => ⟨S8x8192x8192, .i1⟩
  | 40 => ⟨S_, .f32⟩
  | 41 => ⟨S8x8192x8192, .f32⟩
  | 42 => ⟨S8x8192x8192, .f32⟩
  | 43 => ⟨S_, .f32⟩
  | 44 => ⟨S8x8192x8192, .f32⟩
  | 45 => ⟨S8x8192x8192, .i1⟩
  | 46 => ⟨S_, .f32⟩
  | 47 => ⟨S8x8192x8192, .f32⟩
  | 48 => ⟨S8x8192x8192, .f32⟩
  | 49 => ⟨S8x8192x8192, .f32⟩
  | 50 => ⟨S8x8192x8192, .f32⟩
  | 51 => ⟨S_, .f32⟩
  | 52 => ⟨S_, .f32⟩
  | 53 => ⟨S_, .i1⟩
  | 54 => ⟨S_, .f32⟩
  | 55 => ⟨S_, .f32⟩
  | 56 => ⟨S_, .f32⟩
  | 57 => ⟨S_, .f32⟩
  | 58 => ⟨S8x8192x8192, .f32⟩
  | 59 => ⟨S8x8192x8192, .i1⟩
  | 60 => ⟨S_, .f32⟩
  | 61 => ⟨S8x8192x8192, .f32⟩
  | 62 => ⟨S8x8192x8192, .f32⟩
  | 63 => ⟨S8x8192x8192, .f32⟩
  | 64 => ⟨S8x8192x8192, .f32⟩
  | 65 => ⟨S8x8192x8192, .f32⟩
  | 66 => ⟨S_, .f32⟩
  | 67 => ⟨S8x8192x8192, .f32⟩
  | 68 => ⟨S8x8192x8192, .f32⟩
  | 69 => ⟨S8x8192x8192, .f32⟩
  | 70 => ⟨S_, .f32⟩
  | 71 => ⟨S_, .f32⟩
  | 72 => ⟨S8x8192x8192, .i1⟩
  | 73 => ⟨S8x8192x8192, .f32⟩
  | 74 => ⟨S8x8192x8192, .f32⟩
  | 75 => ⟨S_, .f32⟩
  | 76 => ⟨S8x8192x8192, .f32⟩
  | 77 => ⟨S_, .f32⟩
  | 78 => ⟨S_, .f32⟩
  | 79 => ⟨S8x8192x8192, .f32⟩
  | 80 => ⟨S8x8192x8192, .f32⟩
  | 81 => ⟨S8x8192x8192, .f32⟩
  | 82 => ⟨S_, .f32⟩
  | 83 => ⟨S8x8192x8192, .f32⟩
  | 84 => ⟨S8x8192x8192, .f32⟩
  | 85 => ⟨S8x8192x8192, .f32⟩
  | 86 => ⟨S8x8192x8192, .f32⟩
  | 87 => ⟨S8x8192x8192, .i1⟩
  | 88 => ⟨S8x8192x8192, .f32⟩
  | 89 => ⟨S8x8192x8192, .f32⟩
  | 90 => ⟨S8x8192x8192, .f32⟩
  | 91 => ⟨S8x8192x8192, .f32⟩
  | 92 => ⟨S8x8192x8192, .f32⟩
  | 93 => ⟨S8x8192x8192, .f32⟩
  | 94 => ⟨S8x8192x8192, .f32⟩
  | 95 => ⟨S8x8192x8192, .f32⟩
  | 96 => ⟨S_, .f32⟩
  | 97 => ⟨S8x8192x8192, .f32⟩
  | 98 => ⟨S8x8192x8192, .i1⟩
  | 99 => ⟨S_, .f32⟩
  | 100 => ⟨S8x8192x8192, .f32⟩
  | 101 => ⟨S8x8192x8192, .f32⟩
  | 102 => ⟨S_, .f32⟩
  | 103 => ⟨S8x8192x8192, .f32⟩
  | 104 => ⟨S8x8192x8192, .i1⟩
  | 105 => ⟨S_, .f32⟩
  | 106 => ⟨S8x8192x8192, .f32⟩
  | 107 => ⟨S8x8192x8192, .f32⟩
  | 108 => ⟨S8x8192x8192, .f32⟩
  | 109 => ⟨S8x8192x8192, .f32⟩
  | 110 => ⟨S_, .f32⟩
  | 111 => ⟨S_, .f32⟩
  | 112 => ⟨S_, .i1⟩
  | 113 => ⟨S_, .f32⟩
  | 114 => ⟨S_, .f32⟩
  | 115 => ⟨S_, .f32⟩
  | 116 => ⟨S_, .f32⟩
  | 117 => ⟨S8x8192x8192, .f32⟩
  | 118 => ⟨S8x8192x8192, .i1⟩
  | 119 => ⟨S_, .f32⟩
  | 120 => ⟨S8x8192x8192, .f32⟩
  | 121 => ⟨S8x8192x8192, .f32⟩
  | 122 => ⟨S8x8192x8192, .f32⟩
  | 123 => ⟨S8x8192x8192, .f32⟩
  | 124 => ⟨S8x8192x8192, .f32⟩
  | 125 => ⟨S_, .f32⟩
  | 126 => ⟨S8x8192x8192, .f32⟩
  | 127 => ⟨S8x8192x8192, .f32⟩
  | _ => ⟨S8192x512, .f32⟩

abbrev hbmTy0_1 (i : Nat) : BufTy := match i % 128 with
  | 0 => ⟨S8x8192x8192, .f32⟩
  | 1 => ⟨S8x8192x8192, .f32⟩
  | 2 => ⟨S8x8192x8192, .f32⟩
  | 3 => ⟨S_, .f32⟩
  | 4 => ⟨S_, .f32⟩
  | 5 => ⟨S8x8192x8192, .i1⟩
  | 6 => ⟨S8x8192x8192, .f32⟩
  | 7 => ⟨S8x8192x8192, .f32⟩
  | 8 => ⟨S_, .f32⟩
  | 9 => ⟨S8x8192x8192, .f32⟩
  | 10 => ⟨S8x8192x64, .f32⟩
  | 11 => ⟨S8192x8x64, .f32⟩
  | 12 => ⟨S8192x512, .f32⟩
  | 13 => ⟨S8192x8x64, .f32⟩
  | 14 => ⟨S8x8192x64, .f32⟩
  | 15 => ⟨S8x64x8192, .f32⟩
  | 16 => ⟨S8x8192x64, .f32⟩
  | 17 => ⟨S8x8192x8192, .f32⟩
  | 18 => ⟨S_, .f32⟩
  | 19 => ⟨S8x8192x8192, .f32⟩
  | 20 => ⟨S8x8192x8192, .f32⟩
  | 21 => ⟨S8x8192x8192, .f32⟩
  | 22 => ⟨S8x8192x8192, .f32⟩
  | 23 => ⟨S8x8192x8192, .f32⟩
  | 24 => ⟨S8x8192x8192, .f32⟩
  | 25 => ⟨S8x8192x8192, .f32⟩
  | 26 => ⟨S_, .f32⟩
  | 27 => ⟨S_, .f32⟩
  | 28 => ⟨S8x8192x8192, .f32⟩
  | 29 => ⟨S8x8192x8192, .f32⟩
  | 30 => ⟨S_, .f32⟩
  | 31 => ⟨S8x8192x8192, .f32⟩
  | 32 => ⟨S8x8192x8192, .f32⟩
  | 33 => ⟨S8x8192x8192, .f32⟩
  | 34 => ⟨S8x8192x8192, .f32⟩
  | 35 => ⟨S8x8192x8192, .f32⟩
  | 36 => ⟨S8x8192x8192, .f32⟩
  | 37 => ⟨S8x8192x8192, .f32⟩
  | 38 => ⟨S_, .f32⟩
  | 39 => ⟨S8x8192x8192, .f32⟩
  | 40 => ⟨S8x8192x8192, .f32⟩
  | 41 => ⟨S8x8192x64, .f32⟩
  | 42 => ⟨S8x8192x64, .f32⟩
  | 43 => ⟨S8192x8x64, .f32⟩
  | 44 => ⟨S8192x512, .f32⟩
  | 45 => ⟨S8192x8x64, .f32⟩
  | 46 => ⟨S8192x512, .f32⟩
  | 47 => ⟨S8192x8x64, .f32⟩
  | 48 => ⟨S8192x512, .f32⟩
  | 49 => ⟨S8192x512, .bf16⟩
  | 50 => ⟨S8192x512, .bf16⟩
  | 51 => ⟨S8192x512, .bf16⟩
  | _ => ⟨S8192x512, .f32⟩

abbrev hbmTy (i : Nat) : BufTy := match i / 128 with
  | 0 => hbmTy0_0 i
  | 1 => hbmTy0_1 i
  | _ => ⟨S8192x512, .f32⟩

abbrev bufTy : (tb : Table) → Fin (tcTables nBuf tb) → BufTy
  | .hbm, ⟨i, _⟩ => hbmTy i
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_call0_v0 : Ref sig .tc := ⟨.hbm, 22, rfl⟩
abbrev main_call0_call0_cst : Ref sig .tc := ⟨.hbm, 23, rfl⟩
abbrev main_call0_call0_v0 : Ref sig .tc := ⟨.hbm, 24, rfl⟩
abbrev main_call0_call0_v1 : Ref sig .tc := ⟨.hbm, 25, rfl⟩
abbrev main_call0_call0_v2 : Ref sig .tc := ⟨.hbm, 26, rfl⟩
abbrev main_call0_call0_v3 : Ref sig .tc := ⟨.hbm, 27, rfl⟩
abbrev main_call0_call0_v4 : Ref sig .tc := ⟨.hbm, 28, rfl⟩
abbrev main_call0_call0_v5 : Ref sig .tc := ⟨.hbm, 29, rfl⟩
abbrev main_call0_call0_v6 : Ref sig .tc := ⟨.hbm, 30, rfl⟩
abbrev main_call0_call0_v7 : Ref sig .tc := ⟨.hbm, 31, rfl⟩
abbrev main_call0_call0_v8 : Ref sig .tc := ⟨.hbm, 32, rfl⟩
abbrev main_call0_call0_v9 : Ref sig .tc := ⟨.hbm, 33, rfl⟩
abbrev main_call0_call0_v10 : Ref sig .tc := ⟨.hbm, 34, rfl⟩
abbrev main_call0_call0_v11 : Ref sig .tc := ⟨.hbm, 35, rfl⟩
abbrev main_call0_v1_0 : Ref sig .tc := ⟨.hbm, 36, rfl⟩
abbrev main_call0_call0_cst_0 : Ref sig .tc := ⟨.hbm, 37, rfl⟩
abbrev main_call0_call0_v13 : Ref sig .tc := ⟨.hbm, 38, rfl⟩
abbrev main_call0_call0_v14 : Ref sig .tc := ⟨.hbm, 39, rfl⟩
abbrev main_call0_call0_cst_1 : Ref sig .tc := ⟨.hbm, 40, rfl⟩
abbrev main_call0_call0_v15 : Ref sig .tc := ⟨.hbm, 41, rfl⟩
abbrev main_call0_call0_v16 : Ref sig .tc := ⟨.hbm, 42, rfl⟩
abbrev main_call0_call0_cst_2 : Ref sig .tc := ⟨.hbm, 43, rfl⟩
abbrev main_call0_call0_v17 : Ref sig .tc := ⟨.hbm, 44, rfl⟩
abbrev main_call0_call0_v18 : Ref sig .tc := ⟨.hbm, 45, rfl⟩
abbrev main_call0_call0_cst_3 : Ref sig .tc := ⟨.hbm, 46, rfl⟩
abbrev main_call0_call0_v19 : Ref sig .tc := ⟨.hbm, 47, rfl⟩
abbrev main_call0_call0_v20 : Ref sig .tc := ⟨.hbm, 48, rfl⟩
abbrev main_call0_call0_v21 : Ref sig .tc := ⟨.hbm, 49, rfl⟩
abbrev main_v17_1 : Ref sig .tc := ⟨.hbm, 50, rfl⟩
abbrev main_call0_call0_cst_4 : Ref sig .tc := ⟨.hbm, 51, rfl⟩
abbrev main_call0_call0_cst_5 : Ref sig .tc := ⟨.hbm, 52, rfl⟩
abbrev main_call0_call0_v23 : Ref sig .tc := ⟨.hbm, 53, rfl⟩
abbrev main_call0_call0_cst_6 : Ref sig .tc := ⟨.hbm, 54, rfl⟩
abbrev main_call0_call0_cst_7 : Ref sig .tc := ⟨.hbm, 55, rfl⟩
abbrev main_call0_call0_v24 : Ref sig .tc := ⟨.hbm, 56, rfl⟩
abbrev main_call0_call0_cst_8 : Ref sig .tc := ⟨.hbm, 57, rfl⟩
abbrev main_call0_call0_v25 : Ref sig .tc := ⟨.hbm, 58, rfl⟩
abbrev main_call0_call0_v26 : Ref sig .tc := ⟨.hbm, 59, rfl⟩
abbrev main_call0_call0_cst_9 : Ref sig .tc := ⟨.hbm, 60, rfl⟩
abbrev main_call0_call0_v27 : Ref sig .tc := ⟨.hbm, 61, rfl⟩
abbrev main_call0_call0_v28 : Ref sig .tc := ⟨.hbm, 62, rfl⟩
abbrev main_call0_call0_v29 : Ref sig .tc := ⟨.hbm, 63, rfl⟩
abbrev main_call0_call0_v30 : Ref sig .tc := ⟨.hbm, 64, rfl⟩
abbrev main_call0_call0_v31 : Ref sig .tc := ⟨.hbm, 65, rfl⟩
abbrev main_call0_call0_cst_10 : Ref sig .tc := ⟨.hbm, 66, rfl⟩
abbrev main_call0_call0_v32 : Ref sig .tc := ⟨.hbm, 67, rfl⟩
abbrev main_v17_2 : Ref sig .tc := ⟨.hbm, 68, rfl⟩
abbrev main_v17_0 : Ref sig .tc := ⟨.hbm, 69, rfl⟩
abbrev main_cst_0 : Ref sig .tc := ⟨.hbm, 70, rfl⟩
abbrev main_call1_v0 : Ref sig .tc := ⟨.hbm, 71, rfl⟩
abbrev main_v18_1 : Ref sig .tc := ⟨.hbm, 72, rfl⟩
abbrev main_call1_v2 : Ref sig .tc := ⟨.hbm, 73, rfl⟩
abbrev main_v18_0 : Ref sig .tc := ⟨.hbm, 74, rfl⟩
abbrev main_call1_cst : Ref sig .tc := ⟨.hbm, 75, rfl⟩
abbrev main_v18_2 : Ref sig .tc := ⟨.hbm, 76, rfl⟩
abbrev main_call2_cst : Ref sig .tc := ⟨.hbm, 77, rfl⟩
abbrev main_call2_v0 : Ref sig .tc := ⟨.hbm, 78, rfl⟩
abbrev main_v19 : Ref sig .tc := ⟨.hbm, 79, rfl⟩
abbrev main_v20 : Ref sig .tc := ⟨.hbm, 80, rfl⟩
abbrev main_call3_v0 : Ref sig .tc := ⟨.hbm, 81, rfl⟩
abbrev main_call3_call0_cst : Ref sig .tc := ⟨.hbm, 82, rfl⟩
abbrev main_call3_call0_v0 : Ref sig .tc := ⟨.hbm, 83, rfl⟩
abbrev main_call3_call0_v1 : Ref sig .tc := ⟨.hbm, 84, rfl⟩
abbrev main_call3_call0_v2 : Ref sig .tc := ⟨.hbm, 85, rfl⟩
abbrev main_call3_call0_v3 : Ref sig .tc := ⟨.hbm, 86, rfl⟩
abbrev main_call3_call0_v4 : Ref sig .tc := ⟨.hbm, 87, rfl⟩
abbrev main_call3_call0_v5 : Ref sig .tc := ⟨.hbm, 88, rfl⟩
abbrev main_call3_call0_v6 : Ref sig .tc := ⟨.hbm, 89, rfl⟩
abbrev main_call3_call0_v7 : Ref sig .tc := ⟨.hbm, 90, rfl⟩
abbrev main_call3_call0_v8 : Ref sig .tc := ⟨.hbm, 91, rfl⟩
abbrev main_call3_call0_v9 : Ref sig .tc := ⟨.hbm, 92, rfl⟩
abbrev main_call3_call0_v10 : Ref sig .tc := ⟨.hbm, 93, rfl⟩
abbrev main_call3_call0_v11 : Ref sig .tc := ⟨.hbm, 94, rfl⟩
abbrev main_call3_v1_0 : Ref sig .tc := ⟨.hbm, 95, rfl⟩
abbrev main_call3_call0_cst_0 : Ref sig .tc := ⟨.hbm, 96, rfl⟩
abbrev main_call3_call0_v13 : Ref sig .tc := ⟨.hbm, 97, rfl⟩
abbrev main_call3_call0_v14 : Ref sig .tc := ⟨.hbm, 98, rfl⟩
abbrev main_call3_call0_cst_1 : Ref sig .tc := ⟨.hbm, 99, rfl⟩
abbrev main_call3_call0_v15 : Ref sig .tc := ⟨.hbm, 100, rfl⟩
abbrev main_call3_call0_v16 : Ref sig .tc := ⟨.hbm, 101, rfl⟩
abbrev main_call3_call0_cst_2 : Ref sig .tc := ⟨.hbm, 102, rfl⟩
abbrev main_call3_call0_v17 : Ref sig .tc := ⟨.hbm, 103, rfl⟩
abbrev main_call3_call0_v18 : Ref sig .tc := ⟨.hbm, 104, rfl⟩
abbrev main_call3_call0_cst_3 : Ref sig .tc := ⟨.hbm, 105, rfl⟩
abbrev main_call3_call0_v19 : Ref sig .tc := ⟨.hbm, 106, rfl⟩
abbrev main_call3_call0_v20 : Ref sig .tc := ⟨.hbm, 107, rfl⟩
abbrev main_call3_call0_v21 : Ref sig .tc := ⟨.hbm, 108, rfl⟩
abbrev main_v21_1 : Ref sig .tc := ⟨.hbm, 109, rfl⟩
abbrev main_call3_call0_cst_4 : Ref sig .tc := ⟨.hbm, 110, rfl⟩
abbrev main_call3_call0_cst_5 : Ref sig .tc := ⟨.hbm, 111, rfl⟩
abbrev main_call3_call0_v23 : Ref sig .tc := ⟨.hbm, 112, rfl⟩
abbrev main_call3_call0_cst_6 : Ref sig .tc := ⟨.hbm, 113, rfl⟩
abbrev main_call3_call0_cst_7 : Ref sig .tc := ⟨.hbm, 114, rfl⟩
abbrev main_call3_call0_v24 : Ref sig .tc := ⟨.hbm, 115, rfl⟩
abbrev main_call3_call0_cst_8 : Ref sig .tc := ⟨.hbm, 116, rfl⟩
abbrev main_call3_call0_v25 : Ref sig .tc := ⟨.hbm, 117, rfl⟩
abbrev main_call3_call0_v26 : Ref sig .tc := ⟨.hbm, 118, rfl⟩
abbrev main_call3_call0_cst_9 : Ref sig .tc := ⟨.hbm, 119, rfl⟩
abbrev main_call3_call0_v27 : Ref sig .tc := ⟨.hbm, 120, rfl⟩
abbrev main_call3_call0_v28 : Ref sig .tc := ⟨.hbm, 121, rfl⟩
abbrev main_call3_call0_v29 : Ref sig .tc := ⟨.hbm, 122, rfl⟩
abbrev main_call3_call0_v30 : Ref sig .tc := ⟨.hbm, 123, rfl⟩
abbrev main_call3_call0_v31 : Ref sig .tc := ⟨.hbm, 124, rfl⟩
abbrev main_call3_call0_cst_10 : Ref sig .tc := ⟨.hbm, 125, rfl⟩
abbrev main_call3_call0_v32 : Ref sig .tc := ⟨.hbm, 126, rfl⟩
abbrev main_v21_2 : Ref sig .tc := ⟨.hbm, 127, rfl⟩
abbrev main_v21_0 : Ref sig .tc := ⟨.hbm, 128, rfl⟩
abbrev main_v22 : Ref sig .tc := ⟨.hbm, 129, rfl⟩
abbrev main_v23 : Ref sig .tc := ⟨.hbm, 130, rfl⟩
abbrev main_cst_1 : Ref sig .tc := ⟨.hbm, 131, rfl⟩
abbrev main_call4_v0 : Ref sig .tc := ⟨.hbm, 132, rfl⟩
abbrev main_v24_1 : Ref sig .tc := ⟨.hbm, 133, rfl⟩
abbrev main_call4_v2 : Ref sig .tc := ⟨.hbm, 134, rfl⟩
abbrev main_v24_0 : Ref sig .tc := ⟨.hbm, 135, rfl⟩
abbrev main_call4_cst : Ref sig .tc := ⟨.hbm, 136, rfl⟩
abbrev main_v24_2 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_v32 : Ref sig .tc := ⟨.hbm, 145, rfl⟩
abbrev main_call5_cst : Ref sig .tc := ⟨.hbm, 146, rfl⟩
abbrev main_call5_v0 : Ref sig .tc := ⟨.hbm, 147, rfl⟩
abbrev main_v33 : Ref sig .tc := ⟨.hbm, 148, rfl⟩
abbrev main_v34 : Ref sig .tc := ⟨.hbm, 149, rfl⟩
abbrev main_call6_v0 : Ref sig .tc := ⟨.hbm, 150, rfl⟩
abbrev main_call6_v1 : Ref sig .tc := ⟨.hbm, 151, rfl⟩
abbrev main_v35 : Ref sig .tc := ⟨.hbm, 152, rfl⟩
abbrev main_v36 : Ref sig .tc := ⟨.hbm, 153, rfl⟩
abbrev main_call7_cst : Ref sig .tc := ⟨.hbm, 154, rfl⟩
abbrev main_call7_v0 : Ref sig .tc := ⟨.hbm, 155, rfl⟩
abbrev main_v37 : Ref sig .tc := ⟨.hbm, 156, rfl⟩
abbrev main_v38 : Ref sig .tc := ⟨.hbm, 157, rfl⟩
abbrev main_call8_cst : Ref sig .tc := ⟨.hbm, 158, rfl⟩
abbrev main_call8_v0 : Ref sig .tc := ⟨.hbm, 159, rfl⟩
abbrev main_v39 : Ref sig .tc := ⟨.hbm, 160, rfl⟩
abbrev main_call9_v0 : Ref sig .tc := ⟨.hbm, 161, rfl⟩
abbrev main_call9_v1 : Ref sig .tc := ⟨.hbm, 162, rfl⟩
abbrev main_v40 : Ref sig .tc := ⟨.hbm, 163, rfl⟩
abbrev main_v41 : Ref sig .tc := ⟨.hbm, 164, rfl⟩
abbrev main_v42 : Ref sig .tc := ⟨.hbm, 165, rfl⟩
abbrev main_cst_2 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩
abbrev main_v52 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩

abbrev nD : Nat := 1
abbrev τ : Topo := Topo.v7x

variable {F : FTy → Type} [FloatOps F]
-- ==== CrossBwd.lean ====
abbrev S8192x1024 : Shape := ⟨2, ![8192, 1024]⟩
abbrev S256x2048 : Shape := ⟨2, ![256, 2048]⟩
abbrev S256x8x256 : Shape := ⟨3, ![256, 8, 256]⟩
abbrev S8x256x256 : Shape := ⟨3, ![8, 256, 256]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩
abbrev S256x512 : Shape := ⟨2, ![256, 512]⟩

abbrev nBuf : Space → Nat
  | .hbm => 9
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S256x8x256, .f32⟩
  | .hbm, ⟨4, _⟩ => ⟨S8x256x256, .f32⟩
  | .hbm, ⟨5, _⟩ => ⟨S8192x1024, .bf16⟩
  | .hbm, ⟨6, _⟩ => ⟨S8192x1024, .bf16⟩
  | .hbm, ⟨7, _⟩ => ⟨S8192x1024, .bf16⟩
  | .hbm, ⟨8, _⟩ => ⟨S8x256x256, .f32⟩
  | .local _ .vmem, ⟨0, _⟩ => ⟨S512x1024, .bf16⟩
  | .local _ .vmem, ⟨1, _⟩ => ⟨S512x1024, .bf16⟩
  | .local _ .vmem, ⟨2, _⟩ => ⟨S8x256x256, .f32⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S8x256x256, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4_0 : Ref sig .tc := ⟨.hbm, 7, rfl⟩
abbrev main_v4_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x256x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== CrossRefIdeal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩
abbrev S4x256x256 : Shape := ⟨3, ![4, 256, 256]⟩
abbrev S256x8x256 : Shape := ⟨3, ![256, 8, 256]⟩
abbrev S8x256x256 : Shape := ⟨3, ![8, 256, 256]⟩

abbrev nBuf : Space → Nat
  | .hbm => 86
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S8192x1024, .f32⟩
  | .hbm, ⟨3, _⟩ => ⟨S256x1024, .f32⟩
  | .hbm, ⟨4, _⟩ => ⟨S256x1024, .f32⟩
  | .hbm, ⟨5, _⟩ => ⟨S8192x4x256, .f32⟩
  | .hbm, ⟨6, _⟩ => ⟨S256x4x256, .f32⟩
  | .hbm, ⟨7, _⟩ => ⟨S256x4x256, .f32⟩
  | .hbm, ⟨8, _⟩ => ⟨S4x8192x256, .f32⟩
  | .hbm, ⟨9, _⟩ => ⟨S_, .f32⟩
  | .hbm, ⟨10, _⟩ => ⟨S4x8192x256, .f32⟩
  | .hbm, ⟨11, _⟩ => ⟨S4x8192x256, .f32⟩
  | .hbm, ⟨12, _⟩ => ⟨S_, .f32⟩
  | .hbm, ⟨13, _⟩ => ⟨S4x8192, .f32⟩
  | .hbm, ⟨14, _⟩ => ⟨S4x8192x1, .f32⟩
  | .hbm, ⟨15, _⟩ => ⟨S4x8192x256, .f32⟩
  | .hbm, ⟨16, _⟩ => ⟨S4x8192x256, .i1⟩
  | .hbm, ⟨17, _⟩ => ⟨S4x8192x256, .f32⟩
  | .hbm, ⟨18, _⟩ => ⟨S_, .f32⟩
  | .hbm, ⟨19, _⟩ => ⟨S4x8192, .f32⟩
  | .hbm, ⟨20, _⟩ => ⟨S_, .f32⟩
  | .hbm, ⟨21, _⟩ => ⟨S4x8192, .f32⟩
  | .hbm, ⟨22, _⟩ => ⟨S4x8192, .f32⟩
  | .hbm, ⟨23, _⟩ => ⟨S_, .f32⟩
  | .hbm, ⟨24, _⟩ => ⟨S4x8192, .f32⟩
  | .hbm, ⟨25, _⟩ => ⟨S4x8192, .i1⟩
  | .hbm, ⟨26, _⟩ => ⟨S_, .f32⟩
  | .hbm, ⟨27, _⟩ => ⟨S4x8192, .f32⟩
  | .hbm, ⟨28, _⟩ => ⟨S4x8192, .i1⟩
  | .hbm, ⟨29, _⟩ => ⟨S_, .f32⟩
  | .hbm, ⟨30, _⟩ => ⟨S4x8192, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S4x8192, .f32⟩
  | .hbm, ⟨37, _⟩ => ⟨S4x8192x1, .f32⟩
  | .hbm, ⟨38, _⟩ => ⟨S4x8192x256, .f32⟩
  | .hbm, ⟨39, _⟩ => ⟨S4x8192x256, .f32⟩
  | .hbm, ⟨40, _⟩ => ⟨S4x8192x256, .f32⟩
  | .hbm, ⟨41, _⟩ => ⟨S_, .f32⟩
  | .hbm, ⟨42, _⟩ => ⟨S4x8192, .f32⟩
  | .hbm, ⟨43, _⟩ => ⟨S4x8192x1, .f32⟩
  | .hbm, ⟨44, _⟩ => ⟨S4x8192x256, .f32⟩
  | .hbm, ⟨45, _⟩ => ⟨S4x8192x256, .f32⟩
  | .hbm, ⟨46, _⟩ => ⟨S4x8192x1, .f32⟩
  | .hbm, ⟨47, _⟩ => ⟨S_, .f32⟩
  | .hbm, ⟨48, _⟩ => ⟨S4x8192x1, .f32⟩
  | .hbm, ⟨49, _⟩ => ⟨S4x8192x1, .f32⟩
  | .hbm, ⟨50, _⟩ => ⟨S4x256x8192, .f32⟩
  | .hbm, ⟨51, _⟩ => ⟨S8192x4x256, .f32⟩
  | .hbm, ⟨52, _⟩ => ⟨S8192x1024, .f32⟩
  | .hbm, ⟨53, _⟩ => ⟨S8192x4x256, .f32⟩
  | .hbm, ⟨54, _⟩ => ⟨S4x256x8192, .f32⟩
  | .hbm, ⟨55, _⟩ => ⟨S4x8192x256, .f32⟩
  | .hbm, ⟨56, _⟩ => ⟨S4x256x256, .f32⟩
  | .hbm, ⟨57, _⟩ => ⟨S256x4x256, .f32⟩
  | .hbm, ⟨58, _⟩ => ⟨S4x8192x256, .f32⟩
  | .hbm, ⟨59, _⟩ => ⟨S4x8192x256, .f32⟩
  | .hbm, ⟨60, _⟩ => ⟨S4x8192x256, .f32⟩
  | .hbm, ⟨61, _⟩ => ⟨S_, .f32⟩
  | .hbm, ⟨62, _⟩ => ⟨S4x8192, .f32⟩
  | .hbm, ⟨63, _⟩ => ⟨S4x8192x1, .f32⟩
  | .hbm, ⟨64, _⟩ => ⟨S4x8192x1, .f32⟩
  | .hbm, ⟨65, _⟩ => ⟨S4x8192x256, .f32⟩
  | .hbm, ⟨66, _⟩ => ⟨S4x8192x256, .f32⟩
  | .hbm, ⟨67, _⟩ => ⟨S_, .f32⟩
  | .hbm, ⟨68, _⟩ => ⟨S4x8192, .f32⟩
  | .hbm, ⟨69, _⟩ => ⟨S4x8192x256, .f32⟩
  | .hbm, ⟨70, _⟩ => ⟨S4x8192x256, .f32⟩
  | .hbm, ⟨71, _⟩ => ⟨S4x8192x256, .f32⟩
  | .hbm, ⟨72, _⟩ => ⟨S_, .f32⟩
  | .hbm, ⟨73, _⟩ => ⟨S4x8192x256, .f32⟩
  | .hbm, ⟨74, _⟩ => ⟨S4x8192x256, .f32⟩
  | .hbm, ⟨75, _⟩ => ⟨S4x256x256, .f32⟩
  | .hbm, ⟨76, _⟩ => ⟨S256x4x256, .f32⟩
  | .hbm, ⟨77, _⟩ => ⟨S4x8192x256, .f32⟩
  | .hbm, ⟨78, _⟩ => ⟨S8192x4x256, .f32⟩
  | .hbm, ⟨79, _⟩ => ⟨S256x1024, .f32⟩
  | .hbm, ⟨80, _⟩ => ⟨S256x1024, .f32⟩
  | .hbm, ⟨81, _⟩ => ⟨S8192x1024, .f32⟩
  | .hbm, ⟨82, _⟩ => ⟨S256x2048, .f32⟩
  | .hbm, ⟨83, _⟩ => ⟨S8192x1024, .bf16⟩
  | .hbm, ⟨84, _⟩ => ⟨S256x8x256, .f32⟩
  | .hbm, ⟨85, _⟩ => ⟨S8x256x256, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_1 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_cst_5 : Ref sig .tc := ⟨.hbm, 29, rfl⟩
abbrev main_v20 : Ref sig .tc := ⟨.hbm, 30, rfl⟩
abbrev main_cst_6 : Ref sig .tc := ⟨.hbm, 31, rfl⟩
abbrev main_v21 : Ref sig .tc := ⟨.hbm, 32, rfl⟩
abbrev main_cst_7 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_8 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_9 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_10 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_11 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_cst_12 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_v59 : Ref sig .tc := ⟨.hbm, 76, rfl⟩
abbrev main_v60 : Ref sig .tc := ⟨.hbm, 77, rfl⟩
abbrev main_v61 : Ref sig .tc := ⟨.hbm, 78, rfl⟩
abbrev main_v62 : Ref sig .tc := ⟨.hbm, 79, rfl⟩
abbrev main_v63 : Ref sig .tc := ⟨.hbm, 80, rfl⟩
abbrev main_v64 : Ref sig .tc := ⟨.hbm, 81, rfl⟩
abbrev main_v65 : Ref sig .tc := ⟨.hbm, 82, rfl⟩
abbrev main_v66 : Ref sig .tc := ⟨.hbm, 83, rfl⟩
abbrev main_v67 : Ref sig .tc := ⟨.hbm, 84, rfl⟩
abbrev main_v68 : Ref sig .tc := ⟨.hbm, 85, rfl⟩

abbrev nD : Nat := 1
abbrev τ : Topo := Topo.v7x

variable {F : FTy → Type} [FloatOps F]
-- ==== FfnBwd.lean ====
abbrev S8192x1024 : Shape := ⟨2, ![8192, 1024]⟩
abbrev S1024x5376 : Shape := ⟨2, ![1024, 5376]⟩
abbrev S2688x1024 : Shape := ⟨2, ![2688, 1024]⟩
abbrev S8192x5376 : Shape := ⟨2, ![8192, 5376]⟩
abbrev S8192x8x672 : Shape := ⟨3, ![8192, 8, 672]⟩
abbrev S8x8192x672 : Shape := ⟨3, ![8, 8192, 672]⟩
abbrev S5376x1024 : Shape := ⟨2, ![5376, 1024]⟩
abbrev S8x672x1024 : Shape := ⟨3, ![8, 672, 1024]⟩
abbrev S4x8192x672 : Shape := ⟨3, ![4, 8192, 672]⟩
abbrev S256x1024 : Shape := ⟨2, ![256, 1024]⟩
abbrev S8x256x672 : Shape := ⟨3, ![8, 256, 672]⟩
abbrev S4x256x672 : Shape := ⟨3, ![4, 256, 672]⟩
abbrev S2 : Shape := ⟨1, ![2]⟩
abbrev S1 : Shape := ⟨1, ![1]⟩
abbrev S_ : Shape := ⟨0, ![]⟩
abbrev S1x256x672 : Shape := ⟨3, ![1, 256, 672]⟩
abbrev S256x672 : Shape := ⟨2, ![256, 672]⟩
abbrev S672x1024 : Shape := ⟨2, ![672, 1024]⟩
abbrev S1x672x1024 : Shape := ⟨3, ![1, 672, 1024]⟩

abbrev nBuf : Space → Nat
  | .hbm => 15
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S2688x1024, .f32⟩
  | .hbm, ⟨3, _⟩ => ⟨S8192x1024, .f32⟩
  | .hbm, ⟨4, _⟩ => ⟨S8192x5376, .f32⟩
  | .hbm, ⟨5, _⟩ => ⟨S8192x8x672, .f32⟩
  | .hbm, ⟨6, _⟩ => ⟨S8x8192x672, .f32⟩
  | .hbm, ⟨7, _⟩ => ⟨S8x8192x672, .bf16⟩
  | .hbm, ⟨8, _⟩ => ⟨S5376x1024, .f32⟩
  | .hbm, ⟨9, _⟩ => ⟨S8x672x1024, .f32⟩
  | .hbm, ⟨10, _⟩ => ⟨S8x672x1024, .bf16⟩
  | .hbm, ⟨11, _⟩ => ⟨S2688x1024, .bf16⟩
  | .hbm, ⟨12, _⟩ => ⟨S8192x1024, .f32⟩
  | .hbm, ⟨13, _⟩ => ⟨S8x8192x672, .bf16⟩
  | .hbm, ⟨14, _⟩ => ⟨S4x8192x672, .bf16⟩
  | .local _ .vmem, ⟨0, _⟩ => ⟨S256x1024, .f32⟩
  | .local _ .vmem, ⟨1, _⟩ => ⟨S256x1024, .f32⟩
  | .local _ .vmem, ⟨2, _⟩ => ⟨S8x256x672, .bf16⟩
  | .local _ .vmem, ⟨3, _⟩ => ⟨S8x256x672, .bf16⟩
  | .local _ .vmem, ⟨4, _⟩ => ⟨S256x1024, .f32⟩
  | .local _ .vmem, ⟨5, _⟩ => ⟨S256x1024, .f32⟩
  | .local _ .vmem, ⟨6, _⟩ => ⟨S8x256x672, .bf16⟩
  | .local _ .vmem, ⟨7, _⟩ => ⟨S8x256x672, .bf16⟩
  | .local _ .vmem, ⟨8, _⟩ => ⟨S4x256x672, .bf16⟩
  | .local _ .vmem, ⟨9, _⟩ => ⟨S4x256x672, .bf16⟩
  | .local _ .vmem, ⟨10, _⟩ => ⟨S8x672x1024, .bf16⟩
  | .local _ .vmem, ⟨11, _⟩ => ⟨S2688x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8_0 : Ref sig .tc := ⟨.hbm, 12, rfl⟩
abbrev main_v8_1 : Ref sig .tc := ⟨.hbm, 13, rfl⟩
abbrev main_v8_2 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x672 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x256x672 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x256x672 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== FfnRefIdeal.lean ====
abbrev S8192x1024 : Shape := ⟨2, ![8192, 1024]⟩
abbrev S1024x5376 : Shape := ⟨2, ![1024, 5376]⟩
abbrev S2688x1024 : Shape := ⟨2, ![2688, 1024]⟩
abbrev S8192x5376 : Shape := ⟨2, ![8192, 5376]⟩
abbrev S8192x2688 : Shape := ⟨2, ![8192, 2688]⟩
abbrev S_ : Shape := ⟨0, ![]⟩
abbrev S8192x8x672 : Shape := ⟨3, ![8192, 8, 672]⟩
abbrev S8x8192x672 : Shape := ⟨3, ![8, 8192, 672]⟩
abbrev S8192x4x672 : Shape := ⟨3, ![8192, 4, 672]⟩
abbrev S4x8192x672 : Shape := ⟨3, ![4, 8192, 672]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S2688x1024, .f32⟩
  | .hbm, ⟨3, _⟩ => ⟨S8192x1024, .f32⟩
  | .hbm, ⟨4, _⟩ => ⟨S8192x5376, .f32⟩
  | .hbm, ⟨5, _⟩ => ⟨S8192x2688, .f32⟩
  | .hbm, ⟨6, _⟩ => ⟨S8192x2688, .f32⟩
  | .hbm, ⟨7, _⟩ => ⟨S8192x2688, .f32⟩
  | .hbm, ⟨8, _⟩ => ⟨S8192x2688, .f32⟩
  | .hbm, ⟨9, _⟩ => ⟨S_, .f32⟩
  | .hbm, ⟨10, _⟩ => ⟨S8192x2688, .f32⟩
  | .hbm, ⟨11, _⟩ => ⟨S8192x2688, .f32⟩
  | .hbm, ⟨12, _⟩ => ⟨S_, .f32⟩
  | .hbm, ⟨13, _⟩ => ⟨S8192x2688, .f32⟩
  | .hbm, ⟨14, _⟩ => ⟨S8192x2688, .f32⟩
  | .hbm, ⟨15, _⟩ => ⟨S_, .f32⟩
  | .hbm, ⟨16, _⟩ => ⟨S8192x2688, .f32⟩
  | .hbm, ⟨17, _⟩ => ⟨S8192x2688, .f32⟩
  | .hbm, ⟨18, _⟩ => ⟨S8192x2688, .f32⟩
  | .hbm, ⟨19, _⟩ => ⟨S8192x2688, .f32⟩
  | .hbm, ⟨20, _⟩ => ⟨S8192x2688, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x2688, .f32⟩
  | .hbm, ⟨35, _⟩ => ⟨S_, .f32⟩
  | .hbm, ⟨36, _⟩ => ⟨S8192x1024, .f32⟩
  | .hbm, ⟨37, _⟩ => ⟨S8192x1024, .f32⟩
  | .hbm, ⟨38, _⟩ => ⟨S8192x2688, .f32⟩
  | .hbm, ⟨39, _⟩ => ⟨S8192x2688, .f32⟩
  | .hbm, ⟨40, _⟩ => ⟨S8192x2688, .f32⟩
  | .hbm, ⟨41, _⟩ => ⟨S8192x2688, .f32⟩
  | .hbm, ⟨42, _⟩ => ⟨S8192x2688, .f32⟩
  | .hbm, ⟨43, _⟩ => ⟨S8192x2688, .f32⟩
  | .hbm, ⟨44, _⟩ => ⟨S8192x5376, .f32⟩
  | .hbm, ⟨45, _⟩ => ⟨S8192x1024, .f32⟩
  | .hbm, ⟨46, _⟩ => ⟨S8192x1024, .f32⟩
  | .hbm, ⟨47, _⟩ => ⟨S8192x8x672, .f32⟩
  | .hbm, ⟨48, _⟩ => ⟨S8x8192x672, .f32⟩
  | .hbm, ⟨49, _⟩ => ⟨S8x8192x672, .bf16⟩
  | .hbm, ⟨50, _⟩ => ⟨S8192x4x672, .f32⟩
  | .hbm, ⟨51, _⟩ => ⟨S4x8192x672, .f32⟩
  | .hbm, ⟨52, _⟩ => ⟨S4x8192x672, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v3_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v3_1 : Ref sig .tc := ⟨.hbm, 18, rfl⟩
abbrev main_v3_0 : Ref sig .tc := ⟨.hbm, 19, rfl⟩
abbrev main_v4 : Ref sig .tc := ⟨.hbm, 20, rfl⟩
abbrev main_cst : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_0 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_cst_1 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Ln2Bwd.lean ====
abbrev S8192x1024 : Shape := ⟨2, ![8192, 1024]⟩
abbrev S1x1024 : Shape := ⟨2, ![1, 1024]⟩
abbrev S1024x1024 : Shape := ⟨2, ![1024, 1024]⟩
abbrev S1x8192x1024 : Shape := ⟨3, ![1, 8192, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩
abbrev S1024 : Shape := ⟨1, ![1024]⟩

abbrev nBuf : Space → Nat
  | .hbm => 14
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .bf16⟩
  | .hbm, ⟨8, _⟩ => ⟨S1024x1024, .bf16⟩
  | .hbm, ⟨9, _⟩ => ⟨S1x8192x1024, .f32⟩
  | .hbm, ⟨10, _⟩ => ⟨S1x8192x1024, .f32⟩
  | .hbm, ⟨11, _⟩ => ⟨S8192x1024, .bf16⟩
  | .hbm, ⟨12, _⟩ => ⟨S1x1024, .f32⟩
  | .hbm, ⟨13, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S1x512x1024, .f32⟩
  | .local _ .vmem, ⟨4, _⟩ => ⟨S1x512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S1x1024, .f32⟩
  | .local _ .vmem, ⟨10, _⟩ => ⟨S1x1024, .f32⟩
  | .local _ .vmem, ⟨11, _⟩ => ⟨S1x512x1024, .f32⟩
  | .local _ .vmem, ⟨12, _⟩ => ⟨S1x512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | .local _ .vmem, ⟨16, _⟩ => ⟨S1x1024, .f32⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨4, ![1, 16, 1, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def k0_cond3 (i : grid0.Coords) : BitVec 1 :=
  let arg1 : BitVec 32 := BitVec.ofNat 32 (i 1).val
  let c0_i32_39 : BitVec 32 := 0#32
  let v81 : BitVec 1 := Scalar.cmpi .eq arg1 c0_i32_39
  let v82 : BitVec 32 := Scalar.extui v81
  let c0_i32_40 : BitVec 32 := 0#32
  let v83 : BitVec 1 := Scalar.cmpi .ne v82 c0_i32_40
  v83

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg2.toNat, arg3.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true, false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false, false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false, false, false]

abbrev stage0_7 : Fin 2 → Memref sig .tc .vmem S1x512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true, false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false, false, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false, false]
-- ==== Ln2RefIdeal.lean ====
abbrev S8192x1024 : Shape := ⟨2, ![8192, 1024]⟩
abbrev S1x1024 : Shape := ⟨2, ![1, 1024]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1024 : Shape := ⟨1, ![1024]⟩
abbrev S1x8192x1024 : Shape := ⟨3, ![1, 8192, 1024]⟩

abbrev nBuf : Space → Nat
  | .hbm => 96
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192x1024, .f32⟩
  | .hbm, ⟨22, _⟩ => ⟨S8192x1024, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x1, .f32⟩
  | .hbm, ⟨35, _⟩ => ⟨S8192x1, .f32⟩
  | .hbm, ⟨36, _⟩ => ⟨S_, .f32⟩
  | .hbm, ⟨37, _⟩ => ⟨S8192x1, .f32⟩
  | .hbm, ⟨38, _⟩ => ⟨S8192x1, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S_, .f32⟩
  | .hbm, ⟨47, _⟩ => ⟨S8192x1024, .f32⟩
  | .hbm, ⟨48, _⟩ => ⟨S8192x1024, .f32⟩
  | .hbm, ⟨49, _⟩ => ⟨S_, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S_, .f32⟩
  | .hbm, ⟨55, _⟩ => ⟨S1024, .f32⟩
  | .hbm, ⟨56, _⟩ => ⟨S1x1024, .f32⟩
  | .hbm, ⟨57, _⟩ => ⟨S8192x1024, .f32⟩
  | .hbm, ⟨58, _⟩ => ⟨S_, .f32⟩
  | .hbm, ⟨59, _⟩ => ⟨S1024, .f32⟩
  | .hbm, ⟨60, _⟩ => ⟨S1x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S_, .f32⟩
  | .hbm, ⟨65, _⟩ => ⟨S8192, .f32⟩
  | .hbm, ⟨66, _⟩ => ⟨S8192x1, .f32⟩
  | .hbm, ⟨67, _⟩ => ⟨S8192x1024, .f32⟩
  | .hbm, ⟨68, _⟩ => ⟨S8192x1024, .f32⟩
  | .hbm, ⟨69, _⟩ => ⟨S8192x1, .f32⟩
  | .hbm, ⟨70, _⟩ => ⟨S8192x1024, .f32⟩
  | .hbm, ⟨71, _⟩ => ⟨S_, .f32⟩
  | .hbm, ⟨72, _⟩ => ⟨S8192, .f32⟩
  | .hbm, ⟨73, _⟩ => ⟨S8192x1, .f32⟩
  | .hbm, ⟨74, _⟩ => ⟨S_, .f32⟩
  | .hbm, ⟨75, _⟩ => ⟨S8192x1, .f32⟩
  | .hbm, ⟨76, _⟩ => ⟨S8192x1, .f32⟩
  | .hbm, ⟨77, _⟩ => ⟨S_, .f32⟩
  | .hbm, ⟨78, _⟩ => ⟨S8192, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S_, .f32⟩
  | .hbm, ⟨83, _⟩ => ⟨S8192, .f32⟩
  | .hbm, ⟨84, _⟩ => ⟨S8192x1, .f32⟩
  | .hbm, ⟨85, _⟩ => ⟨S8192x1024, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S1x8192x1024, .f32⟩
  | .hbm, ⟨95, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_7 : Ref sig .tc := ⟨.hbm, 46, rfl⟩
abbrev main_v31 : Ref sig .tc := ⟨.hbm, 47, rfl⟩
abbrev main_v32 : Ref sig .tc := ⟨.hbm, 48, rfl⟩
abbrev main_cst_8 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_cst_10 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_cst_12 : Ref sig .tc := ⟨.hbm, 71, rfl⟩
abbrev main_v51 : Ref sig .tc := ⟨.hbm, 72, rfl⟩
abbrev main_v52 : Ref sig .tc := ⟨.hbm, 73, rfl⟩
abbrev main_cst_13 : Ref sig .tc := ⟨.hbm, 74, rfl⟩
abbrev main_v53 : Ref sig .tc := ⟨.hbm, 75, rfl⟩
abbrev main_v54 : Ref sig .tc := ⟨.hbm, 76, rfl⟩
abbrev main_cst_14 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_15 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_cst_16 : Ref sig .tc := ⟨.hbm, 87, rfl⟩
abbrev main_v63 : Ref sig .tc := ⟨.hbm, 88, rfl⟩
abbrev main_v64 : Ref sig .tc := ⟨.hbm, 89, rfl⟩
abbrev main_cst_17 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩

abbrev nD : Nat := 1
abbrev τ : Topo := Topo.v7x

variable {F : FTy → Type} [FloatOps F]
-- ==== Ln1Bwd.lean ====
abbrev S8192x1024 : Shape := ⟨2, ![8192, 1024]⟩
abbrev S1x1024 : Shape := ⟨2, ![1, 1024]⟩
abbrev S1024x2560 : Shape := ⟨2, ![1024, 2560]⟩
abbrev S8192x512 : Shape := ⟨2, ![8192, 512]⟩
abbrev S2560x1024 : Shape := ⟨2, ![2560, 1024]⟩
abbrev S256x512 : Shape := ⟨2, ![256, 512]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩
abbrev S1024 : Shape := ⟨1, ![1024]⟩

abbrev nBuf : Space → Nat
  | .hbm => 22
  | .vmem => 25
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x2560, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x1024, .f32⟩
  | .hbm, ⟨11, _⟩ => ⟨S8192x512, .bf16⟩
  | .hbm, ⟨12, _⟩ => ⟨S8192x512, .bf16⟩
  | .hbm, ⟨13, _⟩ => ⟨S8192x512, .bf16⟩
  | .hbm, ⟨14, _⟩ => ⟨S8192x512, .bf16⟩
  | .hbm, ⟨15, _⟩ => ⟨S8192x512, .bf16⟩
  | .hbm, ⟨16, _⟩ => ⟨S2560x1024, .f32⟩
  | .hbm, ⟨17, _⟩ => ⟨S2560x1024, .bf16⟩
  | .hbm, ⟨18, _⟩ => ⟨S8192x1024, .f32⟩
  | .hbm, ⟨19, _⟩ => ⟨S8192x1024, .bf16⟩
  | .hbm, ⟨20, _⟩ => ⟨S1x1024, .f32⟩
  | .hbm, ⟨21, _⟩ => ⟨S1x1024, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .bf16⟩
  | .local _ .vmem, ⟨7, _⟩ => ⟨S256x512, .bf16⟩
  | .local _ .vmem, ⟨8, _⟩ => ⟨S256x512, .bf16⟩
  | .local _ .vmem, ⟨9, _⟩ => ⟨S256x512, .bf16⟩
  | .local _ .vmem, ⟨10, _⟩ => ⟨S2560x1024, .bf16⟩
  | .local _ .vmem, ⟨11, _⟩ => ⟨S256x1024, .f32⟩
  | .local _ .vmem, ⟨12, _⟩ => ⟨S256x1024, .f32⟩
  | .local _ .vmem, ⟨13, _⟩ => ⟨S256x1024, .f32⟩
  | .local _ .vmem, ⟨14, _⟩ => ⟨S256x1024, .f32⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x1024, .bf16⟩
  | .local _ .vmem, ⟨22, _⟩ => ⟨S256x1024, .bf16⟩
  | .local _ .vmem, ⟨23, _⟩ => ⟨S1x1024, .f32⟩
  | .local _ .vmem, ⟨24, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7_0 : Ref sig .tc := ⟨.hbm, 18, rfl⟩
abbrev main_v7_1 : Ref sig .tc := ⟨.hbm, 19, rfl⟩
abbrev main_v7_2 : Ref sig .tc := ⟨.hbm, 20, rfl⟩
abbrev main_v7_3 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg14_0 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22
abbrev cc0_sem13_0 : DmaSem sig := 23
abbrev cc0_sem14_0 : DmaSem sig := 24

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x1024 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Ln1RefIdeal.lean ====
abbrev S8192x1024 : Shape := ⟨2, ![8192, 1024]⟩
abbrev S1x1024 : Shape := ⟨2, ![1, 1024]⟩
abbrev S1024x2560 : Shape := ⟨2, ![1024, 2560]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S8192x2560 : Shape := ⟨2, ![8192, 2560]⟩
abbrev S1024 : Shape := ⟨1, ![1024]⟩

abbrev nBuf : Space → Nat
  | .hbm => 108
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x2560, .f32⟩
  | .hbm, ⟨5, _⟩ => ⟨S8192x512, .f32⟩
  | .hbm, ⟨6, _⟩ => ⟨S8192x512, .f32⟩
  | .hbm, ⟨7, _⟩ => ⟨S8192x512, .f32⟩
  | .hbm, ⟨8, _⟩ => ⟨S8192x512, .f32⟩
  | .hbm, ⟨9, _⟩ => ⟨S8192x512, .f32⟩
  | .hbm, ⟨10, _⟩ => ⟨S8192x1024, .f32⟩
  | .hbm, ⟨11, _⟩ => ⟨S_, .f32⟩
  | .hbm, ⟨12, _⟩ => ⟨S8192x1024, .f32⟩
  | .hbm, ⟨13, _⟩ => ⟨S8192x1024, .f32⟩
  | .hbm, ⟨14, _⟩ => ⟨S_, .f32⟩
  | .hbm, ⟨15, _⟩ => ⟨S8192x1024, .f32⟩
  | .hbm, ⟨16, _⟩ => ⟨S8192x1024, .f32⟩
  | .hbm, ⟨17, _⟩ => ⟨S8192x1024, .f32⟩
  | .hbm, ⟨18, _⟩ => ⟨S_, .f32⟩
  | .hbm, ⟨19, _⟩ => ⟨S8192, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x1024, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1024, .f32⟩
  | .hbm, ⟨29, _⟩ => ⟨S8192x1024, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x2560, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S8192x512, .f32⟩
  | .hbm, ⟨58, _⟩ => ⟨S_, .f32⟩
  | .hbm, ⟨59, _⟩ => ⟨S8192x1024, .f32⟩
  | .hbm, ⟨60, _⟩ => ⟨S8192x1024, .f32⟩
  | .hbm, ⟨61, _⟩ => ⟨S_, .f32⟩
  | .hbm, ⟨62, _⟩ => ⟨S8192x1024, .f32⟩
  | .hbm, ⟨63, _⟩ => ⟨S8192x1024, .f32⟩
  | .hbm, ⟨64, _⟩ => ⟨S8192x2560, .f32⟩
  | .hbm, ⟨65, _⟩ => ⟨S8192x1024, .f32⟩
  | .hbm, ⟨66, _⟩ => ⟨S8192x1024, .f32⟩
  | .hbm, ⟨67, _⟩ => ⟨S_, .f32⟩
  | .hbm, ⟨68, _⟩ => ⟨S1024, .f32⟩
  | .hbm, ⟨69, _⟩ => ⟨S1x1024, .f32⟩
  | .hbm, ⟨70, _⟩ => ⟨S8192x1024, .f32⟩
  | .hbm, ⟨71, _⟩ => ⟨S_, .f32⟩
  | .hbm, ⟨72, _⟩ => ⟨S1024, .f32⟩
  | .hbm, ⟨73, _⟩ => ⟨S1x1024, .f32⟩
  | .hbm, ⟨74, _⟩ => ⟨S8192x1024, .f32⟩
  | .hbm, ⟨75, _⟩ => ⟨S8192x1024, .f32⟩
  | .hbm, ⟨76, _⟩ => ⟨S8192x1024, .f32⟩
  | .hbm, ⟨77, _⟩ => ⟨S_, .f32⟩
  | .hbm, ⟨78, _⟩ => ⟨S8192, .f32⟩
  | .hbm, ⟨79, _⟩ => ⟨S8192x1, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S8192x1024, .f32⟩
  | .hbm, ⟨84, _⟩ => ⟨S_, .f32⟩
  | .hbm, ⟨85, _⟩ => ⟨S8192, .f32⟩
  | .hbm, ⟨86, _⟩ => ⟨S8192x1, .f32⟩
  | .hbm, ⟨87, _⟩ => ⟨S_, .f32⟩
  | .hbm, ⟨88, _⟩ => ⟨S8192x1, .f32⟩
  | .hbm, ⟨89, _⟩ => ⟨S8192x1, .f32⟩
  | .hbm, ⟨90, _⟩ => ⟨S_, .f32⟩
  | .hbm, ⟨91, _⟩ => ⟨S8192, .f32⟩
  | .hbm, ⟨92, _⟩ => ⟨S8192x1024, .f32⟩
  | .hbm, ⟨93, _⟩ => ⟨S8192x1024, .f32⟩
  | .hbm, ⟨94, _⟩ => ⟨S8192x1024, .f32⟩
  | .hbm, ⟨95, _⟩ => ⟨S_, .f32⟩
  | .hbm, ⟨96, _⟩ => ⟨S8192, .f32⟩
  | .hbm, ⟨97, _⟩ => ⟨S8192x1, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_v1 : Ref sig .tc := ⟨.hbm, 13, rfl⟩
abbrev main_cst_0 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_cst_2 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_cst_3 : Ref sig .tc := ⟨.hbm, 27, rfl⟩
abbrev main_v12 : Ref sig .tc := ⟨.hbm, 28, rfl⟩
abbrev main_v13 : Ref sig .tc := ⟨.hbm, 29, rfl⟩
abbrev main_cst_4 : Ref sig .tc := ⟨.hbm, 30, rfl⟩
abbrev main_v14 : Ref sig .tc := ⟨.hbm, 31, rfl⟩
abbrev main_v15 : Ref sig .tc := ⟨.hbm, 32, rfl⟩
abbrev main_cst_5 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_6 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_7 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_8 : Ref sig .tc := ⟨.hbm, 58, rfl⟩
abbrev main_v38 : Ref sig .tc := ⟨.hbm, 59, rfl⟩
abbrev main_v39 : Ref sig .tc := ⟨.hbm, 60, rfl⟩
abbrev main_cst_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_10 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_11 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_13 : Ref sig .tc := ⟨.hbm, 84, rfl⟩
abbrev main_v59 : Ref sig .tc := ⟨.hbm, 85, rfl⟩
abbrev main_v60 : Ref sig .tc := ⟨.hbm, 86, rfl⟩
abbrev main_cst_14 : Ref sig .tc := ⟨.hbm, 87, rfl⟩
abbrev main_v61 : Ref sig .tc := ⟨.hbm, 88, rfl⟩
abbrev main_v62 : Ref sig .tc := ⟨.hbm, 89, rfl⟩
abbrev main_cst_15 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_cst_16 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_17 : Ref sig .tc := ⟨.hbm, 100, rfl⟩
abbrev main_v71 : Ref sig .tc := ⟨.hbm, 101, rfl⟩
abbrev main_v72 : Ref sig .tc := ⟨.hbm, 102, rfl⟩
abbrev main_cst_18 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩

abbrev nD : Nat := 1
abbrev τ : Topo := Topo.v7x

variable {F : FTy → Type} [FloatOps F]
-- ==== MixBwd.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 12
  | .vmem => 15
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S8192x1024, .f32⟩
  | .hbm, ⟨6, _⟩ => ⟨S8192x1024, .bf16⟩
  | .hbm, ⟨7, _⟩ => ⟨S1024x1024, .bf16⟩
  | .hbm, ⟨8, _⟩ => ⟨S8192x512, .f32⟩
  | .hbm, ⟨9, _⟩ => ⟨S8192x512, .bf16⟩
  | .hbm, ⟨10, _⟩ => ⟨S1x512, .f32⟩
  | .hbm, ⟨11, _⟩ => ⟨S1x512, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S1x512, .f32⟩
  | .local _ .vmem, ⟨8, _⟩ => ⟨S1x512, .f32⟩
  | .local _ .vmem, ⟨9, _⟩ => ⟨S512x512, .f32⟩
  | .local _ .vmem, ⟨10, _⟩ => ⟨S512x512, .f32⟩
  | .local _ .vmem, ⟨11, _⟩ => ⟨S512x512, .bf16⟩
  | .local _ .vmem, ⟨12, _⟩ => ⟨S512x512, .bf16⟩
  | .local _ .vmem, ⟨13, _⟩ => ⟨S1x512, .f32⟩
  | .local _ .vmem, ⟨14, _⟩ => ⟨S1x512, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== MixRefIdeal.lean ====
abbrev S8192x512 : Shape := ⟨2, ![8192, 512]⟩
abbrev S1x512 : Shape := ⟨2, ![1, 512]⟩
abbrev S1024x1024 : Shape := ⟨2, ![1024, 1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S512 : Shape := ⟨1, ![512]⟩

abbrev nBuf : Space → Nat
  | .hbm => 98
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S1024x1024, .f32⟩
  | .hbm, ⟨5, _⟩ => ⟨S8192x1024, .f32⟩
  | .hbm, ⟨6, _⟩ => ⟨S8192x512, .f32⟩
  | .hbm, ⟨7, _⟩ => ⟨S_, .f32⟩
  | .hbm, ⟨8, _⟩ => ⟨S8192x512, .f32⟩
  | .hbm, ⟨9, _⟩ => ⟨S8192x512, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S8192x1, .f32⟩
  | .hbm, ⟨21, _⟩ => ⟨S_, .f32⟩
  | .hbm, ⟨22, _⟩ => ⟨S8192x1, .f32⟩
  | .hbm, ⟨23, _⟩ => ⟨S8192x1, .f32⟩
  | .hbm, ⟨24, _⟩ => ⟨S8192x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S8192x512, .f32⟩
  | .hbm, ⟨29, _⟩ => ⟨S_, .f32⟩
  | .hbm, ⟨30, _⟩ => ⟨S8192x512, .f32⟩
  | .hbm, ⟨31, _⟩ => ⟨S8192x512, .f32⟩
  | .hbm, ⟨32, _⟩ => ⟨S_, .f32⟩
  | .hbm, ⟨33, _⟩ => ⟨S8192, .f32⟩
  | .hbm, ⟨34, _⟩ => ⟨S8192x1, .f32⟩
  | .hbm, ⟨35, _⟩ => ⟨S_, .f32⟩
  | .hbm, ⟨36, _⟩ => ⟨S8192x1, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x1, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x512, .f32⟩
  | .hbm, ⟨47, _⟩ => ⟨S8192x512, .f32⟩
  | .hbm, ⟨48, _⟩ => ⟨S8192x512, .f32⟩
  | .hbm, ⟨49, _⟩ => ⟨S8192x512, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x512, .f32⟩
  | .hbm, ⟨54, _⟩ => ⟨S8192x512, .f32⟩
  | .hbm, ⟨55, _⟩ => ⟨S8192x512, .f32⟩
  | .hbm, ⟨56, _⟩ => ⟨S_, .f32⟩
  | .hbm, ⟨57, _⟩ => ⟨S512, .f32⟩
  | .hbm, ⟨58, _⟩ => ⟨S1x512, .f32⟩
  | .hbm, ⟨59, _⟩ => ⟨S8192x512, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S8192x512, .f32⟩
  | .hbm, ⟨66, _⟩ => ⟨S8192x512, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S_, .f32⟩
  | .hbm, ⟨72, _⟩ => ⟨S8192, .f32⟩
  | .hbm, ⟨73, _⟩ => ⟨S8192x512, .f32⟩
  | .hbm, ⟨74, _⟩ => ⟨S8192x512, .f32⟩
  | .hbm, ⟨75, _⟩ => ⟨S8192x512, .f32⟩
  | .hbm, ⟨76, _⟩ => ⟨S8192x512, .f32⟩
  | .hbm, ⟨77, _⟩ => ⟨S_, .f32⟩
  | .hbm, ⟨78, _⟩ => ⟨S512, .f32⟩
  | .hbm, ⟨79, _⟩ => ⟨S1x512, .f32⟩
  | .hbm, ⟨80, _⟩ => ⟨S8192x512, .f32⟩
  | .hbm, ⟨81, _⟩ => ⟨S8192x512, .f32⟩
  | .hbm, ⟨82, _⟩ => ⟨S8192x512, .f32⟩
  | .hbm, ⟨83, _⟩ => ⟨S_, .f32⟩
  | .hbm, ⟨84, _⟩ => ⟨S8192, .f32⟩
  | .hbm, ⟨85, _⟩ => ⟨S8192x1, .f32⟩
  | .hbm, ⟨86, _⟩ => ⟨S8192x512, .f32⟩
  | .hbm, ⟨87, _⟩ => ⟨S8192x512, .f32⟩
  | .hbm, ⟨88, _⟩ => ⟨S8192x1, .f32⟩
  | .hbm, ⟨89, _⟩ => ⟨S_, .f32⟩
  | .hbm, ⟨90, _⟩ => ⟨S8192x1, .f32⟩
  | .hbm, ⟨91, _⟩ => ⟨S8192x1, .f32⟩
  | .hbm, ⟨92, _⟩ => ⟨S_, .f32⟩
  | .hbm, ⟨93, _⟩ => ⟨S8192, .f32⟩
  | .hbm, ⟨94, _⟩ => ⟨S8192x512, .f32⟩
  | .hbm, ⟨95, _⟩ => ⟨S8192x512, .f32⟩
  | .hbm, ⟨96, _⟩ => ⟨S8192x512, .f32⟩
  | .hbm, ⟨97, _⟩ => ⟨S8192x512, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_cst_2 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_3 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_v21 : Ref sig .tc := ⟨.hbm, 34, rfl⟩
abbrev main_cst_6 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_cst_8 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_cst_10 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_cst_11 : Ref sig .tc := ⟨.hbm, 68, rfl⟩
abbrev main_v50 : Ref sig .tc := ⟨.hbm, 69, rfl⟩
abbrev main_v51 : Ref sig .tc := ⟨.hbm, 70, rfl⟩
abbrev main_cst_12 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_13 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Ffn2Bwd.lean ====
abbrev S8192x1024 : Shape := ⟨2, ![8192, 1024]⟩
abbrev S1x1024 : Shape := ⟨2, ![1, 1024]⟩
abbrev S1024x5376 : Shape := ⟨2, ![1024, 5376]⟩
abbrev S2688x1024 : Shape := ⟨2, ![2688, 1024]⟩
abbrev S_ : Shape := ⟨0, ![]⟩
abbrev S8192 : Shape := ⟨1, ![8192]⟩
abbrev S8192x1 : Shape := ⟨2, ![8192, 1]⟩
abbrev S8192x5376 : Shape := ⟨2, ![8192, 5376]⟩
abbrev S8192x8x672 : Shape := ⟨3, ![8192, 8, 672]⟩
abbrev S8x8192x672 : Shape := ⟨3, ![8, 8192, 672]⟩
abbrev S5376x1024 : Shape := ⟨2, ![5376, 1024]⟩
abbrev S8x672x1024 : Shape := ⟨3, ![8, 672, 1024]⟩
abbrev S4x8192x672 : Shape := ⟨3, ![4, 8192, 672]⟩
abbrev S256x1024 : Shape := ⟨2, ![256, 1024]⟩
abbrev S8x256x672 : Shape := ⟨3, ![8, 256, 672]⟩
abbrev S4x256x672 : Shape := ⟨3, ![4, 256, 672]⟩
abbrev S2 : Shape := ⟨1, ![2]⟩
abbrev S1 : Shape := ⟨1, ![1]⟩
abbrev S1x256x672 : Shape := ⟨3, ![1, 256, 672]⟩
abbrev S256x672 : Shape := ⟨2, ![256, 672]⟩
abbrev S672x1024 : Shape := ⟨2, ![672, 1024]⟩
abbrev S1x672x1024 : Shape := ⟨3, ![1, 672, 1024]⟩
abbrev S256 : Shape := ⟨1, ![256]⟩
abbrev S256x1 : Shape := ⟨2, ![256, 1]⟩
abbrev S1024 : Shape := ⟨1, ![1024]⟩

abbrev nBuf : Space → Nat
  | .hbm => 52
  | .vmem => 22
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5376, .f32⟩
  | .hbm, ⟨5, _⟩ => ⟨S2688x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1024, .f32⟩
  | .hbm, ⟨18, _⟩ => ⟨S8192x1024, .f32⟩
  | .hbm, ⟨19, _⟩ => ⟨S8192x1024, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S8192x5376, .f32⟩
  | .hbm, ⟨39, _⟩ => ⟨S8192x8x672, .f32⟩
  | .hbm, ⟨40, _⟩ => ⟨S8x8192x672, .f32⟩
  | .hbm, ⟨41, _⟩ => ⟨S8x8192x672, .bf16⟩
  | .hbm, ⟨42, _⟩ => ⟨S5376x1024, .f32⟩
  | .hbm, ⟨43, _⟩ => ⟨S8x672x1024, .f32⟩
  | .hbm, ⟨44, _⟩ => ⟨S8x672x1024, .bf16⟩
  | .hbm, ⟨45, _⟩ => ⟨S2688x1024, .bf16⟩
  | .hbm, ⟨46, _⟩ => ⟨S8192x1024, .f32⟩
  | .hbm, ⟨47, _⟩ => ⟨S8192x1024, .bf16⟩
  | .hbm, ⟨48, _⟩ => ⟨S8x8192x672, .bf16⟩
  | .hbm, ⟨49, _⟩ => ⟨S4x8192x672, .bf16⟩
  | .hbm, ⟨50, _⟩ => ⟨S1x1024, .f32⟩
  | .hbm, ⟨51, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S8x256x672, .bf16⟩
  | .local _ .vmem, ⟨3, _⟩ => ⟨S8x256x672, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .bf16⟩
  | .local _ .vmem, ⟨14, _⟩ => ⟨S8x256x672, .bf16⟩
  | .local _ .vmem, ⟨15, _⟩ => ⟨S8x256x672, .bf16⟩
  | .local _ .vmem, ⟨16, _⟩ => ⟨S4x256x672, .bf16⟩
  | .local _ .vmem, ⟨17, _⟩ => ⟨S4x256x672, .bf16⟩
  | .local _ .vmem, ⟨18, _⟩ => ⟨S1x1024, .f32⟩
  | .local _ .vmem, ⟨19, _⟩ => ⟨S1x1024, .f32⟩
  | .local _ .vmem, ⟨20, _⟩ => ⟨S8x672x1024, .bf16⟩
  | .local _ .vmem, ⟨21, _⟩ => ⟨S2688x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33_0 : Ref sig .tc := ⟨.hbm, 46, rfl⟩
abbrev main_v33_1 : Ref sig .tc := ⟨.hbm, 47, rfl⟩
abbrev main_v33_2 : Ref sig .tc := ⟨.hbm, 48, rfl⟩
abbrev main_v33_3 : Ref sig .tc := ⟨.hbm, 49, rfl⟩
abbrev main_v33_4 : Ref sig .tc := ⟨.hbm, 50, rfl⟩
abbrev main_v33_5 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg11_0 : Ref sig .tc := ⟨.vmem, 19, rfl⟩
abbrev cc0_scratch0 : Ref sig .tc := ⟨.vmem, 20, rfl⟩
abbrev cc0_scratch1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem11_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x256x672 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S8x256x672 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x672 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Ffn2RefIdeal.lean ====
abbrev S8192x1024 : Shape := ⟨2, ![8192, 1024]⟩
abbrev S1x1024 : Shape := ⟨2, ![1, 1024]⟩
abbrev S1024x5376 : Shape := ⟨2, ![1024, 5376]⟩
abbrev S2688x1024 : Shape := ⟨2, ![2688, 1024]⟩
abbrev S_ : Shape := ⟨0, ![]⟩
abbrev S8192 : Shape := ⟨1, ![8192]⟩
abbrev S8192x1 : Shape := ⟨2, ![8192, 1]⟩
abbrev S8192x5376 : Shape := ⟨2, ![8192, 5376]⟩
abbrev S8192x2688 : Shape := ⟨2, ![8192, 2688]⟩
abbrev S1024 : Shape := ⟨1, ![1024]⟩
abbrev S8192x8x672 : Shape := ⟨3, ![8192, 8, 672]⟩
abbrev S8x8192x672 : Shape := ⟨3, ![8, 8192, 672]⟩
abbrev S8192x4x672 : Shape := ⟨3, ![8192, 4, 672]⟩
abbrev S4x8192x672 : Shape := ⟨3, ![4, 8192, 672]⟩

abbrev nBuf : Space → Nat
  | .hbm => 135
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1024x5376, .f32⟩
  | 5 => ⟨S2688x1024, .f32⟩
  | 6 => ⟨S8192x1024, .f32⟩
  | 7 => ⟨S_, .f32⟩
  | 8 => ⟨S8192x1024, .f32⟩
  | 9 => ⟨S8192x1024, .f32⟩
  | 10 => ⟨S8192x1024, .f32⟩
  | 11 => ⟨S_, .f32⟩
  | 12 => ⟨S8192, .f32⟩
  | 13 => ⟨S8192x1, .f32⟩
  | 14 => ⟨S_, .f32⟩
  | 15 => ⟨S8192x1, .f32⟩
  | 16 => ⟨S8192x1, .f32⟩
  | 17 => ⟨S8192x1024, .f32⟩
  | 18 => ⟨S8192x1024, .f32⟩
  | 19 => ⟨S8192x1024, .f32⟩
  | 20 => ⟨S_, .f32⟩
  | 21 => ⟨S8192x1024, .f32⟩
  | 22 => ⟨S8192x1024, .f32⟩
  | 23 => ⟨S_, .f32⟩
  | 24 => ⟨S8192, .f32⟩
  | 25 => ⟨S8192x1, .f32⟩
  | 26 => ⟨S_, .f32⟩
  | 27 => ⟨S8192x1, .f32⟩
  | 28 => ⟨S8192x1, .f32⟩
  | 29 => ⟨S8192x1024, .f32⟩
  | 30 => ⟨S8192x1024, .f32⟩
  | 31 => ⟨S_, .f32⟩
  | 32 => ⟨S8192x1, .f32⟩
  | 33 => ⟨S8192x1, .f32⟩
  | 34 => ⟨S8192x1, .f32⟩
  | 35 => ⟨S8192x1, .f32⟩
  | 36 => ⟨S_, .f32⟩
  | 37 => ⟨S8192x1, .f32⟩
  | 38 => ⟨S8192x1, .f32⟩
  | 39 => ⟨S8192x1024, .f32⟩
  | 40 => ⟨S8192x1024, .f32⟩
  | 41 => ⟨S8192x1024, .f32⟩
  | 42 => ⟨S8192x1024, .f32⟩
  | 43 => ⟨S8192x1024, .f32⟩
  | 44 => ⟨S8192x1024, .f32⟩
  | 45 => ⟨S8192x5376, .f32⟩
  | 46 => ⟨S8192x2688, .f32⟩
  | 47 => ⟨S8192x2688, .f32⟩
  | 48 => ⟨S8192x2688, .f32⟩
  | 49 => ⟨S8192x2688, .f32⟩
  | 50 => ⟨S_, .f32⟩
  | 51 => ⟨S8192x2688, .f32⟩
  | 52 => ⟨S8192x2688, .f32⟩
  | 53 => ⟨S_, .f32⟩
  | 54 => ⟨S8192x2688, .f32⟩
  | 55 => ⟨S8192x2688, .f32⟩
  | 56 => ⟨S_, .f32⟩
  | 57 => ⟨S8192x2688, .f32⟩
  | 58 => ⟨S8192x2688, .f32⟩
  | 59 => ⟨S8192x2688, .f32⟩
  | 60 => ⟨S8192x2688, .f32⟩
  | 61 => ⟨S8192x2688, .f32⟩
  | 62 => ⟨S_, .f32⟩
  | 63 => ⟨S8192x1024, .f32⟩
  | 64 => ⟨S8192x1024, .f32⟩
  | 65 => ⟨S8192x1024, .f32⟩
  | 66 => ⟨S_, .f32⟩
  | 67 => ⟨S8192x1024, .f32⟩
  | 68 => ⟨S8192x1024, .f32⟩
  | 69 => ⟨S8192x1024, .f32⟩
  | 70 => ⟨S8192x1024, .f32⟩
  | 71 => ⟨S8192x1024, .f32⟩
  | 72 => ⟨S_, .f32⟩
  | 73 => ⟨S8192x1024, .f32⟩
  | 74 => ⟨S8192x1024, .f32⟩
  | 75 => ⟨S8192x2688, .f32⟩
  | 76 => ⟨S_, .f32⟩
  | 77 => ⟨S8192x1024, .f32⟩
  | 78 => ⟨S8192x1024, .f32⟩
  | 79 => ⟨S8192x2688, .f32⟩
  | 80 => ⟨S8192x2688, .f32⟩
  | 81 => ⟨S8192x2688, .f32⟩
  | 82 => ⟨S8192x2688, .f32⟩
  | 83 => ⟨S8192x2688, .f32⟩
  | 84 => ⟨S8192x2688, .f32⟩
  | 85 => ⟨S8192x5376, .f32⟩
  | 86 => ⟨S8192x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S_, .f32⟩
  | 93 => ⟨S1024, .f32⟩
  | 94 => ⟨S1x1024, .f32⟩
  | 95 => ⟨S8192x1024, .f32⟩
  | 96 => ⟨S8192x1024, .f32⟩
  | 97 => ⟨S8192x1024, .f32⟩
  | 98 => ⟨S_, .f32⟩
  | 99 => ⟨S8192, .f32⟩
  | 100 => ⟨S8192x1, .f32⟩
  | 101 => ⟨S8192x1024, .f32⟩
  | 102 => ⟨S8192x1024, .f32⟩
  | 103 => ⟨S8192x1, .f32⟩
  | 104 => ⟨S8192x1024, .f32⟩
  | 105 => ⟨S_, .f32⟩
  | 106 => ⟨S8192, .f32⟩
  | 107 => ⟨S8192x1, .f32⟩
  | 108 => ⟨S_, .f32⟩
  | 109 => ⟨S8192x1, .f32⟩
  | 110 => ⟨S8192x1, .f32⟩
  | 111 => ⟨S_, .f32⟩
  | 112 => ⟨S8192, .f32⟩
  | 113 => ⟨S8192x1024, .f32⟩
  | 114 => ⟨S8192x1024, .f32⟩
  | 115 => ⟨S8192x1024, .f32⟩
  | 116 => ⟨S_, .f32⟩
  | 117 => ⟨S8192, .f32⟩
  | 118 => ⟨S8192x1, .f32⟩
  | 119 => ⟨S8192x1024, .f32⟩
  | 120 => ⟨S8192x1, .f32⟩
  | 121 => ⟨S_, .f32⟩
  | 122 => ⟨S8192x1, .f32⟩
  | 123 => ⟨S8192x1, .f32⟩
  | 124 => ⟨S_, .f32⟩
  | 125 => ⟨S8192, .f32⟩
  | 126 => ⟨S8192x1024, .f32⟩
  | 127 => ⟨S8192x1024, .f32⟩
  | _ => ⟨S8192x1024, .f32⟩

abbrev hbmTy0_1 (i : Nat) : BufTy := match i % 128 with
  | 0 => ⟨S8192x1024, .bf16⟩
  | 1 => ⟨S8192x8x672, .f32⟩
  | 2 => ⟨S8x8192x672, .f32⟩
  | 3 => ⟨S8x8192x672, .bf16⟩
  | 4 => ⟨S8192x4x672, .f32⟩
  | 5 => ⟨S4x8192x672, .f32⟩
  | 6 => ⟨S4x8192x672, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_cst_3 : Ref sig .tc := ⟨.hbm, 23, rfl⟩
abbrev main_v12 : Ref sig .tc := ⟨.hbm, 24, rfl⟩
abbrev main_v13 : Ref sig .tc := ⟨.hbm, 25, rfl⟩
abbrev main_cst_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_5 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_v0 : Ref sig .tc := ⟨.hbm, 48, rfl⟩
abbrev main_call0_v1 : Ref sig .tc := ⟨.hbm, 49, rfl⟩
abbrev main_call0_cst : Ref sig .tc := ⟨.hbm, 50, rfl⟩
abbrev main_call0_v2 : Ref sig .tc := ⟨.hbm, 51, rfl⟩
abbrev main_call0_v3 : Ref sig .tc := ⟨.hbm, 52, rfl⟩
abbrev main_call0_cst_0 : Ref sig .tc := ⟨.hbm, 53, rfl⟩
abbrev main_call0_v4 : Ref sig .tc := ⟨.hbm, 54, rfl⟩
abbrev main_v33_2 : Ref sig .tc := ⟨.hbm, 55, rfl⟩
abbrev main_call0_cst_1 : Ref sig .tc := ⟨.hbm, 56, rfl⟩
abbrev main_call0_v6 : Ref sig .tc := ⟨.hbm, 57, rfl⟩
abbrev main_call0_v7 : Ref sig .tc := ⟨.hbm, 58, rfl⟩
abbrev main_v33_1 : Ref sig .tc := ⟨.hbm, 59, rfl⟩
abbrev main_v33_0 : Ref sig .tc := ⟨.hbm, 60, rfl⟩
abbrev main_v34 : Ref sig .tc := ⟨.hbm, 61, rfl⟩
abbrev main_cst_7 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_cst_8 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_v42 : Ref sig .tc := ⟨.hbm, 71, rfl⟩
abbrev main_cst_9 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_cst_10 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_call1_v0 : Ref sig .tc := ⟨.hbm, 81, rfl⟩
abbrev main_call1_v1 : Ref sig .tc := ⟨.hbm, 82, rfl⟩
abbrev main_call1_v2 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_cst_11 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩
abbrev main_cst_12 : Ref sig .tc := ⟨.hbm, 92, rfl⟩
abbrev main_v57 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_v61 : Ref sig .tc := ⟨.hbm, 97, rfl⟩
abbrev main_cst_13 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_cst_14 : Ref sig .tc := ⟨.hbm, 105, rfl⟩
abbrev main_v68 : Ref sig .tc := ⟨.hbm, 106, rfl⟩
abbrev main_v69 : Ref sig .tc := ⟨.hbm, 107, rfl⟩
abbrev main_cst_15 : Ref sig .tc := ⟨.hbm, 108, rfl⟩
abbrev main_v70 : Ref sig .tc := ⟨.hbm, 109, rfl⟩
abbrev main_v71 : Ref sig .tc := ⟨.hbm, 110, rfl⟩
abbrev main_cst_16 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_17 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_v79 : Ref sig .tc := ⟨.hbm, 120, rfl⟩
abbrev main_cst_18 : Ref sig .tc := ⟨.hbm, 121, rfl⟩
abbrev main_v80 : Ref sig .tc := ⟨.hbm, 122, rfl⟩
abbrev main_v81 : Ref sig .tc := ⟨.hbm, 123, rfl⟩
abbrev main_cst_19 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩

abbrev nD : Nat := 1
abbrev τ : Topo := Topo.v7x

variable {F : FTy → Type} [FloatOps F]
-- ==== LossHead.lean ====
abbrev S8192x1024 : Shape := ⟨2, ![8192, 1024]⟩
abbrev S1x1024 : Shape := ⟨2, ![1, 1024]⟩
abbrev S1024x5376 : Shape := ⟨2, ![1024, 5376]⟩
abbrev S2688x1024 : Shape := ⟨2, ![2688, 1024]⟩
abbrev S5376x1024 : Shape := ⟨2, ![5376, 1024]⟩
abbrev S8x672x1024 : Shape := ⟨3, ![8, 672, 1024]⟩
abbrev S8x8192x672 : Shape := ⟨3, ![8, 8192, 672]⟩
abbrev S1x1 : Shape := ⟨2, ![1, 1]⟩
abbrev S512x1024 : Shape := ⟨2, ![512, 1024]⟩
abbrev S8x512x672 : Shape := ⟨3, ![8, 512, 672]⟩
abbrev S2 : Shape := ⟨1, ![2]⟩
abbrev S1 : Shape := ⟨1, ![1]⟩
abbrev S_ : Shape := ⟨0, ![]⟩
abbrev S256x1024 : Shape := ⟨2, ![256, 1024]⟩
abbrev S1x672x1024 : Shape := ⟨3, ![1, 672, 1024]⟩
abbrev S672x1024 : Shape := ⟨2, ![672, 1024]⟩
abbrev S256x672 : Shape := ⟨2, ![256, 672]⟩
abbrev S1x256x672 : Shape := ⟨3, ![1, 256, 672]⟩
abbrev S256 : Shape := ⟨1, ![256]⟩
abbrev S256x1 : Shape := ⟨2, ![256, 1]⟩
abbrev S1024 : Shape := ⟨1, ![1024]⟩

abbrev nBuf : Space → Nat
  | .hbm => 17
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1x1024, .f32⟩
  | .hbm, ⟨3, _⟩ => ⟨S1x1024, .f32⟩
  | .hbm, ⟨4, _⟩ => ⟨S1024x5376, .f32⟩
  | .hbm, ⟨5, _⟩ => ⟨S2688x1024, .f32⟩
  | .hbm, ⟨6, _⟩ => ⟨S5376x1024, .f32⟩
  | .hbm, ⟨7, _⟩ => ⟨S8x672x1024, .f32⟩
  | .hbm, ⟨8, _⟩ => ⟨S8x672x1024, .bf16⟩
  | .hbm, ⟨9, _⟩ => ⟨S8192x1024, .bf16⟩
  | .hbm, ⟨10, _⟩ => ⟨S2688x1024, .bf16⟩
  | .hbm, ⟨11, _⟩ => ⟨S8x8192x672, .bf16⟩
  | .hbm, ⟨12, _⟩ => ⟨S8192x1024, .f32⟩
  | .hbm, ⟨13, _⟩ => ⟨S8192x1024, .bf16⟩
  | .hbm, ⟨14, _⟩ => ⟨S1x1024, .f32⟩
  | .hbm, ⟨15, _⟩ => ⟨S1x1024, .f32⟩
  | .hbm, ⟨16, _⟩ => ⟨S1x1, .f32⟩
  | .local _ .vmem, ⟨0, _⟩ => ⟨S512x1024, .bf16⟩
  | .local _ .vmem, ⟨1, _⟩ => ⟨S512x1024, .bf16⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S8x512x672, .bf16⟩
  | .local _ .vmem, ⟨9, _⟩ => ⟨S8x512x672, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S1x1024, .f32⟩
  | .local _ .vmem, ⟨15, _⟩ => ⟨S1x1024, .f32⟩
  | .local _ .vmem, ⟨16, _⟩ => ⟨S1x1, .f32⟩
  | .local _ .vmem, ⟨17, _⟩ => ⟨S8x672x1024, .bf16⟩
  | .local _ .vmem, ⟨18, _⟩ => ⟨S2688x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev main_v5_5 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15
abbrev cc0_sem10_0 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S8x512x672 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== LossRefIdeal.lean ====
abbrev S8192x1024 : Shape := ⟨2, ![8192, 1024]⟩
abbrev S1x1024 : Shape := ⟨2, ![1, 1024]⟩
abbrev S1024x5376 : Shape := ⟨2, ![1024, 5376]⟩
abbrev S2688x1024 : Shape := ⟨2, ![2688, 1024]⟩
abbrev S8192x5376 : Shape := ⟨2, ![8192, 5376]⟩
abbrev S_ : Shape := ⟨0, ![]⟩
abbrev S8192x2688 : Shape := ⟨2, ![8192, 2688]⟩
abbrev S8192 : Shape := ⟨1, ![8192]⟩
abbrev S8192x1 : Shape := ⟨2, ![8192, 1]⟩
abbrev S1024 : Shape := ⟨1, ![1024]⟩
abbrev S8192x8x672 : Shape := ⟨3, ![8192, 8, 672]⟩
abbrev S8x8192x672 : Shape := ⟨3, ![8, 8192, 672]⟩
abbrev S1x1 : Shape := ⟨2, ![1, 1]⟩

abbrev nBuf : Space → Nat
  | .hbm => 129
  | .vmem => 0
  | .smem => 0
  | _ => 0

abbrev hbmTy0_0 (i : Nat) : BufTy := match i % 128 with
  | 0 => ⟨S8192x1024, .f32⟩
  | 1 => ⟨S8192x1024, .f32⟩
  | 2 => ⟨S1x1024, .f32⟩
  | 3 => ⟨S1x1024, .f32⟩
  | 4 => ⟨S1024x5376, .f32⟩
  | 5 => ⟨S2688x1024, .f32⟩
  | 6 => ⟨S8192x5376, .f32⟩
  | 7 => ⟨S_, .f32⟩
  | 8 => ⟨S8192x1024, .f32⟩
  | 9 => ⟨S8192x1024, .f32⟩
  | 10 => ⟨S8192x2688, .f32⟩
  | 11 => ⟨S8192x2688, .f32⟩
  | 12 => ⟨S8192x2688, .f32⟩
  | 13 => ⟨S8192x2688, .f32⟩
  | 14 => ⟨S_, .f32⟩
  | 15 => ⟨S8192x2688, .f32⟩
  | 16 => ⟨S8192x2688, .f32⟩
  | 17 => ⟨S_, .f32⟩
  | 18 => ⟨S8192x2688, .f32⟩
  | 19 => ⟨S8192x2688, .f32⟩
  | 20 => ⟨S8192x2688, .f32⟩
  | 21 => ⟨S8192x2688, .f32⟩
  | 22 => ⟨S8192x1024, .f32⟩
  | 23 => ⟨S_, .f32⟩
  | 24 => ⟨S8192x1024, .f32⟩
  | 25 => ⟨S8192x1024, .f32⟩
  | 26 => ⟨S8192x1024, .f32⟩
  | 27 => ⟨S_, .f32⟩
  | 28 => ⟨S8192, .f32⟩
  | 29 => ⟨S8192x1, .f32⟩
  | 30 => ⟨S_, .f32⟩
  | 31 => ⟨S8192x1, .f32⟩
  | 32 => ⟨S8192x1, .f32⟩
  | 33 => ⟨S8192x1024, .f32⟩
  | 34 => ⟨S8192x1024, .f32⟩
  | 35 => ⟨S8192x1024, .f32⟩
  | 36 => ⟨S_, .f32⟩
  | 37 => ⟨S8192x1024, .f32⟩
  | 38 => ⟨S8192x1024, .f32⟩
  | 39 => ⟨S_, .f32⟩
  | 40 => ⟨S8192, .f32⟩
  | 41 => ⟨S8192x1, .f32⟩
  | 42 => ⟨S_, .f32⟩
  | 43 => ⟨S8192x1, .f32⟩
  | 44 => ⟨S8192x1, .f32⟩
  | 45 => ⟨S8192x1024, .f32⟩
  | 46 => ⟨S8192x1024, .f32⟩
  | 47 => ⟨S_, .f32⟩
  | 48 => ⟨S8192x1, .f32⟩
  | 49 => ⟨S8192x1, .f32⟩
  | 50 => ⟨S8192x1, .f32⟩
  | 51 => ⟨S8192x1, .f32⟩
  | 52 => ⟨S_, .f32⟩
  | 53 => ⟨S8192x1, .f32⟩
  | 54 => ⟨S8192x1, .f32⟩
  | 55 => ⟨S8192x1024, .f32⟩
  | 56 => ⟨S8192x1024, .f32⟩
  | 57 => ⟨S8192x1024, .f32⟩
  | 58 => ⟨S8192x1024, .f32⟩
  | 59 => ⟨S8192x1024, .f32⟩
  | 60 => ⟨S8192x1024, .f32⟩
  | 61 => ⟨S8192x1024, .f32⟩
  | 62 => ⟨S8192x1024, .f32⟩
  | 63 => ⟨S_, .f32⟩
  | 64 => ⟨S8192x1024, .f32⟩
  | 65 => ⟨S8192x1024, .f32⟩
  | 66 => ⟨S_, .f32⟩
  | 67 => ⟨S8192, .f32⟩
  | 68 => ⟨S_, .f32⟩
  | 69 => ⟨S8192, .f32⟩
  | 70 => ⟨S8192, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S8192, .f32⟩
  | 79 => ⟨S_, .f32⟩
  | 80 => ⟨S8192, .f32⟩
  | 81 => ⟨S8192, .f32⟩
  | 82 => ⟨S8192x1024, .f32⟩
  | 83 => ⟨S8192x1024, .f32⟩
  | 84 => ⟨S_, .f32⟩
  | 85 => ⟨S1024, .f32⟩
  | 86 => ⟨S1x1024, .f32⟩
  | 87 => ⟨S8192x1024, .f32⟩
  | 88 => ⟨S_, .f32⟩
  | 89 => ⟨S1024, .f32⟩
  | 90 => ⟨S1x1024, .f32⟩
  | 91 => ⟨S8192x1024, .f32⟩
  | 92 => ⟨S8192x1024, .f32⟩
  | 93 => ⟨S8192x1024, .f32⟩
  | 94 => ⟨S_, .f32⟩
  | 95 => ⟨S8192, .f32⟩
  | 96 => ⟨S8192x1, .f32⟩
  | 97 => ⟨S8192x1024, .f32⟩
  | 98 => ⟨S8192x1024, .f32⟩
  | 99 => ⟨S8192x1, .f32⟩
  | 100 => ⟨S8192x1024, .f32⟩
  | 101 => ⟨S_, .f32⟩
  | 102 => ⟨S8192, .f32⟩
  | 103 => ⟨S8192x1, .f32⟩
  | 104 => ⟨S_, .f32⟩
  | 105 => ⟨S8192x1, .f32⟩
  | 106 => ⟨S8192x1, .f32⟩
  | 107 => ⟨S_, .f32⟩
  | 108 => ⟨S8192, .f32⟩
  | 109 => ⟨S8192x1024, .f32⟩
  | 110 => ⟨S8192x1024, .f32⟩
  | 111 => ⟨S8192x1024, .f32⟩
  | 112 => ⟨S_, .f32⟩
  | 113 => ⟨S8192, .f32⟩
  | 114 => ⟨S8192x1, .f32⟩
  | 115 => ⟨S8192x1024, .f32⟩
  | 116 => ⟨S8192x1, .f32⟩
  | 117 => ⟨S_, .f32⟩
  | 118 => ⟨S8192x1, .f32⟩
  | 119 => ⟨S8192x1, .f32⟩
  | 120 => ⟨S_, .f32⟩
  | 121 => ⟨S8192, .f32⟩
  | 122 => ⟨S8192x1024, .f32⟩
  | 123 => ⟨S8192x1024, .f32⟩
  | 124 => ⟨S8192x8x672, .f32⟩
  | 125 => ⟨S8x8192x672, .f32⟩
  | 126 => ⟨S8x8192x672, .bf16⟩
  | 127 => ⟨S8192x1024, .bf16⟩
  | _ => ⟨S8192x1024, .f32⟩

abbrev hbmTy0_1 (i : Nat) : BufTy := match i % 128 with
  | 0 => ⟨S1x1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_call0_v0 : Ref sig .tc := ⟨.hbm, 12, rfl⟩
abbrev main_call0_v1 : Ref sig .tc := ⟨.hbm, 13, rfl⟩
abbrev main_call0_cst : Ref sig .tc := ⟨.hbm, 14, rfl⟩
abbrev main_call0_v2 : Ref sig .tc := ⟨.hbm, 15, rfl⟩
abbrev main_call0_v3 : Ref sig .tc := ⟨.hbm, 16, rfl⟩
abbrev main_call0_cst_0 : Ref sig .tc := ⟨.hbm, 17, rfl⟩
abbrev main_call0_v4 : Ref sig .tc := ⟨.hbm, 18, rfl⟩
abbrev main_call0_v5 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_cst_1 : Ref sig .tc := ⟨.hbm, 27, rfl⟩
abbrev main_v11 : Ref sig .tc := ⟨.hbm, 28, rfl⟩
abbrev main_v12 : Ref sig .tc := ⟨.hbm, 29, rfl⟩
abbrev main_cst_2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_cst_4 : Ref sig .tc := ⟨.hbm, 39, rfl⟩
abbrev main_v20 : Ref sig .tc := ⟨.hbm, 40, rfl⟩
abbrev main_v21 : Ref sig .tc := ⟨.hbm, 41, rfl⟩
abbrev main_cst_5 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_cst_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_cst_7 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_8 : Ref sig .tc := ⟨.hbm, 63, rfl⟩
abbrev main_v40 : Ref sig .tc := ⟨.hbm, 64, rfl⟩
abbrev main_v41 : Ref sig .tc := ⟨.hbm, 65, rfl⟩
abbrev main_cst_9 : Ref sig .tc := ⟨.hbm, 66, rfl⟩
abbrev main_v42 : Ref sig .tc := ⟨.hbm, 67, rfl⟩
abbrev main_cst_10 : Ref sig .tc := ⟨.hbm, 68, rfl⟩
abbrev main_v43 : Ref sig .tc := ⟨.hbm, 69, rfl⟩
abbrev main_v44 : Ref sig .tc := ⟨.hbm, 70, rfl⟩
abbrev main_cst_11 : Ref sig .tc := ⟨.hbm, 71, rfl⟩
abbrev main_v45 : Ref sig .tc := ⟨.hbm, 72, rfl⟩
abbrev main_cst_12 : Ref sig .tc := ⟨.hbm, 73, rfl⟩
abbrev main_v46 : Ref sig .tc := ⟨.hbm, 74, rfl⟩
abbrev main_cst_13 : Ref sig .tc := ⟨.hbm, 75, rfl⟩
abbrev main_cst_14 : Ref sig .tc := ⟨.hbm, 76, rfl⟩
abbrev main_v47 : Ref sig .tc := ⟨.hbm, 77, rfl⟩
abbrev main_v48 : Ref sig .tc := ⟨.hbm, 78, rfl⟩
abbrev main_cst_15 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_cst_16 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_cst_17 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_18 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_cst_20 : Ref sig .tc := ⟨.hbm, 104, rfl⟩
abbrev main_v69 : Ref sig .tc := ⟨.hbm, 105, rfl⟩
abbrev main_v70 : Ref sig .tc := ⟨.hbm, 106, rfl⟩
abbrev main_cst_21 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_22 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_23 : Ref sig .tc := ⟨.hbm, 117, rfl⟩
abbrev main_v79 : Ref sig .tc := ⟨.hbm, 118, rfl⟩
abbrev main_v80 : Ref sig .tc := ⟨.hbm, 119, rfl⟩
abbrev main_cst_24 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩

abbrev nD : Nat := 1
abbrev τ : Topo := Topo.v7x

variable {F : FTy → Type} [FloatOps F]
-- ==== SbFwd.lean ====
abbrev S8192x512 : Shape := ⟨2, ![8192, 512]⟩
abbrev S_ : Shape := ⟨0, ![]⟩
abbrev S8192x1024 : Shape := ⟨2, ![8192, 1024]⟩
abbrev S256x128 : Shape := ⟨2, ![256, 128]⟩
abbrev S8192x128 : Shape := ⟨2, ![8192, 128]⟩
abbrev S256x256 : Shape := ⟨2, ![256, 256]⟩
abbrev S128x256 : Shape := ⟨2, ![128, 256]⟩
abbrev S128x1 : Shape := ⟨2, ![128, 1]⟩
abbrev S128x128 : Shape := ⟨2, ![128, 128]⟩
abbrev S128 : Shape := ⟨1, ![128]⟩
abbrev S512x128 : Shape := ⟨2, ![512, 128]⟩
abbrev S128x512 : Shape := ⟨2, ![128, 512]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 10
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S_, .f32⟩
  | .hbm, ⟨4, _⟩ => ⟨S8192x512, .f32⟩
  | .hbm, ⟨5, _⟩ => ⟨S8192x512, .f32⟩
  | .hbm, ⟨6, _⟩ => ⟨S8192x512, .bf16⟩
  | .hbm, ⟨7, _⟩ => ⟨S8192x1024, .f32⟩
  | .hbm, ⟨8, _⟩ => ⟨S8192x1024, .bf16⟩
  | .hbm, ⟨9, _⟩ => ⟨S8192x512, .f32⟩
  | .local _ .vmem, ⟨0, _⟩ => ⟨S256x128, .bf16⟩
  | .local _ .vmem, ⟨1, _⟩ => ⟨S256x128, .bf16⟩
  | .local _ .vmem, ⟨2, _⟩ => ⟨S8192x128, .bf16⟩
  | .local _ .vmem, ⟨3, _⟩ => ⟨S8192x128, .bf16⟩
  | .local _ .vmem, ⟨4, _⟩ => ⟨S8192x128, .bf16⟩
  | .local _ .vmem, ⟨5, _⟩ => ⟨S8192x128, .bf16⟩
  | .local _ .vmem, ⟨6, _⟩ => ⟨S256x128, .f32⟩
  | .local _ .vmem, ⟨7, _⟩ => ⟨S256x128, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 32], ![false, false]⟩

def k0_cond1 (i : grid0.Coords) : BitVec 1 :=
  let arg1 : BitVec 32 := BitVec.ofNat 32 (i 1).val
  let c0_i32 : BitVec 32 := 0#32
  let v21 : BitVec 1 := Scalar.cmpi .eq arg1 c0_i32
  let v22 : BitVec 32 := Scalar.extui v21
  let c0_i32_3 : BitVec 32 := 0#32
  let v23 : BitVec 1 := Scalar.cmpi .ne v22 c0_i32_3
  v23

def k0_mult1 : BitVec 32 :=
  let c0_i32_8 : BitVec 32 := 0#32
  c0_i32_8
def k0_mult2 (i : grid0.Coords) : BitVec 32 :=
  let arg1 : BitVec 32 := BitVec.ofNat 32 (i 1).val
  let c1_i32 : BitVec 32 := 1#32
  let v39 : BitVec 32 := Scalar.subi arg1 c1_i32
  let c256_i32 : BitVec 32 := 256#32
  let v40 : BitVec 32 := Scalar.muli v39 c256_i32
  v40
def k0_off1 (i : grid0.Coords) : Fin 2 → Nat :=
  let arg1 : BitVec 32 := BitVec.ofNat 32 (i 1).val
  let c1_i32 : BitVec 32 := 1#32
  let v39 : BitVec 32 := Scalar.subi arg1 c1_i32
  let c256_i32 : BitVec 32 := 256#32
  let v40 : BitVec 32 := Scalar.muli v39 c256_i32
  let v41 : BitVec 32 := v40
  let v42 : Index := Scalar.indexCast v41
  let c0_8 : Index := 0#32
  ![v42.toNat, 0]
def k0_mult3 (arg6 : BitVec 32) : BitVec 32 :=
  let c256_i32 : BitVec 32 := 256#32
  let v39 : BitVec 32 := Scalar.muli arg6 c256_i32
  v39

def k0_off2 (arg6 : BitVec 32) : Fin 2 → Nat :=
  let c256_i32 : BitVec 32 := 256#32
  let v39 : BitVec 32 := Scalar.muli arg6 c256_i32
  let v40 : BitVec 32 := v39
  let v41 : Index := Scalar.indexCast v40
  let c0_8 : Index := 0#32
  ![v41.toNat, 0]

def k0_chk1 (arg6 : BitVec 32) : Prop :=
  (256 ∣ (k0_mult3 arg6).toNat) ∧
  (∀ a, (k0_off2 arg6) a + S256x128.size a ≤ S8192x128.size a)
theorem k0_mult3_dvd : ∀ (arg6 : BitVec 32) (k0_hw1 : k0_chk1 arg6), 256 ∣ (k0_mult3 arg6).toNat := fun arg6 k0_hw1 => k0_hw1.1
theorem k0_off2_inb : ∀ (arg6 : BitVec 32) (k0_hw1 : k0_chk1 arg6), ∀ a, (k0_off2 arg6) a + S256x128.size a ≤ S8192x128.size a := fun arg6 k0_hw1 => k0_hw1.2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== SbFwdIdeal.lean ====
variable {F : FTy → Type} [FloatOps F] [Named F]
def κ : String → Option EReal := fun
  | "skip" => some ⊥
  | _ => none
-- ==== SbFwdRefIdeal.lean ====
abbrev S8192x512 : Shape := ⟨2, ![8192, 512]⟩
abbrev S8192x8x64 : Shape := ⟨3, ![8192, 8, 64]⟩
abbrev S8x8192x64 : Shape := ⟨3, ![8, 8192, 64]⟩
abbrev S8x8192x8192 : Shape := ⟨3, ![8, 8192, 8192]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩

abbrev nBuf : Space → Nat
  | .hbm => 72
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S8192x512, .f32⟩
  | .hbm, ⟨3, _⟩ => ⟨S8192x8x64, .f32⟩
  | .hbm, ⟨4, _⟩ => ⟨S8x8192x64, .f32⟩
  | .hbm, ⟨5, _⟩ => ⟨S8192x8x64, .f32⟩
  | .hbm, ⟨6, _⟩ => ⟨S8x8192x64, .f32⟩
  | .hbm, ⟨7, _⟩ => ⟨S8192x8x64, .f32⟩
  | .hbm, ⟨8, _⟩ => ⟨S8x8192x64, .f32⟩
  | .hbm, ⟨9, _⟩ => ⟨S8x8192x8192, .f32⟩
  | .hbm, ⟨10, _⟩ => ⟨S_, .f32⟩
  | .hbm, ⟨11, _⟩ => ⟨S8x8192x8192, .f32⟩
  | .hbm, ⟨12, _⟩ => ⟨S8x8192x8192, .f32⟩
  | .hbm, ⟨13, _⟩ => ⟨S8192, .i32⟩
  | .hbm, ⟨14, _⟩ => ⟨S8192x1, .i32⟩
  | .hbm, ⟨15, _⟩ => ⟨S8192, .i32⟩
  | .hbm, ⟨16, _⟩ => ⟨S1x8192, .i32⟩
  | .hbm, ⟨17, _⟩ => ⟨S8192x8192, .i32⟩
  | .hbm, ⟨18, _⟩ => ⟨S8192x8192, .i32⟩
  | .hbm, ⟨19, _⟩ => ⟨S8192x8192, .i1⟩
  | .hbm, ⟨20, _⟩ => ⟨S8x8192x8192, .f32⟩
  | .hbm, ⟨21, _⟩ => ⟨S8x8192x8192, .f32⟩
  | .hbm, ⟨22, _⟩ => ⟨S_, .f32⟩
  | .hbm, ⟨23, _⟩ => ⟨S8x8192x8192, .f32⟩
  | .hbm, ⟨24, _⟩ => ⟨S8x8192x8192, .f32⟩
  | .hbm, ⟨25, _⟩ => ⟨S8x8192x8192, .f32⟩
  | .hbm, ⟨26, _⟩ => ⟨S8x8192x8192, .f32⟩
  | .hbm, ⟨27, _⟩ => ⟨S8x8192x8192, .i1⟩
  | .hbm, ⟨28, _⟩ => ⟨S8x8192x8192, .f32⟩
  | .hbm, ⟨29, _⟩ => ⟨S8x8192x8192, .f32⟩
  | .hbm, ⟨30, _⟩ => ⟨S8x8192x8192, .f32⟩
  | .hbm, ⟨31, _⟩ => ⟨S8x8192x8192, .f32⟩
  | .hbm, ⟨32, _⟩ => ⟨S8x8192x8192, .f32⟩
  | .hbm, ⟨33, _⟩ => ⟨S8x8192x8192, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S_, .f32⟩
  | .hbm, ⟨39, _⟩ => ⟨S8x8192x8192, .i1⟩
  | .hbm, ⟨40, _⟩ => ⟨S8x8192x8192, .f32⟩
  | .hbm, ⟨41, _⟩ => ⟨S8x8192x8192, .f32⟩
  | .hbm, ⟨42, _⟩ => ⟨S_, .f32⟩
  | .hbm, ⟨43, _⟩ => ⟨S_, .f32⟩
  | .hbm, ⟨44, _⟩ => ⟨S8x8192x8192, .f32⟩
  | .hbm, ⟨45, _⟩ => ⟨S8x8192x8192, .f32⟩
  | .hbm, ⟨46, _⟩ => ⟨S8x8192x8192, .f32⟩
  | .hbm, ⟨47, _⟩ => ⟨S_, .f32⟩
  | .hbm, ⟨48, _⟩ => ⟨S8x8192x8192, .f32⟩
  | .hbm, ⟨49, _⟩ => ⟨S8x8192x8192, .f32⟩
  | .hbm, ⟨50, _⟩ => ⟨S8x8192x8192, .f32⟩
  | .hbm, ⟨51, _⟩ => ⟨S8x8192x8192, .f32⟩
  | .hbm, ⟨52, _⟩ => ⟨S8x8192x8192, .i1⟩
  | .hbm, ⟨53, _⟩ => ⟨S8x8192x8192, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S8x8192x8192, .f32⟩
  | .hbm, ⟨58, _⟩ => ⟨S8x8192x8192, .f32⟩
  | .hbm, ⟨59, _⟩ => ⟨S8x8192x8192, .f32⟩
  | .hbm, ⟨60, _⟩ => ⟨S8x8192x8192, .f32⟩
  | .hbm, ⟨61, _⟩ => ⟨S8x8192x8192, .f32⟩
  | .hbm, ⟨62, _⟩ => ⟨S8x8192x8192, .f32⟩
  | .hbm, ⟨63, _⟩ => ⟨S8x8192x8192, .f32⟩
  | .hbm, ⟨64, _⟩ => ⟨S_, .f32⟩
  | .hbm, ⟨65, _⟩ => ⟨S_, .f32⟩
  | .hbm, ⟨66, _⟩ => ⟨S8x8192x8192, .i1⟩
  | .hbm, ⟨67, _⟩ => ⟨S8x8192x8192, .f32⟩
  | .hbm, ⟨68, _⟩ => ⟨S8x8192x8192, .f32⟩
  | .hbm, ⟨69, _⟩ => ⟨S8x8192x64, .f32⟩
  | .hbm, ⟨70, _⟩ => ⟨S8192x8x64, .f32⟩
  | .hbm, ⟨71, _⟩ => ⟨S8192x512, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1 : Ref sig .tc := ⟨.hbm, 35, rfl⟩
abbrev main_v17 : Ref sig .tc := ⟨.hbm, 36, rfl⟩
abbrev main_cst_0 : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v18 : Ref sig .tc := ⟨.hbm, 41, rfl⟩
abbrev main_call2_cst : Ref sig .tc := ⟨.hbm, 42, rfl⟩
abbrev main_call2_v0 : Ref sig .tc := ⟨.hbm, 43, rfl⟩
abbrev main_v19 : Ref sig .tc := ⟨.hbm, 44, rfl⟩
abbrev main_v20 : Ref sig .tc := ⟨.hbm, 45, rfl⟩
abbrev main_call3_v0 : Ref sig .tc := ⟨.hbm, 46, rfl⟩
abbrev main_call3_call0_cst : Ref sig .tc := ⟨.hbm, 47, rfl⟩
abbrev main_call3_call0_v0 : Ref sig .tc := ⟨.hbm, 48, rfl⟩
abbrev main_call3_call0_v1 : Ref sig .tc := ⟨.hbm, 49, rfl⟩
abbrev main_call3_call0_v2 : Ref sig .tc := ⟨.hbm, 50, rfl⟩
abbrev main_call3_call0_v3 : Ref sig .tc := ⟨.hbm, 51, rfl⟩
abbrev main_call3_call0_v4 : Ref sig .tc := ⟨.hbm, 52, rfl⟩
abbrev main_call3_call0_v5 : Ref sig .tc := ⟨.hbm, 53, rfl⟩
abbrev main_call3_call0_v6 : Ref sig .tc := ⟨.hbm, 54, rfl⟩
abbrev main_call3_call0_v7 : Ref sig .tc := ⟨.hbm, 55, rfl⟩
abbrev main_call3_call0_v8 : Ref sig .tc := ⟨.hbm, 56, rfl⟩
abbrev main_call3_call0_v9 : Ref sig .tc := ⟨.hbm, 57, rfl⟩
abbrev main_call3_call0_v10 : Ref sig .tc := ⟨.hbm, 58, rfl⟩
abbrev main_call3_call0_v11 : Ref sig .tc := ⟨.hbm, 59, rfl⟩
abbrev main_call3_v1 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_cst_1 : Ref sig .tc := ⟨.hbm, 64, rfl⟩
abbrev main_call4_v0 : Ref sig .tc := ⟨.hbm, 65, rfl⟩
abbrev main_call4_v1 : Ref sig .tc := ⟨.hbm, 66, rfl⟩
abbrev main_call4_v2 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩

abbrev nD : Nat := 1
abbrev τ : Topo := Topo.v7x

variable {F : FTy → Type} [FloatOps F]
-- ==== CrossFwd.lean ====
abbrev S8192x1024 : Shape := ⟨2, ![8192, 1024]⟩
abbrev S256x2048 : Shape := ⟨2, ![256, 2048]⟩
abbrev S256x8x256 : Shape := ⟨3, ![256, 8, 256]⟩
abbrev S8x256x256 : Shape := ⟨3, ![8, 256, 256]⟩
abbrev S512x1024 : Shape := ⟨2, ![512, 1024]⟩
abbrev S512x256 : Shape := ⟨2, ![512, 256]⟩
abbrev S1x256x256 : Shape := ⟨3, ![1, 256, 256]⟩
abbrev S256x256 : Shape := ⟨2, ![256, 256]⟩
abbrev S512 : Shape := ⟨1, ![512]⟩
abbrev S512x1 : Shape := ⟨2, ![512, 1]⟩

abbrev nBuf : Space → Nat
  | .hbm => 6
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S256x8x256, .f32⟩
  | .hbm, ⟨3, _⟩ => ⟨S8x256x256, .f32⟩
  | .hbm, ⟨4, _⟩ => ⟨S8192x1024, .bf16⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S8x256x256, .f32⟩
  | .local _ .vmem, ⟨3, _⟩ => ⟨S512x1024, .bf16⟩
  | .local _ .vmem, ⟨4, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== CrossFwdRefIdeal.lean ====
abbrev S8192x1024 : Shape := ⟨2, ![8192, 1024]⟩
abbrev S256x2048 : Shape := ⟨2, ![256, 2048]⟩
abbrev S256x1024 : Shape := ⟨2, ![256, 1024]⟩
abbrev S8192x4x256 : Shape := ⟨3, ![8192, 4, 256]⟩
abbrev S256x4x256 : Shape := ⟨3, ![256, 4, 256]⟩
abbrev S4x8192x256 : Shape := ⟨3, ![4, 8192, 256]⟩
abbrev S_ : Shape := ⟨0, ![]⟩
abbrev S4x8192 : Shape := ⟨2, ![4, 8192]⟩
abbrev S4x8192x1 : Shape := ⟨3, ![4, 8192, 1]⟩
abbrev S4x256x8192 : Shape := ⟨3, ![4, 256, 8192]⟩

abbrev nBuf : Space → Nat
  | .hbm => 29
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S256x2048, .f32⟩
  | .hbm, ⟨2, _⟩ => ⟨S256x1024, .f32⟩
  | .hbm, ⟨3, _⟩ => ⟨S256x1024, .f32⟩
  | .hbm, ⟨4, _⟩ => ⟨S8192x4x256, .f32⟩
  | .hbm, ⟨5, _⟩ => ⟨S256x4x256, .f32⟩
  | .hbm, ⟨6, _⟩ => ⟨S256x4x256, .f32⟩
  | .hbm, ⟨7, _⟩ => ⟨S4x8192x256, .f32⟩
  | .hbm, ⟨8, _⟩ => ⟨S_, .f32⟩
  | .hbm, ⟨9, _⟩ => ⟨S4x8192x256, .f32⟩
  | .hbm, ⟨10, _⟩ => ⟨S4x8192x256, .f32⟩
  | .hbm, ⟨11, _⟩ => ⟨S_, .f32⟩
  | .hbm, ⟨12, _⟩ => ⟨S4x8192, .f32⟩
  | .hbm, ⟨13, _⟩ => ⟨S_, .f32⟩
  | .hbm, ⟨14, _⟩ => ⟨S4x8192, .f32⟩
  | .hbm, ⟨15, _⟩ => ⟨S4x8192, .f32⟩
  | .hbm, ⟨16, _⟩ => ⟨S4x8192x1, .f32⟩
  | .hbm, ⟨17, _⟩ => ⟨S4x8192x256, .f32⟩
  | .hbm, ⟨18, _⟩ => ⟨S4x8192x256, .f32⟩
  | .hbm, ⟨19, _⟩ => ⟨S4x8192x256, .f32⟩
  | .hbm, ⟨20, _⟩ => ⟨S_, .f32⟩
  | .hbm, ⟨21, _⟩ => ⟨S4x8192, .f32⟩
  | .hbm, ⟨22, _⟩ => ⟨S4x8192x1, .f32⟩
  | .hbm, ⟨23, _⟩ => ⟨S4x8192x256, .f32⟩
  | .hbm, ⟨24, _⟩ => ⟨S4x8192x256, .f32⟩
  | .hbm, ⟨25, _⟩ => ⟨S4x256x8192, .f32⟩
  | .hbm, ⟨26, _⟩ => ⟨S8192x4x256, .f32⟩
  | .hbm, ⟨27, _⟩ => ⟨S8192x1024, .f32⟩
  | .hbm, ⟨28, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩

abbrev nD : Nat := 1
abbrev τ : Topo := Topo.v7x

variable {F : FTy → Type} [FloatOps F]
-- ==== MixFwd.lean ====
abbrev S8192x512 : Shape := ⟨2, ![8192, 512]⟩
abbrev S1x512 : Shape := ⟨2, ![1, 512]⟩
abbrev S8192x1024 : Shape := ⟨2, ![8192, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 5
  | .vmem => 8
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x1024, .bf16⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S1x512, .f32⟩
  | .local _ .vmem, ⟨5, _⟩ => ⟨S1x512, .f32⟩
  | .local _ .vmem, ⟨6, _⟩ => ⟨S512x1024, .bf16⟩
  | .local _ .vmem, ⟨7, _⟩ => ⟨S512x1024, .bf16⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MixFwdRefIdeal.lean ====
abbrev S8192x512 : Shape := ⟨2, ![8192, 512]⟩
abbrev S1x512 : Shape := ⟨2, ![1, 512]⟩
abbrev S_ : Shape := ⟨0, ![]⟩
abbrev S8192 : Shape := ⟨1, ![8192]⟩
abbrev S8192x1 : Shape := ⟨2, ![8192, 1]⟩
abbrev S8192x1024 : Shape := ⟨2, ![8192, 1024]⟩

abbrev nBuf : Space → Nat
  | .hbm => 36
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S8192x512, .f32⟩
  | .hbm, ⟨2, _⟩ => ⟨S1x512, .f32⟩
  | .hbm, ⟨3, _⟩ => ⟨S1x512, .f32⟩
  | .hbm, ⟨4, _⟩ => ⟨S8192x512, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x512, .f32⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S8192x512, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x512, .f32⟩
  | .hbm, ⟨31, _⟩ => ⟨S8192x512, .f32⟩
  | .hbm, ⟨32, _⟩ => ⟨S8192x512, .f32⟩
  | .hbm, ⟨33, _⟩ => ⟨S8192x512, .f32⟩
  | .hbm, ⟨34, _⟩ => ⟨S8192x1024, .f32⟩
  | .hbm, ⟨35, _⟩ => ⟨S8192x1024, .bf16⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_v14 : Ref sig .tc := ⟨.hbm, 22, rfl⟩
abbrev main_cst_3 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== LnFwd.lean ====
abbrev S8192x1024 : Shape := ⟨2, ![8192, 1024]⟩
abbrev S1024x1024 : Shape := ⟨2, ![1024, 1024]⟩
abbrev S1x1024 : Shape := ⟨2, ![1, 1024]⟩
abbrev S1x8192x1024 : Shape := ⟨3, ![1, 8192, 1024]⟩
abbrev S512x1024 : Shape := ⟨2, ![512, 1024]⟩
abbrev S1x512x1024 : Shape := ⟨3, ![1, 512, 1024]⟩
abbrev S512 : Shape := ⟨1, ![512]⟩
abbrev S512x1 : Shape := ⟨2, ![512, 1]⟩

abbrev nBuf : Space → Nat
  | .hbm => 10
  | .vmem => 14
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .bf16⟩
  | .hbm, ⟨6, _⟩ => ⟨S1024x1024, .bf16⟩
  | .hbm, ⟨7, _⟩ => ⟨S1x8192x1024, .f32⟩
  | .hbm, ⟨8, _⟩ => ⟨S8192x1024, .f32⟩
  | .hbm, ⟨9, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x512x1024, .f32⟩
  | .local _ .vmem, ⟨8, _⟩ => ⟨S1x512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨4, ![1, 16, 1, 1], ![false, false, false, false]⟩

def k0_cond2 (i : grid0.Coords) : BitVec 1 :=
  let arg3 : BitVec 32 := BitVec.ofNat 32 (i 3).val
  let c0_i32_8 : BitVec 32 := 0#32
  let v13 : BitVec 1 := Scalar.cmpi .eq arg3 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg1.toNat, arg3.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg3.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  ![arg0.toNat, arg1.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let arg3 : BitVec 32 := BitVec.ofNat 32 (i 3).val
  let c0_i32 : BitVec 32 := 0#32
  let c0_i32_0 : BitVec 32 := 0#32
  ![arg1.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true, false, true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false, false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false, false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false, false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true, false, false]
-- ==== LnFwdRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1x8192x1024 : Shape := ⟨3, ![1, 8192, 1024]⟩

abbrev nBuf : Space → Nat
  | .hbm => 39
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S8192x1024, .f32⟩
  | .hbm, ⟨3, _⟩ => ⟨S1x1024, .f32⟩
  | .hbm, ⟨4, _⟩ => ⟨S1x1024, .f32⟩
  | .hbm, ⟨5, _⟩ => ⟨S8192x1024, .f32⟩
  | .hbm, ⟨6, _⟩ => ⟨S_, .f32⟩
  | .hbm, ⟨7, _⟩ => ⟨S8192x1024, .f32⟩
  | .hbm, ⟨8, _⟩ => ⟨S8192x1024, .f32⟩
  | .hbm, ⟨9, _⟩ => ⟨S8192x1024, .f32⟩
  | .hbm, ⟨10, _⟩ => ⟨S_, .f32⟩
  | .hbm, ⟨11, _⟩ => ⟨S8192, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S8192x1024, .f32⟩
  | .hbm, ⟨19, _⟩ => ⟨S_, .f32⟩
  | .hbm, ⟨20, _⟩ => ⟨S8192, .f32⟩
  | .hbm, ⟨21, _⟩ => ⟨S8192x1, .f32⟩
  | .hbm, ⟨22, _⟩ => ⟨S_, .f32⟩
  | .hbm, ⟨23, _⟩ => ⟨S8192x1, .f32⟩
  | .hbm, ⟨24, _⟩ => ⟨S8192x1, .f32⟩
  | .hbm, ⟨25, _⟩ => ⟨S8192x1024, .f32⟩
  | .hbm, ⟨26, _⟩ => ⟨S8192x1024, .f32⟩
  | .hbm, ⟨27, _⟩ => ⟨S_, .f32⟩
  | .hbm, ⟨28, _⟩ => ⟨S8192x1, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S1x8192x1024, .f32⟩
  | .hbm, ⟨38, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩

abbrev nD : Nat := 1
abbrev τ : Topo := Topo.v7x

variable {F : FTy → Type} [FloatOps F]
-- ==== FfnFwd.lean ====
abbrev S8192x1024 : Shape := ⟨2, ![8192, 1024]⟩
abbrev S1024x5376 : Shape := ⟨2, ![1024, 5376]⟩
abbrev S2688x1024 : Shape := ⟨2, ![2688, 1024]⟩
abbrev S1x1024 : Shape := ⟨2, ![1, 1024]⟩
abbrev S5376x1024 : Shape := ⟨2, ![5376, 1024]⟩
abbrev S8x672x1024 : Shape := ⟨3, ![8, 672, 1024]⟩
abbrev S8x8192x672 : Shape := ⟨3, ![8, 8192, 672]⟩
abbrev S512x1024 : Shape := ⟨2, ![512, 1024]⟩
abbrev S8x512x672 : Shape := ⟨3, ![8, 512, 672]⟩
abbrev S2 : Shape := ⟨1, ![2]⟩
abbrev S1 : Shape := ⟨1, ![1]⟩
abbrev S_ : Shape := ⟨0, ![]⟩
abbrev S256x1024 : Shape := ⟨2, ![256, 1024]⟩
abbrev S1x672x1024 : Shape := ⟨3, ![1, 672, 1024]⟩
abbrev S672x1024 : Shape := ⟨2, ![672, 1024]⟩
abbrev S256x672 : Shape := ⟨2, ![256, 672]⟩
abbrev S1x256x672 : Shape := ⟨3, ![1, 256, 672]⟩
abbrev S256 : Shape := ⟨1, ![256]⟩
abbrev S256x1 : Shape := ⟨2, ![256, 1]⟩

abbrev nBuf : Space → Nat
  | .hbm => 14
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S2688x1024, .f32⟩
  | .hbm, ⟨3, _⟩ => ⟨S1x1024, .f32⟩
  | .hbm, ⟨4, _⟩ => ⟨S1x1024, .f32⟩
  | .hbm, ⟨5, _⟩ => ⟨S5376x1024, .f32⟩
  | .hbm, ⟨6, _⟩ => ⟨S8x672x1024, .f32⟩
  | .hbm, ⟨7, _⟩ => ⟨S8x672x1024, .bf16⟩
  | .hbm, ⟨8, _⟩ => ⟨S2688x1024, .bf16⟩
  | .hbm, ⟨9, _⟩ => ⟨S8x8192x672, .bf16⟩
  | .hbm, ⟨10, _⟩ => ⟨S8192x1024, .f32⟩
  | .hbm, ⟨11, _⟩ => ⟨S8192x1024, .bf16⟩
  | .hbm, ⟨12, _⟩ => ⟨S8192x1024, .f32⟩
  | .hbm, ⟨13, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S8x512x672, .bf16⟩
  | .local _ .vmem, ⟨5, _⟩ => ⟨S8x512x672, .bf16⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S8x672x1024, .bf16⟩
  | .local _ .vmem, ⟨15, _⟩ => ⟨S2688x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v4_2 : Ref sig .tc := ⟨.hbm, 11, rfl⟩
abbrev main_v4_3 : Ref sig .tc := ⟨.hbm, 12, rfl⟩
abbrev main_v4_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S8x512x672 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== FfnFwdRefIdeal.lean ====
abbrev S8192x1024 : Shape := ⟨2, ![8192, 1024]⟩
abbrev S1024x5376 : Shape := ⟨2, ![1024, 5376]⟩
abbrev S2688x1024 : Shape := ⟨2, ![2688, 1024]⟩
abbrev S1x1024 : Shape := ⟨2, ![1, 1024]⟩
abbrev S8192x5376 : Shape := ⟨2, ![8192, 5376]⟩
abbrev S8192x2688 : Shape := ⟨2, ![8192, 2688]⟩
abbrev S_ : Shape := ⟨0, ![]⟩
abbrev S8192 : Shape := ⟨1, ![8192]⟩
abbrev S8192x1 : Shape := ⟨2, ![8192, 1]⟩
abbrev S8192x8x672 : Shape := ⟨3, ![8192, 8, 672]⟩
abbrev S8x8192x672 : Shape := ⟨3, ![8, 8192, 672]⟩

abbrev nBuf : Space → Nat
  | .hbm => 58
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x5376, .f32⟩
  | .hbm, ⟨2, _⟩ => ⟨S2688x1024, .f32⟩
  | .hbm, ⟨3, _⟩ => ⟨S1x1024, .f32⟩
  | .hbm, ⟨4, _⟩ => ⟨S1x1024, .f32⟩
  | .hbm, ⟨5, _⟩ => ⟨S8192x5376, .f32⟩
  | .hbm, ⟨6, _⟩ => ⟨S8192x2688, .f32⟩
  | .hbm, ⟨7, _⟩ => ⟨S8192x2688, .f32⟩
  | .hbm, ⟨8, _⟩ => ⟨S8192x2688, .f32⟩
  | .hbm, ⟨9, _⟩ => ⟨S8192x2688, .f32⟩
  | .hbm, ⟨10, _⟩ => ⟨S_, .f32⟩
  | .hbm, ⟨11, _⟩ => ⟨S8192x2688, .f32⟩
  | .hbm, ⟨12, _⟩ => ⟨S8192x2688, .f32⟩
  | .hbm, ⟨13, _⟩ => ⟨S_, .f32⟩
  | .hbm, ⟨14, _⟩ => ⟨S8192x2688, .f32⟩
  | .hbm, ⟨15, _⟩ => ⟨S8192x2688, .f32⟩
  | .hbm, ⟨16, _⟩ => ⟨S8192x2688, .f32⟩
  | .hbm, ⟨17, _⟩ => ⟨S8192x2688, .f32⟩
  | .hbm, ⟨18, _⟩ => ⟨S8192x1024, .f32⟩
  | .hbm, ⟨19, _⟩ => ⟨S_, .f32⟩
  | .hbm, ⟨20, _⟩ => ⟨S8192x1024, .f32⟩
  | .hbm, ⟨21, _⟩ => ⟨S8192x1024, .f32⟩
  | .hbm, ⟨22, _⟩ => ⟨S_, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S_, .f32⟩
  | .hbm, ⟨30, _⟩ => ⟨S8192x1, .f32⟩
  | .hbm, ⟨31, _⟩ => ⟨S8192x1, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1024, .f32⟩
  | .hbm, ⟨42, _⟩ => ⟨S8192x1024, .f32⟩
  | .hbm, ⟨43, _⟩ => ⟨S_, .f32⟩
  | .hbm, ⟨44, _⟩ => ⟨S8192x1, .f32⟩
  | .hbm, ⟨45, _⟩ => ⟨S8192x1, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | .hbm, ⟨53, _⟩ => ⟨S8192x8x672, .f32⟩
  | .hbm, ⟨54, _⟩ => ⟨S8x8192x672, .f32⟩
  | .hbm, ⟨55, _⟩ => ⟨S8x8192x672, .bf16⟩
  | .hbm, ⟨56, _⟩ => ⟨S8192x1024, .bf16⟩
  | .hbm, ⟨57, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_cst : Ref sig .tc := ⟨.hbm, 19, rfl⟩
abbrev main_v6 : Ref sig .tc := ⟨.hbm, 20, rfl⟩
abbrev main_v7 : Ref sig .tc := ⟨.hbm, 21, rfl⟩
abbrev main_cst_0 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_cst_2 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_cst_4 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩

abbrev nD : Nat := 1
abbrev τ : Topo := Topo.v7x

variable {F : FTy → Type} [FloatOps F]
-- ==== Proof.SbOps.lean ====
module

public import proofs.«01_k».proof.Proof.Gen.SbBwdIdeal.Skeleton

/-!
The arithmetic of the stick-breaking attention's gradient kernel, named once.

A grid point works on a tile of 256 queries of two heads, taken as four *rows* of 128 queries (head 0
first half, head 0 second half, head 1 first half, head 1 second half).  Against a tile of 256 keys each
row does the same operations; the definitions below are those operations, over any float instance.
-/

@[expose] public section

noncomputable section

namespace Cert.SbBwdIdeal.Hand

open Cert.SbBwdIdeal Cert.SbBwdIdeal.Gen
open Idealize.ShloMosaic Idealize.SL.Sem

variable {F : FTy → Type} [FloatOps F] [Named F]

/-- A row's constant operands: queries, cotangents, and each query's sum of cotangent times output. -/
structure Row (F : FTy → Type) where
  q : FVec F S128x128 .bf16
  d : FVec F S128x128 .bf16
  dl : FVec F S128x1 .f32

/-- What a row carries from one tile of keys to the next: the running sum of log-survivals, the
running sum of the weights' gradients times weights, and the queries' gradient so far. -/
structure Ch (F : FTy → Type) where
  n : FVec F S128x1 .f32
  g : FVec F S128x1 .f32
  dq : FVec F S128x128 .f32

/-- Scores of a row against a tile of keys. -/
def zOf (q : FVec F S128x128 .bf16) (k : FVec F S256x128 .bf16) : FVec F S128x256 .f32 :=
  matmul dot_S128x128_S256x128_S128x256_1_1_0_0_n_n none q k (constant S128x256 .f32 0x00000000#32)

/-- Scores of a row against two adjacent tiles of keys. -/
def zWide (q : FVec F S128x128 .bf16) (k : FVec F S512x128 .bf16) : FVec F S128x512 .f32 :=
  matmul dot_S128x128_S512x128_S128x512_1_1_0_0_n_n none q k (constant S128x512 .f32 0x00000000#32)

/-- The logarithm of the sigmoid of the scores. -/
def lsOf (z : FVec F S128x256 .f32) : FVec F S128x256 .f32 :=
  subf (minimumf z (broadcast S128x256 (FloatOps.ofBits .f32 0x00000000#32)))
    (log (addf (broadcast S128x256 (FloatOps.ofBits .f32 0x3F800000#32))
      (exp (subf (broadcast S128x256 (FloatOps.ofBits .f32 0x00000000#32)) (absf z)))))

/-- The logarithm of one minus the sigmoid of the scores. -/
def nOf (z : FVec F S128x256 .f32) : FVec F S128x256 .f32 := subf (lsOf z) z

/-- The product with a matrix of zeros and ones, in two rounded parts. -/
def hiLo (x : FVec F S128x256 .f32) (tri : FVec F S256x256 .bf16) : FVec F S128x256 .f32 :=
  addf
    (matmul dot_S128x256_S256x256_S128x256_1_0_0_1_n_n none (truncf .bf16 x bitsLt_bf16_f32) tri (constant S128x256 .f32 0x00000000#32))
    (matmul dot_S128x256_S256x256_S128x256_1_0_0_1_n_n none
      (truncf .bf16 (subf x (extf .f32 (truncf .bf16 x bitsLt_bf16_f32) bitsLt_bf16_f32)) bitsLt_bf16_f32) tri
      (constant S128x256 .f32 0x00000000#32))

/-- A column of 128 numbers spread over the tile's 256 columns. -/
def spread (r : FVec F S128x1 .f32) : FVec F S128x256 .f32 := broadcastTo S128x256 r broadcasts_S128x1_S128x256

/-- A running sum advanced by the tile's row sums. -/
def accRow (r : FVec F S128x1 .f32) (x : FVec F S128x256 .f32) : FVec F S128x1 .f32 :=
  addf r (shapeCast S128x1 (multiReduction .add [1] S128 x 0x00000000#32 reduces_S128x256_S128 (.inl rfl) rfl) shapeCasts_S128_S128x1)

/-- The weights before rounding, from log-sigmoids, log-survivals and the running sum. -/
def eOf (tri : FVec F S256x256 .bf16) (run : FVec F S128x1 .f32) (ls n : FVec F S128x256 .f32) : FVec F S128x256 .f32 :=
  exp (addf ls (addf (hiLo n tri) (spread run)))

/-- A rounded weight times the weight's gradient. -/
def gOf (w : FVec F S128x256 .bf16) (dw : FVec F S128x256 .f32) : FVec F S128x256 .f32 :=
  mulf (extf .f32 w bitsLt_bf16_f32) dw

/-- The scores' gradient. -/
def dzOf (trii : FVec F S256x256 .bf16) (rg dl : FVec F S128x1 .f32) (ls g : FVec F S128x256 .f32) : FVec F S128x256 .f32 :=
  subf g (mulf (exp ls) (addf g (subf (spread dl) (addf (hiLo g trii) (spread rg)))))

/-- Entries of a tile outside the mask replaced by zero. -/
def keep (m : IVec S128x256 1) (x : FVec F S128x256 .f32) : FVec F S128x256 .f32 :=
  select m x (broadcast S128x256 (FloatOps.ofBits .f32 0x00000000#32))

/-- What one row gets out of one tile of keys. -/
structure Tile (F : FTy → Type) where
  n : FVec F S128x256 .f32
  w : FVec F S128x256 .bf16
  g : FVec F S128x256 .f32
  dz : FVec F S128x256 .f32

/-- A tile of keys that lies wholly before the queries. -/
def tileOff (tri trii : FVec F S256x256 .bf16) (dl run rg : FVec F S128x1 .f32) (z dw : FVec F S128x256 .f32) : Tile F where
  n := nOf z
  w := truncf .bf16 (eOf tri run (lsOf z) (nOf z)) bitsLt_bf16_f32
  g := gOf (truncf .bf16 (eOf tri run (lsOf z) (nOf z)) bitsLt_bf16_f32) dw
  dz := dzOf trii rg dl (lsOf z) (gOf (truncf .bf16 (eOf tri run (lsOf z) (nOf z)) bitsLt_bf16_f32) dw)

/-- The tile of keys at the queries' own positions: only earlier keys count. -/
def tileDiag (m : IVec S128x256 1) (tri trii : FVec F S256x256 .bf16) (dl run rg : FVec F S128x1 .f32) (z dw : FVec F S128x256 .f32) :
    Tile F where
  n := keep m (nOf z)
  w := truncf .bf16 (keep m (eOf tri run (lsOf z) (keep m (nOf z)))) bitsLt_bf16_f32
  g := gOf (truncf .bf16 (keep m (eOf tri run (lsOf z) (keep m (nOf z)))) bitsLt_bf16_f32) dw
  dz := keep m (dzOf trii rg dl (lsOf z) (gOf (truncf .bf16 (keep m (eOf tri run (lsOf z) (keep m (nOf z)))) bitsLt_bf16_f32) dw))

/-- Keys' gradient so far plus one row's share. -/
def kAdd (acc : FVec F S256x128 .f32) (dz : FVec F S128x256 .f32) (q : FVec F S128x128 .bf16) : FVec F S256x128 .f32 :=
  addf acc (matmul dot_S256x128_S128x128_S256x128_1_0_0_1_n_n none
    (truncf .bf16 (transpose S256x128 [1, 0] dz transposes_S128x256_p1_0_S256x128) bitsLt_bf16_f32) q (constant S256x128 .f32 0x00000000#32))

/-- Queries' gradient so far plus one tile's share. -/
def qAdd (acc : FVec F S128x128 .f32) (dz : FVec F S128x256 .f32) (k : FVec F S256x128 .bf16) : FVec F S128x128 .f32 :=
  addf acc (matmul dot_S128x256_S256x128_S128x128_1_0_0_1_n_n none (truncf .bf16 dz bitsLt_bf16_f32) k (constant S128x128 .f32 0x00000000#32))

/-- Zeros, the start of the sum over the four rows. -/
def zero256 : FVec F S256x128 .f32 := broadcast S256x128 (FloatOps.ofBits .f32 0x00000000#32)

/-- The four rows' shares of the keys' gradient. -/
def kSum (t0 t1 t2 t3 : Tile F) (r0 r1 r2 r3 : Row F) : FVec F S256x128 .f32 :=
  kAdd (kAdd (kAdd (kAdd zero256 t0.dz r0.q) t1.dz r1.q) t2.dz r2.q) t3.dz r3.q

/-- The four rows' shares of the values' gradient. -/
def vSum (t0 t1 t2 t3 : Tile F) (r0 r1 r2 r3 : Row F) : FVec F S256x128 .f32 :=
  kAdd (kAdd (kAdd (kAdd zero256 (extf .f32 t0.w bitsLt_bf16_f32) r0.d) (extf .f32 t1.w bitsLt_bf16_f32) r1.d)
    (extf .f32 t2.w bitsLt_bf16_f32) r2.d) (extf .f32 t3.w bitsLt_bf16_f32) r3.d

/-- A block of the gradient in memory advanced by the rows' shares. -/
def bump (old s : FVec F S256x128 .f32) : FVec F S256x128 .f32 :=
  shapeCast S256x128 (addf old s) shapeCasts_S256x128_S256x128

/-- A tile of keys or values as loaded. -/
def blk (x : FVec F S256x128 .bf16) : FVec F S256x128 .bf16 := shapeCast S256x128 x shapeCasts_S256x128_S256x128

/-- Two tiles of keys or values as loaded. -/
def blk2 (x : FVec F S512x128 .bf16) : FVec F S512x128 .bf16 := shapeCast S512x128 x shapeCasts_S512x128_S512x128

/-- The tile a row gets from keys `k` and values `v`. -/
def offT (tri trii : FVec F S256x256 .bf16) (r : Row F) (c : Ch F) (k v : FVec F S256x128 .bf16) : Tile F :=
  tileOff tri trii r.dl c.n c.g (zOf r.q (blk k)) (zOf r.d (blk v))

/-- The carry after that tile. -/
def offC (tri trii : FVec F S256x256 .bf16) (r : Row F) (c : Ch F) (k v : FVec F S256x128 .bf16) : Ch F where
  n := accRow c.n (offT tri trii r c k v).n
  g := accRow c.g (offT tri trii r c k v).g
  dq := qAdd c.dq (offT tri trii r c k v).dz (blk k)

/-- The carry before any tile. -/
def ch0 : Ch F where
  n := broadcast S128x1 (FloatOps.ofBits .f32 0x00000000#32)
  g := broadcast S128x1 (FloatOps.ofBits .f32 0x00000000#32)
  dq := broadcast S128x128 (FloatOps.ofBits .f32 0x00000000#32)

/-- The diagonal tile of a row, where it is the only one. -/
def diagT (m : IVec S128x256 1) (tri trii : FVec F S256x256 .bf16) (r : Row F) (k v : FVec F S256x128 .bf16) : Tile F :=
  tileDiag m tri trii r.dl (ch0 (F := F)).n (ch0 (F := F)).g (zOf r.q (blk k)) (zOf r.d (blk v))

/-- The carry after it. -/
def diagC (m : IVec S128x256 1) (tri trii : FVec F S256x256 .bf16) (r : Row F) (k v : FVec F S256x128 .bf16) : Ch F where
  n := accRow (ch0 (F := F)).n (diagT m tri trii r k v).n
  g := accRow (ch0 (F := F)).g (diagT m tri trii r k v).g
  dq := qAdd (ch0 (F := F)).dq (diagT m tri trii r k v).dz (blk k)

/-- The left tile's columns. -/
def colsL (x : FVec F S128x512 .f32) : FVec F S128x256 .f32 := extractStridedSlice S128x256 ![0, 0] x slices_S128x512_o0_0_S128x256

/-- The right tile's columns. -/
def colsR (x : FVec F S128x512 .f32) : FVec F S128x256 .f32 := extractStridedSlice S128x256 ![0, 256] x slices_S128x512_o0_256_S128x256

/-- The diagonal tile of a row, taken together with the one before it. -/
def wideD (m : IVec S128x256 1) (tri trii : FVec F S256x256 .bf16) (r : Row F) (k v : FVec F S512x128 .bf16) : Tile F :=
  tileDiag m tri trii r.dl (ch0 (F := F)).n (ch0 (F := F)).g (colsR (zWide r.q (blk2 k))) (colsR (zWide r.d (blk2 v)))

/-- The tile before the diagonal one, taken together with it. -/
def wideO (m : IVec S128x256 1) (tri trii : FVec F S256x256 .bf16) (r : Row F) (k v : FVec F S512x128 .bf16) : Tile F :=
  tileOff tri trii r.dl (accRow (ch0 (F := F)).n (wideD m tri trii r k v).n) (accRow (ch0 (F := F)).g (wideD m tri trii r k v).g)
    (colsL (zWide r.q (blk2 k))) (colsL (zWide r.d (blk2 v)))

/-- The carry after both. -/
def wideC (m : IVec S128x256 1) (tri trii : FVec F S256x256 .bf16) (r : Row F) (k v : FVec F S512x128 .bf16) : Ch F where
  n := accRow (accRow (ch0 (F := F)).n (wideD m tri trii r k v).n) (wideO m tri trii r k v).n
  g := accRow (accRow (ch0 (F := F)).g (wideD m tri trii r k v).g) (wideO m tri trii r k v).g
  dq := addf (ch0 (F := F)).dq (matmul dot_S128x512_S512x128_S128x128_1_0_0_1_n_n none
    (concatenate S128x512 1 [⟨S128x256, truncf .bf16 (wideO m tri trii r k v).dz bitsLt_bf16_f32⟩,
      ⟨S128x256, truncf .bf16 (wideD m tri trii r k v).dz bitsLt_bf16_f32⟩] concatenates_S128x256_S128x256_S128x512_d1)
    (blk2 k) (constant S128x128 .f32 0x00000000#32))

/-- First 128 queries of a head's tile. -/
def top (x : FVec F S256x128 .bf16) : FVec F S128x128 .bf16 := extractStridedSlice S128x128 ![0, 0] x slices_S256x128_o0_0_S128x128

/-- Last 128 queries of a head's tile. -/
def bot (x : FVec F S256x128 .bf16) : FVec F S128x128 .bf16 := extractStridedSlice S128x128 ![128, 0] x slices_S256x128_o128_0_S128x128

/-- First 128 of a head's sums. -/
def topD (x : FVec F S256x1 .f32) : FVec F S128x1 .f32 := extractStridedSlice S128x1 ![0, 0] x slices_S256x1_o0_0_S128x1

/-- Last 128 of a head's sums. -/
def botD (x : FVec F S256x1 .f32) : FVec F S128x1 .f32 := extractStridedSlice S128x1 ![128, 0] x slices_S256x1_o128_0_S128x1

/-- The first row of a head. -/
def rowT (q d : FVec F S256x128 .bf16) (dl : FVec F S256x1 .f32) : Row F := ⟨top q, top d, topD dl⟩

/-- The second row of a head. -/
def rowB (q d : FVec F S256x128 .bf16) (dl : FVec F S256x1 .f32) : Row F := ⟨bot q, bot d, botD dl⟩

end Cert.SbBwdIdeal.Hand
-- ==== Proof.SbWhile.lean ====
module

public import proofs.«01_k».proof.Proof.SbOps

/-!
The loop over earlier tiles of keys, as a short program over the named arithmetic of `SbOps`.
-/

@[expose] public section

noncomputable section

namespace Cert.SbBwdIdeal.Hand

open Cert.SbBwdIdeal Cert.SbBwdIdeal.Gen
open Idealize.ShloMosaic Idealize.SL.Sem

variable {F : FTy → Type} [FloatOps F] [Named F]

/-- What stays the same over a grid point's loop: queries and cotangents of the two heads, the two
matrices of zeros and ones, and the two heads' sums. -/
structure Pt (F : FTy → Type) where
  q0 : FVec F S256x128 .bf16
  q1 : FVec F S256x128 .bf16
  d0 : FVec F S256x128 .bf16
  d1 : FVec F S256x128 .bf16
  tri : FVec F S256x256 .bf16
  trii : FVec F S256x256 .bf16
  l0 : FVec F S256x1 .f32
  l1 : FVec F S256x1 .f32

/-- The four rows of a grid point. -/
def Pt.r0 (p : Pt F) : Row F := rowT p.q0 p.d0 p.l0
/-- The second row. -/
def Pt.r1 (p : Pt F) : Row F := rowB p.q0 p.d0 p.l0
/-- The third row. -/
def Pt.r2 (p : Pt F) : Row F := rowT p.q1 p.d1 p.l1
/-- The fourth row. -/
def Pt.r3 (p : Pt F) : Row F := rowB p.q1 p.d1 p.l1

/-- The four rows' carries. -/
structure Carry (F : FTy → Type) where
  c0 : Ch F
  c1 : Ch F
  c2 : Ch F
  c3 : Ch F

/-- The carries after one more tile of keys. -/
def Carry.next (p : Pt F) (c : Carry F) (k v : FVec F S256x128 .bf16) : Carry F where
  c0 := offC p.tri p.trii p.r0 c.c0 k v
  c1 := offC p.tri p.trii p.r1 c.c1 k v
  c2 := offC p.tri p.trii p.r2 c.c2 k v
  c3 := offC p.tri p.trii p.r3 c.c3 k v

/-- The tile's share of the keys' gradient. -/
def Carry.kShare (p : Pt F) (c : Carry F) (k v : FVec F S256x128 .bf16) : FVec F S256x128 .f32 :=
  kSum (offT p.tri p.trii p.r0 c.c0 k v) (offT p.tri p.trii p.r1 c.c1 k v) (offT p.tri p.trii p.r2 c.c2 k v)
    (offT p.tri p.trii p.r3 c.c3 k v) p.r0 p.r1 p.r2 p.r3

/-- The tile's share of the values' gradient. -/
def Carry.vShare (p : Pt F) (c : Carry F) (k v : FVec F S256x128 .bf16) : FVec F S256x128 .f32 :=
  vSum (offT p.tri p.trii p.r0 c.c0 k v) (offT p.tri p.trii p.r1 c.c1 k v) (offT p.tri p.trii p.r2 c.c2 k v)
    (offT p.tri p.trii p.r3 c.c3 k v) p.r0 p.r1 p.r2 p.r3

/-- Whether any query has survival left. -/
def Carry.alive (c : Carry F) : BitVec 1 :=
  Scalar.cmpf .ogt (k0_pay16 c.c0.n c.c1.n c.c2.n c.c3.n) (Named.named κ "skip" 0xC2DC0000#32)

/-- The loop's operands at a state. -/
def rec1 (i : grid0.Coords) (p : Pt F)
    (a3 : Memref sig .tc .vmem S8192x128 .bf16) (h3 : a3.IsWhole) (a4 : Memref sig .tc .vmem S8192x128 .bf16) (h4 : a4.IsWhole)
    (a10 : Memref sig .tc .vmem S8192x128 .f32) (h10 : a10.IsWhole) (a11 : Memref sig .tc .vmem S8192x128 .f32) (h11 : a11.IsWhole)
    (j : BitVec 32) (al : BitVec 1) (c : Carry F) : Cc0While1 F :=
  ⟨i, a3, h3, a4, h4, p.q0, p.q1, p.d0, p.d1, p.tri, p.trii, p.l0, p.l1, a10, h10, a11, h11, j, al,
    c.c0.n, c.c0.g, c.c0.dq, c.c1.n, c.c1.g, c.c1.dq, c.c2.n, c.c2.g, c.c2.dq, c.c3.n, c.c3.g, c.c3.dq⟩

/-- What the loop hands back: the tile's number, whether it was left alive, and the four carries. -/
abbrev Back (F : FTy → Type) : Type :=
  BitVec 32 × BitVec 1 × FVec F S128x1 .f32 × FVec F S128x1 .f32 × FVec F S128x128 .f32 × FVec F S128x1 .f32 × FVec F S128x1 .f32 × FVec F S128x128 .f32 × FVec F S128x1 .f32 × FVec F S128x1 .f32 × FVec F S128x128 .f32 × FVec F S128x1 .f32 × FVec F S128x1 .f32 × FVec F S128x128 .f32

/-- One entry of the loop: while a tile is left and some query has survival left, add the tile's shares
into the two gradients in memory and enter again one tile earlier. -/
def whileP (i : grid0.Coords) (p : Pt F)
    (a3 : Memref sig .tc .vmem S8192x128 .bf16) (h3 : a3.IsWhole) (a4 : Memref sig .tc .vmem S8192x128 .bf16) (h4 : a4.IsWhole)
    (a10 : Memref sig .tc .vmem S8192x128 .f32) (h10 : a10.IsWhole) (a11 : Memref sig .tc .vmem S8192x128 .f32) (h11 : a11.IsWhole)
    (j : BitVec 32) (al : BitVec 1) (c : Carry F) :
    Prog (TpuEff nD τ sig (Elt F) (Λ₀ F) .tc) (Back F) :=
  if Scalar.andi (Scalar.cmpi .sge j 0#32) al = 1#1 then do
    have hw : k0_chk1 j := (← Prog.lift (TpuEff.assume (k0_chk1 j) (k0_chk1.dec j))).down
    let k : Vec F S256x128 .bf16 ← Prog.lift (.load a3 (Rect.unit (s := S8192x128) (k0_off3 j) S256x128.size (k0_off3_inb j hw)).toLoadRect (View.loadsAt_vmem h_S256x128))
    let v : Vec F S256x128 .bf16 ← Prog.lift (.load a4 (Rect.unit (s := S8192x128) (k0_off3 j) S256x128.size (k0_off3_inb j hw)).toLoadRect (View.loadsAt_vmem h_S256x128))
    let x : Vec F S256x128 .f32 ← Prog.lift (.load a10 (Rect.unit (s := S8192x128) (k0_off4 j) S256x128.size (k0_off4_inb j hw)).toLoadRect (View.loadsAt_vmem h_S256x128))
    let _ : Vec F S256x128 .f32 ← Prog.lift (.load a10 (Rect.unit (s := S8192x128) (k0_off4 j) S256x128.size (k0_off4_inb j hw)).toLoadRect (View.loadsAt_vmem h_S256x128))
    Prog.lift (.store a10 (Rect.unit (s := S8192x128) (k0_off4 j) S256x128.size (k0_off4_inb j hw)) (bump x (c.kShare p k v)) Finset.univ (View.stores_vmem_bits_univ h_S256x128 rfl) (.inl rfl))
    let y : Vec F S256x128 .f32 ← Prog.lift (.load a11 (Rect.unit (s := S8192x128) (k0_off4 j) S256x128.size (k0_off4_inb j hw)).toLoadRect (View.loadsAt_vmem h_S256x128))
    let _ : Vec F S256x128 .f32 ← Prog.lift (.load a11 (Rect.unit (s := S8192x128) (k0_off4 j) S256x128.size (k0_off4_inb j hw)).toLoadRect (View.loadsAt_vmem h_S256x128))
    Prog.lift (.store a11 (Rect.unit (s := S8192x128) (k0_off4 j) S256x128.size (k0_off4_inb j hw)) (bump y (c.vShare p k v)) Finset.univ (View.stores_vmem_bits_univ h_S256x128 rfl) (.inl rfl))
    Prog.lift (.call (1 : (Λ₀ F).Label) (rec1 i p a3 h3 a4 h4 a10 h10 a11 h11 (Scalar.subi j 1#32) (c.next p k v).alive (c.next p k v)))
  else pure (j, al, c.c0.n, c.c0.g, c.c0.dq, c.c1.n, c.c1.g, c.c1.dq, c.c2.n, c.c2.g, c.c2.dq, c.c3.n, c.c3.g, c.c3.dq)

set_option maxRecDepth 65536 in
set_option maxHeartbeats 4000000 in
/-- The printed loop is that program. -/
theorem while_eq (i : grid0.Coords) (p : Pt F)
    (a3 : Memref sig .tc .vmem S8192x128 .bf16) (h3 : a3.IsWhole) (a4 : Memref sig .tc .vmem S8192x128 .bf16) (h4 : a4.IsWhole)
    (a10 : Memref sig .tc .vmem S8192x128 .f32) (h10 : a10.IsWhole) (a11 : Memref sig .tc .vmem S8192x128 .f32) (h11 : a11.IsWhole)
    (j : BitVec 32) (al : BitVec 1) (c : Carry F) :
    (defs₀ (F := F)) .tc 1 (rec1 i p a3 h3 a4 h4 a10 h10 a11 h11 j al c) = whileP i p a3 h3 a4 h4 a10 h10 a11 h11 j al c := rfl

end Cert.SbBwdIdeal.Hand
-- ==== Proof.SbBody.lean ====
module

public import proofs.«01_k».proof.Proof.SbWhile

/-!
The kernel's body at one grid point, as a short program over the named arithmetic of `SbOps`.
-/

@[expose] public section

noncomputable section

namespace Cert.SbBwdIdeal.Hand

open Cert.SbBwdIdeal Cert.SbBwdIdeal.Gen
open Idealize.ShloMosaic Idealize.SL.Sem

variable {F : FTy → Type} [FloatOps F] [Named F]

/-- A grid point's constants from its tiles of queries, cotangents and outputs. -/
def ptOf (x3 : FVec F S256x128 .bf16) (x11 : FVec F S256x128 .bf16) (x20 : FVec F S256x128 .f32) : Pt F where
  q0 := k0_pay236 x3
  q1 := k0_pay237 x3
  d0 := k0_pay241 x11
  d1 := k0_pay242 x11
  tri := k0_pay246
  trii := k0_pay1 k0_pay247
  l0 := k0_pay244 x11 x20
  l1 := k0_pay245 x11 x20

/-- The carries after the first tile of queries: only the diagonal tile. -/
def firstC (p : Pt F) (k v : FVec F S256x128 .bf16) : Carry F where
  c0 := diagC k0_pay3 p.tri p.trii p.r0 k v
  c1 := diagC k0_pay4 p.tri p.trii p.r1 k v
  c2 := diagC k0_pay3 p.tri p.trii p.r2 k v
  c3 := diagC k0_pay4 p.tri p.trii p.r3 k v

/-- The diagonal tile's share of the keys' gradient. -/
def firstK (p : Pt F) (k v : FVec F S256x128 .bf16) : FVec F S256x128 .f32 :=
  kSum (diagT k0_pay3 p.tri p.trii p.r0 k v) (diagT k0_pay4 p.tri p.trii p.r1 k v) (diagT k0_pay3 p.tri p.trii p.r2 k v)
    (diagT k0_pay4 p.tri p.trii p.r3 k v) p.r0 p.r1 p.r2 p.r3

/-- The diagonal tile's share of the values' gradient. -/
def firstV (p : Pt F) (k v : FVec F S256x128 .bf16) : FVec F S256x128 .f32 :=
  vSum (diagT k0_pay3 p.tri p.trii p.r0 k v) (diagT k0_pay4 p.tri p.trii p.r1 k v) (diagT k0_pay3 p.tri p.trii p.r2 k v)
    (diagT k0_pay4 p.tri p.trii p.r3 k v) p.r0 p.r1 p.r2 p.r3

/-- The carries after the diagonal tile and the one before it. -/
def wideCs (p : Pt F) (k v : FVec F S512x128 .bf16) : Carry F where
  c0 := wideC k0_pay3 p.tri p.trii p.r0 k v
  c1 := wideC k0_pay4 p.tri p.trii p.r1 k v
  c2 := wideC k0_pay3 p.tri p.trii p.r2 k v
  c3 := wideC k0_pay4 p.tri p.trii p.r3 k v

/-- The diagonal tile's share of the keys' gradient, taken with the one before it. -/
def wideDK (p : Pt F) (k v : FVec F S512x128 .bf16) : FVec F S256x128 .f32 :=
  kSum (wideD k0_pay3 p.tri p.trii p.r0 k v) (wideD k0_pay4 p.tri p.trii p.r1 k v) (wideD k0_pay3 p.tri p.trii p.r2 k v)
    (wideD k0_pay4 p.tri p.trii p.r3 k v) p.r0 p.r1 p.r2 p.r3

/-- The same of the values' gradient. -/
def wideDV (p : Pt F) (k v : FVec F S512x128 .bf16) : FVec F S256x128 .f32 :=
  vSum (wideD k0_pay3 p.tri p.trii p.r0 k v) (wideD k0_pay4 p.tri p.trii p.r1 k v) (wideD k0_pay3 p.tri p.trii p.r2 k v)
    (wideD k0_pay4 p.tri p.trii p.r3 k v) p.r0 p.r1 p.r2 p.r3

/-- The tile before the diagonal one: its share of the keys' gradient. -/
def wideOK (p : Pt F) (k v : FVec F S512x128 .bf16) : FVec F S256x128 .f32 :=
  kSum (wideO k0_pay3 p.tri p.trii p.r0 k v) (wideO k0_pay4 p.tri p.trii p.r1 k v) (wideO k0_pay3 p.tri p.trii p.r2 k v)
    (wideO k0_pay4 p.tri p.trii p.r3 k v) p.r0 p.r1 p.r2 p.r3

/-- The same of the values' gradient. -/
def wideOV (p : Pt F) (k v : FVec F S512x128 .bf16) : FVec F S256x128 .f32 :=
  vSum (wideO k0_pay3 p.tri p.trii p.r0 k v) (wideO k0_pay4 p.tri p.trii p.r1 k v) (wideO k0_pay3 p.tri p.trii p.r2 k v)
    (wideO k0_pay4 p.tri p.trii p.r3 k v) p.r0 p.r1 p.r2 p.r3

/-- Whether a grid point is the first of its pair of heads. -/
def isFirst (i : grid0.Coords) : BitVec 1 :=
  Scalar.cmpi .ne (Scalar.extui (Scalar.cmpi .eq (BitVec.ofNat 32 (i 1).val) 0#32)) 0#32

variable (i : grid0.Coords)
  (a2 : Memref sig .tc .vmem S256x128 .bf16) (h2 : a2.IsWhole)
  (a3 : Memref sig .tc .vmem S8192x128 .bf16) (h3 : a3.IsWhole) (a4 : Memref sig .tc .vmem S8192x128 .bf16) (h4 : a4.IsWhole)
  (a5 : Memref sig .tc .vmem S256x128 .f32) (h5 : a5.IsWhole) (a6 : Memref sig .tc .vmem S256x128 .bf16) (h6 : a6.IsWhole)
  (a7 : Memref sig .tc .vmem S256x128 .bf16) (h7 : a7.IsWhole)
  (a8 : Memref sig .tc .vmem S8192x128 .bf16) (h8 : a8.IsWhole) (a9 : Memref sig .tc .vmem S8192x128 .bf16) (h9 : a9.IsWhole)
  (a10 : Memref sig .tc .vmem S8192x128 .f32) (h10 : a10.IsWhole) (a11 : Memref sig .tc .vmem S8192x128 .f32) (h11 : a11.IsWhole)

/-- Clear the two gradients in memory at the first grid point of a pair of heads. -/
def clearP : Prog (TpuEff nD τ sig (Elt F) (Λ₀ F) .tc) PUnit :=
  if isFirst i = 1#1 then do
    let _ : Vec F S8192x128 .f32 ← Prog.lift (.load a10 (Rect.unit (s := S8192x128) ![0, 0] S8192x128.size inb_S8192x128_S8192x128_0_0).toLoadRect (View.loadsAt_vmem h_S8192x128))
    Prog.lift (.store a10 (Rect.unit (s := S8192x128) ![0, 0] S8192x128.size inb_S8192x128_S8192x128_0_0) (k0_pay231 (F := F)) Finset.univ (View.stores_vmem_bits_univ h_S8192x128 rfl) (.inl rfl))
    let _ : Vec F S8192x128 .f32 ← Prog.lift (.load a11 (Rect.unit (s := S8192x128) ![0, 0] S8192x128.size inb_S8192x128_S8192x128_0_0).toLoadRect (View.loadsAt_vmem h_S8192x128))
    Prog.lift (.store a11 (Rect.unit (s := S8192x128) ![0, 0] S8192x128.size inb_S8192x128_S8192x128_0_0) (k0_pay232 (F := F)) Finset.univ (View.stores_vmem_bits_univ h_S8192x128 rfl) (.inl rfl))
    pure ⟨⟩
  else pure ⟨⟩

/-- Add a share into one block of a gradient in memory. -/
def addP (a : Memref sig .tc .vmem S8192x128 .f32) (off : Fin 2 → ℕ) (hb : ∀ b, off b + S256x128.size b ≤ S8192x128.size b)
    (s : FVec F S256x128 .f32) : Prog (TpuEff nD τ sig (Elt F) (Λ₀ F) .tc) PUnit := do
  let x : Vec F S256x128 .f32 ← Prog.lift (.load a (Rect.unit (s := S8192x128) off S256x128.size hb).toLoadRect (View.loadsAt_vmem h_S256x128))
  let _ : Vec F S256x128 .f32 ← Prog.lift (.load a (Rect.unit (s := S8192x128) off S256x128.size hb).toLoadRect (View.loadsAt_vmem h_S256x128))
  Prog.lift (.store a (Rect.unit (s := S8192x128) off S256x128.size hb) (bump x s) Finset.univ (View.stores_vmem_bits_univ h_S256x128 rfl) (.inl rfl))

/-- The tiles at and next to the queries' own positions. -/
def nearP (p : Pt F) : Prog (TpuEff nD τ sig (Elt F) (Λ₀ F) .tc) (Carry F) :=
  if hd : k0_cond2 i = 1#1 then do
    let k : Vec F S256x128 .bf16 ← Prog.lift (.load a3 (Rect.unit (s := S8192x128) ![0, 0] S256x128.size inb_S8192x128_S256x128_0_0).toLoadRect (View.loadsAt_vmem h_S256x128))
    let v : Vec F S256x128 .bf16 ← Prog.lift (.load a4 (Rect.unit (s := S8192x128) ![0, 0] S256x128.size inb_S8192x128_S256x128_0_0).toLoadRect (View.loadsAt_vmem h_S256x128))
    addP a10 ![0, 0] inb_S8192x128_S256x128_0_0 (firstK p k v)
    addP a11 ![0, 0] inb_S8192x128_S256x128_0_0 (firstV p k v)
    pure (firstC p k v)
  else do
    let k : Vec F S512x128 .bf16 ← Prog.lift (.load a3 (Rect.unit (s := S8192x128) (k0_off1 i) S512x128.size (k0_off1_inb i hd)).toLoadRect (View.loadsAt_vmem h_S512x128))
    let v : Vec F S512x128 .bf16 ← Prog.lift (.load a4 (Rect.unit (s := S8192x128) (k0_off1 i) S512x128.size (k0_off1_inb i hd)).toLoadRect (View.loadsAt_vmem h_S512x128))
    addP a10 (k0_off2 i 0#32) (k0_off2_inb i hd 0) (wideOK p k v)
    addP a11 (k0_off2 i 0#32) (k0_off2_inb i hd 0) (wideOV p k v)
    addP a10 (k0_off2 i 1#32) (k0_off2_inb i hd 1) (wideDK p k v)
    addP a11 (k0_off2 i 1#32) (k0_off2_inb i hd 1) (wideDV p k v)
    pure (wideCs p k v)

/-- At the last grid point of a pair of heads, round the two gradients and store them. -/
def flushP : Prog (TpuEff nD τ sig (Elt F) (Λ₀ F) .tc) PUnit :=
  if _h : k0_cond3 i = 1#1 then do
    let x : Vec F S8192x128 .f32 ← Prog.lift (.load a10 (Rect.unit (s := S8192x128) ![0, 0] S8192x128.size inb_S8192x128_S8192x128_0_0).toLoadRect (View.loadsAt_vmem h_S8192x128))
    let _ : Vec F S8192x128 .bf16 ← Prog.lift (.load a8 (Rect.unit (s := S8192x128) ![0, 0] S8192x128.size inb_S8192x128_S8192x128_0_0).toLoadRect (View.loadsAt_vmem h_S8192x128))
    Prog.lift (.store a8 (Rect.unit (s := S8192x128) ![0, 0] S8192x128.size inb_S8192x128_S8192x128_0_0) (k0_pay13 x) Finset.univ (View.stores_vmem h_S8192x128 (h8.storeExact_slice rfl _ packedbf16_S8192x128_S8192x128_0_0) (fun _ => rfl)) (.inl rfl))
    let y : Vec F S8192x128 .f32 ← Prog.lift (.load a11 (Rect.unit (s := S8192x128) ![0, 0] S8192x128.size inb_S8192x128_S8192x128_0_0).toLoadRect (View.loadsAt_vmem h_S8192x128))
    let _ : Vec F S8192x128 .bf16 ← Prog.lift (.load a9 (Rect.unit (s := S8192x128) ![0, 0] S8192x128.size inb_S8192x128_S8192x128_0_0).toLoadRect (View.loadsAt_vmem h_S8192x128))
    Prog.lift (.store a9 (Rect.unit (s := S8192x128) ![0, 0] S8192x128.size inb_S8192x128_S8192x128_0_0) (k0_pay14 y) Finset.univ (View.stores_vmem h_S8192x128 (h9.storeExact_slice rfl _ packedbf16_S8192x128_S8192x128_0_0) (fun _ => rfl)) (.inl rfl))
    pure ⟨⟩
  else pure ⟨⟩

/-- Clear at the first point, then load the tiles of queries, cotangents and outputs. -/
def startP : Prog (TpuEff nD τ sig (Elt F) (Λ₀ F) .tc)
    (FVec F S256x128 .bf16 × FVec F S256x128 .bf16 × FVec F S256x128 .f32) := do
  clearP i a10 a11
  let x3 : Vec F S256x128 .bf16 ← Prog.lift (.load a2 (Rect.unit (s := S256x128) ![0, 0] S256x128.size inb_S256x128_S256x128_0_0).toLoadRect (View.loadsAt_vmem h_S256x128))
  let x11 : Vec F S256x128 .bf16 ← Prog.lift (.load a6 (Rect.unit (s := S256x128) ![0, 0] S256x128.size inb_S256x128_S256x128_0_0).toLoadRect (View.loadsAt_vmem h_S256x128))
  let x20 : Vec F S256x128 .f32 ← Prog.lift (.load a5 (Rect.unit (s := S256x128) ![0, 0] S256x128.size inb_S256x128_S256x128_0_0).toLoadRect (View.loadsAt_vmem h_S256x128))
  pure (x3, x11, x20)

/-- The rest of a point after its near tiles: the loop, the queries' gradient, the flush. -/
def restP (p : Pt F) (c : Carry F) : Prog (TpuEff nD τ sig (Elt F) (Λ₀ F) .tc) PUnit := do
  let b : Back F ← Prog.lift (.call (1 : (Λ₀ F).Label) (rec1 i p a3 h3 a4 h4 a10 h10 a11 h11 (Scalar.subi (BitVec.ofNat 32 (i 1).val) 2#32) c.alive c))
  let _ : Vec F S256x128 .bf16 ← Prog.lift (.load a7 (Rect.unit (s := S256x128) ![0, 0] S256x128.size inb_S256x128_S256x128_0_0).toLoadRect (View.loadsAt_vmem h_S256x128))
  Prog.lift (.store a7 (Rect.unit (s := S256x128) ![0, 0] S256x128.size inb_S256x128_S256x128_0_0) (k0_pay12 k0_pay234 b.2.2.2.2.1 b.2.2.2.2.2.2.2.1 b.2.2.2.2.2.2.2.2.2.2.1 b.2.2.2.2.2.2.2.2.2.2.2.2.2) Finset.univ (View.stores_vmem h_S256x128 (h7.storeExact_slice rfl _ packedbf16_S256x128_S256x128_0_0) (fun _ => rfl)) (.inl rfl))
  flushP i a8 h8 a9 h9 a10 a11

/-- One grid point. -/
def bodyP : Prog (TpuEff nD τ sig (Elt F) (Λ₀ F) .tc) PUnit := do
  let x ← startP i a2 a5 a6 a10 a11
  let c ← nearP i a3 a4 a10 a11 (ptOf x.1 x.2.1 x.2.2)
  restP i a3 h3 a4 h4 a7 h7 a8 h8 a9 h9 a10 h10 a11 h11 (ptOf x.1 x.2.1 x.2.2) c

/-- The printed first part of the body is that start. -/
theorem start_eq :
    k0_part19 (F := F) i a2 h2 a3 h3 a4 h4 a5 h5 a6 h6 a7 h7 a8 h8 a9 h9 a10 h10 a11 h11 =
      (startP i a2 a5 a6 a10 a11 >>= fun x => pure ⟨BitVec.ofNat 32 (i 1).val, k0_pay234, k0_pay236 x.1, k0_pay237 x.1, k0_pay241 x.2.1, k0_pay242 x.2.1,
        k0_pay244 x.2.1 x.2.2, k0_pay245 x.2.1 x.2.2, k0_pay246, k0_pay247⟩) := by
  rw [k0_part19_eq_skeleton]
  unfold k0_part19_skel startP clearP
  dsimp only
  split
  · rename_i h
    have hf : isFirst i = 1#1 := h
    rw [if_pos hf]
    rfl
  · rename_i h
    have hf : ¬ isFirst i = 1#1 := h
    rw [if_neg hf]
    rfl

set_option maxRecDepth 65536 in
set_option maxHeartbeats 4000000 in
/-- The printed body is that program. -/
theorem body_eq :
    cc0_sb_bwd (F := F) i a2 h2 a3 h3 a4 h4 a5 h5 a6 h6 a7 h7 a8 h8 a9 h9 a10 h10 a11 h11 =
      bodyP i a2 a3 h3 a4 h4 a5 a6 a7 h7 a8 h8 a9 h9 a10 h10 a11 h11 := by
  rw [cc0_sb_bwd_eq_skeleton]
  unfold cc0_sb_bwd_skel bodyP
  rw [start_eq, bind_assoc]
  refine bind_congr fun x => ?_
  simp only [pure_bind]
  unfold nearP
  dsimp only
  split <;> rfl

end Cert.SbBwdIdeal.Hand
-- ==== Proof.SbWp.lean ====
module

public import proofs.«01_k».proof.Proof.SbBody
public import proofs.«01_k».proof.Proof.Gen.SbBwdIdeal.Points
public import proofs.«01_k».proof.Proof.Gen.SbBwdIdeal.Launch
public import Idealize.ShloMosaic.Lib.Tactic

/-!
What the loop does to memory: a pure function over the two gradients held in memory, and the proof that
the printed loop computes it.
-/

@[expose] public section

noncomputable section

namespace Cert.SbBwdIdeal.Hand

open Cert.SbBwdIdeal Cert.SbBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop is answered by the number of tiles still to visit. -/
abbrev 𝒱₁ : Variants := Variants.nat

/-! ### Loads and stores of an array held at known contents -/

open Classical in
/-- Contents `X` with the rectangle `r` overwritten by `w`. -/
def put {s : Shape} {V : Type} (X : s.Idx → V) (r : Rect s) (w : r.shape.Idx → V) : s.Idx → V :=
  fun y => if h : ∃ x, r.emb x = y then w h.choose else X y

/-- Inside the rectangle the new contents, -/
theorem put_emb {s : Shape} {V : Type} (X : s.Idx → V) (r : Rect s) (w : r.shape.Idx → V) (x : r.shape.Idx) :
    put X r w (r.emb x) = w x := by
  have h : ∃ x', r.emb x' = r.emb x := ⟨x, rfl⟩
  unfold put
  rw [dif_pos h]
  exact congrArg w (r.emb.injective h.choose_spec)

/-- outside it the old. -/
theorem put_of_not {s : Shape} {V : Type} (X : s.Idx → V) (r : Rect s) (w : r.shape.Idx → V) (y : s.Idx)
    (h : ∀ x, r.emb x ≠ y) : put X r w y = X y := by
  unfold put
  rw [dif_neg (fun ⟨x, hx⟩ => h x hx)]

variable (c : Dev nD) (bd : Option ℕ)

/-- A load of an array held at `X` reads `X`. -/
theorem own_load {s : Shape} {e : EltTy} {α : Type} (m : Memref sig .tc .vmem s e) (r : LoadRect s) {hl : m.view.LoadsAt r}
    {k : (r.shape.Idx → Elt F e) → Prog (TpuEff nD τ sig (Elt F) (Λ₀ F) .tc) α} {Q : α → sProp 𝕄}
    (X : s.Idx → Elt F e) :
    (owns (c : Thread nD τ) m fullShare X : sProp 𝕄)
      ⊢ iprop((owns (c : Thread nD τ) m fullShare X
          -∗ wp frame (wpE (defs₀ (F := F)) 𝒱₁ (c : Thread nD τ) bd) Set.univ (k (fun x => X (r.idx x))) Q)
        -∗ wp frame (wpE (defs₀ (F := F)) 𝒱₁ (c : Thread nD τ) bd) Set.univ (.op (.load m r hl) k) Q) := by
  unfold owns
  iintro ⟨%f, %hf, H⟩ Hk
  iapply (wp_load 𝒱₁ (c : Thread nD τ) bd Set.univ (m := m) (View.setOn_subset_set _ _)) $$ H
  iintro H
  rw [show m.view.readAt (Elt F) r f = fun x => X (r.idx x) from by rw [← hf]; rfl]
  iapply Hk
  iexists f
  isplitr
  · ipureintro; exact hf
  iexact H

/-- A store through a rectangle of an array held at `X` leaves it overwritten there. -/
theorem own_store {s : Shape} {e : EltTy} {α : Type} (m : Memref sig .tc .vmem s e) (r : Rect s) (w : r.shape.Idx → Elt F e)
    {hx : (m.access r).Stores Finset.univ} {hm : (Finset.univ : Finset r.shape.Idx) = Finset.univ ∨ ∀ a, r.stride a = 1}
    {k : PUnit → Prog (TpuEff nD τ sig (Elt F) (Λ₀ F) .tc) α} {Q : α → sProp 𝕄} (X : s.Idx → Elt F e) :
    (owns (c : Thread nD τ) m fullShare X : sProp 𝕄)
      ⊢ iprop((owns (c : Thread nD τ) m fullShare (put X r w)
          -∗ wp frame (wpE (defs₀ (F := F)) 𝒱₁ (c : Thread nD τ) bd) Set.univ (k ⟨⟩) Q)
        -∗ wp frame (wpE (defs₀ (F := F)) 𝒱₁ (c : Thread nD τ) bd) Set.univ (.op (.store m r w Finset.univ hx hm) k) Q) := by
  unfold owns
  iintro ⟨%f, %hf, H⟩ Hk
  iapply (wp_store 𝒱₁ (c : Thread nD τ) bd Set.univ (m := m) (r := r) (Mk := Finset.univ) (S := m.view.set)
    ((View.setOn_subset_set _ _).trans (View.set_slice_subset m.view r))) $$ H
  iintro H
  iapply Hk
  iexists ((m.access r).write (Elt F) f w Finset.univ)
  isplitr
  · ipureintro
    funext y
    by_cases h : ∃ x, r.emb x = y
    · obtain ⟨x, rfl⟩ := h
      rw [put_emb]
      exact View.read_slice_write_emb (v := m.view) r f w (Finset.mem_univ x)
    · rw [put_of_not _ _ _ _ (fun x hx => h ⟨x, hx⟩), ← hf]
      exact View.read_slice_write_of_not_mem (v := m.view) r f w Finset.univ (fun hm => by
        obtain ⟨x, -, hx⟩ := Finset.mem_map.mp hm
        exact h ⟨x, hx⟩)
  iexact H

/-! ### The loop as a function -/

/-- One block of 256 rows of an array. -/
def rowsAt {e : EltTy} (X : S8192x128.Idx → Elt F e) (off : Fin 2 → ℕ) (hb : ∀ b, off b + S256x128.size b ≤ S8192x128.size b) :
    S256x128.Idx → Elt F e :=
  fun x => X ((Rect.unit (s := S8192x128) off S256x128.size hb).toLoadRect.idx x)

/-- An array with a share added into one block of 256 rows. -/
def addAt (X : S8192x128.Idx → Elt F .f32) (off : Fin 2 → ℕ) (hb : ∀ b, off b + S256x128.size b ≤ S8192x128.size b)
    (s : FVec F S256x128 .f32) : S8192x128.Idx → Elt F .f32 :=
  put X (Rect.unit (s := S8192x128) off S256x128.size hb) (bump (rowsAt X off hb) s)

/-- Whether the loop goes on. -/
def goOn (j : BitVec 32) (al : BitVec 1) : Prop := Scalar.andi (Scalar.cmpi .sge j 0#32) al = 1#1

instance (j : BitVec 32) (al : BitVec 1) : Decidable (goOn j al) := by unfold goOn; infer_instance

variable (p : Pt F) (K V : S8192x128.Idx → Elt F .bf16)

/-- At most `n` more tiles of the loop: the carries and the two gradients in memory. -/
def whileF : ℕ → BitVec 32 → BitVec 1 → Carry F → (S8192x128.Idx → Elt F .f32) → (S8192x128.Idx → Elt F .f32) →
    Carry F × (S8192x128.Idx → Elt F .f32) × (S8192x128.Idx → Elt F .f32)
  | 0, _, _, c, x, y => (c, x, y)
  | n + 1, j, al, c, x, y =>
    if h : goOn j al ∧ k0_chk1 j then
      whileF n (Scalar.subi j 1#32)
        (c.next p (rowsAt K (k0_off3 j) (k0_off3_inb j h.2)) (rowsAt V (k0_off3 j) (k0_off3_inb j h.2))).alive
        (c.next p (rowsAt K (k0_off3 j) (k0_off3_inb j h.2)) (rowsAt V (k0_off3 j) (k0_off3_inb j h.2)))
        (addAt x (k0_off4 j) (k0_off4_inb j h.2)
          (c.kShare p (rowsAt K (k0_off3 j) (k0_off3_inb j h.2)) (rowsAt V (k0_off3 j) (k0_off3_inb j h.2))))
        (addAt y (k0_off4 j) (k0_off4_inb j h.2)
          (c.vShare p (rowsAt K (k0_off3 j) (k0_off3_inb j h.2)) (rowsAt V (k0_off3 j) (k0_off3_inb j h.2))))
    else (c, x, y)

/-- A number below zero stops the loop; -/
theorem not_goOn (j : BitVec 32) (al : BitVec 1) (h : j.toInt < 0) : ¬ goOn j al := by
  intro hg
  unfold goOn at hg
  have : Scalar.cmpi .sge j 0#32 = 0#1 := by
    simp only [Scalar.cmpi, IntOp.cmpi]
    have h' : (0#32).sle j = false := by
      simp only [BitVec.sle, decide_eq_false_iff_not, not_le]
      simpa using h
    rw [h']; rfl
  rw [this] at hg
  revert hg; simp only [Scalar.andi, IntOp.andi]
  revert al; decide

/-- a number that does not is zero or more. -/
theorem goOn_nonneg (j : BitVec 32) (al : BitVec 1) (h : goOn j al) : 0 ≤ j.toInt := by
  by_contra hn
  exact not_goOn j al (not_le.mp hn) h

/-- Tile numbers below 32 are tiles of the array. -/
theorem chk_of (n : ℕ) (hn : n < 32) : k0_chk1 (BitVec.ofNat 32 n) := by
  revert n; decide

/-- A number from 0 to 31 is one of those, -/
theorem ofNat_of (j : BitVec 32) (h0 : 0 ≤ j.toInt) (h : j.toInt < 32) : ∃ n < 32, j = BitVec.ofNat 32 n := by
  refine ⟨j.toNat, ?_, by simp⟩
  have := BitVec.toInt_eq_toNat_cond j
  split at this <;> omega

/-- and the number before it is one less. -/
theorem sub_one (j : BitVec 32) (h0 : 0 ≤ j.toInt) (h : j.toInt < 32) : (Scalar.subi j 1#32).toInt = j.toInt - 1 := by
  obtain ⟨n, hn, rfl⟩ := ofNat_of j h0 h
  revert h0 h
  revert n; decide

section Label

variable (i : grid0.Coords)
  (a3 : Memref sig .tc .vmem S8192x128 .bf16) (h3 : a3.IsWhole) (a4 : Memref sig .tc .vmem S8192x128 .bf16) (h4 : a4.IsWhole)
  (a10 : Memref sig .tc .vmem S8192x128 .f32) (h10 : a10.IsWhole) (a11 : Memref sig .tc .vmem S8192x128 .f32) (h11 : a11.IsWhole)

/-- The arrays the loop works on: keys, values, and the two gradients. -/
def held (x y : S8192x128.Idx → Elt F .f32) : sProp 𝕄 :=
  iprop(owns (c : Thread nD τ) a3 fullShare K ∗ owns (c : Thread nD τ) a4 fullShare V
    ∗ owns (c : Thread nD τ) a10 fullShare x ∗ owns (c : Thread nD τ) a11 fullShare y)

/-- The queries' gradients handed back are those of the carries `cc`. -/
def backIs (b : Back F) (cc : Carry F) : Prop :=
  b.2.2.2.2.1 = cc.c0.dq ∧ b.2.2.2.2.2.2.2.1 = cc.c1.dq ∧ b.2.2.2.2.2.2.2.2.2.2.1 = cc.c2.dq ∧ b.2.2.2.2.2.2.2.2.2.2.2.2.2 = cc.c3.dq

/-- What the loop does with at most `n` tiles left. -/
def spec (n : ℕ) (j : BitVec 32) (al : BitVec 1) (cc : Carry F) (x y : S8192x128.Idx → Elt F .f32) : sWPT 𝕄 (Back F) := do
  sWPT.consume (held c K V a3 a4 a10 a11 x y)
  let b ← sWPT.arbitrary
  sWPT.assume (backIs b (whileF p K V n j al cc x y).1)
  sWPT.produce (held c K V a3 a4 a10 a11 (whileF p K V n j al cc x y).2.1 (whileF p K V n j al cc x y).2.2)
  pure b

theorem spec_apply (n : ℕ) (j : BitVec 32) (al : BitVec 1) (cc : Carry F) (x y : S8192x128.Idx → Elt F .f32) (Q : Back F → sProp 𝕄) :
    spec c p K V a3 a4 a10 a11 n j al cc x y Q
      = iprop(held c K V a3 a4 a10 a11 x y ∗ ∀ b : Back F, ⌜backIs b (whileF p K V n j al cc x y).1⌝
          -∗ (held c K V a3 a4 a10 a11 (whileF p K V n j al cc x y).2.1 (whileF p K V n j al cc x y).2.2 -∗ Q b)) := rfl

/-- The printed loop meets it. -/
theorem spec_le : ∀ (n : ℕ) (j : BitVec 32), j.toInt < n → n ≤ 32 → ∀ (al : BitVec 1) (cc : Carry F) (x y : S8192x128.Idx → Elt F .f32)
    (Q : Back F → sProp 𝕄), spec c p K V a3 a4 a10 a11 n j al cc x y Q
      ⊢ wp frame (wpE (defs₀ (F := F)) 𝒱₁ (c : Thread nD τ) (some n)) Set.univ
          (defs₀ (F := F) .tc 1 (rec1 i p a3 h3 a4 h4 a10 h10 a11 h11 j al cc)) Q := by
  intro n
  induction n with
  | zero =>
    intro j hj hn al cc x y Q
    rw [spec_apply, while_eq]
    unfold whileP
    rw [if_neg (show ¬ Scalar.andi (Scalar.cmpi .sge j 0#32) al = 1#1 from not_goOn j al (by simpa using hj))]
    simp only [Prog.pure_eq_ret]
    iintro ⟨H, Hk⟩
    rw [wp_ret]; imodintro
    iapply Hk
    · ipureintro; exact ⟨rfl, rfl, rfl, rfl⟩
    · simp only [whileF]; iexact H
  | succ n ih =>
    intro j hj hn al cc x y Q
    rw [spec_apply, while_eq]
    unfold whileP
    by_cases hg : goOn j al
    · have h0 := goOn_nonneg j al hg
      have hck : k0_chk1 j := by
        obtain ⟨k, hk, rfl⟩ := ofNat_of j h0 (by omega)
        exact chk_of k hk
      rw [if_pos (show Scalar.andi (Scalar.cmpi .sge j 0#32) al = 1#1 from hg)]
      rw [show whileF p K V (n + 1) j al cc x y = _ from by rw [whileF, dif_pos ⟨hg, hck⟩]]
      simp only [Prog.lift, Prog.bind_op, Prog.bind_ret, Prog.pure_eq_ret]
      unfold held
      iintro ⟨⟨Hk, Hv, Hx, Hy⟩, HQ⟩
      iapply (wp_assume 𝒱₁ (c : Thread nD τ) (some (n + 1)) Set.univ hck)
      iapply (own_load c (some (n + 1)) a3 _ K) $$ Hk; iintro Hk
      iapply (own_load c (some (n + 1)) a4 _ V) $$ Hv; iintro Hv
      iapply (own_load c (some (n + 1)) a10 _ x) $$ Hx; iintro Hx
      iapply (own_load c (some (n + 1)) a10 _ x) $$ Hx; iintro Hx
      iapply (own_store c (some (n + 1)) a10 _ _ x) $$ Hx; iintro Hx
      iapply (own_load c (some (n + 1)) a11 _ y) $$ Hy; iintro Hy
      iapply (own_load c (some (n + 1)) a11 _ y) $$ Hy; iintro Hy
      iapply (own_store c (some (n + 1)) a11 _ _ y) $$ Hy; iintro Hy
      iapply (wp_call_spec 𝒱₁ (c : Thread nD τ) (some (n + 1)) Set.univ
        (spec c p K V a3 a4 a10 a11 n (Scalar.subi j 1#32)
          (cc.next p (rowsAt K (k0_off3 j) (k0_off3_inb j hck)) (rowsAt V (k0_off3 j) (k0_off3_inb j hck))).alive
          (cc.next p (rowsAt K (k0_off3 j) (k0_off3_inb j hck)) (rowsAt V (k0_off3 j) (k0_off3_inb j hck)))
          (addAt x (k0_off4 j) (k0_off4_inb j hck)
            (cc.kShare p (rowsAt K (k0_off3 j) (k0_off3_inb j hck)) (rowsAt V (k0_off3 j) (k0_off3_inb j hck))))
          (addAt y (k0_off4 j) (k0_off4_inb j hck)
            (cc.vShare p (rowsAt K (k0_off3 j) (k0_off3_inb j hck)) (rowsAt V (k0_off3 j) (k0_off3_inb j hck)))))
        n (fun u hu => by cases hu; exact Nat.lt_succ_self n)
        (ih (Scalar.subi j 1#32) (by rw [sub_one j h0 (by omega)]; omega) (by omega) _ _ _ _))
      rw [spec_apply]; unfold held
      isplitl [Hk Hv Hx Hy]
      · isplitl [Hk]; · iexact Hk
        isplitl [Hv]; · iexact Hv
        isplitl [Hx]; · iexact Hx
        iexact Hy
      iintro %b %hb H
      rw [wp_ret]; imodintro
      iapply HQ
      · ipureintro; exact hb
      · iexact H
    · rw [if_neg (show ¬ Scalar.andi (Scalar.cmpi .sge j 0#32) al = 1#1 from hg)]
      rw [show whileF p K V (n + 1) j al cc x y = (cc, x, y) from by rw [whileF, dif_neg (fun h => hg h.1)]]
      simp only [Prog.pure_eq_ret]
      iintro ⟨H, Hk⟩
      rw [wp_ret]; imodintro
      iapply Hk
      · ipureintro; exact ⟨rfl, rfl, rfl, rfl⟩
      · iexact H

end Label

end Cert.SbBwdIdeal.Hand
-- ==== Proof.SbMem.lean ====
module

public import Idealize.ShloMosaic.Lib.Tactic
public import proofs.«01_k».proof.Proof.SbWp

/-!
Loads and stores of an array held at known contents, in any program.
-/

@[expose] public section

noncomputable section

namespace Cert.Sb

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.SbBwdIdeal.Hand (put put_emb put_of_not)

variable {F : FTy → Type} {nD : ℕ} {τ : Topo} {sig : RefSig} {Λ : Labels} (defs : Defs nD τ sig (Elt F) Λ)
  (c : Dev nD) (bd : Option ℕ)

local notation "𝕄" => MT nD τ sig Unit (Elt F) ℕ (UR sig nD τ) ℕ

/-- A load of an array held at `X` reads `X`. -/
theorem own_load {s : Shape} {e : EltTy} {α : Type} (m : Memref sig .tc .vmem s e) (r : LoadRect s) {hl : m.view.LoadsAt r}
    {k : (r.shape.Idx → Elt F e) → Prog (TpuEff nD τ sig (Elt F) Λ .tc) α} {Q : α → sProp 𝕄}
    (X : s.Idx → Elt F e) :
    (owns (c : Thread nD τ) m fullShare X : sProp 𝕄)
      ⊢ iprop((owns (c : Thread nD τ) m fullShare X
          -∗ wp frame (wpE defs Variants.nat (c : Thread nD τ) bd) Set.univ (k (fun x => X (r.idx x))) Q)
        -∗ wp frame (wpE defs Variants.nat (c : Thread nD τ) bd) Set.univ (.op (.load m r hl) k) Q) := by
  unfold owns
  iintro ⟨%f, %hf, H⟩ Hk
  iapply (wp_load Variants.nat (c : Thread nD τ) bd Set.univ (m := m) (View.setOn_subset_set _ _)) $$ H
  iintro H
  rw [show m.view.readAt (Elt F) r f = fun x => X (r.idx x) from by rw [← hf]; rfl]
  iapply Hk
  iexists f
  isplitr
  · ipureintro; exact hf
  iexact H

/-- A store through a rectangle of an array held at `X` leaves it overwritten there. -/
theorem own_store {s : Shape} {e : EltTy} {α : Type} (m : Memref sig .tc .vmem s e) (r : Rect s) (w : r.shape.Idx → Elt F e)
    {hx : (m.access r).Stores Finset.univ} {hm : (Finset.univ : Finset r.shape.Idx) = Finset.univ ∨ ∀ a, r.stride a = 1}
    {k : PUnit → Prog (TpuEff nD τ sig (Elt F) Λ .tc) α} {Q : α → sProp 𝕄} (X : s.Idx → Elt F e) :
    (owns (c : Thread nD τ) m fullShare X : sProp 𝕄)
      ⊢ iprop((owns (c : Thread nD τ) m fullShare (put X r w)
          -∗ wp frame (wpE defs Variants.nat (c : Thread nD τ) bd) Set.univ (k ⟨⟩) Q)
        -∗ wp frame (wpE defs Variants.nat (c : Thread nD τ) bd) Set.univ (.op (.store m r w Finset.univ hx hm) k) Q) := by
  unfold owns
  iintro ⟨%f, %hf, H⟩ Hk
  iapply (wp_store Variants.nat (c : Thread nD τ) bd Set.univ (m := m) (r := r) (Mk := Finset.univ) (S := m.view.set)
    ((View.setOn_subset_set _ _).trans (View.set_slice_subset m.view r))) $$ H
  iintro H
  iapply Hk
  iexists ((m.access r).write (Elt F) f w Finset.univ)
  isplitr
  · ipureintro
    funext y
    by_cases h : ∃ x, r.emb x = y
    · obtain ⟨x, rfl⟩ := h
      rw [put_emb]
      exact View.read_slice_write_emb (v := m.view) r f w (Finset.mem_univ x)
    · rw [put_of_not _ _ _ _ (fun x hx => h ⟨x, hx⟩), ← hf]
      exact View.read_slice_write_of_not_mem (v := m.view) r f w Finset.univ (fun hm => by
        obtain ⟨x, -, hx⟩ := Finset.mem_map.mp hm
        exact h ⟨x, hx⟩)
  iexact H

end Cert.Sb
-- ==== Proof.SbfBody.lean ====
module

public import proofs.«01_k».proof.Proof.SbMem
public import proofs.«01_k».proof.Proof.Gen.SbFwdIdeal.Skeleton

/-!
The stick-breaking attention's forward kernel: its arithmetic, its loop over earlier tiles of keys and its
body at one grid point, as short programs.  A grid point works on 256 queries of two heads, taken as four
rows of 128 queries; the operations on a tile of keys are those the gradient's kernel repeats.
-/

@[expose] public section

noncomputable section

namespace Cert.SbFwdIdeal.Hand

open Cert.SbFwdIdeal Cert.SbFwdIdeal.Gen
open Cert.SbBwdIdeal.Hand (zOf zWide lsOf nOf accRow eOf keep qAdd blk blk2 colsL colsR top bot)
open Idealize.ShloMosaic Idealize.SL.Sem

variable {F : FTy → Type} [FloatOps F] [Named F]

/-- What a row carries from one tile of keys to the next: the running sum of log-survivals and the output
so far. -/
structure Ch (F : FTy → Type) where
  n : FVec F S128x1 .f32
  o : FVec F S128x128 .f32

/-- The carry after a tile of keys that lies wholly before the queries. -/
def offC (tri : FVec F S256x256 .bf16) (q : FVec F S128x128 .bf16) (c : Ch F) (k v : FVec F S256x128 .bf16) : Ch F where
  n := accRow c.n (nOf (zOf q (blk k)))
  o := qAdd c.o (eOf tri c.n (lsOf (zOf q (blk k))) (nOf (zOf q (blk k)))) (blk v)

/-- The running sum before any tile, -/
def run0 : FVec F S128x1 .f32 := broadcast S128x1 (FloatOps.ofBits .f32 0x00000000#32)

/-- and the output. -/
def out0 : FVec F S128x128 .f32 := broadcast S128x128 (FloatOps.ofBits .f32 0x00000000#32)

/-- The weights of the tile of keys at the queries' own positions: only earlier keys count. -/
def wD (m : IVec S128x256 1) (tri : FVec F S256x256 .bf16) (z : FVec F S128x256 .f32) : FVec F S128x256 .f32 :=
  keep m (eOf tri run0 (lsOf z) (keep m (nOf z)))

/-- The carry after that tile, where it is the only one. -/
def diagC (m : IVec S128x256 1) (tri : FVec F S256x256 .bf16) (q : FVec F S128x128 .bf16) (k v : FVec F S256x128 .bf16) : Ch F where
  n := accRow run0 (keep m (nOf (zOf q (blk k))))
  o := qAdd out0 (wD m tri (zOf q (blk k))) (blk v)

/-- The running sum after the diagonal tile, taken together with the one before it. -/
def runW (m : IVec S128x256 1) (q : FVec F S128x128 .bf16) (k : FVec F S512x128 .bf16) : FVec F S128x1 .f32 :=
  accRow run0 (keep m (nOf (colsR (zWide q (blk2 k)))))

/-- The weights of the tile before the diagonal one, taken together with it. -/
def wO (m : IVec S128x256 1) (tri : FVec F S256x256 .bf16) (q : FVec F S128x128 .bf16) (k : FVec F S512x128 .bf16) :
    FVec F S128x256 .f32 :=
  eOf tri (runW m q k) (lsOf (colsL (zWide q (blk2 k)))) (nOf (colsL (zWide q (blk2 k))))

/-- The carry after both. -/
def wideC (m : IVec S128x256 1) (tri : FVec F S256x256 .bf16) (q : FVec F S128x128 .bf16) (k v : FVec F S512x128 .bf16) : Ch F where
  n := accRow (runW m q k) (nOf (colsL (zWide q (blk2 k))))
  o := addf out0 (matmul dot_S128x512_S512x128_S128x128_1_0_0_1_n_n none
    (concatenate S128x512 1 [⟨S128x256, truncf .bf16 (wO m tri q k) bitsLt_bf16_f32⟩,
      ⟨S128x256, truncf .bf16 (wD m tri (colsR (zWide q (blk2 k)))) bitsLt_bf16_f32⟩] concatenates_S128x256_S128x256_S128x512_d1)
    (blk2 v) (constant S128x128 .f32 0x00000000#32))

/-- What stays the same over a grid point's loop: the queries of the two heads and the matrix of zeros and
ones. -/
structure Pt (F : FTy → Type) where
  q0 : FVec F S256x128 .bf16
  q1 : FVec F S256x128 .bf16
  tri : FVec F S256x256 .bf16

/-- The four rows' carries. -/
structure Carry (F : FTy → Type) where
  c0 : Ch F
  c1 : Ch F
  c2 : Ch F
  c3 : Ch F

/-- The carries after one more tile of keys. -/
def Carry.next (p : Pt F) (c : Carry F) (k v : FVec F S256x128 .bf16) : Carry F where
  c0 := offC p.tri (top p.q0) c.c0 k v
  c1 := offC p.tri (bot p.q0) c.c1 k v
  c2 := offC p.tri (top p.q1) c.c2 k v
  c3 := offC p.tri (bot p.q1) c.c3 k v

/-- The carries after the first tile of queries: only the diagonal tile. -/
def firstC (p : Pt F) (k v : FVec F S256x128 .bf16) : Carry F where
  c0 := diagC k0_pay8 p.tri (top p.q0) k v
  c1 := diagC k0_pay9 p.tri (bot p.q0) k v
  c2 := diagC k0_pay8 p.tri (top p.q1) k v
  c3 := diagC k0_pay9 p.tri (bot p.q1) k v

/-- The carries after the diagonal tile and the one before it. -/
def wideCs (p : Pt F) (k v : FVec F S512x128 .bf16) : Carry F where
  c0 := wideC k0_pay8 p.tri (top p.q0) k v
  c1 := wideC k0_pay9 p.tri (bot p.q0) k v
  c2 := wideC k0_pay8 p.tri (top p.q1) k v
  c3 := wideC k0_pay9 p.tri (bot p.q1) k v

/-- Whether any query has survival left. -/
def Carry.alive (c : Carry F) : BitVec 1 :=
  Scalar.cmpf .ogt (k0_pay18 c.c0.n c.c1.n c.c2.n c.c3.n) (Named.named κ "skip" 0xC2DC0000#32)

/-- The output tile from the carries. -/
def outOf (c : Carry F) : FVec F S256x128 .f32 := k0_pay19 c.c0.o c.c1.o c.c2.o c.c3.o

/-- A grid point's constants from its tile of queries. -/
def ptOf (x : FVec F S256x128 .bf16) : Pt F := ⟨k0_pay4 x, k0_pay5 x, k0_pay6⟩

variable (i : grid0.Coords)
  (a2 : Memref sig .tc .vmem S256x128 .bf16) (h2 : a2.IsWhole)
  (a3 : Memref sig .tc .vmem S8192x128 .bf16) (h3 : a3.IsWhole) (a4 : Memref sig .tc .vmem S8192x128 .bf16) (h4 : a4.IsWhole)
  (a5 : Memref sig .tc .vmem S256x128 .f32) (h5 : a5.IsWhole)

/-- The loop's operands at a state. -/
def rec1 (p : Pt F) (j : BitVec 32) (al : BitVec 1) (c : Carry F) : Cc0While1 F :=
  ⟨i, a3, h3, a4, h4, p.q0, p.q1, p.tri, j, al, c.c0.n, c.c0.o, c.c1.n, c.c1.o, c.c2.n, c.c2.o, c.c3.n, c.c3.o⟩

/-- What the loop hands back: the tile's number, whether it was left alive, and the four carries. -/
abbrev Back (F : FTy → Type) : Type :=
  BitVec 32 × BitVec 1 × FVec F S128x1 .f32 × FVec F S128x128 .f32 × FVec F S128x1 .f32 × FVec F S128x128 .f32 × FVec F S128x1 .f32 × FVec F S128x128 .f32 × FVec F S128x1 .f32 × FVec F S128x128 .f32

/-- One entry of the loop: while a tile is left and some query has survival left, take it in and enter
again one tile earlier. -/
def whileP (p : Pt F) (j : BitVec 32) (al : BitVec 1) (c : Carry F) : Prog (TpuEff nD τ sig (Elt F) (Λ₀ F) .tc) (Back F) :=
  if Scalar.andi (Scalar.cmpi .sge j 0#32) al = 1#1 then do
    have hw : k0_chk1 j := (← Prog.lift (TpuEff.assume (k0_chk1 j) (k0_chk1.dec j))).down
    let k : Vec F S256x128 .bf16 ← Prog.lift (.load a3 (Rect.unit (s := S8192x128) (k0_off2 j) S256x128.size (k0_off2_inb j hw)).toLoadRect (View.loadsAt_vmem h_S256x128))
    let v : Vec F S256x128 .bf16 ← Prog.lift (.load a4 (Rect.unit (s := S8192x128) (k0_off2 j) S256x128.size (k0_off2_inb j hw)).toLoadRect (View.loadsAt_vmem h_S256x128))
    Prog.lift (.call (1 : (Λ₀ F).Label) (rec1 i a3 h3 a4 h4 p (Scalar.subi j 1#32) (c.next p k v).alive (c.next p k v)))
  else pure (j, al, c.c0.n, c.c0.o, c.c1.n, c.c1.o, c.c2.n, c.c2.o, c.c3.n, c.c3.o)

set_option maxRecDepth 65536 in
set_option maxHeartbeats 4000000 in
/-- The printed loop is that program. -/
theorem while_eq (p : Pt F) (j : BitVec 32) (al : BitVec 1) (c : Carry F) :
    (defs₀ (F := F)) .tc 1 (rec1 i a3 h3 a4 h4 p j al c) = whileP i a3 h3 a4 h4 p j al c := rfl

/-- The tiles at and next to the queries' own positions. -/
def nearP (p : Pt F) : Prog (TpuEff nD τ sig (Elt F) (Λ₀ F) .tc) (Carry F) :=
  if hd : k0_cond1 i = 1#1 then do
    let k : Vec F S256x128 .bf16 ← Prog.lift (.load a3 (Rect.unit (s := S8192x128) ![0, 0] S256x128.size inb_S8192x128_S256x128_0_0).toLoadRect (View.loadsAt_vmem h_S256x128))
    let v : Vec F S256x128 .bf16 ← Prog.lift (.load a4 (Rect.unit (s := S8192x128) ![0, 0] S256x128.size inb_S8192x128_S256x128_0_0).toLoadRect (View.loadsAt_vmem h_S256x128))
    pure (firstC p k v)
  else do
    let k : Vec F S512x128 .bf16 ← Prog.lift (.load a3 (Rect.unit (s := S8192x128) (k0_off1 i) S512x128.size (k0_off1_inb i hd)).toLoadRect (View.loadsAt_vmem h_S512x128))
    let v : Vec F S512x128 .bf16 ← Prog.lift (.load a4 (Rect.unit (s := S8192x128) (k0_off1 i) S512x128.size (k0_off1_inb i hd)).toLoadRect (View.loadsAt_vmem h_S512x128))
    pure (wideCs p k v)

/-- One grid point. -/
def bodyP : Prog (TpuEff nD τ sig (Elt F) (Λ₀ F) .tc) PUnit := do
  let x : Vec F S256x128 .bf16 ← Prog.lift (.load a2 (Rect.unit (s := S256x128) ![0, 0] S256x128.size inb_S256x128_S256x128_0_0).toLoadRect (View.loadsAt_vmem h_S256x128))
  let c ← nearP i a3 a4 (ptOf x)
  let b : Back F ← Prog.lift (.call (1 : (Λ₀ F).Label) (rec1 i a3 h3 a4 h4 (ptOf x) (Scalar.subi (BitVec.ofNat 32 (i 1).val) 2#32) c.alive c))
  let _ : Vec F S256x128 .f32 ← Prog.lift (.load a5 (Rect.unit (s := S256x128) ![0, 0] S256x128.size inb_S256x128_S256x128_0_0).toLoadRect (View.loadsAt_vmem h_S256x128))
  Prog.lift (.store a5 (Rect.unit (s := S256x128) ![0, 0] S256x128.size inb_S256x128_S256x128_0_0) (k0_pay19 b.2.2.2.1 b.2.2.2.2.2.1 b.2.2.2.2.2.2.2.1 b.2.2.2.2.2.2.2.2.2) Finset.univ (View.stores_vmem_bits_univ h_S256x128 rfl) (.inl rfl))
  pure ⟨⟩

set_option maxRecDepth 65536 in
set_option maxHeartbeats 4000000 in
/-- The printed body is that program. -/
theorem body_eq : cc0_sb_fwd (F := F) i a2 h2 a3 h3 a4 h4 a5 h5 = bodyP i a2 a3 h3 a4 h4 a5 := by
  rw [cc0_sb_fwd_eq_skeleton]
  unfold cc0_sb_fwd_skel bodyP
  refine bind_congr fun x => ?_
  unfold nearP
  dsimp only
  split <;> rfl

end Cert.SbFwdIdeal.Hand
-- ==== Proof.SbPoint.lean ====
module

public import proofs.«01_k».proof.Proof.SbWp

/-!
What one grid point does to memory: a pure function of its tiles and of the two gradients carried in
memory, and the proof that the printed body computes it.
-/

@[expose] public section

noncomputable section

namespace Cert.SbBwdIdeal.Hand

open Cert.SbBwdIdeal Cert.SbBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ### The point as a function -/

/-- The rectangle that is all of an array of 8192 rows, -/
abbrev allR : Rect S8192x128 := Rect.unit (s := S8192x128) ![0, 0] S8192x128.size inb_S8192x128_S8192x128_0_0

/-- and of a tile of 256 rows. -/
abbrev tileR : Rect S256x128 := Rect.unit (s := S256x128) ![0, 0] S256x128.size inb_S256x128_S256x128_0_0

/-- An array of 8192 rows read whole, -/
def allAt {e : EltTy} (X : S8192x128.Idx → Elt F e) : S8192x128.Idx → Elt F e := fun x => X (allR.toLoadRect.idx x)

/-- and a tile of 256 rows. -/
def tileAt {e : EltTy} (X : S256x128.Idx → Elt F e) : S256x128.Idx → Elt F e := fun x => X (tileR.toLoadRect.idx x)

/-- Two adjacent blocks of 256 rows. -/
def rows2At {e : EltTy} (X : S8192x128.Idx → Elt F e) (off : Fin 2 → ℕ) (hb : ∀ b, off b + S512x128.size b ≤ S8192x128.size b) :
    S512x128.Idx → Elt F e :=
  fun x => X ((Rect.unit (s := S8192x128) off S512x128.size hb).toLoadRect.idx x)

variable (i : grid0.Coords)

/-- The two gradients after the clearing. -/
def clearF (s : (S8192x128.Idx → Elt F .f32) × (S8192x128.Idx → Elt F .f32)) :
    (S8192x128.Idx → Elt F .f32) × (S8192x128.Idx → Elt F .f32) :=
  if isFirst i = 1#1 then (put s.1 allR (k0_pay231 (F := F)), put s.2 allR (k0_pay232 (F := F))) else s

/-- The carries and the two gradients after the near tiles. -/
def nearF (p : Pt F) (K V : S8192x128.Idx → Elt F .bf16) (s : (S8192x128.Idx → Elt F .f32) × (S8192x128.Idx → Elt F .f32)) :
    Carry F × (S8192x128.Idx → Elt F .f32) × (S8192x128.Idx → Elt F .f32) :=
  if hd : k0_cond2 i = 1#1 then
    (firstC p (rowsAt K ![0, 0] inb_S8192x128_S256x128_0_0) (rowsAt V ![0, 0] inb_S8192x128_S256x128_0_0),
      addAt s.1 ![0, 0] inb_S8192x128_S256x128_0_0
        (firstK p (rowsAt K ![0, 0] inb_S8192x128_S256x128_0_0) (rowsAt V ![0, 0] inb_S8192x128_S256x128_0_0)),
      addAt s.2 ![0, 0] inb_S8192x128_S256x128_0_0
        (firstV p (rowsAt K ![0, 0] inb_S8192x128_S256x128_0_0) (rowsAt V ![0, 0] inb_S8192x128_S256x128_0_0)))
  else
    (wideCs p (rows2At K (k0_off1 i) (k0_off1_inb i hd)) (rows2At V (k0_off1 i) (k0_off1_inb i hd)),
      addAt (addAt s.1 (k0_off2 i 0#32) (k0_off2_inb i hd 0)
          (wideOK p (rows2At K (k0_off1 i) (k0_off1_inb i hd)) (rows2At V (k0_off1 i) (k0_off1_inb i hd))))
        (k0_off2 i 1#32) (k0_off2_inb i hd 1)
        (wideDK p (rows2At K (k0_off1 i) (k0_off1_inb i hd)) (rows2At V (k0_off1 i) (k0_off1_inb i hd))),
      addAt (addAt s.2 (k0_off2 i 0#32) (k0_off2_inb i hd 0)
          (wideOV p (rows2At K (k0_off1 i) (k0_off1_inb i hd)) (rows2At V (k0_off1 i) (k0_off1_inb i hd))))
        (k0_off2 i 1#32) (k0_off2_inb i hd 1)
        (wideDV p (rows2At K (k0_off1 i) (k0_off1_inb i hd)) (rows2At V (k0_off1 i) (k0_off1_inb i hd))))

/-- The carries and the two gradients after the loop. -/
def loopF (p : Pt F) (K V : S8192x128.Idx → Elt F .bf16) (s : Carry F × (S8192x128.Idx → Elt F .f32) × (S8192x128.Idx → Elt F .f32)) :
    Carry F × (S8192x128.Idx → Elt F .f32) × (S8192x128.Idx → Elt F .f32) :=
  whileF p K V 32 (Scalar.subi (BitVec.ofNat 32 (i 1).val) 2#32) s.1.alive s.1 s.2.1 s.2.2

/-- The queries' gradient from the carries. -/
def dqOf (c : Carry F) : FVec F S256x128 .bf16 := k0_pay12 k0_pay234 c.c0.dq c.c1.dq c.c2.dq c.c3.dq

/-- A grid point's constants from its tiles as held. -/
def ptAt (q d : S256x128.Idx → Elt F .bf16) (o : S256x128.Idx → Elt F .f32) : Pt F := ptOf (tileAt q) (tileAt d) (tileAt o)

/-- The carries and the two gradients after a grid point. -/
def pointF (q d : S256x128.Idx → Elt F .bf16) (o : S256x128.Idx → Elt F .f32) (K V : S8192x128.Idx → Elt F .bf16)
    (s : (S8192x128.Idx → Elt F .f32) × (S8192x128.Idx → Elt F .f32)) :
    Carry F × (S8192x128.Idx → Elt F .f32) × (S8192x128.Idx → Elt F .f32) :=
  loopF i (ptAt q d o) K V (nearF i (ptAt q d o) K V (clearF i s))

/-- The loop's first tile number is below 32. -/
theorem first_lt (i : grid0.Coords) : (Scalar.subi (BitVec.ofNat 32 (i 1).val) 2#32).toInt < (32 : ℕ) := by
  have h : ∀ n : Fin 32, (Scalar.subi (BitVec.ofNat 32 n.val) 2#32).toInt < (32 : ℕ) := by decide
  exact h (i 1)

/-! ### The printed body computes it -/

variable (c : Dev nD) (bd : Option ℕ)
  (a2 : Memref sig .tc .vmem S256x128 .bf16) (h2 : a2.IsWhole)
  (a3 : Memref sig .tc .vmem S8192x128 .bf16) (h3 : a3.IsWhole) (a4 : Memref sig .tc .vmem S8192x128 .bf16) (h4 : a4.IsWhole)
  (a5 : Memref sig .tc .vmem S256x128 .f32) (h5 : a5.IsWhole) (a6 : Memref sig .tc .vmem S256x128 .bf16) (h6 : a6.IsWhole)
  (a7 : Memref sig .tc .vmem S256x128 .bf16) (h7 : a7.IsWhole)
  (a8 : Memref sig .tc .vmem S8192x128 .bf16) (h8 : a8.IsWhole) (a9 : Memref sig .tc .vmem S8192x128 .bf16) (h9 : a9.IsWhole)
  (a10 : Memref sig .tc .vmem S8192x128 .f32) (h10 : a10.IsWhole) (a11 : Memref sig .tc .vmem S8192x128 .f32) (h11 : a11.IsWhole)

/-- The clearing. -/
theorem clear_wp {α : Type} (s : (S8192x128.Idx → Elt F .f32) × (S8192x128.Idx → Elt F .f32))
    (k : PUnit → Prog (TpuEff nD τ sig (Elt F) (Λ₀ F) .tc) α) (Q : α → sProp 𝕄) :
    iprop(owns (c : Thread nD τ) a10 fullShare s.1 ∗ owns (c : Thread nD τ) a11 fullShare s.2)
      ⊢ iprop((owns (c : Thread nD τ) a10 fullShare (clearF i s).1 -∗ owns (c : Thread nD τ) a11 fullShare (clearF i s).2
          -∗ wp frame (wpE (defs₀ (F := F)) 𝒱₁ (c : Thread nD τ) bd) Set.univ (k ⟨⟩) Q)
        -∗ wp frame (wpE (defs₀ (F := F)) 𝒱₁ (c : Thread nD τ) bd) Set.univ (clearP i a10 a11 >>= k) Q) := by
  unfold clearP clearF
  split
  · simp only [Prog.lift, Prog.bind_op, Prog.bind_ret, Prog.pure_eq_ret]
    iintro ⟨Hx, Hy⟩ Hk
    iapply (own_load c bd a10 _ s.1) $$ Hx; iintro Hx
    iapply (own_store c bd a10 _ _ s.1) $$ Hx; iintro Hx
    iapply (own_load c bd a11 _ s.2) $$ Hy; iintro Hy
    iapply (own_store c bd a11 _ _ s.2) $$ Hy; iintro Hy
    iapply Hk $$ Hx Hy
  · simp only [Prog.bind_ret, Prog.pure_eq_ret]
    iintro ⟨Hx, Hy⟩ Hk
    iapply Hk $$ Hx Hy

/-- The near tiles. -/
theorem near_wp {α : Type} (p : Pt F) (K V : S8192x128.Idx → Elt F .bf16)
    (s : (S8192x128.Idx → Elt F .f32) × (S8192x128.Idx → Elt F .f32))
    (k : Carry F → Prog (TpuEff nD τ sig (Elt F) (Λ₀ F) .tc) α) (Q : α → sProp 𝕄) :
    held c K V a3 a4 a10 a11 s.1 s.2
      ⊢ iprop((held c K V a3 a4 a10 a11 (nearF i p K V s).2.1 (nearF i p K V s).2.2
          -∗ wp frame (wpE (defs₀ (F := F)) 𝒱₁ (c : Thread nD τ) bd) Set.univ (k (nearF i p K V s).1) Q)
        -∗ wp frame (wpE (defs₀ (F := F)) 𝒱₁ (c : Thread nD τ) bd) Set.univ (nearP i a3 a4 a10 a11 p >>= k) Q) := by
  unfold nearP nearF held
  split
  · simp only [addP, Prog.lift, Prog.bind_op, Prog.bind_ret, Prog.pure_eq_ret]
    iintro ⟨Hk, Hv, Hx, Hy⟩ HQ
    iapply (own_load c bd a3 _ K) $$ Hk; iintro Hk
    iapply (own_load c bd a4 _ V) $$ Hv; iintro Hv
    iapply (own_load c bd a10 _ s.1) $$ Hx; iintro Hx
    iapply (own_load c bd a10 _ s.1) $$ Hx; iintro Hx
    iapply (own_store c bd a10 _ _ s.1) $$ Hx; iintro Hx
    iapply (own_load c bd a11 _ s.2) $$ Hy; iintro Hy
    iapply (own_load c bd a11 _ s.2) $$ Hy; iintro Hy
    iapply (own_store c bd a11 _ _ s.2) $$ Hy; iintro Hy
    iapply HQ
    isplitl [Hk]; · iexact Hk
    isplitl [Hv]; · iexact Hv
    isplitl [Hx]; · iexact Hx
    iexact Hy
  · simp only [addP, Prog.lift, Prog.bind_op, Prog.bind_ret, Prog.pure_eq_ret]
    iintro ⟨Hk, Hv, Hx, Hy⟩ HQ
    iapply (own_load c bd a3 _ K) $$ Hk; iintro Hk
    iapply (own_load c bd a4 _ V) $$ Hv; iintro Hv
    iapply (own_load c bd a10 _ _) $$ Hx; iintro Hx
    iapply (own_load c bd a10 _ _) $$ Hx; iintro Hx
    iapply (own_store c bd a10 _ _ _) $$ Hx; iintro Hx
    iapply (own_load c bd a11 _ _) $$ Hy; iintro Hy
    iapply (own_load c bd a11 _ _) $$ Hy; iintro Hy
    iapply (own_store c bd a11 _ _ _) $$ Hy; iintro Hy
    iapply (own_load c bd a10 _ _) $$ Hx; iintro Hx
    iapply (own_load c bd a10 _ _) $$ Hx; iintro Hx
    iapply (own_store c bd a10 _ _ _) $$ Hx; iintro Hx
    iapply (own_load c bd a11 _ _) $$ Hy; iintro Hy
    iapply (own_load c bd a11 _ _) $$ Hy; iintro Hy
    iapply (own_store c bd a11 _ _ _) $$ Hy; iintro Hy
    iapply HQ
    isplitl [Hk]; · iexact Hk
    isplitl [Hv]; · iexact Hv
    isplitl [Hx]; · iexact Hx
    iexact Hy

/-- What the flush leaves in the keys' gradient, -/
def flushK (x : S8192x128.Idx → Elt F .f32) (w : S8192x128.Idx → Elt F .bf16) : S8192x128.Idx → Elt F .bf16 :=
  if k0_cond3 i = 1#1 then put w allR (k0_pay13 (allAt x)) else w

/-- and in the values'. -/
def flushV (x : S8192x128.Idx → Elt F .f32) (w : S8192x128.Idx → Elt F .bf16) : S8192x128.Idx → Elt F .bf16 :=
  if k0_cond3 i = 1#1 then put w allR (k0_pay14 (allAt x)) else w

/-- The flush. -/
theorem flush_wp (x y : S8192x128.Idx → Elt F .f32) (u w : S8192x128.Idx → Elt F .bf16) (Q : PUnit → sProp 𝕄) :
    iprop(owns (c : Thread nD τ) a8 fullShare u ∗ owns (c : Thread nD τ) a9 fullShare w
        ∗ owns (c : Thread nD τ) a10 fullShare x ∗ owns (c : Thread nD τ) a11 fullShare y)
      ⊢ iprop(((owns (c : Thread nD τ) a8 fullShare (flushK i x u) ∗ owns (c : Thread nD τ) a9 fullShare (flushV i y w)
          ∗ owns (c : Thread nD τ) a10 fullShare x ∗ owns (c : Thread nD τ) a11 fullShare y) -∗ Q ⟨⟩)
        -∗ wp frame (wpE (defs₀ (F := F)) 𝒱₁ (c : Thread nD τ) bd) Set.univ (flushP i a8 h8 a9 h9 a10 a11) Q) := by
  unfold flushP flushK flushV
  by_cases h : k0_cond3 i = 1#1
  · simp only [dif_pos h, if_pos h, Prog.lift, Prog.bind_op, Prog.bind_ret, Prog.pure_eq_ret]
    iintro ⟨Hu, Hw, Hx, Hy⟩ HQ
    iapply (own_load c bd a10 _ x) $$ Hx; iintro Hx
    iapply (own_load c bd a8 _ u) $$ Hu; iintro Hu
    iapply (own_store c bd a8 _ _ u) $$ Hu; iintro Hu
    iapply (own_load c bd a11 _ y) $$ Hy; iintro Hy
    iapply (own_load c bd a9 _ w) $$ Hw; iintro Hw
    iapply (own_store c bd a9 _ _ w) $$ Hw; iintro Hw
    rw [wp_ret]; imodintro
    iapply HQ
    isplitl [Hu]; · iexact Hu
    isplitl [Hw]; · iexact Hw
    isplitl [Hx]; · iexact Hx
    iexact Hy
  · simp only [dif_neg h, if_neg h, Prog.pure_eq_ret]
    iintro ⟨Hu, Hw, Hx, Hy⟩ HQ
    rw [wp_ret]; imodintro
    iapply HQ
    isplitl [Hu]; · iexact Hu
    isplitl [Hw]; · iexact Hw
    isplitl [Hx]; · iexact Hx
    iexact Hy

/-- A grid point's body: the tiles and the keys and values as they were, the queries' gradient stored, the two
gradients in memory advanced, and at the last point of a pair of heads rounded and stored. -/
theorem body_wp (q d w7 : S256x128.Idx → Elt F .bf16) (o : S256x128.Idx → Elt F .f32) (K V u w : S8192x128.Idx → Elt F .bf16)
    (s : (S8192x128.Idx → Elt F .f32) × (S8192x128.Idx → Elt F .f32)) (Q : PUnit → sProp 𝕄) :
    iprop(owns (c : Thread nD τ) a2 fullShare q ∗ owns (c : Thread nD τ) a3 fullShare K ∗ owns (c : Thread nD τ) a4 fullShare V
        ∗ owns (c : Thread nD τ) a5 fullShare o ∗ owns (c : Thread nD τ) a6 fullShare d ∗ owns (c : Thread nD τ) a7 fullShare w7
        ∗ owns (c : Thread nD τ) a8 fullShare u ∗ owns (c : Thread nD τ) a9 fullShare w
        ∗ owns (c : Thread nD τ) a10 fullShare s.1 ∗ owns (c : Thread nD τ) a11 fullShare s.2)
      ⊢ iprop(((owns (c : Thread nD τ) a2 fullShare q ∗ owns (c : Thread nD τ) a3 fullShare K ∗ owns (c : Thread nD τ) a4 fullShare V
          ∗ owns (c : Thread nD τ) a5 fullShare o ∗ owns (c : Thread nD τ) a6 fullShare d
          ∗ owns (c : Thread nD τ) a7 fullShare (put w7 tileR (dqOf (pointF i q d o K V s).1))
          ∗ owns (c : Thread nD τ) a8 fullShare (flushK i (pointF i q d o K V s).2.1 u)
          ∗ owns (c : Thread nD τ) a9 fullShare (flushV i (pointF i q d o K V s).2.2 w)
          ∗ owns (c : Thread nD τ) a10 fullShare (pointF i q d o K V s).2.1
          ∗ owns (c : Thread nD τ) a11 fullShare (pointF i q d o K V s).2.2) -∗ Q ⟨⟩)
        -∗ wp frame (wpE (defs₀ (F := F)) 𝒱₁ (c : Thread nD τ) none) Set.univ
          (cc0_sb_bwd (F := F) i a2 h2 a3 h3 a4 h4 a5 h5 a6 h6 a7 h7 a8 h8 a9 h9 a10 h10 a11 h11) Q) := by
  rw [body_eq]
  unfold bodyP startP
  simp only [bind_assoc]
  iintro ⟨H2, H3, H4, H5, H6, H7, H8, H9, Hx, Hy⟩ HQ
  iapply (clear_wp i c none a10 a11 s) $$ [Hx Hy]
  · isplitl [Hx]; · iexact Hx
    iexact Hy
  iintro Hx Hy
  simp only [Prog.lift, Prog.bind_op, Prog.bind_ret, Prog.pure_eq_ret]
  iapply (own_load c none a2 _ q) $$ H2; iintro H2
  iapply (own_load c none a6 _ d) $$ H6; iintro H6
  iapply (own_load c none a5 _ o) $$ H5; iintro H5
  iapply (near_wp i c none a3 a4 a10 a11 (ptAt q d o) K V (clearF i s)) $$ [H3 H4 Hx Hy]
  · unfold held
    isplitl [H3]; · iexact H3
    isplitl [H4]; · iexact H4
    isplitl [Hx]; · iexact Hx
    iexact Hy
  iintro H
  unfold restP
  simp only [Prog.lift, Prog.bind_op, Prog.bind_ret, Prog.pure_eq_ret]
  iapply (wp_call_spec 𝒱₁ (c : Thread nD τ) none Set.univ
    (spec c (ptAt q d o) K V a3 a4 a10 a11 32 (Scalar.subi (BitVec.ofNat 32 (i 1).val) 2#32)
      (nearF i (ptAt q d o) K V (clearF i s)).1.alive (nearF i (ptAt q d o) K V (clearF i s)).1
      (nearF i (ptAt q d o) K V (clearF i s)).2.1 (nearF i (ptAt q d o) K V (clearF i s)).2.2)
    32 (fun u hu => nomatch hu)
    (spec_le c (ptAt q d o) K V i a3 h3 a4 h4 a10 h10 a11 h11 32 _ (first_lt i) le_rfl _ _ _ _))
  rw [spec_apply]
  isplitl [H]; · iexact H
  iintro %b %hb H
  unfold held
  icases H with ⟨H3, H4, Hx, Hy⟩
  iapply (own_load c none a7 _ w7) $$ H7; iintro H7
  iapply (own_store c none a7 _ _ w7) $$ H7; iintro H7
  iapply (flush_wp i c none a8 h8 a9 h9 a10 a11 (pointF i q d o K V s).2.1 (pointF i q d o K V s).2.2 u w) $$ [H8 H9 Hx Hy]
  · isplitl [H8]; · iexact H8
    isplitl [H9]; · iexact H9
    isplitl [Hx]; · iexact Hx
    iexact Hy
  iintro ⟨H8, H9, Hx, Hy⟩
  iapply HQ
  isplitl [H2]; · iexact H2
  isplitl [H3]; · iexact H3
  isplitl [H4]; · iexact H4
  isplitl [H5]; · iexact H5
  isplitl [H6]; · iexact H6
  isplitl [H7]
  · obtain ⟨e0, e1, e2, e3⟩ := hb
    rw [e0, e1, e2, e3]
    iexact H7
  isplitl [H8]; · iexact H8
  isplitl [H9]; · iexact H9
  isplitl [Hx]; · iexact Hx
  iexact Hy

end Cert.SbBwdIdeal.Hand
-- ==== Proof.SbRun.lean ====
module

public import proofs.«01_k».proof.Proof.SbPoint
public import Idealize.ShloMosaic.Lib.Pipeline.FrameBody
public import Idealize.ShloMosaic.Lib.Ring
public import Idealize.ShloMosaic.Lib.StableHlo.Run

/-!
The run of the stick-breaking attention's gradient kernel: point after point, the two gradients carried in
memory, and what each output array holds at the end.
-/

@[expose] public section

set_option maxRecDepth 16384

noncomputable section

namespace Cert.SbBwdIdeal.Hand

open Cert.SbBwdIdeal Cert.SbBwdIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ### Before the grid -/

/-- The host's operations before the kernel. -/
abbrev pre : List (List (HloOp τ sig (Elt F))) :=
  [hostOps0, hostOps0_1, hostOps0_2, hostOps0_3, hostOps0_4, hostOps0_5, hostOps0_6, hostOps0_7, hostOps0_8, hostOps0_9]

/-- A buffer's contents when the grid starts. -/
def V (c : Dev nD) (b : Ref sig .tc) : Buf (Elt F) ((c : Thread nD τ).loc b) :=
  StableHlo.after (pre (F := F)).flatten (fun b => m (c, b)) b

set_option maxHeartbeats 1600000 in
/-- The program is the host's operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main pre
    ⟨hostOps0_sub, hostOps0_1_sub, hostOps0_2_sub, hostOps0_3_sub, hostOps0_4_sub, hostOps0_5_sub, hostOps0_6_sub,
      hostOps0_7_sub, hostOps0_8_sub, hostOps0_9_sub⟩
    ⟨StableHlo.forall_fresh_of_map rfl, StableHlo.forall_fresh_of_map rfl, StableHlo.forall_fresh_of_map rfl,
      StableHlo.forall_fresh_of_map rfl, StableHlo.forall_fresh_of_map rfl, StableHlo.forall_fresh_of_map rfl,
      StableHlo.forall_fresh_of_map rfl, StableHlo.forall_fresh_of_map rfl, StableHlo.forall_fresh_of_map rfl,
      StableHlo.forall_fresh_of_map rfl⟩
    fun c => (main_chain c).trans rfl

/-! ### The points -/

/-- A window's block at a point, as the grid finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- What a point does to the two gradients in memory. -/
def stepAt (c : Dev nD) (t : Fin (cfg0 (F := F)).N) (s : (S8192x128.Idx → Elt F .f32) × (S8192x128.Idx → Elt F .f32)) :
    Carry F × (S8192x128.Idx → Elt F .f32) × (S8192x128.Idx → Elt F .f32) :=
  pointF (grid0.coords t) (iblk m c 0 t) (iblk m c 4 t) (iblk m c 3 t) (iblk m c 1 t) (iblk m c 2 t) s

/-- The two gradients in memory before point `n`. -/
def stAt (c : Dev nD) : ℕ → (S8192x128.Idx → Elt F .f32) × (S8192x128.Idx → Elt F .f32)
  | 0 => (k0_pay231 (F := F), k0_pay232 (F := F))
  | n + 1 => if h : n < (cfg0 (F := F)).N then (stepAt m c ⟨n, h⟩ (stAt c n)).2 else stAt c n

theorem stAt_succ (c : Dev nD) (t : Fin (cfg0 (F := F)).N) : stAt m c (t.val + 1) = (stepAt m c t (stAt m c t.val)).2 := by
  rw [stAt, dif_pos t.isLt]

/-- All of an array is the array. -/
theorem allR_idx (y : S8192x128.Idx) : allR.toLoadRect.idx y = y := by
  funext a
  apply Fin.ext
  show (![0, 0] : Fin 2 → ℕ) a + 1 * (y a : ℕ) = y a
  fin_cases a <;> simp

/-- All of a tile is the tile. -/
theorem tileR_idx (y : S256x128.Idx) : tileR.toLoadRect.idx y = y := by
  funext a
  apply Fin.ext
  show (![0, 0] : Fin 2 → ℕ) a + 1 * (y a : ℕ) = y a
  fin_cases a <;> simp

theorem allAt_eq {e : EltTy} (X : S8192x128.Idx → Elt F e) : allAt X = X := funext fun y => congrArg X (allR_idx y)

theorem tileAt_eq {e : EltTy} (X : S256x128.Idx → Elt F e) : tileAt X = X := funext fun y => congrArg X (tileR_idx y)

/-- Overwriting all of an array leaves what was written. -/
theorem put_all {T : Type} (X : S8192x128.Idx → T) (w : allR.shape.Idx → T) : put X allR w = w := by
  funext y
  have h := put_emb X allR w y
  rwa [show allR.emb y = y from allR_idx y] at h

/-- Overwriting all of a tile leaves what was written. -/
theorem put_tile {T : Type} (X : S256x128.Idx → T) (w : tileR.shape.Idx → T) : put X tileR w = w := by
  funext y
  have h := put_emb X tileR w y
  rwa [show tileR.emb y = y from tileR_idx y] at h

theorem flushK_last (i : grid0.Coords) (h : k0_cond3 i = 1#1) (x : S8192x128.Idx → Elt F .f32) (w : S8192x128.Idx → Elt F .bf16) :
    flushK i x w = k0_pay13 x := by unfold flushK; rw [if_pos h, put_all, allAt_eq]

theorem flushV_last (i : grid0.Coords) (h : k0_cond3 i = 1#1) (x : S8192x128.Idx → Elt F .f32) (w : S8192x128.Idx → Elt F .bf16) :
    flushV i x w = k0_pay14 x := by unfold flushV; rw [if_pos h, put_all, allAt_eq]

theorem flushK_else (i : grid0.Coords) (h : ¬ k0_cond3 i = 1#1) (x : S8192x128.Idx → Elt F .f32) (w : S8192x128.Idx → Elt F .bf16) :
    flushK i x w = w := if_neg h

theorem flushV_else (i : grid0.Coords) (h : ¬ k0_cond3 i = 1#1) (x : S8192x128.Idx → Elt F .f32) (w : S8192x128.Idx → Elt F .bf16) :
    flushV i x w = w := if_neg h

/-- At the first point what was in memory before does not matter. -/
theorem stepAt_first (c : Dev nD) (t : Fin (cfg0 (F := F)).N) (h : isFirst (grid0.coords t) = 1#1)
    (s s' : (S8192x128.Idx → Elt F .f32) × (S8192x128.Idx → Elt F .f32)) : stepAt m c t s = stepAt m c t s' := by
  unfold stepAt pointF clearF
  rw [if_pos h, if_pos h, put_all, put_all, put_all, put_all]

theorem first_zero : ∀ t : Fin grid0.N, t.val % 32 = 0 → isFirst (grid0.coords t) = 1#1 := by decide +kernel

theorem last_iff : ∀ t : Fin grid0.N, k0_cond3 (grid0.coords t) = 1#1 ↔ t.val % 32 = 31 := by decide +kernel

/-- The first scratch array: the keys' gradient. -/
abbrev scK : Memref sig .tc .vmem S8192x128 .f32 := Memref.whole cc0_scratch0
/-- The second scratch array: the values' gradient. -/
abbrev scV : Memref sig .tc .vmem S8192x128 .f32 := Memref.whole cc0_scratch1

theorem PhiA_eq (c : Dev nD) :
    (Pipeline.ΦA spec0 c : sProp 𝕄)
      = iprop(iprop((∃ d, owns (c : Thread nD τ) scK fullShare d) ∗ (∃ d, owns (c : Thread nD τ) scV fullShare d)) ∗ (∃ r, prngReg c r)) := by
  unfold Pipeline.ΦA; rw [scopedRest0_eq]; simp only [scK, scV, owns_whole]; try rfl

/-- What the body keeps between points: before the first, anything; then the two gradients so far. -/
def Phi (c : Dev nD) (n : ℕ) : sProp 𝕄 :=
  if n = 0 then Pipeline.ΦA spec0 c
  else iprop(iprop(owns (c : Thread nD τ) scK fullShare (stAt m c n).1 ∗ owns (c : Thread nD τ) scV fullShare (stAt m c n).2) ∗ (∃ r, prngReg c r))

/-- The proof data of the grid. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => dqOf (stepAt m c t (stAt m c t.val)).1
    | ⟨6, _⟩ => k0_pay13 (stAt m c (t.val + 1)).1
    | ⟨7, _⟩ => k0_pay14 (stAt m c (t.val + 1)).2
    | ⟨_ + 8, h⟩ => absurd h (Nat.not_lt.2 (Nat.le_add_left _ _))
  Φ t := Phi m c t.val
  q w := Pipeline.shareOf spec0 w
  owed _ := 0

theorem A_eq (c : Dev nD) (w : Fin (cfg0 (F := F)).W) : (dats m 0 c).A w = V m c (Pipeline.arrRef spec0 w) := by dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = iblk m c 3 t := rfl
theorem after_4 (c : Dev nD) (t : Fin (cfg0 (F := F)).N) : (dats m 0 c).after 4 t = iblk m c 4 t := rfl
theorem after_5 (c : Dev nD) (t : Fin (cfg0 (F := F)).N) : (dats m 0 c).after 5 t = dqOf (stepAt m c t (stAt m c t.val)).1 := rfl
theorem after_6 (c : Dev nD) (t : Fin (cfg0 (F := F)).N) : (dats m 0 c).after 6 t = k0_pay13 (stAt m c (t.val + 1)).1 := rfl
theorem after_7 (c : Dev nD) (t : Fin (cfg0 (F := F)).N) : (dats m 0 c).after 7 t = k0_pay14 (stAt m c (t.val + 1)).2 := rfl

theorem before_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)
theorem before_3 (c : Dev nD) (t : Fin (cfg0 (F := F)).N) (d) : (dats m 0 c).before 3 t d = iblk m c 3 t :=
  ((dats m 0 c).before_in_eq_fetched 3 rfl (fun _ => rfl) (fun _ _ _ => rfl)
    (fun t => by rw [after_3]; unfold Dat.blockOf iblk; rw [A_eq]; try rfl) t d).trans
    (by unfold Dat.fetched Dat.blockOf iblk; rw [A_eq]; try rfl)
theorem before_4 (c : Dev nD) (t : Fin (cfg0 (F := F)).N) (d) : (dats m 0 c).before 4 t d = iblk m c 4 t :=
  ((dats m 0 c).before_in_eq_fetched 4 rfl (fun _ => rfl) (fun _ _ _ => rfl)
    (fun t => by rw [after_4]; unfold Dat.blockOf iblk; rw [A_eq]; try rfl) t d).trans
    (by unfold Dat.fetched Dat.blockOf iblk; rw [A_eq]; try rfl)

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (dats m 0 c).leavesExact 6 t ∗ (dats m 0 c).leavesExact 7 t)

/-- At the last point of a pair of heads the keys' gradient is left stored, -/
theorem leaves6_last (c : Dev nD) (t : Fin (cfg0 (F := F)).N) (h : k0_cond3 (grid0.coords t) = 1#1) :
    (dats m 0 c).leavesExact 6 t = owns (c : Thread nD τ) (st0_6 t) fullShare ((dats m 0 c).after 6 t) := by
  unfold Dat.leavesExact
  rw [show (cfg0 (F := F)).idle 6 ((cfg0 (F := F)).grid.coords t) = false from by show (!(k0_cond3 (grid0.coords t) == 1#1)) = false; rw [h]; rfl]

theorem leaves7_last (c : Dev nD) (t : Fin (cfg0 (F := F)).N) (h : k0_cond3 (grid0.coords t) = 1#1) :
    (dats m 0 c).leavesExact 7 t = owns (c : Thread nD τ) (st0_7 t) fullShare ((dats m 0 c).after 7 t) := by
  unfold Dat.leavesExact
  rw [show (cfg0 (F := F)).idle 7 ((cfg0 (F := F)).grid.coords t) = false from by show (!(k0_cond3 (grid0.coords t) == 1#1)) = false; rw [h]; rfl]

/-- and at any other as it was found. -/
theorem leaves6_idle (c : Dev nD) (t : Fin (cfg0 (F := F)).N) (h : ¬ k0_cond3 (grid0.coords t) = 1#1) :
    (dats m 0 c).leavesExact 6 t = iprop(∃ d, owns (c : Thread nD τ) (st0_6 t) fullShare ((dats m 0 c).before 6 t d)) :=
  Dat.leavesExact_idle _ _ _ (by show (!(k0_cond3 (grid0.coords t) == 1#1)) = true; simpa using h)
    (by rw [Bool.eq_false_iff]; exact fun hf => h ((last_iff t).mpr ((flush0_6 t).mp hf)))

theorem leaves7_idle (c : Dev nD) (t : Fin (cfg0 (F := F)).N) (h : ¬ k0_cond3 (grid0.coords t) = 1#1) :
    (dats m 0 c).leavesExact 7 t = iprop(∃ d, owns (c : Thread nD τ) (st0_7 t) fullShare ((dats m 0 c).before 7 t d)) :=
  Dat.leavesExact_idle _ _ _ (by show (!(k0_cond3 (grid0.coords t) == 1#1)) = true; simpa using h)
    (by rw [Bool.eq_false_iff]; exact fun hf => h ((last_iff t).mpr ((flush0_7 t).mp hf)))

theorem Phi_castSucc (c : Dev nD) (t : Fin (cfg0 (F := F)).N) : (dats m 0 c).Φ t.castSucc = Phi m c t.val := by
  dsimp only [dats]; rw [Fin.val_castSucc]

/-- A point's invariant opened: the two gradients at contents from which the point makes the next ones. -/
theorem Phi_open (c : Dev nD) (t : Fin (cfg0 (F := F)).N) :
    (dats m 0 c).Φ t.castSucc ⊢ iprop((∃ s, ⌜stepAt m c t s = stepAt m c t (stAt m c t.val)⌝
      ∗ owns (c : Thread nD τ) scK fullShare s.1 ∗ owns (c : Thread nD τ) scV fullShare s.2) ∗ (∃ r, prngReg c r)) := by
  rw [Phi_castSucc]
  by_cases h : t.val = 0
  · rw [show Phi m c t.val = Pipeline.ΦA spec0 c from if_pos h, PhiA_eq]
    iintro ⟨⟨⟨%x, Hx⟩, ⟨%y, Hy⟩⟩, Hg⟩
    isplitl [Hx Hy]
    · iexists (x, y)
      isplitr
      · ipureintro
        exact stepAt_first m c t (first_zero t (by rw [h])) _ _
      isplitl [Hx]; · iexact Hx
      iexact Hy
    iexact Hg
  · rw [show Phi m c t.val = iprop(iprop(owns (c : Thread nD τ) scK fullShare (stAt m c t.val).1
      ∗ owns (c : Thread nD τ) scV fullShare (stAt m c t.val).2) ∗ (∃ r, prngReg c r)) from if_neg h]
    iintro ⟨⟨Hx, Hy⟩, Hg⟩
    isplitl [Hx Hy]
    · iexists (stAt m c t.val)
      isplitr
      · ipureintro; rfl
      isplitl [Hx]; · iexact Hx
      iexact Hy
    iexact Hg

set_option maxHeartbeats 1600000 in
/-- The body at any point. -/
theorem sound_body (c : Dev nD) (t : Fin (cfg0 (F := F)).N) :
    bodyPre m c t ⊢ wp frame (wpE (defs₀ (F := F)) 𝒱₁ (c : Thread nD τ) none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl,
    after_0, after_1, after_2, after_3, after_4, after_5]
  rw [show (dats m 0 c).Φ t.succ = iprop(iprop(owns (c : Thread nD τ) scK fullShare (stAt m c (t.val + 1)).1
      ∗ owns (c : Thread nD τ) scV fullShare (stAt m c (t.val + 1)).2) ∗ (∃ r, prngReg c r)) from rfl, stAt_succ]
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩⟩
  ihave HP := (Phi_open m c t) $$ HP
  icases HP with ⟨⟨%s, %hs, Hx, Hy⟩, Hg⟩
  iapply (body_wp (grid0.coords t) c _ _ _ _ _ _ _ _ _ _ _ _ _ _ _ _ scK _ scV _
    (iblk m c 0 t) (iblk m c 4 t) ((dats m 0 c).before 5 t d5) (iblk m c 3 t) (iblk m c 1 t) (iblk m c 2 t)
    ((dats m 0 c).before 6 t d6) ((dats m 0 c).before 7 t d7) s) $$ [H0 H1 H2 H3 H4 H5 H6 H7 Hx Hy]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [Hx]; · iexact Hx
    iexact Hy
  rw [show pointF (grid0.coords t) (iblk m c 0 t) (iblk m c 4 t) (iblk m c 3 t) (iblk m c 1 t) (iblk m c 2 t) s
    = stepAt m c t (stAt m c t.val) from hs, put_tile (T := Elt F .bf16) ((dats m 0 c).before 5 t d5)]
  iintro ⟨H0, H1, H2, H3, H4, H5, H6, H7, Hx, Hy⟩
  isplitl [Hx Hy Hg]
  · isplitl [Hx Hy]
    · isplitl [Hx]; · iexact Hx
      iexact Hy
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  by_cases h : k0_cond3 (grid0.coords t) = 1#1
  · rw [leaves6_last m c t h, leaves7_last m c t h, after_6, after_7, stAt_succ]
    rw [flushK_last _ h _ ((dats m 0 c).before 6 t d6), flushV_last _ h _ ((dats m 0 c).before 7 t d7)]
    isplitl [H6]; · iexact H6
    iexact H7
  · rw [leaves6_idle m c t h, leaves7_idle m c t h]
    rw [flushK_else _ h _ ((dats m 0 c).before 6 t d6), flushV_else _ h _ ((dats m 0 c).before 7 t d7)]
    isplitl [H6]; · iexists _; iexact H6
    iexists _; iexact H7

/-- The body table's row at a point is the body. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₁ () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = Pipeline.ΦA spec0 c from rfl]

theorem hout (c : Dev nD) : (dats m 0 c).Φ (Fin.last (cfg0 (F := F)).N) ⊢ Pipeline.ΦA spec0 c := by
  show Phi m c (Fin.last (cfg0 (F := F)).N).val ⊢ _
  unfold Phi
  rw [if_neg (by rw [Fin.val_last]; have : (cfg0 (F := F)).N = 128 := N_0; omega), PhiA_eq]
  iintro ⟨⟨HS0, HS1⟩, Hg⟩
  isplitl [HS0 HS1]
  · isplitl [HS0]
    · iexists _; iexact HS0
    iexists _; iexact HS1
  iexact Hg

set_option backward.isDefEq.respectTransparency.types false in
/-- The whole run. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₁ m ρ main
    (hbody := fun c => (body_obligation m c).loose) (hq := fun _ _ _ => rfl)
    (howed := fun _ _ => rfl) (V := V m) (hmain := hmain m 𝒱₁) (hA := A_eq m) (hin := hin m) (hout := hout m)

end Cert.SbBwdIdeal.Hand
-- ==== Proof.SbfRun.lean ====
module

public import proofs.«01_k».proof.Proof.SbfBody
public import proofs.«01_k».proof.Proof.SbRun
public import proofs.«01_k».proof.Proof.Gen.SbFwdIdeal.Points
public import proofs.«01_k».proof.Proof.Gen.SbFwdIdeal.Launch
public import Idealize.ShloMosaic.Lib.Pipeline.FrameBody
public import Idealize.ShloMosaic.Lib.Ring
public import Idealize.ShloMosaic.Lib.StableHlo.Run

/-!
The run of the stick-breaking attention's forward kernel: what a grid point computes as a pure function of
its tiles, the proof that the printed body computes it, and the whole run.
-/

@[expose] public section

set_option maxRecDepth 16384

noncomputable section

namespace Cert.SbFwdIdeal.Hand

open Cert.SbFwdIdeal Cert.SbFwdIdeal.Gen
open Cert.Sb (own_load own_store)
open Cert.SbBwdIdeal.Hand (put put_tile tileR tileAt rowsAt rows2At goOn not_goOn goOn_nonneg ofNat_of sub_one)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The loop is answered by the number of tiles still to visit. -/
abbrev 𝒱₁ : Variants := Variants.nat

/-! ### A point as a function -/

section Loop

variable (p : Pt F) (K V : S8192x128.Idx → Elt F .bf16)

/-- At most `n` more tiles of the loop. -/
def whileF : ℕ → BitVec 32 → BitVec 1 → Carry F → Carry F
  | 0, _, _, c => c
  | n + 1, j, al, c =>
    if h : goOn j al ∧ k0_chk1 j then
      whileF n (Scalar.subi j 1#32)
        (c.next p (rowsAt K (k0_off2 j) (k0_off2_inb j h.2)) (rowsAt V (k0_off2 j) (k0_off2_inb j h.2))).alive
        (c.next p (rowsAt K (k0_off2 j) (k0_off2_inb j h.2)) (rowsAt V (k0_off2 j) (k0_off2_inb j h.2)))
    else c

variable (i : grid0.Coords)

/-- The carries after the near tiles. -/
def nearF : Carry F :=
  if hd : k0_cond1 i = 1#1 then
    firstC p (rowsAt K ![0, 0] inb_S8192x128_S256x128_0_0) (rowsAt V ![0, 0] inb_S8192x128_S256x128_0_0)
  else
    wideCs p (rows2At K (k0_off1 i) (k0_off1_inb i hd)) (rows2At V (k0_off1 i) (k0_off1_inb i hd))

/-- The carries after a grid point. -/
def pointF : Carry F :=
  whileF p K V 32 (Scalar.subi (BitVec.ofNat 32 (i 1).val) 2#32) (nearF p K V i).alive (nearF p K V i)

end Loop

/-- Tile numbers below 32 are tiles of the array. -/
theorem chk_of (n : ℕ) (hn : n < 32) : k0_chk1 (BitVec.ofNat 32 n) := by
  revert n; decide

/-- The loop's first tile number is below 32. -/
theorem first_lt (i : grid0.Coords) : (Scalar.subi (BitVec.ofNat 32 (i 1).val) 2#32).toInt < (32 : ℕ) := by
  have h : ∀ n : Fin 32, (Scalar.subi (BitVec.ofNat 32 n.val) 2#32).toInt < (32 : ℕ) := by decide
  exact h (i 1)

/-! ### The printed loop and body compute it -/

section Label

variable (c : Dev nD) (p : Pt F) (K V : S8192x128.Idx → Elt F .bf16) (i : grid0.Coords)
  (a2 : Memref sig .tc .vmem S256x128 .bf16) (h2 : a2.IsWhole)
  (a3 : Memref sig .tc .vmem S8192x128 .bf16) (h3 : a3.IsWhole) (a4 : Memref sig .tc .vmem S8192x128 .bf16) (h4 : a4.IsWhole)
  (a5 : Memref sig .tc .vmem S256x128 .f32) (h5 : a5.IsWhole)

/-- The arrays the loop reads: keys and values. -/
def held : sProp 𝕄 := iprop(owns (c : Thread nD τ) a3 fullShare K ∗ owns (c : Thread nD τ) a4 fullShare V)

/-- The outputs handed back are those of the carries `cc`. -/
def backIs (b : Back F) (cc : Carry F) : Prop :=
  b.2.2.2.1 = cc.c0.o ∧ b.2.2.2.2.2.1 = cc.c1.o ∧ b.2.2.2.2.2.2.2.1 = cc.c2.o ∧ b.2.2.2.2.2.2.2.2.2 = cc.c3.o

/-- What the loop does with at most `n` tiles left. -/
def spec (n : ℕ) (j : BitVec 32) (al : BitVec 1) (cc : Carry F) : sWPT 𝕄 (Back F) := do
  sWPT.consume (held c K V a3 a4)
  let b ← sWPT.arbitrary
  sWPT.assume (backIs b (whileF p K V n j al cc))
  sWPT.produce (held c K V a3 a4)
  pure b

theorem spec_apply (n : ℕ) (j : BitVec 32) (al : BitVec 1) (cc : Carry F) (Q : Back F → sProp 𝕄) :
    spec c p K V a3 a4 n j al cc Q
      = iprop(held c K V a3 a4 ∗ ∀ b : Back F, ⌜backIs b (whileF p K V n j al cc)⌝ -∗ (held c K V a3 a4 -∗ Q b)) := rfl

/-- The printed loop meets it. -/
theorem spec_le : ∀ (n : ℕ) (j : BitVec 32), j.toInt < n → n ≤ 32 → ∀ (al : BitVec 1) (cc : Carry F)
    (Q : Back F → sProp 𝕄), spec c p K V a3 a4 n j al cc Q
      ⊢ wp frame (wpE (defs₀ (F := F)) 𝒱₁ (c : Thread nD τ) (some n)) Set.univ
          (defs₀ (F := F) .tc 1 (rec1 i a3 h3 a4 h4 p j al cc)) Q := by
  intro n
  induction n with
  | zero =>
    intro j hj hn al cc Q
    rw [spec_apply, while_eq]
    unfold whileP
    rw [if_neg (show ¬ Scalar.andi (Scalar.cmpi .sge j 0#32) al = 1#1 from not_goOn j al (by simpa using hj))]
    simp only [Prog.pure_eq_ret]
    iintro ⟨H, Hk⟩
    rw [wp_ret]; imodintro
    iapply Hk
    · ipureintro; exact ⟨rfl, rfl, rfl, rfl⟩
    · iexact H
  | succ n ih =>
    intro j hj hn al cc Q
    rw [spec_apply, while_eq]
    unfold whileP
    by_cases hg : goOn j al
    · have h0 := goOn_nonneg j al hg
      have hck : k0_chk1 j := by
        obtain ⟨k, hk, rfl⟩ := ofNat_of j h0 (by omega)
        exact chk_of k hk
      rw [if_pos (show Scalar.andi (Scalar.cmpi .sge j 0#32) al = 1#1 from hg)]
      rw [show whileF p K V (n + 1) j al cc = _ from by rw [whileF, dif_pos ⟨hg, hck⟩]]
      simp only [Prog.lift, Prog.bind_op, Prog.bind_ret, Prog.pure_eq_ret]
      unfold held
      iintro ⟨⟨Hk, Hv⟩, HQ⟩
      iapply (wp_assume 𝒱₁ (c : Thread nD τ) (some (n + 1)) Set.univ hck)
      iapply (own_load defs₀ c (some (n + 1)) a3 _ K) $$ Hk; iintro Hk
      iapply (own_load defs₀ c (some (n + 1)) a4 _ V) $$ Hv; iintro Hv
      iapply (wp_call_spec 𝒱₁ (c : Thread nD τ) (some (n + 1)) Set.univ
        (spec c p K V a3 a4 n (Scalar.subi j 1#32)
          (cc.next p (rowsAt K (k0_off2 j) (k0_off2_inb j hck)) (rowsAt V (k0_off2 j) (k0_off2_inb j hck))).alive
          (cc.next p (rowsAt K (k0_off2 j) (k0_off2_inb j hck)) (rowsAt V (k0_off2 j) (k0_off2_inb j hck))))
        n (fun u hu => by cases hu; exact Nat.lt_succ_self n)
        (ih (Scalar.subi j 1#32) (by rw [sub_one j h0 (by omega)]; omega) (by omega) _ _))
      rw [spec_apply]; unfold held
      isplitl [Hk Hv]
      · isplitl [Hk]; · iexact Hk
        iexact Hv
      iintro %b %hb H
      rw [wp_ret]; imodintro
      iapply HQ
      · ipureintro; exact hb
      · iexact H
    · rw [if_neg (show ¬ Scalar.andi (Scalar.cmpi .sge j 0#32) al = 1#1 from hg)]
      rw [show whileF p K V (n + 1) j al cc = cc from by rw [whileF, dif_neg (fun h => hg h.1)]]
      simp only [Prog.pure_eq_ret]
      iintro ⟨H, Hk⟩
      rw [wp_ret]; imodintro
      iapply Hk
      · ipureintro; exact ⟨rfl, rfl, rfl, rfl⟩
      · iexact H

/-- The near tiles. -/
theorem near_wp {α : Type} (bd : Option ℕ) (k : Carry F → Prog (TpuEff nD τ sig (Elt F) (Λ₀ F) .tc) α) (Q : α → sProp 𝕄) :
    held c K V a3 a4
      ⊢ iprop((held c K V a3 a4
          -∗ wp frame (wpE (defs₀ (F := F)) 𝒱₁ (c : Thread nD τ) bd) Set.univ (k (nearF p K V i)) Q)
        -∗ wp frame (wpE (defs₀ (F := F)) 𝒱₁ (c : Thread nD τ) bd) Set.univ (nearP i a3 a4 p >>= k) Q) := by
  unfold nearP nearF held
  split
  all_goals
    simp only [Prog.lift, Prog.bind_op, Prog.bind_ret, Prog.pure_eq_ret]
    iintro ⟨Hk, Hv⟩ HQ
    iapply (own_load defs₀ c bd a3 _ K) $$ Hk; iintro Hk
    iapply (own_load defs₀ c bd a4 _ V) $$ Hv; iintro Hv
    iapply HQ
    isplitl [Hk]; · iexact Hk
    iexact Hv

/-- A grid point's body: the tile of queries, the keys and the values as they were, the output stored. -/
theorem body_wp (q : S256x128.Idx → Elt F .bf16) (w : S256x128.Idx → Elt F .f32) (Q : PUnit → sProp 𝕄) :
    iprop(owns (c : Thread nD τ) a2 fullShare q ∗ owns (c : Thread nD τ) a3 fullShare K ∗ owns (c : Thread nD τ) a4 fullShare V
        ∗ owns (c : Thread nD τ) a5 fullShare w)
      ⊢ iprop(((owns (c : Thread nD τ) a2 fullShare q ∗ owns (c : Thread nD τ) a3 fullShare K ∗ owns (c : Thread nD τ) a4 fullShare V
          ∗ owns (c : Thread nD τ) a5 fullShare (put w tileR (outOf (pointF (ptOf (tileAt q)) K V i)))) -∗ Q ⟨⟩)
        -∗ wp frame (wpE (defs₀ (F := F)) 𝒱₁ (c : Thread nD τ) none) Set.univ
          (cc0_sb_fwd (F := F) i a2 h2 a3 h3 a4 h4 a5 h5) Q) := by
  rw [body_eq]
  unfold bodyP
  iintro ⟨H2, H3, H4, H5⟩ HQ
  simp only [Prog.lift, Prog.bind_op, Prog.bind_ret, Prog.pure_eq_ret]
  iapply (own_load defs₀ c none a2 _ q) $$ H2; iintro H2
  iapply (near_wp c (ptOf (tileAt q)) K V i a3 a4 none) $$ [H3 H4]
  · unfold held
    isplitl [H3]; · iexact H3
    iexact H4
  iintro H
  iapply (wp_call_spec 𝒱₁ (c : Thread nD τ) none Set.univ
    (spec c (ptOf (tileAt q)) K V a3 a4 32 (Scalar.subi (BitVec.ofNat 32 (i 1).val) 2#32)
      (nearF (ptOf (tileAt q)) K V i).alive (nearF (ptOf (tileAt q)) K V i))
    32 (fun u hu => nomatch hu)
    (spec_le c (ptOf (tileAt q)) K V i a3 h3 a4 h4 32 _ (first_lt i) le_rfl _ _))
  rw [spec_apply]
  isplitl [H]; · iexact H
  iintro %b %hb H
  unfold held
  icases H with ⟨H3, H4⟩
  iapply (own_load defs₀ c none a5 _ w) $$ H5; iintro H5
  iapply (own_store defs₀ c none a5 _ _ w) $$ H5; iintro H5
  rw [wp_ret]; imodintro
  iapply HQ
  isplitl [H2]; · iexact H2
  isplitl [H3]; · iexact H3
  isplitl [H4]; · iexact H4
  obtain ⟨e0, e1, e2, e3⟩ := hb
  rw [e0, e1, e2, e3]
  iexact H5

end Label

/-! ### The run -/

variable (m : (ℓ : Loc nD τ sig) → Buf (Elt F) ℓ) (ρ : Dev nD → PrngReg)

/-- A buffer's contents when the grid starts. -/
def V (c : Dev nD) (b : Ref sig .tc) : Buf (Elt F) ((c : Thread nD τ).loc b) :=
  StableHlo.after [hostOps0 (F := F)].flatten (fun b => m (c, b)) b

/-- The program is the host's operations, then the grid. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0] hostOps0_sub (StableHlo.forall_fresh_of_map rfl)
    fun c => (main_chain c).trans rfl

/-- A window's block at a point, as the grid finds it. -/
def iblk (c : Dev nD) (w : Fin (cfg0 (F := F)).W) (t : Fin (cfg0 (F := F)).N) : (((cfg0 (F := F)).win w).xblock ((cfg0 (F := F)).grid.coords t)).Idx → Elt F ((cfg0 (F := F)).win w).elt :=
  (((cfg0 (F := F)).win w).blk t).view.read (Elt F) (V m c (Pipeline.arrRef spec0 w))

/-- A point's output. -/
def outAt (c : Dev nD) (t : Fin (cfg0 (F := F)).N) : S256x128.Idx → Elt F .f32 :=
  outOf (pointF (ptOf (tileAt (iblk m c 0 t))) (iblk m c 1 t) (iblk m c 2 t) (grid0.coords t))

/-- The proof data of the grid. -/
def dats (_ : Fin 1) (c : Dev nD) : Dat τ (Elt F) Unit ℕ (UR sig nD τ) ℕ (cfg0 (F := F)) c where
  A w := V m c (Pipeline.arrRef spec0 w)
  after w t := match w with
    | ⟨0, _⟩ => iblk m c 0 t
    | ⟨1, _⟩ => iblk m c 1 t
    | ⟨2, _⟩ => iblk m c 2 t
    | ⟨3, _⟩ => outAt m c t
    | ⟨_ + 4, h⟩ => absurd h (Nat.not_lt.2 (Nat.le_add_left _ _))
  Φ _ := Pipeline.ΦA spec0 c
  q w := Pipeline.shareOf spec0 w
  owed _ := 0

theorem A_eq (c : Dev nD) (w : Fin (cfg0 (F := F)).W) : (dats m 0 c).A w = V m c (Pipeline.arrRef spec0 w) := by dsimp only [dats]

theorem after_0 (c : Dev nD) (t : Fin (cfg0 (F := F)).N) : (dats m 0 c).after 0 t = iblk m c 0 t := rfl
theorem after_1 (c : Dev nD) (t : Fin (cfg0 (F := F)).N) : (dats m 0 c).after 1 t = iblk m c 1 t := rfl
theorem after_2 (c : Dev nD) (t : Fin (cfg0 (F := F)).N) : (dats m 0 c).after 2 t = iblk m c 2 t := rfl
theorem after_3 (c : Dev nD) (t : Fin (cfg0 (F := F)).N) : (dats m 0 c).after 3 t = outAt m c t := rfl

theorem before_0 (c : Dev nD) (t : Fin (cfg0 (F := F)).N) (d) : (dats m 0 c).before 0 t d = iblk m c 0 t :=
  ((dats m 0 c).before_in_eq_fetched 0 rfl (fun _ => rfl) (fun _ _ _ => rfl)
    (fun t => by rw [after_0]; unfold Dat.blockOf iblk; rw [A_eq]; try rfl) t d).trans
    (by unfold Dat.fetched Dat.blockOf iblk; rw [A_eq]; try rfl)
theorem before_1 (c : Dev nD) (t : Fin (cfg0 (F := F)).N) (d) : (dats m 0 c).before 1 t d = iblk m c 1 t :=
  ((dats m 0 c).before_in_eq_fetched 1 rfl (fun _ => rfl) (fun _ _ _ => rfl)
    (fun t => by rw [after_1]; unfold Dat.blockOf iblk; rw [A_eq]; try rfl) t d).trans
    (by unfold Dat.fetched Dat.blockOf iblk; rw [A_eq]; try rfl)
theorem before_2 (c : Dev nD) (t : Fin (cfg0 (F := F)).N) (d) : (dats m 0 c).before 2 t d = iblk m c 2 t :=
  ((dats m 0 c).before_in_eq_fetched 2 rfl (fun _ => rfl) (fun _ _ _ => rfl)
    (fun t => by rw [after_2]; unfold Dat.blockOf iblk; rw [A_eq]; try rfl) t d).trans
    (by unfold Dat.fetched Dat.blockOf iblk; rw [A_eq]; try rfl)

/-- What the body is called with at a point, -/
def bodyPre (c : Dev nD) (t : Fin (cfg0 (F := F)).N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin (cfg0 (F := F)).N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

set_option maxHeartbeats 1600000 in
/-- The body at any point. -/
theorem sound_body (c : Dev nD) (t : Fin (cfg0 (F := F)).N) :
    bodyPre m c t ⊢ wp frame (wpE (defs₀ (F := F)) 𝒱₁ (c : Thread nD τ) none) Set.univ (bodyAt0 t) (fun _ => bodyPost m c t) := by
  unfold bodyPre bodyPost bodyAt0
  simp only [before_0, before_1, before_2]
  rw [show (dats m 0 c).owesAt () t.succ = (dats m 0 c).owesAt () t.castSucc from rfl,
    show (dats m 0 c).Φ t.succ = (dats m 0 c).Φ t.castSucc from rfl, after_0, after_1, after_2, after_3]
  iintro ⟨HP, Ho, ⟨%d0, H0⟩, ⟨%d1, H1⟩, ⟨%d2, H2⟩, ⟨%d3, H3⟩⟩
  iapply (body_wp c (iblk m c 1 t) (iblk m c 2 t) (grid0.coords t) _ _ _ _ _ _ _ _
    (iblk m c 0 t) ((dats m 0 c).before 3 t d3)) $$ [H0 H1 H2 H3]
  · isplitl [H0]; · iexact H0
    isplitl [H1]; · iexact H1
    isplitl [H2]; · iexact H2
    iexact H3
  rw [put_tile (T := Elt F .f32) ((dats m 0 c).before 3 t d3)]
  iintro ⟨H0, H1, H2, H3⟩
  isplitl [HP]; · iexact HP
  isplitl [Ho]; · iexact Ho
  isplitl [H0]; · iexact H0
  isplitl [H1]; · iexact H1
  isplitl [H2]; · iexact H2
  iexact H3

/-- The body table's row at a point is the body. -/
theorem defs₀_row (t : Fin (cfg0 (F := F)).N) : defs₀ (F := F) .tc (cfg0 (F := F)).body ((cfg0 (F := F)).bodyArgs t ((cfg0 (F := F)).slots t)) = bodyAt0 t := by
  unfold defs₀; rw [Defs.onTc_tc]

theorem body_obligation (c : Dev nD) : BodyObligation (dats (F := F) m 0 c) (defs₀ (F := F)) 𝒱₁ () Set.univ := fun t => by
  rw [bigSep_W0, bigSep_W0, defs₀_row]
  exact triple_restated (sound_body m c t) rfl .rfl fun _ => .rfl

set_option backward.isDefEq.respectTransparency.types false in
/-- The whole run. -/
theorem run_main : θ_run defs (onTc (τ := τ) (main (F := F))) (s₀ m ρ)
    (fun r => Pipeline.FramePost cfgs (dats m) 0 (V m) r ∧ r.2.sem = fun _ => 0) :=
  Pipeline.θ_run_frame_track_shared (Q' := _) cfgs (dats m) (0 : Fin 1) launch₀0 defs₀ 𝒱₁ m ρ main
    (hbody := fun c => (body_obligation m c).loose) (hq := fun _ _ _ => rfl)
    (howed := fun _ _ => rfl) (V := V m) (hmain := hmain m 𝒱₁) (hA := A_eq m)
    (hin := fun _ => .rfl) (hout := fun _ => .rfl)

/-- The buffers that the host's operations write, in order. -/
abbrev preW : List (Ref sig .tc) := [main_cst, main_v0, main_v1, main_v2, main_v3, main_v4]

theorem pre_writes : [hostOps0 (F := F)].flatten.Forall fun op => op.writes ⊆ (preW.map (Proc.devRef (τ := τ) .tc)).toFinset :=
  StableHlo.forall_writes_sub_of_map rfl

/-- A buffer that neither the host nor the grid writes is as launched at the end. -/
theorem kept (c : Dev nD) (r : PUnit × MemSt nD τ sig (Elt F)) (h : Pipeline.FramePost (cfgs (F := F)) (dats m) 0 (V m) r)
    (b : Ref sig .tc) (hs : b.isScoped = false) (ha : ∀ w : Fin 4, (spec0 w).arr.view.ref ≠ b) (hw : b ∉ preW) :
    r.2.mem ((c : Thread nD τ).loc b) = m ((c : Thread nD τ).loc b) :=
  ((h c).2 b (Pipeline.mem_restRefs_of b hs ha)).trans
    (StableHlo.after_of_writes_sub _ _ pre_writes hw)

/-- The run with the arguments as launched. -/
theorem run_kept : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2))
      ∧ r.2.sem = fun _ => 0) :=
  (θ_run defs _ _).mono (fun r h => ⟨fun c => ⟨kept m c r h.1 main_arg0 (by decide) (by decide) (by decide),
    kept m c r h.1 main_arg1 (by decide) (by decide) (by decide),
    kept m c r h.1 main_arg2 (by decide) (by decide) (by decide)⟩, h.2⟩) (run_main m ρ)

end Cert.SbFwdIdeal.Hand
-- ==== Proof.Read.lean ====
/-
  Arrays read at natural-number coordinates, and the choices a comparison of two small numbers makes.
  The gradients are stated through these readings, so that shifted rows need no bounds.
-/
module

public import Idealize.ShloMosaic.Lib.Pointwise
public import Idealize.ShloMosaic.Lib.WordCmp

@[expose] public section

noncomputable section

namespace Cert.Grad

open Idealize.ShloMosaic

/-- Element `(r, c)` of a rank-2 array, zero outside its bounds. -/
def rd {R C : ℕ} (A : (⟨2, ![R, C]⟩ : Shape).Idx → EReal) (r c : ℕ) : EReal :=
  if h : r < R ∧ c < C then A (ix2 ⟨r, h.1⟩ ⟨c, h.2⟩) else 0

/-- An element at an index is the reading at its coordinates. -/
theorem rd_ix2 {R C : ℕ} (A : (⟨2, ![R, C]⟩ : Shape).Idx → EReal) (r : Fin R) (c : Fin C) : A (ix2 r c) = rd A r.val c.val := by
  simp [rd]

/-- A reading within the bounds is the element there. -/
theorem rd_of_lt {R C : ℕ} (A : (⟨2, ![R, C]⟩ : Shape).Idx → EReal) {r c : ℕ} (hr : r < R) (hc : c < C) :
    rd A r c = A (ix2 ⟨r, hr⟩ ⟨c, hc⟩) := by
  simp [rd, hr, hc]

/-- A reading below the last row is zero. -/
theorem rd_of_ge {R C : ℕ} (A : (⟨2, ![R, C]⟩ : Shape).Idx → EReal) {r c : ℕ} (hr : R ≤ r) : rd A r c = 0 := by
  simp [rd, Nat.not_lt.2 hr]

theorem sel_of {p : Prop} [Decidable p] {α : Type} (x y : α) : Scalar.select (BitVec.ofBool (decide p)) x y = if p then x else y := by
  by_cases h : p <;> simp [h, Scalar.select]

/-- A choice by `a < b` on words holding small numbers. -/
theorem sel_slt {α : Type} {a b : ℕ} (ha : a < 2 ^ 31) (hb : b < 2 ^ 31) (x y : α) :
    Scalar.select (IntOp.cmpi .slt (BitVec.ofNat 32 a) (BitVec.ofNat 32 b)) x y = if a < b then x else y := by
  rw [WordCmp.cmpi_slt_ofNat ha hb, sel_of]

/-- A choice by `a ≥ b` on words holding small numbers. -/
theorem sel_sge {α : Type} {a b : ℕ} (ha : a < 2 ^ 31) (hb : b < 2 ^ 31) (x y : α) :
    Scalar.select (IntOp.cmpi .sge (BitVec.ofNat 32 a) (BitVec.ofNat 32 b)) x y = if b ≤ a then x else y := by
  rw [WordCmp.cmpi_sge_ofNat ha hb, sel_of]

/-- A choice by `a > b` on words holding small numbers. -/
theorem sel_sgt {α : Type} {a b : ℕ} (ha : a < 2 ^ 31) (hb : b < 2 ^ 31) (x y : α) :
    Scalar.select (IntOp.cmpi .sgt (BitVec.ofNat 32 a) (BitVec.ofNat 32 b)) x y = if b < a then x else y := by
  rw [WordCmp.cmpi_sgt_ofNat ha hb, sel_of]

/-- The same for the scalar comparisons. -/
theorem ssel_slt {α : Type} {a b : ℕ} (ha : a < 2 ^ 31) (hb : b < 2 ^ 31) (x y : α) :
    Scalar.select (Scalar.cmpi .slt (BitVec.ofNat 32 a) (BitVec.ofNat 32 b)) x y = if a < b then x else y := sel_slt ha hb x y

theorem ssel_sgt {α : Type} {a b : ℕ} (ha : a < 2 ^ 31) (hb : b < 2 ^ 31) (x y : α) :
    Scalar.select (Scalar.cmpi .sgt (BitVec.ofNat 32 a) (BitVec.ofNat 32 b)) x y = if b < a then x else y := sel_sgt ha hb x y

/-- Equal terms have equal sums. -/
theorem add_of {a b a' b' : EReal} (h : a = a') (h' : b = b') : a + b = a' + b' := by rw [h, h']

/-- Equal factors have equal products. -/
theorem mul_of' {a b a' b' : EReal} (h : a = a') (h' : b = b') : a * b = a' * b' := by rw [h, h']

/-- Equal factors have equal products, in either order. -/
theorem mul_of {a b a' b' : EReal} (h : a = a') (h' : b = b') : a * b = b' * a' := by rw [h, h', mul_comm]

end Cert.Grad

end

end
-- ==== Proof.SbModel.lean ====
/-
  The stick-breaking attention's gradient for one head over the reals, and the sums that a tile of keys splits.
-/
module

public import proofs.«01_k».proof.Proof.Read

@[expose] public section

noncomputable section

namespace Cert.Sb

open Finset

/-- The logarithm of the sigmoid. -/
def lsR (z : ℝ) : ℝ := min z 0 - Real.log (1 + Real.exp (0 - |z|))

/-- The logarithm of one minus the sigmoid. -/
def nR (z : ℝ) : ℝ := lsR z - z

/-- A sigmoid and its complement sum to one. -/
theorem sig_add (z : ℝ) : Real.exp (lsR z) + Real.exp (nR z) = 1 := by
  have hp : 0 < 1 + Real.exp (0 - |z|) := by positivity
  have e1 : ∀ x : ℝ, Real.exp (x - Real.log (1 + Real.exp (0 - |z|))) = Real.exp x / (1 + Real.exp (0 - |z|)) := fun x => by
    rw [Real.exp_sub, Real.exp_log hp]
  unfold nR lsR
  rw [show min z 0 - Real.log (1 + Real.exp (0 - |z|)) - z = (min z 0 - z) - Real.log (1 + Real.exp (0 - |z|)) by ring, e1, e1, ← add_div,
    div_eq_one_iff_eq hp.ne']
  rcases le_total 0 z with h | h
  · rw [min_eq_right h, abs_of_nonneg h, Real.exp_zero]
  · rw [min_eq_left h, abs_of_nonpos h, sub_self, Real.exp_zero, add_comm, zero_sub, neg_neg]

variable (z dw : ℕ → ℕ → ℝ)

/-- The logarithm of what is left of query `t`'s stick after the keys between `s` and `t`. -/
def suf (t s : ℕ) : ℝ := ∑ s' ∈ Ico (s + 1) t, nR (z t s')

/-- Query `t`'s weight of key `s`. -/
def wR (t s : ℕ) : ℝ := Real.exp (lsR (z t s) + suf z t s)

/-- The weight times its gradient. -/
def gR (t s : ℕ) : ℝ := wR z t s * dw t s

/-- The score's gradient. -/
def dR (t s : ℕ) : ℝ := gR z dw t s - Real.exp (lsR (z t s)) * ∑ s' ∈ range (s + 1), gR z dw t s'

/-- The score's gradient as its own part and the part through the keys after it. -/
theorem dR_eq (t s : ℕ) : gR z dw t s * Real.exp (nR (z t s)) - (∑ s' ∈ range s, gR z dw t s') * Real.exp (lsR (z t s)) = dR z dw t s := by
  unfold dR
  have h := sig_add (z t s)
  rw [sum_range_succ, show Real.exp (nR (z t s)) = 1 - Real.exp (lsR (z t s)) by linarith]
  ring

/-- A running sum from the end, advanced by `n` places. -/
theorem sum_tail (f : ℕ → ℝ) (t : ℕ) : ∀ n e, (∑ b ∈ range n, if e + b < t then f (e + b) else 0) + ∑ s ∈ Ico (e + n) t, f s = ∑ s ∈ Ico e t, f s
  | 0, e => by simp
  | n + 1, e => by
    rw [sum_range_succ, ← sum_tail f t n e, add_assoc]
    congr 1
    split
    · rename_i h
      rw [sum_eq_sum_Ico_succ_bot h]; rfl
    · rename_i h
      rw [Ico_eq_empty (by omega), Ico_eq_empty (by omega)]; simp

/-- A sum over a tile, split at a place. -/
theorem split256 (f : ℕ → ℝ) (b : ℕ) (hb : b ≤ 256) : ∑ x ∈ range 256, f x = ∑ x ∈ range b, f x + ∑ x ∈ range (256 - b), f (b + x) := by
  rw [← sum_range_add, show b + (256 - b) = 256 by omega]

/-- A tile's product with the ones below the diagonal, onto a running sum: the sum after a place. -/
theorem sum_tri (f : ℕ → ℝ) (t e b : ℕ) (hb : b < 256) :
    (∑ b' ∈ range 256, (if e + b' < t then f (e + b') else 0) * (if b < b' then 1 else 0)) + ∑ s ∈ Ico (e + 256) t, f s = ∑ s ∈ Ico (e + b + 1) t, f s := by
  rw [← sum_tail f t (256 - (b + 1)) (e + b + 1), show e + b + 1 + (256 - (b + 1)) = e + 256 by omega]
  congr 1
  rw [split256 _ (b + 1) (by omega)]
  rw [sum_eq_zero (fun x hx => by rw [if_neg (c := b < x) (by have := mem_range.1 hx; omega), mul_zero]), zero_add]
  refine sum_congr rfl fun x _ => ?_
  rw [if_pos (c := b < b + 1 + x) (by omega), mul_one, show e + (b + 1 + x) = e + b + 1 + x by omega]

/-- The same with the diagonal: the sum from a place on. -/
theorem sum_trii (f : ℕ → ℝ) (t e b : ℕ) (hb : b < 256) :
    (∑ b' ∈ range 256, (if e + b' < t then f (e + b') else 0) * (if b ≤ b' then 1 else 0)) + ∑ s ∈ Ico (e + 256) t, f s = ∑ s ∈ Ico (e + b) t, f s := by
  rw [← sum_tail f t (256 - b) (e + b), show e + b + (256 - b) = e + 256 by omega]
  congr 1
  rw [split256 _ b (by omega)]
  rw [sum_eq_zero (fun x hx => by rw [if_neg (c := b ≤ x) (by have := mem_range.1 hx; omega), mul_zero]), zero_add]
  refine sum_congr rfl fun x _ => ?_
  rw [if_pos (c := b ≤ b + x) (by omega), mul_one, show e + (b + x) = e + b + x by omega]

/-- The sum before a place is the whole less the sum from the place after on. -/
theorem sum_before (f : ℕ → ℝ) (t s : ℕ) (h : s ≤ t) : (∑ s' ∈ range t, f s') - ∑ s' ∈ Ico s t, f s' = ∑ s' ∈ range s, f s' := by
  rw [← sum_range_add_sum_Ico f h]; ring

end Cert.Sb

end

end
-- ==== Proof.SbReal.lean ====
/-
  The operations of the stick-breaking attention's gradient kernel on arrays of finite numbers: each gives the array of the
  real operation's values.
-/
module

public import proofs.«01_k».proof.Proof.SbModel
public import proofs.«01_k».proof.Proof.SbPoint
public import Idealize.ShloMosaic.Lib.Pipeline.ValueKit
public import Idealize.ShloMosaic.Lib.Pipeline.ReadBack
public import Idealize.ShloMosaic.Lib.Tactic
public import Idealize.ShloMosaic.Lib.Tactic.CleanTypes

@[expose] public section

set_option maxRecDepth 16384

noncomputable section

namespace Cert.Sb

open Idealize.ShloMosaic Finset

/-- A rank-2 array that holds the real numbers `f`. -/
def Is {R C : ℕ} (x : (⟨2, ![R, C]⟩ : Shape).Idx → EReal) (f : ℕ → ℕ → ℝ) : Prop :=
  ∀ (a : Fin R) (b : Fin C), x (ix2 a b) = ((f a.val b.val : ℝ) : EReal)

theorem coe_sum {ι : Type} (s : Finset ι) (f : ι → ℝ) : ((∑ i ∈ s, f i : ℝ) : EReal) = ∑ i ∈ s, ((f i : ℝ) : EReal) := by
  classical
  induction s using Finset.induction_on with
  | empty => simp
  | insert a s ha ih => rw [sum_insert ha, sum_insert ha, EReal.coe_add, ih]

/-- A sum of products of finite numbers. -/
theorem dot_of {n : ℕ} (x y : Fin n → EReal) (f g : ℕ → ℝ) (hx : ∀ i : Fin n, x i = ((f i.val : ℝ) : EReal)) (hy : ∀ i : Fin n, y i = ((g i.val : ℝ) : EReal)) :
    ∑ i, x i * y i = ((∑ i ∈ range n, f i * g i : ℝ) : EReal) := by
  rw [coe_sum, ← Fin.sum_univ_eq_sum_range (fun i => ((f i * g i : ℝ) : EReal))]
  exact sum_congr rfl fun i _ => by rw [hx, hy, EReal.coe_mul]

theorem sum_of {n : ℕ} (x : Fin n → EReal) (f : ℕ → ℝ) (hx : ∀ i : Fin n, x i = ((f i.val : ℝ) : EReal)) :
    ∑ i, x i = ((∑ i ∈ range n, f i : ℝ) : EReal) := by
  rw [coe_sum, ← Fin.sum_univ_eq_sum_range (fun i => ((f i : ℝ) : EReal))]
  exact sum_congr rfl fun i _ => hx i

/-- The real numbers are fixed within the bounds only. -/
theorem Is.congr {R C : ℕ} {x : (⟨2, ![R, C]⟩ : Shape).Idx → EReal} {f g : ℕ → ℕ → ℝ} (h : Is x f) (e : ∀ a < R, ∀ b < C, f a b = g a b) : Is x g :=
  fun a b => by rw [h a b, e a.val a.isLt b.val b.isLt]

/-- The logarithm of one plus an exponential. -/
theorem log_one_add_exp (r : ℝ) : Ideal.log (1 + ((Real.exp r : ℝ) : EReal)) = ((Real.log (1 + Real.exp r) : ℝ) : EReal) := by
  rw [← EReal.coe_one, ← EReal.coe_add, Ideal.log_coe, if_neg (not_le.2 (by positivity))]

theorem abs_coe (r : ℝ) : (FloatOps.absf (F := Ideal) (φ := .f32) ((r : ℝ) : EReal) : EReal) = ((|r| : ℝ) : EReal) := by
  show max ((r : ℝ) : EReal) (-((r : ℝ) : EReal)) = _
  rw [← EReal.coe_neg, ← EReal.coe_strictMono.monotone.map_max]
  rfl

end Cert.Sb

namespace Cert.SbBwdIdeal.Hand

open Cert.Sb Cert.SbBwdIdeal Cert.SbBwdIdeal.Gen Idealize.ShloMosaic Idealize.ShloMosaic.TcCoe Finset

variable {f g : ℕ → ℕ → ℝ}

theorem zOf_is {q : FVec Ideal S128x128 .bf16} {k : FVec Ideal S256x128 .bf16} (hq : Is q f) (hk : Is k g) :
    Is (zOf q k) (fun a b => ∑ l ∈ range 128, f a l * g b l) := by
  intro a b
  pointwise [zOf]
  exact dot_of _ _ (fun l => f a l) (fun l => g b l) (fun l => hq a l) (fun l => hk b l)

theorem lsOf_is {z : FVec Ideal S128x256 .f32} (hz : Is z f) : Is (lsOf z) (fun a b => lsR (f a b)) := by
  intro a b
  pointwise [lsOf]
  rw [hz a b, abs_coe, ← EReal.coe_zero, ← EReal.coe_sub, Ideal.exp_coe, log_one_add_exp, ← EReal.coe_strictMono.monotone.map_min, ← EReal.coe_sub]
  rfl

theorem nOf_is {z : FVec Ideal S128x256 .f32} (hz : Is z f) : Is (nOf z) (fun a b => nR (f a b)) := by
  intro a b
  have h := lsOf_is hz a b
  show lsOf z (ix2 a b) - z (ix2 a b) = _
  rw [h, hz a b, ← EReal.coe_sub]
  rfl

theorem hiLo_is {x : FVec Ideal S128x256 .f32} {t : FVec Ideal S256x256 .bf16} (hx : Is x f) (ht : Is t g) :
    Is (hiLo x t) (fun a b => ∑ c ∈ range 256, f a c * g c b) := by
  intro a b
  pointwise [hiLo]
  rw [dot_of _ _ (fun l => f a l) (fun l => g l b) (fun l => hx a l) (fun l => ht l b),
    dot_of _ _ (fun l => 0) (fun l => g l b) (fun l => by rw [hx a l, ← EReal.coe_sub, sub_self]) (fun l => ht l b)]
  simp

theorem spread_is {x : FVec Ideal S128x1 .f32} (hx : Is x f) : Is (spread x) (fun a b => f a 0) := by
  intro a b
  pointwise [spread]
  exact hx a 0

theorem accRow_is {r : FVec Ideal S128x1 .f32} {x : FVec Ideal S128x256 .f32} (hr : Is r g) (hx : Is x f) :
    Is (accRow r x) (fun a b => ∑ c ∈ range 256, f a c + g a b) := by
  intro a b
  obtain rfl : b = 0 := Fin.eq_zero b
  pointwise [accRow]
  rw [hr a 0, sum_of _ (fun l => f a l) (fun l => hx a l), ← EReal.coe_add, add_comm]
  rfl

theorem kAdd_is {acc : FVec Ideal S256x128 .f32} {x : FVec Ideal S128x256 .f32} {q : FVec Ideal S128x128 .bf16} {h : ℕ → ℕ → ℝ}
    (ha : Is acc h) (hx : Is x f) (hq : Is q g) :
    Is (kAdd acc x q) (fun a b => h a b + ∑ c ∈ range 128, f c a * g c b) := by
  intro a b
  pointwise [kAdd]
  rw [ha a b, dot_of _ _ (fun l => f l a) (fun l => g l b) (fun l => hx l a) (fun l => hq l b), ← EReal.coe_add]

theorem qAdd_is {acc : FVec Ideal S128x128 .f32} {x : FVec Ideal S128x256 .f32} {q : FVec Ideal S256x128 .bf16} {h : ℕ → ℕ → ℝ}
    (ha : Is acc h) (hx : Is x f) (hq : Is q g) :
    Is (qAdd acc x q) (fun a b => ∑ c ∈ range 256, f a c * g c b + h a b) := by
  intro a b
  pointwise [qAdd]
  rw [ha a b, dot_of _ _ (fun l => f a l) (fun l => g l b) (fun l => hx a l) (fun l => hq l b), ← EReal.coe_add, add_comm]

theorem keep_is {x : FVec Ideal S128x256 .f32} (hx : Is x f) (m : IVec S128x256 1) (M : ℕ → ℕ → Prop) [∀ a b, Decidable (M a b)]
    (hm : ∀ (a : Fin 128) (b : Fin 256), m (ix2 a b) = BitVec.ofBool (decide (M a b))) : Is (keep m x) (fun a b => if M a b then f a b else 0) := by
  intro a b
  pointwise [keep]
  rw [hm a b, Cert.Grad.sel_of]
  split
  · exact hx a b
  · rfl

theorem eOf_is {tri : FVec Ideal S256x256 .bf16} {run : FVec Ideal S128x1 .f32} {ls n : FVec Ideal S128x256 .f32} {t r l : ℕ → ℕ → ℝ}
    (ht : Is tri t) (hr : Is run r) (hl : Is ls l) (hn : Is n f) :
    Is (eOf tri run ls n) (fun a b => Real.exp (l a b + (∑ c ∈ range 256, f a c * t c b + r a 0))) := by
  intro a b
  have h1 := hiLo_is hn ht a b
  have h2 := spread_is hr a b
  show Ideal.exp (ls (ix2 a b) + (hiLo n tri (ix2 a b) + spread run (ix2 a b))) = _
  rw [h1, h2, hl a b, ← EReal.coe_add, ← EReal.coe_add, Ideal.exp_coe]

theorem gOf_is {w : FVec Ideal S128x256 .bf16} {dw : FVec Ideal S128x256 .f32} (hw : Is w f) (hd : Is dw g) : Is (gOf w dw) (fun a b => f a b * g a b) := by
  intro a b
  show w (ix2 a b) * dw (ix2 a b) = _
  rw [hw a b, hd a b, ← EReal.coe_mul]

theorem dzOf_is {trii : FVec Ideal S256x256 .bf16} {rg dl : FVec Ideal S128x1 .f32} {ls x : FVec Ideal S128x256 .f32} {t r d l : ℕ → ℕ → ℝ}
    (ht : Is trii t) (hr : Is rg r) (hd : Is dl d) (hl : Is ls l) (hx : Is x f) :
    Is (dzOf trii rg dl ls x) (fun a b => f a b - Real.exp (l a b) * (f a b + (d a 0 - (∑ c ∈ range 256, f a c * t c b + r a 0)))) := by
  intro a b
  have h1 := hiLo_is hx ht a b
  have h2 := spread_is hr a b
  have h3 := spread_is hd a b
  show x (ix2 a b) - Ideal.exp (ls (ix2 a b)) * (x (ix2 a b) + (spread dl (ix2 a b) - (hiLo x trii (ix2 a b) + spread rg (ix2 a b)))) = _
  rw [h1, h2, h3, hl a b, hx a b, Ideal.exp_coe, ← EReal.coe_add, ← EReal.coe_sub, ← EReal.coe_add, ← EReal.coe_mul, ← EReal.coe_sub]

/-! ### A tile -/

variable (z dw : ℕ → ℕ → ℝ)

/-- What a row of queries from `T` on gets out of the tile of keys from `e` on. -/
structure TileIs (t : Tile Ideal) (T e : ℕ) : Prop where
  n : Is t.n (fun a b => if e + b < T + a then nR (z (T + a) (e + b)) else 0)
  w : Is t.w (fun a b => if e + b < T + a then wR z (T + a) (e + b) else 0)
  g : Is t.g (fun a b => if e + b < T + a then gR z dw (T + a) (e + b) else 0)
  dz : Is t.dz (fun a b => if e + b < T + a then dR z dw (T + a) (e + b) else 0)

variable {z dw} {tri trii : FVec Ideal S256x256 .bf16} {dl run rg : FVec Ideal S128x1 .f32} {zt dt : FVec Ideal S128x256 .f32} {T e : ℕ}

/-- The weights before a mask. -/
theorem e_mask (ht : Is tri (fun c b => if b < c then 1 else 0)) (hr : Is run (fun a _ => ∑ s ∈ Ico (e + 256) (T + a), nR (z (T + a) s)))
    (hz : Is zt (fun a b => z (T + a) (e + b))) {n : FVec Ideal S128x256 .f32}
    (hn : Is n (fun a b => if e + b < T + a then nR (z (T + a) (e + b)) else 0)) :
    Is (eOf tri run (lsOf zt) n) (fun a b => wR z (T + a) (e + b)) :=
  (eOf_is ht hr (lsOf_is hz) hn).congr fun a _ b hb => by
    rw [sum_tri (fun s => nR (z (T + a) s)) (T + a) e b hb]
    rfl

/-- The scores' gradient before a mask, where it counts. -/
theorem dz_mask (ht : Is trii (fun c b => if b ≤ c then 1 else 0)) (hr : Is rg (fun a _ => ∑ s ∈ Ico (e + 256) (T + a), gR z dw (T + a) s))
    (hd : Is dl (fun a _ => ∑ s ∈ range (T + a), gR z dw (T + a) s))
    (hz : Is zt (fun a b => z (T + a) (e + b))) {g : FVec Ideal S128x256 .f32}
    (hg : Is g (fun a b => if e + b < T + a then gR z dw (T + a) (e + b) else 0)) :
    ∃ h : ℕ → ℕ → ℝ, Is (dzOf trii rg dl (lsOf zt) g) h ∧ ∀ a b, b < 256 → e + b < T + a → h a b = dR z dw (T + a) (e + b) :=
  ⟨_, dzOf_is ht hr hd (lsOf_is hz) hg, fun a b hb h => by
    rw [sum_trii (fun s => gR z dw (T + a) s) (T + a) e b hb, sum_before _ _ _ h.le, if_pos h, dR, sum_range_succ]
    ring⟩

theorem tileDiag_is (m : IVec S128x256 1) (hm : ∀ (a : Fin 128) (b : Fin 256), m (ix2 a b) = BitVec.ofBool (decide (e + b.val < T + a.val)))
    (ht : Is tri (fun c b => if b < c then 1 else 0)) (hti : Is trii (fun c b => if b ≤ c then 1 else 0))
    (hr : Is run (fun a _ => ∑ s ∈ Ico (e + 256) (T + a), nR (z (T + a) s))) (hrg : Is rg (fun a _ => ∑ s ∈ Ico (e + 256) (T + a), gR z dw (T + a) s))
    (hd : Is dl (fun a _ => ∑ s ∈ range (T + a), gR z dw (T + a) s))
    (hz : Is zt (fun a b => z (T + a) (e + b))) (hdt : Is dt (fun a b => dw (T + a) (e + b))) :
    TileIs z dw (tileDiag m tri trii dl run rg zt dt) T e := by
  have hn := keep_is (nOf_is hz) m (fun a b => e + b < T + a) hm
  have hw := keep_is (e_mask ht hr hz hn) m (fun a b => e + b < T + a) hm
  have hg := (gOf_is (w := truncf .bf16 (keep m (eOf tri run (lsOf zt) (keep m (nOf zt)))) bitsLt_bf16_f32) hw hdt).congr
    (g := fun a b => if e + b < T + a then gR z dw (T + a) (e + b) else 0) fun a _ b _ => by
      split
      · rfl
      · exact zero_mul _
  obtain ⟨h, h1, h2⟩ := dz_mask hti hrg hd hz hg
  exact ⟨hn, hw, hg, (keep_is h1 m (fun a b => e + b < T + a) hm).congr fun a _ b hb => by
    split
    · exact h2 a b hb ‹_›
    · rfl⟩

theorem tileOff_is (hT : e + 256 ≤ T)
    (ht : Is tri (fun c b => if b < c then 1 else 0)) (hti : Is trii (fun c b => if b ≤ c then 1 else 0))
    (hr : Is run (fun a _ => ∑ s ∈ Ico (e + 256) (T + a), nR (z (T + a) s))) (hrg : Is rg (fun a _ => ∑ s ∈ Ico (e + 256) (T + a), gR z dw (T + a) s))
    (hd : Is dl (fun a _ => ∑ s ∈ range (T + a), gR z dw (T + a) s))
    (hz : Is zt (fun a b => z (T + a) (e + b))) (hdt : Is dt (fun a b => dw (T + a) (e + b))) :
    TileIs z dw (tileOff tri trii dl run rg zt dt) T e := by
  have hn := (nOf_is hz).congr (g := fun a b => if e + b < T + a then nR (z (T + a) (e + b)) else 0) fun a _ b hb => by rw [if_pos (by omega)]
  have hw := (e_mask ht hr hz hn).congr (g := fun a b => if e + b < T + a then wR z (T + a) (e + b) else 0) fun a _ b hb => by rw [if_pos (by omega)]
  have hg := (gOf_is (w := truncf .bf16 (eOf tri run (lsOf zt) (nOf zt)) bitsLt_bf16_f32) hw hdt).congr
    (g := fun a b => if e + b < T + a then gR z dw (T + a) (e + b) else 0) fun a _ b hb => by
      rw [if_pos (by omega), if_pos (by omega)]; rfl
  obtain ⟨h, h1, h2⟩ := dz_mask hti hrg hd hz hg
  exact ⟨hn, hw, hg, h1.congr fun a _ b hb => by
    rw [if_pos (by omega)]
    exact h2 a b hb (by omega)⟩

end Cert.SbBwdIdeal.Hand

end

end
-- ==== Proof.SbLoop.lean ====
/-
  The stick-breaking attention's gradient kernel on finite numbers: what a row carries and adds, tile by tile, through
  the loop over the keys.
-/
module

public import proofs.«01_k».proof.Proof.SbReal

@[expose] public section

set_option maxRecDepth 16384

noncomputable section

namespace Cert.Sb

open Finset

/-- The arrays of a pair of heads, 64 lanes each: scaled queries, keys, values, cotangents. -/
structure Pair where
  q : ℕ → ℕ → ℝ
  k : ℕ → ℕ → ℝ
  v : ℕ → ℕ → ℝ
  c : ℕ → ℕ → ℝ

/-- A lane of one of the two heads, zero of the other. -/
def lane (x : ℕ → ℕ → ℝ) (h t l : ℕ) : ℝ := if l / 64 = h then x t l else 0

variable (P : Pair)

/-- Head `h`'s scores, -/
def Pair.z (h t s : ℕ) : ℝ := ∑ l ∈ range 128, lane P.q h t l * P.k s l

/-- and its weights' gradients. -/
def Pair.dw (h t s : ℕ) : ℝ := ∑ l ∈ range 128, lane P.c h t l * P.v s l

/-- Head `h`'s weights, -/
def Pair.w (h t s : ℕ) : ℝ := wR (P.z h) t s
/-- its scores' gradients. -/
def Pair.d (h t s : ℕ) : ℝ := dR (P.z h) (P.dw h) t s

/-- What a tile of 256 queries adds to the keys' gradient, -/
def Pair.addK (n s l : ℕ) : ℝ := ∑ a ∈ range 256, (if s < 256 * n + a then P.d (l / 64) (256 * n + a) s else 0) * P.q (256 * n + a) l

/-- and to the values'. -/
def Pair.addV (n s l : ℕ) : ℝ := ∑ a ∈ range 256, (if s < 256 * n + a then P.w (l / 64) (256 * n + a) s else 0) * P.c (256 * n + a) l

end Cert.Sb

namespace Cert.SbBwdIdeal.Hand

open Cert.Sb Cert.SbBwdIdeal Cert.SbBwdIdeal.Gen Idealize.ShloMosaic Idealize.ShloMosaic.TcCoe Finset

variable (P : Pair)

/-- A row of 128 queries of head `h` from `T` on. -/
structure RowIs (r : Row Ideal) (h T : ℕ) : Prop where
  q : Is r.q (fun a l => lane P.q h (T + a) l)
  d : Is r.d (fun a l => lane P.c h (T + a) l)
  dl : Is r.dl (fun a _ => ∑ s ∈ range (T + a), gR (P.z h) (P.dw h) (T + a) s)

/-- What that row carries after the keys from `e` on. -/
structure ChIs (c : Ch Ideal) (h T e : ℕ) : Prop where
  n : Is c.n (fun a _ => ∑ s ∈ Ico e (T + a), nR (P.z h (T + a) s))
  g : Is c.g (fun a _ => ∑ s ∈ Ico e (T + a), gR (P.z h) (P.dw h) (T + a) s)
  dq : Is c.dq (fun a l => ∑ s ∈ Ico e (T + a), P.d h (T + a) s * P.k s l)

variable {P} {tri trii : FVec Ideal S256x256 .bf16} {r : Row Ideal} {c : Ch Ideal} {h T e : ℕ}

theorem blk_is {x : FVec Ideal S256x128 .bf16} {f : ℕ → ℕ → ℝ} (hx : Is x f) : Is (blk x) f := by
  intro a b
  pointwise [blk]
  exact hx a b

theorem blk2_is {x : FVec Ideal S512x128 .bf16} {f : ℕ → ℕ → ℝ} (hx : Is x f) : Is (blk2 x) f := by
  intro a b
  pointwise [blk2]
  exact hx a b

/-- A tile's contributions onto a carry. -/
theorem next_is {t : Tile Ideal} (ht : TileIs (P.z h) (P.dw h) t T e) (hc : ChIs P c h T (e + 256)) {k : FVec Ideal S256x128 .bf16}
    (hk : Is k (fun a l => P.k (e + a) l)) : ChIs P ⟨accRow c.n t.n, accRow c.g t.g, qAdd c.dq t.dz k⟩ h T e :=
  ⟨(accRow_is hc.n ht.n).congr fun a _ _ _ => sum_tail (fun s => nR (P.z h (T + a) s)) (T + a) 256 e,
    (accRow_is hc.g ht.g).congr fun a _ _ _ => sum_tail (fun s => gR (P.z h) (P.dw h) (T + a) s) (T + a) 256 e,
    (qAdd_is hc.dq ht.dz hk).congr fun a _ l _ => by
      rw [← sum_tail (fun s => P.d h (T + a) s * P.k s l) (T + a) 256 e]
      congr 1
      exact sum_congr rfl fun s _ => by rw [ite_mul, zero_mul]; rfl⟩

/-- The carry before any tile. -/
theorem ch0_is (hT : T + 128 ≤ e + 1) : ChIs P ch0 h T e := by
  have hz : ∀ a < 128, Ico e (T + a) = ∅ := fun a ha => Ico_eq_empty (by omega)
  have z1 : Is (ch0 (F := Ideal)).n (fun _ _ => 0) := fun a b => by pointwise [ch0]; rfl
  have z2 : Is (ch0 (F := Ideal)).g (fun _ _ => 0) := fun a b => by pointwise [ch0]; rfl
  have z3 : Is (ch0 (F := Ideal)).dq (fun _ _ => 0) := fun a b => by pointwise [ch0]; rfl
  exact ⟨z1.congr fun a ha _ _ => by rw [hz a ha, sum_empty], z2.congr fun a ha _ _ => by rw [hz a ha, sum_empty],
    z3.congr fun a ha _ _ => by rw [hz a ha, sum_empty]⟩

/-- The triangle of ones below the diagonal, and the one with it. -/
def TriIs (tri trii : FVec Ideal S256x256 .bf16) : Prop :=
  Is tri (fun c b => if b < c then 1 else 0) ∧ Is trii (fun c b => if b ≤ c then 1 else 0)

theorem offT_is (ht : TriIs tri trii) (hr : RowIs P r h T) (hc : ChIs P c h T (e + 256)) (hT : e + 256 ≤ T) {k v : FVec Ideal S256x128 .bf16}
    (hk : Is k (fun a l => P.k (e + a) l)) (hv : Is v (fun a l => P.v (e + a) l)) :
    TileIs (P.z h) (P.dw h) (offT tri trii r c k v) T e :=
  tileOff_is hT ht.1 ht.2 hc.n hc.g hr.dl (zOf_is hr.q (blk_is hk)) (zOf_is hr.d (blk_is hv))

theorem offC_is (ht : TriIs tri trii) (hr : RowIs P r h T) (hc : ChIs P c h T (e + 256)) (hT : e + 256 ≤ T) {k v : FVec Ideal S256x128 .bf16}
    (hk : Is k (fun a l => P.k (e + a) l)) (hv : Is v (fun a l => P.v (e + a) l)) : ChIs P (offC tri trii r c k v) h T e :=
  next_is (offT_is ht hr hc hT hk hv) hc (blk_is hk)

/-- The mask of a diagonal tile: keys before the query. -/
def MaskIs (m : IVec S128x256 1) (T e : ℕ) : Prop :=
  ∀ (a : Fin 128) (b : Fin 256), m (ix2 a b) = BitVec.ofBool (decide (e + b.val < T + a.val))

theorem diagT_is {m : IVec S128x256 1} (hm : MaskIs m T e) (ht : TriIs tri trii) (hr : RowIs P r h T) (hT : T + 128 ≤ e + 256) {k v : FVec Ideal S256x128 .bf16}
    (hk : Is k (fun a l => P.k (e + a) l)) (hv : Is v (fun a l => P.v (e + a) l)) :
    TileIs (P.z h) (P.dw h) (diagT m tri trii r k v) T e :=
  have hc : ChIs P ch0 h T (e + 256) := ch0_is (by omega)
  tileDiag_is m hm ht.1 ht.2 hc.n hc.g hr.dl (zOf_is hr.q (blk_is hk)) (zOf_is hr.d (blk_is hv))

theorem diagC_is {m : IVec S128x256 1} (hm : MaskIs m T e) (ht : TriIs tri trii) (hr : RowIs P r h T) (hT : T + 128 ≤ e + 256) {k v : FVec Ideal S256x128 .bf16}
    (hk : Is k (fun a l => P.k (e + a) l)) (hv : Is v (fun a l => P.v (e + a) l)) : ChIs P (diagC m tri trii r k v) h T e :=
  next_is (diagT_is hm ht hr hT hk hv) (ch0_is (by omega)) (blk_is hk)

/-! ### Two tiles at once -/

theorem zWide_is {f g : ℕ → ℕ → ℝ} {q : FVec Ideal S128x128 .bf16} {k : FVec Ideal S512x128 .bf16} (hq : Is q f) (hk : Is k g) :
    Is (zWide q k) (fun a b => ∑ l ∈ range 128, f a l * g b l) := by
  intro a b
  pointwise [zWide]
  exact dot_of _ _ (fun l => f a l) (fun l => g b l) (fun l => hq a l) (fun l => hk b l)

theorem colsL_is {f : ℕ → ℕ → ℝ} {x : FVec Ideal S128x512 .f32} (hx : Is x f) : Is (colsL x) f := by
  intro a b
  pointwise [colsL]
  exact hx a ⟨b.val, by omega⟩

theorem colsR_is {f : ℕ → ℕ → ℝ} {x : FVec Ideal S128x512 .f32} (hx : Is x f) : Is (colsR x) (fun a b => f a (256 + b)) := by
  intro a b
  pointwise [colsR]
  exact hx a ⟨256 + b.val, by omega⟩

theorem wideD_is {m : IVec S128x256 1} (hm : MaskIs m T (e + 256)) (ht : TriIs tri trii) (hr : RowIs P r h T) (hT : T + 128 ≤ e + 512)
    {k v : FVec Ideal S512x128 .bf16} (hk : Is k (fun a l => P.k (e + a) l)) (hv : Is v (fun a l => P.v (e + a) l)) :
    TileIs (P.z h) (P.dw h) (wideD m tri trii r k v) T (e + 256) :=
  have hc : ChIs P ch0 h T (e + 256 + 256) := ch0_is (by omega)
  tileDiag_is m hm ht.1 ht.2 hc.n hc.g hr.dl
    ((colsR_is (zWide_is hr.q (blk2_is hk))).congr fun a _ b _ => by rw [← add_assoc]; rfl)
    ((colsR_is (zWide_is hr.d (blk2_is hv))).congr fun a _ b _ => by rw [← add_assoc]; rfl)

/-- The carry's first two parts between the two tiles. -/
theorem mid_is {m : IVec S128x256 1} (hm : MaskIs m T (e + 256)) (ht : TriIs tri trii) (hr : RowIs P r h T) (hT : T + 128 ≤ e + 512)
    {k v : FVec Ideal S512x128 .bf16} (hk : Is k (fun a l => P.k (e + a) l)) (hv : Is v (fun a l => P.v (e + a) l)) :
    Is (accRow (ch0 (F := Ideal)).n (wideD m tri trii r k v).n) (fun a _ => ∑ s ∈ Ico (e + 256) (T + a), nR (P.z h (T + a) s))
      ∧ Is (accRow (ch0 (F := Ideal)).g (wideD m tri trii r k v).g) (fun a _ => ∑ s ∈ Ico (e + 256) (T + a), gR (P.z h) (P.dw h) (T + a) s) :=
  have hc : ChIs P ch0 h T (e + 256 + 256) := ch0_is (by omega)
  have hd := wideD_is hm ht hr hT hk hv
  ⟨(accRow_is hc.n hd.n).congr fun a _ _ _ => sum_tail (fun s => nR (P.z h (T + a) s)) (T + a) 256 (e + 256),
    (accRow_is hc.g hd.g).congr fun a _ _ _ => sum_tail (fun s => gR (P.z h) (P.dw h) (T + a) s) (T + a) 256 (e + 256)⟩

theorem wideO_is {m : IVec S128x256 1} (hm : MaskIs m T (e + 256)) (ht : TriIs tri trii) (hr : RowIs P r h T) (hT : T + 128 ≤ e + 512) (hT' : e + 256 ≤ T)
    {k v : FVec Ideal S512x128 .bf16} (hk : Is k (fun a l => P.k (e + a) l)) (hv : Is v (fun a l => P.v (e + a) l)) :
    TileIs (P.z h) (P.dw h) (wideO m tri trii r k v) T e :=
  have hc := mid_is hm ht hr hT hk hv
  tileOff_is hT' ht.1 ht.2 hc.1 hc.2 hr.dl (colsL_is (zWide_is hr.q (blk2_is hk))) (colsL_is (zWide_is hr.d (blk2_is hv)))

/-- The queries' gradient out of two tiles side by side. -/
theorem wideQ_is {acc : FVec Ideal S128x128 .f32} {x y : FVec Ideal S128x256 .bf16} {k : FVec Ideal S512x128 .bf16} {f g u w : ℕ → ℕ → ℝ}
    (ha : Is acc w) (hx : Is x f) (hy : Is y g) (hk : Is k u) :
    Is (addf acc (matmul dot_S128x512_S512x128_S128x128_1_0_0_1_n_n none
      (concatenate S128x512 1 [⟨S128x256, x⟩, ⟨S128x256, y⟩] concatenates_S128x256_S128x256_S128x512_d1) k (constant S128x128 .f32 0x00000000#32)))
      (fun a l => ∑ b ∈ range 256, f a b * u b l + (∑ b ∈ range 256, g a b * u (256 + b) l + w a l)) := by
  intro a l
  pointwise
  rw [ha a l, dot_of _ _ (fun b => f a b) (fun b => u b l) (fun b => hx a b) (fun b => hk ⟨b.val, by omega⟩ l),
    dot_of _ _ (fun b => g a b) (fun b => u (256 + b) l) (fun b => hy a b) (fun b => hk ⟨256 + b.val, by omega⟩ l),
    ← EReal.coe_add, ← EReal.coe_add, add_comm, add_assoc]

theorem wideC_is {m : IVec S128x256 1} (hm : MaskIs m T (e + 256)) (ht : TriIs tri trii) (hr : RowIs P r h T) (hT : T + 128 ≤ e + 512) (hT' : e + 256 ≤ T)
    {k v : FVec Ideal S512x128 .bf16} (hk : Is k (fun a l => P.k (e + a) l)) (hv : Is v (fun a l => P.v (e + a) l)) :
    ChIs P (wideC m tri trii r k v) h T e :=
  have hc := mid_is hm ht hr hT hk hv
  have hd := wideD_is hm ht hr hT hk hv
  have ho := wideO_is hm ht hr hT hT' hk hv
  have h0 : ChIs P ch0 h T (e + 256 + 256) := ch0_is (by omega)
  ⟨(accRow_is hc.1 ho.n).congr fun a _ _ _ => sum_tail (fun s => nR (P.z h (T + a) s)) (T + a) 256 e,
    (accRow_is hc.2 ho.g).congr fun a _ _ _ => sum_tail (fun s => gR (P.z h) (P.dw h) (T + a) s) (T + a) 256 e,
    (wideQ_is h0.dq ho.dz hd.dz (blk2_is hk)).congr fun a _ l _ => by
      rw [← sum_tail (fun s => P.d h (T + a) s * P.k s l) (T + a) 256 e, ← sum_tail (fun s => P.d h (T + a) s * P.k s l) (T + a) 256 (e + 256)]
      congr 1
      · exact sum_congr rfl fun s _ => by rw [ite_mul, zero_mul]; rfl
      · congr 1
        exact sum_congr rfl fun s _ => by rw [ite_mul, zero_mul, ← add_assoc]; rfl⟩

/-! ### The four rows' shares of a tile -/

/-- A grid point's rows: two of each head, 128 queries each, from `T` on. -/
structure PtIs (p : Pt Ideal) (T : ℕ) : Prop where
  tri : TriIs p.tri p.trii
  r0 : RowIs P p.r0 0 T
  r1 : RowIs P p.r1 0 (T + 128)
  r2 : RowIs P p.r2 1 T
  r3 : RowIs P p.r3 1 (T + 128)

theorem zero256_is : Is (zero256 (F := Ideal)) (fun _ _ => 0) := fun a b => by pointwise [zero256]; rfl

/-- Two rows of one head are a tile of queries; the other head's rows have no such lane. -/
theorem four (f : ℕ → ℕ → ℕ → ℝ) (x : ℕ → ℕ → ℝ) (T l : ℕ) (hl : l < 128) :
    0 + ∑ a ∈ range 128, f 0 (T + a) l * lane x 0 (T + a) l + ∑ a ∈ range 128, f 0 (T + 128 + a) l * lane x 0 (T + 128 + a) l
      + ∑ a ∈ range 128, f 1 (T + a) l * lane x 1 (T + a) l + ∑ a ∈ range 128, f 1 (T + 128 + a) l * lane x 1 (T + 128 + a) l
      = ∑ a ∈ range 256, f (l / 64) (T + a) l * x (T + a) l := by
  rw [show 256 = 128 + 128 from rfl, sum_range_add]
  simp only [lane, ← add_assoc]
  by_cases h : l / 64 = 0
  · simp [h]
  · have h1 : l / 64 = 1 := by omega
    simp [h1]

section Shares

variable {t0 t1 t2 t3 : Tile Ideal} {r0 r1 r2 r3 : Row Ideal}

theorem kSum_is {n : ℕ} (h0 : TileIs (P.z 0) (P.dw 0) t0 (256 * n) e) (h1 : TileIs (P.z 0) (P.dw 0) t1 (256 * n + 128) e)
    (h2 : TileIs (P.z 1) (P.dw 1) t2 (256 * n) e) (h3 : TileIs (P.z 1) (P.dw 1) t3 (256 * n + 128) e)
    (g0 : RowIs P r0 0 (256 * n)) (g1 : RowIs P r1 0 (256 * n + 128)) (g2 : RowIs P r2 1 (256 * n)) (g3 : RowIs P r3 1 (256 * n + 128)) :
    Is (kSum t0 t1 t2 t3 r0 r1 r2 r3) (fun b l => P.addK n (e + b) l) :=
  (kAdd_is (kAdd_is (kAdd_is (kAdd_is zero256_is h0.dz g0.q) h1.dz g1.q) h2.dz g2.q) h3.dz g3.q).congr fun b _ l hl =>
    four (fun h t _ => if e + b < t then P.d h t (e + b) else 0) P.q (256 * n) l hl

theorem vSum_is {n : ℕ} (h0 : TileIs (P.z 0) (P.dw 0) t0 (256 * n) e) (h1 : TileIs (P.z 0) (P.dw 0) t1 (256 * n + 128) e)
    (h2 : TileIs (P.z 1) (P.dw 1) t2 (256 * n) e) (h3 : TileIs (P.z 1) (P.dw 1) t3 (256 * n + 128) e)
    (g0 : RowIs P r0 0 (256 * n)) (g1 : RowIs P r1 0 (256 * n + 128)) (g2 : RowIs P r2 1 (256 * n)) (g3 : RowIs P r3 1 (256 * n + 128)) :
    Is (vSum t0 t1 t2 t3 r0 r1 r2 r3) (fun b l => P.addV n (e + b) l) :=
  (kAdd_is (x := extf .f32 t3.w bitsLt_bf16_f32) (kAdd_is (x := extf .f32 t2.w bitsLt_bf16_f32) (kAdd_is (x := extf .f32 t1.w bitsLt_bf16_f32)
    (kAdd_is (x := extf .f32 t0.w bitsLt_bf16_f32) zero256_is h0.w g0.d) h1.w g1.d) h2.w g2.d) h3.w g3.d).congr fun b _ l hl =>
    four (fun h t _ => if e + b < t then P.w h t (e + b) else 0) P.c (256 * n) l hl

end Shares

/-! ### The carries of a grid point -/

/-- The four rows' carries after the keys from `e` on. -/
structure CarryIs (c : Carry Ideal) (T e : ℕ) : Prop where
  c0 : ChIs P c.c0 0 T e
  c1 : ChIs P c.c1 0 (T + 128) e
  c2 : ChIs P c.c2 1 T e
  c3 : ChIs P c.c3 1 (T + 128) e

/-- Some query always has survival left when the threshold is minus infinity. -/
theorem alive_is {c : Carry Ideal} {T : ℕ} (hc : CarryIs (P := P) c T e) : c.alive = 1#1 := by
  unfold Carry.alive
  pointwise [k0_pay16]
  rw [decide_eq_true (p := _ < _)]
  · rfl
  rw [show (Named.named κ "skip" 0xC2DC0000#32 : Ideal .f32) = (⊥ : EReal) from rfl]
  refine (Finset.lt_fold_max _).2 (.inr ⟨(0, 0), mem_univ _, ?_⟩)
  refine lt_of_lt_of_le ?_ (le_max_of_le_left (le_max_of_le_left (le_max_left _ _)))
  rw [hc.c0.n 0 0]
  exact EReal.bot_lt_coe _

/-! ### Blocks of rows of an array -/

theorem rowsAt_read {ty : EltTy} (X : S8192x128.Idx → Elt Ideal ty) (e : ℕ) (hb : ∀ b, ![e, 0] b + S256x128.size b ≤ S8192x128.size b)
    (a : Fin 256) (l : Fin 128) (hlt : e + a.val < 8192) :
    rowsAt (F := Ideal) X ![e, 0] hb (ix2 a l) = X (ix2 ⟨e + a.val, hlt⟩ l) := by
  refine congrArg X ?_
  funext b
  apply Fin.ext
  match b with
  | ⟨0, _⟩ => show e + 1 * a.val = e + a.val; omega
  | ⟨1, _⟩ => show 0 + 1 * l.val = l.val; omega

theorem rowsAt_is {X : S8192x128.Idx → Ideal .bf16} {f : ℕ → ℕ → ℝ} (hX : Is X f) {off : Fin 2 → ℕ}
    (hb : ∀ b, off b + S256x128.size b ≤ S8192x128.size b) (ho : off = ![e, 0]) :
    Is (rowsAt (F := Ideal) (e := .bf16) X off hb) (fun a l => f (e + a) l) := by
  subst ho
  intro a l
  have h0 := hb 0
  have hlt : e + a.val < 8192 := by have := a.isLt; change e + 256 ≤ 8192 at h0; omega
  exact (rowsAt_read (ty := .bf16) X e hb a l hlt).trans (hX ⟨e + a.val, hlt⟩ l)

theorem rows2At_read {ty : EltTy} (X : S8192x128.Idx → Elt Ideal ty) (e : ℕ) (hb : ∀ b, ![e, 0] b + S512x128.size b ≤ S8192x128.size b)
    (a : Fin 512) (l : Fin 128) (hlt : e + a.val < 8192) :
    rows2At (F := Ideal) X ![e, 0] hb (ix2 a l) = X (ix2 ⟨e + a.val, hlt⟩ l) := by
  refine congrArg X ?_
  funext b
  apply Fin.ext
  match b with
  | ⟨0, _⟩ => show e + 1 * a.val = e + a.val; omega
  | ⟨1, _⟩ => show 0 + 1 * l.val = l.val; omega

theorem rows2At_is {X : S8192x128.Idx → Ideal .bf16} {f : ℕ → ℕ → ℝ} (hX : Is X f) {off : Fin 2 → ℕ}
    (hb : ∀ b, off b + S512x128.size b ≤ S8192x128.size b) (ho : off = ![e, 0]) :
    Is (rows2At (F := Ideal) (e := .bf16) X off hb) (fun a l => f (e + a) l) := by
  subst ho
  intro a l
  have h0 := hb 0
  have hlt : e + a.val < 8192 := by have := a.isLt; change e + 512 ≤ 8192 at h0; omega
  exact (rows2At_read (ty := .bf16) X e hb a l hlt).trans (hX ⟨e + a.val, hlt⟩ l)

theorem addAt_is {X : S8192x128.Idx → Ideal .f32} {f g : ℕ → ℕ → ℝ} (hX : Is X f) {s : FVec Ideal S256x128 .f32} (hs : Is s g) {off : Fin 2 → ℕ}
    (hb : ∀ b, off b + S256x128.size b ≤ S8192x128.size b) (ho : off = ![e, 0]) :
    Is (addAt (F := Ideal) X off hb s) (fun r l => f r l + if e ≤ r ∧ r < e + 256 then g (r - e) l else 0) := by
  subst ho
  intro a l
  have hl := l.isLt
  by_cases h : e ≤ a.val ∧ a.val < e + 256
  · have hy : (ix2 a l : S8192x128.Idx) = (Rect.unit (s := S8192x128) ![e, 0] S256x128.size hb).emb (ix2 (⟨a.val - e, by omega⟩ : Fin 256) l : S256x128.Idx) := by
      funext b
      apply Fin.ext
      match b with
      | ⟨0, _⟩ => show a.val = e + 1 * (a.val - e); omega
      | ⟨1, _⟩ => show l.val = 0 + 1 * l.val; omega
    unfold addAt
    rw [hy]
    refine (put_emb X (Rect.unit (s := S8192x128) ![e, 0] S256x128.size hb) _ (ix2 (⟨a.val - e, by omega⟩ : Fin 256) l)).trans ?_
    show _ = ((f a.val l.val + if e ≤ a.val ∧ a.val < e + 256 then g (a.val - e) l.val else 0 : ℝ) : EReal)
    rw [if_pos h]
    have e1 : bump (rowsAt (F := Ideal) (e := .f32) X ![e, 0] hb) s (ix2 (⟨a.val - e, by omega⟩ : Fin 256) l)
        = rowsAt (F := Ideal) (e := .f32) X ![e, 0] hb (ix2 (⟨a.val - e, by omega⟩ : Fin 256) l) + s (ix2 (⟨a.val - e, by omega⟩ : Fin 256) l) := by
      pointwise [bump]
    rw [e1, rowsAt_read (ty := .f32) X e hb _ _ (by show e + (a.val - e) < 8192; omega), hX _ _, hs _ _, ← EReal.coe_add]
    show ((f (e + (a.val - e)) l.val + g (a.val - e) l.val : ℝ) : EReal) = _
    rw [show e + (a.val - e) = a.val by omega]
  · unfold addAt
    rw [put_of_not]
    · refine (hX a l).trans ?_
      show _ = ((f a.val l.val + if e ≤ a.val ∧ a.val < e + 256 then g (a.val - e) l.val else 0 : ℝ) : EReal)
      rw [if_neg h, add_zero]
    intro x hx
    apply h
    have h0 : e + 1 * (x 0).val = a.val := congrArg Fin.val (congrFun hx 0)
    have h1 : (x 0).val < 256 := (x 0).isLt
    omega

/-! ### The loop -/

theorem off3_eq : ∀ j : Fin 32, k0_off3 (BitVec.ofNat 32 j.val) = ![256 * j.val, 0] := by decide
theorem off4_eq : ∀ j : Fin 32, k0_off4 (BitVec.ofNat 32 j.val) = ![256 * j.val, 0] := by decide
theorem goOn_ofNat : ∀ j : Fin 32, goOn (BitVec.ofNat 32 j.val) 1#1 := by decide
theorem sub_ofNat : ∀ j : Fin 32, (j.val = 0 ∧ (Scalar.subi (BitVec.ofNat 32 j.val) 1#32).toInt < 0)
    ∨ (0 < j.val ∧ Scalar.subi (BitVec.ofNat 32 j.val) 1#32 = BitVec.ofNat 32 (j.val - 1)) := by decide

/-- `J` tiles left: the next is number `J - 1`, or the number is below zero. -/
def Left (jb : BitVec 32) (J : ℕ) : Prop := (J = 0 ∧ jb.toInt < 0) ∨ (0 < J ∧ jb = BitVec.ofNat 32 (J - 1))

section While

variable {p : Pt Ideal} {n : ℕ} {K V : S8192x128.Idx → Ideal .bf16}

theorem next_carry (hp : PtIs (P := P) p (256 * n)) {c : Carry Ideal} (hc : CarryIs (P := P) c (256 * n) (e + 256)) (he : e + 256 ≤ 256 * n)
    {k v : FVec Ideal S256x128 .bf16} (hk : Is k (fun a l => P.k (e + a) l)) (hv : Is v (fun a l => P.v (e + a) l)) :
    CarryIs (P := P) (c.next p k v) (256 * n) e :=
  ⟨offC_is hp.tri hp.r0 hc.c0 he hk hv, offC_is hp.tri hp.r1 hc.c1 (by omega) hk hv, offC_is hp.tri hp.r2 hc.c2 he hk hv,
    offC_is hp.tri hp.r3 hc.c3 (by omega) hk hv⟩

theorem next_k (hp : PtIs (P := P) p (256 * n)) {c : Carry Ideal} (hc : CarryIs (P := P) c (256 * n) (e + 256)) (he : e + 256 ≤ 256 * n)
    {k v : FVec Ideal S256x128 .bf16} (hk : Is k (fun a l => P.k (e + a) l)) (hv : Is v (fun a l => P.v (e + a) l)) :
    Is (c.kShare p k v) (fun b l => P.addK n (e + b) l) :=
  kSum_is (offT_is hp.tri hp.r0 hc.c0 he hk hv) (offT_is hp.tri hp.r1 hc.c1 (by omega) hk hv) (offT_is hp.tri hp.r2 hc.c2 he hk hv)
    (offT_is hp.tri hp.r3 hc.c3 (by omega) hk hv) hp.r0 hp.r1 hp.r2 hp.r3

theorem next_v (hp : PtIs (P := P) p (256 * n)) {c : Carry Ideal} (hc : CarryIs (P := P) c (256 * n) (e + 256)) (he : e + 256 ≤ 256 * n)
    {k v : FVec Ideal S256x128 .bf16} (hk : Is k (fun a l => P.k (e + a) l)) (hv : Is v (fun a l => P.v (e + a) l)) :
    Is (c.vShare p k v) (fun b l => P.addV n (e + b) l) :=
  vSum_is (offT_is hp.tri hp.r0 hc.c0 he hk hv) (offT_is hp.tri hp.r1 hc.c1 (by omega) hk hv) (offT_is hp.tri hp.r2 hc.c2 he hk hv)
    (offT_is hp.tri hp.r3 hc.c3 (by omega) hk hv) hp.r0 hp.r1 hp.r2 hp.r3

/-- An array with the contributions of the rows below `J` tiles. -/
theorem add_rows {X : S8192x128.Idx → Ideal .f32} {f A : ℕ → ℕ → ℝ} (J : ℕ)
    (hX : Is X (fun r l => (f r l + if 256 * J ≤ r ∧ r < 256 * J + 256 then A (256 * J + (r - 256 * J)) l else 0) + if r < 256 * J then A r l else 0)) :
    Is X (fun r l => f r l + if r < 256 * (J + 1) then A r l else 0) :=
  hX.congr fun r _ l _ => by
    by_cases h : r < 256 * J
    · rw [if_neg (by omega), if_pos h, if_pos (by omega), add_zero]
    · by_cases h' : r < 256 * (J + 1)
      · rw [if_pos (by omega), if_neg h, if_pos h', add_zero, show 256 * J + (r - 256 * J) = r by omega]
      · rw [if_neg (by omega), if_neg h, if_neg h', add_zero]

theorem while_is (hp : PtIs (P := P) p (256 * n)) (hn : n < 32) (hK : Is K P.k) (hV : Is V P.v) :
    ∀ (fuel J : ℕ) (jb : BitVec 32), Left jb J → J ≤ fuel → J ≤ n → ∀ (c : Carry Ideal) (x y : S8192x128.Idx → Ideal .f32) (fx fy : ℕ → ℕ → ℝ),
      CarryIs (P := P) c (256 * n) (256 * J) → Is x fx → Is y fy →
      CarryIs (P := P) (whileF p K V fuel jb 1#1 c x y).1 (256 * n) 0
        ∧ Is (whileF p K V fuel jb 1#1 c x y).2.1 (fun r l => fx r l + if r < 256 * J then P.addK n r l else 0)
        ∧ Is (whileF p K V fuel jb 1#1 c x y).2.2 (fun r l => fy r l + if r < 256 * J then P.addV n r l else 0) := by
  intro fuel
  induction fuel with
  | zero =>
    intro J jb _ hJ _ c x y fx fy hc hx hy
    obtain rfl : J = 0 := by omega
    exact ⟨hc, hx.congr fun r _ l _ => by rw [if_neg (by omega), add_zero], hy.congr fun r _ l _ => by rw [if_neg (by omega), add_zero]⟩
  | succ fuel ih =>
    intro J jb hj hJ hJn c x y fx fy hc hx hy
    unfold whileF
    rcases hj with ⟨rfl, hneg⟩ | ⟨hpos, rfl⟩
    · rw [dif_neg (fun h => not_goOn _ _ hneg h.1)]
      exact ⟨hc, hx.congr fun r _ l _ => by rw [if_neg (by omega), add_zero], hy.congr fun r _ l _ => by rw [if_neg (by omega), add_zero]⟩
    · obtain ⟨J, rfl⟩ : ∃ J', J = J' + 1 := ⟨J - 1, by omega⟩
      have hJ32 : J < 32 := by omega
      have hg := goOn_ofNat ⟨J, hJ32⟩
      have o3 := off3_eq ⟨J, hJ32⟩
      have o4 := off4_eq ⟨J, hJ32⟩
      have hs := sub_ofNat ⟨J, hJ32⟩
      rw [Nat.add_sub_cancel]
      rw [dif_pos ⟨hg, chk_of J hJ32⟩]
      have hk := rowsAt_is hK (k0_off3_inb (BitVec.ofNat 32 J) (chk_of J hJ32)) o3
      have hv := rowsAt_is hV (k0_off3_inb (BitVec.ofNat 32 J) (chk_of J hJ32)) o3
      have hc' : CarryIs (P := P) c (256 * n) (256 * J + 256) := by rwa [show 256 * (J + 1) = 256 * J + 256 by ring] at hc
      have h1 := next_carry hp hc' (by omega) hk hv
      rw [alive_is h1]
      have hx' := addAt_is hx (next_k hp hc' (by omega) hk hv) (k0_off4_inb (BitVec.ofNat 32 J) (chk_of J hJ32)) o4
      have hy' := addAt_is hy (next_v hp hc' (by omega) hk hv) (k0_off4_inb (BitVec.ofNat 32 J) (chk_of J hJ32)) o4
      obtain ⟨r1, r2, r3⟩ := ih J _ hs (by omega) (by omega) _ _ _ _ _ h1 hx' hy'
      exact ⟨r1, add_rows J r2, add_rows J r3⟩

end While

end Cert.SbBwdIdeal.Hand

end

end
-- ==== Proof.SbNear.lean ====
/-
  The stick-breaking attention's gradient kernel on finite numbers: the masks, a grid point's rows, its near tiles, and
  the two gradients after every grid point of a pair of heads.
-/
module

public import proofs.«01_k».proof.Proof.SbLoop
public import proofs.«01_k».proof.Proof.SbRun
public import proofs.«01_k».proof.Proof.Read

@[expose] public section

set_option maxRecDepth 16384

noncomputable section

namespace Cert.SbBwdIdeal.Hand

open Cert.Sb Cert.Grad Cert.SbBwdIdeal Cert.SbBwdIdeal.Gen Idealize.ShloMosaic Idealize.ShloMosaic.TcCoe Finset

variable {P : Pair}

theorem mask3 (T : ℕ) : MaskIs k0_pay3 T T := by
  intro a b
  pointwise [k0_pay3, k0_pay2]
  rw [WordCmp.cmpi_slt_ofNat (by omega) (by omega)]
  simp only [Nat.add_lt_add_iff_left]

theorem mask4 (T : ℕ) : MaskIs k0_pay4 (T + 128) T := by
  intro a b
  pointwise [k0_pay4, k0_pay2]
  rw [WordCmp.cmpi_slt_ofNat (by omega) (by omega)]
  simp only [add_assoc, Nat.add_lt_add_iff_left]

/-- A comparison's bit as a number. -/
theorem bit_is (p : Prop) [Decidable p] :
    (FloatOps.sitofp FTy.f32 (BitVec.setWidth 32 (BitVec.ofBool (decide p))) : Ideal .f32) = ((if p then 1 else 0 : ℝ) : EReal) := by
  by_cases h : p
  · show (((BitVec.setWidth 32 (BitVec.ofBool (decide p))).toInt : ℝ) : EReal) = _
    rw [decide_eq_true h, if_pos h, show (BitVec.setWidth 32 (BitVec.ofBool true)).toInt = 1 by decide]
    norm_num
  · show (((BitVec.setWidth 32 (BitVec.ofBool (decide p))).toInt : ℝ) : EReal) = _
    rw [decide_eq_false h, if_neg h, show (BitVec.setWidth 32 (BitVec.ofBool false)).toInt = 0 by decide]
    norm_num

theorem tri_is : TriIs k0_pay246 (k0_pay1 k0_pay247) := by
  refine ⟨fun a b => ?_, fun a b => ?_⟩
  · pointwise [k0_pay246]
    rw [WordCmp.cmpi_sgt_ofNat (by omega) (by omega)]
    exact bit_is _
  · pointwise [k0_pay1, k0_pay247]
    rw [WordCmp.cmpi_sge_ofNat (by omega) (by omega)]
    exact bit_is _

theorem zero16 : Ideal.ofBits .bf16 0x0000#16 = ((0 : ℝ) : EReal) := by simp [Ideal.ofBits_zero]

theorem q0_is {x : FVec Ideal S256x128 .bf16} {f : ℕ → ℕ → ℝ} (hx : Is x f) : Is (k0_pay236 (F := Ideal) x) (fun a l => lane f 0 a l) := by
  intro a l
  have hl : (l.val / 64 = 0) ↔ l.val < 64 := by omega
  pointwise [k0_pay236, k0_pay233, k0_pay234, k0_pay235]
  rw [sel_slt (by omega) (by omega)]
  unfold lane
  simp only [hl]
  split <;> simp [hx a l]

theorem q1_is {x : FVec Ideal S256x128 .bf16} {f : ℕ → ℕ → ℝ} (hx : Is x f) : Is (k0_pay237 (F := Ideal) x) (fun a l => lane f 1 a l) := by
  intro a l
  have hl : (l.val / 64 = 1) ↔ ¬ l.val < 64 := by omega
  pointwise [k0_pay237, k0_pay233, k0_pay234, k0_pay235]
  rw [sel_slt (by omega) (by omega)]
  unfold lane
  simp only [hl]
  split <;> simp [hx a l]

theorem d0_is {x : FVec Ideal S256x128 .bf16} {f : ℕ → ℕ → ℝ} (hx : Is x f) : Is (k0_pay241 (F := Ideal) x) (fun a l => lane f 0 a l) := by
  intro a l
  have hl : (l.val / 64 = 0) ↔ l.val < 64 := by omega
  pointwise [k0_pay241, k0_pay238, k0_pay239, k0_pay240]
  rw [sel_slt (by omega) (by omega)]
  unfold lane
  simp only [hl]
  split <;> simp [hx a l]

theorem d1_is {x : FVec Ideal S256x128 .bf16} {f : ℕ → ℕ → ℝ} (hx : Is x f) : Is (k0_pay242 (F := Ideal) x) (fun a l => lane f 1 a l) := by
  intro a l
  have hl : (l.val / 64 = 1) ↔ ¬ l.val < 64 := by omega
  pointwise [k0_pay242, k0_pay238, k0_pay239, k0_pay240]
  rw [sel_slt (by omega) (by omega)]
  unfold lane
  simp only [hl]
  split <;> simp [hx a l]

theorem l0_is {x : FVec Ideal S256x128 .bf16} {y : FVec Ideal S256x128 .f32} {f g : ℕ → ℕ → ℝ} (hx : Is x f) (hy : Is y g) :
    Is (k0_pay244 (F := Ideal) x y) (fun a _ => ∑ l ∈ range 128, lane f 0 a l * g a l) := by
  intro a b
  obtain rfl : b = 0 := Fin.eq_zero b
  pointwise [k0_pay244, k0_pay243, k0_pay238, k0_pay234]
  refine sum_of _ (fun l => lane f 0 a l * g a l) fun l => ?_
  have hl : (l.val / 64 = 0) ↔ l.val < 64 := by omega
  rw [sel_slt (by omega) (by omega), hx a l, hy a l]
  unfold lane
  simp only [hl]
  split <;> simp

theorem l1_is {x : FVec Ideal S256x128 .bf16} {y : FVec Ideal S256x128 .f32} {f g : ℕ → ℕ → ℝ} (hx : Is x f) (hy : Is y g) :
    Is (k0_pay245 (F := Ideal) x y) (fun a _ => ∑ l ∈ range 128, lane f 1 a l * g a l) := by
  intro a b
  obtain rfl : b = 0 := Fin.eq_zero b
  pointwise [k0_pay245, k0_pay243, k0_pay238, k0_pay234]
  refine sum_of _ (fun l => lane f 1 a l * g a l) fun l => ?_
  have hl : (l.val / 64 = 1) ↔ ¬ l.val < 64 := by omega
  rw [sel_slt (by omega) (by omega), hx a l, hy a l]
  unfold lane
  simp only [hl]
  split <;> simp

theorem top_is {x : FVec Ideal S256x128 .bf16} {f : ℕ → ℕ → ℝ} (hx : Is x f) : Is (top x) f := by
  intro a l
  pointwise [top]
  exact hx ⟨a.val, by omega⟩ l

theorem bot_is {x : FVec Ideal S256x128 .bf16} {f : ℕ → ℕ → ℝ} (hx : Is x f) : Is (bot x) (fun a l => f (128 + a) l) := by
  intro a l
  pointwise [bot]
  exact hx ⟨128 + a.val, by omega⟩ l

theorem topD_is {x : FVec Ideal S256x1 .f32} {f : ℕ → ℕ → ℝ} (hx : Is x f) : Is (topD x) f := by
  intro a l
  pointwise [topD]
  exact hx ⟨a.val, by omega⟩ _

theorem botD_is {x : FVec Ideal S256x1 .f32} {f : ℕ → ℕ → ℝ} (hx : Is x f) : Is (botD x) (fun a l => f (128 + a) l) := by
  intro a l
  pointwise [botD]
  exact hx ⟨128 + a.val, by omega⟩ _

theorem dqOf_is {c : Carry Ideal} {f0 f1 f2 f3 : ℕ → ℕ → ℝ} (h0 : Is c.c0.dq f0) (h1 : Is c.c1.dq f1) (h2 : Is c.c2.dq f2) (h3 : Is c.c3.dq f3) :
    Is (dqOf c) (fun a l => (if l / 64 = 0 then (if a < 128 then f0 a l else f1 (a - 128) l) else if a < 128 then f2 a l else f3 (a - 128) l) * (1 / 8)) := by
  intro a l
  have hl : (l.val / 64 = 0) ↔ l.val < 64 := by omega
  have h8 : Ideal.ofBits .f32 0x3E000000#32 = ((1 / 8 : ℝ) : EReal) := by
    simp [Ideal.ofBits, Ideal.ieee, -EReal.coe_mul]; norm_num
  unfold dqOf
  pointwise [k0_pay12, k0_pay234]
  rw [sel_slt (by omega) (by omega), h8]
  simp only [hl]
  by_cases ha : a.val < 128
  · simp only [dif_pos ha, if_pos ha, h0 _ _, h2 _ _]
    split <;> rw [← EReal.coe_mul]
  · simp only [dif_neg ha, if_neg ha, h1 _ _, h3 _ _]
    split <;> rw [← EReal.coe_mul]

/-- The output a head has for each query, lane by lane. -/
def _root_.Cert.Sb.Pair.o (P : Pair) (t l : ℕ) : ℝ := ∑ s ∈ range t, P.w (l / 64) t s * P.v s l

/-- The cotangent against the output is the sum of the weighted gradients. -/
theorem dl_eq (h t : ℕ) : ∑ l ∈ range 128, lane P.c h t l * P.o t l = ∑ s ∈ range t, gR (P.z h) (P.dw h) t s := by
  unfold Pair.o
  simp only [mul_sum]
  rw [sum_comm]
  refine sum_congr rfl fun s _ => ?_
  unfold gR Pair.dw
  rw [mul_sum]
  refine sum_congr rfl fun l _ => ?_
  unfold lane
  split
  · rename_i hh
    rw [hh]
    unfold Pair.w
    ring
  · simp

theorem row_top {q d : FVec Ideal S256x128 .bf16} {dl : FVec Ideal S256x1 .f32} {h T : ℕ} (hq : Is q (fun a l => lane P.q h (T + a) l))
    (hd : Is d (fun a l => lane P.c h (T + a) l)) (hl : Is dl (fun a _ => ∑ s ∈ range (T + a), gR (P.z h) (P.dw h) (T + a) s)) : RowIs P (rowT q d dl) h T :=
  ⟨top_is hq, top_is hd, topD_is hl⟩

theorem row_bot {q d : FVec Ideal S256x128 .bf16} {dl : FVec Ideal S256x1 .f32} {h T : ℕ} (hq : Is q (fun a l => lane P.q h (T + a) l))
    (hd : Is d (fun a l => lane P.c h (T + a) l)) (hl : Is dl (fun a _ => ∑ s ∈ range (T + a), gR (P.z h) (P.dw h) (T + a) s)) : RowIs P (rowB q d dl) h (T + 128) :=
  ⟨(bot_is hq).congr fun a _ l _ => by rw [← add_assoc], (bot_is hd).congr fun a _ l _ => by rw [← add_assoc],
    (botD_is hl).congr fun a _ l _ => by rw [← add_assoc]⟩

theorem ptAt_is {q d : S256x128.Idx → Ideal .bf16} {o : S256x128.Idx → Ideal .f32} {T : ℕ} (hq : Is q (fun a l => P.q (T + a) l))
    (hd : Is d (fun a l => P.c (T + a) l)) (ho : Is o (fun a l => P.o (T + a) l)) : PtIs (P := P) (ptAt (F := Ideal) q d o) T := by
  have hl0 := (l0_is hd ho).congr (g := fun a _ => ∑ s ∈ range (T + a), gR (P.z 0) (P.dw 0) (T + a) s) fun a _ _ _ => dl_eq 0 (T + a)
  have hl1 := (l1_is hd ho).congr (g := fun a _ => ∑ s ∈ range (T + a), gR (P.z 1) (P.dw 1) (T + a) s) fun a _ _ _ => dl_eq 1 (T + a)
  unfold ptAt
  rw [show tileAt (F := Ideal) (e := .bf16) q = q from tileAt_eq (F := Ideal) (e := .bf16) q, show tileAt (F := Ideal) (e := .bf16) d = d from tileAt_eq (F := Ideal) (e := .bf16) d,
    show tileAt (F := Ideal) (e := .f32) o = o from tileAt_eq (F := Ideal) (e := .f32) o]
  exact ⟨tri_is, row_top (q0_is hq) (d0_is hd) hl0, row_bot (q0_is hq) (d0_is hd) hl0, row_top (q1_is hq) (d1_is hd) hl1, row_bot (q1_is hq) (d1_is hd) hl1⟩

/-! ### The near tiles -/

theorem cond2_iff : ∀ t : Fin grid0.N, k0_cond2 (grid0.coords t) = 1#1 ↔ t.val % 32 = 0 := by decide +kernel
theorem coord1 : ∀ t : Fin grid0.N, ((grid0.coords t) 1).val = t.val % 32 := by decide +kernel
theorem off1_eq : ∀ t : Fin grid0.N, 0 < t.val % 32 → k0_off1 (grid0.coords t) = ![256 * (t.val % 32 - 1), 0] := by decide +kernel
theorem off20_eq : ∀ t : Fin grid0.N, 0 < t.val % 32 → k0_off2 (grid0.coords t) 0#32 = ![256 * (t.val % 32 - 1), 0] := by decide +kernel
theorem off21_eq : ∀ t : Fin grid0.N, 0 < t.val % 32 → k0_off2 (grid0.coords t) 1#32 = ![256 * (t.val % 32), 0] := by decide +kernel
theorem first_iff : ∀ t : Fin grid0.N, isFirst (grid0.coords t) = 1#1 ↔ t.val % 32 = 0 := by decide +kernel
theorem left_first : ∀ n : Fin 32, Left (Scalar.subi (BitVec.ofNat 32 n.val) 2#32) (n.val - 1) := by
  unfold Left
  decide

theorem addK_zero (n s l : ℕ) (h : 256 * (n + 1) ≤ s) : P.addK n s l = 0 := by
  refine sum_eq_zero fun a ha => ?_
  have := mem_range.1 ha
  rw [if_neg (by omega), zero_mul]

theorem addV_zero (n s l : ℕ) (h : 256 * (n + 1) ≤ s) : P.addV n s l = 0 := by
  refine sum_eq_zero fun a ha => ?_
  have := mem_range.1 ha
  rw [if_neg (by omega), zero_mul]

/-- Three parts of the rows are all of them. -/
theorem all_rows {X : S8192x128.Idx → Ideal .f32} {f A : ℕ → ℕ → ℝ} (n : ℕ) (hA : ∀ s l, 256 * (n + 1) ≤ s → A s l = 0)
    (hX : Is X (fun r l => (f r l + if 256 * (n - 1) ≤ r then A r l else 0) + if r < 256 * (n - 1) then A r l else 0)) :
    Is X (fun r l => f r l + A r l) :=
  hX.congr fun r _ l _ => by
    by_cases h1 : r < 256 * (n - 1)
    · rw [if_neg (by omega), if_pos h1, add_zero]
    · rw [if_pos (by omega), if_neg h1, add_zero]

/-- The two near tiles' rows. -/
theorem near_rows {X : S8192x128.Idx → Ideal .f32} {f A : ℕ → ℕ → ℝ} (n e : ℕ) (he : e + 256 = 256 * n) (hn : 0 < n) (hA : ∀ s l, 256 * (n + 1) ≤ s → A s l = 0)
    (hX : Is X (fun r l => (f r l + if e ≤ r ∧ r < e + 256 then A (e + (r - e)) l else 0)
      + if e + 256 ≤ r ∧ r < e + 256 + 256 then A (e + 256 + (r - (e + 256))) l else 0)) :
    Is X (fun r l => f r l + if 256 * (n - 1) ≤ r then A r l else 0) :=
  hX.congr fun r _ l _ => by
    by_cases h1 : r < 256 * (n - 1)
    · rw [if_neg (by omega), if_neg (by omega), if_neg (by omega), add_zero]
    by_cases h2 : r < 256 * n
    · rw [if_pos (by omega), if_neg (by omega), if_pos (by omega), add_zero, show e + (r - e) = r by omega]
    by_cases h3 : r < 256 * n + 256
    · rw [if_neg (by omega), if_pos (by omega), if_pos (by omega), add_zero, show e + 256 + (r - (e + 256)) = r by omega]
    · rw [if_neg (by omega), if_neg (by omega), if_pos (by omega), hA r l (by omega), add_zero]

/-- The first tile's rows are all that the first queries reach. -/
theorem first_rows {X : S8192x128.Idx → Ideal .f32} {f A : ℕ → ℕ → ℝ} (hA : ∀ s l, 256 * (0 + 1) ≤ s → A s l = 0)
    (hX : Is X (fun r l => f r l + if 0 ≤ r ∧ r < 0 + 256 then A (0 + (r - 0)) l else 0)) :
    Is X (fun r l => f r l + if 256 * (0 - 1) ≤ r then A r l else 0) :=
  hX.congr fun r _ l _ => by
    by_cases h3 : r < 256
    · rw [if_pos (by omega), if_pos (by omega), Nat.zero_add, Nat.sub_zero]
    · rw [if_neg (by omega), if_pos (by omega), hA r l (by omega)]

section Near

variable {p : Pt Ideal}

theorem firstC_is (hp : PtIs (P := P) p (256 * 0)) {k v : FVec Ideal S256x128 .bf16} (hk : Is k (fun a l => P.k (0 + a) l)) (hv : Is v (fun a l => P.v (0 + a) l)) :
    CarryIs (P := P) (firstC p k v) (256 * 0) 0 :=
  have m3 : MaskIs k0_pay3 (256 * 0) 0 := mask3 _
  have m4 : MaskIs k0_pay4 (256 * 0 + 128) 0 := mask4 _
  ⟨diagC_is m3 hp.tri hp.r0 (by omega) hk hv, diagC_is m4 hp.tri hp.r1 (by omega) hk hv,
    diagC_is m3 hp.tri hp.r2 (by omega) hk hv, diagC_is m4 hp.tri hp.r3 (by omega) hk hv⟩

theorem firstK_is (hp : PtIs (P := P) p (256 * 0)) {k v : FVec Ideal S256x128 .bf16} (hk : Is k (fun a l => P.k (0 + a) l)) (hv : Is v (fun a l => P.v (0 + a) l)) :
    Is (firstK p k v) (fun b l => P.addK 0 (0 + b) l) :=
  have m3 : MaskIs k0_pay3 (256 * 0) 0 := mask3 _
  have m4 : MaskIs k0_pay4 (256 * 0 + 128) 0 := mask4 _
  kSum_is (diagT_is m3 hp.tri hp.r0 (by omega) hk hv) (diagT_is m4 hp.tri hp.r1 (by omega) hk hv)
    (diagT_is m3 hp.tri hp.r2 (by omega) hk hv) (diagT_is m4 hp.tri hp.r3 (by omega) hk hv) hp.r0 hp.r1 hp.r2 hp.r3

theorem firstV_is (hp : PtIs (P := P) p (256 * 0)) {k v : FVec Ideal S256x128 .bf16} (hk : Is k (fun a l => P.k (0 + a) l)) (hv : Is v (fun a l => P.v (0 + a) l)) :
    Is (firstV p k v) (fun b l => P.addV 0 (0 + b) l) :=
  have m3 : MaskIs k0_pay3 (256 * 0) 0 := mask3 _
  have m4 : MaskIs k0_pay4 (256 * 0 + 128) 0 := mask4 _
  vSum_is (diagT_is m3 hp.tri hp.r0 (by omega) hk hv) (diagT_is m4 hp.tri hp.r1 (by omega) hk hv)
    (diagT_is m3 hp.tri hp.r2 (by omega) hk hv) (diagT_is m4 hp.tri hp.r3 (by omega) hk hv) hp.r0 hp.r1 hp.r2 hp.r3

variable {n e : ℕ} (hp : PtIs (P := P) p (256 * n)) (he : e + 256 = 256 * n)
  {k v : FVec Ideal S512x128 .bf16} (hk : Is k (fun a l => P.k (e + a) l)) (hv : Is v (fun a l => P.v (e + a) l))

include hp he hk hv

theorem wideCs_is : CarryIs (P := P) (wideCs p k v) (256 * n) e :=
  have m3 : MaskIs k0_pay3 (256 * n) (e + 256) := by rw [he]; exact mask3 _
  have m4 : MaskIs k0_pay4 (256 * n + 128) (e + 256) := by rw [he]; exact mask4 _
  ⟨wideC_is m3 hp.tri hp.r0 (by omega) (by omega) hk hv, wideC_is m4 hp.tri hp.r1 (by omega) (by omega) hk hv,
    wideC_is m3 hp.tri hp.r2 (by omega) (by omega) hk hv, wideC_is m4 hp.tri hp.r3 (by omega) (by omega) hk hv⟩

theorem wideOK_is : Is (wideOK p k v) (fun b l => P.addK n (e + b) l) :=
  have m3 : MaskIs k0_pay3 (256 * n) (e + 256) := by rw [he]; exact mask3 _
  have m4 : MaskIs k0_pay4 (256 * n + 128) (e + 256) := by rw [he]; exact mask4 _
  kSum_is (wideO_is m3 hp.tri hp.r0 (by omega) (by omega) hk hv) (wideO_is m4 hp.tri hp.r1 (by omega) (by omega) hk hv)
    (wideO_is m3 hp.tri hp.r2 (by omega) (by omega) hk hv) (wideO_is m4 hp.tri hp.r3 (by omega) (by omega) hk hv) hp.r0 hp.r1 hp.r2 hp.r3

theorem wideOV_is : Is (wideOV p k v) (fun b l => P.addV n (e + b) l) :=
  have m3 : MaskIs k0_pay3 (256 * n) (e + 256) := by rw [he]; exact mask3 _
  have m4 : MaskIs k0_pay4 (256 * n + 128) (e + 256) := by rw [he]; exact mask4 _
  vSum_is (wideO_is m3 hp.tri hp.r0 (by omega) (by omega) hk hv) (wideO_is m4 hp.tri hp.r1 (by omega) (by omega) hk hv)
    (wideO_is m3 hp.tri hp.r2 (by omega) (by omega) hk hv) (wideO_is m4 hp.tri hp.r3 (by omega) (by omega) hk hv) hp.r0 hp.r1 hp.r2 hp.r3

theorem wideDK_is : Is (wideDK p k v) (fun b l => P.addK n (e + 256 + b) l) :=
  have m3 : MaskIs k0_pay3 (256 * n) (e + 256) := by rw [he]; exact mask3 _
  have m4 : MaskIs k0_pay4 (256 * n + 128) (e + 256) := by rw [he]; exact mask4 _
  kSum_is (wideD_is m3 hp.tri hp.r0 (by omega) hk hv) (wideD_is m4 hp.tri hp.r1 (by omega) hk hv)
    (wideD_is m3 hp.tri hp.r2 (by omega) hk hv) (wideD_is m4 hp.tri hp.r3 (by omega) hk hv) hp.r0 hp.r1 hp.r2 hp.r3

theorem wideDV_is : Is (wideDV p k v) (fun b l => P.addV n (e + 256 + b) l) :=
  have m3 : MaskIs k0_pay3 (256 * n) (e + 256) := by rw [he]; exact mask3 _
  have m4 : MaskIs k0_pay4 (256 * n + 128) (e + 256) := by rw [he]; exact mask4 _
  vSum_is (wideD_is m3 hp.tri hp.r0 (by omega) hk hv) (wideD_is m4 hp.tri hp.r1 (by omega) hk hv)
    (wideD_is m3 hp.tri hp.r2 (by omega) hk hv) (wideD_is m4 hp.tri hp.r3 (by omega) hk hv) hp.r0 hp.r1 hp.r2 hp.r3

end Near

/-- What stands after the near tiles of query tile `n`. -/
structure NearIs (P : Pair) (s : Carry Ideal × (S8192x128.Idx → Ideal .f32) × (S8192x128.Idx → Ideal .f32)) (n : ℕ) (fx fy : ℕ → ℕ → ℝ) : Prop where
  c : CarryIs (P := P) s.1 (256 * n) (256 * (n - 1))
  x : Is s.2.1 (fun r l => fx r l + if 256 * (n - 1) ≤ r then P.addK n r l else 0)
  y : Is s.2.2 (fun r l => fy r l + if 256 * (n - 1) ≤ r then P.addV n r l else 0)

/-- What stands after a grid point. -/
structure DoneIs (P : Pair) (s : Carry Ideal × (S8192x128.Idx → Ideal .f32) × (S8192x128.Idx → Ideal .f32)) (n : ℕ) (fx fy : ℕ → ℕ → ℝ) : Prop where
  c : CarryIs (P := P) s.1 (256 * n) 0
  x : Is s.2.1 (fun r l => fx r l + P.addK n r l)
  y : Is s.2.2 (fun r l => fy r l + P.addV n r l)

variable {K V : S8192x128.Idx → Ideal .bf16} {p : Pt Ideal}

theorem near_is (t : Fin grid0.N) (hp : PtIs (P := P) p (256 * (t.val % 32))) (hK : Is K P.k) (hV : Is V P.v)
    {s : (S8192x128.Idx → Ideal .f32) × (S8192x128.Idx → Ideal .f32)} {fx fy : ℕ → ℕ → ℝ} (hx : Is s.1 fx) (hy : Is s.2 fy) :
    NearIs P (nearF (F := Ideal) (grid0.coords t) p K V s) (t.val % 32) fx fy := by
  by_cases h0 : t.val % 32 = 0
  · have hc2 := (cond2_iff t).2 h0
    rw [h0] at hp ⊢
    have hk := rowsAt_is hK inb_S8192x128_S256x128_0_0 rfl
    have hv := rowsAt_is hV inb_S8192x128_S256x128_0_0 rfl
    have hx' := addAt_is hx (firstK_is hp hk hv) inb_S8192x128_S256x128_0_0 rfl
    have hy' := addAt_is hy (firstV_is hp hk hv) inb_S8192x128_S256x128_0_0 rfl
    unfold nearF
    rw [dif_pos hc2]
    exact ⟨firstC_is hp hk hv, first_rows (addK_zero 0) hx', first_rows (addV_zero 0) hy'⟩
  · have hc2 : ¬ k0_cond2 (grid0.coords t) = 1#1 := fun h => h0 ((cond2_iff t).1 h)
    have hpos : 0 < t.val % 32 := by omega
    have o1 := off1_eq t hpos
    have o20 := off20_eq t hpos
    have o21 := off21_eq t hpos
    have he : 256 * (t.val % 32 - 1) + 256 = 256 * (t.val % 32) := by omega
    rw [← he] at o21
    have hk := rows2At_is hK (k0_off1_inb (grid0.coords t) hc2) o1
    have hv := rows2At_is hV (k0_off1_inb (grid0.coords t) hc2) o1
    have hx' := addAt_is (addAt_is hx (wideOK_is hp he hk hv) (k0_off2_inb (grid0.coords t) hc2 0) o20) (wideDK_is hp he hk hv)
      (k0_off2_inb (grid0.coords t) hc2 1) o21
    have hy' := addAt_is (addAt_is hy (wideOV_is hp he hk hv) (k0_off2_inb (grid0.coords t) hc2 0) o20) (wideDV_is hp he hk hv)
      (k0_off2_inb (grid0.coords t) hc2 1) o21
    unfold nearF
    rw [dif_neg hc2]
    exact ⟨wideCs_is hp he hk hv, near_rows _ _ he hpos (addK_zero _) hx', near_rows _ _ he hpos (addV_zero _) hy'⟩

theorem loop_is (t : Fin grid0.N) (hp : PtIs (P := P) p (256 * (t.val % 32))) (hK : Is K P.k) (hV : Is V P.v)
    {s : Carry Ideal × (S8192x128.Idx → Ideal .f32) × (S8192x128.Idx → Ideal .f32)} {fx fy : ℕ → ℕ → ℝ} (hs : NearIs P s (t.val % 32) fx fy) :
    DoneIs P (loopF (F := Ideal) (grid0.coords t) p K V s) (t.val % 32) fx fy := by
  have hn32 : t.val % 32 < 32 := by omega
  unfold loopF
  rw [coord1 t, alive_is hs.c]
  obtain ⟨r1, r2, r3⟩ := while_is hp hn32 hK hV 32 (t.val % 32 - 1) _ (left_first ⟨t.val % 32, hn32⟩) (by omega) (by omega) _ _ _ _ _ hs.c hs.x hs.y
  exact ⟨r1, all_rows _ (addK_zero _) r2, all_rows _ (addV_zero _) r3⟩

theorem clear_zero : Is (k0_pay231 (F := Ideal)) (fun _ _ => 0) := fun a b => by pointwise [k0_pay231]; rfl
theorem clear_zero' : Is (k0_pay232 (F := Ideal)) (fun _ _ => 0) := fun a b => by pointwise [k0_pay232]; rfl

/-- A grid point from the sums of the query tiles before it to the sums with its own. -/
theorem point_is (t : Fin grid0.N) {q d : S256x128.Idx → Ideal .bf16} {o : S256x128.Idx → Ideal .f32}
    (hq : Is q (fun a l => P.q (256 * (t.val % 32) + a) l)) (hd : Is d (fun a l => P.c (256 * (t.val % 32) + a) l))
    (ho : Is o (fun a l => P.o (256 * (t.val % 32) + a) l)) (hK : Is K P.k) (hV : Is V P.v)
    {s : (S8192x128.Idx → Ideal .f32) × (S8192x128.Idx → Ideal .f32)}
    (hs : t.val % 32 ≠ 0 → Is s.1 (fun r l => ∑ n ∈ range (t.val % 32), P.addK n r l) ∧ Is s.2 (fun r l => ∑ n ∈ range (t.val % 32), P.addV n r l)) :
    DoneIs P (pointF (F := Ideal) (grid0.coords t) q d o K V s) (t.val % 32)
      (fun r l => ∑ n ∈ range (t.val % 32), P.addK n r l) (fun r l => ∑ n ∈ range (t.val % 32), P.addV n r l) := by
  have hp := ptAt_is hq hd ho
  have hc : Is (clearF (F := Ideal) (grid0.coords t) s).1 (fun r l => ∑ n ∈ range (t.val % 32), P.addK n r l)
      ∧ Is (clearF (F := Ideal) (grid0.coords t) s).2 (fun r l => ∑ n ∈ range (t.val % 32), P.addV n r l) := by
    unfold clearF
    by_cases h0 : t.val % 32 = 0
    · rw [if_pos ((first_iff t).2 h0), h0, put_all, put_all]
      exact ⟨clear_zero, clear_zero'⟩
    · rw [if_neg (fun h => h0 ((first_iff t).1 h))]
      exact hs h0
  exact loop_is t hp hK hV (near_is t hp hK hV hc.1 hc.2)

end Cert.SbBwdIdeal.Hand

end

end
-- ==== Proof.SbfLoop.lean ====
/-
  The stick-breaking attention's forward kernel on finite numbers: what a row carries, tile by tile, and the output
  tile of a grid point.
-/
module

public import proofs.«01_k».proof.Proof.SbfRun
public import proofs.«01_k».proof.Proof.SbNear

@[expose] public section

set_option maxRecDepth 16384

noncomputable section

namespace Cert.SbFwdIdeal.Hand

open Cert.Sb Cert.Grad Cert.SbFwdIdeal Cert.SbFwdIdeal.Gen Idealize.ShloMosaic Idealize.ShloMosaic.TcCoe Finset
open Cert.SbBwdIdeal.Hand (zOf zWide lsOf nOf accRow eOf keep qAdd blk blk2 colsL colsR top bot rowsAt rows2At tileAt goOn not_goOn)
open Cert.SbBwdIdeal.Hand (zOf_is nOf_is accRow_is keep_is eOf_is qAdd_is e_mask blk_is blk2_is zWide_is colsL_is colsR_is wideQ_is MaskIs
  bit_is zero16 top_is bot_is rowsAt_is rows2At_is goOn_ofNat sub_ofNat Left left_first)

variable {P : Pair}

/-- What a row of 128 queries of head `h` from `T` on carries after the keys from `e` on. -/
structure ChIs (P : Pair) (c : Ch Ideal) (h T e : ℕ) : Prop where
  n : Is c.n (fun a _ => ∑ s ∈ Ico e (T + a), nR (P.z h (T + a) s))
  o : Is c.o (fun a l => ∑ s ∈ Ico e (T + a), P.w h (T + a) s * P.v s l)

/-- The triangle of ones below the diagonal. -/
abbrev TriIs (tri : FVec Ideal S256x256 .bf16) : Prop := Is tri (fun c b => if b < c then 1 else 0)

variable {tri : FVec Ideal S256x256 .bf16} {q : FVec Ideal S128x128 .bf16} {c : Ch Ideal} {h T e : ℕ}

/-- The sum over a tile's keys and the later ones. -/
theorem tail_o (a l : ℕ) : ∑ b ∈ range 256, (if e + b < T + a then wR (P.z h) (T + a) (e + b) else 0) * P.v (e + b) l
    + ∑ s ∈ Ico (e + 256) (T + a), P.w h (T + a) s * P.v s l = ∑ s ∈ Ico e (T + a), P.w h (T + a) s * P.v s l := by
  rw [← sum_tail (fun s => P.w h (T + a) s * P.v s l) (T + a) 256 e]
  congr 1
  exact sum_congr rfl fun s _ => by rw [ite_mul, zero_mul]; rfl

theorem run0_is (hT : T + 128 ≤ e + 1) : Is (run0 (F := Ideal)) (fun a _ => ∑ s ∈ Ico e (T + a), nR (P.z h (T + a) s)) := by
  have z1 : Is (run0 (F := Ideal)) (fun _ _ => 0) := fun a b => by pointwise [run0]; rfl
  exact z1.congr fun a ha _ _ => by rw [Ico_eq_empty (by omega), sum_empty]

theorem out0_is (hT : T + 128 ≤ e + 1) : Is (out0 (F := Ideal)) (fun a l => ∑ s ∈ Ico e (T + a), P.w h (T + a) s * P.v s l) := by
  have z1 : Is (out0 (F := Ideal)) (fun _ _ => 0) := fun a b => by pointwise [out0]; rfl
  exact z1.congr fun a ha _ _ => by rw [Ico_eq_empty (by omega), sum_empty]

/-- Log-survivals of a tile before the queries. -/
theorem nOff_is {z : FVec Ideal S128x256 .f32} (hz : Is z (fun a b => P.z h (T + a) (e + b))) (hT : e + 256 ≤ T) :
    Is (nOf z) (fun a b => if e + b < T + a then nR (P.z h (T + a) (e + b)) else 0) :=
  (nOf_is hz).congr fun a _ b _ => by rw [if_pos (by omega)]

theorem offC_is (ht : TriIs tri) (hq : Is q (fun a l => lane P.q h (T + a) l)) (hc : ChIs P c h T (e + 256)) (hT : e + 256 ≤ T)
    {k v : FVec Ideal S256x128 .bf16} (hk : Is k (fun a l => P.k (e + a) l)) (hv : Is v (fun a l => P.v (e + a) l)) :
    ChIs P (offC tri q c k v) h T e :=
  have hz : Is (zOf q (blk k)) (fun a b => P.z h (T + a) (e + b)) := zOf_is hq (blk_is hk)
  have hn := nOff_is hz hT
  have hw := (e_mask ht hc.n hz hn).congr (g := fun a b => if e + b < T + a then wR (P.z h) (T + a) (e + b) else 0)
    fun a _ b _ => by rw [if_pos (by omega)]
  ⟨(accRow_is hc.n hn).congr fun a _ _ _ => sum_tail (fun s => nR (P.z h (T + a) s)) (T + a) 256 e,
    (qAdd_is hc.o hw (blk_is hv)).congr fun a _ l _ => tail_o a l⟩

variable {m : IVec S128x256 1}

theorem wD_is (hm : MaskIs m T e) (ht : TriIs tri) (hT : T + 128 ≤ e + 256) {z : FVec Ideal S128x256 .f32}
    (hz : Is z (fun a b => P.z h (T + a) (e + b))) :
    Is (wD m tri z) (fun a b => if e + b < T + a then wR (P.z h) (T + a) (e + b) else 0) :=
  have hn := keep_is (nOf_is hz) m (fun a b => e + b < T + a) hm
  keep_is (e_mask ht (run0_is (by omega)) hz hn) m (fun a b => e + b < T + a) hm

theorem runD_is (hm : MaskIs m T e) (hT : T + 128 ≤ e + 256) {z : FVec Ideal S128x256 .f32}
    (hz : Is z (fun a b => P.z h (T + a) (e + b))) :
    Is (accRow run0 (keep m (nOf z))) (fun a _ => ∑ s ∈ Ico e (T + a), nR (P.z h (T + a) s)) :=
  (accRow_is (run0_is (P := P) (h := h) (T := T) (e := e + 256) (by omega)) (keep_is (nOf_is hz) m (fun a b => e + b < T + a) hm)).congr
    fun a _ _ _ => sum_tail (fun s => nR (P.z h (T + a) s)) (T + a) 256 e

theorem diagC_is (hm : MaskIs m T e) (ht : TriIs tri) (hq : Is q (fun a l => lane P.q h (T + a) l)) (hT : T + 128 ≤ e + 256)
    {k v : FVec Ideal S256x128 .bf16} (hk : Is k (fun a l => P.k (e + a) l)) (hv : Is v (fun a l => P.v (e + a) l)) :
    ChIs P (diagC m tri q k v) h T e :=
  have hz : Is (zOf q (blk k)) (fun a b => P.z h (T + a) (e + b)) := zOf_is hq (blk_is hk)
  ⟨runD_is hm hT hz, (qAdd_is (out0_is (e := e + 256) (by omega)) (wD_is hm ht hT hz) (blk_is hv)).congr fun a _ l _ => tail_o a l⟩

theorem wideC_is (hm : MaskIs m T (e + 256)) (ht : TriIs tri) (hq : Is q (fun a l => lane P.q h (T + a) l)) (hT : T + 128 ≤ e + 512) (hT' : e + 256 ≤ T)
    {k v : FVec Ideal S512x128 .bf16} (hk : Is k (fun a l => P.k (e + a) l)) (hv : Is v (fun a l => P.v (e + a) l)) :
    ChIs P (wideC m tri q k v) h T e := by
  have hw := zWide_is hq (blk2_is hk)
  have hR : Is (colsR (zWide q (blk2 k))) (fun a b => P.z h (T + a) (e + 256 + b)) := (colsR_is hw).congr fun a _ b _ => by rw [← add_assoc]; rfl
  have hL : Is (colsL (zWide q (blk2 k))) (fun a b => P.z h (T + a) (e + b)) := colsL_is hw
  have hr : Is (runW m q k) (fun a _ => ∑ s ∈ Ico (e + 256) (T + a), nR (P.z h (T + a) s)) := runD_is hm (by omega) hR
  have hn := nOff_is hL hT'
  have ho : Is (wO m tri q k) (fun a b => if e + b < T + a then wR (P.z h) (T + a) (e + b) else 0) :=
    (e_mask ht hr hL hn).congr fun a _ b _ => by rw [if_pos (by omega)]
  have hd := wD_is hm ht (by omega) hR
  refine ⟨(accRow_is hr hn).congr fun a _ _ _ => sum_tail (fun s => nR (P.z h (T + a) s)) (T + a) 256 e,
    (wideQ_is (x := truncf .bf16 (wO m tri q k) bitsLt_bf16_f32) (y := truncf .bf16 (wD m tri (colsR (zWide q (blk2 k)))) bitsLt_bf16_f32)
      (out0_is (P := P) (h := h) (T := T) (e := e + 256 + 256) (by omega)) ho hd (blk2_is hv)).congr fun a _ l _ => ?_⟩
  rw [← tail_o (e := e) a l, ← tail_o (e := e + 256) a l]
  congr 2

/-! ### A grid point -/

/-- A grid point's queries of the two heads, from `T` on, and the triangle. -/
structure PtIs (P : Pair) (p : Pt Ideal) (T : ℕ) : Prop where
  tri : TriIs p.tri
  q0 : Is p.q0 (fun a l => lane P.q 0 (T + a) l)
  q1 : Is p.q1 (fun a l => lane P.q 1 (T + a) l)

/-- The four rows' carries after the keys from `e` on. -/
structure CarryIs (P : Pair) (c : Carry Ideal) (T e : ℕ) : Prop where
  c0 : ChIs P c.c0 0 T e
  c1 : ChIs P c.c1 0 (T + 128) e
  c2 : ChIs P c.c2 1 T e
  c3 : ChIs P c.c3 1 (T + 128) e

theorem bot_row {x : FVec Ideal S256x128 .bf16} (hx : Is x (fun a l => lane P.q h (T + a) l)) : Is (bot x) (fun a l => lane P.q h (T + 128 + a) l) :=
  (bot_is hx).congr fun a _ l _ => by rw [← add_assoc]

/-- Some query always has survival left when the threshold is minus infinity. -/
theorem alive_is {c : Carry Ideal} {T : ℕ} (hc : CarryIs P c T e) : c.alive = 1#1 := by
  unfold Carry.alive
  pointwise [k0_pay18]
  rw [decide_eq_true (p := _ < _)]
  · rfl
  rw [show (Named.named κ "skip" 0xC2DC0000#32 : Ideal .f32) = (⊥ : EReal) from rfl]
  refine (Finset.lt_fold_max _).2 (.inr ⟨(0, 0), mem_univ _, ?_⟩)
  refine lt_of_lt_of_le ?_ (le_max_of_le_left (le_max_of_le_left (le_max_left _ _)))
  rw [hc.c0.n 0 0]
  exact EReal.bot_lt_coe _

theorem mask8 (T : ℕ) : MaskIs k0_pay8 T T := by
  intro a b
  pointwise [k0_pay8, k0_pay7]
  rw [WordCmp.cmpi_slt_ofNat (by omega) (by omega)]
  simp only [Nat.add_lt_add_iff_left]

theorem mask9 (T : ℕ) : MaskIs k0_pay9 (T + 128) T := by
  intro a b
  pointwise [k0_pay9, k0_pay7]
  rw [WordCmp.cmpi_slt_ofNat (by omega) (by omega)]
  simp only [add_assoc, Nat.add_lt_add_iff_left]

theorem ptOf_is {x : FVec Ideal S256x128 .bf16} (hx : Is x (fun a l => P.q (T + a) l)) : PtIs P (ptOf x) T where
  tri := fun a b => by
    show k0_pay6 (F := Ideal) (ix2 a b) = _
    pointwise [k0_pay6]
    rw [WordCmp.cmpi_sgt_ofNat (by omega) (by omega)]
    exact bit_is _
  q0 := fun a l => by
    have hl : (l.val / 64 = 0) ↔ l.val < 64 := by omega
    show k0_pay4 (F := Ideal) x (ix2 a l) = _
    pointwise [k0_pay4, k0_pay1, k0_pay2, k0_pay3]
    rw [sel_slt (by omega) (by omega)]
    unfold lane
    simp only [hl]
    split <;> simp [hx a l]
  q1 := fun a l => by
    have hl : (l.val / 64 = 1) ↔ ¬ l.val < 64 := by omega
    show k0_pay5 (F := Ideal) x (ix2 a l) = _
    pointwise [k0_pay5, k0_pay1, k0_pay2, k0_pay3]
    rw [sel_slt (by omega) (by omega)]
    unfold lane
    simp only [hl]
    split <;> simp [hx a l]

theorem cond1_iff : ∀ t : Fin grid0.N, k0_cond1 (grid0.coords t) = 1#1 ↔ t.val % 32 = 0 := by decide +kernel
theorem coord1 : ∀ t : Fin grid0.N, ((grid0.coords t) 1).val = t.val % 32 := by decide +kernel
theorem off1_eq : ∀ t : Fin grid0.N, 0 < t.val % 32 → k0_off1 (grid0.coords t) = ![256 * (t.val % 32 - 1), 0] := by decide +kernel
theorem off2_eq : ∀ j : Fin 32, k0_off2 (BitVec.ofNat 32 j.val) = ![256 * j.val, 0] := by decide

section Point

variable {p : Pt Ideal} {K V : S8192x128.Idx → Ideal .bf16}

/-- The carries after the near tiles. -/
theorem near_is (t : Fin grid0.N) (hp : PtIs P p (256 * (t.val % 32))) (hK : Is K P.k) (hV : Is V P.v) :
    CarryIs P (nearF (F := Ideal) p K V (grid0.coords t)) (256 * (t.val % 32)) (256 * (t.val % 32 - 1)) := by
  by_cases h0 : t.val % 32 = 0
  · have hc := (cond1_iff t).2 h0
    rw [h0] at hp ⊢
    have hk := rowsAt_is (e := 0) hK inb_S8192x128_S256x128_0_0 rfl
    have hv := rowsAt_is (e := 0) hV inb_S8192x128_S256x128_0_0 rfl
    have m8 : MaskIs k0_pay8 (256 * 0) 0 := mask8 _
    have m9 : MaskIs k0_pay9 (256 * 0 + 128) 0 := mask9 _
    unfold nearF
    rw [dif_pos hc]
    exact ⟨diagC_is m8 hp.tri (top_is hp.q0) (by omega) hk hv, diagC_is m9 hp.tri (bot_row hp.q0) (by omega) hk hv,
      diagC_is m8 hp.tri (top_is hp.q1) (by omega) hk hv, diagC_is m9 hp.tri (bot_row hp.q1) (by omega) hk hv⟩
  · have hc : ¬ k0_cond1 (grid0.coords t) = 1#1 := fun h => h0 ((cond1_iff t).1 h)
    have hpos : 0 < t.val % 32 := by omega
    have o1 := off1_eq t hpos
    have he : 256 * (t.val % 32 - 1) + 256 = 256 * (t.val % 32) := by omega
    have hk := rows2At_is hK (k0_off1_inb (grid0.coords t) hc) o1
    have hv := rows2At_is hV (k0_off1_inb (grid0.coords t) hc) o1
    have m8 : MaskIs k0_pay8 (256 * (t.val % 32)) (256 * (t.val % 32 - 1) + 256) := by rw [he]; exact mask8 _
    have m9 : MaskIs k0_pay9 (256 * (t.val % 32) + 128) (256 * (t.val % 32 - 1) + 256) := by rw [he]; exact mask9 _
    unfold nearF
    rw [dif_neg hc]
    exact ⟨wideC_is m8 hp.tri (top_is hp.q0) (by omega) (by omega) hk hv, wideC_is m9 hp.tri (bot_row hp.q0) (by omega) (by omega) hk hv,
      wideC_is m8 hp.tri (top_is hp.q1) (by omega) (by omega) hk hv, wideC_is m9 hp.tri (bot_row hp.q1) (by omega) (by omega) hk hv⟩

theorem next_is {n : ℕ} (hp : PtIs P p (256 * n)) {c : Carry Ideal} (hc : CarryIs P c (256 * n) (e + 256)) (he : e + 256 ≤ 256 * n)
    {k v : FVec Ideal S256x128 .bf16} (hk : Is k (fun a l => P.k (e + a) l)) (hv : Is v (fun a l => P.v (e + a) l)) :
    CarryIs P (c.next p k v) (256 * n) e :=
  ⟨offC_is hp.tri (top_is hp.q0) hc.c0 he hk hv, offC_is hp.tri (bot_row hp.q0) hc.c1 (by omega) hk hv,
    offC_is hp.tri (top_is hp.q1) hc.c2 he hk hv, offC_is hp.tri (bot_row hp.q1) hc.c3 (by omega) hk hv⟩

/-- The loop takes in all the tiles left. -/
theorem while_is {n : ℕ} (hp : PtIs P p (256 * n)) (hn : n < 32) (hK : Is K P.k) (hV : Is V P.v) :
    ∀ (fuel J : ℕ) (jb : BitVec 32), Left jb J → J ≤ fuel → J ≤ n → ∀ c : Carry Ideal,
      CarryIs P c (256 * n) (256 * J) → CarryIs P (whileF p K V fuel jb 1#1 c) (256 * n) 0 := by
  intro fuel
  induction fuel with
  | zero =>
    intro J jb _ hJ _ c hc
    obtain rfl : J = 0 := by omega
    exact hc
  | succ fuel ih =>
    intro J jb hj hJ hJn c hc
    unfold whileF
    rcases hj with ⟨rfl, hneg⟩ | ⟨hpos, rfl⟩
    · rw [dif_neg (fun h => not_goOn _ _ hneg h.1)]
      exact hc
    · obtain ⟨J, rfl⟩ : ∃ J', J = J' + 1 := ⟨J - 1, by omega⟩
      have hJ32 : J < 32 := by omega
      have hg := goOn_ofNat ⟨J, hJ32⟩
      have o2 := off2_eq ⟨J, hJ32⟩
      have hs := sub_ofNat ⟨J, hJ32⟩
      rw [Nat.add_sub_cancel]
      rw [dif_pos ⟨hg, chk_of J hJ32⟩]
      have hk := rowsAt_is hK (k0_off2_inb (BitVec.ofNat 32 J) (chk_of J hJ32)) o2
      have hv := rowsAt_is hV (k0_off2_inb (BitVec.ofNat 32 J) (chk_of J hJ32)) o2
      have hc' : CarryIs P c (256 * n) (256 * J + 256) := by rwa [show 256 * (J + 1) = 256 * J + 256 by ring] at hc
      have h1 := next_is hp hc' (by omega) hk hv
      rw [alive_is h1]
      exact ih J _ hs (by omega) (by omega) _ h1

theorem point_is (t : Fin grid0.N) (hp : PtIs P p (256 * (t.val % 32))) (hK : Is K P.k) (hV : Is V P.v) :
    CarryIs P (pointF (F := Ideal) p K V (grid0.coords t)) (256 * (t.val % 32)) 0 := by
  have hn32 : t.val % 32 < 32 := by omega
  have hs := near_is t hp hK hV
  unfold pointF
  rw [coord1 t, alive_is hs]
  exact while_is hp hn32 hK hV 32 (t.val % 32 - 1) _ (left_first ⟨t.val % 32, hn32⟩) (by omega) (by omega) _ hs

end Point

theorem pay19_is {x0 x1 x2 x3 : FVec Ideal S128x128 .f32} {f0 f1 f2 f3 : ℕ → ℕ → ℝ} (h0 : Is x0 f0) (h1 : Is x1 f1) (h2 : Is x2 f2) (h3 : Is x3 f3) :
    Is (k0_pay19 (F := Ideal) x0 x1 x2 x3)
      (fun a l => if l / 64 = 0 then (if a < 128 then f0 a l else f1 (a - 128) l) else if a < 128 then f2 a l else f3 (a - 128) l) := by
  intro a l
  have hl : (l.val / 64 = 0) ↔ l.val < 64 := by omega
  pointwise [k0_pay19, k0_pay2]
  rw [sel_slt (by omega) (by omega)]
  simp only [hl]
  by_cases ha : a.val < 128
  · simp only [dif_pos ha, if_pos ha, h0 _ _, h2 _ _]
    split <;> rfl
  · simp only [dif_neg ha, if_neg ha, h1 _ _, h3 _ _]
    split <;> rfl

/-- The output tile. -/
theorem out_is {c : Carry Ideal} {T : ℕ} (hc : CarryIs P c T 0) : Is (outOf c) (fun a l => P.o (T + a) l) :=
  (pay19_is hc.c0.o hc.c1.o hc.c2.o hc.c3.o).congr fun a ha l hl => by
    unfold Pair.o
    have hI : ∀ T, Ico 0 T = range T := fun T => by rw [range_eq_Ico]
    simp only [hI]
    by_cases h0 : l / 64 = 0
    · rw [if_pos h0, h0]
      by_cases h1 : a < 128
      · rw [if_pos h1]
      · rw [if_neg h1, show T + 128 + (a - 128) = T + a by omega]
    · rw [if_neg h0, show l / 64 = 1 by omega]
      by_cases h1 : a < 128
      · rw [if_pos h1]
      · rw [if_neg h1, show T + 128 + (a - 128) = T + a by omega]

end Cert.SbFwdIdeal.Hand

end

end
-- ==== Proof.SbArr.lean ====
/-
  The stick-breaking attention's gradient kernel on finite numbers: what its three result arrays hold after the run.
-/
module

public import proofs.«01_k».proof.Proof.SbNear
public import Idealize.ShloMosaic.Lib.Pipeline.ValueKit
public import Idealize.ShloMosaic.Lib.Pipeline.ReadBack
public import Idealize.ShloMosaic.Lib.Tactic
public import Idealize.ShloMosaic.Lib.Tactic.CleanTypes

@[expose] public section

set_option maxRecDepth 16384

noncomputable section

namespace Cert.Sb

open Finset

/-- Queries, keys, values and cotangents of all heads, 64 columns each. -/
structure All where
  q : ℕ → ℕ → ℝ
  k : ℕ → ℕ → ℝ
  v : ℕ → ℕ → ℝ
  c : ℕ → ℕ → ℝ

variable (A : All)

/-- The pair of heads number `p`. -/
def All.pair (p : ℕ) : Pair :=
  ⟨fun t l => A.q t (128 * p + l) * (1 / 8), fun t l => A.k t (128 * p + l), fun t l => A.v t (128 * p + l), fun t l => A.c t (128 * p + l)⟩

/-- A head's scores, -/
def All.z (h t s : ℕ) : ℝ := (∑ x ∈ range 64, A.q t (64 * h + x) * A.k s (64 * h + x)) * (1 / 8)
/-- and its weights' gradients. -/
def All.dw (h t s : ℕ) : ℝ := ∑ x ∈ range 64, A.c t (64 * h + x) * A.v s (64 * h + x)
/-- A head's weights, -/
def All.w (h t s : ℕ) : ℝ := wR (A.z h) t s
/-- and its scores' gradients. -/
def All.d (h t s : ℕ) : ℝ := dR (A.z h) (A.dw h) t s

/-- The output, -/
def All.o (t l : ℕ) : ℝ := ∑ s ∈ range t, A.w (l / 64) t s * A.v s l
/-- the queries' gradient, -/
def All.gq (t l : ℕ) : ℝ := (∑ s ∈ range t, A.d (l / 64) t s * A.k s l) * (1 / 8)
/-- the keys', -/
def All.gk (s l : ℕ) : ℝ := ∑ t ∈ range 8192, (if s < t then A.d (l / 64) t s else 0) * (A.q t l * (1 / 8))
/-- and the values'. -/
def All.gv (s l : ℕ) : ℝ := ∑ t ∈ range 8192, (if s < t then A.w (l / 64) t s else 0) * A.c t l

theorem sum_lane (x y : ℕ → ℝ) (h : ℕ) (hh : h < 2) :
    ∑ l ∈ range 128, (if l / 64 = h then x l else 0) * y l = ∑ a ∈ range 64, x (64 * h + a) * y (64 * h + a) := by
  rw [show 128 = 64 + 64 from rfl, sum_range_add]
  obtain rfl | rfl : h = 0 ∨ h = 1 := by omega
  · rw [sum_congr rfl (g := fun a => x a * y a) fun a ha => by rw [if_pos (by have := mem_range.1 ha; omega)],
      sum_eq_zero (s := range 64) (f := fun a => (if (64 + a) / 64 = 0 then x (64 + a) else 0) * y (64 + a)) fun a ha => by rw [if_neg (by omega), zero_mul], add_zero]
    exact sum_congr rfl fun a _ => by rw [Nat.mul_zero, Nat.zero_add]
  · rw [sum_eq_zero (s := range 64) (f := fun a => (if a / 64 = 1 then x a else 0) * y a) fun a ha => by rw [if_neg (by have := mem_range.1 ha; omega), zero_mul], zero_add]
    exact sum_congr rfl fun a ha => by rw [if_pos (by have := mem_range.1 ha; omega)]

theorem pair_z {p h : ℕ} (hh : h < 2) : (A.pair p).z h = A.z (2 * p + h) := by
  funext t s
  refine (sum_lane (fun l => A.q t (128 * p + l) * (1 / 8)) (fun l => A.k s (128 * p + l)) h hh).trans ?_
  unfold All.z
  rw [sum_mul]
  refine sum_congr rfl fun a _ => ?_
  rw [show 128 * p + (64 * h + a) = 64 * (2 * p + h) + a by ring]
  ring

theorem pair_dw {p h : ℕ} (hh : h < 2) : (A.pair p).dw h = A.dw (2 * p + h) := by
  funext t s
  refine (sum_lane (fun l => A.c t (128 * p + l)) (fun l => A.v s (128 * p + l)) h hh).trans ?_
  unfold All.dw
  refine sum_congr rfl fun a _ => ?_
  rw [show 128 * p + (64 * h + a) = 64 * (2 * p + h) + a by ring]

theorem pair_w {p h : ℕ} (hh : h < 2) : (A.pair p).w h = A.w (2 * p + h) := by
  funext t s
  unfold Pair.w All.w
  rw [pair_z A hh]

theorem pair_d {p h : ℕ} (hh : h < 2) : (A.pair p).d h = A.d (2 * p + h) := by
  funext t s
  unfold Pair.d All.d
  rw [pair_z A hh, pair_dw A hh]

theorem pair_o (p t l : ℕ) (hl : l < 128) : (A.pair p).o t l = A.o t (128 * p + l) := by
  unfold Pair.o All.o
  rw [pair_w A (by omega), show (128 * p + l) / 64 = 2 * p + l / 64 by omega]
  rfl

/-- A sum over tiles of 256. -/
theorem sum_tiles (f : ℕ → ℝ) (N : ℕ) : ∑ n ∈ range N, ∑ a ∈ range 256, f (256 * n + a) = ∑ t ∈ range (256 * N), f t := by
  induction N with
  | zero => rfl
  | succ N ih => rw [sum_range_succ, ih, show 256 * (N + 1) = 256 * N + 256 by ring, sum_range_add]

theorem pair_gk (p s l : ℕ) (hl : l < 128) : ∑ n ∈ range 32, (A.pair p).addK n s l = A.gk s (128 * p + l) := by
  unfold Pair.addK All.gk
  rw [pair_d A (by omega), show (128 * p + l) / 64 = 2 * p + l / 64 by omega]
  exact sum_tiles (fun t => (if s < t then A.d (2 * p + l / 64) t s else 0) * (A.q t (128 * p + l) * (1 / 8))) 32

theorem pair_gv (p s l : ℕ) (hl : l < 128) : ∑ n ∈ range 32, (A.pair p).addV n s l = A.gv s (128 * p + l) := by
  unfold Pair.addV All.gv
  rw [pair_w A (by omega), show (128 * p + l) / 64 = 2 * p + l / 64 by omega]
  exact sum_tiles (fun t => (if s < t then A.w (2 * p + l / 64) t s else 0) * (A.c t (128 * p + l))) 32

theorem pair_gq (p t l : ℕ) (hl : l < 128) : (∑ s ∈ range t, (A.pair p).d (l / 64) t s * (A.pair p).k s l) * (1 / 8) = A.gq t (128 * p + l) := by
  unfold All.gq
  rw [pair_d A (by omega), show (128 * p + l) / 64 = 2 * p + l / 64 by omega]
  rfl

end Cert.Sb

namespace Cert.SbBwdIdeal.Hand

open Cert.Sb Cert.Grad Cert.SbBwdIdeal Cert.SbBwdIdeal.Gen Idealize.ShloMosaic Idealize.ShloMosaic.TcCoe Finset
open Idealize.ShloMosaic.Pipeline (Dat)

variable (m : (ℓ : Loc nD τ sig) → Buf (Elt Ideal) ℓ)

/-- The arrays the grid reads, as it finds them. -/
abbrev aQ (c : Dev nD) : S8192x512.Idx → EReal := V m c main_v30
abbrev aKV (c : Dev nD) : S8192x1024.Idx → EReal := V m c main_v32
abbrev aO (c : Dev nD) : S8192x512.Idx → EReal := V m c main_v27
abbrev aC (c : Dev nD) : S8192x512.Idx → EReal := V m c main_v33

/-- What those hold, of finite arguments. -/
structure ArrIs (A : All) (c : Dev nD) : Prop where
  q : Is (aQ m c) (fun t l => A.q t l * (1 / 8))
  kv : Is (aKV m c) (fun t l => if l < 512 then A.k t l else A.v t (l - 512))
  o : Is (aO m c) A.o
  c : Is (aC m c) A.c

/-- The windows' index maps over the grid's points. -/
theorem idx0 : ∀ t : Fin (cfg0 (F := Ideal)).N, win0_0.index t = ![t.val % 32, t.val / 32] ∧ win0_1.index t = ![0, t.val / 32]
    ∧ win0_2.index t = ![0, 4 + t.val / 32] ∧ win0_3.index t = ![t.val % 32, t.val / 32] ∧ win0_4.index t = ![t.val % 32, t.val / 32]
    ∧ win0_5.index t = ![t.val % 32, t.val / 32] ∧ win0_6.index t = ![0, t.val / 32] ∧ win0_7.index t = ![0, t.val / 32] :=
  (by decide +kernel : ∀ t : Fin grid0.N, _)

theorem lt128 (t : Fin (cfg0 (F := Ideal)).N) : t.val < 128 := by have := t.isLt; have hN : (cfg0 (F := Ideal)).N = 128 := N_0; omega

variable {m} {A : All} {c : Dev nD}

theorem rd_is {R C : ℕ} {X : (⟨2, ![R, C]⟩ : Shape).Idx → EReal} {f : ℕ → ℕ → ℝ} (hX : Is X f) {r l : ℕ} (hr : r < R) (hl : l < C) : rd X r l = ((f r l : ℝ) : EReal) := by
  rw [rd_of_lt _ hr hl]
  exact hX _ _

theorem blk_q (h : ArrIs m A c) (t : Fin (cfg0 (F := Ideal)).N) :
    Is (iblk m c 0 t : S256x128.Idx → EReal) (fun a l => (A.pair (t.val / 32)).q (256 * (t.val % 32) + a) l) := by
  intro a l
  have ht := lt128 t
  have e : (iblk m c 0 t : S256x128.Idx → EReal) (ix2 a l) = rd (aQ m c) (256 * (t.val % 32) + a.val) (128 * (t.val / 32) + l.val) := by
    rw [rd_of_lt _ (by omega) (by omega)]
    obtain ⟨e0, -⟩ := idx0 t
    blk_ext [iblk, e0]
  rw [e, rd_is h.q (by omega) (by omega)]
  rfl

theorem blk_k (h : ArrIs m A c) (t : Fin (cfg0 (F := Ideal)).N) :
    Is (iblk m c 1 t : S8192x128.Idx → EReal) (A.pair (t.val / 32)).k := by
  intro a l
  have ht := lt128 t
  have e : (iblk m c 1 t : S8192x128.Idx → EReal) (ix2 a l) = rd (aKV m c) a.val (128 * (t.val / 32) + l.val) := by
    rw [rd_of_lt _ (by omega) (by omega)]
    obtain ⟨-, e0, -⟩ := idx0 t
    blk_ext [iblk, e0]
  rw [e, rd_is h.kv (by omega) (by omega), if_pos (by omega)]
  rfl

theorem blk_v (h : ArrIs m A c) (t : Fin (cfg0 (F := Ideal)).N) :
    Is (iblk m c 2 t : S8192x128.Idx → EReal) (A.pair (t.val / 32)).v := by
  intro a l
  have ht := lt128 t
  have e : (iblk m c 2 t : S8192x128.Idx → EReal) (ix2 a l) = rd (aKV m c) a.val (128 * (4 + t.val / 32) + l.val) := by
    rw [rd_of_lt _ (by omega) (by omega)]
    obtain ⟨-, -, e0, -⟩ := idx0 t
    blk_ext [iblk, e0]
  rw [e, rd_is h.kv (by omega) (by omega), if_neg (by omega), show 128 * (4 + t.val / 32) + l.val - 512 = 128 * (t.val / 32) + l.val by omega]
  rfl

theorem blk_o (h : ArrIs m A c) (t : Fin (cfg0 (F := Ideal)).N) :
    Is (iblk m c 3 t : S256x128.Idx → EReal) (fun a l => (A.pair (t.val / 32)).o (256 * (t.val % 32) + a) l) := by
  intro a l
  have ht := lt128 t
  have e : (iblk m c 3 t : S256x128.Idx → EReal) (ix2 a l) = rd (aO m c) (256 * (t.val % 32) + a.val) (128 * (t.val / 32) + l.val) := by
    rw [rd_of_lt _ (by omega) (by omega)]
    obtain ⟨-, -, -, e0, -⟩ := idx0 t
    blk_ext [iblk, e0]
  rw [e, rd_is h.o (by omega) (by omega), ← pair_o A _ _ _ l.isLt]

theorem blk_c (h : ArrIs m A c) (t : Fin (cfg0 (F := Ideal)).N) :
    Is (iblk m c 4 t : S256x128.Idx → EReal) (fun a l => (A.pair (t.val / 32)).c (256 * (t.val % 32) + a) l) := by
  intro a l
  have ht := lt128 t
  have e : (iblk m c 4 t : S256x128.Idx → EReal) (ix2 a l) = rd (aC m c) (256 * (t.val % 32) + a.val) (128 * (t.val / 32) + l.val) := by
    rw [rd_of_lt _ (by omega) (by omega)]
    obtain ⟨-, -, -, -, e0, -⟩ := idx0 t
    blk_ext [iblk, e0]
  rw [e, rd_is h.c (by omega) (by omega)]
  rfl

/-- A grid point, of the two gradients before it. -/
theorem step_is (h : ArrIs m A c) (t : Fin (cfg0 (F := Ideal)).N) {s : (S8192x128.Idx → Ideal .f32) × (S8192x128.Idx → Ideal .f32)}
    (hs : t.val % 32 ≠ 0 → Is s.1 (fun r l => ∑ n ∈ range (t.val % 32), (A.pair (t.val / 32)).addK n r l)
      ∧ Is s.2 (fun r l => ∑ n ∈ range (t.val % 32), (A.pair (t.val / 32)).addV n r l)) :
    DoneIs (A.pair (t.val / 32)) (stepAt m c t s) (t.val % 32) (fun r l => ∑ n ∈ range (t.val % 32), (A.pair (t.val / 32)).addK n r l)
      (fun r l => ∑ n ∈ range (t.val % 32), (A.pair (t.val / 32)).addV n r l) :=
  point_is t (blk_q h t) (blk_c h t) (blk_o h t) (blk_k h t) (blk_v h t) hs

/-- The two gradients in memory before a grid point. -/
theorem st_is (h : ArrIs m A c) : ∀ n, n ≤ 128 → n % 32 ≠ 0 →
    Is (stAt m c n).1 (fun r l => ∑ j ∈ range (n % 32), (A.pair (n / 32)).addK j r l)
      ∧ Is (stAt m c n).2 (fun r l => ∑ j ∈ range (n % 32), (A.pair (n / 32)).addV j r l) := by
  intro n
  induction n with
  | zero => intro _ h0; exact absurd rfl h0
  | succ n ih =>
    intro hn h0
    have hN : (cfg0 (F := Ideal)).N = 128 := N_0
    have d := step_is h ⟨n, by omega⟩ (fun h1 => ih (by omega) h1)
    rw [stAt_succ m c ⟨n, by omega⟩, show (n + 1) % 32 = n % 32 + 1 by omega, show (n + 1) / 32 = n / 32 by omega]
    exact ⟨d.x.congr fun r _ l _ => (sum_range_succ _ _).symm, d.y.congr fun r _ l _ => (sum_range_succ _ _).symm⟩

/-- What a grid point leaves. -/
theorem done_is (h : ArrIs m A c) (t : Fin (cfg0 (F := Ideal)).N) :
    DoneIs (A.pair (t.val / 32)) (stepAt m c t (stAt m c t.val)) (t.val % 32) (fun r l => ∑ n ∈ range (t.val % 32), (A.pair (t.val / 32)).addK n r l)
      (fun r l => ∑ n ∈ range (t.val % 32), (A.pair (t.val / 32)).addV n r l) :=
  step_is h t fun h1 => st_is h t.val (by have := lt128 t; omega) h1

/-- The queries' gradient of a tile. -/
theorem dq_tile (h : ArrIs m A c) (t : Fin (cfg0 (F := Ideal)).N) :
    Is (dqOf (stepAt m c t (stAt m c t.val)).1) (fun a l => A.gq (256 * (t.val % 32) + a) (128 * (t.val / 32) + l)) := by
  have d := (done_is h t).c
  refine (dqOf_is d.c0.dq d.c1.dq d.c2.dq d.c3.dq).congr fun a ha l hl => ?_
  rw [← pair_gq A _ _ _ hl]
  congr 1
  have hI : ∀ T, Ico 0 T = range T := fun T => by rw [range_eq_Ico]
  simp only [hI]
  by_cases h0 : l / 64 = 0
  · rw [if_pos h0, h0]
    by_cases h1 : a < 128
    · rw [if_pos h1]
    · rw [if_neg h1, show 256 * (t.val % 32) + 128 + (a - 128) = 256 * (t.val % 32) + a by omega]
  · rw [if_neg h0, show l / 64 = 1 by omega]
    by_cases h1 : a < 128
    · rw [if_pos h1]
    · rw [if_neg h1, show 256 * (t.val % 32) + 128 + (a - 128) = 256 * (t.val % 32) + a by omega]

theorem pay13_is {x : FVec Ideal S8192x128 .f32} {f : ℕ → ℕ → ℝ} (hx : Is x f) : Is (k0_pay13 (F := Ideal) x) f := by
  intro a l
  pointwise [k0_pay13]
  exact hx a l

theorem pay14_is {x : FVec Ideal S8192x128 .f32} {f : ℕ → ℕ → ℝ} (hx : Is x f) : Is (k0_pay14 (F := Ideal) x) f := by
  intro a l
  pointwise [k0_pay14]
  exact hx a l

/-- The keys' gradient of a pair of heads, after the pair's last grid point. -/
theorem dk_last (h : ArrIs m A c) (t : Fin (cfg0 (F := Ideal)).N) (ht : t.val % 32 = 31) :
    Is (k0_pay13 (F := Ideal) (stAt m c (t.val + 1)).1) (fun s l => A.gk s (128 * (t.val / 32) + l)) := by
  have d := (done_is h t).x
  rw [← stAt_succ m c t] at d
  refine (pay13_is d).congr fun s _ l hl => ?_
  rw [ht, ← pair_gk A _ _ _ hl]
  exact (sum_range_succ _ _).symm

/-- The values' gradient of a pair of heads, after the pair's last grid point. -/
theorem dv_last (h : ArrIs m A c) (t : Fin (cfg0 (F := Ideal)).N) (ht : t.val % 32 = 31) :
    Is (k0_pay14 (F := Ideal) (stAt m c (t.val + 1)).2) (fun s l => A.gv s (128 * (t.val / 32) + l)) := by
  have d := (done_is h t).y
  rw [← stAt_succ m c t] at d
  refine (pay14_is d).congr fun s _ l hl => ?_
  rw [ht, ← pair_gv A _ _ _ hl]
  exact (sum_range_succ _ _).symm

theorem arr_eq {R C : ℕ} {x : (⟨2, ![R, C]⟩ : Shape).Idx → EReal} {f : ℕ → ℕ → ℝ} (hx : Is x f) :
    x = fun j : (⟨2, ![R, C]⟩ : Shape).Idx => ((f (j 0).val (j 1).val : ℝ) : EReal) := by
  funext j
  have e : j = ix2 (j 0) (j 1) := by
    funext b
    match b with
    | ⟨0, _⟩ => rfl
    | ⟨1, _⟩ => rfl
  exact (congrArg x e).trans (hx _ _)

theorem final5 (h : ArrIs m A c) : (dats m 0 c).arrAt 5 (cfg0 (F := Ideal)).N = fun j : S8192x512.Idx => ((A.gq (j 0).val (j 1).val : ℝ) : EReal) := by
  refine (dats m 0 c).arrAt_eq_of_covers 5 _ (by decide +kernel) fun t hf y => ?_
  obtain ⟨-, -, -, -, -, e0, -⟩ := idx0 t
  have key := arr_eq (dq_tile h t)
  blk_simp [e0]
  rw [after_5, key]
  beta_reduce
  simp only [mul_comm (256 : ℕ), mul_comm (128 : ℕ)]

theorem final6 (h : ArrIs m A c) : (dats m 0 c).arrAt 6 (cfg0 (F := Ideal)).N = fun j : S8192x512.Idx => ((A.gk (j 0).val (j 1).val : ℝ) : EReal) := by
  refine (dats m 0 c).arrAt_eq_of_covers 6 _ (by decide +kernel) fun t hf y => ?_
  obtain ⟨-, -, -, -, -, -, e0, -⟩ := idx0 t
  have key := arr_eq (dk_last h t ((flush0_6 t).1 hf))
  blk_simp [e0]
  rw [after_6, key]
  beta_reduce
  simp only [mul_comm (256 : ℕ), mul_comm (128 : ℕ)]

theorem final7 (h : ArrIs m A c) : (dats m 0 c).arrAt 7 (cfg0 (F := Ideal)).N = fun j : S8192x512.Idx => ((A.gv (j 0).val (j 1).val : ℝ) : EReal) := by
  refine (dats m 0 c).arrAt_eq_of_covers 7 _ (by decide +kernel) fun t hf y => ?_
  obtain ⟨-, -, -, -, -, -, -, e0⟩ := idx0 t
  have key := arr_eq (dv_last h t ((flush0_7 t).1 hf))
  blk_simp [e0]
  rw [after_7, key]
  beta_reduce
  simp only [mul_comm (256 : ℕ), mul_comm (128 : ℕ)]

end Cert.SbBwdIdeal.Hand

end

end
-- ==== Proof.SbWindow.lean ====
/-
  Sums over a window that runs along the last axis of an array of rank three, and their two uses: the sum from an
  element on, and the sum up to it.
-/
module

public import proofs.«01_k».proof.Proof.SbReal

@[expose] public section

noncomputable section

namespace Cert.Sb

open Idealize.ShloMosaic Finset

/-- An array of rank three that reads as a function of three numbers. -/
def Is3 {a b c : ℕ} (x : (⟨3, ![a, b, c]⟩ : Shape).Idx → EReal) (f : ℕ → ℕ → ℕ → ℝ) : Prop :=
  ∀ (i : Fin a) (j : Fin b) (k : Fin c), x (ix3 i j k) = ((f i j k : ℝ) : EReal)

theorem Is3.congr {a b c : ℕ} {x : (⟨3, ![a, b, c]⟩ : Shape).Idx → EReal} {f g : ℕ → ℕ → ℕ → ℝ} (h : Is3 x f)
    (e : ∀ i j k, i < a → j < b → k < c → f i j k = g i j k) : Is3 x g := fun i j k => by rw [h i j k, e _ _ _ i.isLt j.isLt k.isLt]

theorem foldl_add {α : Type} (g : α → EReal) (l : List α) : ∀ v, l.foldl (fun r n => r + g n) v = v + (l.map g).sum := by
  induction l with
  | nil => intro v; simp
  | cons a l ih => intro v; rw [List.foldl_cons, ih, List.map_cons, List.sum_cons, add_assoc]

/-- The positions of a window along the last axis are numbered by that axis. -/
def lineEquiv (n : ℕ) : Fin n ≃ (⟨3, ![1, 1, n]⟩ : Shape).Idx where
  toFun k := ix3 0 0 k
  invFun i := i 2
  left_inv _ := rfl
  right_inv i := by
    funext a
    match a with
    | ⟨0, _⟩ => exact (Fin.eq_zero (i 0)).symm
    | ⟨1, _⟩ => exact (Fin.eq_zero (i 1)).symm
    | ⟨2, _⟩ => rfl

theorem window_line {a b n lo hi : ℕ} (x : (⟨3, ![a, b, n]⟩ : Shape).Idx → EReal) {u : Shape} (v : u.Idx → EReal) (hv : ∀ i, v i = 0)
    (h : (⟨3, ![a, b, n]⟩ : Shape).ReduceWindows ![1, 1, n] ![1, 1, 1] ![0, 0, lo] ![0, 0, hi] ⟨3, ![a, b, n]⟩) (hu : 0 < u.numel)
    {f : ℕ → ℕ → ℕ → ℝ} (hx : Is3 x f) (i : Fin a) (j : Fin b) (k : Fin n) :
    Host.reduceWindow (· + ·) ![1, 1, n] ![1, 1, 1] ![0, 0, lo] ![0, 0, hi] x v h hu (ix3 i j k)
      = ((∑ p ∈ range n, (if lo ≤ k.val + p ∧ k.val + p - lo < n then f i j (k.val + p - lo) else 0) : ℝ) : EReal) := by
  unfold Host.reduceWindow
  dsimp only
  rw [hv, foldl_add, zero_add, ← Fin.sum_univ_def]
  rw [← Fin.sum_univ_eq_sum_range (fun p => if lo ≤ k.val + p ∧ k.val + p - lo < n then f i j (k.val + p - lo) else 0) n, coe_sum]
  refine Fintype.sum_equiv ((⟨3, ![1, 1, n]⟩ : Shape).rowMajor.symm.trans (lineEquiv n).symm) _ _ fun q => ?_
  rw [Equiv.trans_apply]
  let y := (⟨3, ![1, 1, n]⟩ : Shape).rowMajor.symm q
  have y0 : (y 0).val = 0 := congrArg Fin.val (Fin.eq_zero (y 0))
  have y1 : (y 1).val = 0 := congrArg Fin.val (Fin.eq_zero (y 1))
  show _ = ((if lo ≤ k.val + (y 2).val ∧ k.val + (y 2).val - lo < n then f i j (k.val + (y 2).val - lo) else 0 : ℝ) : EReal)
  by_cases hc : lo ≤ k.val + (y 2).val ∧ k.val + (y 2).val - lo < n
  · rw [if_pos hc, dif_pos]
    · refine Eq.trans (congrArg x ?_) (hx i j ⟨k.val + (y 2).val - lo, hc.2⟩)
      funext q
      apply Fin.ext
      match q with
      | ⟨0, _⟩ => show i.val * 1 + (y 0).val - 0 = i.val; omega
      | ⟨1, _⟩ => show j.val * 1 + (y 1).val - 0 = j.val; omega
      | ⟨2, _⟩ => show k.val * 1 + (y 2).val - lo = k.val + (y 2).val - lo; omega
    · intro q
      match q with
      | ⟨0, _⟩ => show 0 ≤ i.val * 1 + (y 0).val ∧ i.val * 1 + (y 0).val - 0 < a; omega
      | ⟨1, _⟩ => show 0 ≤ j.val * 1 + (y 1).val ∧ j.val * 1 + (y 1).val - 0 < b; omega
      | ⟨2, _⟩ => show lo ≤ k.val * 1 + (y 2).val ∧ k.val * 1 + (y 2).val - lo < n; rw [Nat.mul_one]; exact hc
  · rw [if_neg hc, dif_neg]
    · rfl
    · intro h'
      have h2 : lo ≤ k.val * 1 + (y 2).val ∧ k.val * 1 + (y 2).val - lo < n := h' 2
      rw [Nat.mul_one] at h2
      exact hc h2

/-- The window from an element on. -/
theorem sum_from (g : ℕ → ℝ) (n k : ℕ) (hk : k < n) :
    ∑ p ∈ range n, (if 0 ≤ k + p ∧ k + p - 0 < n then g (k + p - 0) else 0) = ∑ s ∈ Ico k n, g s := by
  rw [sum_Ico_eq_sum_range, show range n = range ((n - k) + k) by rw [Nat.sub_add_cancel hk.le], sum_range_add,
    sum_eq_zero (s := range k) fun p hp => by rw [if_neg (by omega)], add_zero]
  exact sum_congr rfl fun p hp => by rw [if_pos (by have := mem_range.1 hp; omega), Nat.sub_zero]

/-- The window up to an element. -/
theorem sum_upto (g : ℕ → ℝ) (n k : ℕ) (hk : k < n) :
    ∑ p ∈ range n, (if n - 1 ≤ k + p ∧ k + p - (n - 1) < n then g (k + p - (n - 1)) else 0) = ∑ s ∈ range (k + 1), g s := by
  rw [show range n = range ((n - 1 - k) + (k + 1)) by rw [show n - 1 - k + (k + 1) = n by omega], sum_range_add,
    sum_eq_zero (s := range (n - 1 - k)) fun p hp => by rw [if_neg (by have := mem_range.1 hp; omega)], zero_add]
  exact sum_congr rfl fun p hp => by
    have := mem_range.1 hp
    rw [if_pos (by omega), show k + (n - 1 - k + p) - (n - 1) = p by omega]

/-- A window that runs from an element to the end sums the elements from there on. -/
theorem window_from {a b n hi : ℕ} (x : (⟨3, ![a, b, n]⟩ : Shape).Idx → Ideal .f32) {u : Shape} (v : u.Idx → Ideal .f32) (hv : ∀ i, v i = 0)
    (h : (⟨3, ![a, b, n]⟩ : Shape).ReduceWindows ![1, 1, n] ![1, 1, 1] ![0, 0, 0] ![0, 0, hi] ⟨3, ![a, b, n]⟩) (hu : 0 < u.numel)
    {f : ℕ → ℕ → ℕ → ℝ} (hx : Is3 x f) (i : Fin a) (j : Fin b) (k : Fin n) :
    Host.reduceWindowAdd (F := Ideal) (φ := .f32) ![1, 1, n] ![1, 1, 1] ![0, 0, 0] ![0, 0, hi] x v h hu (ix3 i j k) = ((∑ s ∈ Ico k.val n, f i j s : ℝ) : EReal) := by
  unfold Host.reduceWindowAdd
  rw [Ideal.hostReduceWindowAdd_def]
  exact (window_line x (u := u) _ (fun _ => hv _) h hu hx i j k).trans (congrArg _ (sum_from (f i j) n k.val k.isLt))

/-- A window that runs from the start to an element sums the elements up to it. -/
theorem window_upto {a b n lo : ℕ} (hn : lo = n - 1) (x : (⟨3, ![a, b, n]⟩ : Shape).Idx → Ideal .f32) {u : Shape} (v : u.Idx → Ideal .f32) (hv : ∀ i, v i = 0)
    (h : (⟨3, ![a, b, n]⟩ : Shape).ReduceWindows ![1, 1, n] ![1, 1, 1] ![0, 0, lo] ![0, 0, 0] ⟨3, ![a, b, n]⟩) (hu : 0 < u.numel)
    {f : ℕ → ℕ → ℕ → ℝ} (hx : Is3 x f) (i : Fin a) (j : Fin b) (k : Fin n) :
    Host.reduceWindowAdd (F := Ideal) (φ := .f32) ![1, 1, n] ![1, 1, 1] ![0, 0, lo] ![0, 0, 0] x v h hu (ix3 i j k) = ((∑ s ∈ range (k.val + 1), f i j s : ℝ) : EReal) := by
  subst hn
  unfold Host.reduceWindowAdd
  rw [Ideal.hostReduceWindowAdd_def]
  exact (window_line x (u := u) _ (fun _ => hv _) h hu hx i j k).trans (congrArg _ (sum_upto (f i j) n k.val k.isLt))

theorem sum_if (f : ℕ → ℝ) (s t n : ℕ) (h : t ≤ n) : ∑ s' ∈ Ico s n, (if s' < t then f s' else 0) = ∑ s' ∈ Ico s t, f s' := by
  rw [← sum_filter]
  congr 1
  ext x
  simp only [mem_filter, mem_Ico]
  omega

theorem suf_eq (z : ℕ → ℕ → ℝ) (t s n : ℕ) (hs : s < n) (ht : t ≤ n) :
    ∑ s' ∈ Ico s n, (if s' < t then nR (z t s') else 0) - (if s < t then nR (z t s) else 0) = suf z t s := by
  rw [sum_eq_sum_Ico_succ_bot hs, add_sub_cancel_left, sum_if (fun s' => nR (z t s')) _ _ _ ht]
  rfl

/-- The score's gradient from the product's, with the mask on each step. -/
theorem d_eq (z dw : ℕ → ℕ → ℝ) (t s : ℕ) :
    -(-((if s < t then dw t s else 0) * wR z t s) * Real.exp (nR (z t s)))
      + -(-(-(if s < t then -((if s < t then dw t s else 0) * wR z t s) + ∑ s' ∈ range (s + 1), (if s' < t then dw t s' else 0) * wR z t s' else 0) * Real.exp (lsR (z t s))))
      = if s < t then dR z dw t s else 0 := by
  by_cases h : s < t
  · simp only [if_pos h]
    rw [← dR_eq, sum_range_succ, if_pos h, sum_congr rfl fun s' hs => by
      show _ = gR z dw t s'
      rw [if_pos (by have := mem_range.1 hs; omega), mul_comm]; rfl]
    unfold gR
    ring
  · simp only [if_neg h]
    ring

/-- A sum over all the keys of which the mask leaves those before the query. -/
theorem sum_keys (f g : ℕ → ℝ) (t n : ℕ) (h : t ≤ n) : ∑ s ∈ range n, (if s < t then f s else 0) * g s = ∑ s ∈ range t, f s * g s := by
  rw [range_eq_Ico, range_eq_Ico, ← sum_if (fun s => f s * g s) 0 t n h]
  exact sum_congr rfl fun s _ => by split_ifs <;> simp

end Cert.Sb

end

end
-- ==== Proof.SbRef.lean ====
/-
  The stick-breaking attention's weights on finite numbers as the reference computes them, one operation at a time.
-/
module

public import proofs.«01_k».proof.Proof.SbArr
public import proofs.«01_k».proof.Proof.SbWindow
public import proofs.«01_k».proof.Proof.Gen.SbRefIdeal.Read

@[expose] public section

set_option maxRecDepth 16384

noncomputable section

namespace Cert.SbRefIdeal.Hand

open Cert.Sb Cert.Grad Cert.SbRefIdeal Cert.SbRefIdeal.Gen Cert.SbRefIdeal.Read Idealize.ShloMosaic Idealize.ShloMosaic.TcCoe Finset

variable {A : All} {x0 x1 x2 x3 : S8192x512.Idx → Ideal .f32}

theorem at_is {R C : ℕ} {x : (⟨2, ![R, C]⟩ : Shape).Idx → EReal} {f : ℕ → ℕ → ℝ} (hx : Is x f) (j : (⟨2, ![R, C]⟩ : Shape).Idx) :
    x j = ((f (j 0).val (j 1).val : ℝ) : EReal) := by rw [SbBwdIdeal.Hand.arr_eq hx]

theorem at3_is {a b c : ℕ} {x : (⟨3, ![a, b, c]⟩ : Shape).Idx → EReal} {f : ℕ → ℕ → ℕ → ℝ} (hx : Is3 x f) (j : (⟨3, ![a, b, c]⟩ : Shape).Idx) :
    x j = ((f (j 0).val (j 1).val (j 2).val : ℝ) : EReal) := by
  have e : j = ix3 (j 0) (j 1) (j 2) := by
    funext b
    match b with
    | ⟨0, _⟩ => rfl
    | ⟨1, _⟩ => rfl
    | ⟨2, _⟩ => rfl
  exact (congrArg x e).trans (hx _ _ _)

theorem idx3 {a b c : ℕ} (j : (⟨3, ![a, b, c]⟩ : Shape).Idx) : j = ix3 (j 0) (j 1) (j 2) := by
  funext b
  match b with
  | ⟨0, _⟩ => rfl
  | ⟨1, _⟩ => rfl
  | ⟨2, _⟩ => rfl

/-! ### Heads -/

theorem heads_q (h : Is x0 A.q) : Is3 (val_main_v1 (F := Ideal) x0) (fun h t x => A.q t (64 * h + x)) := by
  intro h t x
  rw [val_main_v1_apply, val_main_v0_apply, at_is ‹Is x0 _›]
  have e0 : ((t.val * 8 + h.val) * 64 + x.val) / 512 = t.val := by omega
  have e1 : ((t.val * 8 + h.val) * 64 + x.val) % 512 = 64 * h.val + x.val := by omega
  show ((A.q (((t.val * 8 + h.val) * 64 + x.val) / 512) (((t.val * 8 + h.val) * 64 + x.val) % 512) : ℝ) : EReal) = _
  rw [e0, e1]

theorem heads_k (h : Is x1 A.k) : Is3 (val_main_v3 (F := Ideal) x1) (fun h t x => A.k t (64 * h + x)) := heads_q (A := ⟨A.k, A.k, A.k, A.k⟩) h
theorem heads_v (h : Is x2 A.v) : Is3 (val_main_v5 (F := Ideal) x2) (fun h t x => A.v t (64 * h + x)) := heads_q (A := ⟨A.v, A.k, A.k, A.k⟩) h
theorem heads_c (h : Is x3 A.c) : Is3 (val_main_v29 (F := Ideal) x3) (fun h t x => A.c t (64 * h + x)) := heads_q (A := ⟨A.c, A.k, A.k, A.k⟩) h

theorem eight : Ideal.ofBits .f32 0x41000000#32 = ((8 : ℝ) : EReal) := by
  simp [Ideal.ofBits, Ideal.ieee, -EReal.coe_mul]; norm_num

theorem by8 (a : ℝ) : Ideal.div (a : EReal) (Ideal.ofBits .f32 0x41000000#32) = ((a * (1 / 8) : ℝ) : EReal) := by
  rw [eight, Ideal.div_coe (by norm_num), ← EReal.coe_mul]

theorem dot64 {a b : (⟨3, ![8, 8192, 64]⟩ : Shape).Idx → EReal} {f g : ℕ → ℕ → ℕ → ℝ} (ha : Is3 a f) (hb : Is3 b g) (h : Fin 8) (t s : Fin 8192) :
    ∑ k : Fin 64, a (ix3 h t k) * b (ix3 h s k) = ((∑ x ∈ range 64, f h t x * g h s x : ℝ) : EReal) :=
  dot_of _ _ (fun x => f h t x) (fun x => g h s x) (fun x => ha h t x) (fun x => hb h s x)

theorem z_is (hq : Is x0 A.q) (hk : Is x1 A.k) : Is3 (val_main_v8 (F := Ideal) x0 x1) A.z := by
  intro h t s
  rw [val_main_v8_apply, val_main_v6_apply]
  refine (congrArg₂ Ideal.div ((sum_congr rfl fun k _ => ?_).trans (dot64 (heads_q hq) (heads_k hk) h t s)) (rfl : _ = Ideal.ofBits .f32 0x41000000#32)).trans (by8 _)
  congr 2 <;> exact idx3 _

/-! ### Softplus and its derivative -/

/-- The greater of a number and zero, and the logarithm of one and a power of what lies between. -/
def spR (y : ℝ) : ℝ := max y 0 + Real.log (1 + Real.exp (-|y|))

theorem spR_neg (z : ℝ) : -spR (-z) = lsR z := by
  unfold spR lsR
  rw [abs_neg, show max (-z) 0 = -min z 0 by rw [← neg_zero, max_neg_neg, neg_zero], zero_sub]
  ring

theorem spR_pos (z : ℝ) : -spR z = nR z := by
  unfold spR nR lsR
  rw [zero_sub]
  have := max_add_min z 0
  linarith

theorem softplus (r : ℝ) (o o' o'' : Ideal .f32) (h : o = 0) (h' : o' = 0) (h'' : o'' = 0) :
    Scalar.select (FloatOps.cmpf .une (FloatOps.subf ((r : ℝ) : EReal) o' : Ideal .f32) (FloatOps.subf ((r : ℝ) : EReal) o'))
      (FloatOps.addf ((r : ℝ) : EReal) o'' : Ideal .f32)
      (FloatOps.addf (FloatOps.maximumf ((r : ℝ) : EReal) o : Ideal .f32)
        (FloatOps.hostUnary .log1p (FloatOps.hostUnary .exp (FloatOps.hostNegf (FloatOps.hostAbsf (FloatOps.subf ((r : ℝ) : EReal) o') : Ideal .f32) : Ideal .f32) : Ideal .f32)))
      = ((spR r : ℝ) : EReal) := by
  subst h h' h''
  have e : FloatOps.cmpf (F := Ideal) (φ := .f32) .une (FloatOps.subf ((r : ℝ) : EReal) (0 : EReal)) (FloatOps.subf ((r : ℝ) : EReal) (0 : EReal)) = BitVec.ofBool (decide False) := by
    show BitVec.ofBool (decide (_ ≠ _)) = _
    simp
  rw [e, sel_of, if_neg (by simp)]
  show max ((r : ℝ) : EReal) 0 + Ideal.log (1 + Ideal.exp (-(max (((r : ℝ) : EReal) - 0) (-(((r : ℝ) : EReal) - 0))))) = _
  rw [sub_zero, show max ((r : ℝ) : EReal) (-((r : ℝ) : EReal)) = ((|r| : ℝ) : EReal) from abs_coe r, ← EReal.coe_neg, Ideal.exp_coe, log_one_add_exp,
    ← EReal.coe_zero, ← EReal.coe_strictMono.monotone.map_max, ← EReal.coe_add]
  rfl

theorem inf_top : (FloatOps.ofBits .f32 0x7F800000#32 : Ideal .f32) = (⊤ : EReal) := by
  show Ideal.ofBits .f32 0x7F800000#32 = _
  simp [Ideal.ofBits, Ideal.ieee]

theorem zero_bits : (FloatOps.ofBits .f32 0x00000000#32 : Ideal .f32) = (0 : EReal) := Ideal.ofBits_zero .f32

theorem not_inf (r : ℝ) (o o' : Ideal .f32) (h : o = (⊤ : EReal)) :
    Scalar.select (FloatOps.cmpf .oeq ((r : ℝ) : EReal) o) o' (((r : ℝ) : EReal) : Ideal .f32) = ((r : ℝ) : EReal) := by
  have e : FloatOps.cmpf (F := Ideal) (φ := .f32) .oeq ((r : ℝ) : EReal) o = BitVec.ofBool (decide False) := by
    show BitVec.ofBool (decide (_ = _)) = _
    simp [h]
  rw [e, sel_of, if_neg (by simp)]

theorem negR (r : ℝ) : (FloatOps.hostNegf (F := Ideal) (φ := .f32) ((r : ℝ) : EReal)) = ((-r : ℝ) : EReal) := (EReal.coe_neg r).symm
theorem subR (r s : ℝ) : (FloatOps.subf (F := Ideal) (φ := .f32) ((r : ℝ) : EReal) ((s : ℝ) : EReal)) = ((r - s : ℝ) : EReal) := (EReal.coe_sub r s).symm
theorem addR (r s : ℝ) : (FloatOps.addf (F := Ideal) (φ := .f32) ((r : ℝ) : EReal) ((s : ℝ) : EReal)) = ((r + s : ℝ) : EReal) := (EReal.coe_add r s).symm
theorem mulR (r s : ℝ) : (FloatOps.mulf (F := Ideal) (φ := .f32) ((r : ℝ) : EReal) ((s : ℝ) : EReal)) = ((r * s : ℝ) : EReal) := (EReal.coe_mul r s).symm
theorem expR (r : ℝ) : (FloatOps.hostUnary (F := Ideal) (φ := .f32) .exp ((r : ℝ) : EReal)) = ((Real.exp r : ℝ) : EReal) := Ideal.exp_coe r

/-- The softplus of the score. -/
theorem sp0_is (hz : Is3 (val_main_v8 (F := Ideal) x0 x1) A.z) : Is3 (val_main_call0_v1_0 (F := Ideal) x0 x1) (fun h t s => spR (A.z h t s)) := by
  intro h t s
  have e : val_main_call0_v0 (F := Ideal) x0 x1 (ix3 h t s) = ((A.z h t s : ℝ) : EReal) := by
    rw [val_main_call0_v0_apply, val_main_v16_apply, hz h t s, negR, negR, neg_neg]
  simp only [val_main_call0_v1_0_apply, val_main_call0_call0_v4_apply, val_main_call0_call0_v6_apply, val_main_call0_call0_v11_apply, val_main_call0_call0_v1_apply,
    val_main_call0_call0_v10_apply, val_main_call0_call0_v9_apply, val_main_call0_call0_v8_apply, val_main_call0_call0_v7_apply, val_main_call0_call0_v3_apply, e]
  exact softplus _ _ _ _ ((val_main_call0_call0_v0_apply _).trans zero_bits) ((val_main_call0_call0_v2_apply _).trans zero_bits)
    ((val_main_call0_call0_v5_apply _).trans zero_bits)

/-- The softplus of the score's negative. -/
theorem sp3_is (hz : Is3 (val_main_v8 (F := Ideal) x0 x1) A.z) : Is3 (val_main_call3_v1_0 (F := Ideal) x0 x1) (fun h t s => spR (-A.z h t s)) := by
  intro h t s
  have e : val_main_call3_v0 (F := Ideal) x0 x1 (ix3 h t s) = ((-A.z h t s : ℝ) : EReal) := by
    rw [val_main_call3_v0_apply, hz h t s, negR]
  simp only [val_main_call3_v1_0_apply, val_main_call3_call0_v4_apply, val_main_call3_call0_v6_apply, val_main_call3_call0_v11_apply, val_main_call3_call0_v1_apply,
    val_main_call3_call0_v10_apply, val_main_call3_call0_v9_apply, val_main_call3_call0_v8_apply, val_main_call3_call0_v7_apply, val_main_call3_call0_v3_apply, e]
  exact softplus _ _ _ _ ((val_main_call3_call0_v0_apply _).trans zero_bits) ((val_main_call3_call0_v2_apply _).trans zero_bits)
    ((val_main_call3_call0_v5_apply _).trans zero_bits)

/-- The logarithm of one minus the sigmoid. -/
theorem n_is (hz : Is3 (val_main_v8 (F := Ideal) x0 x1) A.z) : Is3 (val_main_v17_0 (F := Ideal) x0 x1) (fun h t s => nR (A.z h t s)) := by
  intro h t s
  rw [val_main_v17_0_apply, sp0_is hz h t s, negR, spR_pos]

/-- The logarithm of the sigmoid. -/
theorem ls_is (hz : Is3 (val_main_v8 (F := Ideal) x0 x1) A.z) : Is3 (val_main_v21_0 (F := Ideal) x0 x1) (fun h t s => lsR (A.z h t s)) := by
  intro h t s
  rw [val_main_v21_0_apply, sp3_is hz h t s, negR, spR_neg]

/-- The sigmoid. -/
theorem sig_is (hz : Is3 (val_main_v8 (F := Ideal) x0 x1) A.z) : Is3 (val_main_v17_1 (F := Ideal) x0 x1) (fun h t s => Real.exp (lsR (A.z h t s))) := by
  intro h t s
  have e : val_main_call0_v0 (F := Ideal) x0 x1 (ix3 h t s) = ((A.z h t s : ℝ) : EReal) := by
    rw [val_main_call0_v0_apply, val_main_v16_apply, hz h t s, negR, negR, neg_neg]
  simp only [val_main_v17_1_apply, val_main_call0_call0_v21_apply, val_main_call0_call0_v16_apply, val_main_call0_call0_v14_apply,
    val_main_call0_call0_v20_apply, val_main_call0_call0_v18_apply, e, sp0_is hz h t s]
  have i1 : val_main_call0_call0_v13 (F := Ideal) (ix3 h t s) = (⊤ : EReal) := (val_main_call0_call0_v13_apply _).trans inf_top
  have i2 : val_main_call0_call0_v17 (F := Ideal) (ix3 h t s) = (⊤ : EReal) := (val_main_call0_call0_v17_apply _).trans inf_top
  rw [not_inf _ _ _ i1, not_inf _ _ _ i2, subR, expR]
  congr 2
  have := spR_pos (A.z h t s)
  unfold nR at this
  linarith

/-- One minus the sigmoid. -/
theorem nsig_is (hz : Is3 (val_main_v8 (F := Ideal) x0 x1) A.z) : Is3 (val_main_v21_1 (F := Ideal) x0 x1) (fun h t s => Real.exp (nR (A.z h t s))) := by
  intro h t s
  have e : val_main_call3_v0 (F := Ideal) x0 x1 (ix3 h t s) = ((-A.z h t s : ℝ) : EReal) := by
    rw [val_main_call3_v0_apply, hz h t s, negR]
  simp only [val_main_v21_1_apply, val_main_call3_call0_v21_apply, val_main_call3_call0_v16_apply, val_main_call3_call0_v14_apply,
    val_main_call3_call0_v20_apply, val_main_call3_call0_v18_apply, e, sp3_is hz h t s]
  have i1 : val_main_call3_call0_v13 (F := Ideal) (ix3 h t s) = (⊤ : EReal) := (val_main_call3_call0_v13_apply _).trans inf_top
  have i2 : val_main_call3_call0_v17 (F := Ideal) (ix3 h t s) = (⊤ : EReal) := (val_main_call3_call0_v17_apply _).trans inf_top
  rw [not_inf _ _ _ i1, not_inf _ _ _ i2, subR, expR]
  congr 2
  have := spR_neg (A.z h t s)
  unfold nR
  linarith

/-! ### The weights -/

/-- The keys before the query. -/
theorem before (t s : Fin 8192) : val_main_v15 (F := Ideal) (ix2 t s) = BitVec.ofBool (decide (s.val < t.val)) := by
  rw [val_main_v15_apply, val_main_v13_apply, val_main_v12_apply, val_main_v11_apply, val_main_v14_apply, val_main_v10_apply, val_main_v9_apply]
  exact WordCmp.cmpi_slt_ofNat (by have := s.isLt; show s.val < _; omega) (by have := t.isLt; show t.val < _; omega)

theorem idx2 {a b : ℕ} (j : (⟨2, ![a, b]⟩ : Shape).Idx) : j = ix2 (j 0) (j 1) := by
  funext b
  match b with
  | ⟨0, _⟩ => rfl
  | ⟨1, _⟩ => rfl

theorem mask18 (h : Fin 8) (t s : Fin 8192) : val_main_v18_1 (F := Ideal) (ix3 h t s) = BitVec.ofBool (decide (s.val < t.val)) := by
  rw [val_main_v18_1_apply]
  exact (congrArg _ (idx2 _)).trans (before t s)

theorem mask24 (h : Fin 8) (t s : Fin 8192) : val_main_v24_1 (F := Ideal) (ix3 h t s) = BitVec.ofBool (decide (s.val < t.val)) := by
  rw [val_main_v24_1_apply]
  exact (congrArg _ (idx2 _)).trans (before t s)

theorem keep (p : Prop) [Decidable p] (r : ℝ) (o : Ideal .f32) (h : o = 0) :
    Scalar.select (BitVec.ofBool (decide p)) (((r : ℝ) : EReal) : Ideal .f32) o = ((if p then r else 0 : ℝ) : EReal) := by
  rw [sel_of, h]
  split_ifs <;> rfl

theorem n18_is (hz : Is3 (val_main_v8 (F := Ideal) x0 x1) A.z) : Is3 (val_main_v18_0 (F := Ideal) x0 x1) (fun h t s => if s < t then nR (A.z h t s) else 0) := by
  intro h t s
  have o : val_main_call1_v2 (F := Ideal) (ix3 h t s) = 0 := (val_main_call1_v2_apply _).trans zero_bits
  rw [val_main_v18_0_apply, mask18, n_is hz h t s, keep _ _ _ o]

/-- The sum over the keys between. -/
theorem suf_is (hz : Is3 (val_main_v8 (F := Ideal) x0 x1) A.z) : Is3 (val_main_v20 (F := Ideal) x0 x1) (fun h t s => suf (A.z h) t s) := by
  intro h t s
  have e : val_main_v19 (F := Ideal) x0 x1 (ix3 h t s) = ((∑ s' ∈ Ico s.val 8192, (if s' < t.val then nR (A.z h t s') else 0) : ℝ) : EReal) := by
    unfold val_main_v19
    exact window_from _ _ (fun i => (val_main_call2_v0_apply i).trans zero_bits) _ _ (n18_is hz) h t s
  rw [val_main_v20_apply, e, n18_is hz h t s, subR]
  refine congrArg Real.toEReal ?_
  exact suf_eq (A.z h) t.val s.val 8192 s.isLt t.isLt.le

/-- The weights, before the mask. -/
theorem w_is (hz : Is3 (val_main_v8 (F := Ideal) x0 x1) A.z) : Is3 (val_main_v23 (F := Ideal) x0 x1) (fun h t s => A.w h t s) := by
  intro h t s
  rw [val_main_v23_apply, val_main_v22_apply, ls_is hz h t s, suf_is hz h t s, addR, expR]
  rfl

/-- The weights. -/
theorem p_is (hz : Is3 (val_main_v8 (F := Ideal) x0 x1) A.z) : Is3 (val_main_v24_0 (F := Ideal) x0 x1) (fun h t s => if s < t then A.w h t s else 0) := by
  intro h t s
  have o : val_main_call4_v2 (F := Ideal) (ix3 h t s) = 0 := (val_main_call4_v2_apply _).trans zero_bits
  rw [val_main_v24_0_apply, mask24, w_is hz h t s, keep _ _ _ o]

end Cert.SbRefIdeal.Hand

end

end
-- ==== Proof.SbGrad.lean ====
/-
  The stick-breaking attention's output and gradients on finite numbers as the reference computes them.
-/
module

public import proofs.«01_k».proof.Proof.SbRef

@[expose] public section

set_option maxRecDepth 16384

noncomputable section

namespace Cert.SbRefIdeal.Hand

open Cert.Sb Cert.Grad Cert.SbRefIdeal Cert.SbRefIdeal.Gen Cert.SbRefIdeal.Read Idealize.ShloMosaic Idealize.ShloMosaic.TcCoe Finset

variable {A : All} {x0 x1 x2 x3 : S8192x512.Idx → Ideal .f32}

/-- The four arguments read as the numbers of `A`. -/
structure ArgIs (A : All) (x0 x1 x2 x3 : S8192x512.Idx → Ideal .f32) : Prop where
  q : Is x0 A.q
  k : Is x1 A.k
  v : Is x2 A.v
  c : Is x3 A.c

theorem ArgIs.z (h : ArgIs A x0 x1 x2 x3) : Is3 (val_main_v8 (F := Ideal) x0 x1) A.z := z_is h.q h.k

/-- The weights' gradient. -/
theorem dw_is (a : ArgIs A x0 x1 x2 x3) : Is3 (val_main_v32 (F := Ideal) x2 x3) A.dw := by
  intro h t s
  rw [val_main_v32_apply]
  refine (sum_congr rfl fun k _ => congrArg₂ (· * ·) (congrArg _ (idx3 _)) (congrArg _ (idx3 _))).trans (dot64 (heads_c a.c) (heads_v a.v) h t s)

theorem g_is (a : ArgIs A x0 x1 x2 x3) : Is3 (val_main_v34 (F := Ideal) x0 x1 x2 x3) (fun h t s => (if s < t then A.dw h t s else 0) * A.w h t s) := by
  intro h t s
  have o : val_main_call5_v0 (F := Ideal) (ix3 h t s) = 0 := (val_main_call5_v0_apply _).trans zero_bits
  rw [val_main_v34_apply, val_main_v33_apply, mask24, dw_is a h t s, keep _ _ _ o, w_is a.z h t s, mulR]

theorem sumg_is (a : ArgIs A x0 x1 x2 x3) : Is3 (val_main_v37 (F := Ideal) x0 x1 x2 x3)
    (fun h t s => ∑ s' ∈ range (s + 1), (if s' < t then A.dw h t s' else 0) * A.w h t s') := by
  intro h t s
  unfold val_main_v37
  exact window_upto rfl _ _ (fun i => (val_main_call7_v0_apply i).trans zero_bits) _ _ (g_is a) h t s

/-- The scores' gradient. -/
theorem d_is (a : ArgIs A x0 x1 x2 x3) : Is3 (val_main_v42 (F := Ideal) x0 x1 x2 x3) (fun h t s => if s < t then A.d h t s else 0) := by
  intro h t s
  have o : val_main_call8_v0 (F := Ideal) (ix3 h t s) = 0 := (val_main_call8_v0_apply _).trans zero_bits
  rw [val_main_v42_apply, val_main_v35_apply, val_main_call6_v1_apply, val_main_call6_v0_apply, g_is a h t s, nsig_is a.z h t s, negR, mulR, negR,
    val_main_v41_apply, val_main_v40_apply, val_main_call9_v1_apply, val_main_call9_v0_apply, val_main_v39_apply, mask18,
    val_main_v38_apply, val_main_v36_apply, g_is a h t s, sumg_is a h t s, negR, addR, keep _ _ _ o, sig_is a.z h t s, negR, mulR, negR, negR, addR]
  exact congrArg _ (d_eq (A.z h) (A.dw h) t s)

theorem d8_is (a : ArgIs A x0 x1 x2 x3) : Is3 (val_main_v44 (F := Ideal) x0 x1 x2 x3) (fun h t s => (if s < t then A.d h t s else 0) * (1 / 8)) := by
  intro h t s
  rw [val_main_v44_apply, d_is a h t s, val_main_v43_apply]
  exact by8 _

theorem dotR {a b : Fin 8192 → EReal} {f g : ℕ → ℝ} (ha : ∀ k : Fin 8192, a k = ((f k : ℝ) : EReal)) (hb : ∀ k : Fin 8192, b k = ((g k : ℝ) : EReal)) :
    ∑ k : Fin 8192, a k * b k = ((∑ x ∈ range 8192, f x * g x : ℝ) : EReal) := dot_of a b f g ha hb

/-- The outputs, by head. -/
theorem o3_is (a : ArgIs A x0 x1 x2 x3) : Is3 (val_main_v25 (F := Ideal) x0 x1 x2) (fun h t x => ∑ s ∈ range t, A.w h t s * A.v s (64 * h + x)) := by
  intro h t x
  rw [val_main_v25_apply]
  refine Eq.trans ?_ (congrArg Real.toEReal (sum_keys (fun s => A.w h t s) (fun s => A.v s (64 * h + x)) t.val 8192 t.isLt.le))
  exact dotR (fun k => (congrArg _ (idx3 _)).trans (p_is a.z h t k)) (fun k => (congrArg _ (idx3 _)).trans (heads_v a.v h k x))

/-- The values' gradients, by head. -/
theorem dv3_is (a : ArgIs A x0 x1 x2 x3) : Is3 (val_main_v31 (F := Ideal) x0 x1 x3)
    (fun h s x => ∑ t ∈ range 8192, (if s < t then A.w h t s else 0) * A.c t (64 * h + x)) := by
  intro h s x
  rw [val_main_v31_apply, val_main_v30_apply]
  simp only [mul_comm (val_main_v29 (F := Ideal) x3 _)]
  exact dotR (fun k => (congrArg _ (idx3 _)).trans (p_is a.z h k s)) (fun k => (congrArg _ (idx3 _)).trans (heads_c a.c h k x))

/-- The keys' gradients, by head. -/
theorem dk3_is (a : ArgIs A x0 x1 x2 x3) : Is3 (val_main_v45 (F := Ideal) x0 x1 x2 x3)
    (fun h s x => ∑ t ∈ range 8192, (if s < t then A.d h t s else 0) * (A.q t (64 * h + x) * (1 / 8))) := by
  intro h s x
  rw [val_main_v45_apply]
  refine Eq.trans ?_ (congrArg Real.toEReal (sum_congr rfl fun t _ =>
    show ((if s.val < t then A.d h t s else 0) * (1 / 8)) * A.q t (64 * h + x) = (if s.val < t then A.d h t s else 0) * (A.q t (64 * h + x) * (1 / 8)) by ring))
  exact dotR (fun k => (congrArg _ (idx3 _)).trans (d8_is a h k s)) (fun k => (congrArg _ (idx3 _)).trans (heads_q a.q h k x))

/-- The queries' gradients, by head. -/
theorem dq3_is (a : ArgIs A x0 x1 x2 x3) : Is3 (val_main_v46 (F := Ideal) x0 x1 x2 x3)
    (fun h t x => (∑ s ∈ range t, A.d h t s * A.k s (64 * h + x)) * (1 / 8)) := by
  intro h t x
  rw [val_main_v46_apply]
  refine Eq.trans ?_ (congrArg Real.toEReal (show ∑ s ∈ range 8192, ((if s < t.val then A.d h t s else 0) * (1 / 8)) * A.k s (64 * h + x)
    = (∑ s ∈ range t.val, A.d h t s * A.k s (64 * h + x)) * (1 / 8) from ?_))
  swap
  · rw [← sum_keys (fun s => A.d h t s) (fun s => A.k s (64 * h + x)) t.val 8192 t.isLt.le, sum_mul]
    exact sum_congr rfl fun s _ => by ring
  exact dotR (fun k => (congrArg _ (idx3 _)).trans (d8_is a h t k)) (fun k => (congrArg _ (idx3 _)).trans (heads_k a.k h k x))

/-! ### Heads side by side -/

theorem flat {y : S8x8192x64.Idx → Ideal .f32} {f : ℕ → ℕ → ℕ → ℝ} {g : ℕ → ℕ → ℝ} (hy : Is3 y f) (e : ∀ t l, f (l / 64) t (l % 64) = g t l)
    (j : S8192x512.Idx) (i : S8x8192x64.Idx) (h0 : (i 0).val = ((j 0).val * 512 + (j 1).val) / 64 % 8) (h1 : (i 1).val = ((j 0).val * 512 + (j 1).val) / 512)
    (h2 : (i 2).val = ((j 0).val * 512 + (j 1).val) % 64) : y i = ((g (j 0).val (j 1).val : ℝ) : EReal) := by
  have b : (j 1).val < 512 := (j 1).isLt
  rw [at3_is hy, h0, h1, h2, ← e, show ((j 0).val * 512 + (j 1).val) / 64 % 8 = (j 1).val / 64 by omega,
    show ((j 0).val * 512 + (j 1).val) / 512 = (j 0).val by omega, show ((j 0).val * 512 + (j 1).val) % 64 = (j 1).val % 64 by omega]

/-- The attention's output. -/
theorem o_val (a : ArgIs A x0 x1 x2 x3) (j : S8192x512.Idx) : val_main_v27 (F := Ideal) x0 x1 x2 j = ((A.o (j 0).val (j 1).val : ℝ) : EReal) := by
  rw [val_main_v27_apply, val_main_v26_apply]
  refine flat (o3_is a) (fun t l => ?_) j _ rfl rfl rfl
  rw [Nat.div_add_mod]; rfl

theorem dv_val (a : ArgIs A x0 x1 x2 x3) (j : S8192x512.Idx) : val_main_v55 (F := Ideal) x0 x1 x3 j = ((A.gv (j 0).val (j 1).val : ℝ) : EReal) := by
  rw [val_main_v55_apply, val_main_v48_apply, val_main_v47_apply]
  refine flat (dv3_is a) (fun t l => ?_) j _ rfl rfl rfl
  rw [Nat.div_add_mod]; rfl

theorem dk_val (a : ArgIs A x0 x1 x2 x3) (j : S8192x512.Idx) : val_main_v54 (F := Ideal) x0 x1 x2 x3 j = ((A.gk (j 0).val (j 1).val : ℝ) : EReal) := by
  rw [val_main_v54_apply, val_main_v50_apply, val_main_v49_apply]
  refine flat (dk3_is a) (fun t l => ?_) j _ rfl rfl rfl
  rw [Nat.div_add_mod]; rfl

theorem dq_val (a : ArgIs A x0 x1 x2 x3) (j : S8192x512.Idx) : val_main_v53 (F := Ideal) x0 x1 x2 x3 j = ((A.gq (j 0).val (j 1).val : ℝ) : EReal) := by
  rw [val_main_v53_apply, val_main_v52_apply, val_main_v51_apply]
  refine flat (dq3_is a) (fun t l => ?_) j _ rfl rfl rfl
  rw [Nat.div_add_mod]; rfl

end Cert.SbRefIdeal.Hand

end

end
-- ==== Proof.SbHost.lean ====
/-
  The arrays that the host prepares for the stick-breaking attention's gradient kernel.
-/
module

public import proofs.«01_k».proof.Proof.SbGrad
public import Idealize.ShloMosaic.Lib.StableHlo.ReadAt
public import Idealize.ShloMosaic.Lib.Claim

@[expose] public section

set_option maxRecDepth 16384

noncomputable section

namespace Cert.SbBwdIdeal.Hand

open Cert.Sb Cert.Grad Cert.SbBwdIdeal Cert.SbBwdIdeal.Gen Idealize.ShloMosaic Idealize.ShloMosaic.TcCoe Finset Idealize.ShloMosaic.StableHlo

variable (m : (ℓ : Loc nD τ sig) → Buf (Elt Ideal) ℓ)

abbrev a0 (c : Dev nD) : S8192x512.Idx → Ideal .f32 := m ((c.tc : Thread nD τ).loc main_arg0)
abbrev a1 (c : Dev nD) : S8192x512.Idx → Ideal .f32 := m ((c.tc : Thread nD τ).loc main_arg1)
abbrev a2 (c : Dev nD) : S8192x512.Idx → Ideal .f32 := m ((c.tc : Thread nD τ).loc main_arg2)
abbrev a3 (c : Dev nD) : S8192x512.Idx → Ideal .f32 := m ((c.tc : Thread nD τ).loc main_arg3)

theorem read_c (c : Dev nD) : aC m c = a3 m c := by
  unfold aC V
  simp only [pre, hostOps0, hostOps0_1, hostOps0_2, hostOps0_3, hostOps0_4, hostOps0_5, hostOps0_6, hostOps0_7, hostOps0_8, hostOps0_9, List.flatten_cons, List.flatten_nil, List.cons_append, List.nil_append, List.append_nil]
  after_reads_simp
  rfl

theorem read_q (c : Dev nD) (j : S8192x512.Idx) : aQ m c j = a0 m c j * Ideal.ofBits .f32 0x3E000000#32 := by
  unfold aQ V
  simp only [pre, hostOps0, hostOps0_1, hostOps0_2, hostOps0_3, hostOps0_4, hostOps0_5, hostOps0_6, hostOps0_7, hostOps0_8, hostOps0_9, List.flatten_cons, List.flatten_nil, List.cons_append, List.nil_append, List.append_nil]
  after_reads_at

theorem read_o (c : Dev nD) : aO m c = Cert.SbRefIdeal.Read.val_main_v27 (F := Ideal) (a0 m c) (a1 m c) (a2 m c) := by
  unfold aO V
  simp only [pre, hostOps0, hostOps0_1, hostOps0_2, hostOps0_3, hostOps0_4, hostOps0_5, hostOps0_6, hostOps0_7, hostOps0_8, hostOps0_9, List.flatten_cons, List.flatten_nil, List.cons_append, List.nil_append, List.append_nil, TRef.binary, TRef.nullary, TRef.ternary, TRef.unary, TRef.toBuf, TRef.ofBuf, cast_eq]
  after_reads_simp
  rfl

theorem read_kv (c : Dev nD) : aKV m c = concatenate S8192x1024 1 [⟨S8192x512, a1 m c⟩, ⟨S8192x512, a2 m c⟩] concatenates_S8192x512_S8192x512_S8192x1024_d1 := by
  unfold aKV V
  simp only [pre, hostOps0, hostOps0_1, hostOps0_2, hostOps0_3, hostOps0_4, hostOps0_5, hostOps0_6, hostOps0_7, hostOps0_8, hostOps0_9, List.flatten_cons, List.flatten_nil, List.cons_append, List.nil_append, List.append_nil]
  after_reads_simp
  refine congrArg₂ (fun (a b : S8192x512.Idx → Ideal .f32) => concatenate S8192x1024 1 [⟨S8192x512, a⟩, ⟨S8192x512, b⟩] concatenates_S8192x512_S8192x512_S8192x1024_d1) ?_ ?_
  · after_reads_simp
  · after_reads_simp

theorem both (x y : S8192x512.Idx → Ideal .f32) (h) (a : Fin 8192) (b : Fin 1024) :
    concatenate S8192x1024 1 [⟨S8192x512, x⟩, ⟨S8192x512, y⟩] h (ix2 a b)
      = if h : b.val < 512 then x (ix2 a ⟨b.val, h⟩) else y (ix2 a ⟨b.val - 512, by have := b.isLt; omega⟩) := by
  pointwise

theorem arrIs {A : All} (c : Dev nD) (h : Cert.SbRefIdeal.Hand.ArgIs A (a0 m c) (a1 m c) (a2 m c) (a3 m c)) : ArrIs m A c where
  q := fun a b => by
    rw [read_q, h.q a b, show Ideal.ofBits .f32 0x3E000000#32 = ((1 / 8 : ℝ) : EReal) by simp [Ideal.ofBits, Ideal.ieee, -EReal.coe_mul]; norm_num]
    exact (EReal.coe_mul _ _).symm
  kv := fun a b => by
    rw [read_kv, both]
    show _ = ((if b.val < 512 then A.k a b else A.v a (b - 512) : ℝ) : EReal)
    split_ifs with hb
    · exact h.k a ⟨b.val, hb⟩
    · exact h.v a ⟨b.val - 512, by have := b.isLt; omega⟩
  o := fun a b => by
    rw [read_o]
    exact Cert.SbRefIdeal.Hand.o_val h (ix2 a b)
  c := by
    rw [read_c]
    exact h.c

end Cert.SbBwdIdeal.Hand

end

end
-- ==== Proof.SbFinite.lean ====
/-
  Arguments that are all finite are arrays of reals.
-/
module

public import proofs.«01_k».proof.Pre_sb_finite
public import proofs.«01_k».proof.Proof.SbReal
public import Idealize.ShloMosaic.Lib.ReduceAll

@[expose] public section

set_option maxRecDepth 16384

noncomputable section

namespace Cert.Pre_sb_finite

open Idealize.ShloMosaic Cert.Grad Cert.Sb

/-- The side conditions of the predicate's operations. -/
instance facts : Facts where
  bcast_S_S8192x512 := by decide
  reducesTo_S8192x512_S_d0_1 := by decide
  h_S_ := by decide

/-- A number of magnitude below infinity is a real. -/
theorem coe_of_lt (x : EReal) (h : max x (-x) < ⊤) : x = ((x.toReal : ℝ) : EReal) := by
  refine (EReal.coe_toReal ?_ ?_).symm
  · rintro rfl; simp at h
  · rintro rfl; simp at h

theorem inf_top : (FloatOps.ofBits .f32 0x7F800000#32 : Ideal .f32) = (⊤ : EReal) := by
  show Ideal.ofBits .f32 0x7F800000#32 = _
  simp [Ideal.ofBits, Ideal.ieee]

/-- An array whose every element has magnitude below infinity is one of reals. -/
theorem real_of_test {R C : ℕ} (x : FVec Ideal ⟨2, ![R, C]⟩ .f32) (hb : S_.BroadcastsInDim ⟨2, ![R, C]⟩ (![] : Fin 0 → Fin 2))
    (hr : (⟨2, ![R, C]⟩ : Shape).ReducesTo [0, 1] S_) (hu : 0 < S_.numel) (i : S_.Idx)
    (h : Host.reduce IntOp.andi (cmpf .olt (Host.absf x) (broadcastInDim ⟨2, ![R, C]⟩ ![] hb (constant S_ .f32 0x7F800000#32))) (constantI S_ 1 1#1) hr hu i = 1#1) :
    Is x (fun a b => (rd x a b).toReal) := by
  intro a b
  haveI : Subsingleton S_.Idx := ⟨fun f g => funext fun k => k.elim0⟩
  have e := Host.reduce_andi_all _ _ _ _ i h (ix2 a b)
  show x (ix2 a b) = ((rd x a.val b.val).toReal : EReal)
  rw [show rd x a.val b.val = x (ix2 a b) from (rd_ix2 ..).symm]
  apply coe_of_lt
  have e' : BitVec.ofBool (decide (max (x (ix2 a b)) (-(x (ix2 a b))) < (FloatOps.ofBits .f32 0x7F800000#32 : Ideal .f32))) = 1#1 := e
  rw [inf_top] at e'
  by_contra hc
  rw [decide_eq_false hc] at e'
  exact absurd e' (by decide)

variable [Facts]
open Facts

/-- The test of one array. -/
def ok (x : FVec Ideal S8192x512 .f32) : IVec S_ 1 :=
  Host.reduce IntOp.andi (cmpf .olt (Host.absf x) (broadcastInDim S8192x512 ![] bcast_S_S8192x512 (constant S_ .f32 0x7F800000#32))) (constantI S_ 1 1#1) reducesTo_S8192x512_S_d0_1 h_S_

theorem fn_eq (x0 x1 x2 x3 : FVec Ideal S8192x512 .f32) : fn (F := Ideal) x0 x1 x2 x3 = andi (andi (andi (ok x0) (ok x1)) (ok x2)) (ok x3) := rfl

/-- An array that passes is one of reals. -/
theorem real_of_ok (x : FVec Ideal S8192x512 .f32) (i : S_.Idx) (h : ok x i = 1#1) : Is x (fun a b => (rd x a b).toReal) :=
  real_of_test x _ _ _ i h

/-- Arguments that pass are arrays of reals. -/
theorem reals (x0 x1 x2 x3 : FVec Ideal S8192x512 .f32) (h : fn (F := Ideal) x0 x1 x2 x3 = fun _ => 1#1) :
    Is x0 (fun a b => (rd x0 a b).toReal) ∧ Is x1 (fun a b => (rd x1 a b).toReal) ∧ Is x2 (fun a b => (rd x2 a b).toReal)
      ∧ Is x3 (fun a b => (rd x3 a b).toReal) := by
  let i : S_.Idx := fun k => k.elim0
  rw [fn_eq] at h
  have e : IntOp.andi (IntOp.andi (IntOp.andi (ok x0 i) (ok x1 i)) (ok x2 i)) (ok x3 i) = 1#1 := congrFun h i
  obtain ⟨e, h3⟩ := IntOp.andi_eq_one.1 e
  obtain ⟨e, h2⟩ := IntOp.andi_eq_one.1 e
  obtain ⟨h0, h1⟩ := IntOp.andi_eq_one.1 e
  exact ⟨real_of_ok x0 i h0, real_of_ok x1 i h1, real_of_ok x2 i h2, real_of_ok x3 i h3⟩

end Cert.Pre_sb_finite

end

end
-- ==== Proof.SbfValue.lean ====
/-
  The stick-breaking attention's forward kernel equals the plain attention, at finite arguments; and its frames over
  the reals.
-/
module

public import proofs.«01_k».proof.Defs
public import proofs.«01_k».proof.Pre_sb_fwd_finite
public import proofs.«01_k».proof.Proof.SbfLoop
public import proofs.«01_k».proof.Proof.SbHost
public import proofs.«01_k».proof.Proof.SbFinite
public import proofs.«01_k».proof.Proof.Gen.SbFwdRefIdeal.Read

@[expose] public section

set_option maxRecDepth 16384

noncomputable section

namespace Cert.Pre_sb_fwd_finite

open Idealize.ShloMosaic Cert.Grad Cert.Sb

/-- The side conditions of the predicate's operations. -/
instance facts : Facts where
  bcast_S_S8192x512 := by decide
  reducesTo_S8192x512_S_d0_1 := by decide
  h_S_ := by decide

variable [Facts]
open Facts

/-- The test of one array. -/
def ok (x : FVec Ideal S8192x512 .f32) : IVec S_ 1 :=
  Host.reduce IntOp.andi (cmpf .olt (Host.absf x) (broadcastInDim S8192x512 ![] bcast_S_S8192x512 (constant S_ .f32 0x7F800000#32))) (constantI S_ 1 1#1) reducesTo_S8192x512_S_d0_1 h_S_

theorem fn_eq (x0 x1 x2 : FVec Ideal S8192x512 .f32) : fn (F := Ideal) x0 x1 x2 = andi (andi (ok x0) (ok x1)) (ok x2) := rfl

/-- An array that passes is one of reals. -/
theorem real_of_ok (x : FVec Ideal S8192x512 .f32) (i : S_.Idx) (h : ok x i = 1#1) : Is x (fun a b => (rd x a b).toReal) :=
  Cert.Pre_sb_finite.real_of_test x _ _ _ i h

/-- Arguments that pass are arrays of reals. -/
theorem reals (x0 x1 x2 : FVec Ideal S8192x512 .f32) (h : fn (F := Ideal) x0 x1 x2 = fun _ => 1#1) :
    Is x0 (fun a b => (rd x0 a b).toReal) ∧ Is x1 (fun a b => (rd x1 a b).toReal) ∧ Is x2 (fun a b => (rd x2 a b).toReal) := by
  let i : S_.Idx := fun k => k.elim0
  rw [fn_eq] at h
  have e : IntOp.andi (IntOp.andi (ok x0 i) (ok x1 i)) (ok x2 i) = 1#1 := congrFun h i
  obtain ⟨e, h2⟩ := IntOp.andi_eq_one.1 e
  obtain ⟨h0, h1⟩ := IntOp.andi_eq_one.1 e
  exact ⟨real_of_ok x0 i h0, real_of_ok x1 i h1, real_of_ok x2 i h2⟩

end Cert.Pre_sb_fwd_finite

namespace Cert.SbFwdIdeal.Hand

open Cert.Sb Cert.Grad Cert.SbFwdIdeal Cert.SbFwdIdeal.Gen Idealize.ShloMosaic Idealize.ShloMosaic.TcCoe Finset Idealize.ShloMosaic.StableHlo
open Cert.SbBwdIdeal.Hand (tileAt tileAt_eq lt128 rd_is arr_eq both)
open Idealize.ShloMosaic.Pipeline (Dat)

variable (m : (ℓ : Loc nD τ sig) → Buf (Elt Ideal) ℓ)

abbrev a0 (c : Dev nD) : S8192x512.Idx → Ideal .f32 := m ((c.tc : Thread nD τ).loc main_arg0)
abbrev a1 (c : Dev nD) : S8192x512.Idx → Ideal .f32 := m ((c.tc : Thread nD τ).loc main_arg1)
abbrev a2 (c : Dev nD) : S8192x512.Idx → Ideal .f32 := m ((c.tc : Thread nD τ).loc main_arg2)

/-- The arrays the grid reads, as it finds them: scaled queries, keys beside values. -/
abbrev aQ (c : Dev nD) : S8192x512.Idx → EReal := V m c main_v2
abbrev aKV (c : Dev nD) : S8192x1024.Idx → EReal := V m c main_v4

theorem read_q (c : Dev nD) (j : S8192x512.Idx) : aQ m c j = a0 m c j * Ideal.ofBits .f32 0x3E000000#32 := by
  unfold aQ V
  simp only [hostOps0, List.flatten_cons, List.flatten_nil, List.cons_append, List.nil_append, List.append_nil]
  after_reads_at

theorem read_kv (c : Dev nD) : aKV m c = concatenate S8192x1024 1 [⟨S8192x512, a1 m c⟩, ⟨S8192x512, a2 m c⟩] concatenates_S8192x512_S8192x512_S8192x1024_d1 := by
  unfold aKV V
  simp only [hostOps0, List.flatten_cons, List.flatten_nil, List.cons_append, List.nil_append, List.append_nil]
  after_reads_simp
  refine congrArg₂ (fun (a b : S8192x512.Idx → Ideal .f32) => concatenate S8192x1024 1 [⟨S8192x512, a⟩, ⟨S8192x512, b⟩] concatenates_S8192x512_S8192x512_S8192x1024_d1) ?_ ?_
  · after_reads_simp
  · after_reads_simp

/-- Finite arguments: queries, keys, values. -/
structure ArgIs (A : All) (c : Dev nD) : Prop where
  q : Is (a0 m c) A.q
  k : Is (a1 m c) A.k
  v : Is (a2 m c) A.v

variable {m} {A : All} {c : Dev nD}

theorem q_is (h : ArgIs m A c) : Is (aQ m c) (fun t l => A.q t l * (1 / 8)) := fun a b => by
  rw [read_q, h.q a b, show Ideal.ofBits .f32 0x3E000000#32 = ((1 / 8 : ℝ) : EReal) by simp [Ideal.ofBits, Ideal.ieee, -EReal.coe_mul]; norm_num]
  exact (EReal.coe_mul _ _).symm

theorem kv_is (h : ArgIs m A c) : Is (aKV m c) (fun t l => if l < 512 then A.k t l else A.v t (l - 512)) := fun a b => by
  rw [read_kv, both]
  show _ = ((if b.val < 512 then A.k a b else A.v a (b - 512) : ℝ) : EReal)
  split_ifs with hb
  · exact h.k a ⟨b.val, hb⟩
  · exact h.v a ⟨b.val - 512, by have := b.isLt; omega⟩

/-- The windows' index maps over the grid's points. -/
theorem idx0 : ∀ t : Fin (cfg0 (F := Ideal)).N, win0_0.index t = ![t.val % 32, t.val / 32] ∧ win0_1.index t = ![0, t.val / 32]
    ∧ win0_2.index t = ![0, 4 + t.val / 32] ∧ win0_3.index t = ![t.val % 32, t.val / 32] :=
  (by decide +kernel : ∀ t : Fin grid0.N, _)

theorem N128 (t : Fin (cfg0 (F := Ideal)).N) : t.val < 128 := by have := t.isLt; have hN : (cfg0 (F := Ideal)).N = 128 := N_0; omega

theorem blk_q (h : ArgIs m A c) (t : Fin (cfg0 (F := Ideal)).N) :
    Is (iblk m c 0 t : S256x128.Idx → EReal) (fun a l => (A.pair (t.val / 32)).q (256 * (t.val % 32) + a) l) := by
  intro a l
  have ht := N128 t
  have e : (iblk m c 0 t : S256x128.Idx → EReal) (ix2 a l) = rd (aQ m c) (256 * (t.val % 32) + a.val) (128 * (t.val / 32) + l.val) := by
    rw [rd_of_lt _ (by omega) (by omega)]
    obtain ⟨e0, -⟩ := idx0 t
    blk_ext [iblk, e0]
  rw [e, rd_is (q_is h) (by omega) (by omega)]
  rfl

theorem blk_k (h : ArgIs m A c) (t : Fin (cfg0 (F := Ideal)).N) :
    Is (iblk m c 1 t : S8192x128.Idx → EReal) (A.pair (t.val / 32)).k := by
  intro a l
  have ht := N128 t
  have e : (iblk m c 1 t : S8192x128.Idx → EReal) (ix2 a l) = rd (aKV m c) a.val (128 * (t.val / 32) + l.val) := by
    rw [rd_of_lt _ (by omega) (by omega)]
    obtain ⟨-, e0, -⟩ := idx0 t
    blk_ext [iblk, e0]
  rw [e, rd_is (kv_is h) (by omega) (by omega), if_pos (by omega)]
  rfl

theorem blk_v (h : ArgIs m A c) (t : Fin (cfg0 (F := Ideal)).N) :
    Is (iblk m c 2 t : S8192x128.Idx → EReal) (A.pair (t.val / 32)).v := by
  intro a l
  have ht := N128 t
  have e : (iblk m c 2 t : S8192x128.Idx → EReal) (ix2 a l) = rd (aKV m c) a.val (128 * (4 + t.val / 32) + l.val) := by
    rw [rd_of_lt _ (by omega) (by omega)]
    obtain ⟨-, -, e0, -⟩ := idx0 t
    blk_ext [iblk, e0]
  rw [e, rd_is (kv_is h) (by omega) (by omega), if_neg (by omega), show 128 * (4 + t.val / 32) + l.val - 512 = 128 * (t.val / 32) + l.val by omega]
  rfl

/-- The output of a tile. -/
theorem tile_is (h : ArgIs m A c) (t : Fin (cfg0 (F := Ideal)).N) :
    Is (outAt m c t) (fun a l => A.o (256 * (t.val % 32) + a) (128 * (t.val / 32) + l)) := by
  have hq := blk_q h t
  unfold outAt
  rw [show tileAt (F := Ideal) (e := .bf16) (iblk m c 0 t) = iblk m c 0 t from tileAt_eq (F := Ideal) (e := .bf16) (iblk m c 0 t)]
  exact (out_is (point_is t (ptOf_is hq) (blk_k h t) (blk_v h t))).congr fun a _ l hl => pair_o A _ _ _ hl

theorem final3 (h : ArgIs m A c) : (dats m 0 c).arrAt 3 (cfg0 (F := Ideal)).N = fun j : S8192x512.Idx => ((A.o (j 0).val (j 1).val : ℝ) : EReal) := by
  refine (dats m 0 c).arrAt_eq_of_covers 3 _ (by decide +kernel) fun t hf y => ?_
  obtain ⟨-, -, -, e0⟩ := idx0 t
  have key := arr_eq (tile_is h t)
  blk_simp [e0]
  rw [after_3, key]
  beta_reduce
  simp only [mul_comm (256 : ℕ), mul_comm (128 : ℕ)]

end Cert.SbFwdIdeal.Hand

namespace Cert.Sbf

open Cert.Sb Cert.Grad Idealize.ShloMosaic Idealize.ShloMosaic.TcCoe Idealize.SL.Sem

/-- The frame over the reals. -/
theorem frame : Cert.quiescent_SbFwdIdeal := fun m ρ _ => Cert.SbFwdIdeal.Hand.run_kept m ρ

theorem frame_pre [Cert.Pre_sb_fwd_finite.Facts] : Cert.quiescent_SbFwdIdeal_pre_sb_fwd_finite := fun m ρ _ => Cert.SbFwdIdeal.Hand.run_kept m ρ

/-- The reference runs and keeps its arguments. -/
theorem frame_ref : Cert.quiescent_SbFwdRefIdeal := fun m ρ _ =>
  (θ_run Cert.SbFwdRefIdeal.defs _ _).mono (fun r h => ⟨fun c => (h c).2, sem_eq_zero_of_no_sems (by decide) r.2⟩)
    (Cert.SbFwdRefIdeal.Value.run m ρ)

theorem frame_ref_pre [Cert.Pre_sb_fwd_finite.Facts] : Cert.quiescent_SbFwdRefIdeal_pre_sb_fwd_finite := fun m ρ _ => frame_ref m ρ trivial

/-- The score a dead block takes is below every other: named as the least. -/
theorem preserves : Cert.preserves_SbFwd_SbFwdIdeal :=
  IdealRules.named_const.statement Cert.SbFwdIdeal.κ "skip" .f32 0xC2DC0000#32 ⊥ rfl

/-- The forward lines are those in front of the gradient. -/
theorem ref_eq (x0 x1 x2 : Cert.SbFwdRefIdeal.S8192x512.Idx → Ideal .f32) :
    Cert.SbFwdRefIdeal.Read.val_main_v27 (F := Ideal) x0 x1 x2 = Cert.SbRefIdeal.Read.val_main_v27 (F := Ideal) x0 x1 x2 := rfl

/-- The forward kernel's output is the attention's. -/
theorem value [Cert.Pre_sb_fwd_finite.Facts] : Cert.algebraic_SbFwdIdeal_SbFwdRefIdeal_pre_sb_fwd_finite := by
  intro m g m' g' hpre hagree
  have hA : ∀ c, ∃ A : All, Cert.SbFwdIdeal.Hand.ArgIs m A c := fun c => by
    obtain ⟨h0, h1, h2⟩ := Cert.Pre_sb_fwd_finite.reals _ _ _ (hpre c)
    exact ⟨⟨_, _, _, fun _ _ => 0⟩, ⟨h0, h1, h2⟩⟩
  choose A hA using hA
  refine ⟨fun c => (Cert.SbFwdIdeal.Hand.dats m 0 c).arrAt 3 (Cert.SbFwdIdeal.cfg0 (F := Ideal)).N,
    (θ_run Cert.SbFwdIdeal.defs _ _).mono (fun r h c => ⟨(h.1 c).1 3,
      Cert.SbFwdIdeal.Hand.kept m c r h.1 Cert.SbFwdIdeal.main_arg0 (by decide) (by decide) (by decide),
      Cert.SbFwdIdeal.Hand.kept m c r h.1 Cert.SbFwdIdeal.main_arg1 (by decide) (by decide) (by decide),
      Cert.SbFwdIdeal.Hand.kept m c r h.1 Cert.SbFwdIdeal.main_arg2 (by decide) (by decide) (by decide)⟩) (Cert.SbFwdIdeal.Hand.run_main m g),
    (θ_run Cert.SbFwdRefIdeal.defs _ _).mono (fun r h c => ?_) (Cert.SbFwdRefIdeal.Value.run m' g')⟩
  obtain ⟨h1, h4⟩ := h c
  obtain ⟨b0, b1, b2⟩ := hagree c
  have hk := hA c
  let x3 : Cert.SbFwdRefIdeal.S8192x512.Idx → Ideal .f32 := fun _ => 0
  have ha : Cert.SbRefIdeal.Hand.ArgIs ⟨(A c).q, (A c).k, (A c).v, fun _ _ => 0⟩ (Cert.SbFwdIdeal.Hand.a0 m c) (Cert.SbFwdIdeal.Hand.a1 m c) (Cert.SbFwdIdeal.Hand.a2 m c) x3 :=
    ⟨hk.q, hk.k, hk.v, fun _ _ => rfl⟩
  rw [Cert.SbFwdRefIdeal.Read.val_main_v27_eq, b0, b1, b2, ref_eq] at h1
  exact ⟨h1.trans ((funext fun j => Cert.SbRefIdeal.Hand.o_val ha j).trans (Cert.SbFwdIdeal.Hand.final3 hk).symm), h4⟩

end Cert.Sbf

end

end
-- ==== Proof.CrossTile.lean ====
/-
  One tile of the cross-attention's gradient kernel on finite numbers: what each operation of a head stores, as a real number.
-/
module

public import proofs.«01_k».proof.Proof.SbArr
public import proofs.«01_k».proof.Proof.SbWindow
public import proofs.«01_k».proof.Proof.Gen.CrossBwdIdeal.Value

@[expose] public section

set_option maxRecDepth 16384

noncomputable section

namespace Cert.Cross

open Cert.Sb Idealize.ShloMosaic Finset

/-- The softmax of `n` scores. -/
def soft (n : ℕ) (s : ℕ → ℝ) (b : ℕ) : ℝ := Real.exp (s b) / ∑ l ∈ range n, Real.exp (s l)

/-- The gradient of the scores, from the weights and the gradient of the weights. -/
def dS (n : ℕ) (p d : ℕ → ℝ) (b : ℕ) : ℝ := p b * (d b - ∑ l ∈ range n, d l * p l)

/-- A common shift of the scores leaves the softmax as it is. -/
theorem soft_shift (n : ℕ) (s : ℕ → ℝ) (m : ℝ) (b : ℕ) : Real.exp (s b - m) * (1 / ∑ l ∈ range n, Real.exp (s l - m)) = soft n s b := by
  have e (l : ℕ) : Real.exp (s l - m) = Real.exp (s l) * Real.exp (-m) := by rw [sub_eq_add_neg, Real.exp_add]
  simp only [e, ← sum_mul, soft]
  rcases eq_or_ne (∑ l ∈ range n, Real.exp (s l)) 0 with h | h
  · simp [h]
  · have := Real.exp_ne_zero (-m)
    field_simp

/-- The largest of finitely many finite numbers is finite. -/
theorem max_real {ι : Type} (s : Finset ι) (hs : s.Nonempty) (x : ι → EReal) (f : ι → ℝ) (hx : ∀ i, x i = ((f i : ℝ) : EReal)) :
    ∃ r : ℝ, s.fold max (⊥ : EReal) x = (r : EReal) := by
  classical
  induction hs using Finset.Nonempty.cons_induction with
  | singleton a => exact ⟨f a, by rw [fold_singleton, hx]; simp⟩
  | cons a s ha hs ih =>
    obtain ⟨r, hr⟩ := ih
    exact ⟨max (f a) r, by rw [fold_cons, hr, hx, EReal.coe_strictMono.monotone.map_max]⟩

/-- A row's softmax, its largest score taken off first. -/
theorem soft_of {n : ℕ} (s : Fin n → EReal) (f : ℕ → ℝ) (hs : ∀ i : Fin n, s i = ((f i.val : ℝ) : EReal)) (b : Fin n) (o : EReal) (ho : o = ⊥) :
    Ideal.div (Ideal.exp (s b - univ.fold max o s)) (∑ i, Ideal.exp (s i - univ.fold max o s)) = ((soft n f b.val : ℝ) : EReal) := by
  obtain ⟨m, hm⟩ := max_real univ ⟨b, mem_univ b⟩ s (fun i => f i.val) hs
  have pos : 0 < ∑ i ∈ range n, Real.exp (f i - m) := sum_pos (fun _ _ => Real.exp_pos _) ⟨b.val, mem_range.2 b.isLt⟩
  rw [ho, hm, sum_of _ (fun i => Real.exp (f i - m)) fun i => by rw [hs i, ← EReal.coe_sub, Ideal.exp_coe], Ideal.div_coe pos.ne', hs b, ← EReal.coe_sub,
    Ideal.exp_coe, ← EReal.coe_mul, soft_shift]

theorem bot_bits : Ideal.ofBits .f32 0xFF800000#32 = (⊥ : EReal) := by
  simp [Ideal.ofBits, Ideal.ieee]

theorem sixteenth : Ideal.ofBits .f32 0x3D800000#32 = ((1 / 16 : ℝ) : EReal) := by
  simp [Ideal.ofBits, Ideal.ieee, -EReal.coe_mul]; norm_num

end Cert.Cross

namespace Cert.CrossBwdIdeal.Hand

open Cert.Sb Cert.Cross Cert.CrossBwdIdeal Cert.CrossBwdIdeal.Gen Idealize.ShloMosaic Idealize.ShloMosaic.TcCoe Finset

variable {x c : ℕ → ℕ → ℝ} {k v : ℕ → ℕ → ℕ → ℝ} {X C : FVec Ideal S512x256 .bf16} {K V : FVec Ideal S1x256x256 .f32}

/-- The scores of a tile. -/
abbrev sc (x : ℕ → ℕ → ℝ) (k : ℕ → ℕ → ℕ → ℝ) (a b : ℕ) : ℝ := (∑ l ∈ range 256, x a l * k 0 b l) * (1 / 16)

theorem p_is (hX : Is X x) (hK : Is3 K k) : Is (k0_pay6 (F := Ideal) X K) (fun a b => soft 256 (sc x k a) b) := by
  intro a b
  have e (i : Fin 256) : (∑ l, X (ix2 a l) * K (ix3 0 i l)) * Ideal.ofBits .f32 0x3D800000#32 = ((sc x k a i : ℝ) : EReal) := by
    rw [dot_of _ _ (fun l => x a l) (fun l => k 0 i l) (fun l => hX a l) (fun l => hK 0 i l), sixteenth, ← EReal.coe_mul]
  pointwise [k0_pay6, k0_pay3, k0_pay4]
  exact soft_of _ (sc x k a) e b _ bot_bits

/-- The gradient of the weights of a tile. -/
abbrev dp (c : ℕ → ℕ → ℝ) (v : ℕ → ℕ → ℕ → ℝ) (a b : ℕ) : ℝ := ∑ l ∈ range 256, c a l * v 0 b l

/-- The gradient of the scores of a tile. -/
abbrev ds (x : ℕ → ℕ → ℝ) (k : ℕ → ℕ → ℕ → ℝ) (c : ℕ → ℕ → ℝ) (v : ℕ → ℕ → ℕ → ℝ) (a b : ℕ) : ℝ := dS 256 (soft 256 (sc x k a)) (dp c v a) b * (1 / 16)

theorem ds_is (hX : Is X x) (hK : Is3 K k) (hC : Is C c) (hV : Is3 V v) : Is (k0_pay7 (F := Ideal) X K C V) (ds x k c v) := by
  intro a b
  have e (i : Fin 256) : ∑ l, C (ix2 a l) * V (ix3 0 i l) = ((dp c v a i : ℝ) : EReal) :=
    dot_of _ _ (fun l => c a l) (fun l => v 0 i l) (fun l => hC a l) (fun l => hV 0 i l)
  pointwise [k0_pay7, k0_pay5]
  simp only [e, p_is hX hK a]
  rw [dot_of _ _ (dp c v a) (soft 256 (sc x k a)) (fun _ => rfl) (fun _ => rfl), sixteenth, ← EReal.coe_sub, ← EReal.coe_mul, ← EReal.coe_mul]
  rfl

/-- The queries' gradient of a tile. -/
theorem dq_is (hX : Is X x) (hK : Is3 K k) (hC : Is C c) (hV : Is3 V v) :
    Is (k0_pay8 (F := Ideal) X K C V) (fun a b => ∑ l ∈ range 256, ds x k c v a l * k 0 l b) := by
  intro a b
  pointwise [k0_pay8, k0_pay4]
  exact dot_of _ _ (ds x k c v a) (fun l => k 0 l b) (fun l => ds_is hX hK hC hV a l) (fun l => hK 0 l b)

/-- What a tile adds to the keys' gradient. -/
theorem dk_is (hX : Is X x) (hK : Is3 K k) (hC : Is C c) (hV : Is3 V v) (P : FVec Ideal S1x256x256 .f32) (a b : Fin 256) :
    (k0_pay9 (F := Ideal) (k0_pay3 X) (k0_pay7 X K C V) P (ix3 0 a b) : EReal) = P (ix3 0 a b) + ((∑ r ∈ range 512, ds x k c v r a * x r b : ℝ) : EReal) := by
  pointwise [k0_pay9, k0_pay3]
  rw [dot_of _ _ (fun r => ds x k c v r a) (fun r => x r b) (fun r => ds_is hX hK hC hV r a) (fun r => hX r b)]

/-- What a tile adds to the values' gradient. -/
theorem dv_is (hX : Is X x) (hK : Is3 K k) (hC : Is C c) (P : FVec Ideal S1x256x256 .f32) (a b : Fin 256) :
    (k0_pay10 (F := Ideal) (k0_pay5 C) (k0_pay6 X K) P (ix3 0 a b) : EReal)
      = P (ix3 0 a b) + ((∑ r ∈ range 512, soft 256 (sc x k r) a * c r b : ℝ) : EReal) := by
  pointwise [k0_pay10, k0_pay5]
  rw [dot_of _ _ (fun r => soft 256 (sc x k r) a) (fun r => c r b) (fun r => p_is hX hK r a) (fun r => hC r b)]

end Cert.CrossBwdIdeal.Hand

end

end
-- ==== Proof.CrossKernel.lean ====
/-
  The cross-attention's gradient kernel on finite arguments: what its two result arrays hold after the run, as real numbers.
-/
module

public import proofs.«01_k».proof.Proof.CrossTile
public import Idealize.ShloMosaic.Lib.StableHlo.ReadAt
public import Idealize.ShloMosaic.Lib.Claim

@[expose] public section

set_option maxRecDepth 16384

noncomputable section

namespace Cert.Cross

open Finset

/-- The arguments' numbers: the queries, the keys and values side by side, the cotangent. -/
structure Args where
  q : ℕ → ℕ → ℝ
  kv : ℕ → ℕ → ℝ
  c : ℕ → ℕ → ℝ

namespace Args

variable (A : Args)

/-- Head `h`'s score of row `r` against key `b`. -/
def s (h r b : ℕ) : ℝ := (∑ l ∈ range 256, A.q r (256 * h + l) * A.kv b (256 * h + l)) * (1 / 16)

/-- Its weight. -/
def p (h r b : ℕ) : ℝ := soft 256 (A.s h r) b

/-- The gradient of its weight. -/
def dp (h r b : ℕ) : ℝ := ∑ l ∈ range 256, A.c r (256 * h + l) * A.kv b (256 * (4 + h) + l)

/-- The gradient of the product before its scale. -/
def ds (h r b : ℕ) : ℝ := dS 256 (A.p h r) (A.dp h r) b * (1 / 16)

/-- The queries' gradient. -/
def dq (r j : ℕ) : ℝ := ∑ l ∈ range 256, A.ds (j / 256) r l * A.kv l (256 * (j / 256) + j % 256)

/-- One row's part of the keys' gradient (slots below 4) and of the values' (the others). -/
def dkvAt (k b d r : ℕ) : ℝ := if k < 4 then A.ds k r b * A.q r (256 * k + d) else A.p (k - 4) r b * A.c r (256 * (k - 4) + d)

end Args

end Cert.Cross

namespace Cert.CrossBwdIdeal.Hand

open Cert.Sb Cert.Cross Cert.CrossBwdIdeal Cert.CrossBwdIdeal.Gen Idealize.ShloMosaic Idealize.ShloMosaic.TcCoe Idealize.SL.Sem Finset Idealize.ShloMosaic.StableHlo
open Idealize.ShloMosaic.Pipeline (Dat)

variable (m : (ℓ : Loc nD τ sig) → Buf (Elt Ideal) ℓ)

abbrev a0 (c : Dev nD) : S8192x1024.Idx → Ideal .f32 := m ((c.tc : Thread nD τ).loc main_arg0)
abbrev a1 (c : Dev nD) : S256x2048.Idx → Ideal .f32 := m ((c.tc : Thread nD τ).loc main_arg1)
abbrev a2 (c : Dev nD) : S8192x1024.Idx → Ideal .f32 := m ((c.tc : Thread nD τ).loc main_arg2)

/-- The arguments hold the numbers `A`. -/
structure ArgIs (A : Args) (c : Dev nD) : Prop where
  q : Is (a0 m c) A.q
  kv : Is (a1 m c) A.kv
  c : Is (a2 m c) A.c

variable {m} {A : Args} {c : Dev nD}

theorem read_q : (V m c main_v2 : S8192x1024.Idx → EReal) = a0 m c := by
  unfold V
  simp only [hostOps0, List.flatten_cons, List.flatten_nil, List.cons_append, List.nil_append, List.append_nil]
  after_reads_simp
  rfl

theorem read_c : (V m c main_v3 : S8192x1024.Idx → EReal) = a2 m c := by
  unfold V
  simp only [hostOps0, List.flatten_cons, List.flatten_nil, List.cons_append, List.nil_append, List.append_nil]
  after_reads_simp
  rfl

theorem read_kv (h : ArgIs m A c) : Is3 (V m c main_v1 : S8x256x256.Idx → EReal) (fun k b d => A.kv b (256 * k + d)) := by
  intro k b d
  have e : (V m c main_v1 : S8x256x256.Idx → EReal) (ix3 k b d) = a1 m c (ix2 b ⟨256 * k.val + d.val, by have := k.isLt; have := d.isLt; omega⟩) := by
    unfold V
    simp only [hostOps0, List.flatten_cons, List.flatten_nil, List.cons_append, List.nil_append, List.append_nil]
    after_reads_at
    exact congrArg (a1 m c) (congrArg (ix2 b) (Fin.ext (by dsimp only; omega)))
  rw [e]
  exact h.kv b _

/-- The windows' index maps over the grid's points. -/
theorem idx0 : ∀ t : Fin cfg0.N, win0_0.index t = ![t.val, 0] ∧ win0_1.index t = ![0, 0, 0] ∧ win0_2.index t = ![t.val, 0]
    ∧ win0_3.index t = ![t.val, 0] ∧ win0_4.index t = ![0, 0, 0] :=
  (by decide +kernel : ∀ t : Fin grid0.N, _)

theorem lt16 (t : Fin cfg0.N) : t.val < 16 := by have := t.isLt; have hN : cfg0.N = 16 := N_0; omega

/-- The columns of head `h` in a block of rows. -/
theorem ld_cols (B : S512x1024.Idx → EReal) (h : Fin 4) (inb) (a : Fin 512) (l : Fin 256) :
    View.ld (Val := Elt Ideal) (e' := .bf16) B (Rect.unit (s := S512x1024) ![0, 256 * h.val] ![512, 256] inb) (ix2 a l)
      = B (ix2 a ⟨256 * h.val + l.val, by have := h.isLt; omega⟩) := by
  refine congrArg B (funext fun b => ?_)
  apply Fin.ext
  fin_cases b <;> simp [Rect.emb, Rect.unit, ix2]

/-- The slot `k` of eight. -/
theorem ld_slot (B : S8x256x256.Idx → EReal) (k : Fin 8) (inb) (b l : Fin 256) :
    View.ld (Val := Elt Ideal) (e' := .f32) B (Rect.unit (s := S8x256x256) ![k.val, 0, 0] ![1, 256, 256] inb) (ix3 0 b l) = B (ix3 k b l) := by
  refine congrArg B (funext fun b => ?_)
  apply Fin.ext
  fin_cases b <;> simp [Rect.emb, Rect.unit, ix3]

theorem ldX (H : ArgIs m A c) (t : Fin cfg0.N) (h : Fin 4) (inb) :
    Is (View.ld (Val := Elt Ideal) (e' := .bf16) (iblk m c 0 t) (Rect.unit (s := S512x1024) ![0, 256 * h.val] ![512, 256] inb))
      (fun a l => A.q (512 * t.val + a) (256 * h.val + l)) := by
  have ht := lt16 t
  intro a l
  have hh := h.isLt
  obtain ⟨e0, -⟩ := idx0 t
  refine (ld_cols _ h inb a l).trans (Eq.trans ?_ (H.q ⟨512 * t.val + a.val, by omega⟩ ⟨256 * h.val + l.val, by omega⟩))
  rw [← read_q]
  blk_ext [iblk, e0]

theorem ldC (H : ArgIs m A c) (t : Fin cfg0.N) (h : Fin 4) (inb) :
    Is (View.ld (Val := Elt Ideal) (e' := .bf16) (iblk m c 2 t) (Rect.unit (s := S512x1024) ![0, 256 * h.val] ![512, 256] inb))
      (fun a l => A.c (512 * t.val + a) (256 * h.val + l)) := by
  have ht := lt16 t
  intro a l
  have hh := h.isLt
  obtain ⟨-, -, e0, -⟩ := idx0 t
  refine (ld_cols _ h inb a l).trans (Eq.trans ?_ (H.c ⟨512 * t.val + a.val, by omega⟩ ⟨256 * h.val + l.val, by omega⟩))
  rw [← read_c]
  blk_ext [iblk, e0]

theorem ldK (H : ArgIs m A c) (t : Fin cfg0.N) (k : Fin 8) (inb) :
    Is3 (View.ld (Val := Elt Ideal) (e' := .f32) (iblk m c 1 t) (Rect.unit (s := S8x256x256) ![k.val, 0, 0] ![1, 256, 256] inb))
      (fun _ b l => A.kv b (256 * k.val + l)) := by
  intro o b l
  obtain rfl := Fin.eq_zero o
  obtain ⟨-, e0, -⟩ := idx0 t
  refine (ld_slot _ k inb b l).trans (Eq.trans ?_ (read_kv H k b l))
  blk_ext [iblk, e0]

/-! ### What a grid point stores -/

/-- Four stored windows of columns. -/
theorem canon_cols (i0 i1 i2 i3) (p0 : (Rect.unit (s := S512x1024) ![0, 0] ![512, 256] i0).shape.Idx → Elt Ideal .bf16)
    (p1 : (Rect.unit (s := S512x1024) ![0, 256] ![512, 256] i1).shape.Idx → Elt Ideal .bf16)
    (p2 : (Rect.unit (s := S512x1024) ![0, 512] ![512, 256] i2).shape.Idx → Elt Ideal .bf16)
    (p3 : (Rect.unit (s := S512x1024) ![0, 768] ![512, 256] i3).shape.Idx → Elt Ideal .bf16) (L : List (View.Piece (Elt Ideal) S512x1024 .bf16))
    (a : Fin 512) (j : Fin 1024) (f : ℕ → EReal) (h0 : ∀ l : Fin 256, p0 (ix2 a l) = f l) (h1 : ∀ l : Fin 256, p1 (ix2 a l) = f (256 + l))
    (h2 : ∀ l : Fin 256, p2 (ix2 a l) = f (512 + l)) (h3 : ∀ l : Fin 256, p3 (ix2 a l) = f (768 + l)) :
    View.canon (⟨Rect.unit ![0, 768] ![512, 256] i3, p3⟩ :: ⟨Rect.unit ![0, 512] ![512, 256] i2, p2⟩ :: ⟨Rect.unit ![0, 256] ![512, 256] i1, p1⟩
      :: ⟨Rect.unit ![0, 0] ![512, 256] i0, p0⟩ :: L) (ix2 a j) = f j := by
  have hit : ∀ (o : ℕ) (inb) (p : (Rect.unit (s := S512x1024) ![0, o] ![512, 256] inb).shape.Idx → Elt Ideal .bf16) (L : List (View.Piece (Elt Ideal) S512x1024 .bf16)),
      (∀ l : Fin 256, p (ix2 a l) = f (o + l)) → o ≤ j.val → j.val < o + 256 → View.canon (⟨Rect.unit ![0, o] ![512, 256] inb, p⟩ :: L) (ix2 a j) = f j := by
    intro o inb p L hp h1 h2
    have h : (ix2 a j : S512x1024.Idx) = (Rect.unit (s := S512x1024) ![0, o] ![512, 256] inb).emb (ix2 a (⟨j.val - o, by omega⟩ : Fin 256)) := by
      funext b
      apply Fin.ext
      fin_cases b <;> simp [Rect.emb, Rect.unit, ix2]
      omega
    rw [h, View.canon_cons_emb, hp]
    congr 1
    dsimp only
    omega
  have miss : ∀ (o : ℕ) (inb) (p : (Rect.unit (s := S512x1024) ![0, o] ![512, 256] inb).shape.Idx → Elt Ideal .bf16) (L : List (View.Piece (Elt Ideal) S512x1024 .bf16)),
      j.val < o → View.canon (⟨Rect.unit ![0, o] ![512, 256] inb, p⟩ :: L) (ix2 a j) = View.canon L (ix2 a j) := by
    intro o inb p L hk
    refine View.canon_cons_of_not_mem _ _ ?_
    rw [Rect.mem_set_unit]
    intro h
    have := h 1
    change o ≤ j.val ∧ j.val < o + 256 at this
    omega
  have hj := j.isLt
  by_cases c3 : 768 ≤ j.val
  · exact hit _ _ _ _ h3 c3 (by omega)
  rw [miss _ _ _ _ (by omega)]
  by_cases c2 : 512 ≤ j.val
  · exact hit _ _ _ _ h2 c2 (by omega)
  rw [miss _ _ _ _ (by omega)]
  by_cases c1 : 256 ≤ j.val
  · exact hit _ _ _ _ h1 c1 (by omega)
  rw [miss _ _ _ _ (by omega)]
  exact hit 0 _ _ _ (fun l => by rw [h0, zero_add]) (by omega) (by omega)

/-- The tile of the queries' gradient of one head. -/
theorem dq_tile (H : ArgIs m A c) (t : Fin cfg0.N) (h : Fin 4) (i0 i1 i2 i3) (a : Fin 512) (l : Fin 256) :
    (k0_pay8 (F := Ideal) (View.ld (iblk m c 0 t) (Rect.unit (s := S512x1024) ![0, 256 * h.val] ![512, 256] i0))
      (View.ld (iblk m c 1 t) (Rect.unit (s := S8x256x256) ![h.val, 0, 0] ![1, 256, 256] i1))
      (View.ld (iblk m c 2 t) (Rect.unit (s := S512x1024) ![0, 256 * h.val] ![512, 256] i2))
      (View.ld (iblk m c 1 t) (Rect.unit (s := S8x256x256) ![4 + h.val, 0, 0] ![1, 256, 256] i3)) (ix2 a l) : EReal)
      = ((A.dq (512 * t.val + a.val) (256 * h.val + l.val) : ℝ) : EReal) := by
  have h4 : (⟨4 + h.val, by have := h.isLt; omega⟩ : Fin 8).val = 4 + h.val := rfl
  refine (dq_is (ldX H t h i0) (ldK H t ⟨h.val, by have := h.isLt; omega⟩ i1) (ldC H t h i2) (ldK H t ⟨4 + h.val, by have := h.isLt; omega⟩ i3) a l).trans ?_
  have e1 : (256 * h.val + l.val) / 256 = h.val := by omega
  have e2 : (256 * h.val + l.val) % 256 = l.val := by omega
  rw [Args.dq, e1, e2]
  rfl

/-- The queries' gradient after the run. -/
theorem final3 (H : ArgIs m A c) : Is ((dats m 0 c).arrAt 3 cfg0.N : S8192x1024.Idx → EReal) A.dq := by
  have e : ((dats m 0 c).arrAt 3 cfg0.N : S8192x1024.Idx → EReal) = fun j : S8192x1024.Idx => ((A.dq (j 0).val (j 1).val : ℝ) : EReal) := by
    refine (dats m 0 c).arrAt_eq_of_covers 3 _ (by decide +kernel) fun t hf y => ?_
    obtain ⟨-, -, -, e0, -⟩ := idx0 t
    have key : (outsAt0 m c t.val t.isLt).1 = fun y : S512x1024.Idx => ((A.dq (512 * t.val + (y 0).val) (y 1).val : ℝ) : EReal) := by
      funext y
      idx_vars y
      by_cases h0 : t.val % 16 = 0
      · rw [outsAt0_A m c t h0]
        frame_out
        exact canon_cols _ _ _ _ _ _ _ _ _ _ _ (fun j => ((A.dq (512 * t.val + y0.val) j : ℝ) : EReal)) (fun l => (dq_tile H t 0 _ _ _ _ y0 l).trans (by simp))
          (fun l => dq_tile H t 1 _ _ _ _ y0 l) (fun l => dq_tile H t 2 _ _ _ _ y0 l) (fun l => dq_tile H t 3 _ _ _ _ y0 l)
      · rw [outsAt0_B m c t h0]
        frame_out
        exact canon_cols _ _ _ _ _ _ _ _ _ _ _ (fun j => ((A.dq (512 * t.val + y0.val) j : ℝ) : EReal)) (fun l => (dq_tile H t 0 _ _ _ _ y0 l).trans (by simp))
          (fun l => dq_tile H t 1 _ _ _ _ y0 l) (fun l => dq_tile H t 2 _ _ _ _ y0 l) (fun l => dq_tile H t 3 _ _ _ _ y0 l)
    blk_simp [e0]
    rw [after0_3, key]
    simp only [Nat.mul_comm t.val 512]
  intro a b
  exact congrFun e (ix2 a b)

/-- Eight stored slots. -/
theorem canon_slots (i0 i1 i2 i3 i4 i5 i6 i7) (p0 : (Rect.unit (s := S8x256x256) ![0, 0, 0] ![1, 256, 256] i0).shape.Idx → Elt Ideal .f32)
    (p1 : (Rect.unit (s := S8x256x256) ![1, 0, 0] ![1, 256, 256] i1).shape.Idx → Elt Ideal .f32)
    (p2 : (Rect.unit (s := S8x256x256) ![2, 0, 0] ![1, 256, 256] i2).shape.Idx → Elt Ideal .f32)
    (p3 : (Rect.unit (s := S8x256x256) ![3, 0, 0] ![1, 256, 256] i3).shape.Idx → Elt Ideal .f32)
    (p4 : (Rect.unit (s := S8x256x256) ![4, 0, 0] ![1, 256, 256] i4).shape.Idx → Elt Ideal .f32)
    (p5 : (Rect.unit (s := S8x256x256) ![5, 0, 0] ![1, 256, 256] i5).shape.Idx → Elt Ideal .f32)
    (p6 : (Rect.unit (s := S8x256x256) ![6, 0, 0] ![1, 256, 256] i6).shape.Idx → Elt Ideal .f32)
    (p7 : (Rect.unit (s := S8x256x256) ![7, 0, 0] ![1, 256, 256] i7).shape.Idx → Elt Ideal .f32) (L : List (View.Piece (Elt Ideal) S8x256x256 .f32))
    (k : Fin 8) (b d : Fin 256) (f : Fin 8 → EReal) (h0 : p0 (ix3 (0 : Fin 1) b d) = f 0) (h1 : p1 (ix3 (0 : Fin 1) b d) = f 1)
    (h2 : p2 (ix3 (0 : Fin 1) b d) = f 2) (h3 : p3 (ix3 (0 : Fin 1) b d) = f 3) (h4 : p4 (ix3 (0 : Fin 1) b d) = f 4)
    (h5 : p5 (ix3 (0 : Fin 1) b d) = f 5) (h6 : p6 (ix3 (0 : Fin 1) b d) = f 6) (h7 : p7 (ix3 (0 : Fin 1) b d) = f 7) :
    View.canon (⟨Rect.unit ![7, 0, 0] ![1, 256, 256] i7, p7⟩ :: ⟨Rect.unit ![3, 0, 0] ![1, 256, 256] i3, p3⟩
      :: ⟨Rect.unit ![6, 0, 0] ![1, 256, 256] i6, p6⟩ :: ⟨Rect.unit ![2, 0, 0] ![1, 256, 256] i2, p2⟩
      :: ⟨Rect.unit ![5, 0, 0] ![1, 256, 256] i5, p5⟩ :: ⟨Rect.unit ![1, 0, 0] ![1, 256, 256] i1, p1⟩
      :: ⟨Rect.unit ![4, 0, 0] ![1, 256, 256] i4, p4⟩ :: ⟨Rect.unit ![0, 0, 0] ![1, 256, 256] i0, p0⟩ :: L) (ix3 k b d) = f k := by
  have cons : ∀ (o : Fin 8) (inb) (p : (Rect.unit (s := S8x256x256) ![o.val, 0, 0] ![1, 256, 256] inb).shape.Idx → Elt Ideal .f32)
      (L : List (View.Piece (Elt Ideal) S8x256x256 .f32)), p (ix3 (0 : Fin 1) b d) = f o →
      (k ≠ o → View.canon L (ix3 k b d) = f k) → View.canon (⟨Rect.unit ![o.val, 0, 0] ![1, 256, 256] inb, p⟩ :: L) (ix3 k b d) = f k := by
    intro o inb p L hp hL
    by_cases hk : k = o
    · subst hk
      have h : (ix3 k b d : S8x256x256.Idx) = (Rect.unit (s := S8x256x256) ![k.val, 0, 0] ![1, 256, 256] inb).emb (ix3 (0 : Fin 1) b d) := by
        funext a
        apply Fin.ext
        fin_cases a <;> simp [Rect.emb, Rect.unit, ix3]
      rw [h, View.canon_cons_emb, hp]
    · rw [View.canon_cons_of_not_mem _ _, hL hk]
      rw [Rect.mem_set_unit]
      intro h
      have := h 0
      change o.val ≤ k.val ∧ k.val < o.val + 1 at this
      exact hk (Fin.ext (by omega))
  refine cons 7 _ _ _ h7 fun n7 => cons 3 _ _ _ h3 fun n3 => cons 6 _ _ _ h6 fun n6 => cons 2 _ _ _ h2 fun n2 => cons 5 _ _ _ h5 fun n5 =>
    cons 1 _ _ _ h1 fun n1 => cons 4 _ _ _ h4 fun n4 => cons 0 _ _ _ h0 fun n0 => ?_
  exact absurd k.isLt (by simp only [ne_eq, Fin.ext_iff] at *; simp at *; omega)

/-- What a grid point adds to a slot. -/
abbrev term (A : Args) (t k b d : ℕ) : EReal := ((∑ r ∈ range 512, A.dkvAt k b d (512 * t + r) : ℝ) : EReal)

theorem dk_tile (H : ArgIs m A c) (t : Fin cfg0.N) (h : Fin 4) (i0 i1 i2 i3) (P : FVec Ideal S1x256x256 .f32) (y : EReal) (a d : Fin 256) (hP : P (ix3 0 a d) = y) :
    (k0_pay9 (F := Ideal) (k0_pay3 (View.ld (iblk m c 0 t) (Rect.unit (s := S512x1024) ![0, 256 * h.val] ![512, 256] i0)))
      (k0_pay7 (View.ld (iblk m c 0 t) (Rect.unit (s := S512x1024) ![0, 256 * h.val] ![512, 256] i0))
      (View.ld (iblk m c 1 t) (Rect.unit (s := S8x256x256) ![h.val, 0, 0] ![1, 256, 256] i1))
      (View.ld (iblk m c 2 t) (Rect.unit (s := S512x1024) ![0, 256 * h.val] ![512, 256] i2))
      (View.ld (iblk m c 1 t) (Rect.unit (s := S8x256x256) ![4 + h.val, 0, 0] ![1, 256, 256] i3))) P (ix3 0 a d) : EReal)
      = y + term A t.val h.val a.val d.val := by
  refine (dk_is (ldX H t h i0) (ldK H t ⟨h.val, by have := h.isLt; omega⟩ i1) (ldC H t h i2) (ldK H t ⟨4 + h.val, by have := h.isLt; omega⟩ i3) P a d).trans ?_
  rw [hP]
  refine congrArg (y + ·) (congrArg Real.toEReal (sum_congr rfl fun r _ => ?_))
  rw [Args.dkvAt, if_pos h.isLt]
  rfl

theorem dv_tile (H : ArgIs m A c) (t : Fin cfg0.N) (h : Fin 4) (i0 i1 i2) (P : FVec Ideal S1x256x256 .f32) (y : EReal) (a d : Fin 256) (hP : P (ix3 0 a d) = y) :
    (k0_pay10 (F := Ideal) (k0_pay5 (View.ld (iblk m c 2 t) (Rect.unit (s := S512x1024) ![0, 256 * h.val] ![512, 256] i2)))
      (k0_pay6 (View.ld (iblk m c 0 t) (Rect.unit (s := S512x1024) ![0, 256 * h.val] ![512, 256] i0))
      (View.ld (iblk m c 1 t) (Rect.unit (s := S8x256x256) ![h.val, 0, 0] ![1, 256, 256] i1))) P (ix3 0 a d) : EReal)
      = y + term A t.val (4 + h.val) a.val d.val := by
  refine (dv_is (ldX H t h i0) (ldK H t ⟨h.val, by have := h.isLt; omega⟩ i1) (ldC H t h i2) P a d).trans ?_
  rw [hP]
  refine congrArg (y + ·) (congrArg Real.toEReal (sum_congr rfl fun r _ => ?_))
  rw [Args.dkvAt, if_neg (by omega), Nat.add_sub_cancel_left]
  rfl

/-- The slots after a grid point that adds to what the point before left. -/
theorem stepB (H : ArgIs m A c) (t : Fin cfg0.N) (h0 : ¬ t.val % 16 = 0) (k : Fin 8) (b d : Fin 256) : (outsAt0 m c t.val t.isLt).2 (ix3 k b d)
    = (outsAt0 m c (t.val - 1) (by omega)).2 (ix3 k b d) + term A t.val k.val b.val d.val := by
  rw [outsAt0_B m c t h0]
  frame_open
  simp (disch := decide) only [↓ View.readCov_skip, ↓ View.readCov_cons_toLoadRect, ↓ View.readCov_fill]
  frame_out
  generalize outsAt0 m c (t.val - 1) _ = prev
  refine canon_slots _ _ _ _ _ _ _ _ _ _ _ _ _ _ _ _ _ k b d (fun k => prev.2 (ix3 k b d) + term A t.val k.val b.val d.val) ?_ ?_ ?_ ?_ ?_ ?_ ?_ ?_
  · exact dk_tile H t 0 _ _ _ _ _ _ b d (ld_slot _ 0 _ b d)
  · exact dk_tile H t 1 _ _ _ _ _ _ b d (ld_slot _ 1 _ b d)
  · exact dk_tile H t 2 _ _ _ _ _ _ b d (ld_slot _ 2 _ b d)
  · exact dk_tile H t 3 _ _ _ _ _ _ b d (ld_slot _ 3 _ b d)
  · exact dv_tile H t 0 _ _ _ _ _ b d (ld_slot _ 4 _ b d)
  · exact dv_tile H t 1 _ _ _ _ _ b d (ld_slot _ 5 _ b d)
  · exact dv_tile H t 2 _ _ _ _ _ b d (ld_slot _ 6 _ b d)
  · exact dv_tile H t 3 _ _ _ _ _ b d (ld_slot _ 7 _ b d)

/-- The slots after the grid point that starts them. -/
theorem stepA (H : ArgIs m A c) (t : Fin cfg0.N) (h0 : t.val % 16 = 0) (k : Fin 8) (b d : Fin 256) : (outsAt0 m c t.val t.isLt).2 (ix3 k b d)
    = 0 + term A t.val k.val b.val d.val := by
  rw [outsAt0_A m c t h0]
  frame_open
  simp (disch := decide) only [↓ View.readCov_skip, ↓ View.readCov_cons_toLoadRect, ↓ View.readCov_fill]
  frame_out
  have z : ∀ (k : Fin 8) (inb), (View.ld (Val := Elt Ideal) (e' := .f32) (k0_pay2 (F := Ideal)) (Rect.unit (s := S8x256x256) ![k.val, 0, 0] ![1, 256, 256] inb) (ix3 (0 : Fin 1) b d) : EReal) = 0 := by
    intro k inb
    unfold k0_pay2
    pointwise
  refine canon_slots _ _ _ _ _ _ _ _ _ _ _ _ _ _ _ _ _ k b d (fun k => 0 + term A t.val k.val b.val d.val) ?_ ?_ ?_ ?_ ?_ ?_ ?_ ?_
  · exact dk_tile H t 0 _ _ _ _ _ _ b d (z 0 _)
  · exact dk_tile H t 1 _ _ _ _ _ _ b d (z 1 _)
  · exact dk_tile H t 2 _ _ _ _ _ _ b d (z 2 _)
  · exact dk_tile H t 3 _ _ _ _ _ _ b d (z 3 _)
  · exact dv_tile H t 0 _ _ _ _ _ b d (z 4 _)
  · exact dv_tile H t 1 _ _ _ _ _ b d (z 5 _)
  · exact dv_tile H t 2 _ _ _ _ _ b d (z 6 _)
  · exact dv_tile H t 3 _ _ _ _ _ b d (z 7 _)

/-- A sum over the rows of all blocks is a sum over the rows. -/
theorem blocks_sum (f : ℕ → ℝ) : 0 + ∑ p : Fin cfg0.N, ((∑ r ∈ range 512, f (512 * p.val + r) : ℝ) : EReal) = ((∑ r ∈ range 8192, f r : ℝ) : EReal) := by
  rw [zero_add, ← coe_sum]
  refine congrArg Real.toEReal ?_
  have h := Fin.sum_univ_univ_mul_add 16 512 f
  simp only [Nat.mul_comm _ 512] at h
  rw [← Fin.sum_univ_eq_sum_range]
  refine Eq.trans ?_ h
  exact sum_congr rfl fun p _ => (Fin.sum_univ_eq_sum_range (fun r => f (512 * p.val + r)) 512).symm

/-- The last grid point. -/
def last : Fin cfg0.N := ⟨15, lt_of_lt_of_eq (by decide) (show 16 = cfg0.N from N_0.symm)⟩

/-- The keys' and values' gradient after the run. -/
theorem final4 (H : ArgIs m A c) : Is3 ((dats m 0 c).arrAt 4 cfg0.N : S8x256x256.Idx → EReal) (fun k b d => ∑ r ∈ range 8192, A.dkvAt k b d r) := by
  have e : ((dats m 0 c).arrAt 4 cfg0.N : S8x256x256.Idx → EReal)
      = fun j : S8x256x256.Idx => ((∑ r ∈ range 8192, A.dkvAt (j 0).val (j 1).val (j 2).val r : ℝ) : EReal) := by
    refine (dats m 0 c).arrAt_eq_of_after_last 4 last (by decide +kernel) _ fun j => ?_
    idx_vars j
    rw [after0_4]
    exact (Pipeline.eq_sum_fin_of_reset_step_apply_last (fun n h => (outsAt0 m c n h).2) 16 (fun _ => 0)
      (fun t i => term A t.val (i 0).val (i 1).val (i 2).val)
      (fun t h i => by idx_vars i; exact stepA H t h _ _ _) (fun t h i => by idx_vars i; exact stepB H t h _ _ _) (by decide) last rfl _).trans (blocks_sum _)
  intro k b d
  exact congrFun e (ix3 k b d)

end Cert.CrossBwdIdeal.Hand

end

end
-- ==== Proof.XfTile.lean ====
/-
  The softmax cross attention: what the kernel and the reference compute for one head, over all the extended reals.
-/
module

public import proofs.«01_k».proof.Proof.CrossKernel
public import proofs.«01_k».proof.Proof.Gen.CrossFwdIdeal.Value
public import proofs.«01_k».proof.Proof.Gen.CrossFwdRefIdeal.Read

@[expose] public section

set_option maxRecDepth 16384

noncomputable section

namespace Cert.Xf

open Cert.Sb Cert.Cross Idealize.ShloMosaic Finset

/-- A row's attention: the values weighted by the softmax of the scores, the largest score taken off first. -/
def att (s v : ℕ → EReal) : EReal :=
  ∑ b : Fin 256, Ideal.div (Ideal.exp (s b - univ.fold max (⊥ : EReal) fun x : Fin 256 => s x))
    (∑ x : Fin 256, Ideal.exp (s x - univ.fold max (⊥ : EReal) fun x : Fin 256 => s x)) * v b

/-- The score of query `r` and memory row `b` in head `h`. -/
def sc (q kv : ℕ → ℕ → EReal) (h r b : ℕ) : EReal := (∑ l : Fin 256, q r (256 * h + l) * kv b (256 * h + l)) * ((1 / 16 : ℝ) : EReal)

/-- The output's entry of row `r` and column `j`. -/
def out (q kv : ℕ → ℕ → EReal) (r j : ℕ) : EReal := att (sc q kv (j / 256) r) fun b => kv b (1024 + j)

end Cert.Xf

namespace Cert.CrossFwdIdeal.Hand

open Cert.Sb Cert.Cross Cert.Xf Cert.CrossFwdIdeal Cert.CrossFwdIdeal.Gen Idealize.ShloMosaic Idealize.ShloMosaic.TcCoe Finset

/-- A head's tile. -/
theorem tile_of (X : FVec Ideal S512x256 .bf16) (K V : FVec Ideal S1x256x256 .f32) (a : Fin 512) (d : Fin 256) (x v : ℕ → EReal) (kk : ℕ → ℕ → EReal)
    (hX : ∀ l : Fin 256, X (ix2 a l) = x l) (hK : ∀ b l : Fin 256, K (ix3 0 b l) = kk b l) (hV : ∀ b : Fin 256, V (ix3 0 b d) = v b) :
    (k0_pay1 (F := Ideal) X K V (ix2 a d) : EReal) = att (fun b => (∑ l : Fin 256, x l * kk b l) * ((1 / 16 : ℝ) : EReal)) v := by
  pointwise [k0_pay1]
  simp only [hX, hK, hV, bot_bits, sixteenth]
  rfl

end Cert.CrossFwdIdeal.Hand

namespace Cert.CrossFwdRefIdeal.Hand

open Cert.Sb Cert.Cross Cert.Xf Cert.Grad Cert.CrossFwdRefIdeal Cert.CrossFwdRefIdeal.Gen Cert.CrossFwdRefIdeal.Read Idealize.ShloMosaic Idealize.ShloMosaic.TcCoe Finset

variable (x0 : S8192x1024.Idx → Ideal .f32) (x1 : S256x2048.Idx → Ideal .f32)

theorem s_of (h : Fin 4) (t : Fin 8192) (b : Fin 256) : (val_main_v7 (F := Ideal) x0 x1 (ix3 h t b) : EReal) = sc (rd x0) (rd x1) h t b := by
  pointwise [val_main_v7, val_main_v6, val_main_v5, val_main_cst, val_main_v2, val_main_v3, val_main_v0]
  rw [show Ideal.ofBits .f32 0x41800000#32 = ((16 : ℝ) : EReal) by simp [Ideal.ofBits, Ideal.ieee, -EReal.coe_mul]; norm_num, Ideal.div_coe (by norm_num)]
  simp only [rd_ix2, Nat.mul_comm _ 256]
  rfl

theorem m_of (h : Fin 4) (t : Fin 8192) :
    (val_main_v10 (F := Ideal) x0 x1 (ix2 h t) : EReal) = univ.fold max (⊥ : EReal) fun b : Fin 256 => sc (rd x0) (rd x1) h t b := by
  have e : (val_main_v8 (F := Ideal) x0 x1 (ix2 h t) : EReal) = univ.fold max (⊥ : EReal) fun b : Fin 256 => sc (rd x0) (rd x1) h t b := by
    pointwise [val_main_v8, val_main_cst_0]
    simp only [s_of, bot_bits]
  rw [val_main_v10_apply, val_main_v9_apply, val_main_cst_1_apply, e, show (FloatOps.ofBits .f32 0xFF800000#32 : Ideal .f32) = (⊥ : EReal) from bot_bits]
  exact max_eq_right bot_le

theorem out_of (t : Fin 8192) (j : Fin 1024) : (val_main_v22 (F := Ideal) x0 x1 (ix2 t j) : EReal) = out (rd x0) (rd x1) t j := by
  pointwise [val_main_v22, val_main_v21, val_main_v20, val_main_v19, val_main_v4, val_main_v1, val_main_v18, val_main_v17, val_main_v16, val_main_v15,
    val_main_v14, val_main_v13, val_main_v12, val_main_v11, val_main_cst_2]
  simp only [s_of, m_of]
  simp only [rd_ix2]
  exact sum_congr rfl fun b _ => EReal.mul_comm _ _

end Cert.CrossFwdRefIdeal.Hand

end

end
-- ==== Proof.XfValue.lean ====
/-
  The softmax cross attention's forward kernel equals the plain attention, at every argument.
-/
module

public import proofs.«01_k».proof.Defs
public import proofs.«01_k».proof.Proof.XfTile
public import proofs.«01_k».proof.Proof.Gen.CrossFwdRefIdeal.Run

@[expose] public section

set_option maxRecDepth 16384

noncomputable section

namespace Cert.CrossFwdIdeal.Hand

open Cert.Sb Cert.Cross Cert.Xf Cert.Grad Cert.CrossFwdIdeal Cert.CrossFwdIdeal.Gen Idealize.ShloMosaic Idealize.ShloMosaic.TcCoe Finset

variable (m : (ℓ : Loc nD τ sig) → Buf (Elt Ideal) ℓ) (c : Dev nD)

abbrev a0 : S8192x1024.Idx → Ideal .f32 := m ((c.tc : Thread nD τ).loc main_arg0)
abbrev a1 : S256x2048.Idx → Ideal .f32 := m ((c.tc : Thread nD τ).loc main_arg1)

/-- The queries as the grid finds them. -/
theorem read_q : (V m c main_v2 : S8192x1024.Idx → EReal) = a0 m c := by
  unfold V
  simp only [hostOps0, List.flatten_cons, List.flatten_nil, List.cons_append, List.nil_append, List.append_nil]
  after_reads_simp
  rfl

/-- The keys and values as the grid finds them: by heads. -/
theorem read_kv (k : Fin 8) (b d : Fin 256) : (V m c main_v1 : S8x256x256.Idx → EReal) (ix3 k b d) = rd (a1 m c) b (256 * k + d) := by
  have hk := k.isLt
  have e : (V m c main_v1 : S8x256x256.Idx → EReal) (ix3 k b d) = a1 m c (ix2 b ⟨256 * k.val + d.val, by have := d.isLt; omega⟩) := by
    unfold V
    simp only [hostOps0, List.flatten_cons, List.flatten_nil, List.cons_append, List.nil_append, List.append_nil]
    after_reads_at
    exact congrArg (a1 m c) (congrArg (ix2 b) (Fin.ext (by dsimp only; omega)))
  exact e.trans (rd_ix2 (a1 m c) b _)

theorem idx0 : ∀ t : Fin cfg0.N, win0_0.index t = ![t.val, 0] ∧ win0_1.index t = ![0, 0, 0] ∧ win0_2.index t = ![t.val, 0] :=
  (by decide +kernel : ∀ t : Fin grid0.N, _)

theorem lt16 (t : Fin cfg0.N) : t.val < 16 := by have := t.isLt; have hN : cfg0.N = 16 := N_0; omega

theorem ldX (t : Fin cfg0.N) (h : Fin 4) (inb) (a : Fin 512) (l : Fin 256) :
    (View.ld (Val := Elt Ideal) (e' := .bf16) (iblk m c 0 t) (Rect.unit (s := S512x1024) ![0, 256 * h.val] ![512, 256] inb) (ix2 a l) : EReal)
      = rd (a0 m c) (512 * t.val + a) (256 * h.val + l) := by
  have ht := lt16 t
  have hh := h.isLt
  obtain ⟨e0, -⟩ := idx0 t
  refine (Cert.CrossBwdIdeal.Hand.ld_cols _ h inb a l).trans (Eq.trans ?_
    (rd_ix2 (a0 m c) ⟨512 * t.val + a.val, by omega⟩ ⟨256 * h.val + l.val, by omega⟩))
  rw [← read_q]
  blk_ext [iblk, e0]

theorem ldK (t : Fin cfg0.N) (k : Fin 8) (inb) (b l : Fin 256) :
    (View.ld (Val := Elt Ideal) (e' := .f32) (iblk m c 1 t) (Rect.unit (s := S8x256x256) ![k.val, 0, 0] ![1, 256, 256] inb) (ix3 0 b l) : EReal)
      = rd (a1 m c) b (256 * k.val + l) := by
  obtain ⟨-, e0, -⟩ := idx0 t
  refine (Cert.CrossBwdIdeal.Hand.ld_slot _ k inb b l).trans (Eq.trans ?_ (read_kv m c k b l))
  blk_ext [iblk, e0]

/-- A head's tile of the output. -/
theorem o_tile (t : Fin cfg0.N) (h : Fin 4) (i0 i1 i2) (a : Fin 512) (l : Fin 256) :
    (k0_pay1 (F := Ideal) (View.ld (iblk m c 0 t) (Rect.unit (s := S512x1024) ![0, 256 * h.val] ![512, 256] i0))
      (View.ld (iblk m c 1 t) (Rect.unit (s := S8x256x256) ![h.val, 0, 0] ![1, 256, 256] i1))
      (View.ld (iblk m c 1 t) (Rect.unit (s := S8x256x256) ![4 + h.val, 0, 0] ![1, 256, 256] i2)) (ix2 a l) : EReal)
      = out (rd (a0 m c)) (rd (a1 m c)) (512 * t.val + a) (256 * h.val + l) := by
  have e1 : (256 * h.val + l.val) / 256 = h.val := by omega
  have hh := h.isLt
  refine (tile_of _ _ _ a l (fun j => rd (a0 m c) (512 * t.val + a) (256 * h.val + j)) (fun b => rd (a1 m c) b (256 * (4 + h.val) + l))
    (fun b j => rd (a1 m c) b (256 * h.val + j)) (fun j => ldX m c t h i0 a j) (fun b j => ldK m c t ⟨h.val, by omega⟩ i1 b j)
    (fun b => ldK m c t ⟨4 + h.val, by omega⟩ i2 b l)).trans ?_
  rw [out, e1]
  refine congrArg (att _) (funext fun b => congrArg _ ?_)
  omega

/-- The output after the run. -/
theorem final2 : ((dats m 0 c).arrAt 2 cfg0.N : S8192x1024.Idx → EReal) = fun j : S8192x1024.Idx => out (rd (a0 m c)) (rd (a1 m c)) (j 0).val (j 1).val := by
  refine (dats m 0 c).arrAt_eq_of_covers 2 _ (by decide +kernel) fun t hf y => ?_
  obtain ⟨-, -, e0⟩ := idx0 t
  have key : (out0_2 (iblk m c 0 t) (iblk m c 1 t) : S512x1024.Idx → EReal)
      = fun y : S512x1024.Idx => out (rd (a0 m c)) (rd (a1 m c)) (512 * t.val + (y 0).val) (y 1).val := by
    funext y
    idx_vars y
    exact Cert.CrossBwdIdeal.Hand.canon_cols _ _ _ _ _ _ _ _ _ _ _ (fun j => out (rd (a0 m c)) (rd (a1 m c)) (512 * t.val + y0.val) j)
      (fun l => (o_tile m c t 0 _ _ _ y0 l).trans (by simp)) (fun l => o_tile m c t 1 _ _ _ y0 l) (fun l => o_tile m c t 2 _ _ _ y0 l)
      (fun l => o_tile m c t 3 _ _ _ y0 l)
  blk_simp [e0]
  rw [after0_2, key]
  simp only [Nat.mul_comm t.val 512]

end Cert.CrossFwdIdeal.Hand

namespace Cert.Xf

open Cert.Sb Cert.Grad Idealize.ShloMosaic Idealize.ShloMosaic.TcCoe Idealize.SL.Sem

/-- The reference runs and keeps its arguments. -/
theorem frame_ref : Cert.quiescent_CrossFwdRefIdeal := fun m ρ _ =>
  (θ_run Cert.CrossFwdRefIdeal.defs _ _).mono (fun r h => ⟨fun c => (h c).2, sem_eq_zero_of_no_sems (by decide) r.2⟩)
    (Cert.CrossFwdRefIdeal.Value.run m ρ)

/-- The kernel's output is the plain attention's. -/
theorem value : Cert.algebraic_CrossFwdIdeal_CrossFwdRefIdeal := by
  intro m g m' g' _ hagree
  refine ⟨fun c => (Cert.CrossFwdIdeal.Gen.dats m 0 c).arrAt 2 Cert.CrossFwdIdeal.cfg0.N,
    Cert.CrossFwdIdeal.Value.run_blocks (F := Ideal) m g,
    (θ_run Cert.CrossFwdRefIdeal.defs _ _).mono (fun r h c => ?_) (Cert.CrossFwdRefIdeal.Value.run m' g')⟩
  obtain ⟨h1, h2⟩ := h c
  obtain ⟨b0, b1⟩ := hagree c
  rw [Cert.CrossFwdRefIdeal.Read.val_main_v22_eq, b0, b1] at h1
  refine ⟨h1.trans (Eq.trans (funext fun j => ?_) (Cert.CrossFwdIdeal.Hand.final2 m c).symm), h2⟩
  idx_vars j
  exact Cert.CrossFwdRefIdeal.Hand.out_of _ _ j0 j1

end Cert.Xf

end

end
-- ==== Proof.FfnTile.lean ====
/-
  One tile of the feed-forward layer's gradient kernel on finite numbers: what each operation of a chunk of 672 columns stores,
  as a real number.
-/
module

public import proofs.«01_k».proof.Proof.SbArr
public import proofs.«01_k».proof.Proof.SbWindow
public import proofs.«01_k».proof.Proof.Gen.FfnBwdIdeal.Value

@[expose] public section

set_option maxRecDepth 16384

noncomputable section

namespace Cert.Ffn

open Cert.Sb Idealize.ShloMosaic Finset

/-- The logistic function. -/
def sg (g : ℝ) : ℝ := (1 + Real.exp (-g))⁻¹

/-- The gate's gradient from the activation's gradient `d`, at gate `g` and factor `u`. -/
def gate (d g u : ℝ) : ℝ := d * u * (sg g * (1 + g * (1 - sg g)))

/-- The residual's weight. -/
def alpha : ℝ := 9975792 / 8388608

theorem one_bits : (FloatOps.ofBits (F := Ideal) FTy.f32 0x3F800000#32 : EReal) = 1 := by
  show Ideal.ofBits .f32 0x3F800000#32 = 1
  simp [Ideal.ofBits, Ideal.ieee, -EReal.coe_mul]; norm_num

theorem half_bits : Ideal.ofBits .f32 0x3F000000#32 = ((1 / 2 : ℝ) : EReal) := by
  simp [Ideal.ofBits, Ideal.ieee, -EReal.coe_mul]; norm_num

theorem alpha_bits : Ideal.ofBits .f32 0x3F9837F0#32 = ((alpha : ℝ) : EReal) := by
  simp [Ideal.ofBits, Ideal.ieee, -EReal.coe_mul, alpha]; norm_num

theorem sg_of {x : EReal} {g : ℝ} (h : x = (g : EReal)) : Ideal.logistic x = ((sg g : ℝ) : EReal) := by
  rw [h, Ideal.logistic_coe]; rfl

/-- The gate's gradient, as the kernel writes it. -/
theorem gate_of {d x y : EReal} {a g u : ℝ} (hd : d = (a : EReal)) (hx : x = (g : EReal)) (hy : y = (u : EReal)) :
    d * y * (Ideal.logistic x * (1 + x * (1 - Ideal.logistic x))) = ((gate a g u : ℝ) : EReal) := by
  rw [sg_of hx, hd, hx, hy, ← EReal.coe_one, ← EReal.coe_sub, ← EReal.coe_mul, ← EReal.coe_mul, ← EReal.coe_add, ← EReal.coe_mul, ← EReal.coe_mul]
  rfl

/-- The second factor's gradient, as the kernel writes it. -/
theorem up_of {d x : EReal} {a g : ℝ} (hd : d = (a : EReal)) (hx : x = (g : EReal)) : d * (x * Ideal.logistic x) = ((a * (g * sg g) : ℝ) : EReal) := by
  rw [sg_of hx, hd, hx, ← EReal.coe_mul, ← EReal.coe_mul]

/-- The activation, as the kernel writes it. -/
theorem act_of {x y : EReal} {g u : ℝ} (hx : x = (g : EReal)) (hy : y = (u : EReal)) : x * Ideal.logistic x * y = ((g * sg g * u : ℝ) : EReal) := by
  rw [sg_of hx, hy, hx, ← EReal.coe_mul, ← EReal.coe_mul]

/-- Half the incoming gradient times a row of weights. -/
theorem da_of {n : ℕ} (x w : Fin n → EReal) (f g : ℕ → ℝ) (hx : ∀ i : Fin n, x i = ((f i.val : ℝ) : EReal)) (hw : ∀ i : Fin n, w i = ((g i.val : ℝ) : EReal)) :
    ∑ i, Ideal.ofBits .f32 0x3F000000#32 * x i * w i = ((∑ i ∈ range n, 1 / 2 * f i * g i : ℝ) : EReal) :=
  dot_of _ _ (fun i => 1 / 2 * f i) g (fun i => by rw [hx, half_bits, ← EReal.coe_mul]) hw

/-- What a chunk adds to the input's gradient. -/
theorem add2_of {n k : ℕ} {p : EReal} {r : ℝ} (hp : p = (r : EReal)) (x y : Fin n → EReal) (z w : Fin k → EReal) (f g u v : ℕ → ℝ)
    (hx : ∀ i : Fin n, x i = ((f i.val : ℝ) : EReal)) (hy : ∀ i : Fin n, y i = ((g i.val : ℝ) : EReal))
    (hz : ∀ i : Fin k, z i = ((u i.val : ℝ) : EReal)) (hw : ∀ i : Fin k, w i = ((v i.val : ℝ) : EReal)) :
    p + ∑ i, x i * y i + ∑ i, z i * w i = ((r + ∑ i ∈ range n, f i * g i + ∑ i ∈ range k, u i * v i : ℝ) : EReal) := by
  rw [dot_of x y f g hx hy, dot_of z w u v hz hw, hp, ← EReal.coe_add, ← EReal.coe_add]

/-- A copy of the whole array, read back in part. -/
theorem readCov_whole {sig : RefSig} {κ : Kind} {sp : Space} {s : Shape} {e : EltTy} (v : View sig κ sp s e) (w : s.Idx → Elt Ideal e) (r : Rect s) :
    v.readCov [(⟨Rect.whole s, w⟩ : View.Piece (Elt Ideal) s e)] r.toLoadRect = View.ld w r :=
  by
  have e : View.canon [(⟨Rect.whole s, w⟩ : View.Piece (Elt Ideal) s e)] = w := View.canon_unit_zero rfl _ w
  rw [View.readCov_eq_canon_ld _ _ _ fun y => ⟨_, List.mem_singleton_self _, by rw [Rect.set_whole]; exact Finset.mem_univ y⟩, e]

end Cert.Ffn

namespace Cert.FfnBwdIdeal.Hand

open Cert.Sb Cert.Ffn Cert.FfnBwdIdeal Cert.FfnBwdIdeal.Gen Idealize.ShloMosaic Idealize.ShloMosaic.TcCoe Finset

variable {x w p dg du : ℕ → ℕ → ℝ} {g u v v' : ℕ → ℕ → ℕ → ℝ} {X : FVec Ideal S256x1024 .f32} {P : FVec Ideal S256x1024 .f32} {W : FVec Ideal S672x1024 .bf16}
  {G U : FVec Ideal S1x256x672 .bf16} {V V' : FVec Ideal S1x672x1024 .bf16}

/-- The activation's gradient in a tile. -/
abbrev da (x w : ℕ → ℕ → ℝ) (a b : ℕ) : ℝ := ∑ e ∈ range 1024, 1 / 2 * x a e * w b e

/-- The gate's gradient in a tile. -/
abbrev dgT (x w : ℕ → ℕ → ℝ) (g u : ℕ → ℕ → ℕ → ℝ) (a b : ℕ) : ℝ := gate (da x w a b) (g 0 a b) (u 0 a b)

/-- The second factor's gradient in a tile. -/
abbrev duT (x w : ℕ → ℕ → ℝ) (g : ℕ → ℕ → ℕ → ℝ) (a b : ℕ) : ℝ := da x w a b * (g 0 a b * sg (g 0 a b))

/-- The activation in a tile. -/
abbrev actT (g u : ℕ → ℕ → ℕ → ℝ) (a b : ℕ) : ℝ := g 0 a b * sg (g 0 a b) * u 0 a b

/-- The input's gradient with one chunk added. -/
abbrev addT (p dg du : ℕ → ℕ → ℝ) (v v' : ℕ → ℕ → ℕ → ℝ) (a b : ℕ) : ℝ :=
  p a b + ∑ l ∈ range 672, dg a l * v 0 l b + ∑ l ∈ range 672, du a l * v' 0 l b

theorem start_is (hX : Is X x) : Is (k0_pay3 (F := Ideal) X) (fun a b => alpha * x a b) := by
  intro a b
  pointwise [k0_pay3]
  rw [hX a b, alpha_bits, ← EReal.coe_mul]

/-! ### A chunk's store -/

theorem st12 {D : FVec Ideal S256x672 .bf16} (hD : Is D dg) (a : Fin 256) (b : Fin 672) : (k0_pay12 (F := Ideal) D (ix3 0 a b) : EReal) = ((dg a b : ℝ) : EReal) := by
  pointwise [k0_pay12]
  exact hD a b

theorem st35 {o : Ideal .f32} {C T S : FVec Ideal S256x672 .f32} (hD : Is (k0_pay32 (F := Ideal) C T S o) dg) (a : Fin 256) (b : Fin 672) :
    (k0_pay35 (F := Ideal) C T S o (ix3 0 a b) : EReal) = ((dg a b : ℝ) : EReal) := by
  pointwise [k0_pay35]
  exact hD a b

theorem st36 {D E : FVec Ideal S256x672 .f32} (hE : Is (k0_pay33 (F := Ideal) D E) du) (a : Fin 256) (b : Fin 672) :
    (k0_pay36 (F := Ideal) D E (ix3 0 a b) : EReal) = ((du a b : ℝ) : EReal) := by
  pointwise [k0_pay36]
  exact hE a b

theorem st46 {Y : FVec Ideal S256x1024 .bf16} {C : FVec Ideal S256x672 .f32} (hD : Is (k0_pay43 (F := Ideal) Y C U W) dg) (a : Fin 256) (b : Fin 672) :
    (k0_pay46 (F := Ideal) Y C U W (ix3 0 a b) : EReal) = ((dg a b : ℝ) : EReal) := by
  pointwise [k0_pay46]
  exact hD a b

theorem st47 {Y : FVec Ideal S256x1024 .bf16} {C : FVec Ideal S256x672 .f32} (hE : Is (k0_pay44 (F := Ideal) Y C W) du) (a : Fin 256) (b : Fin 672) :
    (k0_pay47 (F := Ideal) Y C W (ix3 0 a b) : EReal) = ((du a b : ℝ) : EReal) := by
  pointwise [k0_pay47]
  exact hE a b

theorem st13 {D : FVec Ideal S256x672 .bf16} (hD : Is D dg) (a : Fin 256) (b : Fin 672) : (k0_pay13 (F := Ideal) D (ix3 0 a b) : EReal) = ((dg a b : ℝ) : EReal) := by
  pointwise [k0_pay13]
  exact hD a b

theorem st23 {D : FVec Ideal S256x672 .bf16} (hD : Is D dg) (a : Fin 256) (b : Fin 672) : (k0_pay23 (F := Ideal) D (ix3 0 a b) : EReal) = ((dg a b : ℝ) : EReal) := by
  pointwise [k0_pay23]
  exact hD a b

theorem st24 {D : FVec Ideal S256x672 .bf16} (hD : Is D dg) (a : Fin 256) (b : Fin 672) : (k0_pay24 (F := Ideal) D (ix3 0 a b) : EReal) = ((dg a b : ℝ) : EReal) := by
  pointwise [k0_pay24]
  exact hD a b

/-! ### The first chunk -/

theorem dg0 (hX : Is X x) (hG : Is3 G g) (hU : Is3 U u) (hW : Is W w) : Is (k0_pay9 (F := Ideal) X G U W) (dgT x w g u) := by
  intro a b
  pointwise [k0_pay9, k0_pay6, k0_pay2, k0_pay5, k0_pay7, k0_pay4]
  exact gate_of (da_of _ _ (x a) (w b) (hX a) (hW b)) (hG 0 a b) (hU 0 a b)

theorem du0 (hX : Is X x) (hG : Is3 G g) (hW : Is W w) : Is (k0_pay10 (F := Ideal) X G W) (duT x w g) := by
  intro a b
  pointwise [k0_pay10, k0_pay6, k0_pay2, k0_pay8, k0_pay7, k0_pay4]
  exact up_of (da_of _ _ (x a) (w b) (hX a) (hW b)) (hG 0 a b)

theorem act0 (hG : Is3 G g) (hU : Is3 U u) (a : Fin 256) (b : Fin 672) : (k0_pay11 (F := Ideal) G U (ix3 0 a b) : EReal) = ((actT g u a b : ℝ) : EReal) := by
  pointwise [k0_pay11, k0_pay8, k0_pay7, k0_pay5, k0_pay4]
  exact act_of (hG 0 a b) (hU 0 a b)

theorem acc0 {D E : FVec Ideal S256x672 .bf16} (hP : Is P p) (hD : Is D dg) (hE : Is E du) (hV : Is3 V v) (hV' : Is3 V' v') :
    Is (k0_pay14 (F := Ideal) P D E V V') (addT p dg du v v') := by
  intro a b
  pointwise [k0_pay14]
  exact add2_of (hP a b) _ _ _ _ (dg a) (fun l => v 0 l b) (du a) (fun l => v' 0 l b) (hD a) (fun l => hV 0 l b) (hE a) (fun l => hV' 0 l b)

/-! ### The second chunk -/

theorem dg1 (hX : Is X x) (hG : Is3 G g) (hU : Is3 U u) (hW : Is W w) : Is (k0_pay20 (F := Ideal) (k0_pay2 X) G U W) (dgT x w g u) := by
  intro a b
  pointwise [k0_pay20, k0_pay17, k0_pay2, k0_pay16, k0_pay18, k0_pay15]
  exact gate_of (da_of _ _ (x a) (w b) (hX a) (hW b)) (hG 0 a b) (hU 0 a b)

theorem du1 (hX : Is X x) (hG : Is3 G g) (hW : Is W w) : Is (k0_pay21 (F := Ideal) (k0_pay2 X) G W) (duT x w g) := by
  intro a b
  pointwise [k0_pay21, k0_pay17, k0_pay2, k0_pay19, k0_pay18, k0_pay15]
  exact up_of (da_of _ _ (x a) (w b) (hX a) (hW b)) (hG 0 a b)

theorem act1 (hG : Is3 G g) (hU : Is3 U u) (a : Fin 256) (b : Fin 672) : (k0_pay22 (F := Ideal) (k0_pay16 U) (k0_pay19 G) (ix3 0 a b) : EReal) = ((actT g u a b : ℝ) : EReal) := by
  pointwise [k0_pay22, k0_pay19, k0_pay18, k0_pay16, k0_pay15]
  exact act_of (hG 0 a b) (hU 0 a b)

theorem acc1 {D E : FVec Ideal S256x672 .bf16} (hP : Is P p) (hD : Is D dg) (hE : Is E du) (hV : Is3 V v) (hV' : Is3 V' v') :
    Is (k0_pay25 (F := Ideal) P D E V V') (addT p dg du v v') := by
  intro a b
  pointwise [k0_pay25]
  exact add2_of (hP a b) _ _ _ _ (dg a) (fun l => v 0 l b) (du a) (fun l => v' 0 l b) (hD a) (fun l => hV 0 l b) (hE a) (fun l => hV' 0 l b)

/-! ### The third chunk -/

theorem dg2 {o : Ideal .f32} (ho : (o : EReal) = 1) (hX : Is X x) (hG : Is3 G g) (hU : Is3 U u) (hW : Is W w) :
    Is (k0_pay32 (F := Ideal) (k0_pay26 G) (k0_pay29 G) (k0_pay31 (k0_pay2 X) U W) o) (dgT x w g u) := by
  intro a b
  pointwise [k0_pay32, k0_pay31, k0_pay28, k0_pay2, k0_pay27, k0_pay29, k0_pay26]
  rw [ho]
  exact gate_of (da_of _ _ (x a) (w b) (hX a) (hW b)) (hG 0 a b) (hU 0 a b)

theorem du2 (hX : Is X x) (hG : Is3 G g) (hW : Is W w) : Is (k0_pay33 (F := Ideal) (k0_pay28 (k0_pay2 X) W) (k0_pay30 G)) (duT x w g) := by
  intro a b
  pointwise [k0_pay33, k0_pay28, k0_pay2, k0_pay30, k0_pay29, k0_pay26]
  exact up_of (da_of _ _ (x a) (w b) (hX a) (hW b)) (hG 0 a b)

theorem act2 (hG : Is3 G g) (hU : Is3 U u) (a : Fin 256) (b : Fin 672) : (k0_pay34 (F := Ideal) (k0_pay27 U) (k0_pay30 G) (ix3 0 a b) : EReal) = ((actT g u a b : ℝ) : EReal) := by
  pointwise [k0_pay34, k0_pay30, k0_pay29, k0_pay27, k0_pay26]
  exact act_of (hG 0 a b) (hU 0 a b)

theorem acc2 {o : Ideal .f32} {D E T S : FVec Ideal S256x672 .f32} {C : FVec Ideal S256x672 .f32} (hP : Is P p) (hD : Is (k0_pay32 (F := Ideal) C T S o) dg)
    (hE : Is (k0_pay33 (F := Ideal) D E) du) (hV : Is3 V v) (hV' : Is3 V' v') : Is (k0_pay37 (F := Ideal) P C D T E S o V V') (addT p dg du v v') := by
  intro a b
  pointwise [k0_pay37]
  exact add2_of (hP a b) _ _ _ _ (dg a) (fun l => v 0 l b) (du a) (fun l => v' 0 l b) (hD a) (fun l => hV 0 l b) (hE a) (fun l => hV' 0 l b)

/-! ### The fourth chunk -/

theorem dg3 (hX : Is X x) (hG : Is3 G g) (hU : Is3 U u) (hW : Is W w) : Is (k0_pay43 (F := Ideal) (k0_pay2 X) (k0_pay38 G) U W) (dgT x w g u) := by
  intro a b
  pointwise [k0_pay43, k0_pay40, k0_pay2, k0_pay39, k0_pay41, k0_pay38]
  exact gate_of (da_of _ _ (x a) (w b) (hX a) (hW b)) (hG 0 a b) (hU 0 a b)

theorem du3 (hX : Is X x) (hG : Is3 G g) (hW : Is W w) : Is (k0_pay44 (F := Ideal) (k0_pay2 X) (k0_pay38 G) W) (duT x w g) := by
  intro a b
  pointwise [k0_pay44, k0_pay40, k0_pay2, k0_pay42, k0_pay41, k0_pay38]
  exact up_of (da_of _ _ (x a) (w b) (hX a) (hW b)) (hG 0 a b)

theorem act3 (hG : Is3 G g) (hU : Is3 U u) (a : Fin 256) (b : Fin 672) : (k0_pay45 (F := Ideal) (k0_pay38 G) U (ix3 0 a b) : EReal) = ((actT g u a b : ℝ) : EReal) := by
  pointwise [k0_pay45, k0_pay42, k0_pay41, k0_pay39, k0_pay38]
  exact act_of (hG 0 a b) (hU 0 a b)

theorem acc3 {Y : FVec Ideal S256x1024 .bf16} {C : FVec Ideal S256x672 .f32} (hP : Is P p) (hD : Is (k0_pay43 (F := Ideal) Y C U W) dg)
    (hE : Is (k0_pay44 (F := Ideal) Y C W) du) (hV : Is3 V v) (hV' : Is3 V' v') :
    Is (k0_pay1 (F := Ideal) (k0_pay48 Y P C U W V) (k0_pay49 Y C W V')) (addT p dg du v v') := by
  intro a b
  pointwise [k0_pay1, k0_pay48, k0_pay49]
  exact add2_of (hP a b) _ _ _ _ (dg a) (fun l => v 0 l b) (du a) (fun l => v' 0 l b) (hD a) (fun l => hV 0 l b) (hE a) (fun l => hV' 0 l b)

end Cert.FfnBwdIdeal.Hand

end

end
-- ==== Proof.Norm.lean ====
/-
  A norm over the rows of an array and its gradient, over the reals: the mean, the centred row, the variance, the reciprocal
  root, and what the chain rule gives for a row. The ideal operations on finite numbers give these numbers.
-/
module

public import proofs.«01_k».proof.Proof.FfnTile

@[expose] public section

noncomputable section

namespace Cert.Norm

open Cert.Sb Cert.Ffn Idealize.ShloMosaic Finset

/-- A row's mean. -/
def mu (n : ℕ) (z : ℕ → ℝ) : ℝ := (∑ l ∈ range n, z l) / n

/-- The row less its mean. -/
def cen (n : ℕ) (z : ℕ → ℝ) (j : ℕ) : ℝ := z j - mu n z

/-- The mean of the squares with `e` added. -/
def vr (n : ℕ) (e : ℝ) (c : ℕ → ℝ) : ℝ := (∑ l ∈ range n, c l * c l) / n + e

/-- One over its root. -/
def rs (n : ℕ) (e : ℝ) (c : ℕ → ℝ) : ℝ := (Real.sqrt (vr n e c))⁻¹

/-- The derivative of that in the mean of the squares. -/
def hf (n : ℕ) (e : ℝ) (c : ℕ → ℝ) : ℝ := -(1 / 2) * (rs n e c * (1 / vr n e c))

/-- What reaches one square of the row, the gradient of the scaled row being `t`. -/
def sq (n : ℕ) (e : ℝ) (c t : ℕ → ℝ) : ℝ := (∑ l ∈ range n, c l * t l) * hf n e c / n

/-- The gradient of the centred row. -/
def gr (n : ℕ) (e : ℝ) (c t : ℕ → ℝ) (j : ℕ) : ℝ := t j * rs n e c + (c j * sq n e c t + sq n e c t * c j)

/-- The gradient of the row. -/
def lnR (n : ℕ) (e : ℝ) (z t : ℕ → ℝ) (j : ℕ) : ℝ := gr n e (cen n z) t j - (∑ l ∈ range n, gr n e (cen n z) t l) / n

/-- The number added to a layer norm's variance. -/
def lnEps : ℝ := 10995116 / 2 ^ 40

theorem vr_pos (n : ℕ) (e : ℝ) (he : 0 < e) (c : ℕ → ℝ) : 0 < vr n e c :=
  add_pos_of_nonneg_of_pos (div_nonneg (sum_nonneg fun l _ => mul_self_nonneg _) (Nat.cast_nonneg n)) he

theorem eps_bits : Ideal.ofBits .f32 0x3727C5AC#32 = ((lnEps : ℝ) : EReal) := by
  simp [Ideal.ofBits, Ideal.ieee, lnEps, -EReal.coe_mul]; norm_num

theorem eps_pos : 0 < lnEps := by norm_num [lnEps]

theorem n1024 : Ideal.ofBits .f32 0x44800000#32 = (((1024 : ℕ) : ℝ) : EReal) := by
  simp [Ideal.ofBits, Ideal.ieee, -EReal.coe_mul]; norm_num

theorem neg_half : Ideal.ofBits .f32 0xBF000000#32 = ((-(1 / 2) : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

/-- A quotient by a count. -/
theorem div_n {x : EReal} {n : ℕ} (hn : n ≠ 0) {r : ℝ} (hx : x = (r : EReal)) : Ideal.div x ((n : ℝ) : EReal) = ((r / n : ℝ) : EReal) := by
  rw [hx, Ideal.div_coe (Nat.cast_ne_zero.2 hn), ← EReal.coe_mul]; ring_nf

/-- A row less its mean. -/
theorem cen_of {n : ℕ} (hn : n ≠ 0) (z : Fin n → EReal) (f : ℕ → ℝ) (hz : ∀ i : Fin n, z i = ((f i.val : ℝ) : EReal)) (b : Fin n) :
    z b - Ideal.div (∑ i, z i) ((n : ℝ) : EReal) = ((cen n f b.val : ℝ) : EReal) := by
  rw [sum_of z f hz, div_n hn rfl, hz b, ← EReal.coe_sub]
  rfl

/-- The mean of the squares. -/
theorem vr_of {n : ℕ} (hn : n ≠ 0) (e : ℝ) (z : Fin n → EReal) (f : ℕ → ℝ) (hz : ∀ i : Fin n, z i = ((f i.val : ℝ) : EReal)) :
    Ideal.div (∑ i, z i * z i) ((n : ℝ) : EReal) + ((e : ℝ) : EReal) = ((vr n e f : ℝ) : EReal) := by
  rw [dot_of z z f f hz hz, div_n hn rfl, ← EReal.coe_add]
  rfl

theorem rs_of {v : EReal} {n : ℕ} {e : ℝ} (he : 0 < e) {c : ℕ → ℝ} (hv : v = ((vr n e c : ℝ) : EReal)) : Ideal.rsqrt v = ((rs n e c : ℝ) : EReal) := by
  have h := vr_pos n e he c
  rw [hv, Ideal.rsqrt_coe, if_neg (not_lt.2 h.le), if_neg h.ne']
  rfl

theorem hf_of {r v : EReal} {n : ℕ} {e : ℝ} (he : 0 < e) {c : ℕ → ℝ} (hr : r = ((rs n e c : ℝ) : EReal)) (hv : v = ((vr n e c : ℝ) : EReal)) :
    ((-(1 / 2) : ℝ) : EReal) * Ideal.div r v = ((hf n e c : ℝ) : EReal) := by
  rw [hv, hr, Ideal.div_coe (vr_pos n e he c).ne', ← EReal.coe_mul, ← EReal.coe_mul, hf]

theorem sq_of {n : ℕ} (hn : n ≠ 0) {e : ℝ} (x y : Fin n → EReal) (c t : ℕ → ℝ) (hx : ∀ i : Fin n, x i = ((c i.val : ℝ) : EReal))
    (hy : ∀ i : Fin n, y i = ((t i.val : ℝ) : EReal)) {h : EReal} (hh : h = ((hf n e c : ℝ) : EReal)) :
    Ideal.div ((∑ i, x i * y i) * h) ((n : ℝ) : EReal) = ((sq n e c t : ℝ) : EReal) :=
  div_n hn (by rw [dot_of x y c t hx hy, hh, ← EReal.coe_mul])

/-- The gradient of the centred row, written with two halves. -/
theorem gr_of {x y r s : EReal} {n : ℕ} {e : ℝ} {c t : ℕ → ℝ} {j : ℕ} (hx : x = ((c j : ℝ) : EReal)) (hy : y = ((t j : ℝ) : EReal)) (hr : r = ((rs n e c : ℝ) : EReal))
    (hs : s = ((sq n e c t : ℝ) : EReal)) : y * r + x * s + s * x = ((gr n e c t j : ℝ) : EReal) := by
  rw [hx, hy, hr, hs, ← EReal.coe_mul, ← EReal.coe_mul, ← EReal.coe_mul, ← EReal.coe_add, ← EReal.coe_add, add_assoc]
  rfl

/-- The same written with a two. -/
theorem gr2_of {x y r s : EReal} {n : ℕ} {e : ℝ} {c t : ℕ → ℝ} {j : ℕ} (hx : x = ((c j : ℝ) : EReal)) (hy : y = ((t j : ℝ) : EReal)) (hr : r = ((rs n e c : ℝ) : EReal))
    (hs : s = ((sq n e c t : ℝ) : EReal)) : y * r + s * (((2 : ℝ) : EReal) * x) = ((gr n e c t j : ℝ) : EReal) := by
  rw [hx, hy, hr, hs, ← EReal.coe_mul, ← EReal.coe_mul, ← EReal.coe_mul, ← EReal.coe_add]
  refine congrArg Real.toEReal ?_
  rw [gr]; ring

/-- The gradient of the row: the centred row's less its mean. -/
theorem ln_of {n : ℕ} (hn : n ≠ 0) {e : ℝ} (x : Fin n → EReal) (z t : ℕ → ℝ) (hx : ∀ i : Fin n, x i = ((gr n e (cen n z) t i.val : ℝ) : EReal)) (b : Fin n) :
    x b + Ideal.div (∑ i, (0 - x i)) ((n : ℝ) : EReal) = ((lnR n e z t b.val : ℝ) : EReal) := by
  rw [sum_of _ (fun l => -gr n e (cen n z) t l) (fun i => by rw [hx i, ← EReal.coe_zero, ← EReal.coe_sub, zero_sub]), div_n hn rfl, hx b, ← EReal.coe_add]
  refine congrArg Real.toEReal ?_
  rw [lnR, sum_neg_distrib]; ring

/-- The same with the two terms' means taken apart. -/
theorem ln2_of {n : ℕ} (hn : n ≠ 0) {e : ℝ} (x y : Fin n → EReal) (z t : ℕ → ℝ) (hx : ∀ i : Fin n, x i = ((t i.val * rs n e (cen n z) : ℝ) : EReal))
    (hy : ∀ i : Fin n, y i = ((sq n e (cen n z) t * (2 * cen n z i.val) : ℝ) : EReal)) (b : Fin n) :
    x b + y b + Ideal.div (∑ i, -x i + ∑ i, -y i) ((n : ℝ) : EReal) = ((lnR n e z t b.val : ℝ) : EReal) := by
  have h : ∀ l, t l * rs n e (cen n z) + sq n e (cen n z) t * (2 * cen n z l) = gr n e (cen n z) t l := fun l => by rw [gr]; ring
  rw [sum_of (fun i => -x i) (fun l => -(t l * rs n e (cen n z))) (fun i => by rw [hx i, ← EReal.coe_neg]),
    sum_of (fun i => -y i) (fun l => -(sq n e (cen n z) t * (2 * cen n z l))) (fun i => by rw [hy i, ← EReal.coe_neg]),
    div_n hn (EReal.coe_add _ _).symm, hx b, hy b, ← EReal.coe_add, ← EReal.coe_add]
  refine congrArg Real.toEReal ?_
  rw [lnR, h b.val, ← sum_congr rfl fun l _ => h l, sum_add_distrib, sum_neg_distrib, sum_neg_distrib]; ring

/-- The weighted residual the second and third norms read. -/
def mixR (x f : ℕ → ℕ → ℝ) (r j : ℕ) : ℝ := alpha * x r j + f r j

/-- The normed row: the centred row over its deviation. -/
def xh (n : ℕ) (e : ℝ) (z : ℕ → ℝ) (j : ℕ) : ℝ := cen n z j * rs n e (cen n z)

theorem mix_of {x f : EReal} {a b : ℝ} (hx : x = (a : EReal)) (hf : f = (b : EReal)) : ((alpha : ℝ) : EReal) * x + f = ((alpha * a + b : ℝ) : EReal) := by
  rw [hx, hf, ← EReal.coe_mul, ← EReal.coe_add]

/-- The gradient of a layer norm's row, as the kernels write it: from the row of gradients `dy`, the gains `g`, the centred row, the reciprocal
    root and its derivative. -/
theorem lnK_of {n : ℕ} (hn : n ≠ 0) {e : ℝ} (dy g zc : Fin n → EReal) (D G z : ℕ → ℝ) (hd : ∀ i : Fin n, dy i = ((D i.val : ℝ) : EReal))
    (hg : ∀ i : Fin n, g i = ((G i.val : ℝ) : EReal)) (hz : ∀ i : Fin n, zc i = ((cen n z i.val : ℝ) : EReal)) {r h : EReal}
    (hr : r = ((rs n e (cen n z) : ℝ) : EReal)) (hh : h = ((hf n e (cen n z) : ℝ) : EReal)) (b : Fin n) :
    dy b * g b * r + zc b * Ideal.div ((∑ i, zc i * (dy i * g i)) * h) ((n : ℝ) : EReal) + Ideal.div ((∑ i, zc i * (dy i * g i)) * h) ((n : ℝ) : EReal) * zc b
      + Ideal.div (∑ i, (0 - (dy i * g i * r + zc i * Ideal.div ((∑ i, zc i * (dy i * g i)) * h) ((n : ℝ) : EReal)
        + Ideal.div ((∑ i, zc i * (dy i * g i)) * h) ((n : ℝ) : EReal) * zc i))) ((n : ℝ) : EReal)
      = ((lnR n e z (fun l => D l * G l) b.val : ℝ) : EReal) := by
  have ht : ∀ i : Fin n, dy i * g i = ((D i.val * G i.val : ℝ) : EReal) := fun i => by rw [hd i, hg i, ← EReal.coe_mul]
  have hs := sq_of hn (e := e) zc (fun i => dy i * g i) (cen n z) (fun l => D l * G l) hz ht hh
  exact ln_of hn _ z (fun l => D l * G l) (fun i => gr_of (hz i) (ht i) hr hs) b

/-- A sum over the rows of `p` blocks of `q` rows is a sum over the rows. -/
theorem blocks_sum (p q N : ℕ) (h : p * q = N) (f : ℕ → ℝ) : 0 + ∑ t : Fin p, ((∑ r ∈ range q, f (q * t.val + r) : ℝ) : EReal) = ((∑ r ∈ range N, f r : ℝ) : EReal) := by
  rw [zero_add, ← coe_sum, ← h]
  refine congrArg Real.toEReal ?_
  have h := Fin.sum_univ_univ_mul_add p q f
  simp only [fun t : Fin p => Nat.mul_comm t.val q] at h
  rw [← Fin.sum_univ_eq_sum_range]
  refine Eq.trans ?_ h
  exact sum_congr rfl fun p _ => (Fin.sum_univ_eq_sum_range (fun r => f (q * p.val + r)) q).symm

end Cert.Norm

end

end
-- ==== Proof.MixKernel.lean ====
/-
  The gradient of the two gated heads' root-mean-square norms and of the product after them, on finite arguments: what the kernel's four
  result arrays hold after the run, as real numbers.
-/
module

public import proofs.«01_k».proof.Proof.Norm
public import proofs.«01_k».proof.Proof.SbArr
public import proofs.«01_k».proof.Proof.SbWindow
public import proofs.«01_k».proof.Proof.FfnTile
public import proofs.«01_k».proof.Proof.Gen.MixBwdIdeal.Value
public import Idealize.ShloMosaic.Lib.StableHlo.ReadAt
public import Idealize.ShloMosaic.Lib.Claim

@[expose] public section

set_option maxRecDepth 16384

noncomputable section

namespace Cert.Mix

open Cert.Sb Cert.Norm Idealize.ShloMosaic Finset

/-- The root-mean-square norm's small number. -/
def rmsEps : ℝ := 8796093 / 2 ^ 43

theorem rms_bits : Ideal.ofBits .f32 0x358637BD#32 = ((rmsEps : ℝ) : EReal) := by
  simp [Ideal.ofBits, Ideal.ieee, rmsEps, -EReal.coe_mul]; norm_num

theorem rms_pos : 0 < rmsEps := by norm_num [rmsEps]

theorem n512 : Ideal.ofBits .f32 0x44000000#32 = (((512 : ℕ) : ℝ) : EReal) := by
  simp [Ideal.ofBits, Ideal.ieee, -EReal.coe_mul]; norm_num

/-- The arrays the call reads: the two heads' rows, their gains, the product's weights and its gradient. -/
structure Args where
  yl : ℕ → ℕ → ℝ
  ys : ℕ → ℕ → ℝ
  gl : ℕ → ℕ → ℝ
  gs : ℕ → ℕ → ℝ
  w : ℕ → ℕ → ℝ
  z : ℕ → ℕ → ℝ

/-- A norm's gradient, from its rows, gains and the gradient after it. -/
def dx (Y D G : ℕ → ℕ → ℝ) (r : ℕ) : ℕ → ℝ := gr 512 rmsEps (Y r) (fun l => D r l * G 0 l)

/-- What a row adds to a gain's gradient. -/
def dgAt (Y D : ℕ → ℕ → ℝ) (j r : ℕ) : ℝ := Y r j * rs 512 rmsEps (Y r) * D r j

namespace Args

variable (A : Args)

/-- The gradient of the product's left factor. -/
def da (r j : ℕ) : ℝ := ∑ e ∈ range 1024, A.z r e * A.w j e
/-- Its halves, of the first and of the second head. -/
def dl (r j : ℕ) : ℝ := A.da r j
def ds (r j : ℕ) : ℝ := A.da r (512 + j)
def dyl : ℕ → ℕ → ℝ := dx A.yl A.dl A.gl
def dys : ℕ → ℕ → ℝ := dx A.ys A.ds A.gs
def dgl (j r : ℕ) : ℝ := dgAt A.yl A.dl j r
def dgs (j r : ℕ) : ℝ := dgAt A.ys A.ds j r

end Args

end Cert.Mix

namespace Cert.MixBwdIdeal.Hand

open Cert.Sb Cert.Norm Cert.Mix Cert.MixBwdIdeal Cert.MixBwdIdeal.Gen Idealize.ShloMosaic Idealize.ShloMosaic.TcCoe Idealize.SL.Sem Finset Idealize.ShloMosaic.StableHlo
open Cert.Ffn (readCov_whole)
open Idealize.ShloMosaic.Pipeline (Dat)

/-! ### One tile of rows -/

variable {Z W Y G D : ℕ → ℕ → ℝ}

theorem da_is {z : S512x1024.Idx → EReal} {w : S1024x1024.Idx → EReal} (hz : Is z Z) (hw : Is w W) :
    Is (k0_pay5 (F := Ideal) z w) (fun a j => ∑ e ∈ range 1024, Z a e * W j e) := by
  intro a b
  pointwise [k0_pay5]
  exact dot_of _ _ (Z a) (W b) (fun e => hz a e) (fun e => hw b e)

theorem dl_is {v : S512x1024.Idx → EReal} (hv : Is v D) : Is (k0_pay14 (F := Ideal) v) D := by
  intro a b
  pointwise [k0_pay14]
  exact hv a ⟨b.val, by omega⟩

theorem ds_is {v : S512x1024.Idx → EReal} (hv : Is v D) : Is (k0_pay15 (F := Ideal) v) (fun a j => D a (512 + j)) := by
  intro a b
  pointwise [k0_pay15]
  exact hv a ⟨512 + b.val, by omega⟩

section
variable {y : S512x512.Idx → EReal} (hy : Is y Y)
include hy

theorem var_is : Is (k0_pay6 (F := Ideal) y) (fun a _ => vr 512 rmsEps (Y a)) := by
  intro a b
  pointwise [k0_pay6]
  rw [rms_bits, n512]
  exact vr_of (by decide) rmsEps (fun i => y (ix2 a i)) _ (fun i => hy a i)

theorem rs_is : Is (k0_pay7 (F := Ideal) y) (fun a _ => rs 512 rmsEps (Y a)) := by
  intro a b
  pointwise [k0_pay7]
  exact rs_of rms_pos (var_is hy a b)

theorem hf_is : Is (k0_pay8 (F := Ideal) y) (fun a _ => Norm.hf 512 rmsEps (Y a)) := by
  intro a b
  pointwise [k0_pay8]
  rw [neg_half]
  exact hf_of rms_pos (rs_is hy a b) (var_is hy a b)

theorem dgl_is {v : S512x1024.Idx → EReal} (hv : Is v D) : Is (k0_pay17 (F := Ideal) v (k0_pay9 y)) (fun _ j => ∑ r ∈ range 512, dgAt Y D j r) := by
  intro a b
  pointwise [k0_pay17, k0_pay9]
  refine sum_of _ (fun r => dgAt Y D b r) (fun r => ?_)
  rw [hy r b, rs_is hy r 0, dl_is hv r b, ← EReal.coe_mul, ← EReal.coe_mul]
  rfl

theorem dgs_is {v : S512x1024.Idx → EReal} (hv : Is v D) : Is (k0_pay16 (F := Ideal) v y (k0_pay11 y)) (fun _ j => ∑ r ∈ range 512, dgAt Y (fun a j => D a (512 + j)) j r) := by
  intro a b
  pointwise [k0_pay16]
  refine sum_of _ (fun r => dgAt Y (fun a j => D a (512 + j)) b r) (fun r => ?_)
  have hr : (k0_pay11 (F := Ideal) y (ix2 r 0) : EReal) = ((rs 512 rmsEps (Y r) : ℝ) : EReal) := rs_is hy r 0
  rw [hy r b, hr, ds_is hv r b, ← EReal.coe_mul, ← EReal.coe_mul]
  rfl

theorem dyl_is {v : S512x1024.Idx → EReal} {g : S1x512.Idx → EReal} (hv : Is v D) (hg : Is g G) :
    Is (k0_pay18 (F := Ideal) v y g (k0_pay7 y) (k0_pay8 y)) (dx Y D G) := by
  intro a b
  pointwise [k0_pay18]
  rw [n512]
  simp only [Fin.sum_univ_one]
  have ht : ∀ i : Fin 512, (k0_pay14 (F := Ideal) v (ix2 a i) * g (ix2 0 i) : EReal) = ((D a i * G 0 i : ℝ) : EReal) := fun i => by
    rw [dl_is hv a i, hg 0 i, ← EReal.coe_mul]
    rfl
  exact gr_of (c := Y a) (hy a b) (ht b) (rs_is hy a 0) (sq_of (by decide) (fun i => y (ix2 a i)) (fun i => k0_pay14 (F := Ideal) v (ix2 a i) * g (ix2 0 i)) (Y a)
    (fun l => D a l * G 0 l) (fun i => hy a i) ht (hf_is hy a 0))

theorem dys_is {v : S512x1024.Idx → EReal} {g : S1x512.Idx → EReal} (hv : Is v D) (hg : Is g G) :
    Is (k0_pay19 (F := Ideal) v y g (k0_pay11 y) (k0_pay12 y) k0_pay13) (dx Y (fun a j => D a (512 + j)) G) := by
  intro a b
  pointwise [k0_pay19, k0_pay12, k0_pay13]
  rw [n512, neg_half]
  simp only [Fin.sum_univ_one]
  have hr : (k0_pay11 (F := Ideal) y (ix2 a 0) : EReal) = ((rs 512 rmsEps (Y a) : ℝ) : EReal) := rs_is hy a 0
  have hvr : (k0_pay10 (F := Ideal) y (ix2 a 0) : EReal) = ((vr 512 rmsEps (Y a) : ℝ) : EReal) := var_is hy a 0
  have ht : ∀ i : Fin 512, (k0_pay15 (F := Ideal) v (ix2 a i) * g (ix2 0 i) : EReal) = ((D a (512 + i) * G 0 i : ℝ) : EReal) := fun i => by
    rw [ds_is hv a i, hg 0 i, ← EReal.coe_mul]
    rfl
  exact gr_of (c := Y a) (hy a b) (ht b) hr (sq_of (by decide) (fun i => y (ix2 a i)) (fun i => k0_pay15 (F := Ideal) v (ix2 a i) * g (ix2 0 i)) (Y a)
    (fun l => D a (512 + l) * G 0 l) (fun i => hy a i) ht (hf_of rms_pos hr hvr))

end

/-! ### The blocks a grid point reads -/

variable (m : (ℓ : Loc nD τ sig) → Buf (Elt Ideal) ℓ)

abbrev a0 (c : Dev nD) : S8192x512.Idx → Ideal .f32 := m ((c.tc : Thread nD τ).loc main_arg0)
abbrev a1 (c : Dev nD) : S8192x512.Idx → Ideal .f32 := m ((c.tc : Thread nD τ).loc main_arg1)
abbrev a2 (c : Dev nD) : S1x512.Idx → Ideal .f32 := m ((c.tc : Thread nD τ).loc main_arg2)
abbrev a3 (c : Dev nD) : S1x512.Idx → Ideal .f32 := m ((c.tc : Thread nD τ).loc main_arg3)
abbrev a4 (c : Dev nD) : S1024x1024.Idx → Ideal .f32 := m ((c.tc : Thread nD τ).loc main_arg4)
abbrev a5 (c : Dev nD) : S8192x1024.Idx → Ideal .f32 := m ((c.tc : Thread nD τ).loc main_arg5)

/-- The arguments hold the numbers `A`. -/
structure ArgIs (A : Args) (c : Dev nD) : Prop where
  yl : Is (a0 m c) A.yl
  ys : Is (a1 m c) A.ys
  gl : Is (a2 m c) A.gl
  gs : Is (a3 m c) A.gs
  w : Is (a4 m c) A.w
  z : Is (a5 m c) A.z

variable {m} {A : Args} {c : Dev nD}

theorem read_z : (V m c main_v0 : S8192x1024.Idx → EReal) = a5 m c := by
  unfold V
  simp only [hostOps0, List.flatten_cons, List.flatten_nil, List.cons_append, List.nil_append, List.append_nil]
  after_reads_simp
  rfl

theorem read_w : (V m c main_v1 : S1024x1024.Idx → EReal) = a4 m c := by
  unfold V
  simp only [hostOps0, List.flatten_cons, List.flatten_nil, List.cons_append, List.nil_append, List.append_nil]
  after_reads_simp
  rfl

/-- The windows' index maps over the grid's points. -/
theorem idx0 : ∀ t : Fin cfg0.N, win0_0.index t = ![t.val, 0] ∧ win0_1.index t = ![0, 0] ∧ win0_2.index t = ![t.val, 0] ∧ win0_3.index t = ![t.val, 0]
    ∧ win0_4.index t = ![0, 0] ∧ win0_5.index t = ![0, 0] ∧ win0_6.index t = ![t.val, 0] ∧ win0_7.index t = ![t.val, 0] :=
  (by decide +kernel : ∀ t : Fin grid0.N, _)

theorem lt16 (t : Fin cfg0.N) : t.val < 16 := by have := t.isLt; have hN : cfg0.N = 16 := N_0; omega

section blocks
variable (H : ArgIs m A c) (t : Fin cfg0.N)
include H

theorem ldZ : Is (iblk m c 0 t : S512x1024.Idx → EReal) (fun a => A.z (512 * t.val + a)) := by
  have ht := lt16 t
  intro a e
  obtain ⟨e0, -⟩ := idx0 t
  refine Eq.trans ?_ (H.z ⟨512 * t.val + a.val, by omega⟩ e)
  rw [← read_z]
  blk_ext [iblk, e0]

theorem ldW : Is (iblk m c 1 t : S1024x1024.Idx → EReal) A.w := by
  intro a e
  obtain ⟨-, e0, -⟩ := idx0 t
  refine Eq.trans ?_ (H.w a e)
  rw [← read_w]
  blk_ext [iblk, e0]

theorem ldYl : Is (iblk m c 2 t : S512x512.Idx → EReal) (fun a => A.yl (512 * t.val + a)) := by
  have ht := lt16 t
  intro a e
  obtain ⟨-, -, e0, -⟩ := idx0 t
  refine Eq.trans ?_ (H.yl ⟨512 * t.val + a.val, by omega⟩ e)
  blk_ext [iblk, V_main_arg0, e0]

theorem ldYs : Is (iblk m c 3 t : S512x512.Idx → EReal) (fun a => A.ys (512 * t.val + a)) := by
  have ht := lt16 t
  intro a e
  obtain ⟨-, -, -, e0, -⟩ := idx0 t
  refine Eq.trans ?_ (H.ys ⟨512 * t.val + a.val, by omega⟩ e)
  blk_ext [iblk, V_main_arg1, e0]

theorem ldGl : Is (iblk m c 4 t : S1x512.Idx → EReal) A.gl := by
  intro a e
  obtain ⟨-, -, -, -, e0, -⟩ := idx0 t
  refine Eq.trans ?_ (H.gl a e)
  blk_ext [iblk, V_main_arg2, e0]

theorem ldGs : Is (iblk m c 5 t : S1x512.Idx → EReal) A.gs := by
  intro a e
  obtain ⟨-, -, -, -, -, e0, -⟩ := idx0 t
  refine Eq.trans ?_ (H.gs a e)
  blk_ext [iblk, V_main_arg3, e0]

/-- The product's gradient in a block of rows. -/
theorem ldD : Is (k0_pay5 (F := Ideal) (iblk m c 0 t) (iblk m c 1 t)) (fun a => A.da (512 * t.val + a)) := da_is (ldZ H t) (ldW H t)

end blocks

/-! ### What a grid point stores -/

/-- What a grid point adds to the gains' gradients. -/
abbrev lTerm (A : Args) (t j : ℕ) : EReal := ((∑ r ∈ range 512, A.dgl j (512 * t + r) : ℝ) : EReal)
abbrev sTerm (A : Args) (t j : ℕ) : EReal := ((∑ r ∈ range 512, A.dgs j (512 * t + r) : ℝ) : EReal)

theorem l_tile (H : ArgIs m A c) (t : Fin cfg0.N) (P : S1x512.Idx → EReal) (o : Fin 1) (b : Fin 512) :
    (k0_pay1 (F := Ideal) (k0_pay17 (k0_pay5 (iblk m c 0 t) (iblk m c 1 t)) (k0_pay9 (iblk m c 2 t))) P (ix2 o b) : EReal) = P (ix2 o b) + lTerm A t.val b.val := by
  pointwise [k0_pay1]
  exact congrArg (_ + ·) (dgl_is (ldYl H t) (ldD H t) _ b)

theorem s_tile (H : ArgIs m A c) (t : Fin cfg0.N) (P : S1x512.Idx → EReal) (o : Fin 1) (b : Fin 512) :
    (k0_pay2 (F := Ideal) (k0_pay16 (k0_pay5 (iblk m c 0 t) (iblk m c 1 t)) (iblk m c 3 t) (k0_pay11 (iblk m c 3 t))) P (ix2 o b) : EReal) = P (ix2 o b) + sTerm A t.val b.val := by
  pointwise [k0_pay2]
  exact congrArg (_ + ·) (dgs_is (ldYs H t) (ldD H t) _ b)

/-! ### The result arrays after the run -/

theorem final6 (H : ArgIs m A c) : Is ((dats m 0 c).arrAt 6 cfg0.N : S8192x512.Idx → EReal) A.dyl := by
  have e : ((dats m 0 c).arrAt 6 cfg0.N : S8192x512.Idx → EReal) = fun j : S8192x512.Idx => ((A.dyl (j 0).val (j 1).val : ℝ) : EReal) := by
    refine (dats m 0 c).arrAt_eq_of_covers 6 _ (by decide +kernel) fun t hf y => ?_
    obtain ⟨-, -, -, -, -, -, e0, -⟩ := idx0 t
    have key : (outsAt0 m c t.val t.isLt).1 = fun y : S512x512.Idx => ((A.dyl (512 * t.val + (y 0).val) (y 1).val : ℝ) : EReal) := by
      funext y
      idx_vars y
      by_cases h0 : t.val % 16 = 0
      · rw [outsAt0_A m c t h0]
        frame_out
        exact dyl_is (ldYl H t) (ldD H t) (ldGl H t) _ _
      · rw [outsAt0_B m c t h0]
        frame_out
        exact dyl_is (ldYl H t) (ldD H t) (ldGl H t) _ _
    blk_simp [e0]
    rw [after0_6, key]
    simp only [Nat.mul_comm t.val 512]
  intro a b
  exact congrFun e (ix2 a b)

theorem final7 (H : ArgIs m A c) : Is ((dats m 0 c).arrAt 7 cfg0.N : S8192x512.Idx → EReal) A.dys := by
  have e : ((dats m 0 c).arrAt 7 cfg0.N : S8192x512.Idx → EReal) = fun j : S8192x512.Idx => ((A.dys (j 0).val (j 1).val : ℝ) : EReal) := by
    refine (dats m 0 c).arrAt_eq_of_covers 7 _ (by decide +kernel) fun t hf y => ?_
    obtain ⟨-, -, -, -, -, -, -, e0⟩ := idx0 t
    have key : (outsAt0 m c t.val t.isLt).2.1 = fun y : S512x512.Idx => ((A.dys (512 * t.val + (y 0).val) (y 1).val : ℝ) : EReal) := by
      funext y
      idx_vars y
      by_cases h0 : t.val % 16 = 0
      · rw [outsAt0_A m c t h0]
        frame_out
        exact dys_is (ldYs H t) (ldD H t) (ldGs H t) _ _
      · rw [outsAt0_B m c t h0]
        frame_out
        exact dys_is (ldYs H t) (ldD H t) (ldGs H t) _ _
    blk_simp [e0]
    rw [after0_7, key]
    simp only [Nat.mul_comm t.val 512]
  intro a b
  exact congrFun e (ix2 a b)

theorem stepA8 (H : ArgIs m A c) (t : Fin cfg0.N) (h0 : t.val % 16 = 0) (o : Fin 1) (b : Fin 512) : (outsAt0 m c t.val t.isLt).2.2.1 (ix2 o b) = 0 + lTerm A t.val b.val := by
  rw [outsAt0_A m c t h0]
  frame_open
  simp (disch := decide) only [↓ View.readCov_skip, ↓ View.readCov_cons_toLoadRect, ↓ View.readCov_fill, readCov_whole]
  frame_out
  refine (l_tile H t _ o b).trans (congrArg (· + _) ?_)
  pointwise [k0_pay3]

theorem stepB8 (H : ArgIs m A c) (t : Fin cfg0.N) (h0 : ¬ t.val % 16 = 0) (o : Fin 1) (b : Fin 512) : (outsAt0 m c t.val t.isLt).2.2.1 (ix2 o b)
    = (outsAt0 m c (t.val - 1) (by omega)).2.2.1 (ix2 o b) + lTerm A t.val b.val := by
  rw [outsAt0_B m c t h0]
  frame_out
  exact l_tile H t _ o b

theorem stepA9 (H : ArgIs m A c) (t : Fin cfg0.N) (h0 : t.val % 16 = 0) (o : Fin 1) (b : Fin 512) : (outsAt0 m c t.val t.isLt).2.2.2 (ix2 o b) = 0 + sTerm A t.val b.val := by
  rw [outsAt0_A m c t h0]
  frame_open
  simp (disch := decide) only [↓ View.readCov_skip, ↓ View.readCov_cons_toLoadRect, ↓ View.readCov_fill, readCov_whole]
  frame_out
  refine (s_tile H t _ o b).trans (congrArg (· + _) ?_)
  pointwise [k0_pay4]

theorem stepB9 (H : ArgIs m A c) (t : Fin cfg0.N) (h0 : ¬ t.val % 16 = 0) (o : Fin 1) (b : Fin 512) : (outsAt0 m c t.val t.isLt).2.2.2 (ix2 o b)
    = (outsAt0 m c (t.val - 1) (by omega)).2.2.2 (ix2 o b) + sTerm A t.val b.val := by
  rw [outsAt0_B m c t h0]
  frame_out
  exact s_tile H t _ o b

/-- The last grid point. -/
def last : Fin cfg0.N := ⟨15, lt_of_lt_of_eq (by decide) (show 16 = cfg0.N from N_0.symm)⟩

theorem final8 (H : ArgIs m A c) : Is ((dats m 0 c).arrAt 8 cfg0.N : S1x512.Idx → EReal) (fun _ j => ∑ r ∈ range 8192, A.dgl j r) := by
  have e : ((dats m 0 c).arrAt 8 cfg0.N : S1x512.Idx → EReal) = fun j : S1x512.Idx => ((∑ r ∈ range 8192, A.dgl (j 1).val r : ℝ) : EReal) := by
    refine (dats m 0 c).arrAt_eq_of_after_last 8 last (by decide +kernel) _ fun j => ?_
    idx_vars j
    rw [after0_8]
    exact (Pipeline.eq_sum_fin_of_reset_step_apply_last (fun n h => (outsAt0 m c n h).2.2.1) 16 (fun _ => 0) (fun t i => lTerm A t.val (i 1).val)
      (fun t h i => by idx_vars i; exact stepA8 H t h _ _) (fun t h i => by idx_vars i; exact stepB8 H t h _ _) (by decide) last rfl _).trans
      (blocks_sum 16 512 8192 (by norm_num) _)
  intro a b
  exact congrFun e (ix2 a b)

theorem final9 (H : ArgIs m A c) : Is ((dats m 0 c).arrAt 9 cfg0.N : S1x512.Idx → EReal) (fun _ j => ∑ r ∈ range 8192, A.dgs j r) := by
  have e : ((dats m 0 c).arrAt 9 cfg0.N : S1x512.Idx → EReal) = fun j : S1x512.Idx => ((∑ r ∈ range 8192, A.dgs (j 1).val r : ℝ) : EReal) := by
    refine (dats m 0 c).arrAt_eq_of_after_last 9 last (by decide +kernel) _ fun j => ?_
    idx_vars j
    rw [after0_9]
    exact (Pipeline.eq_sum_fin_of_reset_step_apply_last (fun n h => (outsAt0 m c n h).2.2.2) 16 (fun _ => 0) (fun t i => sTerm A t.val (i 1).val)
      (fun t h i => by idx_vars i; exact stepA9 H t h _ _) (fun t h i => by idx_vars i; exact stepB9 H t h _ _) (by decide) last rfl _).trans
      (blocks_sum 16 512 8192 (by norm_num) _)
  intro a b
  exact congrFun e (ix2 a b)

end Cert.MixBwdIdeal.Hand

end

end
-- ==== Proof.MxValue.lean ====
/-
  The output mix's two RMS norms: the forward kernel equals the plain norms, at every argument.
-/
module

public import proofs.«01_k».proof.Defs
public import proofs.«01_k».proof.Proof.MixKernel
public import proofs.«01_k».proof.Proof.Gen.MixFwdIdeal.Value
public import proofs.«01_k».proof.Proof.Gen.MixFwdRefIdeal.Read
public import proofs.«01_k».proof.Proof.Gen.MixFwdRefIdeal.Run

@[expose] public section

set_option maxRecDepth 16384

noncomputable section

namespace Cert.Mxf

open Cert.Sb Idealize.ShloMosaic Finset

/-- A row's entry over its root mean square, times the scale's entry. -/
def rms (y : ℕ → EReal) (g : ℕ → EReal) (j : ℕ) : EReal :=
  y j * Ideal.rsqrt (Ideal.div (∑ l : Fin 512, y l * y l) (Ideal.ofBits .f32 0x44000000#32) + Ideal.ofBits .f32 0x358637BD#32) * g j

/-- The two norms side by side. -/
def out (yl ys gl gs : ℕ → ℕ → EReal) (r j : ℕ) : EReal := if j < 512 then rms (yl r) (gl 0) j else rms (ys r) (gs 0) (j - 512)

end Cert.Mxf

namespace Cert.MixFwdIdeal.Hand

open Cert.Sb Cert.Mxf Cert.Grad Cert.MixFwdIdeal Cert.MixFwdIdeal.Gen Idealize.ShloMosaic Idealize.ShloMosaic.TcCoe Finset

/-- One norm's tile. -/
theorem tile_of (Y : FVec Ideal S512x512 .f32) (G : FVec Ideal S1x512 .f32) (a j : Fin 512) (y g : ℕ → EReal)
    (hY : ∀ l : Fin 512, Y (ix2 a l) = y l) (hG : ∀ l : Fin 512, G (ix2 0 l) = g l) : (k0_pay1 (F := Ideal) Y G (ix2 a j) : EReal) = rms y g j := by
  pointwise [k0_pay1]
  simp only [hY, hG]
  rfl

variable (m : (ℓ : Loc nD τ sig) → Buf (Elt Ideal) ℓ) (c : Dev nD)

abbrev a0 : S8192x512.Idx → Ideal .f32 := m ((c.tc : Thread nD τ).loc main_arg0)
abbrev a1 : S8192x512.Idx → Ideal .f32 := m ((c.tc : Thread nD τ).loc main_arg1)
abbrev a2 : S1x512.Idx → Ideal .f32 := m ((c.tc : Thread nD τ).loc main_arg2)
abbrev a3 : S1x512.Idx → Ideal .f32 := m ((c.tc : Thread nD τ).loc main_arg3)

theorem idx0 : ∀ t : Fin cfg0.N, win0_0.index t = ![t.val, 0] ∧ win0_1.index t = ![t.val, 0] ∧ win0_2.index t = ![0, 0] ∧ win0_3.index t = ![0, 0]
    ∧ win0_4.index t = ![t.val, 0] :=
  (by decide +kernel : ∀ t : Fin grid0.N, _)

theorem lt16 (t : Fin cfg0.N) : t.val < 16 := by have := t.isLt; have hN : cfg0.N = 16 := N_0; omega

theorem ldYl (t : Fin cfg0.N) (a l : Fin 512) : (iblk m c 0 t : S512x512.Idx → EReal) (ix2 a l) = rd (a0 m c) (512 * t.val + a) l := by
  have ht := lt16 t
  obtain ⟨e0, -⟩ := idx0 t
  refine Eq.trans ?_ (rd_ix2 (a0 m c) ⟨512 * t.val + a.val, by omega⟩ l)
  blk_ext [iblk, e0]

theorem ldYs (t : Fin cfg0.N) (a l : Fin 512) : (iblk m c 1 t : S512x512.Idx → EReal) (ix2 a l) = rd (a1 m c) (512 * t.val + a) l := by
  have ht := lt16 t
  obtain ⟨-, e0, -⟩ := idx0 t
  refine Eq.trans ?_ (rd_ix2 (a1 m c) ⟨512 * t.val + a.val, by omega⟩ l)
  blk_ext [iblk, e0]

theorem ldGl (t : Fin cfg0.N) (l : Fin 512) : (iblk m c 2 t : S1x512.Idx → EReal) (ix2 0 l) = rd (a2 m c) 0 l := by
  obtain ⟨-, -, e0, -⟩ := idx0 t
  refine Eq.trans ?_ (rd_ix2 (a2 m c) 0 l)
  blk_ext [iblk, e0]

theorem ldGs (t : Fin cfg0.N) (l : Fin 512) : (iblk m c 3 t : S1x512.Idx → EReal) (ix2 0 l) = rd (a3 m c) 0 l := by
  obtain ⟨-, -, -, e0, -⟩ := idx0 t
  refine Eq.trans ?_ (rd_ix2 (a3 m c) 0 l)
  blk_ext [iblk, e0]

/-- Two stored windows of columns. -/
theorem canon_cols (i0 i1) (p0 : (Rect.unit (s := S512x1024) ![0, 0] ![512, 512] i0).shape.Idx → Elt Ideal .bf16)
    (p1 : (Rect.unit (s := S512x1024) ![0, 512] ![512, 512] i1).shape.Idx → Elt Ideal .bf16) (a : Fin 512) (j : Fin 1024) (f : ℕ → EReal)
    (h0 : ∀ l : Fin 512, p0 (ix2 a l) = f l) (h1 : ∀ l : Fin 512, p1 (ix2 a l) = f (512 + l)) :
    View.canon [⟨Rect.unit ![0, 512] ![512, 512] i1, p1⟩, ⟨Rect.unit ![0, 0] ![512, 512] i0, p0⟩] (ix2 a j) = f j := by
  have hit : ∀ (o : ℕ) (inb) (p : (Rect.unit (s := S512x1024) ![0, o] ![512, 512] inb).shape.Idx → Elt Ideal .bf16) (L : List (View.Piece (Elt Ideal) S512x1024 .bf16)),
      (∀ l : Fin 512, p (ix2 a l) = f (o + l)) → o ≤ j.val → j.val < o + 512 → View.canon (⟨Rect.unit ![0, o] ![512, 512] inb, p⟩ :: L) (ix2 a j) = f j := by
    intro o inb p L hp h1 h2
    have h : (ix2 a j : S512x1024.Idx) = (Rect.unit (s := S512x1024) ![0, o] ![512, 512] inb).emb (ix2 a (⟨j.val - o, by omega⟩ : Fin 512)) := by
      funext b
      apply Fin.ext
      fin_cases b <;> simp [Rect.emb, Rect.unit, ix2]
      omega
    rw [h, View.canon_cons_emb, hp]
    congr 1
    dsimp only
    omega
  have hj := j.isLt
  by_cases c1 : 512 ≤ j.val
  · exact hit _ _ _ _ h1 c1 (by omega)
  refine (View.canon_cons_of_not_mem _ _ ?_).trans (hit 0 _ _ _ (fun l => by rw [h0, zero_add]) (by omega) (by omega))
  rw [Rect.mem_set_unit]
  intro h
  have := h 1
  change 512 ≤ j.val ∧ j.val < 512 + 512 at this
  omega

/-- The output after the run. -/
theorem final4 : ((dats m 0 c).arrAt 4 cfg0.N : S8192x1024.Idx → EReal)
    = fun j : S8192x1024.Idx => out (rd (a0 m c)) (rd (a1 m c)) (rd (a2 m c)) (rd (a3 m c)) (j 0).val (j 1).val := by
  refine (dats m 0 c).arrAt_eq_of_covers 4 _ (by decide +kernel) fun t hf y => ?_
  obtain ⟨-, -, -, -, e0⟩ := idx0 t
  have key : (out0_4 (iblk m c 0 t) (iblk m c 1 t) (iblk m c 2 t) (iblk m c 3 t) : S512x1024.Idx → EReal)
      = fun y : S512x1024.Idx => out (rd (a0 m c)) (rd (a1 m c)) (rd (a2 m c)) (rd (a3 m c)) (512 * t.val + (y 0).val) (y 1).val := by
    funext y
    idx_vars y
    frame_out
    refine canon_cols _ _ _ _ _ _ (fun j => out (rd (a0 m c)) (rd (a1 m c)) (rd (a2 m c)) (rd (a3 m c)) (512 * t.val + y0.val) j)
      (fun l => (tile_of _ _ y0 l _ _ (fun l => ldYl m c t y0 l) (fun l => ldGl m c t l)).trans ?_)
      (fun l => (tile_of _ _ y0 l _ _ (fun l => ldYs m c t y0 l) (fun l => ldGs m c t l)).trans ?_)
    · rw [out, if_pos l.isLt]
    · rw [out, if_neg (by omega), Nat.add_sub_cancel_left]
  blk_simp [e0]
  rw [after0_4, key]
  simp only [Nat.mul_comm t.val 512]

end Cert.MixFwdIdeal.Hand

namespace Cert.MixFwdRefIdeal.Hand

open Cert.Sb Cert.Mxf Cert.Grad Cert.MixFwdRefIdeal Cert.MixFwdRefIdeal.Gen Cert.MixFwdRefIdeal.Read Idealize.ShloMosaic Idealize.ShloMosaic.TcCoe Finset

variable (x0 x1 : S8192x512.Idx → Ideal .f32) (x2 x3 : S1x512.Idx → Ideal .f32)

/-- The first norm. -/
theorem l_of (r : Fin 8192) (j : Fin 512) : (val_main_v11 (F := Ideal) x0 x2 (ix2 r j) : EReal) = rms (rd x0 r) (rd x2 0) j := by
  pointwise [val_main_v11, val_main_v10, val_main_v9, val_main_v8, val_main_v7, val_main_v6, val_main_v5, val_main_v4, val_main_v3, val_main_v2, val_main_v1,
    val_main_v0, val_main_cst, val_main_cst_0, val_main_cst_1]
  simp only [rd_ix2]
  rfl

/-- The second is the same program. -/
theorem s_of (r : Fin 8192) (j : Fin 512) : (val_main_v23 (F := Ideal) x1 x3 (ix2 r j) : EReal) = rms (rd x1 r) (rd x3 0) j := l_of x1 x3 r j

theorem out_of (r : Fin 8192) (j : Fin 1024) : (val_main_v25 (F := Ideal) x0 x1 x2 x3 (ix2 r j) : EReal) = out (rd x0) (rd x1) (rd x2) (rd x3) r j := by
  pointwise [val_main_v25, val_main_v24]
  by_cases h : j.val < 512
  · rw [dif_pos h, out, if_pos h]
    exact l_of x0 x2 r ⟨j.val, h⟩
  · rw [dif_neg h, out, if_neg h]
    exact s_of x1 x3 r ⟨j.val - 512, by omega⟩

end Cert.MixFwdRefIdeal.Hand

namespace Cert.Mxf

open Cert.Sb Cert.Grad Idealize.ShloMosaic Idealize.ShloMosaic.TcCoe Idealize.SL.Sem

/-- The reference runs and keeps its arguments. -/
theorem frame_ref : Cert.quiescent_MixFwdRefIdeal := fun m ρ _ =>
  (θ_run Cert.MixFwdRefIdeal.defs _ _).mono (fun r h => ⟨fun c => (h c).2, sem_eq_zero_of_no_sems (by decide) r.2⟩)
    (Cert.MixFwdRefIdeal.Value.run m ρ)

/-- The kernel's output is the plain norms'. -/
theorem value : Cert.algebraic_MixFwdIdeal_MixFwdRefIdeal := by
  intro m g m' g' _ hagree
  refine ⟨fun c => (Cert.MixFwdIdeal.Gen.dats m 0 c).arrAt 4 Cert.MixFwdIdeal.cfg0.N,
    Cert.MixFwdIdeal.Value.run_blocks (F := Ideal) m g,
    (θ_run Cert.MixFwdRefIdeal.defs _ _).mono (fun r h c => ?_) (Cert.MixFwdRefIdeal.Value.run m' g')⟩
  obtain ⟨h1, h2⟩ := h c
  obtain ⟨b0, b1, b2, b3⟩ := hagree c
  rw [Cert.MixFwdRefIdeal.Read.val_main_v25_eq, b0, b1, b2, b3] at h1
  refine ⟨h1.trans (Eq.trans (funext fun j => ?_) (Cert.MixFwdIdeal.Hand.final4 m c).symm), h2⟩
  idx_vars j
  exact Cert.MixFwdRefIdeal.Hand.out_of _ _ _ _ j0 j1

end Cert.Mxf

end

end
-- ==== Proof.LnfValue.lean ====
/-
  The output mix's product with the second layer norm: the forward kernel equals the plain lines, at every argument.
-/
module

public import proofs.«01_k».proof.Defs
public import proofs.«01_k».proof.Proof.Norm
public import proofs.«01_k».proof.Proof.SbWindow
public import proofs.«01_k».proof.Proof.FfnTile
public import proofs.«01_k».proof.Proof.MixKernel
public import proofs.«01_k».proof.Proof.Gen.LnFwdIdeal.Value
public import proofs.«01_k».proof.Proof.Gen.LnFwdRefIdeal.Read
public import proofs.«01_k».proof.Proof.Gen.LnFwdRefIdeal.Run
public import Idealize.ShloMosaic.Lib.StableHlo.ReadAt

@[expose] public section

set_option maxRecDepth 16384

noncomputable section

namespace Cert.Lnf

open Cert.Sb Idealize.ShloMosaic Finset

/-- An entry of the product of the mix with its weights. -/
def prod (y w : ℕ → ℕ → EReal) (r j : ℕ) : EReal := ∑ l : Fin 1024, y r l * w l j

/-- A row less its mean. -/
def cen (z : ℕ → EReal) (j : ℕ) : EReal := z j - Ideal.div (∑ l : Fin 1024, z l) (Ideal.ofBits .f32 0x44800000#32)

/-- A row's layer norm. -/
def ln (z g b : ℕ → EReal) (j : ℕ) : EReal :=
  cen z j * Ideal.rsqrt (Ideal.div (∑ l : Fin 1024, cen z l * cen z l) (Ideal.ofBits .f32 0x44800000#32) + Ideal.ofBits .f32 0x3727C5AC#32) * g j + b j

/-- The norm's input: the weighted residual and the product. -/
def inp (y w h : ℕ → ℕ → EReal) (r j : ℕ) : EReal := Ideal.ofBits .f32 0x3F9837F0#32 * h r j + prod y w r j

/-- The normed rows. -/
def out (y w h g b : ℕ → ℕ → EReal) (r j : ℕ) : EReal := ln (inp y w h r) (g 0) (b 0) j

end Cert.Lnf

namespace Cert.LnFwdIdeal.Hand

open Cert.Sb Cert.Lnf Cert.Grad Cert.Ffn Cert.LnFwdIdeal Cert.LnFwdIdeal.Gen Idealize.ShloMosaic Idealize.ShloMosaic.TcCoe Finset

/-- One tile of the product. -/
theorem prod_of (Y : FVec Ideal S512x1024 .bf16) (W : FVec Ideal S1024x1024 .bf16) (a : Fin 512) (j : Fin 1024) (y : ℕ → EReal) (w : ℕ → ℕ → EReal)
    (hY : ∀ l : Fin 1024, Y (ix2 a l) = y l) (hW : ∀ l i : Fin 1024, W (ix2 l i) = w l i) :
    (k0_pay2 (F := Ideal) Y (k0_pay1 (F := Ideal)) W (ix2 a j) : EReal) = ∑ l : Fin 1024, y l * w l j := by
  pointwise [k0_pay2, k0_pay1]
  simp only [hY, hW]

/-- One tile of the normed rows. -/
theorem ln_of (P X : FVec Ideal S512x1024 .f32) (G B : FVec Ideal S1x1024 .f32) (a : Fin 512) (j : Fin 1024) (p x g b : ℕ → EReal)
    (hP : ∀ l : Fin 1024, P (ix2 a l) = p l) (hX : ∀ l : Fin 1024, X (ix2 a l) = x l) (hG : ∀ l : Fin 1024, G (ix2 0 l) = g l) (hB : ∀ l : Fin 1024, B (ix2 0 l) = b l) :
    (k0_pay4 (F := Ideal) P X G B (ix2 a j) : EReal) = ln (fun l => Ideal.ofBits .f32 0x3F9837F0#32 * x l + p l) g b j := by
  pointwise [k0_pay4]
  simp only [hP, hX, hG, hB, show Ideal.ofBits .f32 0x3F800000#32 = 1 from one_bits, one_mul]
  rfl

variable (m : (ℓ : Loc nD τ sig) → Buf (Elt Ideal) ℓ) (c : Dev nD)

abbrev a0 : S8192x1024.Idx → Ideal .f32 := m ((c.tc : Thread nD τ).loc main_arg0)
abbrev a1 : S1024x1024.Idx → Ideal .f32 := m ((c.tc : Thread nD τ).loc main_arg1)
abbrev a2 : S8192x1024.Idx → Ideal .f32 := m ((c.tc : Thread nD τ).loc main_arg2)
abbrev a3 : S1x1024.Idx → Ideal .f32 := m ((c.tc : Thread nD τ).loc main_arg3)
abbrev a4 : S1x1024.Idx → Ideal .f32 := m ((c.tc : Thread nD τ).loc main_arg4)

theorem read_y : (V m c main_v0 : S8192x1024.Idx → EReal) = a0 m c := by
  unfold V
  simp only [hostOps0, List.flatten_cons, List.flatten_nil, List.cons_append, List.nil_append, List.append_nil]
  after_reads_simp
  rfl

theorem read_w : (V m c main_v1 : S1024x1024.Idx → EReal) = a1 m c := by
  unfold V
  simp only [hostOps0, List.flatten_cons, List.flatten_nil, List.cons_append, List.nil_append, List.append_nil]
  after_reads_simp
  rfl

/-- The windows' index maps over the grid's points. -/
theorem idx0 : ∀ t : Fin cfg0.N, win0_0.index t = ![t.val, 0] ∧ win0_1.index t = ![0, 0] ∧ win0_2.index t = ![t.val, 0] ∧ win0_3.index t = ![0, 0]
    ∧ win0_4.index t = ![0, 0] ∧ win0_5.index t = ![0, t.val, 0] ∧ win0_6.index t = ![t.val, 0] ∧ win0_7.index t = ![t.val, 0] :=
  (by decide +kernel : ∀ t : Fin grid0.N, _)

theorem lt16 (t : Fin cfg0.N) : t.val < 16 := by have := t.isLt; have hN : cfg0.N = 16 := N_0; omega

theorem ldY (t : Fin cfg0.N) (a : Fin 512) (l : Fin 1024) : (iblk m c 0 t : S512x1024.Idx → EReal) (ix2 a l) = rd (a0 m c) (512 * t.val + a) l := by
  have ht := lt16 t
  obtain ⟨e0, -⟩ := idx0 t
  refine Eq.trans ?_ (rd_ix2 (a0 m c) ⟨512 * t.val + a.val, by omega⟩ l)
  rw [← read_y]
  blk_ext [iblk, e0]

theorem ldW (t : Fin cfg0.N) (a l : Fin 1024) : (iblk m c 1 t : S1024x1024.Idx → EReal) (ix2 a l) = rd (a1 m c) a l := by
  obtain ⟨-, e0, -⟩ := idx0 t
  refine Eq.trans ?_ (rd_ix2 (a1 m c) a l)
  rw [← read_w]
  blk_ext [iblk, e0]

theorem ldH (t : Fin cfg0.N) (a : Fin 512) (l : Fin 1024) : (iblk m c 2 t : S512x1024.Idx → EReal) (ix2 a l) = rd (a2 m c) (512 * t.val + a) l := by
  have ht := lt16 t
  obtain ⟨-, -, e0, -⟩ := idx0 t
  refine Eq.trans ?_ (rd_ix2 (a2 m c) ⟨512 * t.val + a.val, by omega⟩ l)
  blk_ext [iblk, e0]

theorem ldG (t : Fin cfg0.N) (l : Fin 1024) : (iblk m c 3 t : S1x1024.Idx → EReal) (ix2 0 l) = rd (a3 m c) 0 l := by
  obtain ⟨-, -, -, e0, -⟩ := idx0 t
  refine Eq.trans ?_ (rd_ix2 (a3 m c) 0 l)
  blk_ext [iblk, e0]

theorem ldB (t : Fin cfg0.N) (l : Fin 1024) : (iblk m c 4 t : S1x1024.Idx → EReal) (ix2 0 l) = rd (a4 m c) 0 l := by
  obtain ⟨-, -, -, -, e0, -⟩ := idx0 t
  refine Eq.trans ?_ (rd_ix2 (a4 m c) 0 l)
  blk_ext [iblk, e0]

/-- What a grid point forms: its rows of the product and of the norm. -/
abbrev acc (t : Fin cfg0.N) : FVec Ideal S512x1024 .f32 := k0_pay2 (iblk m c 0 t) (k0_pay1 (F := Ideal)) (iblk m c 1 t)

theorem acc_of (t : Fin cfg0.N) (a : Fin 512) (l : Fin 1024) : (acc m c t (ix2 a l) : EReal) = prod (rd (a0 m c)) (rd (a1 m c)) (512 * t.val + a) l :=
  prod_of _ _ a l _ (rd (a1 m c)) (fun l => ldY m c t a l) (fun l i => ldW m c t l i)

theorem row_of (t : Fin cfg0.N) (a : Fin 512) (l : Fin 1024) : (k0_pay4 (F := Ideal) (acc m c t) (iblk m c 2 t) (iblk m c 3 t) (iblk m c 4 t) (ix2 a l) : EReal)
    = out (rd (a0 m c)) (rd (a1 m c)) (rd (a2 m c)) (rd (a3 m c)) (rd (a4 m c)) (512 * t.val + a) l :=
  ln_of _ _ _ _ a l _ (rd (a2 m c) (512 * t.val + a)) (rd (a3 m c) 0) (rd (a4 m c) 0) (fun l => acc_of m c t a l) (fun l => ldH m c t a l) (fun l => ldG m c t l)
    (fun l => ldB m c t l)

/-- The product after the run. -/
theorem final5 : ((dats m 0 c).arrAt 5 cfg0.N : S1x8192x1024.Idx → EReal)
    = fun j : S1x8192x1024.Idx => prod (rd (a0 m c)) (rd (a1 m c)) (j 1).val (j 2).val := by
  refine (dats m 0 c).arrAt_eq_of_covers 5 _ (by decide +kernel) fun t hf y => ?_
  obtain ⟨-, -, -, -, -, e0, -⟩ := idx0 t
  have key : (outsAt0 m c t).1 = fun y : S1x512x1024.Idx => prod (rd (a0 m c)) (rd (a1 m c)) (512 * t.val + (y 1).val) (y 2).val := by
    funext y
    idx_vars y
    rw [outsAt0]
    frame_open
    simp (disch := decide) only [↓ View.readCov_skip, ↓ View.readCov_cons_toLoadRect, ↓ View.readCov_fill, readCov_whole]
    frame_out
    pointwise [k0_pay3]
    exact acc_of m c t _ _
  blk_simp [e0]
  rw [after0_5, key]
  simp only [Nat.mul_comm t.val 512]

/-- The normed rows after the run. -/
theorem final6 : ((dats m 0 c).arrAt 6 cfg0.N : S8192x1024.Idx → EReal)
    = fun j : S8192x1024.Idx => out (rd (a0 m c)) (rd (a1 m c)) (rd (a2 m c)) (rd (a3 m c)) (rd (a4 m c)) (j 0).val (j 1).val := by
  refine (dats m 0 c).arrAt_eq_of_covers 6 _ (by decide +kernel) fun t hf y => ?_
  obtain ⟨-, -, -, -, -, -, e0, -⟩ := idx0 t
  have key : (outsAt0 m c t).2.1
      = fun y : S512x1024.Idx => out (rd (a0 m c)) (rd (a1 m c)) (rd (a2 m c)) (rd (a3 m c)) (rd (a4 m c)) (512 * t.val + (y 0).val) (y 1).val := by
    funext y
    idx_vars y
    rw [outsAt0]
    frame_open
    simp (disch := decide) only [↓ View.readCov_skip, ↓ View.readCov_cons_toLoadRect, ↓ View.readCov_fill, readCov_whole]
    frame_out
    exact row_of m c t _ _
  blk_simp [e0]
  rw [after0_6, key]
  simp only [Nat.mul_comm t.val 512]

/-- The same rows, left in bfloat16. -/
theorem final7 : ((dats m 0 c).arrAt 7 cfg0.N : S8192x1024.Idx → EReal)
    = fun j : S8192x1024.Idx => out (rd (a0 m c)) (rd (a1 m c)) (rd (a2 m c)) (rd (a3 m c)) (rd (a4 m c)) (j 0).val (j 1).val := by
  refine (dats m 0 c).arrAt_eq_of_covers 7 _ (by decide +kernel) fun t hf y => ?_
  obtain ⟨-, -, -, -, -, -, -, e0⟩ := idx0 t
  have key : (outsAt0 m c t).2.2
      = fun y : S512x1024.Idx => out (rd (a0 m c)) (rd (a1 m c)) (rd (a2 m c)) (rd (a3 m c)) (rd (a4 m c)) (512 * t.val + (y 0).val) (y 1).val := by
    funext y
    idx_vars y
    rw [outsAt0]
    frame_open
    simp (disch := decide) only [↓ View.readCov_skip, ↓ View.readCov_cons_toLoadRect, ↓ View.readCov_fill, readCov_whole]
    frame_out
    pointwise [k0_pay5]
    exact row_of m c t _ _
  blk_simp [e0]
  rw [after0_7, key]
  simp only [Nat.mul_comm t.val 512]

end Cert.LnFwdIdeal.Hand

namespace Cert.LnFwdRefIdeal.Hand

open Cert.Sb Cert.Lnf Cert.Grad Cert.LnFwdRefIdeal Cert.LnFwdRefIdeal.Gen Cert.LnFwdRefIdeal.Read Idealize.ShloMosaic Idealize.ShloMosaic.TcCoe Finset

variable (x0 : S8192x1024.Idx → Ideal .f32) (x1 : S1024x1024.Idx → Ideal .f32) (x2 : S8192x1024.Idx → Ideal .f32) (x3 x4 : S1x1024.Idx → Ideal .f32)

theorem prod_of (r : Fin 8192) (j : Fin 1024) : (val_main_v0 (F := Ideal) x0 x1 (ix2 r j) : EReal) = prod (rd x0) (rd x1) r j := by
  pointwise [val_main_v0]
  simp only [rd_ix2]
  rfl

theorem inp_of (r : Fin 8192) (j : Fin 1024) : (val_main_v3 (F := Ideal) x0 x1 x2 (ix2 r j) : EReal) = inp (rd x0) (rd x1) (rd x2) r j := by
  pointwise [val_main_v3, val_main_v2, val_main_v1, val_main_cst]
  rw [prod_of, rd_ix2 x2]
  rfl

theorem cen_of (r : Fin 8192) (j : Fin 1024) : (val_main_v9 (F := Ideal) x0 x1 x2 (ix2 r j) : EReal) = cen (inp (rd x0) (rd x1) (rd x2) r) j := by
  pointwise [val_main_v9, val_main_v8, val_main_v7, val_main_v6, val_main_v5, val_main_v4, val_main_cst_0, val_main_cst_1]
  simp only [inp_of]
  rfl

theorem out_of (r : Fin 8192) (j : Fin 1024) :
    (val_main_v25 (F := Ideal) x0 x1 x2 x3 x4 (ix2 r j) : EReal) = out (rd x0) (rd x1) (rd x2) (rd x3) (rd x4) r j := by
  have e : (val_main_v16 (F := Ideal) x0 x1 x2 (ix2 r j) : EReal) = cen (inp (rd x0) (rd x1) (rd x2) r) j := cen_of x0 x1 x2 r j
  pointwise [val_main_v25, val_main_v24, val_main_v23, val_main_v22, val_main_v21, val_main_v20, val_main_v19, val_main_v18, val_main_v17, val_main_v14, val_main_v13,
    val_main_v12, val_main_v11, val_main_v10, val_main_cst_2, val_main_cst_3, val_main_cst_4]
  rw [e]
  simp only [cen_of]
  simp only [rd_ix2]
  rfl

/-- The product as the first result holds it. -/
theorem prod3_of (o : Fin 1) (r : Fin 8192) (j : Fin 1024) : (val_main_v26 (F := Ideal) x0 x1 (ix3 o r j) : EReal) = prod (rd x0) (rd x1) r j := by
  pointwise [val_main_v26]
  exact prod_of x0 x1 r j

/-- The rows in bfloat16. -/
theorem outb_of (r : Fin 8192) (j : Fin 1024) :
    (val_main_v27 (F := Ideal) x0 x1 x2 x3 x4 (ix2 r j) : EReal) = out (rd x0) (rd x1) (rd x2) (rd x3) (rd x4) r j := by
  pointwise [val_main_v27]
  exact out_of x0 x1 x2 x3 x4 r j

end Cert.LnFwdRefIdeal.Hand

namespace Cert.Lnf

open Cert.Sb Cert.Grad Idealize.ShloMosaic Idealize.ShloMosaic.TcCoe Idealize.SL.Sem

/-- The reference runs and keeps its arguments. -/
theorem frame_ref : Cert.quiescent_LnFwdRefIdeal := fun m ρ _ =>
  (θ_run Cert.LnFwdRefIdeal.defs _ _).mono (fun r h => ⟨fun c => (h c).2.2.2, sem_eq_zero_of_no_sems (by decide) r.2⟩)
    (Cert.LnFwdRefIdeal.Value.run m ρ)

/-- The kernel's three results are the plain product's and the plain norm's. -/
theorem value : Cert.algebraic_LnFwdIdeal_LnFwdRefIdeal := by
  intro m g m' g' _ hagree
  refine ⟨fun c => (Cert.LnFwdIdeal.Gen.dats m 0 c).arrAt 5 Cert.LnFwdIdeal.cfg0.N, fun c => (Cert.LnFwdIdeal.Gen.dats m 0 c).arrAt 6 Cert.LnFwdIdeal.cfg0.N,
    fun c => (Cert.LnFwdIdeal.Gen.dats m 0 c).arrAt 7 Cert.LnFwdIdeal.cfg0.N, Cert.LnFwdIdeal.Value.run_blocks (F := Ideal) m g,
    (θ_run Cert.LnFwdRefIdeal.defs _ _).mono (fun r h c => ?_) (Cert.LnFwdRefIdeal.Value.run m' g')⟩
  obtain ⟨h1, h2, h3, h4⟩ := h c
  obtain ⟨b0, b1, b2, b3, b4⟩ := hagree c
  rw [Cert.LnFwdRefIdeal.Read.val_main_v26_eq, b0, b1] at h1
  rw [Cert.LnFwdRefIdeal.Read.val_main_v25_eq, b0, b1, b2, b3, b4] at h2
  rw [Cert.LnFwdRefIdeal.Read.val_main_v27_eq, b0, b1, b2, b3, b4] at h3
  refine ⟨h1.trans (Eq.trans (funext fun j => ?_) (Cert.LnFwdIdeal.Hand.final5 m c).symm), h2.trans (Eq.trans (funext fun j => ?_) (Cert.LnFwdIdeal.Hand.final6 m c).symm),
    h3.trans (Eq.trans (funext fun j => ?_) (Cert.LnFwdIdeal.Hand.final7 m c).symm), h4⟩
  · idx_vars j
    exact Cert.LnFwdRefIdeal.Hand.prod3_of _ _ j0 j1 j2
  · idx_vars j
    exact Cert.LnFwdRefIdeal.Hand.out_of _ _ _ _ _ j0 j1
  · idx_vars j
    exact Cert.LnFwdRefIdeal.Hand.outb_of _ _ _ _ _ j0 j1

end Cert.Lnf

end

end
-- ==== Proof.FfnKernel.lean ====
/-
  The feed-forward layer's gradient kernel on finite arguments: what its three result arrays hold after the run, as real numbers.
-/
module

public import proofs.«01_k».proof.Proof.FfnTile
public import Idealize.ShloMosaic.Lib.StableHlo.ReadAt
public import Idealize.ShloMosaic.Lib.Claim

@[expose] public section

set_option maxRecDepth 16384

noncomputable section

namespace Cert.Ffn

open Finset

/-- The arguments' numbers: the layer's input, its two weight matrices, the cotangent. -/
structure Args where
  h : ℕ → ℕ → ℝ
  w13 : ℕ → ℕ → ℝ
  w2 : ℕ → ℕ → ℝ
  z : ℕ → ℕ → ℝ

namespace Args

variable (A : Args)

/-- The gates (columns below 2688) and the factors (the others). -/
def gu (r j : ℕ) : ℝ := ∑ e ∈ range 1024, A.h r e * A.w13 e j

/-- The activation's gradient. -/
def da (r j : ℕ) : ℝ := ∑ e ∈ range 1024, 1 / 2 * A.z r e * A.w2 j e

/-- The gate's gradient, column `l` of chunk `k`. -/
def dg (k r l : ℕ) : ℝ := gate (A.da r (672 * k + l)) (A.gu r (672 * k + l)) (A.gu r (672 * (4 + k) + l))

/-- The factor's gradient. -/
def du (k r l : ℕ) : ℝ := A.da r (672 * k + l) * (A.gu r (672 * k + l) * sg (A.gu r (672 * k + l)))

/-- The activation. -/
def act (k r l : ℕ) : ℝ := A.gu r (672 * k + l) * sg (A.gu r (672 * k + l)) * A.gu r (672 * (4 + k) + l)

/-- The gradient of gates and factors in eight chunks. -/
def dgu (k r l : ℕ) : ℝ := if k < 4 then A.dg k r l else A.du (k - 4) r l

/-- What chunk `k` adds to the input's gradient. -/
def add (k : ℕ) (p : ℝ) (r e : ℕ) : ℝ :=
  p + ∑ l ∈ range 672, A.dg k r l * A.w13 e (672 * k + l) + ∑ l ∈ range 672, A.du k r l * A.w13 e (672 * (4 + k) + l)

/-- The input's gradient. -/
def dh (r e : ℕ) : ℝ := A.add 3 (A.add 2 (A.add 1 (A.add 0 (alpha * A.z r e) r e) r e) r e) r e

end Args

end Cert.Ffn

namespace Cert.FfnBwdIdeal.Hand

open Cert.Sb Cert.Ffn Cert.FfnBwdIdeal Cert.FfnBwdIdeal.Gen Idealize.ShloMosaic Idealize.ShloMosaic.TcCoe Idealize.SL.Sem Finset Idealize.ShloMosaic.StableHlo
open Idealize.ShloMosaic.Pipeline (Dat)

variable (m : (ℓ : Loc nD τ sig) → Buf (Elt Ideal) ℓ)

abbrev a0 (c : Dev nD) : S8192x1024.Idx → Ideal .f32 := m ((c.tc : Thread nD τ).loc main_arg0)
abbrev a1 (c : Dev nD) : S1024x5376.Idx → Ideal .f32 := m ((c.tc : Thread nD τ).loc main_arg1)
abbrev a2 (c : Dev nD) : S2688x1024.Idx → Ideal .f32 := m ((c.tc : Thread nD τ).loc main_arg2)
abbrev a3 (c : Dev nD) : S8192x1024.Idx → Ideal .f32 := m ((c.tc : Thread nD τ).loc main_arg3)

/-- The arguments hold the numbers `A`. -/
structure ArgIs (A : Args) (c : Dev nD) : Prop where
  h : Is (a0 m c) A.h
  w13 : Is (a1 m c) A.w13
  w2 : Is (a2 m c) A.w2
  z : Is (a3 m c) A.z

variable {m} {A : Args} {c : Dev nD}

theorem read_z : (V m c main_arg3 : S8192x1024.Idx → EReal) = a3 m c := by
  unfold V
  simp only [hostOps0, List.flatten_cons, List.flatten_nil, List.cons_append, List.nil_append, List.append_nil]
  after_reads_simp

theorem read_w2 (H : ArgIs m A c) : Is (V m c main_v7 : S2688x1024.Idx → EReal) A.w2 := by
  have e : (V m c main_v7 : S2688x1024.Idx → EReal) = a2 m c := by
    unfold V
    simp only [hostOps0, List.flatten_cons, List.flatten_nil, List.cons_append, List.nil_append, List.append_nil]
    after_reads_simp
    rfl
  rw [e]
  exact H.w2

theorem read_w13 (H : ArgIs m A c) : Is3 (V m c main_v6 : S8x672x1024.Idx → EReal) (fun k l e => A.w13 e (672 * k + l)) := by
  intro k l d
  have e : (V m c main_v6 : S8x672x1024.Idx → EReal) (ix3 k l d) = a1 m c (ix2 d ⟨672 * k.val + l.val, by have := k.isLt; have := l.isLt; omega⟩) := by
    unfold V
    simp only [hostOps0, List.flatten_cons, List.flatten_nil, List.cons_append, List.nil_append, List.append_nil]
    after_reads_at
    exact congrArg (a1 m c) (congrArg (ix2 d) (Fin.ext (by dsimp only; omega)))
  rw [e]
  exact H.w13 d _

theorem read_gu (H : ArgIs m A c) : Is3 (V m c main_v3 : S8x8192x672.Idx → EReal) (fun k r l => A.gu r (672 * k + l)) := by
  intro k r l
  have e : (V m c main_v3 : S8x8192x672.Idx → EReal) (ix3 k r l)
      = ∑ x, a0 m c (ix2 r x) * a1 m c (ix2 x ⟨672 * k.val + l.val, by have := k.isLt; have := l.isLt; omega⟩) := by
    unfold V
    simp only [hostOps0, List.flatten_cons, List.flatten_nil, List.cons_append, List.nil_append, List.append_nil]
    after_reads_at
    exact sum_congr rfl fun x _ => congrArg (a0 m c (ix2 r x) * ·) (congrArg (a1 m c) (congrArg (ix2 x) (Fin.ext (by dsimp only; omega))))
  rw [e]
  exact dot_of _ _ (fun x => A.h r x) (fun x => A.w13 x (672 * k + l)) (fun x => H.h r x) (fun x => H.w13 x _)

/-- The windows' index maps over the grid's points. -/
theorem idx0 : ∀ t : Fin cfg0.N, win0_0.index t = ![t.val, 0] ∧ win0_1.index t = ![0, t.val, 0] ∧ win0_2.index t = ![t.val, 0]
    ∧ win0_3.index t = ![0, t.val, 0] ∧ win0_4.index t = ![0, t.val, 0] :=
  (by decide +kernel : ∀ t : Fin grid0.N, _)

theorem lt32 (t : Fin cfg0.N) : t.val < 32 := by have := t.isLt; have hN : cfg0.N = 32 := N_0; omega

/-- Chunk `k` of eight in a block of rows. -/
theorem ld_chunk (B : S8x256x672.Idx → EReal) (k : Fin 8) (inb) (a : Fin 256) (l : Fin 672) :
    View.ld (Val := Elt Ideal) (e' := .bf16) B (Rect.unit (s := S8x256x672) ![k.val, 0, 0] ![1, 256, 672] inb) (ix3 0 a l) = B (ix3 k a l) := by
  refine congrArg B (funext fun b => ?_)
  apply Fin.ext
  fin_cases b <;> simp [Rect.emb, Rect.unit, ix3]

/-- Chunk `k` of the first weights. -/
theorem ld_w13 (B : S8x672x1024.Idx → EReal) (k : Fin 8) (inb) (a : Fin 672) (l : Fin 1024) :
    View.ld (Val := Elt Ideal) (e' := .bf16) B (Rect.unit (s := S8x672x1024) ![k.val, 0, 0] ![1, 672, 1024] inb) (ix3 0 a l) = B (ix3 k a l) := by
  refine congrArg B (funext fun b => ?_)
  apply Fin.ext
  fin_cases b <;> simp [Rect.emb, Rect.unit, ix3]

/-- The rows of chunk `k` of the second weights. -/
theorem ld_w2 (B : S2688x1024.Idx → EReal) (k : Fin 4) (inb) (a : Fin 672) (l : Fin 1024) :
    View.ld (Val := Elt Ideal) (e' := .bf16) B (Rect.unit (s := S2688x1024) ![672 * k.val, 0] ![672, 1024] inb) (ix2 a l)
      = B (ix2 ⟨672 * k.val + a.val, by have := k.isLt; omega⟩ l) := by
  refine congrArg B (funext fun b => ?_)
  apply Fin.ext
  fin_cases b <;> simp [Rect.emb, Rect.unit, ix2]

theorem ldZ (H : ArgIs m A c) (t : Fin cfg0.N) : Is (iblk m c 0 t : S256x1024.Idx → EReal) (fun a e => A.z (256 * t.val + a) e) := by
  have ht := lt32 t
  intro a e
  obtain ⟨e0, -⟩ := idx0 t
  refine Eq.trans ?_ (H.z ⟨256 * t.val + a.val, by omega⟩ e)
  rw [← read_z]
  blk_ext [iblk, e0]

/-- Chunk `k` of the gates and factors of a block of rows. -/
abbrev gL (B : S8x256x672.Idx → EReal) (k : Fin 8) : FVec Ideal S1x256x672 .bf16 :=
  View.ld (Val := Elt Ideal) (e' := .bf16) B (Rect.unit (s := S8x256x672) ![k.val, 0, 0] ![1, 256, 672] (by decide +revert))

/-- Chunk `k` of the first weights. -/
abbrev vL (B : S8x672x1024.Idx → EReal) (k : Fin 8) : FVec Ideal S1x672x1024 .bf16 :=
  View.ld (Val := Elt Ideal) (e' := .bf16) B (Rect.unit (s := S8x672x1024) ![k.val, 0, 0] ![1, 672, 1024] (by decide +revert))

/-- Chunk `k` of the second weights. -/
abbrev wL (B : S2688x1024.Idx → EReal) (k : Fin 4) : FVec Ideal S672x1024 .bf16 :=
  View.ld (Val := Elt Ideal) (e' := .bf16) B (Rect.unit (s := S2688x1024) ![672 * k.val, 0] ![672, 1024] (by decide +revert))

theorem ldG (H : ArgIs m A c) (t : Fin cfg0.N) (k : Fin 8) : Is3 (gL (iblk m c 1 t) k) (fun _ a l => A.gu (256 * t.val + a) (672 * k.val + l)) := by
  have ht := lt32 t
  intro o a l
  obtain rfl := Fin.eq_zero o
  obtain ⟨-, e0, -⟩ := idx0 t
  refine (ld_chunk _ k _ a l).trans (Eq.trans ?_ (read_gu H k ⟨256 * t.val + a.val, by omega⟩ l))
  blk_ext [iblk, e0]

theorem ldV {B : S8x672x1024.Idx → EReal} (hB : Is3 B (fun k l e => A.w13 e (672 * k + l))) (k : Fin 8) :
    Is3 (vL B k) (fun _ l e => A.w13 e (672 * k.val + l)) := by
  intro o l e
  obtain rfl := Fin.eq_zero o
  exact (ld_w13 B k _ l e).trans (hB k l e)

theorem ldW {B : S2688x1024.Idx → EReal} (hB : Is B A.w2) (k : Fin 4) : Is (wL B k) (fun l e => A.w2 (672 * k.val + l) e) :=
  fun l e => (ld_w2 B k _ l e).trans (hB _ e)

/-! ### What a grid point stores -/

section
variable {X : FVec Ideal S256x1024 .f32} {GU : S8x256x672.Idx → EReal} {B : S8x672x1024.Idx → EReal} {B2 : S2688x1024.Idx → EReal} {t : ℕ}
  (hX : Is X (fun a e => A.z (256 * t + a) e)) (hG : ∀ k, Is3 (gL GU k) (fun _ a l => A.gu (256 * t + a) (672 * k.val + l)))
  (hB : Is3 B (fun k l e => A.w13 e (672 * k + l))) (h2 : Is B2 A.w2)
include hX hG h2

theorem dg_0 : Is (k0_pay9 (F := Ideal) X (gL GU 0) (gL GU 4) (wL B2 0)) (fun a l => A.dg 0 (256 * t + a) l) := dg0 hX (hG 0) (hG 4) (ldW h2 0)
theorem dg_1 : Is (k0_pay20 (F := Ideal) (k0_pay2 X) (gL GU 1) (gL GU 5) (wL B2 1)) (fun a l => A.dg 1 (256 * t + a) l) := dg1 hX (hG 1) (hG 5) (ldW h2 1)
theorem dg_2 : Is (k0_pay32 (F := Ideal) (k0_pay26 (gL GU 2)) (k0_pay29 (gL GU 2)) (k0_pay31 (k0_pay2 X) (gL GU 6) (wL B2 2)) (FloatOps.ofBits FTy.f32 1065353216#32))
    (fun a l => A.dg 2 (256 * t + a) l) := dg2 one_bits hX (hG 2) (hG 6) (ldW h2 2)
theorem dg_3 : Is (k0_pay43 (F := Ideal) (k0_pay2 X) (k0_pay38 (gL GU 3)) (gL GU 7) (wL B2 3)) (fun a l => A.dg 3 (256 * t + a) l) :=
  dg3 hX (hG 3) (hG 7) (ldW h2 3)
theorem du_0 : Is (k0_pay10 (F := Ideal) X (gL GU 0) (wL B2 0)) (fun a l => A.du 0 (256 * t + a) l) := du0 hX (hG 0) (ldW h2 0)
theorem du_1 : Is (k0_pay21 (F := Ideal) (k0_pay2 X) (gL GU 1) (wL B2 1)) (fun a l => A.du 1 (256 * t + a) l) := du1 hX (hG 1) (ldW h2 1)
theorem du_2 : Is (k0_pay33 (F := Ideal) (k0_pay28 (k0_pay2 X) (wL B2 2)) (k0_pay30 (gL GU 2))) (fun a l => A.du 2 (256 * t + a) l) := du2 hX (hG 2) (ldW h2 2)
theorem du_3 : Is (k0_pay44 (F := Ideal) (k0_pay2 X) (k0_pay38 (gL GU 3)) (wL B2 3)) (fun a l => A.du 3 (256 * t + a) l) := du3 hX (hG 3) (ldW h2 3)

include hB

theorem acc_0 {P : FVec Ideal S256x1024 .f32} {p : ℕ → ℕ → ℝ} (hP : Is P p) :
    Is (k0_pay14 (F := Ideal) P (k0_pay9 X (gL GU 0) (gL GU 4) (wL B2 0)) (k0_pay10 X (gL GU 0) (wL B2 0)) (vL B 0) (vL B 4))
      (fun a e => A.add 0 (p a e) (256 * t + a) e) := acc0 hP (dg_0 hX hG h2) (du_0 hX hG h2) (ldV hB 0) (ldV hB 4)

theorem acc_1 {P : FVec Ideal S256x1024 .f32} {p : ℕ → ℕ → ℝ} (hP : Is P p) :
    Is (k0_pay25 (F := Ideal) P (k0_pay20 (k0_pay2 X) (gL GU 1) (gL GU 5) (wL B2 1)) (k0_pay21 (k0_pay2 X) (gL GU 1) (wL B2 1)) (vL B 1) (vL B 5))
      (fun a e => A.add 1 (p a e) (256 * t + a) e) := acc1 hP (dg_1 hX hG h2) (du_1 hX hG h2) (ldV hB 1) (ldV hB 5)

theorem acc_2 {P : FVec Ideal S256x1024 .f32} {p : ℕ → ℕ → ℝ} (hP : Is P p) :
    Is (k0_pay37 (F := Ideal) P (k0_pay26 (gL GU 2)) (k0_pay28 (k0_pay2 X) (wL B2 2)) (k0_pay29 (gL GU 2)) (k0_pay30 (gL GU 2))
        (k0_pay31 (k0_pay2 X) (gL GU 6) (wL B2 2)) (FloatOps.ofBits FTy.f32 1065353216#32) (vL B 2) (vL B 6))
      (fun a e => A.add 2 (p a e) (256 * t + a) e) := acc2 hP (dg_2 hX hG h2) (du_2 hX hG h2) (ldV hB 2) (ldV hB 6)

theorem acc_3 {P : FVec Ideal S256x1024 .f32} {p : ℕ → ℕ → ℝ} (hP : Is P p) :
    Is (k0_pay1 (F := Ideal) (k0_pay48 (k0_pay2 X) P (k0_pay38 (gL GU 3)) (gL GU 7) (wL B2 3) (vL B 3)) (k0_pay49 (k0_pay2 X) (k0_pay38 (gL GU 3)) (wL B2 3) (vL B 7)))
      (fun a e => A.add 3 (p a e) (256 * t + a) e) := acc3 hP (dg_3 hX hG h2) (du_3 hX hG h2) (ldV hB 3) (ldV hB 7)

theorem dh_point : Is (k0_pay1 (F := Ideal)
    (k0_pay48 (k0_pay2 X)
      (k0_pay37
        (k0_pay25
          (k0_pay14 (k0_pay3 X) (k0_pay9 X (gL GU 0) (gL GU 4) (wL B2 0)) (k0_pay10 X (gL GU 0) (wL B2 0)) (vL B 0) (vL B 4))
          (k0_pay20 (k0_pay2 X) (gL GU 1) (gL GU 5) (wL B2 1)) (k0_pay21 (k0_pay2 X) (gL GU 1) (wL B2 1)) (vL B 1) (vL B 5))
        (k0_pay26 (gL GU 2)) (k0_pay28 (k0_pay2 X) (wL B2 2)) (k0_pay29 (gL GU 2)) (k0_pay30 (gL GU 2)) (k0_pay31 (k0_pay2 X) (gL GU 6) (wL B2 2))
        (FloatOps.ofBits FTy.f32 1065353216#32) (vL B 2) (vL B 6))
      (k0_pay38 (gL GU 3)) (gL GU 7) (wL B2 3) (vL B 3))
    (k0_pay49 (k0_pay2 X) (k0_pay38 (gL GU 3)) (wL B2 3) (vL B 7))) (fun a e => A.dh (256 * t + a) e) :=
  acc_3 hX hG hB h2 (acc_2 hX hG hB h2 (acc_1 hX hG hB h2 (acc_0 hX hG hB h2 (start_is hX))))

end

/-! ### The weights the kernel keeps -/

/-- The kernel's two copies of the weights after every point. -/
theorem kept (m : (ℓ : Loc nD τ sig) → Buf (Elt Ideal) ℓ) (c : Dev nD) : ∀ (n : ℕ) (h : n < cfg0.N),
    (outsAt0 m c n h).2.2.2.1 = V m c main_v6 ∧ (outsAt0 m c n h).2.2.2.2 = V m c main_v7 := by
  intro n
  induction n with
  | zero =>
    intro h
    rw [outsAt0_A m c ⟨0, h⟩ rfl]
    frame_out
    exact ⟨View.canon_unit_zero rfl _ _, View.canon_unit_zero rfl _ _⟩
  | succ n ih =>
    intro h
    have hN : cfg0.N = 32 := N_0
    have e := outsAt0_B m c ⟨n + 1, h⟩ (by dsimp only; omega)
    have hi := ih (by omega)
    rw [e]
    frame_out
    exact hi

/-- The kernel's copies read as the numbers. -/
theorem kept13 (H : ArgIs m A c) (n : ℕ) (h : n < cfg0.N) : Is3 ((outsAt0 m c n h).2.2.2.1 : S8x672x1024.Idx → EReal) (fun k l e => A.w13 e (672 * k + l)) := by
  rw [(kept m c n h).1]
  exact read_w13 H

theorem kept2 (H : ArgIs m A c) (n : ℕ) (h : n < cfg0.N) : Is ((outsAt0 m c n h).2.2.2.2 : S2688x1024.Idx → EReal) A.w2 := by
  rw [(kept m c n h).2]
  exact read_w2 H

/-- The input's gradient in a block of rows. -/
theorem dh_block (H : ArgIs m A c) (t : Fin cfg0.N) : Is ((outsAt0 m c t.val t.isLt).1 : S256x1024.Idx → EReal) (fun a e => A.dh (256 * t.val + a) e) := by
  intro a e
  by_cases h0 : t.val % 32 = 0
  · rw [outsAt0_A m c t h0]
    frame_open
    simp (disch := decide) only [↓ View.readCov_skip, ↓ View.readCov_cons_toLoadRect, ↓ View.readCov_fill, readCov_whole]
    frame_out
    exact dh_point (ldZ H t) (ldG H t) (read_w13 H) (read_w2 H) a e
  · rw [outsAt0_B m c t h0]
    frame_open
    simp (disch := decide) only [↓ View.readCov_skip, ↓ View.readCov_cons_toLoadRect, ↓ View.readCov_fill]
    frame_out
    simp only [Idealize.ShloMosaic.read_unread_whole]
    have ht := t.isLt
    have h13 := kept13 H (t.val - 1) (by omega)
    have h2 := kept2 H (t.val - 1) (by omega)
    generalize outsAt0 m c (t.val - 1) _ = prev at h13 h2 ⊢
    exact dh_point (ldZ H t) (ldG H t) h13 h2 a e

/-- The input's gradient after the run. -/
theorem final2 (H : ArgIs m A c) : Is ((dats m 0 c).arrAt 2 cfg0.N : S8192x1024.Idx → EReal) A.dh := by
  have e : ((dats m 0 c).arrAt 2 cfg0.N : S8192x1024.Idx → EReal) = fun j : S8192x1024.Idx => ((A.dh (j 0).val (j 1).val : ℝ) : EReal) := by
    refine (dats m 0 c).arrAt_eq_of_covers 2 _ (by decide +kernel) fun t hf y => ?_
    obtain ⟨-, -, e0, -⟩ := idx0 t
    have key : (outsAt0 m c t.val t.isLt).1 = fun y : S256x1024.Idx => ((A.dh (256 * t.val + (y 0).val) (y 1).val : ℝ) : EReal) := by
      funext y
      idx_vars y
      exact dh_block H t y0 y1
    blk_simp [e0]
    rw [after0_2, key]
    simp only [Nat.mul_comm t.val 256]
  intro a b
  exact congrFun e (ix2 a b)

/-- One of several stored chunks: the one asked for, or the next. -/
theorem canon_chunk {n : ℕ} (k o : Fin n) (a : Fin 256) (b : Fin 672) (f : Fin n → EReal) (inb)
    (p : (Rect.unit (s := ⟨3, ![n, 256, 672]⟩) ![o.val, 0, 0] ![1, 256, 672] inb).shape.Idx → Elt Ideal .bf16)
    (L : List (View.Piece (Elt Ideal) ⟨3, ![n, 256, 672]⟩ .bf16)) (hp : p (ix3 (0 : Fin 1) a b) = f o) (hL : k ≠ o → View.canon L (ix3 k a b) = f k) :
    View.canon (⟨Rect.unit (s := ⟨3, ![n, 256, 672]⟩) ![o.val, 0, 0] ![1, 256, 672] inb, p⟩ :: L) (ix3 k a b) = f k := by
  by_cases hk : k = o
  · subst hk
    have h : (ix3 k a b : (⟨3, ![n, 256, 672]⟩ : Shape).Idx) = (Rect.unit (s := ⟨3, ![n, 256, 672]⟩) ![k.val, 0, 0] ![1, 256, 672] inb).emb (ix3 (0 : Fin 1) a b) := by
      funext i
      apply Fin.ext
      fin_cases i <;> simp [Rect.emb, Rect.unit, ix3]
    rw [h, View.canon_cons_emb, hp]
  · rw [View.canon_cons_of_not_mem _ _, hL hk]
    rw [Rect.mem_set_unit]
    intro h
    have := h 0
    change o.val ≤ k.val ∧ k.val < o.val + 1 at this
    exact hk (Fin.ext (by omega))

/-- The four stored chunks of the activation. -/
theorem act_point {GU : S8x256x672.Idx → EReal} {t : ℕ} (hG : ∀ k, Is3 (gL GU k) (fun _ a l => A.gu (256 * t + a) (672 * k.val + l))) (k : Fin 4) (a : Fin 256) (l : Fin 672) :
    (View.canon (Val := Elt Ideal) (s := S4x256x672) (e := .bf16) [⟨Rect.unit (s := S4x256x672) ![3, 0, 0] ![1, 256, 672] inb_S4x256x672_S1x256x672_3_0_0, k0_pay45 (F := Ideal) (k0_pay38 (gL GU 3)) (gL GU 7)⟩,
      ⟨Rect.unit ![2, 0, 0] ![1, 256, 672] inb_S4x256x672_S1x256x672_2_0_0, k0_pay34 (F := Ideal) (k0_pay27 (gL GU 6)) (k0_pay30 (gL GU 2))⟩,
      ⟨Rect.unit ![1, 0, 0] ![1, 256, 672] inb_S4x256x672_S1x256x672_1_0_0, k0_pay22 (F := Ideal) (k0_pay16 (gL GU 5)) (k0_pay19 (gL GU 1))⟩,
      ⟨Rect.unit ![0, 0, 0] ![1, 256, 672] inb_S4x256x672_S1x256x672_0_0_0, k0_pay11 (F := Ideal) (gL GU 0) (gL GU 4)⟩] (ix3 k a l) : EReal)
      = ((A.act k.val (256 * t + a.val) l.val : ℝ) : EReal) := by
  let f : Fin 4 → EReal := fun k => ((A.act k.val (256 * t + a.val) l.val : ℝ) : EReal)
  show _ = f k
  refine canon_chunk k 3 a l f _ _ _ (act3 (hG 3) (hG 7) a l) fun n3 =>
    canon_chunk k 2 a l f _ _ _ (act2 (hG 2) (hG 6) a l) fun n2 => canon_chunk k 1 a l f _ _ _ (act1 (hG 1) (hG 5) a l) fun n1 =>
    canon_chunk k 0 a l f _ _ _ (act0 (hG 0) (hG 4) a l) fun n0 => ?_
  exact absurd k.isLt (by simp only [ne_eq, Fin.ext_iff] at *; simp at *; omega)

/-- The activation's chunks in a block of rows. -/
theorem act_block (H : ArgIs m A c) (t : Fin cfg0.N) (k : Fin 4) (a : Fin 256) (l : Fin 672) :
    ((outsAt0 m c t.val t.isLt).2.2.1 (ix3 k a l) : EReal) = ((A.act k.val (256 * t.val + a.val) l.val : ℝ) : EReal) := by
  by_cases h0 : t.val % 32 = 0
  · rw [outsAt0_A m c t h0]
    frame_out
    exact act_point (ldG H t) k a l
  · rw [outsAt0_B m c t h0]
    frame_out
    exact act_point (ldG H t) k a l

/-- The eight stored chunks of the gates' and factors' gradient. -/
theorem dgu_point {X : FVec Ideal S256x1024 .f32} {GU : S8x256x672.Idx → EReal} {B2 : S2688x1024.Idx → EReal} {t : ℕ}
    (hX : Is X (fun a e => A.z (256 * t + a) e)) (hG : ∀ k, Is3 (gL GU k) (fun _ a l => A.gu (256 * t + a) (672 * k.val + l))) (h2 : Is B2 A.w2)
    (k : Fin 8) (a : Fin 256) (l : Fin 672) :
    (View.canon (Val := Elt Ideal) (s := S8x256x672) (e := .bf16) [⟨Rect.unit (s := S8x256x672) ![7, 0, 0] ![1, 256, 672] inb_S8x256x672_S1x256x672_7_0_0, k0_pay47 (F := Ideal) (k0_pay2 X) (k0_pay38 (gL GU 3)) (wL B2 3)⟩,
      ⟨Rect.unit ![3, 0, 0] ![1, 256, 672] inb_S8x256x672_S1x256x672_3_0_0, k0_pay46 (F := Ideal) (k0_pay2 X) (k0_pay38 (gL GU 3)) (gL GU 7) (wL B2 3)⟩,
      ⟨Rect.unit ![6, 0, 0] ![1, 256, 672] inb_S8x256x672_S1x256x672_6_0_0, k0_pay36 (F := Ideal) (k0_pay28 (k0_pay2 X) (wL B2 2)) (k0_pay30 (gL GU 2))⟩,
      ⟨Rect.unit ![2, 0, 0] ![1, 256, 672] inb_S8x256x672_S1x256x672_2_0_0, k0_pay35 (F := Ideal) (k0_pay26 (gL GU 2)) (k0_pay29 (gL GU 2))
        (k0_pay31 (k0_pay2 X) (gL GU 6) (wL B2 2)) (FloatOps.ofBits FTy.f32 1065353216#32)⟩,
      ⟨Rect.unit ![5, 0, 0] ![1, 256, 672] inb_S8x256x672_S1x256x672_5_0_0, k0_pay24 (F := Ideal) (k0_pay21 (k0_pay2 X) (gL GU 1) (wL B2 1))⟩,
      ⟨Rect.unit ![1, 0, 0] ![1, 256, 672] inb_S8x256x672_S1x256x672_1_0_0, k0_pay23 (F := Ideal) (k0_pay20 (k0_pay2 X) (gL GU 1) (gL GU 5) (wL B2 1))⟩,
      ⟨Rect.unit ![4, 0, 0] ![1, 256, 672] inb_S8x256x672_S1x256x672_4_0_0, k0_pay13 (F := Ideal) (k0_pay10 X (gL GU 0) (wL B2 0))⟩,
      ⟨Rect.unit ![0, 0, 0] ![1, 256, 672] inb_S8x256x672_S1x256x672_0_0_0, k0_pay12 (F := Ideal) (k0_pay9 X (gL GU 0) (gL GU 4) (wL B2 0))⟩] (ix3 k a l) : EReal)
      = ((A.dgu k.val (256 * t + a.val) l.val : ℝ) : EReal) := by
  let f : Fin 8 → EReal := fun k => ((A.dgu k.val (256 * t + a.val) l.val : ℝ) : EReal)
  show _ = f k
  refine canon_chunk k 7 a l f _ _ _ (st47 (du_3 hX hG h2) a l) fun n7 =>
    canon_chunk k 3 a l f _ _ _ (st46 (dg_3 hX hG h2) a l) fun n3 => canon_chunk k 6 a l f _ _ _ (st36 (du_2 hX hG h2) a l) fun n6 =>
    canon_chunk k 2 a l f _ _ _ (st35 (dg_2 hX hG h2) a l) fun n2 => canon_chunk k 5 a l f _ _ _ (st24 (du_1 hX hG h2) a l) fun n5 =>
    canon_chunk k 1 a l f _ _ _ (st23 (dg_1 hX hG h2) a l) fun n1 => canon_chunk k 4 a l f _ _ _ (st13 (du_0 hX hG h2) a l) fun n4 =>
    canon_chunk k 0 a l f _ _ _ (st12 (dg_0 hX hG h2) a l) fun n0 => ?_
  exact absurd k.isLt (by simp only [ne_eq, Fin.ext_iff] at *; simp at *; omega)

/-- The gates' and factors' gradient in a block of rows. -/
theorem dgu_block (H : ArgIs m A c) (t : Fin cfg0.N) (k : Fin 8) (a : Fin 256) (l : Fin 672) :
    ((outsAt0 m c t.val t.isLt).2.1 (ix3 k a l) : EReal) = ((A.dgu k.val (256 * t.val + a.val) l.val : ℝ) : EReal) := by
  by_cases h0 : t.val % 32 = 0
  · rw [outsAt0_A m c t h0]
    frame_open
    simp (disch := decide) only [↓ View.readCov_skip, ↓ View.readCov_cons_toLoadRect, ↓ View.readCov_fill, readCov_whole]
    frame_out
    exact dgu_point (ldZ H t) (ldG H t) (read_w2 H) k a l
  · rw [outsAt0_B m c t h0]
    frame_open
    simp (disch := decide) only [↓ View.readCov_skip, ↓ View.readCov_cons_toLoadRect, ↓ View.readCov_fill]
    frame_out
    simp only [Idealize.ShloMosaic.read_unread_whole]
    have ht := t.isLt
    have h2 := kept2 H (t.val - 1) (by omega)
    generalize outsAt0 m c (t.val - 1) _ = prev at h2 ⊢
    exact dgu_point (ldZ H t) (ldG H t) h2 k a l

/-- The gates' and factors' gradient after the run. -/
theorem final3 (H : ArgIs m A c) : Is3 ((dats m 0 c).arrAt 3 cfg0.N : S8x8192x672.Idx → EReal) A.dgu := by
  have e : ((dats m 0 c).arrAt 3 cfg0.N : S8x8192x672.Idx → EReal) = fun j : S8x8192x672.Idx => ((A.dgu (j 0).val (j 1).val (j 2).val : ℝ) : EReal) := by
    refine (dats m 0 c).arrAt_eq_of_covers 3 _ (by decide +kernel) fun t hf y => ?_
    obtain ⟨-, -, -, e0, -⟩ := idx0 t
    have key : (outsAt0 m c t.val t.isLt).2.1 = fun y : S8x256x672.Idx => ((A.dgu (y 0).val (256 * t.val + (y 1).val) (y 2).val : ℝ) : EReal) := by
      funext y
      idx_vars y
      exact dgu_block H t y0 y1 y2
    blk_simp [e0]
    rw [after0_3, key]
    simp only [Nat.mul_comm t.val 256]
  intro a b d
  exact congrFun e (ix3 a b d)

/-- The activation after the run. -/
theorem final4 (H : ArgIs m A c) : Is3 ((dats m 0 c).arrAt 4 cfg0.N : S4x8192x672.Idx → EReal) A.act := by
  have e : ((dats m 0 c).arrAt 4 cfg0.N : S4x8192x672.Idx → EReal) = fun j : S4x8192x672.Idx => ((A.act (j 0).val (j 1).val (j 2).val : ℝ) : EReal) := by
    refine (dats m 0 c).arrAt_eq_of_covers 4 _ (by decide +kernel) fun t hf y => ?_
    obtain ⟨-, -, -, -, e0⟩ := idx0 t
    have key : (outsAt0 m c t.val t.isLt).2.2.1 = fun y : S4x256x672.Idx => ((A.act (y 0).val (256 * t.val + (y 1).val) (y 2).val : ℝ) : EReal) := by
      funext y
      idx_vars y
      exact act_block H t y0 y1 y2
    blk_simp [e0]
    rw [after0_4, key]
    simp only [Nat.mul_comm t.val 256]
  intro a b d
  exact congrFun e (ix3 a b d)

end Cert.FfnBwdIdeal.Hand

end

end
-- ==== Proof.LossTile.lean ====
/-
  One half block of the loss head on finite numbers: the feed-forward layer by chunks of 672 columns, the last norm, the error, the loss and
  its gradient, as real numbers.
-/
module

public import proofs.«01_k».proof.Proof.Norm
public import proofs.«01_k».proof.Proof.FfnKernel
public import proofs.«01_k».proof.Proof.Gen.LossHeadIdeal.Value

@[expose] public section

set_option maxRecDepth 16384

noncomputable section

namespace Cert.Loss

open Cert.Norm Cert.Ffn Finset

/-- The arguments' numbers: the layer's input, the targets, the norm's gains and offsets, the layer's two weight matrices. -/
structure Args where
  h : ℕ → ℕ → ℝ
  t : ℕ → ℕ → ℝ
  g : ℕ → ℕ → ℝ
  b : ℕ → ℕ → ℝ
  w13 : ℕ → ℕ → ℝ
  w2 : ℕ → ℕ → ℝ

/-- A normed row less its target. -/
def errOf (z t g b : ℕ → ℝ) (j : ℕ) : ℝ := xh 1024 lnEps z j * g j + b j - t j

/-- The gradient of the normed row. -/
def dyOf (z t g b : ℕ → ℝ) (j : ℕ) : ℝ := errOf z t g b j * (1 / 1024)

namespace Args

variable (A : Args)

/-- The layer. -/
abbrev ffn : Cert.Ffn.Args := ⟨A.h, A.w13, A.w2, A.h⟩

/-- What chunk `k` of the activation adds to the layer's result. -/
def chunk (k r e : ℕ) : ℝ := ∑ l ∈ range 672, A.ffn.act k r l * A.w2 (672 * k + l) e

/-- The layer's result. -/
def f (r e : ℕ) : ℝ := 0 + A.chunk 0 r e + A.chunk 1 r e + A.chunk 2 r e + A.chunk 3 r e

/-- The last norm's input. -/
def z (r e : ℕ) : ℝ := alpha * A.h r e + 1 / 2 * A.f r e

/-- The error. -/
def err (r : ℕ) : ℕ → ℝ := errOf (A.z r) (A.t r) (A.g 0) (A.b 0)

/-- The gradient of the normed rows. -/
def dy (r : ℕ) : ℕ → ℝ := dyOf (A.z r) (A.t r) (A.g 0) (A.b 0)

/-- The gradient of the norm's input. -/
def dz (r j : ℕ) : ℝ := lnR 1024 lnEps (A.z r) (fun l => A.dy r l * A.g 0 l) j

/-- A row's term of the gains' gradient. -/
def dgAt (j r : ℕ) : ℝ := xh 1024 lnEps (A.z r) j * A.dy r j

/-- A row's term of the loss. -/
def lossAt (r : ℕ) : ℝ := ∑ j ∈ range 1024, A.err r j * A.err r j

end Args

end Cert.Loss

namespace Cert.LossHeadIdeal.Hand

open Cert.Sb Cert.Norm Cert.Ffn Cert.Loss Cert.LossHeadIdeal Cert.LossHeadIdeal.Gen Idealize.ShloMosaic Idealize.ShloMosaic.TcCoe Finset

theorem inv1024 : Ideal.ofBits .f32 0x3A800000#32 = ((1 / 1024 : ℝ) : EReal) := by
  simp [Ideal.ofBits, Ideal.ieee, -EReal.coe_mul]; norm_num

theorem inv2048 : Ideal.ofBits .f32 0x3A000000#32 = ((1 / 2048 : ℝ) : EReal) := by
  simp [Ideal.ofBits, Ideal.ieee, -EReal.coe_mul]; norm_num

/-! ### The layer -/

variable {x p g u w : ℕ → ℕ → ℝ} {v v' : ℕ → ℕ → ℕ → ℝ} {X : FVec Ideal S256x1024 .bf16} {P : FVec Ideal S256x1024 .f32} {W : FVec Ideal S672x1024 .bf16}
  {G U : FVec Ideal S256x672 .f32} {V V' : FVec Ideal S1x672x1024 .bf16}

/-- A chunk of gates or factors. -/
abbrev guT (x : ℕ → ℕ → ℝ) (v : ℕ → ℕ → ℕ → ℝ) (a l : ℕ) : ℝ := ∑ e ∈ range 1024, x a e * v 0 l e

/-- The layer's result with one chunk added. -/
abbrev stepT (p g u w : ℕ → ℕ → ℝ) (a e : ℕ) : ℝ := p a e + ∑ l ∈ range 672, g a l * sg (g a l) * u a l * w l e

theorem rows_is (hX : Is X x) : Is (k0_pay4 (F := Ideal) X) x := by
  intro a b
  pointwise [k0_pay4]
  exact hX a b

theorem gu_is (hX : Is X x) (hV : Is3 V v) : Is (k0_pay11 (F := Ideal) X V) (guT x v) := by
  intro a b
  pointwise [k0_pay11]
  exact dot_of _ _ (x a) (v 0 b) (hX a) (hV 0 b)

/-- A stored chunk of gates or factors. -/
theorem st_is (hX : Is X x) (hV : Is3 V v) (a : Fin 256) (b : Fin 672) : (k0_pay13 (F := Ideal) X V (ix3 0 a b) : EReal) = ((guT x v a b : ℝ) : EReal) := by
  pointwise [k0_pay13]
  exact gu_is hX hV a b

theorem st12_is (hG : Is G g) (a : Fin 256) (b : Fin 672) : (k0_pay12 (F := Ideal) G (ix3 0 a b) : EReal) = ((g a b : ℝ) : EReal) := by
  pointwise [k0_pay12]
  exact hG a b

theorem step_of {n : ℕ} {q : EReal} {r : ℝ} (hq : q = (r : EReal)) (a b : Fin n → EReal) (f h : ℕ → ℝ) (ha : ∀ i : Fin n, a i = ((f i.val : ℝ) : EReal))
    (hb : ∀ i : Fin n, b i = ((h i.val : ℝ) : EReal)) : q + ∑ i, a i * b i = ((r + ∑ i ∈ range n, f i * h i : ℝ) : EReal) := by
  rw [dot_of a b f h ha hb, hq, ← EReal.coe_add]

theorem acc14 (hP : Is P p) (hX : Is X x) (hG : Is G g) (hV : Is3 V v) (hW : Is W w) : Is (k0_pay14 (F := Ideal) X P G V W) (stepT p g (guT x v) w) := by
  intro a b
  pointwise [k0_pay14]
  exact step_of (hP a b) _ _ (fun l => g a l * sg (g a l) * guT x v a l) (fun l => w l b) (fun l => act_of (hG a l) (gu_is hX hV a l)) (fun l => hW l b)

theorem acc31 (hP : Is P p) (hX : Is X x) (hV : Is3 V v) (hV' : Is3 V' v') (hW : Is W w) : Is (k0_pay31 (F := Ideal) X P V V' W) (stepT p (guT x v) (guT x v') w) := by
  intro a b
  pointwise [k0_pay31]
  exact step_of (hP a b) _ _ (fun l => guT x v a l * sg (guT x v a l) * guT x v' a l) (fun l => w l b) (fun l => act_of (gu_is hX hV a l) (gu_is hX hV' a l)) (fun l => hW l b)

theorem zero_is : Is (k0_pay26 (F := Ideal)) (fun _ _ => 0) := by
  intro a b
  pointwise [k0_pay26]
  rfl

/-- Two chunks added at once. -/
theorem acc24 (hP : Is P p) (hX : Is X x) (hG : Is G g) (hU : Is U u) (hW : Is W w) (hV : Is3 V v) (hV' : Is3 V' v') {W' : FVec Ideal S672x1024 .bf16} {w' : ℕ → ℕ → ℝ}
    (hW' : Is W' w') : Is (k0_pay24 (F := Ideal) X P G U W V V' W') (stepT (stepT p g u w) (guT x v) (guT x v') w') := by
  intro a b
  pointwise [k0_pay24]
  exact step_of (step_of (hP a b) _ _ (fun l => g a l * sg (g a l) * u a l) (fun l => w l b) (fun l => act_of (hG a l) (hU a l)) (fun l => hW l b)) _ _
    (fun l => guT x v a l * sg (guT x v a l) * guT x v' a l) (fun l => w' l b) (fun l => act_of (gu_is hX hV a l) (gu_is hX hV' a l)) (fun l => hW' l b)

/-- The other operations of the layer are these. -/
theorem same :
    (∀ X V V' W, k0_pay9 (F := Ideal) X V V' W = k0_pay31 (k0_pay4 X) (k0_pay26 (F := Ideal)) V V' W) ∧ (∀ X V, k0_pay10 (F := Ideal) X V = k0_pay11 (k0_pay4 X) V) ∧
    (∀ X, k0_pay25 (F := Ideal) X = k0_pay4 X) ∧ (∀ X V, k0_pay15 (F := Ideal) X V = k0_pay11 X V) ∧ (∀ X V, k0_pay16 (F := Ideal) X V = k0_pay11 X V) ∧
    (∀ X V, k0_pay32 (F := Ideal) X V = k0_pay11 X V) ∧ (∀ X V, k0_pay33 (F := Ideal) X V = k0_pay11 X V) ∧
    (∀ X P G U W V V' W', k0_pay40 (F := Ideal) X P G U W V V' W' = k0_pay24 X P G U W V V' W') ∧ (∀ X P V V' W, k0_pay45 (F := Ideal) X P V V' W = k0_pay31 X P V V' W) ∧
    (∀ X V, k0_pay7 (F := Ideal) X V = k0_pay13 (k0_pay4 X) V) ∧ (∀ X V, k0_pay8 (F := Ideal) X V = k0_pay13 (k0_pay4 X) V) ∧
    (∀ X V, k0_pay12 (F := Ideal) (k0_pay11 X V) = k0_pay13 X V) ∧ (∀ X V, k0_pay17 (F := Ideal) X V = k0_pay13 X V) ∧
    (∀ X V, k0_pay19 (F := Ideal) (k0_pay18 X V) = k0_pay13 X V) ∧ (∀ X V, k0_pay22 (F := Ideal) X V = k0_pay13 X V) ∧ (∀ X V, k0_pay23 (F := Ideal) X V = k0_pay13 X V) ∧
    (∀ X V, k0_pay29 (F := Ideal) X V = k0_pay13 X V) ∧ (∀ X V, k0_pay30 (F := Ideal) X V = k0_pay13 X V) ∧ (∀ X V, k0_pay34 (F := Ideal) X V = k0_pay13 X V) ∧
    (∀ X V, k0_pay35 (F := Ideal) (k0_pay11 X V) = k0_pay13 X V) ∧ (∀ X V, k0_pay38 (F := Ideal) X V = k0_pay13 X V) ∧ (∀ X V, k0_pay39 (F := Ideal) X V = k0_pay13 X V) ∧
    (∀ X V, k0_pay43 (F := Ideal) X V = k0_pay13 X V) ∧ (∀ X V, k0_pay44 (F := Ideal) X V = k0_pay13 X V) :=
  ⟨fun _ _ _ _ => rfl, fun _ _ => rfl, fun _ => rfl, fun _ _ => rfl, fun _ _ => rfl, fun _ _ => rfl, fun _ _ => rfl, fun _ _ _ _ _ _ _ _ => rfl, fun _ _ _ _ _ => rfl,
    fun _ _ => rfl, fun _ _ => rfl, fun _ _ => rfl, fun _ _ => rfl, fun _ _ => rfl, fun _ _ => rfl, fun _ _ => rfl, fun _ _ => rfl, fun _ _ => rfl, fun _ _ => rfl,
    fun _ _ => rfl, fun _ _ => rfl, fun _ _ => rfl, fun _ _ => rfl, fun _ _ => rfl⟩

theorem f_steps (A : Cert.Loss.Args) (r e : ℕ) : stepT (stepT (stepT (stepT (fun _ _ => 0) (fun r l => A.ffn.gu r (672 * 0 + l)) (fun r l => A.ffn.gu r (672 * 4 + l)) (fun l e => A.w2 (672 * 0 + l) e))
      (fun r l => A.ffn.gu r (672 * 1 + l)) (fun r l => A.ffn.gu r (672 * 5 + l)) (fun l e => A.w2 (672 * 1 + l) e))
      (fun r l => A.ffn.gu r (672 * 2 + l)) (fun r l => A.ffn.gu r (672 * 6 + l)) (fun l e => A.w2 (672 * 2 + l) e))
      (fun r l => A.ffn.gu r (672 * 3 + l)) (fun r l => A.ffn.gu r (672 * 7 + l)) (fun l e => A.w2 (672 * 3 + l) e) r e = A.f r e := by
  rfl

section
variable {A : Cert.Loss.Args} {n : ℕ} {B : S8x672x1024.Idx → EReal} {B2 : S2688x1024.Idx → EReal}
  (hX : Is X (fun a e => A.h (n + a) e)) (hB : Is3 B (fun k l e => A.w13 e (672 * k + l))) (h2 : Is B2 A.w2)
include hX hB

open Cert.FfnBwdIdeal.Hand (vL wL ldV ldW)

/-- The weights as the layer's. -/
theorem gu_chunk (k : Fin 8) : Is (k0_pay11 (F := Ideal) (k0_pay4 X) (vL B k)) (fun a l => A.ffn.gu (n + a) (672 * k.val + l)) :=
  gu_is (rows_is hX) (ldV (A := A.ffn) hB k)

theorem st_chunk (k : Fin 8) (a : Fin 256) (l : Fin 672) :
    (k0_pay13 (F := Ideal) (k0_pay4 X) (vL B k) (ix3 0 a l) : EReal) = ((A.ffn.gu (n + a.val) (672 * k.val + l.val) : ℝ) : EReal) :=
  st_is (rows_is hX) (ldV (A := A.ffn) hB k) a l

include h2

/-- The layer's result, the first chunk and half of the second apart. -/
theorem half1_is : Is (k0_pay24 (F := Ideal) (k0_pay4 X) (k0_pay14 (k0_pay4 X) (k0_pay31 (k0_pay4 X) (k0_pay26 (F := Ideal)) (vL B 0) (vL B 4) (wL B2 0))
    (k0_pay11 (k0_pay4 X) (vL B 1)) (vL B 5) (wL B2 1))
    (k0_pay11 (k0_pay4 X) (vL B 2)) (k0_pay11 (k0_pay4 X) (vL B 6)) (wL B2 2) (vL B 3) (vL B 7) (wL B2 3)) (fun a e => A.f (n + a) e) := by
  have x4 := rows_is hX
  have v k := ldV (A := A.ffn) hB k
  have w k := ldW (A := A.ffn) h2 k
  intro a e
  exact (acc24 (acc14 (acc31 zero_is x4 (v 0) (v 4) (w 0)) x4 (gu_is x4 (v 1)) (v 5) (w 1)) x4 (gu_is x4 (v 2)) (gu_is x4 (v 6)) (w 2) (v 3) (v 7) (w 3) a e).trans
    (congrArg Real.toEReal (f_steps A (n + a) e))

/-- The layer's result, the last chunk apart. -/
theorem half2_is : Is (k0_pay31 (F := Ideal) (k0_pay4 X) (k0_pay24 (k0_pay4 X) (k0_pay31 (k0_pay4 X) (k0_pay26 (F := Ideal)) (vL B 0) (vL B 4) (wL B2 0))
    (k0_pay11 (k0_pay4 X) (vL B 1)) (k0_pay11 (k0_pay4 X) (vL B 5)) (wL B2 1) (vL B 2) (vL B 6) (wL B2 2)) (vL B 3) (vL B 7) (wL B2 3)) (fun a e => A.f (n + a) e) := by
  have x4 := rows_is hX
  have v k := ldV (A := A.ffn) hB k
  have w k := ldW (A := A.ffn) h2 k
  intro a e
  exact (acc31 (acc24 (acc31 zero_is x4 (v 0) (v 4) (w 0)) x4 (gu_is x4 (v 1)) (gu_is x4 (v 5)) (w 1) (v 2) (v 6) (w 2)) x4 (v 3) (v 7) (w 3) a e).trans
    (congrArg Real.toEReal (f_steps A (n + a) e))

end

end Cert.LossHeadIdeal.Hand

end

end
-- ==== Proof.LossNorm.lean ====
/-
  The last norm, the error, the loss and its gradient in one half block of rows, on finite numbers: what the loss head's operations compute.
-/
module

public import proofs.«01_k».proof.Proof.LossTile

@[expose] public section

set_option maxRecDepth 16384

noncomputable section

namespace Cert.LossHeadIdeal.Hand

open Cert.Sb Cert.Norm Cert.Ffn Cert.Loss Cert.LossHeadIdeal Cert.LossHeadIdeal.Gen Idealize.ShloMosaic Idealize.ShloMosaic.TcCoe Finset

variable {z g b t f h : ℕ → ℕ → ℝ} {Z T Fm H : FVec Ideal S256x1024 .f32} {G B : FVec Ideal S1x1024 .f32}

/-- The last norm's input. -/
theorem mix_is (hF : Is Fm f) (hH : Is H h) : Is (k0_pay49 (F := Ideal) Fm H) (fun a j => alpha * h a j + 1 / 2 * f a j) := by
  intro a j
  pointwise [k0_pay49]
  rw [alpha_bits, half_bits, hF a j, hH a j, ← EReal.coe_mul, ← EReal.coe_mul, ← EReal.coe_add]

theorem zc_is (hZ : Is Z z) : Is (k0_pay50 (F := Ideal) Z) (fun a => cen 1024 (z a)) := by
  intro a j
  pointwise [k0_pay50]
  rw [n1024]
  exact cen_of (by decide) (fun i => Z (ix2 a i)) (z a) (fun i => hZ a i) j

theorem var_is (hZ : Is Z z) : Is (k0_pay51 (F := Ideal) Z) (fun a _ => vr 1024 lnEps (cen 1024 (z a))) := by
  intro a j
  pointwise [k0_pay51]
  rw [eps_bits, n1024]
  exact vr_of (by decide) lnEps (fun i => k0_pay50 (F := Ideal) Z (ix2 a i)) _ (fun i => zc_is hZ a i)

theorem rs_is (hZ : Is Z z) : Is (k0_pay52 (F := Ideal) Z) (fun a _ => rs 1024 lnEps (cen 1024 (z a))) := by
  intro a j
  pointwise [k0_pay52]
  exact rs_of eps_pos (var_is hZ a j)

theorem hf_is (hZ : Is Z z) : Is (k0_pay53 (F := Ideal) Z) (fun a _ => Norm.hf 1024 lnEps (cen 1024 (z a))) := by
  intro a j
  pointwise [k0_pay53]
  rw [neg_half]
  exact hf_of eps_pos (rs_is hZ a j) (var_is hZ a j)

theorem xh_is (hZ : Is Z z) : Is (k0_pay54 (F := Ideal) Z) (fun a => xh 1024 lnEps (z a)) := by
  intro a j
  pointwise [k0_pay54]
  rw [zc_is hZ a j, rs_is hZ a 0, ← EReal.coe_mul]
  rfl

section
variable (hZ : Is Z z) (hG : Is G g) (hB : Is B b) (hT : Is T t)
include hZ hG hB hT

theorem err_is : Is (k0_pay55 (F := Ideal) Z G B T) (fun a => errOf (z a) (t a) (g 0) (b 0)) := by
  intro a j
  pointwise [k0_pay55]
  rw [xh_is hZ a j, hG 0 j, hB 0 j, hT a j, ← EReal.coe_mul, ← EReal.coe_add, ← EReal.coe_sub]
  rfl

theorem dy_is : Is (k0_pay57 (F := Ideal) Z G B T) (fun a => dyOf (z a) (t a) (g 0) (b 0)) := by
  intro a j
  pointwise [k0_pay57]
  rw [inv1024, err_is hZ hG hB hT a j, ← EReal.coe_mul]
  rfl

/-- The loss with a half block's rows added. -/
theorem loss_is (P : FVec Ideal S1x1 .f32) (i o : Fin 1) : (k0_pay56 (F := Ideal) Z G B T P (ix2 i o) : EReal)
    = P (ix2 i o) + (((∑ a ∈ range 256, ∑ j ∈ range 1024, errOf (z a) (t a) (g 0) (b 0) j * errOf (z a) (t a) (g 0) (b 0) j) * (1 / 2048) : ℝ) : EReal) := by
  pointwise [k0_pay56]
  rw [inv2048, sum_of _ (fun a => ∑ j ∈ range 1024, errOf (z a) (t a) (g 0) (b 0) j * errOf (z a) (t a) (g 0) (b 0) j)
    (fun a => dot_of _ _ (errOf (z a) (t a) (g 0) (b 0)) (errOf (z a) (t a) (g 0) (b 0)) (fun j => err_is hZ hG hB hT a j) (fun j => err_is hZ hG hB hT a j)), ← EReal.coe_mul]

theorem db_is : Is (k0_pay58 (F := Ideal) Z G B T) (fun _ j => ∑ a ∈ range 256, dyOf (z a) (t a) (g 0) (b 0) j) := by
  intro o j
  pointwise [k0_pay58]
  exact sum_of _ (fun a => dyOf (z a) (t a) (g 0) (b 0) j) (fun a => dy_is hZ hG hB hT a j)

/-- The gains' gradient with a half block's rows added. -/
theorem dg_is (P : FVec Ideal S1x1024 .f32) (o : Fin 1) (j : Fin 1024) : (k0_pay62 (F := Ideal) (k0_pay59 Z G B T) P (ix2 o j) : EReal)
    = P (ix2 o j) + ((∑ a ∈ range 256, xh 1024 lnEps (z a) j * dyOf (z a) (t a) (g 0) (b 0) j : ℝ) : EReal) := by
  pointwise [k0_pay62, k0_pay59]
  rw [dot_of _ _ (fun a => xh 1024 lnEps (z a) j) (fun a => dyOf (z a) (t a) (g 0) (b 0) j) (fun a => xh_is hZ a j) (fun a => dy_is hZ hG hB hT a j)]

theorem dbA_is (P : FVec Ideal S1x1024 .f32) (o : Fin 1) (j : Fin 1024) : (k0_pay63 (F := Ideal) (k0_pay58 Z G B T) P (ix2 o j) : EReal)
    = P (ix2 o j) + ((∑ a ∈ range 256, dyOf (z a) (t a) (g 0) (b 0) j : ℝ) : EReal) := by
  pointwise [k0_pay63]
  rw [db_is hZ hG hB hT o j]

/-- The gradient of the norm's input. -/
theorem dz_is : Is (k0_pay60 (F := Ideal) G (k0_pay50 Z) (k0_pay52 Z) (k0_pay53 Z) (k0_pay57 Z G B T))
    (fun a => lnR 1024 lnEps (z a) (fun l => dyOf (z a) (t a) (g 0) (b 0) l * g 0 l)) := by
  intro a j
  pointwise [k0_pay60]
  rw [n1024]
  simp only [Fin.sum_univ_one]
  exact lnK_of (by decide) (fun i => k0_pay57 (F := Ideal) Z G B T (ix2 a i)) (fun i => G (ix2 0 i)) (fun i => k0_pay50 (F := Ideal) Z (ix2 a i)) (dyOf (z a) (t a) (g 0) (b 0)) (g 0)
    (z a) (fun i => dy_is hZ hG hB hT a i) (fun i => hG 0 i) (fun i => zc_is hZ a i) (rs_is hZ a 0) (hf_is hZ a 0) j

theorem dzb_is : Is (k0_pay61 (F := Ideal) G (k0_pay50 Z) (k0_pay52 Z) (k0_pay53 Z) (k0_pay57 Z G B T))
    (fun a => lnR 1024 lnEps (z a) (fun l => dyOf (z a) (t a) (g 0) (b 0) l * g 0 l)) := by
  intro a j
  pointwise [k0_pay61]
  exact dz_is hZ hG hB hT a j

end

/-- The second half's operations are the first half's. -/
theorem same2 :
    (∀ P Q, k0_pay64 (F := Ideal) P Q = k0_pay50 (k0_pay49 P Q)) ∧ (∀ P Q, k0_pay66 (F := Ideal) P Q = k0_pay52 (k0_pay49 P Q)) ∧ (∀ P Q, k0_pay67 (F := Ideal) P Q = k0_pay53 (k0_pay49 P Q)) ∧
    (∀ P Q, k0_pay68 (F := Ideal) P Q = k0_pay54 (k0_pay49 P Q)) ∧ (∀ P Q G B T, k0_pay69 (F := Ideal) P Q G B T = k0_pay55 (k0_pay49 P Q) G B T) ∧
    (∀ P Q G B T L, k0_pay71 (F := Ideal) (k0_pay70 P Q G B T) L = k0_pay56 (k0_pay49 P Q) G B T L) ∧
    (∀ Z G B T, k0_pay73 (F := Ideal) (k0_pay55 Z G B T) = k0_pay58 Z G B T) ∧
    (∀ Z G B T L, k0_pay2 (F := Ideal) (k0_pay74 (k0_pay54 Z) (k0_pay55 Z G B T)) L = k0_pay62 (k0_pay59 Z G B T) L) ∧
    (∀ C L, k0_pay3 (F := Ideal) C L = k0_pay63 C L) ∧
    (∀ Z G B T C R S, k0_pay75 (F := Ideal) G C R S (k0_pay55 Z G B T) = k0_pay60 G C R S (k0_pay57 Z G B T)) ∧
    (∀ G C R S D, k0_pay1 (F := Ideal) (k0_pay60 G C R S D) = k0_pay61 G C R S D) :=
  ⟨fun _ _ => rfl, fun _ _ => rfl, fun _ _ => rfl, fun _ _ => rfl, fun _ _ _ _ _ => rfl, fun _ _ _ _ _ _ => rfl, fun _ _ _ _ => rfl, fun _ _ _ _ _ => rfl, fun _ _ => rfl,
    fun _ _ _ _ _ _ _ => rfl, fun _ _ _ _ _ => rfl⟩

end Cert.LossHeadIdeal.Hand

end

end
-- ==== Proof.LossKernel.lean ====
/-
  The loss head on finite arguments: what its six result arrays hold after the run, as real numbers.
-/
module

public import proofs.«01_k».proof.Proof.LossNorm

@[expose] public section

set_option maxRecDepth 16384

noncomputable section

namespace Cert.LossHeadIdeal.Hand

open Cert.Sb Cert.Norm Cert.Ffn Cert.Loss Cert.LossHeadIdeal Cert.LossHeadIdeal.Gen Idealize.ShloMosaic Idealize.ShloMosaic.TcCoe Idealize.SL.Sem Finset Idealize.ShloMosaic.StableHlo
open Idealize.ShloMosaic.Pipeline (Dat)
open Cert.FfnBwdIdeal.Hand (vL wL)

/-! ### The blocks a grid point reads -/

variable (m : (ℓ : Loc nD τ sig) → Buf (Elt Ideal) ℓ)

abbrev a0 (c : Dev nD) : S8192x1024.Idx → Ideal .f32 := m ((c.tc : Thread nD τ).loc main_arg0)
abbrev a1 (c : Dev nD) : S8192x1024.Idx → Ideal .f32 := m ((c.tc : Thread nD τ).loc main_arg1)
abbrev a2 (c : Dev nD) : S1x1024.Idx → Ideal .f32 := m ((c.tc : Thread nD τ).loc main_arg2)
abbrev a3 (c : Dev nD) : S1x1024.Idx → Ideal .f32 := m ((c.tc : Thread nD τ).loc main_arg3)
abbrev a4 (c : Dev nD) : S1024x5376.Idx → Ideal .f32 := m ((c.tc : Thread nD τ).loc main_arg4)
abbrev a5 (c : Dev nD) : S2688x1024.Idx → Ideal .f32 := m ((c.tc : Thread nD τ).loc main_arg5)

/-- The arguments hold the numbers `A`. -/
structure ArgIs (A : Cert.Loss.Args) (c : Dev nD) : Prop where
  h : Is (a0 m c) A.h
  t : Is (a1 m c) A.t
  g : Is (a2 m c) A.g
  b : Is (a3 m c) A.b
  w13 : Is (a4 m c) A.w13
  w2 : Is (a5 m c) A.w2

variable {m} {A : Cert.Loss.Args} {c : Dev nD}

theorem read_h (H : ArgIs m A c) : Is (V m c main_v3 : S8192x1024.Idx → EReal) A.h := by
  have e : (V m c main_v3 : S8192x1024.Idx → EReal) = a0 m c := by
    unfold V
    simp only [hostOps0, List.flatten_cons, List.flatten_nil, List.cons_append, List.nil_append, List.append_nil]
    after_reads_simp
    rfl
  rw [e]
  exact H.h

theorem read_w2 (H : ArgIs m A c) : Is (V m c main_v4 : S2688x1024.Idx → EReal) A.w2 := by
  have e : (V m c main_v4 : S2688x1024.Idx → EReal) = a5 m c := by
    unfold V
    simp only [hostOps0, List.flatten_cons, List.flatten_nil, List.cons_append, List.nil_append, List.append_nil]
    after_reads_simp
    rfl
  rw [e]
  exact H.w2

theorem read_w13 (H : ArgIs m A c) : Is3 (V m c main_v2 : S8x672x1024.Idx → EReal) (fun k l e => A.w13 e (672 * k + l)) := by
  intro k l d
  have e : (V m c main_v2 : S8x672x1024.Idx → EReal) (ix3 k l d) = a4 m c (ix2 d ⟨672 * k.val + l.val, by have := k.isLt; have := l.isLt; omega⟩) := by
    unfold V
    simp only [hostOps0, List.flatten_cons, List.flatten_nil, List.cons_append, List.nil_append, List.append_nil]
    after_reads_at
    exact congrArg (a4 m c) (congrArg (ix2 d) (Fin.ext (by dsimp only; omega)))
  rw [e]
  exact H.w13 d _

/-- The windows' index maps over the grid's points. -/
theorem idx0 : ∀ t : Fin cfg0.N, win0_0.index t = ![t.val, 0] ∧ win0_1.index t = ![t.val, 0] ∧ win0_2.index t = ![t.val, 0] ∧ win0_3.index t = ![0, 0]
    ∧ win0_4.index t = ![0, 0] ∧ win0_5.index t = ![0, t.val, 0] ∧ win0_6.index t = ![t.val, 0] ∧ win0_7.index t = ![t.val, 0] :=
  (by decide +kernel : ∀ t : Fin grid0.N, _)

theorem lt16 (t : Fin cfg0.N) : t.val < 16 := by have := t.isLt; have hN : cfg0.N = 16 := N_0; omega

/-- Half `o` of a block of rows, and of a block of rounded rows. -/
abbrev rL (B : S512x1024.Idx → EReal) (o : Fin 2) : FVec Ideal S256x1024 .f32 :=
  View.ld (Val := Elt Ideal) (e' := .f32) B (Rect.unit (s := S512x1024) ![256 * o.val, 0] ![256, 1024] (by decide +revert))
abbrev rB (B : S512x1024.Idx → EReal) (o : Fin 2) : FVec Ideal S256x1024 .bf16 :=
  View.ld (Val := Elt Ideal) (e' := .bf16) B (Rect.unit (s := S512x1024) ![256 * o.val, 0] ![256, 1024] (by decide +revert))

theorem ld_rows {f : ℕ → ℕ → ℝ} {n : ℕ} {B : S512x1024.Idx → EReal} (hB : Is B (fun a => f (n + a))) (o : Fin 2) : Is (rL B o) (fun a => f (n + 256 * o.val + a)) := by
  intro a l
  dsimp only
  rw [Nat.add_assoc]
  refine Eq.trans ?_ (hB ⟨256 * o.val + a.val, by have := o.isLt; omega⟩ l)
  refine congrArg B (funext fun b => ?_)
  apply Fin.ext
  fin_cases b <;> simp [Rect.emb, Rect.unit, ix2]

theorem ld_rowsb {f : ℕ → ℕ → ℝ} {n : ℕ} {B : S512x1024.Idx → EReal} (hB : Is B (fun a => f (n + a))) (o : Fin 2) : Is (rB B o) (fun a => f (n + 256 * o.val + a)) := ld_rows hB o

section blocks
variable (H : ArgIs m A c) (t : Fin cfg0.N)
include H

theorem ldHb : Is (iblk m c 0 t : S512x1024.Idx → EReal) (fun a => A.h (512 * t.val + a)) := by
  have ht := lt16 t
  intro a e
  obtain ⟨e0, -⟩ := idx0 t
  refine Eq.trans ?_ (read_h H ⟨512 * t.val + a.val, by omega⟩ e)
  blk_ext [iblk, e0]

theorem ldH : Is (iblk m c 1 t : S512x1024.Idx → EReal) (fun a => A.h (512 * t.val + a)) := by
  have ht := lt16 t
  intro a e
  obtain ⟨-, e0, -⟩ := idx0 t
  refine Eq.trans ?_ (H.h ⟨512 * t.val + a.val, by omega⟩ e)
  blk_ext [iblk, V_main_arg0, e0]

theorem ldT : Is (iblk m c 2 t : S512x1024.Idx → EReal) (fun a => A.t (512 * t.val + a)) := by
  have ht := lt16 t
  intro a e
  obtain ⟨-, -, e0, -⟩ := idx0 t
  refine Eq.trans ?_ (H.t ⟨512 * t.val + a.val, by omega⟩ e)
  blk_ext [iblk, V_main_arg1, e0]

theorem ldG : Is (iblk m c 3 t : S1x1024.Idx → EReal) A.g := by
  intro a e
  obtain ⟨-, -, -, e0, -⟩ := idx0 t
  refine Eq.trans ?_ (H.g a e)
  blk_ext [iblk, V_main_arg2, e0]

theorem ldB : Is (iblk m c 4 t : S1x1024.Idx → EReal) A.b := by
  intro a e
  obtain ⟨-, -, -, -, e0, -⟩ := idx0 t
  refine Eq.trans ?_ (H.b a e)
  blk_ext [iblk, V_main_arg3, e0]

end blocks

/-! ### The weights the kernel keeps -/

/-- The kernel's two copies of the weights after every point. -/
theorem kept (m : (ℓ : Loc nD τ sig) → Buf (Elt Ideal) ℓ) (c : Dev nD) : ∀ (n : ℕ) (h : n < cfg0.N),
    (outsAt0 m c n h).2.2.2.2.2.2.1 = V m c main_v2 ∧ (outsAt0 m c n h).2.2.2.2.2.2.2 = V m c main_v4 := by
  intro n
  induction n with
  | zero =>
    intro h
    rw [outsAt0_A m c ⟨0, h⟩ rfl rfl]
    frame_out
    exact ⟨View.canon_unit_zero rfl _ _, View.canon_unit_zero rfl _ _⟩
  | succ n ih =>
    intro h
    have hN : cfg0.N = 16 := N_0
    have e := outsAt0_B m c ⟨n + 1, h⟩ (by dsimp only; omega) (by dsimp only; omega)
    have hi := ih (by omega)
    rw [e]
    frame_out
    exact hi

theorem kept13 (H : ArgIs m A c) (n : ℕ) (h : n < cfg0.N) : Is3 ((outsAt0 m c n h).2.2.2.2.2.2.1 : S8x672x1024.Idx → EReal) (fun k l e => A.w13 e (672 * k + l)) := by
  rw [(kept m c n h).1]
  exact read_w13 H

theorem kept2 (H : ArgIs m A c) (n : ℕ) (h : n < cfg0.N) : Is ((outsAt0 m c n h).2.2.2.2.2.2.2 : S2688x1024.Idx → EReal) A.w2 := by
  rw [(kept m c n h).2]
  exact read_w2 H

/-! ### What a grid point stores -/

/-- The last norm's input in the first and in the second half of a block of rows, as the kernel computes it. -/
abbrev Z1 (X Q : S512x1024.Idx → EReal) (B : S8x672x1024.Idx → EReal) (B2 : S2688x1024.Idx → EReal) : FVec Ideal S256x1024 .f32 :=
  k0_pay49 (F := Ideal) (k0_pay24 (k0_pay4 (rB X 0)) (k0_pay14 (k0_pay4 (rB X 0)) (k0_pay31 (k0_pay4 (rB X 0)) (k0_pay26 (F := Ideal)) (vL B 0) (vL B 4) (wL B2 0))
    (k0_pay11 (k0_pay4 (rB X 0)) (vL B 1)) (vL B 5) (wL B2 1))
    (k0_pay11 (k0_pay4 (rB X 0)) (vL B 2)) (k0_pay11 (k0_pay4 (rB X 0)) (vL B 6)) (wL B2 2) (vL B 3) (vL B 7) (wL B2 3)) (rL Q 0)
abbrev Z2 (X Q : S512x1024.Idx → EReal) (B : S8x672x1024.Idx → EReal) (B2 : S2688x1024.Idx → EReal) : FVec Ideal S256x1024 .f32 :=
  k0_pay49 (F := Ideal) (k0_pay31 (F := Ideal) (k0_pay4 (rB X 1)) (k0_pay24 (k0_pay4 (rB X 1)) (k0_pay31 (k0_pay4 (rB X 1)) (k0_pay26 (F := Ideal)) (vL B 0) (vL B 4) (wL B2 0))
    (k0_pay11 (k0_pay4 (rB X 1)) (vL B 1)) (k0_pay11 (k0_pay4 (rB X 1)) (vL B 5)) (wL B2 1) (vL B 2) (vL B 6) (wL B2 2)) (vL B 3) (vL B 7) (wL B2 3)) (rL Q 1)

section points
variable {X Q T : S512x1024.Idx → EReal} {G Bo : S1x1024.Idx → EReal} {B : S8x672x1024.Idx → EReal} {B2 : S2688x1024.Idx → EReal} {n : ℕ}
  (hX : Is X (fun a => A.h (n + a))) (hQ : Is Q (fun a => A.h (n + a))) (hT : Is T (fun a => A.t (n + a))) (hG : Is G A.g) (hO : Is Bo A.b)
  (hB : Is3 B (fun k l e => A.w13 e (672 * k + l))) (h2 : Is B2 A.w2)

section z
include hX hQ hB h2

theorem z1_is : Is (Z1 X Q B B2) (fun a => A.z (n + 256 * (0 : Fin 2).val + a)) := mix_is (half1_is (A := A) (ld_rowsb hX 0) hB h2) (ld_rows hQ 0)

theorem z2_is : Is (Z2 X Q B B2) (fun a => A.z (n + 256 * (1 : Fin 2).val + a)) := mix_is (half2_is (A := A) (ld_rowsb hX 1) hB h2) (ld_rows hQ 1)

end z

/-- Two halves' sums are the block's. -/
theorem halves (f : ℕ → ℝ) (n : ℕ) (P : EReal) : P + ((∑ a ∈ range 256, f (n + 256 * (0 : Fin 2).val + a) : ℝ) : EReal)
    + ((∑ a ∈ range 256, f (n + 256 * (1 : Fin 2).val + a) : ℝ) : EReal) = P + ((∑ r ∈ range 512, f (n + r) : ℝ) : EReal) := by
  rw [add_assoc, ← EReal.coe_add, show (512 : ℕ) = 256 + 256 from rfl, sum_range_add]
  refine congrArg (P + ·) (congrArg Real.toEReal (congrArg (_ + ·) (sum_congr rfl fun a _ => congrArg f ?_)))
  show n + 256 * 1 + a = _
  omega

include hX hQ hT hG hO hB h2

theorem loss_point (P : FVec Ideal S1x1 .f32) (i o : Fin 1) : (k0_pay56 (F := Ideal) (Z2 X Q B B2) G Bo (rL T 1) (k0_pay56 (Z1 X Q B B2) G Bo (rL T 0) P) (ix2 i o) : EReal)
    = P (ix2 i o) + ((∑ r ∈ range 512, A.lossAt (n + r) * (1 / 2048) : ℝ) : EReal) := by
  rw [loss_is (z2_is hX hQ hB h2) hG hO (ld_rows hT 1), loss_is (z1_is hX hQ hB h2) hG hO (ld_rows hT 0), ← halves (fun r => A.lossAt r * (1 / 2048)), sum_mul, sum_mul]
  rfl

theorem dg_point (P : FVec Ideal S1x1024 .f32) (o : Fin 1) (j : Fin 1024) :
    (k0_pay62 (F := Ideal) (k0_pay59 (Z2 X Q B B2) G Bo (rL T 1)) (k0_pay62 (k0_pay59 (Z1 X Q B B2) G Bo (rL T 0)) P) (ix2 o j) : EReal)
      = P (ix2 o j) + ((∑ r ∈ range 512, A.dgAt j (n + r) : ℝ) : EReal) := by
  rw [dg_is (z2_is hX hQ hB h2) hG hO (ld_rows hT 1), dg_is (z1_is hX hQ hB h2) hG hO (ld_rows hT 0), ← halves (A.dgAt j)]
  rfl

theorem db_point (P : FVec Ideal S1x1024 .f32) (o : Fin 1) (j : Fin 1024) :
    (k0_pay63 (F := Ideal) (k0_pay58 (Z2 X Q B B2) G Bo (rL T 1)) (k0_pay63 (k0_pay58 (Z1 X Q B B2) G Bo (rL T 0)) P) (ix2 o j) : EReal)
      = P (ix2 o j) + ((∑ r ∈ range 512, A.dy (n + r) j : ℝ) : EReal) := by
  rw [dbA_is (z2_is hX hQ hB h2) hG hO (ld_rows hT 1), dbA_is (z1_is hX hQ hB h2) hG hO (ld_rows hT 0), ← halves (fun r => A.dy r j)]
  rfl

/-- The norm input's gradient in each half. -/
theorem dz1 (a : Fin 256) (j : Fin 1024) : (k0_pay60 (F := Ideal) G (k0_pay50 (Z1 X Q B B2)) (k0_pay52 (Z1 X Q B B2)) (k0_pay53 (Z1 X Q B B2)) (k0_pay57 (Z1 X Q B B2) G Bo (rL T 0))
    (ix2 a j) : EReal) = ((A.dz (n + 256 * (0 : Fin 2).val + a.val) j.val : ℝ) : EReal) := dz_is (z1_is hX hQ hB h2) hG hO (ld_rows hT 0) a j

theorem dz2 (a : Fin 256) (j : Fin 1024) : (k0_pay60 (F := Ideal) G (k0_pay50 (Z2 X Q B B2)) (k0_pay52 (Z2 X Q B B2)) (k0_pay53 (Z2 X Q B B2)) (k0_pay57 (Z2 X Q B B2) G Bo (rL T 1))
    (ix2 a j) : EReal) = ((A.dz (n + 256 * (1 : Fin 2).val + a.val) j.val : ℝ) : EReal) := dz_is (z2_is hX hQ hB h2) hG hO (ld_rows hT 1) a j

/-- The norm input's gradient as stored for the next layer, in each half. -/
theorem dzb1 (a : Fin 256) (j : Fin 1024) : (k0_pay61 (F := Ideal) G (k0_pay50 (Z1 X Q B B2)) (k0_pay52 (Z1 X Q B B2)) (k0_pay53 (Z1 X Q B B2)) (k0_pay57 (Z1 X Q B B2) G Bo (rL T 0))
    (ix2 a j) : EReal) = ((A.dz (n + 256 * (0 : Fin 2).val + a.val) j.val : ℝ) : EReal) := dzb_is (z1_is hX hQ hB h2) hG hO (ld_rows hT 0) a j

theorem dzb2 (a : Fin 256) (j : Fin 1024) : (k0_pay61 (F := Ideal) G (k0_pay50 (Z2 X Q B B2)) (k0_pay52 (Z2 X Q B B2)) (k0_pay53 (Z2 X Q B B2)) (k0_pay57 (Z2 X Q B B2) G Bo (rL T 1))
    (ix2 a j) : EReal) = ((A.dz (n + 256 * (1 : Fin 2).val + a.val) j.val : ℝ) : EReal) := dzb_is (z2_is hX hQ hB h2) hG hO (ld_rows hT 1) a j

end points

/-- Two stored halves of a block of rows. -/
theorem canon_halves (f : ℕ → ℕ → ℝ) (n : ℕ) (p q : S256x1024.Idx → Elt Ideal .f32)
    (hp : ∀ (a : Fin 256) (j : Fin 1024), (p (ix2 a j) : EReal) = ((f (n + 256 * (1 : Fin 2).val + a.val) j.val : ℝ) : EReal))
    (hq : ∀ (a : Fin 256) (j : Fin 1024), (q (ix2 a j) : EReal) = ((f (n + 256 * (0 : Fin 2).val + a.val) j.val : ℝ) : EReal)) (a : Fin 512) (j : Fin 1024) :
    (View.canon (Val := Elt Ideal) (s := S512x1024) (e := .f32) [⟨Rect.unit (s := S512x1024) ![256, 0] ![256, 1024] inb_S512x1024_S256x1024_256_0, p⟩,
      ⟨Rect.unit (s := S512x1024) ![0, 0] ![256, 1024] inb_S512x1024_S256x1024_0_0, q⟩] (ix2 a j) : EReal) = ((f (n + a.val) j.val : ℝ) : EReal) := by
  by_cases h : 256 ≤ a.val
  · have h' : (ix2 a j : S512x1024.Idx) = (Rect.unit (s := S512x1024) ![256, 0] ![256, 1024] inb_S512x1024_S256x1024_256_0).emb
        (ix2 (⟨a.val - 256, by omega⟩ : Fin 256) j) := by
      funext i
      apply Fin.ext
      fin_cases i <;> simp [Rect.emb, Rect.unit, ix2] <;> omega
    rw [h', View.canon_cons_emb]
    refine (hp _ j).trans (congrArg (fun x => ((f x j.val : ℝ) : EReal)) ?_)
    show n + 256 * 1 + (a.val - 256) = n + a.val
    omega
  · have h' : (ix2 a j : S512x1024.Idx) = (Rect.unit (s := S512x1024) ![0, 0] ![256, 1024] inb_S512x1024_S256x1024_0_0).emb (ix2 (⟨a.val, by omega⟩ : Fin 256) j) := by
      funext i
      apply Fin.ext
      fin_cases i <;> simp [Rect.emb, Rect.unit, ix2]
    rw [View.canon_cons_of_not_mem _ _ (by
      rw [Rect.mem_set_unit]
      intro h''
      have := h'' 0
      change 256 ≤ a.val ∧ _ at this
      exact h this.1), h', View.canon_cons_emb]
    exact hq _ j

/-- Two stored halves of a block of rows. -/
theorem canon_halvesb (f : ℕ → ℕ → ℝ) (n : ℕ) (p q : S256x1024.Idx → Elt Ideal .bf16)
    (hp : ∀ (a : Fin 256) (j : Fin 1024), (p (ix2 a j) : EReal) = ((f (n + 256 * (1 : Fin 2).val + a.val) j.val : ℝ) : EReal))
    (hq : ∀ (a : Fin 256) (j : Fin 1024), (q (ix2 a j) : EReal) = ((f (n + 256 * (0 : Fin 2).val + a.val) j.val : ℝ) : EReal)) (a : Fin 512) (j : Fin 1024) :
    (View.canon (Val := Elt Ideal) (s := S512x1024) (e := .bf16) [⟨Rect.unit (s := S512x1024) ![256, 0] ![256, 1024] inb_S512x1024_S256x1024_256_0, p⟩,
      ⟨Rect.unit (s := S512x1024) ![0, 0] ![256, 1024] inb_S512x1024_S256x1024_0_0, q⟩] (ix2 a j) : EReal) = ((f (n + a.val) j.val : ℝ) : EReal) := by
  by_cases h : 256 ≤ a.val
  · have h' : (ix2 a j : S512x1024.Idx) = (Rect.unit (s := S512x1024) ![256, 0] ![256, 1024] inb_S512x1024_S256x1024_256_0).emb
        (ix2 (⟨a.val - 256, by omega⟩ : Fin 256) j) := by
      funext i
      apply Fin.ext
      fin_cases i <;> simp [Rect.emb, Rect.unit, ix2] <;> omega
    rw [h', View.canon_cons_emb]
    refine (hp _ j).trans (congrArg (fun x => ((f x j.val : ℝ) : EReal)) ?_)
    show n + 256 * 1 + (a.val - 256) = n + a.val
    omega
  · have h' : (ix2 a j : S512x1024.Idx) = (Rect.unit (s := S512x1024) ![0, 0] ![256, 1024] inb_S512x1024_S256x1024_0_0).emb (ix2 (⟨a.val, by omega⟩ : Fin 256) j) := by
      funext i
      apply Fin.ext
      fin_cases i <;> simp [Rect.emb, Rect.unit, ix2]
    rw [View.canon_cons_of_not_mem _ _ (by
      rw [Rect.mem_set_unit]
      intro h''
      have := h'' 0
      change 256 ≤ a.val ∧ _ at this
      exact h this.1), h', View.canon_cons_emb]
    exact hq _ j

/-- One of several stored chunks' halves: the one asked for, or the next. -/
theorem canon_part (k o : Fin 8) (r : Fin 2) (a : Fin 512) (b : Fin 672) (f : ℕ → ℕ → EReal) (inb)
    (p : (Rect.unit (s := S8x512x672) ![o.val, 256 * r.val, 0] ![1, 256, 672] inb).shape.Idx → Elt Ideal .bf16)
    (L : List (View.Piece (Elt Ideal) S8x512x672 .bf16)) (hp : ∀ a : Fin 256, p (ix3 (0 : Fin 1) a b) = f o.val (256 * r.val + a.val))
    (hL : ¬ (k.val = o.val ∧ 256 * r.val ≤ a.val ∧ a.val < 256 * r.val + 256) → View.canon L (ix3 k a b) = f k.val a.val) :
    View.canon (⟨Rect.unit (s := S8x512x672) ![o.val, 256 * r.val, 0] ![1, 256, 672] inb, p⟩ :: L) (ix3 k a b) = f k.val a.val := by
  by_cases hk : k.val = o.val ∧ 256 * r.val ≤ a.val ∧ a.val < 256 * r.val + 256
  · have h : (ix3 k a b : S8x512x672.Idx) = (Rect.unit (s := S8x512x672) ![o.val, 256 * r.val, 0] ![1, 256, 672] inb).emb (ix3 (0 : Fin 1) (⟨a.val - 256 * r.val, by omega⟩ : Fin 256) b) := by
      funext i
      apply Fin.ext
      fin_cases i <;> simp [Rect.emb, Rect.unit, ix3] <;> omega
    rw [h, View.canon_cons_emb, hp, hk.1]
    exact congrArg (f o.val) (by dsimp only; omega)
  · rw [View.canon_cons_of_not_mem _ _, hL hk]
    rw [Rect.mem_set_unit]
    intro h
    have h0 := h 0
    have h1 := h 1
    change o.val ≤ k.val ∧ k.val < o.val + 1 at h0
    change 256 * r.val ≤ a.val ∧ a.val < 256 * r.val + 256 at h1
    exact hk ⟨by omega, h1.1, h1.2⟩

/-- The sixteen stored pieces of gates and factors. -/
theorem gu_point {X : S512x1024.Idx → EReal} {B : S8x672x1024.Idx → EReal} {n : ℕ} (hX : Is X (fun a => A.h (n + a))) (hB : Is3 B (fun k l e => A.w13 e (672 * k + l)))
    (k : Fin 8) (a : Fin 512) (l : Fin 672) :
    (View.canon (Val := Elt Ideal) (s := S8x512x672) (e := .bf16) [⟨Rect.unit (s := S8x512x672) ![7, 256, 0] ![1, 256, 672] inb_S8x512x672_S1x256x672_7_256_0, k0_pay13 (F := Ideal) (k0_pay4 (rB X 1)) (vL B 7)⟩,
      ⟨Rect.unit (s := S8x512x672) ![3, 256, 0] ![1, 256, 672] inb_S8x512x672_S1x256x672_3_256_0, k0_pay13 (F := Ideal) (k0_pay4 (rB X 1)) (vL B 3)⟩,
      ⟨Rect.unit (s := S8x512x672) ![6, 256, 0] ![1, 256, 672] inb_S8x512x672_S1x256x672_6_256_0, k0_pay13 (F := Ideal) (k0_pay4 (rB X 1)) (vL B 6)⟩,
      ⟨Rect.unit (s := S8x512x672) ![2, 256, 0] ![1, 256, 672] inb_S8x512x672_S1x256x672_2_256_0, k0_pay13 (F := Ideal) (k0_pay4 (rB X 1)) (vL B 2)⟩,
      ⟨Rect.unit (s := S8x512x672) ![5, 256, 0] ![1, 256, 672] inb_S8x512x672_S1x256x672_5_256_0, k0_pay13 (F := Ideal) (k0_pay4 (rB X 1)) (vL B 5)⟩,
      ⟨Rect.unit (s := S8x512x672) ![1, 256, 0] ![1, 256, 672] inb_S8x512x672_S1x256x672_1_256_0, k0_pay13 (F := Ideal) (k0_pay4 (rB X 1)) (vL B 1)⟩,
      ⟨Rect.unit (s := S8x512x672) ![4, 256, 0] ![1, 256, 672] inb_S8x512x672_S1x256x672_4_256_0, k0_pay13 (F := Ideal) (k0_pay4 (rB X 1)) (vL B 4)⟩,
      ⟨Rect.unit (s := S8x512x672) ![0, 256, 0] ![1, 256, 672] inb_S8x512x672_S1x256x672_0_256_0, k0_pay13 (F := Ideal) (k0_pay4 (rB X 1)) (vL B 0)⟩,
      ⟨Rect.unit (s := S8x512x672) ![7, 0, 0] ![1, 256, 672] inb_S8x512x672_S1x256x672_7_0_0, k0_pay13 (F := Ideal) (k0_pay4 (rB X 0)) (vL B 7)⟩,
      ⟨Rect.unit (s := S8x512x672) ![3, 0, 0] ![1, 256, 672] inb_S8x512x672_S1x256x672_3_0_0, k0_pay13 (F := Ideal) (k0_pay4 (rB X 0)) (vL B 3)⟩,
      ⟨Rect.unit (s := S8x512x672) ![6, 0, 0] ![1, 256, 672] inb_S8x512x672_S1x256x672_6_0_0, k0_pay13 (F := Ideal) (k0_pay4 (rB X 0)) (vL B 6)⟩,
      ⟨Rect.unit (s := S8x512x672) ![2, 0, 0] ![1, 256, 672] inb_S8x512x672_S1x256x672_2_0_0, k0_pay13 (F := Ideal) (k0_pay4 (rB X 0)) (vL B 2)⟩,
      ⟨Rect.unit (s := S8x512x672) ![5, 0, 0] ![1, 256, 672] inb_S8x512x672_S1x256x672_5_0_0, k0_pay13 (F := Ideal) (k0_pay4 (rB X 0)) (vL B 5)⟩,
      ⟨Rect.unit (s := S8x512x672) ![1, 0, 0] ![1, 256, 672] inb_S8x512x672_S1x256x672_1_0_0, k0_pay13 (F := Ideal) (k0_pay4 (rB X 0)) (vL B 1)⟩,
      ⟨Rect.unit (s := S8x512x672) ![4, 0, 0] ![1, 256, 672] inb_S8x512x672_S1x256x672_4_0_0, k0_pay13 (F := Ideal) (k0_pay4 (rB X 0)) (vL B 4)⟩,
      ⟨Rect.unit (s := S8x512x672) ![0, 0, 0] ![1, 256, 672] inb_S8x512x672_S1x256x672_0_0_0, k0_pay13 (F := Ideal) (k0_pay4 (rB X 0)) (vL B 0)⟩] (ix3 k a l) : EReal)
      = ((A.ffn.gu (n + a.val) (672 * k.val + l.val) : ℝ) : EReal) := by
  let f : ℕ → ℕ → EReal := fun k a => ((A.ffn.gu (n + a) (672 * k + l.val) : ℝ) : EReal)
  have part (o : Fin 8) (r : Fin 2) (a : Fin 256) : (k0_pay13 (F := Ideal) (k0_pay4 (rB X r)) (vL B o) (ix3 0 a l) : EReal) = f o.val (256 * r.val + a.val) :=
    (st_chunk (A := A) (ld_rowsb hX r) hB o a l).trans (congrArg (fun x => ((A.ffn.gu x (672 * o.val + l.val) : ℝ) : EReal)) (Nat.add_assoc _ _ _))
  show _ = f k.val a.val
  refine canon_part k 7 1 a l f _ _ _ (part 7 1) fun n71 => canon_part k 3 1 a l f _ _ _ (part 3 1) fun n31 => canon_part k 6 1 a l f _ _ _ (part 6 1) fun n61 =>
    canon_part k 2 1 a l f _ _ _ (part 2 1) fun n21 => canon_part k 5 1 a l f _ _ _ (part 5 1) fun n51 => canon_part k 1 1 a l f _ _ _ (part 1 1) fun n11 =>
    canon_part k 4 1 a l f _ _ _ (part 4 1) fun n41 => canon_part k 0 1 a l f _ _ _ (part 0 1) fun n01 => canon_part k 7 0 a l f _ _ _ (part 7 0) fun n70 =>
    canon_part k 3 0 a l f _ _ _ (part 3 0) fun n30 => canon_part k 6 0 a l f _ _ _ (part 6 0) fun n60 => canon_part k 2 0 a l f _ _ _ (part 2 0) fun n20 =>
    canon_part k 5 0 a l f _ _ _ (part 5 0) fun n50 => canon_part k 1 0 a l f _ _ _ (part 1 0) fun n10 => canon_part k 4 0 a l f _ _ _ (part 4 0) fun n40 =>
    canon_part k 0 0 a l f _ _ _ (part 0 0) fun n00 => ?_
  exfalso
  have hk := k.isLt
  have ha := a.isLt
  simp only [Fin.val_zero, Fin.val_one, mul_zero, mul_one, zero_le, true_and, zero_add, show ((2 : Fin 8).val) = 2 from rfl, show ((3 : Fin 8).val) = 3 from rfl,
    show ((4 : Fin 8).val) = 4 from rfl, show ((5 : Fin 8).val) = 5 from rfl, show ((6 : Fin 8).val) = 6 from rfl, show ((7 : Fin 8).val) = 7 from rfl,
    show ((1 : Fin 8).val) = 1 from rfl, show ((0 : Fin 8).val) = 0 from rfl, show ((1 : Fin 2).val) = 1 from rfl, show ((0 : Fin 2).val) = 0 from rfl] at *
  omega

/-! ### The result arrays after the run -/

section blocks
variable (H : ArgIs m A c) (t : Fin cfg0.N)
include H

set_option maxHeartbeats 4000000 in
theorem gu_block (k : Fin 8) (a : Fin 512) (l : Fin 672) : (outsAt0 m c t.val t.isLt).1 (ix3 k a l) = ((A.ffn.gu (512 * t.val + a.val) (672 * k.val + l.val) : ℝ) : EReal) := by
  by_cases h0 : t.val % 16 = 0
  · rw [outsAt0_A m c t h0 h0]
    frame_open
    simp (disch := decide) only [↓ View.readCov_skip, ↓ View.readCov_cons_toLoadRect, ↓ View.readCov_fill, readCov_whole]
    frame_out
    simp only [same, same2]
    exact gu_point (ldHb H t) (read_w13 H) k a l
  · rw [outsAt0_B m c t h0 h0]
    frame_open
    simp (disch := decide) only [↓ View.readCov_skip, ↓ View.readCov_cons_toLoadRect, ↓ View.readCov_fill]
    frame_out
    simp only [Idealize.ShloMosaic.read_unread_whole, same, same2]
    have ht := t.isLt
    have h13 := kept13 H (t.val - 1) (by omega)
    have h2 := kept2 H (t.val - 1) (by omega)
    generalize outsAt0 m c (t.val - 1) _ = prev at h13 h2 ⊢
    exact gu_point (ldHb H t) h13 k a l

set_option maxHeartbeats 4000000 in
theorem dz_block (a : Fin 512) (j : Fin 1024) : (outsAt0 m c t.val t.isLt).2.1 (ix2 a j) = ((A.dz (512 * t.val + a.val) j.val : ℝ) : EReal) := by
  by_cases h0 : t.val % 16 = 0
  · rw [outsAt0_A m c t h0 h0]
    frame_open
    simp (disch := decide) only [↓ View.readCov_skip, ↓ View.readCov_cons_toLoadRect, ↓ View.readCov_fill, readCov_whole]
    frame_out
    simp only [same, same2]
    exact canon_halves A.dz (512 * t.val) _ _ (dz2 (ldHb H t) (ldH H t) (ldT H t) (ldG H t) (ldB H t) (read_w13 H) (read_w2 H)) (dz1 (ldHb H t) (ldH H t) (ldT H t) (ldG H t) (ldB H t) (read_w13 H) (read_w2 H)) a j
  · rw [outsAt0_B m c t h0 h0]
    frame_open
    simp (disch := decide) only [↓ View.readCov_skip, ↓ View.readCov_cons_toLoadRect, ↓ View.readCov_fill]
    frame_out
    simp only [Idealize.ShloMosaic.read_unread_whole, same, same2]
    have ht := t.isLt
    have h13 := kept13 H (t.val - 1) (by omega)
    have h2 := kept2 H (t.val - 1) (by omega)
    generalize outsAt0 m c (t.val - 1) _ = prev at h13 h2 ⊢
    exact canon_halves A.dz (512 * t.val) _ _ (dz2 (ldHb H t) (ldH H t) (ldT H t) (ldG H t) (ldB H t) h13 h2) (dz1 (ldHb H t) (ldH H t) (ldT H t) (ldG H t) (ldB H t) h13 h2) a j

set_option maxHeartbeats 4000000 in
theorem dzb_block (a : Fin 512) (j : Fin 1024) : (outsAt0 m c t.val t.isLt).2.2.1 (ix2 a j) = ((A.dz (512 * t.val + a.val) j.val : ℝ) : EReal) := by
  by_cases h0 : t.val % 16 = 0
  · rw [outsAt0_A m c t h0 h0]
    frame_open
    simp (disch := decide) only [↓ View.readCov_skip, ↓ View.readCov_cons_toLoadRect, ↓ View.readCov_fill, readCov_whole]
    frame_out
    simp only [same, same2]
    exact canon_halvesb A.dz (512 * t.val) _ _ (dzb2 (ldHb H t) (ldH H t) (ldT H t) (ldG H t) (ldB H t) (read_w13 H) (read_w2 H)) (dzb1 (ldHb H t) (ldH H t) (ldT H t) (ldG H t) (ldB H t) (read_w13 H) (read_w2 H)) a j
  · rw [outsAt0_B m c t h0 h0]
    frame_open
    simp (disch := decide) only [↓ View.readCov_skip, ↓ View.readCov_cons_toLoadRect, ↓ View.readCov_fill]
    frame_out
    simp only [Idealize.ShloMosaic.read_unread_whole, same, same2]
    have ht := t.isLt
    have h13 := kept13 H (t.val - 1) (by omega)
    have h2 := kept2 H (t.val - 1) (by omega)
    generalize outsAt0 m c (t.val - 1) _ = prev at h13 h2 ⊢
    exact canon_halvesb A.dz (512 * t.val) _ _ (dzb2 (ldHb H t) (ldH H t) (ldT H t) (ldG H t) (ldB H t) h13 h2) (dzb1 (ldHb H t) (ldH H t) (ldT H t) (ldG H t) (ldB H t) h13 h2) a j

set_option maxHeartbeats 4000000 in
theorem dgA (h0 : t.val % 16 = 0) (o : Fin 1) (j : Fin 1024) : (outsAt0 m c t.val t.isLt).2.2.2.1 (ix2 o j) = 0 + ((∑ r ∈ range 512, A.dgAt j (512 * t.val + r) : ℝ) : EReal) := by
  rw [outsAt0_A m c t h0 h0]
  frame_open
  simp (disch := decide) only [↓ View.readCov_skip, ↓ View.readCov_cons_toLoadRect, ↓ View.readCov_fill, readCov_whole]
  frame_out
  simp only [same, same2]
  refine (dg_point (ldHb H t) (ldH H t) (ldT H t) (ldG H t) (ldB H t) (read_w13 H) (read_w2 H) _ _ _).trans (congrArg (· + _) ?_)
  pointwise [k0_pay47]

set_option maxHeartbeats 4000000 in
theorem dgB (h0 : ¬ t.val % 16 = 0) (o : Fin 1) (j : Fin 1024) : (outsAt0 m c t.val t.isLt).2.2.2.1 (ix2 o j)
    = (outsAt0 m c (t.val - 1) (by omega)).2.2.2.1 (ix2 o j) + ((∑ r ∈ range 512, A.dgAt j (512 * t.val + r) : ℝ) : EReal) := by
  rw [outsAt0_B m c t h0 h0]
  frame_open
  simp (disch := decide) only [↓ View.readCov_skip, ↓ View.readCov_cons_toLoadRect, ↓ View.readCov_fill]
  frame_out
  simp only [Idealize.ShloMosaic.read_unread_whole, same, same2]
  have ht := t.isLt
  have h13 := kept13 H (t.val - 1) (by omega)
  have h2 := kept2 H (t.val - 1) (by omega)
  generalize outsAt0 m c (t.val - 1) _ = prev at h13 h2 ⊢
  exact dg_point (ldHb H t) (ldH H t) (ldT H t) (ldG H t) (ldB H t) h13 h2 _ _ _

set_option maxHeartbeats 4000000 in
theorem dbA (h0 : t.val % 16 = 0) (o : Fin 1) (j : Fin 1024) : (outsAt0 m c t.val t.isLt).2.2.2.2.1 (ix2 o j) = 0 + ((∑ r ∈ range 512, A.dy (512 * t.val + r) j : ℝ) : EReal) := by
  rw [outsAt0_A m c t h0 h0]
  frame_open
  simp (disch := decide) only [↓ View.readCov_skip, ↓ View.readCov_cons_toLoadRect, ↓ View.readCov_fill, readCov_whole]
  frame_out
  simp only [same, same2]
  refine (db_point (ldHb H t) (ldH H t) (ldT H t) (ldG H t) (ldB H t) (read_w13 H) (read_w2 H) _ _ _).trans (congrArg (· + _) ?_)
  pointwise [k0_pay48]

set_option maxHeartbeats 4000000 in
theorem dbB (h0 : ¬ t.val % 16 = 0) (o : Fin 1) (j : Fin 1024) : (outsAt0 m c t.val t.isLt).2.2.2.2.1 (ix2 o j)
    = (outsAt0 m c (t.val - 1) (by omega)).2.2.2.2.1 (ix2 o j) + ((∑ r ∈ range 512, A.dy (512 * t.val + r) j : ℝ) : EReal) := by
  rw [outsAt0_B m c t h0 h0]
  frame_open
  simp (disch := decide) only [↓ View.readCov_skip, ↓ View.readCov_cons_toLoadRect, ↓ View.readCov_fill]
  frame_out
  simp only [Idealize.ShloMosaic.read_unread_whole, same, same2]
  have ht := t.isLt
  have h13 := kept13 H (t.val - 1) (by omega)
  have h2 := kept2 H (t.val - 1) (by omega)
  generalize outsAt0 m c (t.val - 1) _ = prev at h13 h2 ⊢
  exact db_point (ldHb H t) (ldH H t) (ldT H t) (ldG H t) (ldB H t) h13 h2 _ _ _

set_option maxHeartbeats 4000000 in
theorem lossA (h0 : t.val % 16 = 0) (i o : Fin 1) : (outsAt0 m c t.val t.isLt).2.2.2.2.2.1 (ix2 i o) = 0 + ((∑ r ∈ range 512, A.lossAt (512 * t.val + r) * (1 / 2048) : ℝ) : EReal) := by
  rw [outsAt0_A m c t h0 h0]
  frame_open
  simp (disch := decide) only [↓ View.readCov_skip, ↓ View.readCov_cons_toLoadRect, ↓ View.readCov_fill, readCov_whole]
  frame_out
  simp only [same, same2]
  refine (loss_point (ldHb H t) (ldH H t) (ldT H t) (ldG H t) (ldB H t) (read_w13 H) (read_w2 H) _ _ _).trans (congrArg (· + _) ?_)
  pointwise [k0_pay46]

set_option maxHeartbeats 4000000 in
theorem lossB (h0 : ¬ t.val % 16 = 0) (i o : Fin 1) : (outsAt0 m c t.val t.isLt).2.2.2.2.2.1 (ix2 i o)
    = (outsAt0 m c (t.val - 1) (by omega)).2.2.2.2.2.1 (ix2 i o) + ((∑ r ∈ range 512, A.lossAt (512 * t.val + r) * (1 / 2048) : ℝ) : EReal) := by
  rw [outsAt0_B m c t h0 h0]
  frame_open
  simp (disch := decide) only [↓ View.readCov_skip, ↓ View.readCov_cons_toLoadRect, ↓ View.readCov_fill]
  frame_out
  simp only [Idealize.ShloMosaic.read_unread_whole, same, same2]
  have ht := t.isLt
  have h13 := kept13 H (t.val - 1) (by omega)
  have h2 := kept2 H (t.val - 1) (by omega)
  generalize outsAt0 m c (t.val - 1) _ = prev at h13 h2 ⊢
  exact loss_point (ldHb H t) (ldH H t) (ldT H t) (ldG H t) (ldB H t) h13 h2 _ _ _

end blocks

/-- Gates and factors after the run. -/
theorem final5 (H : ArgIs m A c) : Is3 ((dats m 0 c).arrAt 5 cfg0.N : S8x8192x672.Idx → EReal) (fun k r l => A.ffn.gu r (672 * k + l)) := by
  have e : ((dats m 0 c).arrAt 5 cfg0.N : S8x8192x672.Idx → EReal) = fun j : S8x8192x672.Idx => ((A.ffn.gu (j 1).val (672 * (j 0).val + (j 2).val) : ℝ) : EReal) := by
    refine (dats m 0 c).arrAt_eq_of_covers 5 _ (by decide +kernel) fun t hf y => ?_
    obtain ⟨-, -, -, -, -, e0, -⟩ := idx0 t
    have key : (outsAt0 m c t.val t.isLt).1 = fun y : S8x512x672.Idx => ((A.ffn.gu (512 * t.val + (y 1).val) (672 * (y 0).val + (y 2).val) : ℝ) : EReal) := by
      funext y
      idx_vars y
      exact gu_block H t y0 y1 y2
    blk_simp [e0]
    rw [after0_5, key]
    simp only [Nat.mul_comm t.val 512]
  intro a b d
  exact congrFun e (ix3 a b d)

theorem final6 (H : ArgIs m A c) : Is ((dats m 0 c).arrAt 6 cfg0.N : S8192x1024.Idx → EReal) A.dz := by
  have e : ((dats m 0 c).arrAt 6 cfg0.N : S8192x1024.Idx → EReal) = fun j : S8192x1024.Idx => ((A.dz (j 0).val (j 1).val : ℝ) : EReal) := by
    refine (dats m 0 c).arrAt_eq_of_covers 6 _ (by decide +kernel) fun t hf y => ?_
    obtain ⟨-, -, -, -, -, -, e0, -⟩ := idx0 t
    have key : (outsAt0 m c t.val t.isLt).2.1 = fun y : S512x1024.Idx => ((A.dz (512 * t.val + (y 0).val) (y 1).val : ℝ) : EReal) := by
      funext y
      idx_vars y
      exact dz_block H t y0 y1
    blk_simp [e0]
    rw [after0_6, key]
    simp only [Nat.mul_comm t.val 512]
  intro a b
  exact congrFun e (ix2 a b)

theorem final7 (H : ArgIs m A c) : Is ((dats m 0 c).arrAt 7 cfg0.N : S8192x1024.Idx → EReal) A.dz := by
  have e : ((dats m 0 c).arrAt 7 cfg0.N : S8192x1024.Idx → EReal) = fun j : S8192x1024.Idx => ((A.dz (j 0).val (j 1).val : ℝ) : EReal) := by
    refine (dats m 0 c).arrAt_eq_of_covers 7 _ (by decide +kernel) fun t hf y => ?_
    obtain ⟨-, -, -, -, -, -, -, e0⟩ := idx0 t
    have key : (outsAt0 m c t.val t.isLt).2.2.1 = fun y : S512x1024.Idx => ((A.dz (512 * t.val + (y 0).val) (y 1).val : ℝ) : EReal) := by
      funext y
      idx_vars y
      exact dzb_block H t y0 y1
    blk_simp [e0]
    rw [after0_7, key]
    simp only [Nat.mul_comm t.val 512]
  intro a b
  exact congrFun e (ix2 a b)

/-- The last grid point. -/
def last : Fin cfg0.N := ⟨15, lt_of_lt_of_eq (by decide) (show 16 = cfg0.N from N_0.symm)⟩

theorem final8 (H : ArgIs m A c) : Is ((dats m 0 c).arrAt 8 cfg0.N : S1x1024.Idx → EReal) (fun _ j => ∑ r ∈ range 8192, A.dgAt j r) := by
  have e : ((dats m 0 c).arrAt 8 cfg0.N : S1x1024.Idx → EReal) = fun j : S1x1024.Idx => ((∑ r ∈ range 8192, A.dgAt (j 1).val r : ℝ) : EReal) := by
    refine (dats m 0 c).arrAt_eq_of_after_last 8 last (by decide +kernel) _ fun j => ?_
    idx_vars j
    rw [after0_8]
    exact (Pipeline.eq_sum_fin_of_reset_step_apply_last (fun n h => (outsAt0 m c n h).2.2.2.1) 16 (fun _ => 0) (fun t i => ((∑ r ∈ range 512, A.dgAt (i 1).val (512 * t.val + r) : ℝ) : EReal))
      (fun t h i => by idx_vars i; exact dgA H t h _ _) (fun t h i => by idx_vars i; exact dgB H t h _ _) (by decide) last rfl _).trans (blocks_sum 16 512 8192 (by norm_num) _)
  intro a b
  exact congrFun e (ix2 a b)

theorem final9 (H : ArgIs m A c) : Is ((dats m 0 c).arrAt 9 cfg0.N : S1x1024.Idx → EReal) (fun _ j => ∑ r ∈ range 8192, A.dy r j) := by
  have e : ((dats m 0 c).arrAt 9 cfg0.N : S1x1024.Idx → EReal) = fun j : S1x1024.Idx => ((∑ r ∈ range 8192, A.dy r (j 1).val : ℝ) : EReal) := by
    refine (dats m 0 c).arrAt_eq_of_after_last 9 last (by decide +kernel) _ fun j => ?_
    idx_vars j
    rw [after0_9]
    exact (Pipeline.eq_sum_fin_of_reset_step_apply_last (fun n h => (outsAt0 m c n h).2.2.2.2.1) 16 (fun _ => 0) (fun t i => ((∑ r ∈ range 512, A.dy (512 * t.val + r) (i 1).val : ℝ) : EReal))
      (fun t h i => by idx_vars i; exact dbA H t h _ _) (fun t h i => by idx_vars i; exact dbB H t h _ _) (by decide) last rfl _).trans (blocks_sum 16 512 8192 (by norm_num) (fun r => A.dy r _))
  intro a b
  exact congrFun e (ix2 a b)

theorem final10 (H : ArgIs m A c) : Is ((dats m 0 c).arrAt 10 cfg0.N : S1x1.Idx → EReal) (fun _ _ => ∑ r ∈ range 8192, A.lossAt r * (1 / 2048)) := by
  have e : ((dats m 0 c).arrAt 10 cfg0.N : S1x1.Idx → EReal) = fun _ : S1x1.Idx => ((∑ r ∈ range 8192, A.lossAt r * (1 / 2048) : ℝ) : EReal) := by
    refine (dats m 0 c).arrAt_eq_of_after_last 10 last (by decide +kernel) _ fun j => ?_
    idx_vars j
    rw [after0_10]
    exact (Pipeline.eq_sum_fin_of_reset_step_apply_last (fun n h => (outsAt0 m c n h).2.2.2.2.2.1) 16 (fun _ => 0) (fun t _ => ((∑ r ∈ range 512, A.lossAt (512 * t.val + r) * (1 / 2048) : ℝ) : EReal))
      (fun t h i => by idx_vars i; exact lossA H t h _ _) (fun t h i => by idx_vars i; exact lossB H t h _ _) (by decide) last rfl _).trans (blocks_sum 16 512 8192 (by norm_num) (fun r => A.lossAt r * (1 / 2048)))
  intro a b
  exact congrFun e (ix2 a b)

end Cert.LossHeadIdeal.Hand

end

end
-- ==== Proof.FffTile.lean ====
/-
  The first feed-forward layer with the first layer norm, forward: one half block of rows on the kernel's side, and the plain lines.
-/
module

public import proofs.«01_k».proof.Proof.LnfValue
public import proofs.«01_k».proof.Proof.LossKernel
public import proofs.«01_k».proof.Proof.Gen.FfnFwdIdeal.Value
public import proofs.«01_k».proof.Proof.Gen.FfnFwdRefIdeal.Read

@[expose] public section

set_option maxRecDepth 16384

noncomputable section

namespace Cert.Fff

open Cert.Sb Cert.Lnf Idealize.ShloMosaic Finset

/-- Gates and factors. -/
def gu (x w : ℕ → ℕ → EReal) (r j : ℕ) : EReal := ∑ e : Fin 1024, x r e * w e j

/-- The activation. -/
def act (x w : ℕ → ℕ → EReal) (r j : ℕ) : EReal := gu x w r j * Ideal.logistic (gu x w r j) * gu x w r (2688 + j)

/-- The layer. -/
def f (x w w2 : ℕ → ℕ → EReal) (r e : ℕ) : EReal := ∑ l : Fin 2688, act x w r l * w2 l e

/-- What chunk `k` of the activation adds to it. -/
def chunk (x w w2 : ℕ → ℕ → EReal) (k r e : ℕ) : EReal := ∑ l : Fin 672, act x w r (672 * k + l) * w2 (672 * k + l) e

/-- The norm's input. -/
def ins (x w w2 : ℕ → ℕ → EReal) (r e : ℕ) : EReal := Ideal.ofBits .f32 0x3F9837F0#32 * x r e + Ideal.ofBits .f32 0x3F000000#32 * f x w w2 r e

/-- The normed rows. -/
def res (x w w2 g b : ℕ → ℕ → EReal) (r j : ℕ) : EReal := ln (ins x w w2 r) (g 0) (b 0) j

/-- The layer is the sum of its four chunks. -/
theorem f_chunks (x w w2 : ℕ → ℕ → EReal) (r e : ℕ) :
    chunk x w w2 0 r e + chunk x w w2 1 r e + chunk x w w2 2 r e + chunk x w w2 3 r e = f x w w2 r e := by
  simp only [chunk, f, Fin.sum_univ_eq_sum_range (fun l => act x w r l * w2 l e) 2688,
    fun k => Fin.sum_univ_eq_sum_range (fun l => act x w r (672 * k + l) * w2 (672 * k + l) e) 672]
  rw [show (2688 : ℕ) = 672 + 672 + 672 + 672 from rfl, sum_range_add, sum_range_add, sum_range_add]
  norm_num

end Cert.Fff

namespace Cert.FfnFwdIdeal.Hand

open Cert.Sb Cert.Lnf Cert.Fff Cert.FfnFwdIdeal Cert.FfnFwdIdeal.Gen Idealize.ShloMosaic Idealize.ShloMosaic.TcCoe Finset
open Cert.FfnBwdIdeal.Hand (vL wL ld_w13 ld_w2)
open Cert.LossHeadIdeal.Hand (rL canon_part)

/-- A chunk of gates or factors. -/
theorem gu_of (X : FVec Ideal S256x1024 .f32) (V : FVec Ideal S1x672x1024 .bf16) (a : Fin 256) (l : Fin 672) (x v : ℕ → EReal)
    (hX : ∀ e : Fin 1024, X (ix2 a e) = x e) (hV : ∀ e : Fin 1024, V (ix3 0 l e) = v e) :
    (k0_pay9 (F := Ideal) (k0_pay3 X) V (ix2 a l) : EReal) = ∑ e : Fin 1024, x e * v e := by
  pointwise [k0_pay9, k0_pay3]
  simp only [hX, hV]

/-- The same chunk as stored. -/
theorem st_of (X : FVec Ideal S256x1024 .f32) (V : FVec Ideal S1x672x1024 .bf16) (a : Fin 256) (l : Fin 672) :
    (k0_pay11 (F := Ideal) (k0_pay3 X) V (ix3 0 a l) : EReal) = k0_pay9 (F := Ideal) (k0_pay3 X) V (ix2 a l) := by
  pointwise [k0_pay11]

/-- One chunk more. -/
theorem step_of (X : FVec Ideal S256x1024 .f32) (P : FVec Ideal S256x1024 .f32) (V V' : FVec Ideal S1x672x1024 .bf16) (W : FVec Ideal S672x1024 .bf16)
    (a : Fin 256) (e : Fin 1024) (g u w : ℕ → EReal) (p : EReal) (hP : P (ix2 a e) = p)
    (hG : ∀ l : Fin 672, (k0_pay9 (F := Ideal) (k0_pay3 X) V (ix2 a l) : EReal) = g l)
    (hU : ∀ l : Fin 672, (k0_pay9 (F := Ideal) (k0_pay3 X) V' (ix2 a l) : EReal) = u l) (hW : ∀ l : Fin 672, W (ix2 l e) = w l) :
    (k0_pay13 (F := Ideal) (k0_pay3 X) P V V' W (ix2 a e) : EReal) = p + ∑ l : Fin 672, g l * Ideal.logistic (g l) * u l * w l := by
  have same : ∀ X V, k0_pay10 (F := Ideal) X V = k0_pay9 X V := fun _ _ => rfl
  pointwise [k0_pay13]
  simp only [same, hP, hG, hU, hW]

/-- Nothing yet. -/
abbrev zero : FVec Ideal S256x1024 .f32 := broadcast S256x1024 (FloatOps.ofBits (F := Ideal) .f32 0x00000000#32)

/-- The layer's rows as the kernel adds them up, chunk after chunk. -/
abbrev acc (X : FVec Ideal S256x1024 .f32) (B : S8x672x1024.Idx → EReal) (B2 : S2688x1024.Idx → EReal) : FVec Ideal S256x1024 .f32 :=
  k0_pay13 (F := Ideal) (k0_pay3 X) (k0_pay13 (k0_pay3 X) (k0_pay13 (k0_pay3 X) (k0_pay13 (k0_pay3 X) zero (vL B 0) (vL B 4) (wL B2 0)) (vL B 1) (vL B 5) (wL B2 1))
    (vL B 2) (vL B 6) (wL B2 2)) (vL B 3) (vL B 7) (wL B2 3)

/-- The normed rows as the kernel forms them. -/
abbrev nrm (X : FVec Ideal S256x1024 .f32) (B : S8x672x1024.Idx → EReal) (B2 : S2688x1024.Idx → EReal) (G Bo : FVec Ideal S1x1024 .f32) : FVec Ideal S256x1024 .f32 :=
  k0_pay48 (F := Ideal) (k0_pay46 X) (k0_pay47 (acc X B B2)) G Bo

section
variable {X : FVec Ideal S256x1024 .f32} {B : S8x672x1024.Idx → EReal} {B2 : S2688x1024.Idx → EReal} {x w w2 : ℕ → ℕ → EReal} {n : ℕ}
  (hX : ∀ (a : Fin 256) (e : Fin 1024), X (ix2 a e) = x (n + a) e) (hB : ∀ (k : Fin 8) (l : Fin 672) (e : Fin 1024), B (ix3 k l e) = w e (672 * k + l))
  (h2 : ∀ (l : Fin 2688) (e : Fin 1024), B2 (ix2 l e) = w2 l e)

include hX hB in
theorem gu_chunk (k : Fin 8) (a : Fin 256) (l : Fin 672) :
    (k0_pay9 (F := Ideal) (k0_pay3 X) (vL B k) (ix2 a l) : EReal) = gu x w (n + a) (672 * k + l) :=
  gu_of _ _ a l (x (n + a)) (fun e => w e (672 * k + l)) (hX a) (fun e => (ld_w13 B k _ l e).trans (hB k l e))

include hX hB h2

theorem acc_step (P : FVec Ideal S256x1024 .f32) (k : Fin 4) (k1 k2 : Fin 8) (h1 : k1.val = k.val) (h2' : k2.val = 4 + k.val) (a : Fin 256) (e : Fin 1024) :
    (k0_pay13 (F := Ideal) (k0_pay3 X) P (vL B k1) (vL B k2) (wL B2 k) (ix2 a e) : EReal) = P (ix2 a e) + chunk x w w2 k (n + a) e := by
  refine (step_of X P _ _ _ a e (fun l => gu x w (n + a) (672 * k + l)) (fun l => gu x w (n + a) (2688 + (672 * k + l))) (fun l => w2 (672 * k + l) e) _ rfl
    (fun l => (gu_chunk hX hB k1 a l).trans (by rw [h1])) (fun l => (gu_chunk hX hB k2 a l).trans (by rw [h2']; congr 1; omega))
    (fun l => (ld_w2 B2 k _ l e).trans (h2 _ e)))

theorem acc_of (a : Fin 256) (e : Fin 1024) : (acc X B B2 (ix2 a e) : EReal) = f x w w2 (n + a) e := by
  rw [acc, acc_step hX hB h2 _ 3 3 7 rfl rfl, acc_step hX hB h2 _ 2 2 6 rfl rfl, acc_step hX hB h2 _ 1 1 5 rfl rfl, acc_step hX hB h2 _ 0 0 4 rfl rfl, ← f_chunks]
  rw [show zero (ix2 a e) = (0 : EReal) from Ideal.ofBits_zero .f32, zero_add]
  rfl

theorem nrm_of {G Bo : FVec Ideal S1x1024 .f32} {g b : ℕ → ℕ → EReal} (hG : ∀ l : Fin 1024, G (ix2 0 l) = g 0 l) (hO : ∀ l : Fin 1024, Bo (ix2 0 l) = b 0 l)
    (a : Fin 256) (j : Fin 1024) : (nrm X B B2 G Bo (ix2 a j) : EReal) = res x w w2 g b (n + a) j := by
  pointwise [k0_pay48, k0_pay46, k0_pay47]
  simp only [hG, hO, hX, acc_of hX hB h2]
  rfl

end

theorem pc_inb (o : Fin 8) (r : Fin 2) : ∀ a : Fin S8x512x672.rank, (![o.val, 256 * r.val, 0] : Fin 3 → ℕ) a + (![1, 256, 672] : Fin 3 → ℕ) a ≤ S8x512x672.size a := by
  decide +revert

/-- A stored piece of gates or factors. -/
abbrev pc (Q : S512x1024.Idx → EReal) (B : S8x672x1024.Idx → EReal) (o : Fin 8) (r : Fin 2) : View.Piece (Elt Ideal) S8x512x672 .bf16 :=
  ⟨Rect.unit (s := S8x512x672) ![o.val, 256 * r.val, 0] ![1, 256, 672] (pc_inb o r), k0_pay11 (F := Ideal) (k0_pay3 (rL Q r)) (vL B o)⟩

/-- The sixteen stored pieces of gates and factors. -/
theorem gu_point (Q : S512x1024.Idx → EReal) (B : S8x672x1024.Idx → EReal) (k : Fin 8) (a : Fin 512) (l : Fin 672) (f : ℕ → ℕ → EReal)
    (hf : ∀ (o : Fin 8) (r : Fin 2) (a : Fin 256), (k0_pay11 (F := Ideal) (k0_pay3 (rL Q r)) (vL B o) (ix3 0 a l) : EReal) = f o.val (256 * r.val + a.val)) :
    (View.canon [pc Q B 7 1, pc Q B 3 1, pc Q B 6 1, pc Q B 2 1, pc Q B 5 1, pc Q B 1 1, pc Q B 4 1, pc Q B 0 1, pc Q B 7 0, pc Q B 3 0, pc Q B 6 0, pc Q B 2 0, pc Q B 5 0,
      pc Q B 1 0, pc Q B 4 0, pc Q B 0 0] (ix3 k a l) : EReal) = f k.val a.val := by
  have p := fun (o : Fin 8) (r : Fin 2) (L : List (View.Piece (Elt Ideal) S8x512x672 .bf16)) => canon_part k o r a l f (pc_inb o r) (k0_pay11 (F := Ideal) (k0_pay3 (rL Q r)) (vL B o)) L (hf o r)
  refine p 7 1 _ fun n71 => p 3 1 _ fun n31 => p 6 1 _ fun n61 => p 2 1 _ fun n21 => p 5 1 _ fun n51 => p 1 1 _ fun n11 => p 4 1 _ fun n41 => p 0 1 _ fun n01 =>
    p 7 0 _ fun n70 => p 3 0 _ fun n30 => p 6 0 _ fun n60 => p 2 0 _ fun n20 => p 5 0 _ fun n50 => p 1 0 _ fun n10 => p 4 0 _ fun n40 => p 0 0 _ fun n00 => ?_
  exfalso
  have hk := k.isLt
  have ha := a.isLt
  clear p hf
  simp only [Fin.val_zero, Fin.val_one, mul_zero, mul_one, zero_le, true_and, zero_add, show ((2 : Fin 8).val) = 2 from rfl, show ((3 : Fin 8).val) = 3 from rfl,
    show ((4 : Fin 8).val) = 4 from rfl, show ((5 : Fin 8).val) = 5 from rfl, show ((6 : Fin 8).val) = 6 from rfl, show ((7 : Fin 8).val) = 7 from rfl,
    show ((1 : Fin 8).val) = 1 from rfl, show ((0 : Fin 8).val) = 0 from rfl, show ((1 : Fin 2).val) = 1 from rfl, show ((0 : Fin 2).val) = 0 from rfl] at *
  omega

/-- Two stored halves of a block of rows. -/
theorem canon_rows {e : EltTy} (f : ℕ → ℕ → Elt Ideal e) (i0 i1) (p : (Rect.unit (s := S512x1024) ![256, 0] ![256, 1024] i1).shape.Idx → Elt Ideal e)
    (q : (Rect.unit (s := S512x1024) ![0, 0] ![256, 1024] i0).shape.Idx → Elt Ideal e) (hp : ∀ (a : Fin 256) (j : Fin 1024), p (ix2 a j) = f (256 + a.val) j.val)
    (hq : ∀ (a : Fin 256) (j : Fin 1024), q (ix2 a j) = f a.val j.val) (a : Fin 512) (j : Fin 1024) :
    View.canon (Val := Elt Ideal) (s := S512x1024) (e := e) [⟨Rect.unit ![256, 0] ![256, 1024] i1, p⟩, ⟨Rect.unit ![0, 0] ![256, 1024] i0, q⟩] (ix2 a j) = f a.val j.val := by
  by_cases h : 256 ≤ a.val
  · have h' : (ix2 a j : S512x1024.Idx) = (Rect.unit (s := S512x1024) ![256, 0] ![256, 1024] i1).emb (ix2 (⟨a.val - 256, by omega⟩ : Fin 256) j) := by
      funext i
      apply Fin.ext
      fin_cases i <;> simp [Rect.emb, Rect.unit, ix2] <;> omega
    rw [h', View.canon_cons_emb, hp]
    exact congrArg (f · j.val) (by dsimp only; omega)
  · have h' : (ix2 a j : S512x1024.Idx) = (Rect.unit (s := S512x1024) ![0, 0] ![256, 1024] i0).emb (ix2 (⟨a.val, by omega⟩ : Fin 256) j) := by
      funext i
      apply Fin.ext
      fin_cases i <;> simp [Rect.emb, Rect.unit, ix2]
    rw [View.canon_cons_of_not_mem _ _ (by
      rw [Rect.mem_set_unit]
      intro h''
      have := h'' 0
      change 256 ≤ a.val ∧ _ at this
      exact h this.1), h', View.canon_cons_emb, hq]

end Cert.FfnFwdIdeal.Hand

namespace Cert.FfnFwdRefIdeal.Hand

open Cert.Sb Cert.Lnf Cert.Grad Cert.Ffn Cert.Fff Cert.FfnFwdRefIdeal Cert.FfnFwdRefIdeal.Gen Cert.FfnFwdRefIdeal.Read Idealize.ShloMosaic Idealize.ShloMosaic.TcCoe Finset

variable (x0 : S8192x1024.Idx → Ideal .f32) (x1 : S1024x5376.Idx → Ideal .f32) (x2 : S2688x1024.Idx → Ideal .f32) (x3 x4 : S1x1024.Idx → Ideal .f32)

theorem gu_of (r : Fin 8192) (j : Fin 5376) : (val_main_v0 (F := Ideal) x0 x1 (ix2 r j) : EReal) = gu (rd x0) (rd x1) r j := by
  pointwise [val_main_v0]
  simp only [rd_ix2]
  rfl

theorem g_of (r : Fin 8192) (j : Fin 2688) : (val_main_v1 (F := Ideal) x0 x1 (ix2 r j) : EReal) = gu (rd x0) (rd x1) r j := by
  pointwise [val_main_v1]
  exact gu_of x0 x1 r _

theorem u_of (r : Fin 8192) (j : Fin 2688) : (val_main_v2 (F := Ideal) x0 x1 (ix2 r j) : EReal) = gu (rd x0) (rd x1) r (2688 + j) := by
  pointwise [val_main_v2]
  exact gu_of x0 x1 r _

theorem act_of (r : Fin 8192) (j : Fin 2688) : (val_main_v4 (F := Ideal) x0 x1 (ix2 r j) : EReal) = act (rd x0) (rd x1) r j := by
  pointwise [val_main_v4, val_main_v3, val_main_call0_v5, val_main_call0_v4, val_main_call0_cst_0, val_main_call0_v3, val_main_call0_v2, val_main_call0_cst, val_main_call0_v1,
    val_main_call0_v0]
  rw [g_of, u_of]
  try simp only [show Ideal.ofBits .f32 0x3F800000#32 = 1 from Cert.Ffn.one_bits]
  rfl

theorem f_of (r : Fin 8192) (e : Fin 1024) : (val_main_v5 (F := Ideal) x0 x1 x2 (ix2 r e) : EReal) = f (rd x0) (rd x1) (rd x2) r e := by
  pointwise [val_main_v5]
  simp only [act_of]
  simp only [rd_ix2]
  rfl

theorem inp_of (r : Fin 8192) (e : Fin 1024) : (val_main_v10 (F := Ideal) x0 x1 x2 (ix2 r e) : EReal) = ins (rd x0) (rd x1) (rd x2) r e := by
  pointwise [val_main_v10, val_main_v9, val_main_v8, val_main_v7, val_main_v6, val_main_cst, val_main_cst_0]
  rw [f_of, rd_ix2 x0]
  rfl

theorem cen_of (r : Fin 8192) (j : Fin 1024) : (val_main_v16 (F := Ideal) x0 x1 x2 (ix2 r j) : EReal) = cen (ins (rd x0) (rd x1) (rd x2) r) j := by
  pointwise [val_main_v16, val_main_v15, val_main_v14, val_main_v13, val_main_v12, val_main_v11, val_main_cst_1, val_main_cst_2]
  simp only [inp_of]
  rfl

theorem out_of (r : Fin 8192) (j : Fin 1024) :
    (val_main_v32 (F := Ideal) x0 x1 x2 x3 x4 (ix2 r j) : EReal) = res (rd x0) (rd x1) (rd x2) (rd x3) (rd x4) r j := by
  have e : (val_main_v23 (F := Ideal) x0 x1 x2 (ix2 r j) : EReal) = cen (ins (rd x0) (rd x1) (rd x2) r) j := cen_of x0 x1 x2 r j
  pointwise [val_main_v32, val_main_v31, val_main_v30, val_main_v29, val_main_v28, val_main_v27, val_main_v26, val_main_v25, val_main_v24, val_main_v21, val_main_v20,
    val_main_v19, val_main_v18, val_main_v17, val_main_cst_3, val_main_cst_4, val_main_cst_5]
  rw [e]
  simp only [cen_of]
  simp only [rd_ix2]
  rfl

/-- The gates and factors in chunks of 672 columns. -/
theorem gu3_of (k : Fin 8) (r : Fin 8192) (l : Fin 672) : (val_main_v35 (F := Ideal) x0 x1 (ix3 k r l) : EReal) = gu (rd x0) (rd x1) r (672 * k + l) := by
  pointwise [val_main_v35, val_main_v34, val_main_v33]
  refine (gu_of x0 x1 r _).trans ?_
  show gu (rd x0) (rd x1) r (k.val * 672 + l.val) = _
  rw [Nat.mul_comm k.val 672]

/-- The input and the normed rows in bfloat16. -/
theorem xb_of (r : Fin 8192) (j : Fin 1024) : (val_main_v36 (F := Ideal) x0 (ix2 r j) : EReal) = rd x0 r j := by
  pointwise [val_main_v36]
  exact rd_ix2 x0 r j

theorem outb_of (r : Fin 8192) (j : Fin 1024) :
    (val_main_v37 (F := Ideal) x0 x1 x2 x3 x4 (ix2 r j) : EReal) = res (rd x0) (rd x1) (rd x2) (rd x3) (rd x4) r j := by
  pointwise [val_main_v37]
  exact out_of x0 x1 x2 x3 x4 r j

end Cert.FfnFwdRefIdeal.Hand

end

end
-- ==== Proof.FffValue.lean ====
/-
  The first feed-forward layer with the first layer norm, forward: what the run leaves, and that it is what the plain lines give.
-/
module

public import proofs.«01_k».proof.Defs
public import proofs.«01_k».proof.Proof.FffTile
public import proofs.«01_k».proof.Proof.Gen.FfnFwdRefIdeal.Run

@[expose] public section

set_option maxRecDepth 16384

noncomputable section

namespace Cert.FfnFwdIdeal.Hand

open Cert.Sb Cert.Fff Cert.Grad Cert.Ffn Cert.FfnFwdIdeal Cert.FfnFwdIdeal.Gen Idealize.ShloMosaic Idealize.ShloMosaic.TcCoe Finset
open Cert.FfnBwdIdeal.Hand (vL wL)
open Cert.LossHeadIdeal.Hand (rL)

variable (m : (ℓ : Loc nD τ sig) → Buf (Elt Ideal) ℓ) (c : Dev nD)

abbrev a0 : S8192x1024.Idx → Ideal .f32 := m ((c.tc : Thread nD τ).loc main_arg0)
abbrev a1 : S1024x5376.Idx → Ideal .f32 := m ((c.tc : Thread nD τ).loc main_arg1)
abbrev a2 : S2688x1024.Idx → Ideal .f32 := m ((c.tc : Thread nD τ).loc main_arg2)
abbrev a3 : S1x1024.Idx → Ideal .f32 := m ((c.tc : Thread nD τ).loc main_arg3)
abbrev a4 : S1x1024.Idx → Ideal .f32 := m ((c.tc : Thread nD τ).loc main_arg4)

/-- The two layers' weights as the kernel's copies must hold them. -/
def Is13 (B : S8x672x1024.Idx → EReal) : Prop := ∀ (k : Fin 8) (l : Fin 672) (e : Fin 1024), B (ix3 k l e) = rd (a1 m c) e (672 * k + l)
def Is2 (B : S2688x1024.Idx → EReal) : Prop := ∀ (l : Fin 2688) (e : Fin 1024), B (ix2 l e) = rd (a2 m c) l e

theorem read_w2 : Is2 m c (V m c main_v3) := by
  have e : (V m c main_v3 : S2688x1024.Idx → EReal) = a2 m c := by
    unfold V
    simp only [hostOps0, List.flatten_cons, List.flatten_nil, List.cons_append, List.nil_append, List.append_nil]
    after_reads_simp
    rfl
  intro l d
  rw [e]
  exact rd_ix2 (a2 m c) l d

theorem read_w13 : Is13 m c (V m c main_v2) := by
  intro k l d
  have e : (V m c main_v2 : S8x672x1024.Idx → EReal) (ix3 k l d) = a1 m c (ix2 d ⟨672 * k.val + l.val, by have := k.isLt; have := l.isLt; omega⟩) := by
    unfold V
    simp only [hostOps0, List.flatten_cons, List.flatten_nil, List.cons_append, List.nil_append, List.append_nil]
    after_reads_at
    exact congrArg (a1 m c) (congrArg (ix2 d) (Fin.ext (by dsimp only; omega)))
  rw [e]
  exact rd_ix2 (a1 m c) d _

/-- The windows' index maps over the grid's points. -/
theorem idx0 : ∀ t : Fin cfg0.N, win0_0.index t = ![t.val, 0] ∧ win0_1.index t = ![0, 0] ∧ win0_2.index t = ![0, 0] ∧ win0_3.index t = ![0, t.val, 0]
    ∧ win0_4.index t = ![t.val, 0] ∧ win0_5.index t = ![t.val, 0] ∧ win0_6.index t = ![t.val, 0] ∧ win0_7.index t = ![t.val, 0] :=
  (by decide +kernel : ∀ t : Fin grid0.N, _)

theorem lt16 (t : Fin cfg0.N) : t.val < 16 := by have := t.isLt; have hN : cfg0.N = 16 := N_0; omega

theorem ldX (t : Fin cfg0.N) (a : Fin 512) (l : Fin 1024) : (iblk m c 0 t : S512x1024.Idx → EReal) (ix2 a l) = rd (a0 m c) (512 * t.val + a) l := by
  have ht := lt16 t
  obtain ⟨e0, -⟩ := idx0 t
  refine Eq.trans ?_ (rd_ix2 (a0 m c) ⟨512 * t.val + a.val, by omega⟩ l)
  blk_ext [iblk, V_main_arg0, e0]

/-- Half `o` of a point's rows. -/
theorem ldR (t : Fin cfg0.N) (o : Fin 2) (a : Fin 256) (l : Fin 1024) : rL (iblk m c 0 t : S512x1024.Idx → EReal) o (ix2 a l) = rd (a0 m c) (512 * t.val + 256 * o.val + a) l := by
  rw [Nat.add_assoc]
  refine Eq.trans ?_ (ldX m c t ⟨256 * o.val + a.val, by have := o.isLt; omega⟩ l)
  refine congrArg (iblk m c 0 t : S512x1024.Idx → EReal) (funext fun b => ?_)
  apply Fin.ext
  fin_cases b <;> simp [Rect.emb, Rect.unit, ix2]

theorem ldG (t : Fin cfg0.N) (l : Fin 1024) : (iblk m c 1 t : S1x1024.Idx → EReal) (ix2 0 l) = rd (a3 m c) 0 l := by
  obtain ⟨-, e0, -⟩ := idx0 t
  refine Eq.trans ?_ (rd_ix2 (a3 m c) 0 l)
  blk_ext [iblk, V_main_arg3, e0]

theorem ldB (t : Fin cfg0.N) (l : Fin 1024) : (iblk m c 2 t : S1x1024.Idx → EReal) (ix2 0 l) = rd (a4 m c) 0 l := by
  obtain ⟨-, -, e0, -⟩ := idx0 t
  refine Eq.trans ?_ (rd_ix2 (a4 m c) 0 l)
  blk_ext [iblk, V_main_arg4, e0]

/-- The kernel's two copies of the weights after every point. -/
theorem kept : ∀ (n : ℕ) (h : n < cfg0.N), (outsAt0 m c n h).2.2.2.2.2.1 = V m c main_v2 ∧ (outsAt0 m c n h).2.2.2.2.2.2 = V m c main_v3 := by
  intro n
  induction n with
  | zero =>
    intro h
    rw [outsAt0_A m c ⟨0, h⟩ rfl]
    frame_out
    exact ⟨View.canon_unit_zero rfl _ _, View.canon_unit_zero rfl _ _⟩
  | succ n ih =>
    intro h
    have hN : cfg0.N = 16 := N_0
    have e := outsAt0_B m c ⟨n + 1, h⟩ (by dsimp only; omega)
    have hi := ih (by omega)
    rw [e]
    frame_out
    exact hi

theorem kept13 (n : ℕ) (h : n < cfg0.N) : Is13 m c (outsAt0 m c n h).2.2.2.2.2.1 := by
  rw [(kept m c n h).1]
  exact read_w13 m c

theorem kept2 (n : ℕ) (h : n < cfg0.N) : Is2 m c (outsAt0 m c n h).2.2.2.2.2.2 := by
  rw [(kept m c n h).2]
  exact read_w2 m c

section halves
variable {m c}
variable {B : S8x672x1024.Idx → EReal} {B2 : S2688x1024.Idx → EReal} (hB : Is13 m c B) (h2 : Is2 m c B2) (t : Fin cfg0.N)

include hB in
theorem st_half (o : Fin 8) (r : Fin 2) (a : Fin 256) (l : Fin 672) : (k0_pay11 (F := Ideal) (k0_pay3 (rL (iblk m c 0 t) r)) (vL B o) (ix3 0 a l) : EReal)
    = gu (rd (a0 m c)) (rd (a1 m c)) (512 * t.val + (256 * r.val + a.val)) (672 * o.val + l) := by
  refine (st_of _ _ a l).trans ((gu_chunk (x := rd (a0 m c)) (w := rd (a1 m c)) (n := 512 * t.val + 256 * r.val) (ldR m c t r) hB o a l).trans ?_)
  rw [Nat.add_assoc]

include hB h2

theorem acc_half (r : Fin 2) (a : Fin 256) (j : Fin 1024) : (acc (rL (iblk m c 0 t) r) B B2 (ix2 a j) : EReal)
    = f (rd (a0 m c)) (rd (a1 m c)) (rd (a2 m c)) (512 * t.val + (256 * r.val + a.val)) j := by
  refine (acc_of (x := rd (a0 m c)) (w := rd (a1 m c)) (w2 := rd (a2 m c)) (n := 512 * t.val + 256 * r.val) (ldR m c t r) hB h2 a j).trans ?_
  rw [Nat.add_assoc]

theorem nrm_half (r : Fin 2) (a : Fin 256) (j : Fin 1024) : (nrm (rL (iblk m c 0 t) r) B B2 (iblk m c 1 t) (iblk m c 2 t) (ix2 a j) : EReal)
    = res (rd (a0 m c)) (rd (a1 m c)) (rd (a2 m c)) (rd (a3 m c)) (rd (a4 m c)) (512 * t.val + (256 * r.val + a.val)) j := by
  refine (nrm_of (x := rd (a0 m c)) (w := rd (a1 m c)) (w2 := rd (a2 m c)) (g := rd (a3 m c)) (b := rd (a4 m c)) (n := 512 * t.val + 256 * r.val) (ldR m c t r) hB h2
    (ldG m c t) (ldB m c t) a j).trans ?_
  rw [Nat.add_assoc]

end halves

/-- A stored block of rows whose two halves hold `f`'s rows. -/
theorem canon_at {e : EltTy} (f : ℕ → ℕ → Elt Ideal e) (n : ℕ) (i0 i1) (p : (Rect.unit (s := S512x1024) ![256, 0] ![256, 1024] i1).shape.Idx → Elt Ideal e)
    (q : (Rect.unit (s := S512x1024) ![0, 0] ![256, 1024] i0).shape.Idx → Elt Ideal e)
    (hp : ∀ (a : Fin 256) (j : Fin 1024), p (ix2 a j) = f (n + (256 * (1 : Fin 2).val + a.val)) j.val)
    (hq : ∀ (a : Fin 256) (j : Fin 1024), q (ix2 a j) = f (n + (256 * (0 : Fin 2).val + a.val)) j.val) (a : Fin 512) (j : Fin 1024) :
    View.canon (Val := Elt Ideal) (s := S512x1024) (e := e) [⟨Rect.unit ![256, 0] ![256, 1024] i1, p⟩, ⟨Rect.unit ![0, 0] ![256, 1024] i0, q⟩] (ix2 a j) = f (n + a.val) j.val :=
  canon_rows (fun a => f (n + a)) i0 i1 p q (fun a j => (hp a j).trans (by simp)) (fun a j => (hq a j).trans (by simp)) a j

set_option maxHeartbeats 4000000 in
theorem gu_block (t : Fin cfg0.N) (k : Fin 8) (a : Fin 512) (l : Fin 672) : (outsAt0 m c t.val t.isLt).1 (ix3 k a l) = gu (rd (a0 m c)) (rd (a1 m c)) (512 * t.val + a.val) (672 * k.val + l.val) := by
  by_cases h0 : t.val % 16 = 0
  · rw [outsAt0_A m c t h0]
    frame_open
    simp (disch := decide) only [↓ View.readCov_skip, ↓ View.readCov_cons_toLoadRect, ↓ View.readCov_fill, readCov_whole]
    frame_out
    exact gu_point (iblk m c 0 t) _ k a l (fun k a => gu (rd (a0 m c)) (rd (a1 m c)) (512 * t.val + a) (672 * k + l)) fun o r a => st_half (read_w13 m c) t o r a l
  · rw [outsAt0_B m c t h0]
    frame_open
    simp (disch := decide) only [↓ View.readCov_skip, ↓ View.readCov_cons_toLoadRect, ↓ View.readCov_fill]
    frame_out
    simp only [Idealize.ShloMosaic.read_unread_whole]
    have ht := t.isLt
    have h13 := kept13 m c (t.val - 1) (by omega)
    generalize outsAt0 m c (t.val - 1) _ = prev at h13 ⊢
    exact gu_point (iblk m c 0 t) _ k a l (fun k a => gu (rd (a0 m c)) (rd (a1 m c)) (512 * t.val + a) (672 * k + l)) fun o r a => st_half h13 t o r a l

set_option maxHeartbeats 4000000 in
theorem f_block (t : Fin cfg0.N) (a : Fin 512) (j : Fin 1024) : (outsAt0 m c t.val t.isLt).2.1 (ix2 a j) = f (rd (a0 m c)) (rd (a1 m c)) (rd (a2 m c)) (512 * t.val + a.val) j := by
  by_cases h0 : t.val % 16 = 0
  · rw [outsAt0_A m c t h0]
    frame_open
    simp (disch := decide) only [↓ View.readCov_skip, ↓ View.readCov_cons_toLoadRect, ↓ View.readCov_fill, readCov_whole]
    frame_out
    exact canon_at _ (512 * t.val) _ _ _ _ (acc_half (read_w13 m c) (read_w2 m c) t 1) (acc_half (read_w13 m c) (read_w2 m c) t 0) a j
  · rw [outsAt0_B m c t h0]
    frame_open
    simp (disch := decide) only [↓ View.readCov_skip, ↓ View.readCov_cons_toLoadRect, ↓ View.readCov_fill]
    frame_out
    simp only [Idealize.ShloMosaic.read_unread_whole]
    have ht := t.isLt
    have h13 := kept13 m c (t.val - 1) (by omega)
    have h2 := kept2 m c (t.val - 1) (by omega)
    generalize outsAt0 m c (t.val - 1) _ = prev at h13 h2 ⊢
    exact canon_at _ (512 * t.val) _ _ _ _ (acc_half h13 h2 t 1) (acc_half h13 h2 t 0) a j

set_option maxHeartbeats 4000000 in
theorem xb_block (t : Fin cfg0.N) (a : Fin 512) (j : Fin 1024) : (outsAt0 m c t.val t.isLt).2.2.1 (ix2 a j) = rd (a0 m c) (512 * t.val + a.val) j := by
  have h (r : Fin 2) (a : Fin 256) (j : Fin 1024) : (k0_pay3 (F := Ideal) (rL (iblk m c 0 t) r) (ix2 a j) : EReal) = rd (a0 m c) (512 * t.val + (256 * r.val + a.val)) j := by
    rw [← Nat.add_assoc]
    pointwise [k0_pay3]
    exact ldR m c t r a j
  by_cases h0 : t.val % 16 = 0
  · rw [outsAt0_A m c t h0]
    frame_open
    simp (disch := decide) only [↓ View.readCov_skip, ↓ View.readCov_cons_toLoadRect, ↓ View.readCov_fill, readCov_whole]
    frame_out
    exact canon_at _ (512 * t.val) _ _ _ _ (h 1) (h 0) a j
  · rw [outsAt0_B m c t h0]
    frame_open
    simp (disch := decide) only [↓ View.readCov_skip, ↓ View.readCov_cons_toLoadRect, ↓ View.readCov_fill]
    frame_out
    exact canon_at _ (512 * t.val) _ _ _ _ (h 1) (h 0) a j

set_option maxHeartbeats 4000000 in
theorem out_block (t : Fin cfg0.N) (a : Fin 512) (j : Fin 1024) : (outsAt0 m c t.val t.isLt).2.2.2.1 (ix2 a j)
    = res (rd (a0 m c)) (rd (a1 m c)) (rd (a2 m c)) (rd (a3 m c)) (rd (a4 m c)) (512 * t.val + a.val) j := by
  by_cases h0 : t.val % 16 = 0
  · rw [outsAt0_A m c t h0]
    frame_open
    simp (disch := decide) only [↓ View.readCov_skip, ↓ View.readCov_cons_toLoadRect, ↓ View.readCov_fill, readCov_whole]
    frame_out
    exact canon_at _ (512 * t.val) _ _ _ _ (nrm_half (read_w13 m c) (read_w2 m c) t 1) (nrm_half (read_w13 m c) (read_w2 m c) t 0) a j
  · rw [outsAt0_B m c t h0]
    frame_open
    simp (disch := decide) only [↓ View.readCov_skip, ↓ View.readCov_cons_toLoadRect, ↓ View.readCov_fill]
    frame_out
    simp only [Idealize.ShloMosaic.read_unread_whole]
    have ht := t.isLt
    have h13 := kept13 m c (t.val - 1) (by omega)
    have h2 := kept2 m c (t.val - 1) (by omega)
    generalize outsAt0 m c (t.val - 1) _ = prev at h13 h2 ⊢
    exact canon_at _ (512 * t.val) _ _ _ _ (nrm_half h13 h2 t 1) (nrm_half h13 h2 t 0) a j

set_option maxHeartbeats 4000000 in
theorem outb_block (t : Fin cfg0.N) (a : Fin 512) (j : Fin 1024) : (outsAt0 m c t.val t.isLt).2.2.2.2.1 (ix2 a j)
    = res (rd (a0 m c)) (rd (a1 m c)) (rd (a2 m c)) (rd (a3 m c)) (rd (a4 m c)) (512 * t.val + a.val) j := by
  by_cases h0 : t.val % 16 = 0
  · rw [outsAt0_A m c t h0]
    frame_open
    simp (disch := decide) only [↓ View.readCov_skip, ↓ View.readCov_cons_toLoadRect, ↓ View.readCov_fill, readCov_whole]
    frame_out
    exact canon_at _ (512 * t.val) _ _ _ _ (nrm_half (read_w13 m c) (read_w2 m c) t 1) (nrm_half (read_w13 m c) (read_w2 m c) t 0) a j
  · rw [outsAt0_B m c t h0]
    frame_open
    simp (disch := decide) only [↓ View.readCov_skip, ↓ View.readCov_cons_toLoadRect, ↓ View.readCov_fill]
    frame_out
    simp only [Idealize.ShloMosaic.read_unread_whole]
    have ht := t.isLt
    have h13 := kept13 m c (t.val - 1) (by omega)
    have h2 := kept2 m c (t.val - 1) (by omega)
    generalize outsAt0 m c (t.val - 1) _ = prev at h13 h2 ⊢
    exact canon_at _ (512 * t.val) _ _ _ _ (nrm_half h13 h2 t 1) (nrm_half h13 h2 t 0) a j

/-- Gates and factors after the run. -/
theorem final3 : ((dats m 0 c).arrAt 3 cfg0.N : S8x8192x672.Idx → EReal)
    = fun j : S8x8192x672.Idx => gu (rd (a0 m c)) (rd (a1 m c)) (j 1).val (672 * (j 0).val + (j 2).val) := by
  refine (dats m 0 c).arrAt_eq_of_covers 3 _ (by decide +kernel) fun t hf y => ?_
  obtain ⟨-, -, -, e0, -⟩ := idx0 t
  have key : (outsAt0 m c t.val t.isLt).1 = fun y : S8x512x672.Idx => gu (rd (a0 m c)) (rd (a1 m c)) (512 * t.val + (y 1).val) (672 * (y 0).val + (y 2).val) := by
    funext y
    idx_vars y
    exact gu_block m c t y0 y1 y2
  blk_simp [e0]
  rw [after0_3, key]
  simp only [Nat.mul_comm t.val 512]

theorem final4 : ((dats m 0 c).arrAt 4 cfg0.N : S8192x1024.Idx → EReal) = fun j : S8192x1024.Idx => f (rd (a0 m c)) (rd (a1 m c)) (rd (a2 m c)) (j 0).val (j 1).val := by
  refine (dats m 0 c).arrAt_eq_of_covers 4 _ (by decide +kernel) fun t hf y => ?_
  obtain ⟨-, -, -, -, e0, -⟩ := idx0 t
  have key : (outsAt0 m c t.val t.isLt).2.1 = fun y : S512x1024.Idx => f (rd (a0 m c)) (rd (a1 m c)) (rd (a2 m c)) (512 * t.val + (y 0).val) (y 1).val := by
    funext y
    idx_vars y
    exact f_block m c t y0 y1
  blk_simp [e0]
  rw [after0_4, key]
  simp only [Nat.mul_comm t.val 512]

theorem final5 : ((dats m 0 c).arrAt 5 cfg0.N : S8192x1024.Idx → EReal) = fun j : S8192x1024.Idx => rd (a0 m c) (j 0).val (j 1).val := by
  refine (dats m 0 c).arrAt_eq_of_covers 5 _ (by decide +kernel) fun t hf y => ?_
  obtain ⟨-, -, -, -, -, e0, -⟩ := idx0 t
  have key : (outsAt0 m c t.val t.isLt).2.2.1 = fun y : S512x1024.Idx => rd (a0 m c) (512 * t.val + (y 0).val) (y 1).val := by
    funext y
    idx_vars y
    exact xb_block m c t y0 y1
  blk_simp [e0]
  rw [after0_5, key]
  simp only [Nat.mul_comm t.val 512]

theorem final6 : ((dats m 0 c).arrAt 6 cfg0.N : S8192x1024.Idx → EReal)
    = fun j : S8192x1024.Idx => res (rd (a0 m c)) (rd (a1 m c)) (rd (a2 m c)) (rd (a3 m c)) (rd (a4 m c)) (j 0).val (j 1).val := by
  refine (dats m 0 c).arrAt_eq_of_covers 6 _ (by decide +kernel) fun t hf y => ?_
  obtain ⟨-, -, -, -, -, -, e0, -⟩ := idx0 t
  have key : (outsAt0 m c t.val t.isLt).2.2.2.1
      = fun y : S512x1024.Idx => res (rd (a0 m c)) (rd (a1 m c)) (rd (a2 m c)) (rd (a3 m c)) (rd (a4 m c)) (512 * t.val + (y 0).val) (y 1).val := by
    funext y
    idx_vars y
    exact out_block m c t y0 y1
  blk_simp [e0]
  rw [after0_6, key]
  simp only [Nat.mul_comm t.val 512]

theorem final7 : ((dats m 0 c).arrAt 7 cfg0.N : S8192x1024.Idx → EReal)
    = fun j : S8192x1024.Idx => res (rd (a0 m c)) (rd (a1 m c)) (rd (a2 m c)) (rd (a3 m c)) (rd (a4 m c)) (j 0).val (j 1).val := by
  refine (dats m 0 c).arrAt_eq_of_covers 7 _ (by decide +kernel) fun t hf y => ?_
  obtain ⟨-, -, -, -, -, -, -, e0⟩ := idx0 t
  have key : (outsAt0 m c t.val t.isLt).2.2.2.2.1
      = fun y : S512x1024.Idx => res (rd (a0 m c)) (rd (a1 m c)) (rd (a2 m c)) (rd (a3 m c)) (rd (a4 m c)) (512 * t.val + (y 0).val) (y 1).val := by
    funext y
    idx_vars y
    exact outb_block m c t y0 y1
  blk_simp [e0]
  rw [after0_7, key]
  simp only [Nat.mul_comm t.val 512]

end Cert.FfnFwdIdeal.Hand

namespace Cert.Fff

open Cert.Sb Cert.Grad Idealize.ShloMosaic Idealize.ShloMosaic.TcCoe Idealize.SL.Sem

/-- The reference runs and keeps its arguments. -/
theorem frame_ref : Cert.quiescent_FfnFwdRefIdeal := fun m ρ _ =>
  (θ_run Cert.FfnFwdRefIdeal.defs _ _).mono (fun r h => ⟨fun c => (h c).2.2.2.2.2, sem_eq_zero_of_no_sems (by decide) r.2⟩)
    (Cert.FfnFwdRefIdeal.Value.run m ρ)

/-- The kernel's five results are the plain layer's and the plain norm's. -/
theorem value : Cert.algebraic_FfnFwdIdeal_FfnFwdRefIdeal := by
  intro m g m' g' _ hagree
  refine ⟨fun c => (Cert.FfnFwdIdeal.Gen.dats m 0 c).arrAt 3 Cert.FfnFwdIdeal.cfg0.N, fun c => (Cert.FfnFwdIdeal.Gen.dats m 0 c).arrAt 4 Cert.FfnFwdIdeal.cfg0.N,
    fun c => (Cert.FfnFwdIdeal.Gen.dats m 0 c).arrAt 5 Cert.FfnFwdIdeal.cfg0.N, fun c => (Cert.FfnFwdIdeal.Gen.dats m 0 c).arrAt 6 Cert.FfnFwdIdeal.cfg0.N,
    fun c => (Cert.FfnFwdIdeal.Gen.dats m 0 c).arrAt 7 Cert.FfnFwdIdeal.cfg0.N, Cert.FfnFwdIdeal.Value.run_blocks (F := Ideal) m g,
    (θ_run Cert.FfnFwdRefIdeal.defs _ _).mono (fun r h c => ?_) (Cert.FfnFwdRefIdeal.Value.run m' g')⟩
  obtain ⟨h1, h2, h3, h4, h5, h6⟩ := h c
  obtain ⟨b0, b1, b2, b3, b4⟩ := hagree c
  rw [Cert.FfnFwdRefIdeal.Read.val_main_v35_eq, b0, b1] at h1
  rw [Cert.FfnFwdRefIdeal.Read.val_main_v5_eq, b0, b1, b2] at h2
  rw [Cert.FfnFwdRefIdeal.Read.val_main_v36_eq, b0] at h3
  rw [Cert.FfnFwdRefIdeal.Read.val_main_v32_eq, b0, b1, b2, b3, b4] at h4
  rw [Cert.FfnFwdRefIdeal.Read.val_main_v37_eq, b0, b1, b2, b3, b4] at h5
  refine ⟨h1.trans (Eq.trans (funext fun j => ?_) (Cert.FfnFwdIdeal.Hand.final3 m c).symm), h2.trans (Eq.trans (funext fun j => ?_) (Cert.FfnFwdIdeal.Hand.final4 m c).symm),
    h3.trans (Eq.trans (funext fun j => ?_) (Cert.FfnFwdIdeal.Hand.final5 m c).symm), h4.trans (Eq.trans (funext fun j => ?_) (Cert.FfnFwdIdeal.Hand.final6 m c).symm),
    h5.trans (Eq.trans (funext fun j => ?_) (Cert.FfnFwdIdeal.Hand.final7 m c).symm), h6⟩
  · idx_vars j
    exact Cert.FfnFwdRefIdeal.Hand.gu3_of _ _ j0 j1 j2
  · idx_vars j
    exact Cert.FfnFwdRefIdeal.Hand.f_of _ _ _ j0 j1
  · idx_vars j
    exact Cert.FfnFwdRefIdeal.Hand.xb_of _ j0 j1
  · idx_vars j
    exact Cert.FfnFwdRefIdeal.Hand.out_of _ _ _ _ _ j0 j1
  · idx_vars j
    exact Cert.FfnFwdRefIdeal.Hand.outb_of _ _ _ _ _ j0 j1

end Cert.Fff

end

end
-- ==== Proof.ConvKernel.lean ====
/-
  The gradient kernel of the causal depthwise convolution, over the extended reals: what its three
  result arrays hold after the run, as sums over the arguments.
-/
module

public import proofs.«01_k».proof.Proof.Read
public import proofs.«01_k».proof.Proof.Gen.ConvBwdIdeal.Value
public import Idealize.ShloMosaic.Lib.Pipeline.ValueKit
public import Idealize.ShloMosaic.Lib.Pipeline.ReadBack
public import Idealize.ShloMosaic.Lib.Tactic
public import Idealize.ShloMosaic.Lib.Tactic.CleanTypes

@[expose] public section

set_option maxRecDepth 16384

noncomputable section

namespace Cert.Grad

open Idealize.ShloMosaic

/-- Row `r` of the gradient of the convolution's input: the four taps over the cotangent's rows below. -/
def convDx (w : (⟨2, ![4, 512]⟩ : Shape).Idx → EReal) (ct : (⟨2, ![8192, 512]⟩ : Shape).Idx → EReal) (r l : ℕ) : EReal :=
  rd ct r l * rd w 3 l + rd ct (r + 1) l * rd w 2 l + rd ct (r + 2) l * rd w 1 l + rd ct (r + 3) l * rd w 0 l

/-- Row `r` of tap `k`'s gradient: the cotangent times the input `3 - k` rows above. -/
def convDwAt (x : (⟨2, ![8192, 1024]⟩ : Shape).Idx → EReal) (ct : (⟨2, ![8192, 512]⟩ : Shape).Idx → EReal) (k l r : ℕ) : EReal :=
  rd ct r l * (if r + k < 3 then 0 else rd x (r + k - 3) l)

end Cert.Grad

namespace Cert.ConvBwdIdeal.Hand

open Cert.Grad Cert.ConvBwdIdeal Cert.ConvBwdIdeal.Gen Idealize.ShloMosaic Idealize.ShloMosaic.TcCoe Idealize.SL.Sem
open Idealize.ShloMosaic.Pipeline (Dat)

variable (m : (ℓ : Loc nD τ sig) → Buf (Elt Ideal) ℓ)

/-- The convolution's input, the taps and the cotangent as the launch finds them. -/
abbrev X (c : Dev nD) : S8192x1024.Idx → EReal := m ((c : Thread nD τ).loc main_arg0)
abbrev Wt (c : Dev nD) : S4x512.Idx → EReal := m ((c : Thread nD τ).loc main_arg1)
abbrev Ct (c : Dev nD) : S8192x512.Idx → EReal := m ((c : Thread nD τ).loc main_arg3)

/-- The windows' index maps over the grid's points. -/
theorem idx0 : ∀ t : Fin cfg0.N, win0_0.index t = ![t.val, 0] ∧ win0_1.index t = ![min (64 * t.val + 64) 1023, 0]
    ∧ win0_2.index t = ![t.val, 0] ∧ win0_3.index t = ![64 * t.val - 1, 0] ∧ win0_4.index t = ![0, 0] ∧ win0_5.index t = ![t.val, 0]
    ∧ win0_6.index t = ![0, 0] ∧ win0_7.index t = ![0, 0] ∧ (grid0.coords t 0).val = t.val :=
  (by decide +kernel : ∀ t : Fin grid0.N, _)

theorem lt16 (t : Fin cfg0.N) : t.val < 16 := by have := t.isLt; have hN : cfg0.N = 16 := N_0; omega

/-- The blocks the body reads, at an index. -/
theorem blk0 (c : Dev nD) (t : Fin cfg0.N) (r l : Fin 512) : iblk m c 0 t (ix2 r l) = rd (Ct m c) (512 * t.val + r.val) l.val := by
  have h := lt16 t
  rw [rd_of_lt _ (by omega) (by omega)]
  obtain ⟨e0, -⟩ := idx0 t
  blk_ext [iblk, V_main_arg3, e0]

theorem blk1 (c : Dev nD) (t : Fin cfg0.N) (ht : t.val < 15) (r : Fin 8) (l : Fin 512) : iblk m c 1 t (ix2 r l) = rd (Ct m c) (512 * t.val + 512 + r.val) l.val := by
  have h := lt16 t
  rw [rd_of_lt _ (by omega) (by omega)]
  obtain ⟨-, e0, -⟩ := idx0 t
  blk_ext [iblk, V_main_arg3, e0]

theorem blk2 (c : Dev nD) (t : Fin cfg0.N) (r l : Fin 512) : iblk m c 2 t (ix2 r l) = rd (X m c) (512 * t.val + r.val) l.val := by
  have h := lt16 t
  rw [rd_of_lt _ (by omega) (by omega)]
  obtain ⟨-, -, e0, -⟩ := idx0 t
  blk_ext [iblk, V_main_arg0, e0]

theorem blk3 (c : Dev nD) (t : Fin cfg0.N) (ht : 0 < t.val) (r : Fin 8) (l : Fin 512) : iblk m c 3 t (ix2 r l) = rd (X m c) (512 * t.val + r.val - 8) l.val := by
  have h := lt16 t
  rw [rd_of_lt _ (by omega) (by omega)]
  obtain ⟨-, -, -, e0, -⟩ := idx0 t
  blk_ext [iblk, V_main_arg0, e0]

theorem blk4 (c : Dev nD) (t : Fin cfg0.N) (r : Fin 4) (l : Fin 512) : iblk m c 4 t (ix2 r l) = rd (Wt m c) r.val l.val := by
  rw [rd_of_lt _ (by omega) (by omega)]
  obtain ⟨-, -, -, -, e0, -⟩ := idx0 t
  blk_ext [iblk, V_main_arg1, e0]

/-- A row of the cotangent `d` rows below, as the body picks it: from the block, or from the eight rows after it, or zero
    below the last row. -/
theorem up (c : Dev nD) (t : Fin cfg0.N) (d n : ℕ) (hn : n + d = 512) (hd : d < 8) (r l : Fin 512) (a : Fin 8) (ha : n ≤ r.val → a.val = r.val - n)
    (b : Fin 512) (hb : r.val < n → b.val = r.val + d) :
    (if n ≤ r.val then (if _h : r.val < 504 then (0 : EReal) else if t.val < 15 then (iblk m c 1 t (ix2 a l) : EReal) else 0)
      else (iblk m c 0 t (ix2 b l) : EReal)) = rd (Ct m c) (512 * t.val + r.val + d) l.val := by
  have h := lt16 t
  split_ifs with h1 h2 h3
  · omega
  · rw [blk1 m c t h3, ha h1]; congr 1; omega
  · rw [rd_of_ge _ (by omega)]
  · rw [blk0, hb (by omega)]; congr 1; omega

/-- A row of the input `d` rows above, as the body picks it: from the block, or from the eight rows before it, or zero
    above the first row. -/
theorem down (c : Dev nD) (t : Fin cfg0.N) (d : ℕ) (hd : d < 8) (r l : Fin 512) (a : Fin 8) (ha : r.val < d → a.val = r.val + 8 - d) (b : Fin 512)
    (hb : d ≤ r.val → b.val = r.val - d) :
    (if r.val < d then (if 0 < t.val then (iblk m c 3 t (ix2 a l) : EReal) else (0 : EReal)) else (iblk m c 2 t (ix2 b l) : EReal))
      = if 512 * t.val + r.val < d then 0 else rd (X m c) (512 * t.val + r.val - d) l.val := by
  have h := lt16 t
  split_ifs with h1 h2 h3 h4 h5
  · omega
  · rw [blk3 m c t h2, ha h1]; congr 1; omega
  · rfl
  · omega
  · omega
  · rw [blk2, hb (by omega)]; congr 1; omega

/-- What a grid point stores of the input's gradient. -/
theorem dx_pay (c : Dev nD) (t : Fin cfg0.N) (r l : Fin 512) :
    k0_pay20 (iblk m c 0 t) (iblk m c 4 t) (k0_pay4 (grid0.coords t) (iblk m c 1 t))
      (k0_pay13 (iblk m c 0 t) (iblk m c 4 t) (k0_pay4 (grid0.coords t) (iblk m c 1 t))
        (k0_pay6 (iblk m c 0 t) (iblk m c 4 t)) (k0_pay8 (iblk m c 4 t)) (k0_pay9 (iblk m c 0 t))
        (k0_pay10 (grid0.coords t) (iblk m c 1 t)) k0_pay11) (ix2 r l)
      = convDx (Wt m c) (Ct m c) (512 * t.val + r.val) l.val := by
  have h := lt16 t
  pointwise [k0_pay20, k0_pay4, k0_pay13, k0_pay6, k0_pay8, k0_pay9, k0_pay10, k0_pay11]
  obtain ⟨-, -, -, -, -, -, -, -, e0⟩ := idx0 t
  rw [e0]
  simp (disch := omega) only [sel_sge, ssel_slt]
  refine add_of (add_of (add_of (mul_of ?_ ?_) (mul_of ?_ ?_)) (mul_of ?_ ?_)) (mul_of ?_ ?_)
  · exact blk4 ..
  · exact blk0 ..
  · exact blk4 ..
  · exact up m c t 1 511 rfl (by decide) r l ⟨(r.val - 504 + 8 - 7) % 8, by omega⟩ (by intro; dsimp only; omega) ⟨(r.val + 512 - 511) % 512, by omega⟩ (by intro; dsimp only; omega)
  · exact blk4 ..
  · exact up m c t 2 510 rfl (by decide) r l ⟨(r.val - 504 + 8 - 6) % 8, by omega⟩ (by intro; dsimp only; omega) ⟨(r.val + 512 - 510) % 512, by omega⟩ (by intro; dsimp only; omega)
  · exact blk4 ..
  · exact up m c t 3 509 rfl (by decide) r l ⟨(r.val - 504 + 8 - 5) % 8, by omega⟩ (by intro; dsimp only; omega) ⟨(r.val + 512 - 509) % 512, by omega⟩ (by intro; dsimp only; omega)

/-- The gradient of the convolution's input after the run. -/
theorem final5 (c : Dev nD) : (dats m 0 c).arrAt 5 cfg0.N = fun j : S8192x512.Idx => convDx (Wt m c) (Ct m c) (j 0).val (j 1).val := by
  refine (dats m 0 c).arrAt_eq_of_covers 5 _ (by decide +kernel) fun t hf y => ?_
  obtain ⟨-, -, -, -, -, e0, -⟩ := idx0 t
  have key : (outsAt0 m c t.val t.isLt).1 = fun y : S512x512.Idx => convDx (Wt m c) (Ct m c) (512 * t.val + (y 0).val) (y 1).val := by
    funext y
    idx_vars y
    by_cases h0 : t.val % 16 = 0
    · rw [outsAt0_A m c t h0]
      frame_out
      exact dx_pay m c t _ _
    · rw [outsAt0_B m c t h0]
      frame_out
      exact dx_pay m c t _ _
  blk_simp [e0]
  rw [after0_5, key]
  simp only [Nat.mul_comm t.val 512]

/-- A sum over the block's rows, the first eight apart. -/
theorem halves {f : Fin 8 → EReal} {g : Fin 504 → EReal} (H : ℕ → EReal) (hf : ∀ x, f x = H x.val) (hg : ∀ x, g x = H (8 + x.val)) :
    (∑ x, f x) + ∑ x, g x = ∑ r : Fin 512, H r.val := by
  rw [Fin.sum_univ_two_halves 8 504 rfl (fun r : Fin 512 => H r.val)]
  exact add_of (Finset.sum_congr rfl fun x _ => hf x) (Finset.sum_congr rfl fun x _ => hg x)

/-- One row's term of a tap's gradient, by the distance between the rows. -/
theorem at_of (x : (⟨2, ![8192, 1024]⟩ : Shape).Idx → EReal) (ct : (⟨2, ![8192, 512]⟩ : Shape).Idx → EReal) (k d : ℕ) (hd : k + d = 3) (r l : ℕ) :
    rd ct r l * (if r < d then 0 else rd x (r - d) l) = convDwAt x ct k l r := by
  rw [convDwAt]
  by_cases hz : r < d
  · rw [if_pos hz, if_pos (by omega)]
  · rw [if_neg hz, if_neg (by omega)]
    congr 2
    omega

/-- The input `d` rows above a row of the block, where that row lies in the block. -/
theorem down' (c : Dev nD) (t : Fin cfg0.N) (d : ℕ) (r l b : Fin 512) (hr : d ≤ r.val) (hb : b.val = r.val - d) :
    iblk m c 2 t (ix2 b l) = if 512 * t.val + r.val < d then 0 else rd (X m c) (512 * t.val + r.val - d) l.val := by
  rw [blk2, if_neg (by omega), hb]
  congr 1
  omega

/-- What a grid point adds to row 3 of the taps' gradient. -/
theorem row3 (c : Dev nD) (t : Fin cfg0.N) (l : Fin 512) (a : Vec Ideal S1x512 .f32) : k0_pay7 (iblk m c 0 t) (iblk m c 2 t) a (ix2 0 l)
      = a (ix2 0 l) + ∑ r : Fin 512, convDwAt (X m c) (Ct m c) 3 l.val (512 * t.val + r.val) := by
  pointwise [k0_pay7]
  exact add_of rfl (Finset.sum_congr rfl fun r _ => (mul_of' (blk0 ..) (down' m c t 0 r l r (by omega) (by omega))).trans (at_of _ _ 3 0 rfl _ _))

/-- What a grid point adds to row 2 of the taps' gradient. -/
theorem row2 (c : Dev nD) (t : Fin cfg0.N) (l : Fin 512) (a : Vec Ideal S1x512 .f32) : k0_pay12 (iblk m c 0 t) (iblk m c 2 t) (k0_pay5 (grid0.coords t) (iblk m c 3 t)) a (ix2 0 l)
      = a (ix2 0 l) + ∑ r : Fin 512, convDwAt (X m c) (Ct m c) 2 l.val (512 * t.val + r.val) := by
  have h := lt16 t
  pointwise [k0_pay12, k0_pay5]
  obtain ⟨-, -, -, -, -, -, -, -, e0⟩ := idx0 t
  rw [e0]
  simp (disch := omega) only [ssel_sgt, ssel_slt, sel_slt, sel_of]
  refine add_of rfl (halves (fun r => convDwAt (X m c) (Ct m c) 2 l.val (512 * t.val + r)) (fun x => ?_) fun x => ?_)
  · exact (mul_of' (blk0 ..) (down m c t 1 (by decide) ⟨x.val, by omega⟩ l ⟨(x.val + 8 - 1) % 8, by omega⟩ (by intro; dsimp only at *; omega) ⟨(x.val + 512 - 1) % 512, by omega⟩
      (by intro; dsimp only at *; omega))).trans (at_of _ _ 2 1 rfl _ _)
  · rw [if_neg (by omega)]
    exact (mul_of' (blk0 ..) (down' m c t 1 ⟨8 + x.val, by omega⟩ l ⟨(8 + x.val + 512 - 1) % 512, by omega⟩ (by dsimp only; omega) (by dsimp only; omega))).trans
      (at_of _ _ 2 1 rfl _ _)

/-- What a grid point adds to row 1 of the taps' gradient. -/
theorem row1 (c : Dev nD) (t : Fin cfg0.N) (l : Fin 512) (a : Vec Ideal S1x512 .f32) : k0_pay18 (iblk m c 0 t) (k0_pay14 a) (k0_pay15 (iblk m c 2 t)) (k0_pay16 (k0_pay5 (grid0.coords t) (iblk m c 3 t))) k0_pay17 (ix2 0 l)
      = a (ix2 0 l) + ∑ r : Fin 512, convDwAt (X m c) (Ct m c) 1 l.val (512 * t.val + r.val) := by
  have h := lt16 t
  pointwise [k0_pay18, k0_pay14, k0_pay15, k0_pay16, k0_pay17, k0_pay5]
  obtain ⟨-, -, -, -, -, -, -, -, e0⟩ := idx0 t
  rw [e0]
  simp (disch := omega) only [ssel_sgt, ssel_slt, sel_slt, sel_of]
  refine add_of rfl (halves (fun r => convDwAt (X m c) (Ct m c) 1 l.val (512 * t.val + r)) (fun x => ?_) fun x => ?_)
  · exact (mul_of' (blk0 ..) (down m c t 2 (by decide) ⟨x.val, by omega⟩ l ⟨(x.val + 8 - 2) % 8, by omega⟩ (by intro; dsimp only at *; omega) ⟨(x.val + 512 - 2) % 512, by omega⟩
      (by intro; dsimp only at *; omega))).trans (at_of _ _ 1 2 rfl _ _)
  · rw [if_neg (by omega)]
    exact (mul_of' (blk0 ..) (down' m c t 2 ⟨8 + x.val, by omega⟩ l ⟨(8 + x.val + 512 - 2) % 512, by omega⟩ (by dsimp only; omega) (by dsimp only; omega))).trans
      (at_of _ _ 1 2 rfl _ _)

/-- What a grid point adds to row 0 of the taps' gradient. -/
theorem row0 (c : Dev nD) (t : Fin cfg0.N) (l : Fin 512) (a : Vec Ideal S1x512 .f32) : k0_pay19 (iblk m c 0 t) (iblk m c 2 t) (k0_pay5 (grid0.coords t) (iblk m c 3 t)) a (ix2 0 l)
      = a (ix2 0 l) + ∑ r : Fin 512, convDwAt (X m c) (Ct m c) 0 l.val (512 * t.val + r.val) := by
  have h := lt16 t
  pointwise [k0_pay19, k0_pay5]
  obtain ⟨-, -, -, -, -, -, -, -, e0⟩ := idx0 t
  rw [e0]
  simp (disch := omega) only [ssel_sgt, ssel_slt, sel_slt, sel_of]
  refine add_of rfl (halves (fun r => convDwAt (X m c) (Ct m c) 0 l.val (512 * t.val + r)) (fun x => ?_) fun x => ?_)
  · exact (mul_of' (blk0 ..) (down m c t 3 (by decide) ⟨x.val, by omega⟩ l ⟨(x.val + 8 - 3) % 8, by omega⟩ (by intro; dsimp only at *; omega) ⟨(x.val + 512 - 3) % 512, by omega⟩
      (by intro; dsimp only at *; omega))).trans (at_of _ _ 0 3 rfl _ _)
  · rw [if_neg (by omega)]
    exact (mul_of' (blk0 ..) (down' m c t 3 ⟨8 + x.val, by omega⟩ l ⟨(8 + x.val + 512 - 3) % 512, by omega⟩ (by dsimp only; omega) (by dsimp only; omega))).trans
      (at_of _ _ 0 3 rfl _ _)

/-- What a grid point adds to the offset's gradient. -/
theorem rowb (c : Dev nD) (t : Fin cfg0.N) (l : Fin 512) (a : Vec Ideal S1x512 .f32) : k0_pay1 (iblk m c 0 t) (k0_pay21 a) (ix2 0 l)
      = a (ix2 0 l) + ∑ r : Fin 512, rd (Ct m c) (512 * t.val + r.val) l.val := by
  pointwise [k0_pay1, k0_pay21]
  exact add_of rfl (Finset.sum_congr rfl fun r _ => blk0 ..)

/-- Row `k` of four stored rows. -/
theorem canon_rows (i0 i1 i2 i3) (p0 : (Rect.unit (s := S4x512) ![0, 0] ![1, 512] i0).shape.Idx → Elt Ideal .f32)
    (p1 : (Rect.unit (s := S4x512) ![1, 0] ![1, 512] i1).shape.Idx → Elt Ideal .f32)
    (p2 : (Rect.unit (s := S4x512) ![2, 0] ![1, 512] i2).shape.Idx → Elt Ideal .f32)
    (p3 : (Rect.unit (s := S4x512) ![3, 0] ![1, 512] i3).shape.Idx → Elt Ideal .f32) (L : List (View.Piece (Elt Ideal) S4x512 .f32))
    (k : Fin 4) (l : Fin 512) (f : Fin 4 → EReal) (h0 : p0 (ix2 (0 : Fin 1) l) = f 0) (h1 : p1 (ix2 (0 : Fin 1) l) = f 1)
    (h2 : p2 (ix2 (0 : Fin 1) l) = f 2) (h3 : p3 (ix2 (0 : Fin 1) l) = f 3) :
    View.canon (⟨Rect.unit ![0, 0] ![1, 512] i0, p0⟩ :: ⟨Rect.unit ![1, 0] ![1, 512] i1, p1⟩ :: ⟨Rect.unit ![2, 0] ![1, 512] i2, p2⟩
      :: ⟨Rect.unit ![3, 0] ![1, 512] i3, p3⟩ :: L) (ix2 k l) = f k := by
  have hit : ∀ (o : Fin 4) (inb) (p : (Rect.unit (s := S4x512) ![o.val, 0] ![1, 512] inb).shape.Idx → Elt Ideal .f32) (L : List (View.Piece (Elt Ideal) S4x512 .f32)),
      View.canon (⟨Rect.unit ![o.val, 0] ![1, 512] inb, p⟩ :: L) (ix2 o l) = p (ix2 (0 : Fin 1) l) := by
    intro o inb p L
    have h : (ix2 o l : S4x512.Idx) = (Rect.unit (s := S4x512) ![o.val, 0] ![1, 512] inb).emb (ix2 (0 : Fin 1) l) := by
      funext a
      apply Fin.ext
      fin_cases a <;> simp [Rect.emb, Rect.unit, ix2]
    rw [h, View.canon_cons_emb]
  have miss : ∀ (o : ℕ) (k : Fin 4) (inb) (p : (Rect.unit (s := S4x512) ![o, 0] ![1, 512] inb).shape.Idx → Elt Ideal .f32) (L : List (View.Piece (Elt Ideal) S4x512 .f32)),
      k.val ≠ o → View.canon (⟨Rect.unit ![o, 0] ![1, 512] inb, p⟩ :: L) (ix2 k l) = View.canon L (ix2 k l) := by
    intro o k inb p L hk
    refine View.canon_cons_of_not_mem _ _ ?_
    rw [Rect.mem_set_unit]
    intro h
    have := h 0
    change o ≤ k.val ∧ k.val < o + 1 at this
    omega
  match k with
  | 0 => exact (hit 0 i0 p0 _).trans h0
  | 1 => exact (miss 0 1 i0 p0 _ (by decide)).trans ((hit 1 i1 p1 _).trans h1)
  | 2 => exact (miss 0 2 i0 p0 _ (by decide)).trans ((miss 1 2 i1 p1 _ (by decide)).trans ((hit 2 i2 p2 _).trans h2))
  | 3 => exact (miss 0 3 i0 p0 _ (by decide)).trans ((miss 1 3 i1 p1 _ (by decide)).trans ((miss 2 3 i2 p2 _ (by decide)).trans ((hit 3 i3 p3 _).trans h3)))

/-- The running sums after a grid point that adds to what the point before left. -/
theorem stepB (c : Dev nD) (t : Fin cfg0.N) (h0 : ¬ t.val % 16 = 0) (k : Fin 4) (l : Fin 512) : (outsAt0 m c t.val t.isLt).2.1 (ix2 k l)
    = (outsAt0 m c (t.val - 1) (by omega)).2.1 (ix2 k l) + ∑ r : Fin 512, convDwAt (X m c) (Ct m c) k.val l.val (512 * t.val + r.val) := by
  rw [outsAt0_B m c t h0]
  frame_out
  generalize outsAt0 m c (t.val - 1) _ = prev
  have h (k : Fin 4) (inb) : View.ld prev.2.1 (Rect.unit (s := S4x512) ![k.val, 0] ![1, 512] inb) (ix2 (0 : Fin 1) l) = prev.2.1 (ix2 k l) := by
    refine congrArg prev.2.1 (funext fun a => ?_)
    apply Fin.ext
    fin_cases a <;> simp [Rect.emb, Rect.unit, ix2]
  refine canon_rows _ _ _ _ _ _ _ _ _ k l (fun k => prev.2.1 (ix2 k l) + ∑ r : Fin 512, convDwAt (X m c) (Ct m c) k.val l.val (512 * t.val + r.val)) ?_ ?_ ?_ ?_
  · exact (row0 ..).trans (add_of (h 0 _) rfl)
  · exact (row1 ..).trans (add_of (h 1 _) rfl)
  · exact (row2 ..).trans (add_of (h 2 _) rfl)
  · exact (row3 ..).trans (add_of (h 3 _) rfl)

/-- The running sums after the grid point that starts them. -/
theorem stepA (c : Dev nD) (t : Fin cfg0.N) (h0 : t.val % 16 = 0) (k : Fin 4) (l : Fin 512) : (outsAt0 m c t.val t.isLt).2.1 (ix2 k l)
    = 0 + ∑ r : Fin 512, convDwAt (X m c) (Ct m c) k.val l.val (512 * t.val + r.val) := by
  rw [outsAt0_A m c t h0]
  frame_open
  simp (disch := decide) only [↓ View.readCov_skip, ↓ View.readCov_cons_toLoadRect, ↓ View.readCov_fill]
  frame_out
  have h (k : Fin 4) (inb) : (View.ld (Val := Elt Ideal) (e' := .f32) (k0_pay2 (F := Ideal)) (Rect.unit (s := S4x512) ![k.val, 0] ![1, 512] inb) (ix2 (0 : Fin 1) l) : EReal) = 0 := by
    unfold k0_pay2
    pointwise
  refine canon_rows _ _ _ _ _ _ _ _ _ k l (fun k => 0 + ∑ r : Fin 512, convDwAt (X m c) (Ct m c) k.val l.val (512 * t.val + r.val)) ?_ ?_ ?_ ?_
  · exact (row0 ..).trans (add_of (h 0 _) rfl)
  · exact (row1 ..).trans (add_of (h 1 _) rfl)
  · exact (row2 ..).trans (add_of (h 2 _) rfl)
  · exact (row3 ..).trans (add_of (h 3 _) rfl)
/-- A sum over the rows of all blocks is a sum over the rows. -/
theorem blocks_sum (H : ℕ → EReal) : 0 + ∑ p : Fin cfg0.N, ∑ r : Fin 512, H (512 * p.val + r.val) = ∑ r : Fin 8192, H r.val := by
  rw [zero_add]
  have h := Fin.sum_univ_univ_mul_add 16 512 H
  simp only [Nat.mul_comm _ 512] at h
  exact h

/-- The gradient of the taps after the run. -/
theorem final6 (c : Dev nD) : (dats m 0 c).arrAt 6 cfg0.N = fun j : S4x512.Idx => ∑ r : Fin 8192, convDwAt (X m c) (Ct m c) (j 0).val (j 1).val r.val := by
  refine (dats m 0 c).arrAt_eq_of_after_last 6 t0_15 (by decide +kernel) _ fun j => ?_
  idx_vars j
  rw [after0_6]
  exact (Pipeline.eq_sum_fin_of_reset_step_apply_last (fun n h => (outsAt0 m c n h).2.1) 16 (fun _ => 0)
    (fun t i => ∑ r : Fin 512, convDwAt (X m c) (Ct m c) (i 0).val (i 1).val (512 * t.val + r.val))
    (fun t h i => by idx_vars i; exact stepA m c t h _ _) (fun t h i => by idx_vars i; exact stepB m c t h _ _) (by decide) t0_15 rfl _).trans (blocks_sum _)

/-- The running sum of the cotangent after the grid point that starts it. -/
theorem stepA' (c : Dev nD) (t : Fin cfg0.N) (h0 : t.val % 16 = 0) (l : Fin 512) : (outsAt0 m c t.val t.isLt).2.2 (ix2 0 l)
    = 0 + ∑ r : Fin 512, rd (Ct m c) (512 * t.val + r.val) l.val := by
  rw [outsAt0_A m c t h0]
  frame_out
  refine (rowb ..).trans (add_of ?_ rfl)
  unfold k0_pay3
  pointwise

/-- The running sum of the cotangent after a grid point that adds to what the point before left. -/
theorem stepB' (c : Dev nD) (t : Fin cfg0.N) (h0 : ¬ t.val % 16 = 0) (l : Fin 512) : (outsAt0 m c t.val t.isLt).2.2 (ix2 0 l)
    = (outsAt0 m c (t.val - 1) (by omega)).2.2 (ix2 0 l) + ∑ r : Fin 512, rd (Ct m c) (512 * t.val + r.val) l.val := by
  rw [outsAt0_B m c t h0]
  frame_out
  exact rowb ..

/-- The gradient of the offset after the run. -/
theorem final7 (c : Dev nD) : (dats m 0 c).arrAt 7 cfg0.N = fun j : S1x512.Idx => ∑ r : Fin 8192, rd (Ct m c) r.val (j 1).val := by
  refine (dats m 0 c).arrAt_eq_of_after_last 7 t0_15 (by decide +kernel) _ fun j => ?_
  obtain ⟨l, rfl⟩ : ∃ l : Fin 512, j = ix2 (0 : Fin 1) l := ⟨j 1, by funext a; fin_cases a <;> first | rfl | exact Subsingleton.elim (α := Fin 1) _ _⟩
  rw [after0_7]
  exact (Pipeline.eq_sum_fin_of_reset_step_apply_last (fun n h (l : Fin 512) => (outsAt0 m c n h).2.2 (ix2 0 l)) 16 (fun _ => 0)
    (fun t l => ∑ r : Fin 512, rd (Ct m c) (512 * t.val + r.val) l.val)
    (fun t h i => stepA' m c t h i) (fun t h i => stepB' m c t h i) (by decide) t0_15 rfl l).trans (blocks_sum fun r => rd (Ct m c) r l.val)

end Cert.ConvBwdIdeal.Hand

end

end
-- ==== Proof.ConvValue.lean ====
/-
  The gradient kernel of the causal depthwise convolution equals the derivative of the plain convolution: the
  reference's three results at an index, and the claims.
-/
module

public import proofs.«01_k».proof.Defs
public import proofs.«01_k».proof.Proof.ConvKernel
public import proofs.«01_k».proof.Proof.Gen.ConvRefIdeal.Run
public import Idealize.ShloMosaic.Lib.Pointwise
public import Idealize.ShloMosaic.Lib.Claim

@[expose] public section

set_option maxRecDepth 16384

noncomputable section

namespace Cert.ConvRefIdeal.Hand

open Cert.Grad Cert.ConvRefIdeal Cert.ConvRefIdeal.Gen Idealize.ShloMosaic Idealize.ShloMosaic.TcCoe Idealize.SL.Sem

variable (m : (ℓ : Loc nD τ sig) → Buf (Elt Ideal) ℓ) (ρ : Dev nD → PrngReg)

abbrev X (c : Dev nD) : S8192x1024.Idx → EReal := m ((c : Thread nD τ).loc main_arg0)
abbrev Wt (c : Dev nD) : S4x512.Idx → EReal := m ((c : Thread nD τ).loc main_arg1)
abbrev Ct (c : Dev nD) : S8192x512.Idx → EReal := m ((c : Thread nD τ).loc main_arg3)

/-- A tap over the cotangent's row `d` rows below, zero below the last row. -/
theorem below (w : (⟨2, ![4, 512]⟩ : Shape).Idx → EReal) (ct : (⟨2, ![8192, 512]⟩ : Shape).Idx → EReal) (r d l : ℕ) (a : ℕ) {p : Prop} [Decidable p]
    (hp : ¬p → 8192 ≤ r + d) (f : p → EReal) (hf : ∀ h, f h = rd ct (r + d) l * rd w a l) :
    (if h : p then f h else 0) = rd ct (r + d) l * rd w a l := by
  split_ifs with h
  · exact hf h
  · rw [rd_of_ge ct (hp h), zero_mul]

/-- An element of an array at the coordinates it has. -/
theorem rd_at {R C : ℕ} (A : (⟨2, ![R, C]⟩ : Shape).Idx → EReal) (r : Fin R) (c : Fin C) {r' c' : ℕ} (hr : r.val = r') (hc : c.val = c') :
    A (ix2 r c) = rd A r' c' := by
  subst hr hc
  exact rd_ix2 ..

/-- One row's term of a tap's gradient, the input's row picked among the rows behind three zero rows. -/
theorem above (x : (⟨2, ![8192, 1024]⟩ : Shape).Idx → EReal) (ct : (⟨2, ![8192, 512]⟩ : Shape).Idx → EReal) (r k l : ℕ) {p : Prop} [Decidable p]
    (hp : p ↔ r + k < 3) (f : ¬p → EReal) (y : EReal) (hf : ∀ h, f h = rd x (r + k - 3) l) (hy : y = rd ct r l) :
    (if h : p then 0 else f h) * y = convDwAt x ct k l r := by
  rw [convDwAt, hy, mul_comm]
  split_ifs with h h' h'
  · rfl
  · exact absurd (hp.1 h) h'
  · exact absurd (hp.2 h') h
  · rw [hf]

/-- One row's term of a tap's gradient whose input's row is there. -/
theorem plain (x : (⟨2, ![8192, 1024]⟩ : Shape).Idx → EReal) (ct : (⟨2, ![8192, 512]⟩ : Shape).Idx → EReal) (r k l : ℕ) (hp : ¬r + k < 3)
    (a y : EReal) (ha : a = rd x (r + k - 3) l) (hy : y = rd ct r l) : a * y = convDwAt x ct k l r := by
  rw [convDwAt, if_neg hp, ha, hy, mul_comm]

/-- The reference's three results. -/
theorem results : θ_run defs (onTc (τ := τ) (main (F := Ideal))) ⟨m, fun _ => 0, ρ⟩ fun r => ∀ c : Dev nD,
    r.2.mem ((c.tc : Thread nD τ).loc main_v81) = (fun j : S8192x512.Idx => convDx (Wt m c) (Ct m c) (j 0).val (j 1).val)
    ∧ r.2.mem ((c.tc : Thread nD τ).loc main_v76) = (fun j : S4x512.Idx => ∑ r : Fin 8192, convDwAt (X m c) (Ct m c) (j 0).val (j 1).val r.val)
    ∧ r.2.mem ((c.tc : Thread nD τ).loc main_v67) = (fun j : S1x512.Idx => ∑ r : Fin 8192, rd (Ct m c) r.val (j 1).val)
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) := by
  refine (θ_run defs _ _).mono (fun r h c => ?_) (Cert.ConvRefIdeal.Value.run (F := Ideal) m ρ)
  obtain ⟨h1, h2, h3, h4⟩ := h c
  refine ⟨?_, ?_, ?_, h4⟩
  · rw [h1]
    clear h1 h2 h3 h4 h
    funext j
    idx_vars j
    pointwise
    exact add_of (add_of (add_of (mul_of' (rd_ix2 ..) (rd_ix2 ..))
      (below _ _ j0.val 1 j1.val 2 (fun h => by omega) _ fun h => mul_of' (rd_at _ _ _ (by dsimp only; omega) rfl) (rd_ix2 ..)))
      (below _ _ j0.val 2 j1.val 1 (fun h => by omega) _ fun h => mul_of' (rd_at _ _ _ (by dsimp only; omega) rfl) (rd_ix2 ..)))
      (below _ _ j0.val 3 j1.val 0 (fun h => by omega) _ fun h => mul_of' (rd_at _ _ _ (by dsimp only; omega) rfl) (rd_ix2 ..))
  · rw [h2]
    clear h1 h2 h3 h4 h
    funext j
    idx_vars j
    pointwise
    match j0 with
    | 0 =>
      rw [dif_neg (by decide), dif_neg (by decide), dif_neg (by decide), dif_pos (by decide)]
      simp only [Fin.sum_univ_one, zero_add, zero_mul, Finset.sum_const_zero]
      refine Eq.trans ?_ (Fin.sum_univ_two_halves 3 8189 rfl (fun r : Fin 8192 => convDwAt (X m c) (Ct m c) 0 j1.val r.val)).symm
      refine (zero_add _).symm.trans (add_of (Finset.sum_eq_zero fun r _ => ?_).symm (Finset.sum_congr rfl fun r _ => ?_))
      · rw [convDwAt, if_pos (show r.val + 0 < 3 by omega), mul_zero]
      · exact plain _ _ (3 + r.val) 0 j1.val (by omega) _ _ (rd_at _ _ _ (by dsimp only; omega) rfl) (rd_at _ _ _ rfl rfl)
    | 1 =>
      rw [dif_neg (by decide), dif_neg (by decide), dif_pos (by decide), dif_neg (by decide)]
      simp only [Fin.sum_univ_one, zero_add, add_zero]
      exact Finset.sum_congr rfl fun r _ => above _ _ r.val 1 j1.val (by omega) _ _ (fun h => rd_at _ _ _ (by dsimp only; omega) rfl) (rd_ix2 ..)
    | 2 =>
      rw [dif_neg (by decide), dif_pos (by decide), dif_neg (by decide), dif_neg (by decide)]
      simp only [Fin.sum_univ_one, zero_add, add_zero]
      exact Finset.sum_congr rfl fun r _ => above _ _ r.val 2 j1.val (by omega) _ _ (fun h => rd_at _ _ _ (by dsimp only; omega) rfl) (rd_ix2 ..)
    | 3 =>
      rw [dif_pos (by decide), dif_neg (by decide), dif_neg (by decide), dif_neg (by decide)]
      simp only [Fin.sum_univ_one, add_zero]
      refine Finset.sum_congr rfl fun r _ => ?_
      exact plain _ _ r.val 3 j1.val (by omega) _ _ (rd_at _ _ _ (by omega) rfl) (rd_ix2 ..)
  · rw [h3]
    clear h1 h2 h3 h4 h
    funext j
    idx_vars j
    pointwise
    exact Finset.sum_congr rfl fun r _ => rd_ix2 ..

end Cert.ConvRefIdeal.Hand

namespace Cert.Grad

open Idealize.ShloMosaic Idealize.SL.Sem

/-- The reference runs, leaves its arguments as they were, and every counter at zero. -/
theorem frame_convRef : Cert.quiescent_ConvRefIdeal := fun m ρ _ =>
  (θ_run Cert.ConvRefIdeal.defs _ _).mono (fun r h => ⟨fun c => (h c).2.2.2, sem_eq_zero_of_no_sems (by decide) r.2⟩)
    (Cert.ConvRefIdeal.Hand.results m ρ)

/-- The gradient kernel's three results are the derivative's. -/
theorem value_conv : Cert.algebraic_ConvBwdIdeal_ConvRefIdeal := by
  intro m g m' g' _ hagree
  refine ⟨fun c => (Cert.ConvBwdIdeal.Gen.dats m 0 c).arrAt 5 Cert.ConvBwdIdeal.cfg0.N, fun c => (Cert.ConvBwdIdeal.Gen.dats m 0 c).arrAt 6 Cert.ConvBwdIdeal.cfg0.N,
    fun c => (Cert.ConvBwdIdeal.Gen.dats m 0 c).arrAt 7 Cert.ConvBwdIdeal.cfg0.N, Cert.ConvBwdIdeal.Value.run_blocks (F := Ideal) m g,
    (θ_run Cert.ConvRefIdeal.defs _ _).mono (fun r h c => ?_) (Cert.ConvRefIdeal.Hand.results m' g')⟩
  obtain ⟨h1, h2, h3, h4⟩ := h c
  obtain ⟨a0, a1, -, a3⟩ := hagree c
  have e0 : Cert.ConvRefIdeal.Hand.X m' c = Cert.ConvBwdIdeal.Hand.X m c := a0
  have e1 : Cert.ConvRefIdeal.Hand.Wt m' c = Cert.ConvBwdIdeal.Hand.Wt m c := a1
  have e3 : Cert.ConvRefIdeal.Hand.Ct m' c = Cert.ConvBwdIdeal.Hand.Ct m c := a3
  rw [e1, e3] at h1
  rw [e0, e3] at h2
  rw [e3] at h3
  exact ⟨h1.trans (Cert.ConvBwdIdeal.Hand.final5 m c).symm, h2.trans (Cert.ConvBwdIdeal.Hand.final6 m c).symm,
    h3.trans (Cert.ConvBwdIdeal.Hand.final7 m c).symm, h4⟩

end Cert.Grad

end

end
-- ==== Proof.CrossRef.lean ====
/-
  The cross-attention's derivative on finite numbers as the reference computes it, one operation at a time.
-/
module

public import proofs.«01_k».proof.Proof.CrossKernel
public import proofs.«01_k».proof.Proof.SbRef
public import proofs.«01_k».proof.Proof.Gen.CrossRefIdeal.Read

@[expose] public section

set_option maxRecDepth 16384

noncomputable section

namespace Cert.CrossRefIdeal.Hand

open Cert.Sb Cert.Cross Cert.Grad Cert.CrossRefIdeal Cert.CrossRefIdeal.Gen Cert.CrossRefIdeal.Read Idealize.ShloMosaic Idealize.ShloMosaic.TcCoe Finset

variable {A : Args} {x0 x2 : S8192x1024.Idx → Ideal .f32} {x1 : S256x2048.Idx → Ideal .f32}

theorem heads_q (h : Is x0 A.q) : Is3 (val_main_v2 (F := Ideal) x0) (fun t h l => A.q t (256 * h + l)) := by
  intro t g l
  have hg := g.isLt
  refine Eq.trans ?_ (h t ⟨256 * g.val + l.val, by omega⟩)
  pointwise [val_main_v2]
  exact congrArg x0 (congrArg (ix2 t) (Fin.ext (by dsimp only; omega)))

theorem heads_c (h : Is x2 A.c) : Is3 (val_main_v39 (F := Ideal) x2) (fun t h l => A.c t (256 * h + l)) := heads_q (A := ⟨A.c, A.kv, A.c⟩) h

theorem heads_k (h : Is x1 A.kv) : Is3 (val_main_v3 (F := Ideal) x1) (fun b h l => A.kv b (256 * h + l)) := by
  intro t g l
  have hg := g.isLt
  refine Eq.trans ?_ (h t ⟨256 * g.val + l.val, by omega⟩)
  pointwise [val_main_v3, val_main_v0]
  exact congrArg x1 (congrArg (ix2 t) (Fin.ext (by dsimp only; omega)))

theorem heads_v (h : Is x1 A.kv) : Is3 (val_main_v4 (F := Ideal) x1) (fun b h l => A.kv b (256 * (4 + h) + l)) := by
  intro t g l
  have hg := g.isLt
  refine Eq.trans ?_ (h t ⟨256 * (4 + g.val) + l.val, by omega⟩)
  pointwise [val_main_v4, val_main_v1]
  exact congrArg x1 (congrArg (ix2 t) (Fin.ext (by dsimp only; omega)))

theorem sixteen : Ideal.ofBits .f32 0x41800000#32 = ((16 : ℝ) : EReal) := by
  simp [Ideal.ofBits, Ideal.ieee, -EReal.coe_mul]; norm_num

theorem s_is (hq : Is x0 A.q) (hk : Is x1 A.kv) : Is3 (val_main_v7 (F := Ideal) x0 x1) A.s := by
  intro h t b
  pointwise [val_main_v7, val_main_v6, val_main_v5, val_main_cst]
  rw [dot_of _ _ (fun l => A.q t (256 * h + l)) (fun l => A.kv b (256 * h + l)) (fun l => heads_q hq t h l) (fun l => heads_k hk b h l), sixteen,
    Ideal.div_coe (by norm_num), ← EReal.coe_mul]
  rfl

/-- A row's largest score. -/
abbrev top (x0 : S8192x1024.Idx → Ideal .f32) (x1 : S256x2048.Idx → Ideal .f32) (h t : ℕ) : ℝ := (rd (val_main_v8 (F := Ideal) x0 x1) h t).toReal

theorem m_is (hs : Is3 (val_main_v7 (F := Ideal) x0 x1) A.s) : Is (val_main_v8 (F := Ideal) x0 x1) (top x0 x1) := by
  intro h t
  obtain ⟨r, hr⟩ : ∃ r : ℝ, val_main_v8 (F := Ideal) x0 x1 (ix2 h t) = (r : EReal) := by
    pointwise [val_main_v8, val_main_cst_0]
    rw [bot_bits]
    exact max_real univ ⟨0, mem_univ _⟩ _ (fun x => A.s h t x) fun x => hs h t x
  rw [top, ← rd_ix2, hr, EReal.toReal_coe]

theorem e_step (s m : ℝ) : FloatOps.hostUnary (F := Ideal) (φ := .f32) .exp (FloatOps.subf ((s : ℝ) : EReal) (FloatOps.maximumf (⊥ : EReal) ((m : ℝ) : EReal) : Ideal .f32))
    = ((Real.exp (s - m) : ℝ) : EReal) := by
  show Ideal.exp (((s : ℝ) : EReal) - max (⊥ : EReal) ((m : ℝ) : EReal)) = _
  rw [max_eq_right bot_le, ← EReal.coe_sub, Ideal.exp_coe]

theorem e_is (hs : Is3 (val_main_v7 (F := Ideal) x0 x1) A.s) : Is3 (val_main_v28 (F := Ideal) x0 x1) (fun h t b => Real.exp (A.s h t b - top x0 x1 h t)) := by
  intro h t b
  rw [val_main_v28_apply, val_main_v27_apply, val_main_v26_apply, val_main_v25_apply, val_main_v15_apply, val_main_v14_apply, val_main_cst_2_apply, hs h t b,
    SbRefIdeal.Hand.at_is (m_is hs), show (FloatOps.ofBits .f32 0xFF800000#32 : Ideal .f32) = (⊥ : EReal) from bot_bits]
  exact e_step _ _

/-- A row's sum of exponentials. -/
abbrev tot (A : Args) (x0 : S8192x1024.Idx → Ideal .f32) (x1 : S256x2048.Idx → Ideal .f32) (h t : ℕ) : ℝ := ∑ b ∈ range 256, Real.exp (A.s h t b - top x0 x1 h t)

theorem tot_ne (h t : ℕ) : tot A x0 x1 h t ≠ 0 := (sum_pos (fun _ _ => Real.exp_pos _) ⟨0, by simp⟩).ne'

theorem l_is (hs : Is3 (val_main_v7 (F := Ideal) x0 x1) A.s) : Is (val_main_v29 (F := Ideal) x0 x1) (tot A x0 x1) := by
  intro h t
  pointwise [val_main_v29, val_main_cst_8]
  exact sum_of _ (fun b => Real.exp (A.s h t b - top x0 x1 h t)) fun b => e_is hs h t b

theorem p_is (hs : Is3 (val_main_v7 (F := Ideal) x0 x1) A.s) : Is3 (val_main_v32 (F := Ideal) x0 x1) A.p := by
  intro h t b
  pointwise [val_main_v32, val_main_v31, val_main_v30]
  rw [e_is hs h t b, l_is hs h t, Ideal.div_coe (tot_ne _ _), ← EReal.coe_mul, soft_shift]
  rfl

theorem dp_is (hk : Is x1 A.kv) (hc : Is x2 A.c) : Is3 (val_main_v41 (F := Ideal) x1 x2) A.dp := by
  intro h t b
  pointwise [val_main_v41, val_main_v40]
  exact dot_of _ _ (fun l => A.c t (256 * h + l)) (fun l => A.kv b (256 * (4 + h) + l)) (fun l => heads_c hc t h l) (fun l => heads_v hk b h l)

/-- The softmax's derivative by the quotient rule. -/
theorem quotient (n : ℕ) (s d : ℕ → ℝ) (m : ℝ) (b : ℕ) (L : ℝ) (hL : L = ∑ l ∈ range n, Real.exp (s l - m)) (h0 : L ≠ 0) :
    (d b * (1 / L) + -∑ l ∈ range n, d l * (1 * (1 / (L * L))) * Real.exp (s l - m)) * Real.exp (s b - m) = dS n (soft n s) d b := by
  have e (l : ℕ) : soft n s l = Real.exp (s l - m) * (1 / L) := by rw [hL, soft_shift]
  have e' : ∑ l ∈ range n, d l * (1 * (1 / (L * L))) * Real.exp (s l - m) = (∑ l ∈ range n, d l * soft n s l) * (1 / L) := by
    rw [sum_mul]
    refine sum_congr rfl fun l _ => ?_
    rw [e l]
    field_simp
  rw [e', dS, e b]
  ring

theorem one_coe : (1 : EReal) = ((1 : ℝ) : EReal) := rfl

theorem ds_is (hs : Is3 (val_main_v7 (F := Ideal) x0 x1) A.s) (hk : Is x1 A.kv) (hc : Is x2 A.c) : Is3 (val_main_v57 (F := Ideal) x0 x1 x2) A.ds := by
  intro h t b
  have L0 : tot A x0 x1 h t ≠ 0 := tot_ne _ _
  pointwise [val_main_v57, val_main_v56, val_main_cst_12, val_main_v55, val_main_v54, val_main_v53, val_main_v52, val_main_v51, val_main_v50, val_main_v49, val_main_v48, val_main_v47, val_main_v46, val_main_v45, val_main_v44, val_main_v35, val_main_v34, val_main_v33, val_main_v30, val_main_cst_9, val_main_cst_10, val_main_cst_11]
  have hd (x : Fin 256) := dp_is hk hc h t x
  have he (x : Fin 256) := e_is hs h t x
  simp only [hd, he, l_is hs h t]
  rw [one_coe, ← EReal.coe_mul, Ideal.div_coe (mul_ne_zero L0 L0), ← EReal.coe_mul, Ideal.div_coe L0, ← EReal.coe_mul]
  rw [Fin.sum_univ_one, sum_of _ (fun l => A.dp h t l * (1 * (1 / (tot A x0 x1 h t * tot A x0 x1 h t))) * Real.exp (A.s h t l - top x0 x1 h t)) fun l => by rw [← EReal.coe_mul, ← EReal.coe_mul]]
  rw [← EReal.coe_neg, ← EReal.coe_add, ← EReal.coe_mul, sixteen, Ideal.div_coe (by norm_num), ← EReal.coe_mul, quotient 256 (A.s h t) (A.dp h t) _ b _ rfl L0]
  rfl

theorem dq_is (hs : Is3 (val_main_v7 (F := Ideal) x0 x1) A.s) (hk : Is x1 A.kv) (hc : Is x2 A.c) : Is (val_main_v66 (F := Ideal) x0 x1 x2) A.dq := by
  intro t j
  have hj := j.isLt
  pointwise [val_main_v66, val_main_v64, val_main_v61, val_main_v60]
  exact dot_of _ _ (fun l => A.ds (j / 256) t l) (fun l => A.kv l (256 * (j / 256) + j % 256)) (fun l => ds_is hs hk hc _ t l) (fun l => heads_k hk l _ _)

theorem dk_part (hs : Is3 (val_main_v7 (F := Ideal) x0 x1) A.s) (hq : Is x0 A.q) (hk : Is x1 A.kv) (hc : Is x2 A.c) (h : Fin 4) (b d : Fin 256) :
    ∑ r : Fin 8192, val_main_v57 (F := Ideal) x0 x1 x2 (ix3 h r b) * val_main_v2 (F := Ideal) x0 (ix3 r h d)
      = ((∑ r ∈ range 8192, A.ds h r b * A.q r (256 * h + d) : ℝ) : EReal) :=
  dot_of _ _ (fun r => A.ds h r b) (fun r => A.q r (256 * h + d)) (fun r => ds_is hs hk hc h r b) (fun r => heads_q hq r h d)

theorem dv_part (hs : Is3 (val_main_v7 (F := Ideal) x0 x1) A.s) (hc : Is x2 A.c) (h : Fin 4) (b d : Fin 256) :
    ∑ r : Fin 8192, val_main_v40 (F := Ideal) x2 (ix3 h d r) * val_main_v32 (F := Ideal) x0 x1 (ix3 h r b)
      = ((∑ r ∈ range 8192, A.c r (256 * h + d) * A.p h r b : ℝ) : EReal) :=
  dot_of _ _ (fun r => A.c r (256 * h + d)) (fun r => A.p h r b) (fun r => by
    refine Eq.trans ?_ (heads_c hc r h d)
    pointwise [val_main_v40]) (fun r => p_is hs h r b)

theorem dkv_is (hs : Is3 (val_main_v7 (F := Ideal) x0 x1) A.s) (hq : Is x0 A.q) (hk : Is x1 A.kv) (hc : Is x2 A.c) :
    Is3 (val_main_v68 (F := Ideal) x0 x1 x2) (fun k b d => ∑ r ∈ range 8192, A.dkvAt k b d r) := by
  intro h b d
  have hd := d.isLt
  have hh := h.isLt
  pointwise [val_main_v68, val_main_v67, val_main_v65, val_main_v63, val_main_v62, val_main_v59, val_main_v58, val_main_v42, val_main_v43]
  split_ifs with c c'
  · have e : (h.val * 256 + d.val) / 256 = h.val := by omega
    refine (dk_part hs hq hk hc ⟨(h.val * 256 + d.val) / 256, by omega⟩ b d).trans (congrArg Real.toEReal (sum_congr rfl fun r _ => ?_))
    rw [Args.dkvAt, if_pos (by omega)]
    dsimp only
    rw [e]
  · have e : (h.val * 256 + d.val - 1024) / 256 = h.val - 4 := by omega
    have e' : (h.val * 256 + d.val - 1024) % 256 = d.val := by omega
    refine (dv_part hs hc ⟨(h.val * 256 + d.val - 1024) / 256, by omega⟩ b ⟨(h.val * 256 + d.val - 1024) % 256, by omega⟩).trans
      (congrArg Real.toEReal (sum_congr rfl fun r _ => ?_))
    rw [Args.dkvAt, if_neg (by omega)]
    dsimp only
    rw [e, e', mul_comm]
  · exact absurd rfl c'

end Cert.CrossRefIdeal.Hand

end

end
-- ==== Proof.CrossFinite.lean ====
/-
  The cross-attention's finite arguments are arrays of reals.
-/
module

public import proofs.«01_k».proof.Pre_cross_finite
public import proofs.«01_k».proof.Proof.SbFinite

@[expose] public section

set_option maxRecDepth 16384

noncomputable section

namespace Cert.Pre_cross_finite

open Idealize.ShloMosaic Cert.Grad Cert.Sb

/-- The side conditions of the predicate's operations. -/
instance facts : Facts where
  bcast_S_S8192x1024 := by decide
  reducesTo_S8192x1024_S_d0_1 := by decide
  h_S_ := by decide
  bcast_S_S256x2048 := by decide
  reducesTo_S256x2048_S_d0_1 := by decide

variable [Facts]
open Facts

/-- The test of one array. -/
def ok (x : FVec Ideal S8192x1024 .f32) : IVec S_ 1 :=
  Host.reduce IntOp.andi (cmpf .olt (Host.absf x) (broadcastInDim S8192x1024 ![] bcast_S_S8192x1024 (constant S_ .f32 0x7F800000#32))) (constantI S_ 1 1#1) reducesTo_S8192x1024_S_d0_1 h_S_

def okKV (x : FVec Ideal S256x2048 .f32) : IVec S_ 1 :=
  Host.reduce IntOp.andi (cmpf .olt (Host.absf x) (broadcastInDim S256x2048 ![] bcast_S_S256x2048 (constant S_ .f32 0x7F800000#32))) (constantI S_ 1 1#1) reducesTo_S256x2048_S_d0_1 h_S_

/-- Arguments that pass are arrays of reals. -/
theorem reals (x0 : FVec Ideal S8192x1024 .f32) (x1 : FVec Ideal S256x2048 .f32) (x2 : FVec Ideal S8192x1024 .f32) (h : fn (F := Ideal) x0 x1 x2 = fun _ => 1#1) :
    Is x0 (fun a b => (rd x0 a b).toReal) ∧ Is x1 (fun a b => (rd x1 a b).toReal) ∧ Is x2 (fun a b => (rd x2 a b).toReal) := by
  let i : S_.Idx := fun k => k.elim0
  have e : IntOp.andi (IntOp.andi (ok x0 i) (okKV x1 i)) (ok x2 i) = 1#1 := congrFun h i
  obtain ⟨e, h2⟩ := IntOp.andi_eq_one.1 e
  obtain ⟨h0, h1⟩ := IntOp.andi_eq_one.1 e
  exact ⟨Pre_sb_finite.real_of_test x0 _ _ _ i h0, Pre_sb_finite.real_of_test x1 _ _ _ i h1, Pre_sb_finite.real_of_test x2 _ _ _ i h2⟩

end Cert.Pre_cross_finite

end

end
-- ==== Proof.CrossValue.lean ====
/-
  The cross-attention's gradient kernel equals the derivative of the plain attention, at finite arguments.
-/
module

public import proofs.«01_k».proof.Defs
public import proofs.«01_k».proof.Proof.CrossRef
public import proofs.«01_k».proof.Proof.CrossFinite
public import proofs.«01_k».proof.Proof.Gen.CrossRefIdeal.Run

@[expose] public section

set_option maxRecDepth 16384

noncomputable section

namespace Cert.Cross

open Cert.Sb Cert.Grad Idealize.ShloMosaic Idealize.ShloMosaic.TcCoe Idealize.SL.Sem

/-- The reference runs and keeps its arguments. -/
theorem frame_ref : Cert.quiescent_CrossRefIdeal := fun m ρ _ =>
  (θ_run Cert.CrossRefIdeal.defs _ _).mono (fun r h => ⟨fun c => (h c).2.2, sem_eq_zero_of_no_sems (by decide) r.2⟩)
    (Cert.CrossRefIdeal.Value.run m ρ)

/-- An array of rank 3 that holds given numbers is known. -/
theorem ext3 {a b c : ℕ} {x y : (⟨3, ![a, b, c]⟩ : Shape).Idx → EReal} {f : ℕ → ℕ → ℕ → ℝ} (hx : Is3 x f) (hy : Is3 y f) : x = y :=
  funext fun j => (Cert.SbRefIdeal.Hand.at3_is hx j).trans (Cert.SbRefIdeal.Hand.at3_is hy j).symm

/-- An array of rank 2 that holds given numbers is known. -/
theorem ext2 {a b : ℕ} {x y : (⟨2, ![a, b]⟩ : Shape).Idx → EReal} {f : ℕ → ℕ → ℝ} (hx : Is x f) (hy : Is y f) : x = y :=
  funext fun j => (Cert.SbRefIdeal.Hand.at_is hx j).trans (Cert.SbRefIdeal.Hand.at_is hy j).symm

/-- The gradient kernel's two results are the derivative's. -/
theorem value [Cert.Pre_cross_finite.Facts] : Cert.algebraic_CrossBwdIdeal_CrossRefIdeal_pre_cross_finite := by
  intro m g m' g' hpre hagree
  have hA : ∀ c, ∃ A : Args, Cert.CrossBwdIdeal.Hand.ArgIs m A c := fun c => by
    obtain ⟨h0, h1, h2⟩ := Cert.Pre_cross_finite.reals _ _ _ (hpre c)
    exact ⟨⟨_, _, _⟩, ⟨h0, h1, h2⟩⟩
  choose A hA using hA
  refine ⟨fun c => (Cert.CrossBwdIdeal.Gen.dats m 0 c).arrAt 3 Cert.CrossBwdIdeal.cfg0.N, fun c => (Cert.CrossBwdIdeal.Gen.dats m 0 c).arrAt 4 Cert.CrossBwdIdeal.cfg0.N,
    Cert.CrossBwdIdeal.Value.run_blocks (F := Ideal) m g,
    (θ_run Cert.CrossRefIdeal.defs _ _).mono (fun r h c => ?_) (Cert.CrossRefIdeal.Value.run m' g')⟩
  obtain ⟨h1, h2, h3⟩ := h c
  obtain ⟨a0, a1, a2⟩ := hagree c
  rw [Cert.CrossRefIdeal.Read.val_main_v66_eq, a0, a1, a2] at h1
  rw [Cert.CrossRefIdeal.Read.val_main_v68_eq, a0, a1, a2] at h2
  have hs := Cert.CrossRefIdeal.Hand.s_is (hA c).q (hA c).kv
  exact ⟨h1.trans (ext2 (Cert.CrossRefIdeal.Hand.dq_is hs (hA c).kv (hA c).c) (Cert.CrossBwdIdeal.Hand.final3 (hA c))),
    h2.trans (ext3 (Cert.CrossRefIdeal.Hand.dkv_is hs (hA c).q (hA c).kv (hA c).c) (Cert.CrossBwdIdeal.Hand.final4 (hA c))), h3⟩

end Cert.Cross

end

end
-- ==== Proof.FfnRef.lean ====
/-
  The derivative of the plain feed-forward layer on finite arguments, as real numbers.
-/
module

public import proofs.«01_k».proof.Proof.FfnKernel
public import proofs.«01_k».proof.Proof.SbRef
public import proofs.«01_k».proof.Proof.Gen.FfnRefIdeal.Read

@[expose] public section

set_option maxRecDepth 16384

noncomputable section

namespace Cert.FfnRefIdeal.Hand

open Cert.Sb Cert.Ffn Cert.FfnRefIdeal Cert.FfnRefIdeal.Read Idealize.ShloMosaic Idealize.ShloMosaic.TcCoe Finset

variable {A : Args} {x0 : S8192x1024.Idx → Ideal .f32} {x1 : S1024x5376.Idx → Ideal .f32} {x2 : S2688x1024.Idx → Ideal .f32} {x3 : S8192x1024.Idx → Ideal .f32}

/-- Gates and factors. -/
theorem gu_is (h0 : Is x0 A.h) (h1 : Is x1 A.w13) : Is (val_main_v0 (F := Ideal) x0 x1) A.gu := by
  intro r j
  pointwise [val_main_v0]
  exact dot_of _ _ (fun e => A.h r e) (fun e => A.w13 e j) (fun e => h0 r e) (fun e => h1 e j)

theorem g_is (h0 : Is x0 A.h) (h1 : Is x1 A.w13) : Is (val_main_v1 (F := Ideal) x0 x1) A.gu := by
  intro r j
  pointwise [val_main_v1]
  exact gu_is h0 h1 r _

theorem u_is (h0 : Is x0 A.h) (h1 : Is x1 A.w13) : Is (val_main_v2 (F := Ideal) x0 x1) (fun r j => A.gu r (2688 + j)) := by
  intro r j
  pointwise [val_main_v2]
  exact gu_is h0 h1 r _

theorem sg_is (h0 : Is x0 A.h) (h1 : Is x1 A.w13) : Is (val_main_v3_2 (F := Ideal) x0 x1) (fun r j => sg (A.gu r j)) := by
  intro r j
  have e : (1 + Real.exp (-A.gu r j) : ℝ) ≠ 0 := by positivity
  pointwise [val_main_v3_2, val_main_call0_v4, val_main_call0_cst_0, val_main_call0_v3, val_main_call0_v2, val_main_call0_cst, val_main_call0_v1, val_main_call0_v0]
  rw [g_is h0 h1 r j, ← EReal.coe_neg, Ideal.exp_coe, ← EReal.coe_one, ← EReal.coe_add, Ideal.div_coe e, ← EReal.coe_mul, one_mul, one_div]
  rfl

/-- The activation. -/
theorem act_is (h0 : Is x0 A.h) (h1 : Is x1 A.w13) : Is (val_main_v4 (F := Ideal) x0 x1) (fun r j => A.gu r j * sg (A.gu r j) * A.gu r (2688 + j)) := by
  intro r j
  pointwise [val_main_v4, val_main_v3_0]
  rw [g_is h0 h1 r j, sg_is h0 h1 r j, u_is h0 h1 r j, ← EReal.coe_mul, ← EReal.coe_mul]

/-- The activation's gradient. -/
theorem da_is (h2 : Is x2 A.w2) (h3 : Is x3 A.z) : Is (val_main_v15 (F := Ideal) x2 x3) A.da := by
  intro r j
  pointwise [val_main_v15, val_main_v14, val_main_v13, val_main_cst_1, val_main_v12]
  exact da_of _ _ (A.z r) (A.w2 j) (h3 r) (h2 j)

/-- The gate's gradient. -/
theorem dg_is (h0 : Is x0 A.h) (h1 : Is x1 A.w13) (h2 : Is x2 A.w2) (h3 : Is x3 A.z) :
    Is (val_main_v20 (F := Ideal) x0 x1 x2 x3) (fun r j => gate (A.da r j) (A.gu r j) (A.gu r (2688 + j))) := by
  intro r j
  pointwise [val_main_v20, val_main_call1_v2, val_main_call1_v1, val_main_call1_v0, val_main_v19, val_main_v3_1, val_main_call0_v7, val_main_call0_v6, val_main_call0_cst_1]
  rw [da_is h2 h3 r j, g_is h0 h1 r j, sg_is h0 h1 r j, u_is h0 h1 r j, ← EReal.coe_one, ← EReal.coe_sub, ← EReal.coe_mul, ← EReal.coe_mul, ← EReal.coe_mul,
    ← EReal.coe_mul, ← EReal.coe_mul, ← EReal.coe_add]
  refine congrArg Real.toEReal ?_
  rw [gate]
  ring

/-- The factor's gradient. -/
theorem du_is (h0 : Is x0 A.h) (h1 : Is x1 A.w13) (h2 : Is x2 A.w2) (h3 : Is x3 A.z) :
    Is (val_main_v18 (F := Ideal) x0 x1 x2 x3) (fun r j => A.da r j * (A.gu r j * sg (A.gu r j))) := by
  intro r j
  pointwise [val_main_v18, val_main_v3_0]
  rw [da_is h2 h3 r j, g_is h0 h1 r j, sg_is h0 h1 r j, ← EReal.coe_mul, ← EReal.coe_mul]
  exact congrArg Real.toEReal (mul_comm _ _)

/-- Both gradients side by side. -/
def both (A : Args) (r j : ℕ) : ℝ :=
  if j < 2688 then gate (A.da r j) (A.gu r j) (A.gu r (2688 + j)) else A.da r (j - 2688) * (A.gu r (j - 2688) * sg (A.gu r (j - 2688)))

theorem both_is (h0 : Is x0 A.h) (h1 : Is x1 A.w13) (h2 : Is x2 A.w2) (h3 : Is x3 A.z) : Is (val_main_v21 (F := Ideal) x0 x1 x2 x3) (both A) := by
  intro r j
  pointwise [val_main_v21]
  rw [both]
  split_ifs with h
  · exact dg_is h0 h1 h2 h3 r ⟨j.val, h⟩
  · exact du_is h0 h1 h2 h3 r ⟨j.val - 2688, by omega⟩
  · rename_i h'
    exact absurd rfl h'

/-- Chunk by chunk they are the kernel's. -/
theorem both_chunk (A : Args) (k r l : ℕ) (hk : k < 8) (hl : l < 672) : both A r (672 * k + l) = A.dgu k r l := by
  rw [both, Args.dgu]
  by_cases h : k < 4
  · rw [if_pos h, if_pos (by omega), Args.dg, show 2688 + (672 * k + l) = 672 * (4 + k) + l by omega]
  · rw [if_neg h, if_neg (by omega), Args.du, show 672 * k + l - 2688 = 672 * (k - 4) + l by omega]

theorem dgu_is (h0 : Is x0 A.h) (h1 : Is x1 A.w13) (h2 : Is x2 A.w2) (h3 : Is x3 A.z) : Is3 (val_main_v26 (F := Ideal) x0 x1 x2 x3) A.dgu := by
  intro k r l
  pointwise [val_main_v26, val_main_v25, val_main_v24]
  refine (both_is h0 h1 h2 h3 r _).trans (congrArg Real.toEReal ?_)
  show both A r.val (k.val * 672 + l.val) = _
  rw [Nat.mul_comm k.val 672]
  exact both_chunk A k r l k.isLt l.isLt

theorem act3_is (h0 : Is x0 A.h) (h1 : Is x1 A.w13) : Is3 (val_main_v29 (F := Ideal) x0 x1) A.act := by
  intro k r l
  pointwise [val_main_v29, val_main_v28, val_main_v27]
  refine (act_is h0 h1 r _).trans (congrArg Real.toEReal ?_)
  show A.gu r.val (k.val * 672 + l.val) * sg (A.gu r.val (k.val * 672 + l.val)) * A.gu r.val (2688 + (k.val * 672 + l.val)) = _
  have e : 2688 + (k.val * 672 + l.val) = 672 * (4 + k.val) + l.val := by omega
  rw [e, Nat.mul_comm k.val 672]
  rfl

/-- A sum over 5376 columns by eight chunks of 672. -/
theorem sum_chunks (f : ℕ → ℝ) : ∑ j ∈ range 5376, f j = ∑ k ∈ range 8, ∑ l ∈ range 672, f (672 * k + l) := by
  have h := Fin.sum_univ_univ_mul_add 8 672 f
  simp only [Nat.mul_comm _ 672] at h
  rw [← Fin.sum_univ_eq_sum_range, ← Fin.sum_univ_eq_sum_range (fun k => ∑ l ∈ range 672, f (672 * k + l))]
  refine Eq.trans h.symm ?_
  exact sum_congr rfl fun p _ => (Fin.sum_univ_eq_sum_range (fun r => f (672 * p.val + r)) 672)

theorem dh_eq (A : Args) (r e : ℕ) : alpha * A.z r e + ∑ j ∈ range 5376, both A r j * A.w13 e j = A.dh r e := by
  have c (k : ℕ) (hk : k < 8) : ∑ l ∈ range 672, both A r (672 * k + l) * A.w13 e (672 * k + l) = ∑ l ∈ range 672, A.dgu k r l * A.w13 e (672 * k + l) :=
    sum_congr rfl fun l hl => by rw [both_chunk A k r l hk (mem_range.1 hl)]
  have lo (k : ℕ) (hk : k < 4) : ∑ l ∈ range 672, A.dgu k r l * A.w13 e (672 * k + l) = ∑ l ∈ range 672, A.dg k r l * A.w13 e (672 * k + l) :=
    sum_congr rfl fun l _ => by rw [Args.dgu, if_pos hk]
  have hi (k : ℕ) : ∑ l ∈ range 672, A.dgu (4 + k) r l * A.w13 e (672 * (4 + k) + l) = ∑ l ∈ range 672, A.du k r l * A.w13 e (672 * (4 + k) + l) :=
    sum_congr rfl fun l _ => by rw [Args.dgu, if_neg (by omega), Nat.add_sub_cancel_left]
  have eight (S : ℕ → ℝ) : ∑ k ∈ range 8, S k = S 0 + S 1 + S 2 + S 3 + (S (4 + 0) + S (4 + 1) + S (4 + 2) + S (4 + 3)) := by
    simp only [sum_range_succ, sum_range_zero]; ring
  rw [sum_chunks, sum_congr rfl fun k hk => c k (mem_range.1 hk), eight, lo 0 (by norm_num), lo 1 (by norm_num), lo 2 (by norm_num), lo 3 (by norm_num), hi, hi, hi, hi,
    Args.dh, Args.add, Args.add, Args.add, Args.add]
  ring

theorem dh_is (h0 : Is x0 A.h) (h1 : Is x1 A.w13) (h2 : Is x2 A.w2) (h3 : Is x3 A.z) : Is (val_main_v23 (F := Ideal) x0 x1 x2 x3) A.dh := by
  intro r e
  pointwise [val_main_v23, val_main_v22, val_main_v17, val_main_v16, val_main_cst_2, val_main_v11]
  rw [h3 r e, alpha_bits, dot_of _ _ (both A r) (A.w13 e) (both_is h0 h1 h2 h3 r) (h1 e), ← EReal.coe_mul, ← EReal.coe_add, dh_eq]

end Cert.FfnRefIdeal.Hand

end

end
-- ==== Proof.FfnFinite.lean ====
/-
  The feed-forward layer's finite arguments are arrays of reals.
-/
module

public import proofs.«01_k».proof.Pre_ffn_finite
public import proofs.«01_k».proof.Proof.SbFinite

@[expose] public section

set_option maxRecDepth 16384

noncomputable section

namespace Cert.Pre_ffn_finite

open Idealize.ShloMosaic Cert.Grad Cert.Sb

/-- The side conditions of the predicate's operations. -/
instance facts : Facts where
  bcast_S_S8192x1024 := by decide
  reducesTo_S8192x1024_S_d0_1 := by decide
  h_S_ := by decide
  bcast_S_S1024x5376 := by decide
  reducesTo_S1024x5376_S_d0_1 := by decide
  bcast_S_S2688x1024 := by decide
  reducesTo_S2688x1024_S_d0_1 := by decide

variable [Facts]
open Facts

/-- The test of an array of rows. -/
def ok (x : FVec Ideal S8192x1024 .f32) : IVec S_ 1 :=
  Host.reduce IntOp.andi (cmpf .olt (Host.absf x) (broadcastInDim S8192x1024 ![] bcast_S_S8192x1024 (constant S_ .f32 0x7F800000#32))) (constantI S_ 1 1#1) reducesTo_S8192x1024_S_d0_1 h_S_

/-- The test of the first weights. -/
def okW13 (x : FVec Ideal S1024x5376 .f32) : IVec S_ 1 :=
  Host.reduce IntOp.andi (cmpf .olt (Host.absf x) (broadcastInDim S1024x5376 ![] bcast_S_S1024x5376 (constant S_ .f32 0x7F800000#32))) (constantI S_ 1 1#1) reducesTo_S1024x5376_S_d0_1 h_S_

/-- The test of the second weights. -/
def okW2 (x : FVec Ideal S2688x1024 .f32) : IVec S_ 1 :=
  Host.reduce IntOp.andi (cmpf .olt (Host.absf x) (broadcastInDim S2688x1024 ![] bcast_S_S2688x1024 (constant S_ .f32 0x7F800000#32))) (constantI S_ 1 1#1) reducesTo_S2688x1024_S_d0_1 h_S_

/-- Arguments that pass are arrays of reals. -/
theorem reals (x0 : FVec Ideal S8192x1024 .f32) (x1 : FVec Ideal S1024x5376 .f32) (x2 : FVec Ideal S2688x1024 .f32) (x3 : FVec Ideal S8192x1024 .f32)
    (h : fn (F := Ideal) x0 x1 x2 x3 = fun _ => 1#1) :
    Is x0 (fun a b => (rd x0 a b).toReal) ∧ Is x1 (fun a b => (rd x1 a b).toReal) ∧ Is x2 (fun a b => (rd x2 a b).toReal) ∧ Is x3 (fun a b => (rd x3 a b).toReal) := by
  let i : S_.Idx := fun k => k.elim0
  have e : IntOp.andi (IntOp.andi (IntOp.andi (ok x0 i) (okW13 x1 i)) (okW2 x2 i)) (ok x3 i) = 1#1 := congrFun h i
  obtain ⟨e, h3⟩ := IntOp.andi_eq_one.1 e
  obtain ⟨e, h2⟩ := IntOp.andi_eq_one.1 e
  obtain ⟨h0, h1⟩ := IntOp.andi_eq_one.1 e
  exact ⟨Pre_sb_finite.real_of_test x0 _ _ _ i h0, Pre_sb_finite.real_of_test x1 _ _ _ i h1, Pre_sb_finite.real_of_test x2 _ _ _ i h2, Pre_sb_finite.real_of_test x3 _ _ _ i h3⟩

end Cert.Pre_ffn_finite

end

end
-- ==== Proof.FfnValue.lean ====
/-
  The first feed-forward layer's gradient kernel equals the derivative of the plain layer, at finite arguments.
-/
module

public import proofs.«01_k».proof.Defs
public import proofs.«01_k».proof.Proof.FfnRef
public import proofs.«01_k».proof.Proof.FfnFinite
public import proofs.«01_k».proof.Proof.CrossValue
public import proofs.«01_k».proof.Proof.Gen.FfnRefIdeal.Run

@[expose] public section

set_option maxRecDepth 16384

noncomputable section

namespace Cert.Ffn

open Cert.Sb Cert.Grad Idealize.ShloMosaic Idealize.ShloMosaic.TcCoe Idealize.SL.Sem

/-- The reference runs and keeps its arguments. -/
theorem frame_ref : Cert.quiescent_FfnRefIdeal := fun m ρ _ =>
  (θ_run Cert.FfnRefIdeal.defs _ _).mono (fun r h => ⟨fun c => (h c).2.2.2, sem_eq_zero_of_no_sems (by decide) r.2⟩)
    (Cert.FfnRefIdeal.Value.run m ρ)

/-- The gradient kernel's three results are the derivative's. -/
theorem value [Cert.Pre_ffn_finite.Facts] : Cert.algebraic_FfnBwdIdeal_FfnRefIdeal_pre_ffn_finite := by
  intro m g m' g' hpre hagree
  have hA : ∀ c, ∃ A : Args, Cert.FfnBwdIdeal.Hand.ArgIs m A c := fun c => by
    obtain ⟨h0, h1, h2, h3⟩ := Cert.Pre_ffn_finite.reals _ _ _ _ (hpre c)
    exact ⟨⟨_, _, _, _⟩, ⟨h0, h1, h2, h3⟩⟩
  choose A hA using hA
  refine ⟨fun c => (Cert.FfnBwdIdeal.Gen.dats m 0 c).arrAt 2 Cert.FfnBwdIdeal.cfg0.N, fun c => (Cert.FfnBwdIdeal.Gen.dats m 0 c).arrAt 3 Cert.FfnBwdIdeal.cfg0.N,
    fun c => (Cert.FfnBwdIdeal.Gen.dats m 0 c).arrAt 4 Cert.FfnBwdIdeal.cfg0.N, Cert.FfnBwdIdeal.Value.run_blocks (F := Ideal) m g,
    (θ_run Cert.FfnRefIdeal.defs _ _).mono (fun r h c => ?_) (Cert.FfnRefIdeal.Value.run m' g')⟩
  obtain ⟨h1, h2, h3, h4⟩ := h c
  obtain ⟨a0, a1, a2, a3⟩ := hagree c
  rw [Cert.FfnRefIdeal.Read.val_main_v23_eq, a0, a1, a2, a3] at h1
  rw [Cert.FfnRefIdeal.Read.val_main_v26_eq, a0, a1, a2, a3] at h2
  rw [Cert.FfnRefIdeal.Read.val_main_v29_eq, a0, a1] at h3
  obtain ⟨b0, b1, b2, b3⟩ := hA c
  exact ⟨h1.trans (Cert.Cross.ext2 (Cert.FfnRefIdeal.Hand.dh_is b0 b1 b2 b3) (Cert.FfnBwdIdeal.Hand.final2 (hA c))),
    h2.trans (Cert.Cross.ext3 (Cert.FfnRefIdeal.Hand.dgu_is b0 b1 b2 b3) (Cert.FfnBwdIdeal.Hand.final3 (hA c))),
    h3.trans (Cert.Cross.ext3 (Cert.FfnRefIdeal.Hand.act3_is b0 b1) (Cert.FfnBwdIdeal.Hand.final4 (hA c))), h4⟩

end Cert.Ffn

end

end
-- ==== Proof.Ln2Kernel.lean ====
/-
  The gradient of the second layer norm, with the product before it, on finite arguments: what the kernel's result arrays hold after
  the run, as real numbers.
-/
module

public import proofs.«01_k».proof.Proof.Norm
public import proofs.«01_k».proof.Proof.SbWindow
public import proofs.«01_k».proof.Proof.Gen.Ln2BwdIdeal.Value
public import Idealize.ShloMosaic.Lib.StableHlo.ReadAt
public import Idealize.ShloMosaic.Lib.Claim

@[expose] public section

set_option maxRecDepth 16384

noncomputable section

namespace Cert.Ln2

open Cert.Norm Cert.Ffn Finset

/-- The arguments' numbers: the two summands of the norm's input, the gains, the product's weights, the gradients that reach the normed rows
    through the product and past it. -/
structure Args where
  x : ℕ → ℕ → ℝ
  f : ℕ → ℕ → ℝ
  g : ℕ → ℕ → ℝ
  w : ℕ → ℕ → ℝ
  q : ℕ → ℕ → ℝ
  s : ℕ → ℕ → ℝ

namespace Args

variable (A : Args)

/-- The gradient of the normed rows. -/
def dy (r j : ℕ) : ℝ := ∑ l ∈ range 1024, A.q r l * A.w j l + alpha * A.s r j

/-- The gradient of the norm's input. -/
def dz (r j : ℕ) : ℝ := lnR 1024 lnEps (mixR A.x A.f r) (fun l => A.dy r l * A.g 0 l) j

/-- A row's term of the gains' gradient. -/
def dgAt (j r : ℕ) : ℝ := xh 1024 lnEps (mixR A.x A.f r) j * A.dy r j

end Args

end Cert.Ln2

namespace Cert.Ln2BwdIdeal.Hand

open Cert.Sb Cert.Norm Cert.Ffn Cert.Ln2 Cert.Ln2BwdIdeal Cert.Ln2BwdIdeal.Gen Idealize.ShloMosaic Idealize.ShloMosaic.TcCoe Idealize.SL.Sem Finset Idealize.ShloMosaic.StableHlo
open Idealize.ShloMosaic.Pipeline (Dat)

/-! ### One tile of rows -/

variable {X Fm G W Q S P : ℕ → ℕ → ℝ}

theorem acc_is {p : S512x1024.Idx → EReal} {q : S512x1024.Idx → EReal} {w : S1024x1024.Idx → EReal} (hp : Is p P) (hq : Is q Q) (hw : Is w W) :
    Is (k0_pay2 (F := Ideal) q p w) (fun a j => P a j + ∑ l ∈ range 1024, Q a l * W j l) := by
  intro a b
  pointwise [k0_pay2]
  rw [dot_of _ _ (fun l => Q a l) (fun l => W b l) (fun l => hq a l) (fun l => hw b l), hp a b, ← EReal.coe_add]

theorem zero_is : Is (k0_pay1 (F := Ideal)) (fun _ _ => 0) := by
  intro a b
  pointwise [k0_pay1]
  rfl

theorem dy_is {p : S512x1024.Idx → EReal} {s : S1x512x1024.Idx → EReal} (hp : Is p P) (hs : Is3 s (fun _ => S)) :
    Is (k0_pay4 (F := Ideal) p s) (fun a j => P a j + alpha * S a j) := by
  intro a b
  pointwise [k0_pay4]
  rw [alpha_bits, hp a b, hs 0 a b, ← EReal.coe_mul, ← EReal.coe_add]

theorem zc_is {x f : S512x1024.Idx → EReal} (hx : Is x X) (hf : Is f Fm) : Is (k0_pay5 (F := Ideal) x f) (fun a => cen 1024 (mixR X Fm a)) := by
  intro a b
  pointwise [k0_pay5]
  rw [alpha_bits, n1024]
  exact cen_of (by decide) (fun i => ((alpha : ℝ) : EReal) * x (ix2 a i) + f (ix2 a i)) (mixR X Fm a) (fun i => mix_of (hx a i) (hf a i)) b

theorem var_is {x f : S512x1024.Idx → EReal} (hx : Is x X) (hf : Is f Fm) : Is (k0_pay6 (F := Ideal) x f) (fun a _ => vr 1024 lnEps (cen 1024 (mixR X Fm a))) := by
  intro a b
  pointwise [k0_pay6]
  rw [eps_bits, n1024]
  exact vr_of (by decide) lnEps (fun i => k0_pay5 (F := Ideal) x f (ix2 a i)) _ (fun i => zc_is hx hf a i)

theorem rs_is {x f : S512x1024.Idx → EReal} (hx : Is x X) (hf : Is f Fm) : Is (k0_pay7 (F := Ideal) x f) (fun a _ => rs 1024 lnEps (cen 1024 (mixR X Fm a))) := by
  intro a b
  pointwise [k0_pay7]
  exact rs_of eps_pos (var_is hx hf a b)

theorem hf_is {x f : S512x1024.Idx → EReal} (hx : Is x X) (hf : Is f Fm) : Is (k0_pay8 (F := Ideal) x f) (fun a _ => Norm.hf 1024 lnEps (cen 1024 (mixR X Fm a))) := by
  intro a b
  pointwise [k0_pay8]
  rw [neg_half]
  exact hf_of eps_pos (rs_is hx hf a b) (var_is hx hf a b)

theorem db_is {p : S512x1024.Idx → EReal} {s : S1x512x1024.Idx → EReal} (hp : Is p P) (hs : Is3 s (fun _ => S)) :
    Is (k0_pay9 (F := Ideal) p s) (fun _ j => ∑ r ∈ range 512, (P r j + alpha * S r j)) := by
  intro a b
  pointwise [k0_pay9]
  exact sum_of _ (fun r => P r b + alpha * S r b) (fun r => dy_is hp hs r b)

theorem dg_is {p : S512x1024.Idx → EReal} {s : S1x512x1024.Idx → EReal} {x f : S512x1024.Idx → EReal} (hp : Is p P) (hs : Is3 s (fun _ => S)) (hx : Is x X) (hf : Is f Fm) :
    Is (k0_pay10 (F := Ideal) p s x f) (fun _ j => ∑ r ∈ range 512, xh 1024 lnEps (mixR X Fm r) j * (P r j + alpha * S r j)) := by
  intro a b
  pointwise [k0_pay10]
  refine sum_of _ (fun r => xh 1024 lnEps (mixR X Fm r) b * (P r b + alpha * S r b)) (fun r => ?_)
  rw [zc_is hx hf r b, rs_is hx hf r 0, dy_is hp hs r b, ← EReal.coe_mul, ← EReal.coe_mul]
  rfl

theorem dz_is {p : S512x1024.Idx → EReal} {s : S1x512x1024.Idx → EReal} {x f : S512x1024.Idx → EReal} {g : S1x1024.Idx → EReal} (hp : Is p P) (hs : Is3 s (fun _ => S))
    (hx : Is x X) (hf : Is f Fm) (hg : Is g G) : Is (k0_pay11 (F := Ideal) (k0_pay4 p s) g (k0_pay5 x f) (k0_pay7 x f) (k0_pay8 x f))
      (fun a => lnR 1024 lnEps (mixR X Fm a) (fun l => (P a l + alpha * S a l) * G 0 l)) := by
  intro a b
  pointwise [k0_pay11]
  rw [n1024]
  simp only [Fin.sum_univ_one]
  exact lnK_of (by decide) (fun i => k0_pay4 (F := Ideal) p s (ix2 a i)) (fun i => g (ix2 0 i)) (fun i => k0_pay5 (F := Ideal) x f (ix2 a i)) (fun l => P a l + alpha * S a l) (G 0)
    (mixR X Fm a) (fun i => dy_is hp hs a i) (fun i => hg 0 i) (fun i => zc_is hx hf a i) (rs_is hx hf a 0) (hf_is hx hf a 0) b

theorem dz3_is {p : S512x1024.Idx → EReal} {s : S1x512x1024.Idx → EReal} {x f : S512x1024.Idx → EReal} {g : S1x1024.Idx → EReal} (hp : Is p P) (hs : Is3 s (fun _ => S))
    (hx : Is x X) (hf : Is f Fm) (hg : Is g G) : Is3 (k0_pay14 (F := Ideal) (k0_pay4 p s) g (k0_pay5 x f) (k0_pay7 x f) (k0_pay8 x f))
      (fun _ a => lnR 1024 lnEps (mixR X Fm a) (fun l => (P a l + alpha * S a l) * G 0 l)) := by
  intro o a b
  pointwise [k0_pay14]
  exact dz_is hp hs hx hf hg a b

theorem dzb_is {p : S512x1024.Idx → EReal} {s : S1x512x1024.Idx → EReal} {x f : S512x1024.Idx → EReal} {g : S1x1024.Idx → EReal} (hp : Is p P) (hs : Is3 s (fun _ => S))
    (hx : Is x X) (hf : Is f Fm) (hg : Is g G) : Is (k0_pay15 (F := Ideal) (k0_pay4 p s) g (k0_pay5 x f) (k0_pay7 x f) (k0_pay8 x f))
      (fun a => lnR 1024 lnEps (mixR X Fm a) (fun l => (P a l + alpha * S a l) * G 0 l)) := by
  intro a b
  pointwise [k0_pay15]
  exact dz_is hp hs hx hf hg a b

/-! ### The blocks a grid point reads -/

variable (m : (ℓ : Loc nD τ sig) → Buf (Elt Ideal) ℓ)

abbrev a0 (c : Dev nD) : S8192x1024.Idx → Ideal .f32 := m ((c.tc : Thread nD τ).loc main_arg0)
abbrev a1 (c : Dev nD) : S8192x1024.Idx → Ideal .f32 := m ((c.tc : Thread nD τ).loc main_arg1)
abbrev a2 (c : Dev nD) : S1x1024.Idx → Ideal .f32 := m ((c.tc : Thread nD τ).loc main_arg2)
abbrev a4 (c : Dev nD) : S1024x1024.Idx → Ideal .f32 := m ((c.tc : Thread nD τ).loc main_arg4)
abbrev a5 (c : Dev nD) : S8192x1024.Idx → Ideal .f32 := m ((c.tc : Thread nD τ).loc main_arg5)
abbrev a6 (c : Dev nD) : S8192x1024.Idx → Ideal .f32 := m ((c.tc : Thread nD τ).loc main_arg6)

/-- The arguments hold the numbers `A`. -/
structure ArgIs (A : Args) (c : Dev nD) : Prop where
  x : Is (a0 m c) A.x
  f : Is (a1 m c) A.f
  g : Is (a2 m c) A.g
  w : Is (a4 m c) A.w
  q : Is (a5 m c) A.q
  s : Is (a6 m c) A.s

variable {m} {A : Args} {c : Dev nD}

theorem read_q : (V m c main_v0 : S8192x1024.Idx → EReal) = a5 m c := by
  unfold V
  simp only [hostOps0, List.flatten_cons, List.flatten_nil, List.cons_append, List.nil_append, List.append_nil]
  after_reads_simp
  rfl

theorem read_w : (V m c main_v1 : S1024x1024.Idx → EReal) = a4 m c := by
  unfold V
  simp only [hostOps0, List.flatten_cons, List.flatten_nil, List.cons_append, List.nil_append, List.append_nil]
  after_reads_simp
  rfl

theorem read_s (o : Fin 1) (a : Fin 8192) (b : Fin 1024) : (V m c main_v2 : S1x8192x1024.Idx → EReal) (ix3 o a b) = a6 m c (ix2 a b) := by
  unfold V
  simp only [hostOps0, List.flatten_cons, List.flatten_nil, List.cons_append, List.nil_append, List.append_nil]
  after_reads_at
  try exact congrArg (a6 m c) (congrArg (ix2 · b) (Fin.ext (by dsimp only; omega)))

/-- The windows' index maps over the grid's points. -/
theorem idx0 : ∀ t : Fin cfg0.N, win0_0.index t = ![t.val, 0] ∧ win0_1.index t = ![0, 0] ∧ win0_2.index t = ![0, t.val, 0]
    ∧ win0_3.index t = ![t.val, 0] ∧ win0_4.index t = ![t.val, 0] ∧ win0_5.index t = ![0, 0] ∧ win0_7.index t = ![0, t.val, 0] ∧ win0_8.index t = ![t.val, 0]
    ∧ win0_9.index t = ![0, 0] ∧ win0_10.index t = ![0, 0] :=
  (by decide +kernel : ∀ t : Fin grid0.N, _)

theorem lt16 (t : Fin cfg0.N) : t.val < 16 := by have := t.isLt; have hN : cfg0.N = 16 := N_0; omega

theorem ldQ (H : ArgIs m A c) (t : Fin cfg0.N) : Is (iblk m c 0 t : S512x1024.Idx → EReal) (fun a => A.q (512 * t.val + a)) := by
  have ht := lt16 t
  intro a e
  obtain ⟨e0, -⟩ := idx0 t
  refine Eq.trans ?_ (H.q ⟨512 * t.val + a.val, by omega⟩ e)
  rw [← read_q]
  blk_ext [iblk, e0]

theorem ldW (H : ArgIs m A c) (t : Fin cfg0.N) : Is (iblk m c 1 t : S1024x1024.Idx → EReal) A.w := by
  intro a e
  obtain ⟨-, e0, -⟩ := idx0 t
  refine Eq.trans ?_ (H.w a e)
  rw [← read_w]
  blk_ext [iblk, e0]

theorem ldS (H : ArgIs m A c) (t : Fin cfg0.N) : Is3 (iblk m c 2 t : S1x512x1024.Idx → EReal) (fun _ a => A.s (512 * t.val + a)) := by
  have ht := lt16 t
  intro o a e
  obtain rfl := Fin.eq_zero o
  obtain ⟨-, -, e0, -⟩ := idx0 t
  refine Eq.trans ?_ (H.s ⟨512 * t.val + a.val, by omega⟩ e)
  rw [← read_s 0]
  blk_ext [iblk, e0]

theorem ldX (H : ArgIs m A c) (t : Fin cfg0.N) : Is (iblk m c 3 t : S512x1024.Idx → EReal) (fun a => A.x (512 * t.val + a)) := by
  have ht := lt16 t
  intro a e
  obtain ⟨-, -, -, e0, -⟩ := idx0 t
  refine Eq.trans ?_ (H.x ⟨512 * t.val + a.val, by omega⟩ e)
  blk_ext [iblk, V_main_arg0, e0]

theorem ldF (H : ArgIs m A c) (t : Fin cfg0.N) : Is (iblk m c 4 t : S512x1024.Idx → EReal) (fun a => A.f (512 * t.val + a)) := by
  have ht := lt16 t
  intro a e
  obtain ⟨-, -, -, -, e0, -⟩ := idx0 t
  refine Eq.trans ?_ (H.f ⟨512 * t.val + a.val, by omega⟩ e)
  blk_ext [iblk, V_main_arg1, e0]

theorem ldG (H : ArgIs m A c) (t : Fin cfg0.N) : Is (iblk m c 5 t : S1x1024.Idx → EReal) A.g := by
  intro a e
  obtain ⟨-, -, -, -, -, e0, -⟩ := idx0 t
  refine Eq.trans ?_ (H.g a e)
  blk_ext [iblk, V_main_arg2, e0]

/-! ### What a grid point stores -/

theorem ldP (H : ArgIs m A c) (t : Fin cfg0.N) : Is (k0_pay2 (F := Ideal) (iblk m c 0 t) (k0_pay1 (F := Ideal)) (iblk m c 1 t))
    (fun a j => 0 + ∑ l ∈ range 1024, A.q (512 * t.val + a) l * A.w j l) := acc_is zero_is (ldQ H t) (ldW H t)

/-- The norm input's gradient in a grid point's rows. -/
theorem dz_tile (H : ArgIs m A c) (t : Fin cfg0.N) (o : Fin 1) (a : Fin 512) (b : Fin 1024) :
    (k0_pay14 (F := Ideal) (k0_pay4 (k0_pay2 (iblk m c 0 t) (k0_pay1 (F := Ideal)) (iblk m c 1 t)) (iblk m c 2 t)) (iblk m c 5 t) (k0_pay5 (iblk m c 3 t) (iblk m c 4 t))
      (k0_pay7 (iblk m c 3 t) (iblk m c 4 t)) (k0_pay8 (iblk m c 3 t) (iblk m c 4 t)) (ix3 o a b) : EReal) = ((A.dz (512 * t.val + a.val) b.val : ℝ) : EReal) := by
  refine (dz3_is (ldP H t) (ldS H t) (ldX H t) (ldF H t) (ldG H t) o a b).trans ?_
  simp only [zero_add]
  rfl

theorem dzb_tile (H : ArgIs m A c) (t : Fin cfg0.N) (a : Fin 512) (b : Fin 1024) :
    (k0_pay15 (F := Ideal) (k0_pay4 (k0_pay2 (iblk m c 0 t) (k0_pay1 (F := Ideal)) (iblk m c 1 t)) (iblk m c 2 t)) (iblk m c 5 t) (k0_pay5 (iblk m c 3 t) (iblk m c 4 t))
      (k0_pay7 (iblk m c 3 t) (iblk m c 4 t)) (k0_pay8 (iblk m c 3 t) (iblk m c 4 t)) (ix2 a b) : EReal) = ((A.dz (512 * t.val + a.val) b.val : ℝ) : EReal) := by
  refine (dzb_is (ldP H t) (ldS H t) (ldX H t) (ldF H t) (ldG H t) a b).trans ?_
  simp only [zero_add]
  rfl

/-- What a grid point adds to the gains' and to the offsets' gradient. -/
abbrev gTerm (A : Args) (t j : ℕ) : EReal := ((∑ r ∈ range 512, A.dgAt j (512 * t + r) : ℝ) : EReal)
abbrev bTerm (A : Args) (t j : ℕ) : EReal := ((∑ r ∈ range 512, A.dy (512 * t + r) j : ℝ) : EReal)

theorem dg_tile (H : ArgIs m A c) (t : Fin cfg0.N) (P : S1x1024.Idx → EReal) (o : Fin 1) (b : Fin 1024) :
    (k0_pay16 (F := Ideal) (k0_pay10 (k0_pay2 (iblk m c 0 t) (k0_pay1 (F := Ideal)) (iblk m c 1 t)) (iblk m c 2 t) (iblk m c 3 t) (iblk m c 4 t)) P (ix2 o b) : EReal)
      = P (ix2 o b) + gTerm A t.val b.val := by
  pointwise [k0_pay16]
  refine congrArg (_ + ·) ((dg_is (ldP H t) (ldS H t) (ldX H t) (ldF H t) _ b).trans ?_)
  simp only [zero_add]
  rfl

theorem db_tile (H : ArgIs m A c) (t : Fin cfg0.N) (P : S1x1024.Idx → EReal) (o : Fin 1) (b : Fin 1024) :
    (k0_pay3 (F := Ideal) (k0_pay9 (k0_pay2 (iblk m c 0 t) (k0_pay1 (F := Ideal)) (iblk m c 1 t)) (iblk m c 2 t)) P (ix2 o b) : EReal)
      = P (ix2 o b) + bTerm A t.val b.val := by
  pointwise [k0_pay3]
  refine congrArg (_ + ·) ((db_is (ldP H t) (ldS H t) _ b).trans ?_)
  simp only [zero_add]
  rfl

/-! ### The result arrays after the run -/

theorem final7 (H : ArgIs m A c) : Is3 ((dats m 0 c).arrAt 7 cfg0.N : S1x8192x1024.Idx → EReal) (fun _ => A.dz) := by
  have e : ((dats m 0 c).arrAt 7 cfg0.N : S1x8192x1024.Idx → EReal) = fun j : S1x8192x1024.Idx => ((A.dz (j 1).val (j 2).val : ℝ) : EReal) := by
    refine (dats m 0 c).arrAt_eq_of_covers 7 _ (by decide +kernel) fun t hf y => ?_
    obtain ⟨-, -, -, -, -, -, e0, -⟩ := idx0 t
    have key : (outsAt0 m c t.val t.isLt).1 = fun y : S1x512x1024.Idx => ((A.dz (512 * t.val + (y 1).val) (y 2).val : ℝ) : EReal) := by
      funext y
      idx_vars y
      by_cases h0 : t.val % 16 = 0
      · rw [outsAt0_A m c t h0]
        frame_open
        simp (disch := decide) only [↓ View.readCov_skip, ↓ View.readCov_cons_toLoadRect, ↓ View.readCov_fill, readCov_whole]
        frame_out
        exact dz_tile H t _ _ _
      · rw [outsAt0_B m c t h0]
        frame_open
        simp (disch := decide) only [↓ View.readCov_skip, ↓ View.readCov_cons_toLoadRect, ↓ View.readCov_fill, readCov_whole]
        frame_out
        exact dz_tile H t _ _ _
    blk_simp [e0]
    rw [after0_7, key]
    simp only [Nat.mul_comm t.val 512]
  intro o a b
  exact congrFun e (ix3 o a b)

theorem final8 (H : ArgIs m A c) : Is ((dats m 0 c).arrAt 8 cfg0.N : S8192x1024.Idx → EReal) A.dz := by
  have e : ((dats m 0 c).arrAt 8 cfg0.N : S8192x1024.Idx → EReal) = fun j : S8192x1024.Idx => ((A.dz (j 0).val (j 1).val : ℝ) : EReal) := by
    refine (dats m 0 c).arrAt_eq_of_covers 8 _ (by decide +kernel) fun t hf y => ?_
    obtain ⟨-, -, -, -, -, -, -, e0, -⟩ := idx0 t
    have key : (outsAt0 m c t.val t.isLt).2.1 = fun y : S512x1024.Idx => ((A.dz (512 * t.val + (y 0).val) (y 1).val : ℝ) : EReal) := by
      funext y
      idx_vars y
      by_cases h0 : t.val % 16 = 0
      · rw [outsAt0_A m c t h0]
        frame_open
        simp (disch := decide) only [↓ View.readCov_skip, ↓ View.readCov_cons_toLoadRect, ↓ View.readCov_fill, readCov_whole]
        frame_out
        exact dzb_tile H t _ _
      · rw [outsAt0_B m c t h0]
        frame_open
        simp (disch := decide) only [↓ View.readCov_skip, ↓ View.readCov_cons_toLoadRect, ↓ View.readCov_fill, readCov_whole]
        frame_out
        exact dzb_tile H t _ _
    blk_simp [e0]
    rw [after0_8, key]
    simp only [Nat.mul_comm t.val 512]
  intro a b
  exact congrFun e (ix2 a b)

theorem stepA9 (H : ArgIs m A c) (t : Fin cfg0.N) (h0 : t.val % 16 = 0) (o : Fin 1) (b : Fin 1024) : (outsAt0 m c t.val t.isLt).2.2.1 (ix2 o b) = 0 + gTerm A t.val b.val := by
  rw [outsAt0_A m c t h0]
  frame_open
  simp (disch := decide) only [↓ View.readCov_skip, ↓ View.readCov_cons_toLoadRect, ↓ View.readCov_fill, readCov_whole]
  frame_out
  refine (dg_tile H t _ o b).trans (congrArg (· + _) ?_)
  pointwise [k0_pay12]

theorem stepB9 (H : ArgIs m A c) (t : Fin cfg0.N) (h0 : ¬ t.val % 16 = 0) (o : Fin 1) (b : Fin 1024) : (outsAt0 m c t.val t.isLt).2.2.1 (ix2 o b)
    = (outsAt0 m c (t.val - 1) (by omega)).2.2.1 (ix2 o b) + gTerm A t.val b.val := by
  rw [outsAt0_B m c t h0]
  frame_open
  simp (disch := decide) only [↓ View.readCov_skip, ↓ View.readCov_cons_toLoadRect, ↓ View.readCov_fill, readCov_whole]
  frame_out
  exact dg_tile H t _ o b

theorem stepA10 (H : ArgIs m A c) (t : Fin cfg0.N) (h0 : t.val % 16 = 0) (o : Fin 1) (b : Fin 1024) : (outsAt0 m c t.val t.isLt).2.2.2 (ix2 o b) = 0 + bTerm A t.val b.val := by
  rw [outsAt0_A m c t h0]
  frame_open
  simp (disch := decide) only [↓ View.readCov_skip, ↓ View.readCov_cons_toLoadRect, ↓ View.readCov_fill, readCov_whole]
  frame_out
  refine (db_tile H t _ o b).trans (congrArg (· + _) ?_)
  pointwise [k0_pay13]

theorem stepB10 (H : ArgIs m A c) (t : Fin cfg0.N) (h0 : ¬ t.val % 16 = 0) (o : Fin 1) (b : Fin 1024) : (outsAt0 m c t.val t.isLt).2.2.2 (ix2 o b)
    = (outsAt0 m c (t.val - 1) (by omega)).2.2.2 (ix2 o b) + bTerm A t.val b.val := by
  rw [outsAt0_B m c t h0]
  frame_open
  simp (disch := decide) only [↓ View.readCov_skip, ↓ View.readCov_cons_toLoadRect, ↓ View.readCov_fill, readCov_whole]
  frame_out
  exact db_tile H t _ o b

/-- The last grid point. -/
def last : Fin cfg0.N := ⟨15, lt_of_lt_of_eq (by decide) (show 16 = cfg0.N from N_0.symm)⟩

theorem final9 (H : ArgIs m A c) : Is ((dats m 0 c).arrAt 9 cfg0.N : S1x1024.Idx → EReal) (fun _ j => ∑ r ∈ range 8192, A.dgAt j r) := by
  have e : ((dats m 0 c).arrAt 9 cfg0.N : S1x1024.Idx → EReal) = fun j : S1x1024.Idx => ((∑ r ∈ range 8192, A.dgAt (j 1).val r : ℝ) : EReal) := by
    refine (dats m 0 c).arrAt_eq_of_after_last 9 last (by decide +kernel) _ fun j => ?_
    idx_vars j
    rw [after0_9]
    exact (Pipeline.eq_sum_fin_of_reset_step_apply_last (fun n h => (outsAt0 m c n h).2.2.1) 16 (fun _ => 0) (fun t i => gTerm A t.val (i 1).val)
      (fun t h i => by idx_vars i; exact stepA9 H t h _ _) (fun t h i => by idx_vars i; exact stepB9 H t h _ _) (by decide) last rfl _).trans (blocks_sum 16 512 8192 (by norm_num) _)
  intro a b
  exact congrFun e (ix2 a b)

theorem final10 (H : ArgIs m A c) : Is ((dats m 0 c).arrAt 10 cfg0.N : S1x1024.Idx → EReal) (fun _ j => ∑ r ∈ range 8192, A.dy r j) := by
  have e : ((dats m 0 c).arrAt 10 cfg0.N : S1x1024.Idx → EReal) = fun j : S1x1024.Idx => ((∑ r ∈ range 8192, A.dy r (j 1).val : ℝ) : EReal) := by
    refine (dats m 0 c).arrAt_eq_of_after_last 10 last (by decide +kernel) _ fun j => ?_
    idx_vars j
    rw [after0_10]
    exact (Pipeline.eq_sum_fin_of_reset_step_apply_last (fun n h => (outsAt0 m c n h).2.2.2) 16 (fun _ => 0) (fun t i => bTerm A t.val (i 1).val)
      (fun t h i => by idx_vars i; exact stepA10 H t h _ _) (fun t h i => by idx_vars i; exact stepB10 H t h _ _) (by decide) last rfl _).trans
      (blocks_sum 16 512 8192 (by norm_num) (fun r => A.dy r _))
  intro a b
  exact congrFun e (ix2 a b)

end Cert.Ln2BwdIdeal.Hand

end

end
-- ==== Proof.Ln2Ref.lean ====
/-
  The derivative of the plain second layer norm, with the product before it, on finite arguments, as real numbers.
-/
module

public import proofs.«01_k».proof.Proof.Ln2Kernel
public import proofs.«01_k».proof.Proof.SbRef
public import proofs.«01_k».proof.Proof.Gen.Ln2RefIdeal.Read

@[expose] public section

set_option maxRecDepth 16384

noncomputable section

namespace Cert.Ln2RefIdeal.Hand

open Cert.Sb Cert.Norm Cert.Ffn Cert.Ln2 Cert.Ln2RefIdeal Cert.Ln2RefIdeal.Read Idealize.ShloMosaic Idealize.ShloMosaic.TcCoe Finset

variable {A : Args} {x0 x1 x5 x6 : S8192x1024.Idx → Ideal .f32} {x2 : S1x1024.Idx → Ideal .f32} {x4 : S1024x1024.Idx → Ideal .f32}

/-- The norm's input. -/
theorem z_is (h0 : Is x0 A.x) (h1 : Is x1 A.f) : Is (val_main_v2 (F := Ideal) x0 x1) (mixR A.x A.f) := by
  intro r j
  pointwise [val_main_v2, val_main_v1, val_main_v0, val_main_cst]
  rw [alpha_bits]
  exact mix_of (h0 r j) (h1 r j)

theorem zc_is (h0 : Is x0 A.x) (h1 : Is x1 A.f) : Is (val_main_v8 (F := Ideal) x0 x1) (fun r => cen 1024 (mixR A.x A.f r)) := by
  intro r j
  pointwise [val_main_v8, val_main_v7, val_main_v6, val_main_v5, val_main_cst_1, val_main_v4, val_main_v3, val_main_cst_0]
  rw [n1024]
  exact cen_of (by decide) (fun i => val_main_v2 (F := Ideal) x0 x1 (ix2 r i)) (mixR A.x A.f r) (fun i => z_is h0 h1 r i) j

theorem zc2_is (h0 : Is x0 A.x) (h1 : Is x1 A.f) : Is (val_main_v17 (F := Ideal) x0 x1) (fun r => cen 1024 (mixR A.x A.f r)) := zc_is h0 h1

theorem var_is (h0 : Is x0 A.x) (h1 : Is x1 A.f) : Is (val_main_v19 (F := Ideal) x0 x1) (fun r _ => vr 1024 lnEps (cen 1024 (mixR A.x A.f r))) := by
  intro r j
  pointwise [val_main_v19, val_main_v18, val_main_cst_5, val_main_v15, val_main_v14, val_main_cst_4, val_main_v13, val_main_v12, val_main_cst_3, val_main_v9]
  rw [n1024, eps_bits]
  exact vr_of (by decide) lnEps (fun i => val_main_v8 (F := Ideal) x0 x1 (ix2 r i)) _ (fun i => zc_is h0 h1 r i)

theorem rs_is (h0 : Is x0 A.x) (h1 : Is x1 A.f) : Is (val_main_v20 (F := Ideal) x0 x1) (fun r _ => rs 1024 lnEps (cen 1024 (mixR A.x A.f r))) := by
  intro r j
  pointwise [val_main_v20]
  exact rs_of eps_pos (var_is h0 h1 r j)

theorem hf_is (h0 : Is x0 A.x) (h1 : Is x1 A.f) : Is (val_main_v23 (F := Ideal) x0 x1) (fun r _ => Norm.hf 1024 lnEps (cen 1024 (mixR A.x A.f r))) := by
  intro r j
  pointwise [val_main_v23, val_main_v22, val_main_cst_6, val_main_v21]
  rw [neg_half]
  exact hf_of eps_pos (rs_is h0 h1 r j) (var_is h0 h1 r j)

theorem xh_is (h0 : Is x0 A.x) (h1 : Is x1 A.f) : Is (val_main_v25 (F := Ideal) x0 x1) (fun r => xh 1024 lnEps (mixR A.x A.f r)) := by
  intro r j
  pointwise [val_main_v25, val_main_v24]
  rw [zc2_is h0 h1 r j, rs_is h0 h1 r 0, ← EReal.coe_mul]
  rfl

/-- The gradient of the normed rows. -/
theorem dy_is (h4 : Is x4 A.w) (h5 : Is x5 A.q) (h6 : Is x6 A.s) : Is (val_main_v36 (F := Ideal) x4 x5 x6) A.dy := by
  intro r j
  pointwise [val_main_v36, val_main_v34, val_main_v33, val_main_cst_9, val_main_cst_8, val_main_v35]
  rw [alpha_bits, h6 r j, dot_of _ _ (fun l => A.q r l) (fun l => A.w j l) (fun l => h5 r l) (fun l => h4 j l), ← EReal.coe_mul, ← EReal.coe_add, add_comm]
  rfl

theorem db_is (h4 : Is x4 A.w) (h5 : Is x5 A.q) (h6 : Is x6 A.s) : Is (val_main_v38 (F := Ideal) x4 x5 x6) (fun _ j => ∑ r ∈ range 8192, A.dy r j) := by
  intro o j
  pointwise [val_main_v38, val_main_v37, val_main_cst_9]
  exact sum_of _ (fun r => A.dy r j) (fun r => dy_is h4 h5 h6 r j)

theorem dg_is (h0 : Is x0 A.x) (h1 : Is x1 A.f) (h4 : Is x4 A.w) (h5 : Is x5 A.q) (h6 : Is x6 A.s) :
    Is (val_main_v41 (F := Ideal) x0 x1 x4 x5 x6) (fun _ j => ∑ r ∈ range 8192, A.dgAt j r) := by
  intro o j
  pointwise [val_main_v41, val_main_v40, val_main_cst_10, val_main_v39]
  exact dot_of _ _ (fun r => xh 1024 lnEps (mixR A.x A.f r) j) (fun r => A.dy r j) (fun r => xh_is h0 h1 r j) (fun r => dy_is h4 h5 h6 r j)

/-- The gradient before the gains. -/
theorem t_is (h2 : Is x2 A.g) (h4 : Is x4 A.w) (h5 : Is x5 A.q) (h6 : Is x6 A.s) : Is (val_main_v43 (F := Ideal) x2 x4 x5 x6) (fun r l => A.dy r l * A.g 0 l) := by
  intro r j
  pointwise [val_main_v43, val_main_v42]
  rw [dy_is h4 h5 h6 r j, h2 0 j, ← EReal.coe_mul]
  rfl

section
variable (h0 : Is x0 A.x) (h1 : Is x1 A.f) (h2 : Is x2 A.g) (h4 : Is x4 A.w) (h5 : Is x5 A.q) (h6 : Is x6 A.s)
include h0 h1 h2 h4 h5 h6

theorem sq_is : Is (val_main_v56 (F := Ideal) x0 x1 x2 x4 x5 x6) (fun r _ => Norm.sq 1024 lnEps (cen 1024 (mixR A.x A.f r)) (fun l => A.dy r l * A.g 0 l)) := by
  intro r j
  pointwise [val_main_v56, val_main_v55, val_main_cst_14, val_main_v54, val_main_v53, val_main_cst_13, val_main_v49, val_main_v46, val_main_v45, val_main_cst_11, val_main_v44]
  rw [n1024]
  simp only [Fin.sum_univ_one]
  exact sq_of (by decide) (fun i => val_main_v17 (F := Ideal) x0 x1 (ix2 r i)) (fun i => val_main_v43 (F := Ideal) x2 x4 x5 x6 (ix2 r i)) _ _ (fun i => zc2_is h0 h1 r i)
    (fun i => t_is h2 h4 h5 h6 r i) (hf_is h0 h1 r 0)

theorem p_is : Is (val_main_v48 (F := Ideal) x0 x1 x2 x4 x5 x6) (fun r j => A.dy r j * A.g 0 j * rs 1024 lnEps (cen 1024 (mixR A.x A.f r))) := by
  intro r j
  pointwise [val_main_v48, val_main_v47]
  rw [t_is h2 h4 h5 h6 r j, rs_is h0 h1 r 0, ← EReal.coe_mul]

theorem q_is : Is (val_main_v57 (F := Ideal) x0 x1 x2 x4 x5 x6)
    (fun r j => Norm.sq 1024 lnEps (cen 1024 (mixR A.x A.f r)) (fun l => A.dy r l * A.g 0 l) * (2 * cen 1024 (mixR A.x A.f r) j)) := by
  intro r j
  pointwise [val_main_v57, val_main_v11, val_main_v10, val_main_cst_2]
  rw [sq_is h0 h1 h2 h4 h5 h6 r j, two_bits, zc_is h0 h1 r j, ← EReal.coe_mul, ← EReal.coe_mul]

theorem dz_is : Is (val_main_v67 (F := Ideal) x0 x1 x2 x4 x5 x6) A.dz := by
  intro r j
  pointwise [val_main_v67, val_main_v66, val_main_v65, val_main_cst_17, val_main_v64, val_main_v63, val_main_cst_16, val_main_v62, val_main_v60, val_main_v59, val_main_cst_15,
    val_main_v58, val_main_v52, val_main_v51, val_main_cst_12, val_main_v50, val_main_v61]
  rw [n1024]
  simp only [Fin.sum_univ_one]
  exact ln2_of (by decide) (fun i => val_main_v48 (F := Ideal) x0 x1 x2 x4 x5 x6 (ix2 r i)) (fun i => val_main_v57 (F := Ideal) x0 x1 x2 x4 x5 x6 (ix2 r i)) (mixR A.x A.f r)
    (fun l => A.dy r l * A.g 0 l) (fun i => p_is h0 h1 h2 h4 h5 h6 r i) (fun i => q_is h0 h1 h2 h4 h5 h6 r i) j

theorem dz3_is : Is3 (val_main_v68 (F := Ideal) x0 x1 x2 x4 x5 x6) (fun _ => A.dz) := by
  intro o r j
  pointwise [val_main_v68]
  exact dz_is h0 h1 h2 h4 h5 h6 r j

theorem dzb_is : Is (val_main_v69 (F := Ideal) x0 x1 x2 x4 x5 x6) A.dz := by
  intro r j
  pointwise [val_main_v69]
  exact dz_is h0 h1 h2 h4 h5 h6 r j

end

end Cert.Ln2RefIdeal.Hand

end

end
-- ==== Proof.Finite.lean ====
/-
  The test that an array is finite, at any two sizes, and what passing it means.
-/
module

public import proofs.«01_k».proof.Proof.SbFinite

@[expose] public section

noncomputable section

namespace Cert.Norm

open Idealize.ShloMosaic Cert.Grad Cert.Sb

/-- The one element a test yields. -/
abbrev unit : Shape := ⟨0, ![]⟩

/-- The test that every element's magnitude is below infinity. -/
def ok {R C : ℕ} (x : FVec Ideal ⟨2, ![R, C]⟩ .f32) (hb : unit.BroadcastsInDim ⟨2, ![R, C]⟩ (![] : Fin 0 → Fin 2))
    (hr : (⟨2, ![R, C]⟩ : Shape).ReducesTo [0, 1] unit) (hu : 0 < unit.numel) : IVec unit 1 :=
  Host.reduce IntOp.andi (cmpf .olt (Host.absf x) (broadcastInDim ⟨2, ![R, C]⟩ ![] hb (constant unit .f32 0x7F800000#32))) (constantI unit 1 1#1) hr hu

/-- The numbers of an array. -/
abbrev num {R C : ℕ} (x : FVec Ideal ⟨2, ![R, C]⟩ .f32) : ℕ → ℕ → ℝ := fun a b => (rd x a b).toReal

/-- An array that passes holds its numbers. -/
theorem is_of_ok {R C : ℕ} {x : FVec Ideal ⟨2, ![R, C]⟩ .f32} {hb hr hu} {i : unit.Idx} (h : ok x hb hr hu i = 1#1) : Is x (num x) :=
  Pre_sb_finite.real_of_test x hb hr hu i h

end Cert.Norm

end

end
-- ==== Proof.Ln2Finite.lean ====
/-
  The second layer norm's finite arguments are arrays of reals.
-/
module

public import proofs.«01_k».proof.Pre_ln2_finite
public import proofs.«01_k».proof.Proof.Finite

@[expose] public section

set_option maxRecDepth 16384

noncomputable section

namespace Cert.Pre_ln2_finite

open Idealize.ShloMosaic Cert.Norm Cert.Sb

/-- The side conditions of the predicate's operations. -/
instance facts : Facts where
  bcast_S_S8192x1024 := by decide
  reducesTo_S8192x1024_S_d0_1 := by decide
  h_S_ := by decide
  bcast_S_S1x1024 := by decide
  reducesTo_S1x1024_S_d0_1 := by decide
  bcast_S_S1024x1024 := by decide
  reducesTo_S1024x1024_S_d0_1 := by decide

variable [Facts]
open Facts

/-- Arguments that pass are arrays of reals. -/
theorem reals (x0 x1 : FVec Ideal S8192x1024 .f32) (x2 x3 : FVec Ideal S1x1024 .f32) (x4 : FVec Ideal S1024x1024 .f32) (x5 x6 : FVec Ideal S8192x1024 .f32)
    (h : fn (F := Ideal) x0 x1 x2 x3 x4 x5 x6 = fun _ => 1#1) :
    Is x0 (num x0) ∧ Is x1 (num x1) ∧ Is x2 (num x2) ∧ Is x4 (num x4) ∧ Is x5 (num x5) ∧ Is x6 (num x6) := by
  let i : S_.Idx := fun k => k.elim0
  have e : IntOp.andi (IntOp.andi (IntOp.andi (IntOp.andi (IntOp.andi (ok x0 bcast_S_S8192x1024 reducesTo_S8192x1024_S_d0_1 h_S_ i)
      (ok x1 bcast_S_S8192x1024 reducesTo_S8192x1024_S_d0_1 h_S_ i)) (ok x2 bcast_S_S1x1024 reducesTo_S1x1024_S_d0_1 h_S_ i))
      (ok x4 bcast_S_S1024x1024 reducesTo_S1024x1024_S_d0_1 h_S_ i)) (ok x5 bcast_S_S8192x1024 reducesTo_S8192x1024_S_d0_1 h_S_ i))
      (ok x6 bcast_S_S8192x1024 reducesTo_S8192x1024_S_d0_1 h_S_ i) = 1#1 := congrFun h i
  obtain ⟨e, h6⟩ := IntOp.andi_eq_one.1 e
  obtain ⟨e, h5⟩ := IntOp.andi_eq_one.1 e
  obtain ⟨e, h4⟩ := IntOp.andi_eq_one.1 e
  obtain ⟨e, h2⟩ := IntOp.andi_eq_one.1 e
  obtain ⟨h0, h1⟩ := IntOp.andi_eq_one.1 e
  exact ⟨is_of_ok h0, is_of_ok h1, is_of_ok h2, is_of_ok h4, is_of_ok h5, is_of_ok h6⟩

end Cert.Pre_ln2_finite

end

end
-- ==== Proof.Ln2Value.lean ====
/-
  The gradient kernel of the second layer norm equals the derivative of the plain norm and product, at finite arguments.
-/
module

public import proofs.«01_k».proof.Defs
public import proofs.«01_k».proof.Proof.Ln2Ref
public import proofs.«01_k».proof.Proof.Ln2Finite
public import proofs.«01_k».proof.Proof.CrossValue
public import proofs.«01_k».proof.Proof.Gen.Ln2RefIdeal.Run

@[expose] public section

set_option maxRecDepth 16384

noncomputable section

namespace Cert.Ln2

open Cert.Sb Cert.Grad Idealize.ShloMosaic Idealize.ShloMosaic.TcCoe Idealize.SL.Sem

/-- The reference runs and keeps its arguments. -/
theorem frame_ref : Cert.quiescent_Ln2RefIdeal := fun m ρ _ =>
  (θ_run Cert.Ln2RefIdeal.defs _ _).mono (fun r h => ⟨fun c => (h c).2.2.2.2, sem_eq_zero_of_no_sems (by decide) r.2⟩)
    (Cert.Ln2RefIdeal.Value.run m ρ)

/-- The gradient kernel's four results are the derivative's. -/
theorem value [Cert.Pre_ln2_finite.Facts] : Cert.algebraic_Ln2BwdIdeal_Ln2RefIdeal_pre_ln2_finite := by
  intro m g m' g' hpre hagree
  have hA : ∀ c, ∃ A : Args, Cert.Ln2BwdIdeal.Hand.ArgIs m A c := fun c => by
    obtain ⟨h0, h1, h2, h4, h5, h6⟩ := Cert.Pre_ln2_finite.reals _ _ _ _ _ _ _ (hpre c)
    exact ⟨⟨_, _, _, _, _, _⟩, ⟨h0, h1, h2, h4, h5, h6⟩⟩
  choose A hA using hA
  refine ⟨fun c => (Cert.Ln2BwdIdeal.Gen.dats m 0 c).arrAt 7 Cert.Ln2BwdIdeal.cfg0.N, fun c => (Cert.Ln2BwdIdeal.Gen.dats m 0 c).arrAt 8 Cert.Ln2BwdIdeal.cfg0.N,
    fun c => (Cert.Ln2BwdIdeal.Gen.dats m 0 c).arrAt 9 Cert.Ln2BwdIdeal.cfg0.N, fun c => (Cert.Ln2BwdIdeal.Gen.dats m 0 c).arrAt 10 Cert.Ln2BwdIdeal.cfg0.N,
    Cert.Ln2BwdIdeal.Value.run_blocks (F := Ideal) m g, (θ_run Cert.Ln2RefIdeal.defs _ _).mono (fun r h c => ?_) (Cert.Ln2RefIdeal.Value.run m' g')⟩
  obtain ⟨h1, h2, h3, h4, h5⟩ := h c
  obtain ⟨a0, a1, a2, a3, a4, a5, a6⟩ := hagree c
  rw [Cert.Ln2RefIdeal.Read.val_main_v68_eq, a0, a1, a2, a4, a5, a6] at h1
  rw [Cert.Ln2RefIdeal.Read.val_main_v69_eq, a0, a1, a2, a4, a5, a6] at h2
  rw [Cert.Ln2RefIdeal.Read.val_main_v41_eq, a0, a1, a4, a5, a6] at h3
  rw [Cert.Ln2RefIdeal.Read.val_main_v38_eq, a4, a5, a6] at h4
  obtain ⟨b0, b1, b2, b4, b5, b6⟩ := hA c
  exact ⟨h1.trans (Cert.Cross.ext3 (Cert.Ln2RefIdeal.Hand.dz3_is b0 b1 b2 b4 b5 b6) (Cert.Ln2BwdIdeal.Hand.final7 (hA c))),
    h2.trans (Cert.Cross.ext2 (Cert.Ln2RefIdeal.Hand.dzb_is b0 b1 b2 b4 b5 b6) (Cert.Ln2BwdIdeal.Hand.final8 (hA c))),
    h3.trans (Cert.Cross.ext2 (Cert.Ln2RefIdeal.Hand.dg_is b0 b1 b4 b5 b6) (Cert.Ln2BwdIdeal.Hand.final9 (hA c))),
    h4.trans (Cert.Cross.ext2 (Cert.Ln2RefIdeal.Hand.db_is b4 b5 b6) (Cert.Ln2BwdIdeal.Hand.final10 (hA c))), h5⟩

end Cert.Ln2

end

end
-- ==== Proof.Ln1Kernel.lean ====
/-
  The gradient of the first layer norm, with the product with the input projection before it, on finite arguments: what the kernel's
  result arrays hold after the run, as real numbers.
-/
module

public import proofs.«01_k».proof.Proof.Norm
public import proofs.«01_k».proof.Proof.SbWindow
public import proofs.«01_k».proof.Proof.Gen.Ln1BwdIdeal.Value
public import Idealize.ShloMosaic.Lib.StableHlo.ReadAt
public import Idealize.ShloMosaic.Lib.Claim

@[expose] public section

set_option maxRecDepth 16384

noncomputable section

namespace Cert.Ln1

open Cert.Norm Cert.Ffn Finset

/-- The arguments' numbers: the two summands of the norm's input, the gains, the projection, the gradients that reach the normed rows
    through the projection's five parts and past it. -/
structure Args where
  x : ℕ → ℕ → ℝ
  f : ℕ → ℕ → ℝ
  g : ℕ → ℕ → ℝ
  w : ℕ → ℕ → ℝ
  p : ℕ → ℕ → ℕ → ℝ
  s : ℕ → ℕ → ℝ

namespace Args

variable (A : Args)

/-- The norm's input. -/
def z (r j : ℕ) : ℝ := alpha * A.x r j + 1 / 2 * A.f r j

/-- What part `k` adds to the gradient of the normed rows. -/
def part (k r j : ℕ) : ℝ := ∑ l ∈ range 512, A.p k r l * A.w j (512 * k + l)

/-- The gradient of the normed rows. -/
def dy (r j : ℕ) : ℝ := alpha * A.s r j + A.part 0 r j + A.part 1 r j + A.part 2 r j + A.part 3 r j + A.part 4 r j

/-- The gradient of the norm's input. -/
def dz (r j : ℕ) : ℝ := lnR 1024 lnEps (A.z r) (fun l => A.dy r l * A.g 0 l) j

/-- A row's term of the gains' gradient. -/
def dgAt (j r : ℕ) : ℝ := xh 1024 lnEps (A.z r) j * A.dy r j

end Args

end Cert.Ln1

namespace Cert.Ln1BwdIdeal.Hand

open Cert.Sb Cert.Norm Cert.Ffn Cert.Ln1 Cert.Ln1BwdIdeal Cert.Ln1BwdIdeal.Gen Idealize.ShloMosaic Idealize.ShloMosaic.TcCoe Idealize.SL.Sem Finset Idealize.ShloMosaic.StableHlo
open Idealize.ShloMosaic.Pipeline (Dat)

/-! ### One tile of rows -/

variable {X Fm G D S : ℕ → ℕ → ℝ}

/-- The gradient of the normed rows, from five parts and as many windows of the projection. -/
theorem dy_is {s : S256x1024.Idx → EReal} {p0 p1 p2 p3 p4 : S256x512.Idx → EReal} {w0 w1 w2 w3 w4 : S512x1024.Idx → EReal} {P W : ℕ → ℕ → ℕ → ℝ} (hs : Is s S)
    (h0 : Is p0 (P 0)) (h1 : Is p1 (P 1)) (h2 : Is p2 (P 2)) (h3 : Is p3 (P 3)) (h4 : Is p4 (P 4))
    (k0 : Is w0 (W 0)) (k1 : Is w1 (W 1)) (k2 : Is w2 (W 2)) (k3 : Is w3 (W 3)) (k4 : Is w4 (W 4)) :
    Is (k0_pay10 (F := Ideal) (k0_pay7 s p0 w0 p1 w1 p2 w2 p3 w3) (k0_pay8 p4) (k0_pay9 w4) (constant S256x1024 .f32 0x00000000#32))
      (fun a j => alpha * S a j + (∑ l ∈ range 512, P 0 a l * W 0 l j) + (∑ l ∈ range 512, P 1 a l * W 1 l j) + (∑ l ∈ range 512, P 2 a l * W 2 l j)
        + (∑ l ∈ range 512, P 3 a l * W 3 l j) + ∑ l ∈ range 512, P 4 a l * W 4 l j) := by
  intro a b
  pointwise [k0_pay10, k0_pay7, k0_pay8, k0_pay9]
  rw [alpha_bits, hs a b, dot_of _ _ (fun l => P 0 a l) (fun l => W 0 l b) (fun l => h0 a l) (fun l => k0 l b),
    dot_of _ _ (fun l => P 1 a l) (fun l => W 1 l b) (fun l => h1 a l) (fun l => k1 l b), dot_of _ _ (fun l => P 2 a l) (fun l => W 2 l b) (fun l => h2 a l) (fun l => k2 l b),
    dot_of _ _ (fun l => P 3 a l) (fun l => W 3 l b) (fun l => h3 a l) (fun l => k3 l b), dot_of _ _ (fun l => P 4 a l) (fun l => W 4 l b) (fun l => h4 a l) (fun l => k4 l b),
    ← EReal.coe_mul, ← EReal.coe_add, ← EReal.coe_add, ← EReal.coe_add, ← EReal.coe_add, ← EReal.coe_add]

/-- The norm's input. -/
abbrev inp (X Fm : ℕ → ℕ → ℝ) (r j : ℕ) : ℝ := alpha * X r j + 1 / 2 * Fm r j

theorem zc_is {x f : S256x1024.Idx → EReal} (hx : Is x X) (hf : Is f Fm) : Is (k0_pay11 (F := Ideal) x f) (fun a => cen 1024 (inp X Fm a)) := by
  intro a b
  pointwise [k0_pay11]
  rw [alpha_bits, n1024, half_bits]
  exact cen_of (by decide) (fun i => ((alpha : ℝ) : EReal) * x (ix2 a i) + ((1 / 2 : ℝ) : EReal) * f (ix2 a i)) (inp X Fm a)
    (fun i => by rw [hx a i, hf a i, ← EReal.coe_mul, ← EReal.coe_mul, ← EReal.coe_add]) b

theorem var_is {x f : S256x1024.Idx → EReal} (hx : Is x X) (hf : Is f Fm) : Is (k0_pay12 (F := Ideal) x f) (fun a _ => vr 1024 lnEps (cen 1024 (inp X Fm a))) := by
  intro a b
  pointwise [k0_pay12]
  rw [eps_bits, n1024]
  exact vr_of (by decide) lnEps (fun i => k0_pay11 (F := Ideal) x f (ix2 a i)) _ (fun i => zc_is hx hf a i)

theorem rs_is {x f : S256x1024.Idx → EReal} (hx : Is x X) (hf : Is f Fm) : Is (k0_pay13 (F := Ideal) x f) (fun a _ => rs 1024 lnEps (cen 1024 (inp X Fm a))) := by
  intro a b
  pointwise [k0_pay13]
  exact rs_of eps_pos (var_is hx hf a b)

variable {v : FVec Ideal S256x1024 .f32} {p : FVec Ideal S256x512 .bf16} {w : FVec Ideal S512x1024 .bf16} {z : FVec Ideal S256x1024 .f32}
  {x f : S256x1024.Idx → EReal} {g : S1x1024.Idx → EReal}

theorem db_is (hd : Is (k0_pay10 (F := Ideal) v p w z) D) : Is (k0_pay14 (F := Ideal) v p w z) (fun _ j => ∑ r ∈ range 256, D r j) := by
  intro a b
  pointwise [k0_pay14]
  exact sum_of _ (fun r => D r b) (fun r => hd r b)

theorem dg_is (hd : Is (k0_pay10 (F := Ideal) v p w z) D) (hx : Is x X) (hf : Is f Fm) :
    Is (k0_pay15 (F := Ideal) v p w z x f) (fun _ j => ∑ r ∈ range 256, xh 1024 lnEps (inp X Fm r) j * D r j) := by
  intro a b
  pointwise [k0_pay15]
  refine sum_of _ (fun r => xh 1024 lnEps (inp X Fm r) b * D r b) (fun r => ?_)
  rw [zc_is hx hf r b, rs_is hx hf r 0, hd r b, ← EReal.coe_mul, ← EReal.coe_mul]
  rfl

theorem t_is (hd : Is (k0_pay10 (F := Ideal) v p w z) D) (hg : Is g G) : Is (k0_pay16 (F := Ideal) v p w z g) (fun a l => D a l * G 0 l) := by
  intro a b
  pointwise [k0_pay16]
  rw [hd a b, hg 0 b, ← EReal.coe_mul]
  rfl

theorem dz_is (hd : Is (k0_pay10 (F := Ideal) v p w z) D) (hx : Is x X) (hf : Is f Fm) (hg : Is g G) :
    Is (k0_pay1 (F := Ideal) (k0_pay11 x f) (k0_pay17 v p w z x f g) (k0_pay18 v p w z x f g) (FloatOps.ofBits .f32 0x44800000#32))
      (fun a => lnR 1024 lnEps (inp X Fm a) (fun l => D a l * G 0 l)) := by
  intro a b
  pointwise [k0_pay1, k0_pay17, k0_pay18]
  rw [n1024, neg_half]
  simp only [Fin.sum_univ_one]
  exact ln_of (by decide) _ (inp X Fm a) (fun l => D a l * G 0 l) (fun i => gr_of (zc_is hx hf a i) (t_is hd hg a i) (rs_is hx hf a 0)
    (sq_of (by decide) (fun i => k0_pay11 (F := Ideal) x f (ix2 a i)) (fun i => k0_pay16 (F := Ideal) v p w z g (ix2 a i)) _ _ (fun i => zc_is hx hf a i) (fun i => t_is hd hg a i)
      (hf_of eps_pos (rs_is hx hf a 0) (var_is hx hf a 0)))) b

theorem dzb_is (hd : Is (k0_pay10 (F := Ideal) v p w z) D) (hx : Is x X) (hf : Is f Fm) (hg : Is g G) :
    Is (k0_pay4 (F := Ideal) (k0_pay11 x f) (k0_pay17 v p w z x f g) (k0_pay18 v p w z x f g) (FloatOps.ofBits .f32 0x44800000#32))
      (fun a => lnR 1024 lnEps (inp X Fm a) (fun l => D a l * G 0 l)) := by
  intro a b
  pointwise [k0_pay4]
  exact dz_is hd hx hf hg a b

/-! ### The blocks a grid point reads -/

variable (m : (ℓ : Loc nD τ sig) → Buf (Elt Ideal) ℓ)

abbrev a0 (c : Dev nD) : S8192x1024.Idx → Ideal .f32 := m ((c.tc : Thread nD τ).loc main_arg0)
abbrev a1 (c : Dev nD) : S8192x1024.Idx → Ideal .f32 := m ((c.tc : Thread nD τ).loc main_arg1)
abbrev a2 (c : Dev nD) : S1x1024.Idx → Ideal .f32 := m ((c.tc : Thread nD τ).loc main_arg2)
abbrev a4 (c : Dev nD) : S1024x2560.Idx → Ideal .f32 := m ((c.tc : Thread nD τ).loc main_arg4)
abbrev a5 (c : Dev nD) : S8192x512.Idx → Ideal .f32 := m ((c.tc : Thread nD τ).loc main_arg5)
abbrev a6 (c : Dev nD) : S8192x512.Idx → Ideal .f32 := m ((c.tc : Thread nD τ).loc main_arg6)
abbrev a7 (c : Dev nD) : S8192x512.Idx → Ideal .f32 := m ((c.tc : Thread nD τ).loc main_arg7)
abbrev a8 (c : Dev nD) : S8192x512.Idx → Ideal .f32 := m ((c.tc : Thread nD τ).loc main_arg8)
abbrev a9 (c : Dev nD) : S8192x512.Idx → Ideal .f32 := m ((c.tc : Thread nD τ).loc main_arg9)
abbrev a10 (c : Dev nD) : S8192x1024.Idx → Ideal .f32 := m ((c.tc : Thread nD τ).loc main_arg10)

/-- The arguments hold the numbers `A`. -/
structure ArgIs (A : Args) (c : Dev nD) : Prop where
  x : Is (a0 m c) A.x
  f : Is (a1 m c) A.f
  g : Is (a2 m c) A.g
  w : Is (a4 m c) A.w
  p0 : Is (a5 m c) (A.p 0)
  p1 : Is (a6 m c) (A.p 1)
  p2 : Is (a7 m c) (A.p 2)
  p3 : Is (a8 m c) (A.p 3)
  p4 : Is (a9 m c) (A.p 4)
  s : Is (a10 m c) A.s

variable {m} {A : Args} {c : Dev nD}

theorem read_p : (V m c main_v0 : S8192x512.Idx → EReal) = a5 m c ∧ (V m c main_v1 : S8192x512.Idx → EReal) = a6 m c ∧ (V m c main_v2 : S8192x512.Idx → EReal) = a7 m c
    ∧ (V m c main_v3 : S8192x512.Idx → EReal) = a8 m c ∧ (V m c main_v4 : S8192x512.Idx → EReal) = a9 m c := by
  unfold V
  simp only [hostOps0, List.flatten_cons, List.flatten_nil, List.cons_append, List.nil_append, List.append_nil]
  refine ⟨?_, ?_, ?_, ?_, ?_⟩ <;> after_reads_simp <;> rfl

theorem read_w (a : Fin 2560) (b : Fin 1024) : (V m c main_v6 : S2560x1024.Idx → EReal) (ix2 a b) = a4 m c (ix2 b a) := by
  unfold V
  simp only [hostOps0, List.flatten_cons, List.flatten_nil, List.cons_append, List.nil_append, List.append_nil]
  after_reads_at

/-- The windows' index maps over the grid's points. -/
theorem idx0 : ∀ t : Fin cfg0.N, win0_0.index t = ![t.val, 0] ∧ win0_1.index t = ![t.val, 0] ∧ win0_2.index t = ![t.val, 0] ∧ win0_3.index t = ![t.val, 0]
    ∧ win0_4.index t = ![t.val, 0] ∧ win0_5.index t = ![0, 0] ∧ win0_6.index t = ![t.val, 0] ∧ win0_7.index t = ![t.val, 0] ∧ win0_8.index t = ![t.val, 0]
    ∧ win0_9.index t = ![0, 0] ∧ win0_11.index t = ![t.val, 0] ∧ win0_12.index t = ![t.val, 0] :=
  (by decide +kernel : ∀ t : Fin grid0.N, _)

theorem lt32 (t : Fin cfg0.N) : t.val < 32 := by have := t.isLt; have hN : cfg0.N = 32 := N_0; omega

section blocks
variable (H : ArgIs m A c) (t : Fin cfg0.N)
include H

theorem ld0 : Is (iblk m c 0 t : S256x512.Idx → EReal) (fun a => A.p 0 (256 * t.val + a)) := by
  have ht := lt32 t
  intro a e
  obtain ⟨e0, -⟩ := idx0 t
  refine Eq.trans ?_ (H.p0 ⟨256 * t.val + a.val, by omega⟩ e)
  rw [← read_p.1]
  blk_ext [iblk, e0]

theorem ld1 : Is (iblk m c 1 t : S256x512.Idx → EReal) (fun a => A.p 1 (256 * t.val + a)) := by
  have ht := lt32 t
  intro a e
  obtain ⟨-, e0, -⟩ := idx0 t
  refine Eq.trans ?_ (H.p1 ⟨256 * t.val + a.val, by omega⟩ e)
  rw [← read_p.2.1]
  blk_ext [iblk, e0]

theorem ld2 : Is (iblk m c 2 t : S256x512.Idx → EReal) (fun a => A.p 2 (256 * t.val + a)) := by
  have ht := lt32 t
  intro a e
  obtain ⟨-, -, e0, -⟩ := idx0 t
  refine Eq.trans ?_ (H.p2 ⟨256 * t.val + a.val, by omega⟩ e)
  rw [← read_p.2.2.1]
  blk_ext [iblk, e0]

theorem ld3 : Is (iblk m c 3 t : S256x512.Idx → EReal) (fun a => A.p 3 (256 * t.val + a)) := by
  have ht := lt32 t
  intro a e
  obtain ⟨-, -, -, e0, -⟩ := idx0 t
  refine Eq.trans ?_ (H.p3 ⟨256 * t.val + a.val, by omega⟩ e)
  rw [← read_p.2.2.2.1]
  blk_ext [iblk, e0]

theorem ld4 : Is (iblk m c 4 t : S256x512.Idx → EReal) (fun a => A.p 4 (256 * t.val + a)) := by
  have ht := lt32 t
  intro a e
  obtain ⟨-, -, -, -, e0, -⟩ := idx0 t
  refine Eq.trans ?_ (H.p4 ⟨256 * t.val + a.val, by omega⟩ e)
  rw [← read_p.2.2.2.2]
  blk_ext [iblk, e0]

/-- A window of 512 rows of the projection's transpose. -/
theorem ldW (k : Fin 5) (inb) : Is (View.ld (Val := Elt Ideal) (e' := .bf16) (iblk m c 5 t) (Rect.unit (s := S2560x1024) ![512 * k.val, 0] ![512, 1024] inb))
    (fun l j => A.w j (512 * k.val + l)) := by
  intro a e
  have hk := k.isLt
  obtain ⟨-, -, -, -, -, e0, -⟩ := idx0 t
  have h : (View.ld (Val := Elt Ideal) (e' := .bf16) (iblk m c 5 t) (Rect.unit (s := S2560x1024) ![512 * k.val, 0] ![512, 1024] inb) (ix2 a e) : EReal)
      = (iblk m c 5 t : S2560x1024.Idx → EReal) (ix2 ⟨512 * k.val + a.val, by omega⟩ e) := by
    refine congrArg (iblk m c 5 t : S2560x1024.Idx → EReal) (funext fun b => ?_)
    apply Fin.ext
    fin_cases b <;> simp [Rect.emb, Rect.unit, ix2]
  refine (h.trans ?_).trans (H.w e ⟨512 * k.val + a.val, by omega⟩)
  rw [← read_w]
  blk_ext [iblk, e0]

theorem ldS : Is (iblk m c 6 t : S256x1024.Idx → EReal) (fun a => A.s (256 * t.val + a)) := by
  have ht := lt32 t
  intro a e
  obtain ⟨-, -, -, -, -, -, e0, -⟩ := idx0 t
  refine Eq.trans ?_ (H.s ⟨256 * t.val + a.val, by omega⟩ e)
  blk_ext [iblk, V_main_arg10, e0]

theorem ldX : Is (iblk m c 7 t : S256x1024.Idx → EReal) (fun a => A.x (256 * t.val + a)) := by
  have ht := lt32 t
  intro a e
  obtain ⟨-, -, -, -, -, -, -, e0, -⟩ := idx0 t
  refine Eq.trans ?_ (H.x ⟨256 * t.val + a.val, by omega⟩ e)
  blk_ext [iblk, V_main_arg0, e0]

theorem ldF : Is (iblk m c 8 t : S256x1024.Idx → EReal) (fun a => A.f (256 * t.val + a)) := by
  have ht := lt32 t
  intro a e
  obtain ⟨-, -, -, -, -, -, -, -, e0, -⟩ := idx0 t
  refine Eq.trans ?_ (H.f ⟨256 * t.val + a.val, by omega⟩ e)
  blk_ext [iblk, V_main_arg1, e0]

theorem ldG : Is (iblk m c 9 t : S1x1024.Idx → EReal) A.g := by
  intro a e
  obtain ⟨-, -, -, -, -, -, -, -, -, e0, -⟩ := idx0 t
  refine Eq.trans ?_ (H.g a e)
  blk_ext [iblk, V_main_arg2, e0]

end blocks

/-! ### What a grid point stores -/

/-- The first four parts' sum at a grid point, and the fifth window of the projection. -/
abbrev four (m : (ℓ : Loc nD τ sig) → Buf (Elt Ideal) ℓ) (c : Dev nD) (t : Fin cfg0.N) : FVec Ideal S256x1024 .f32 :=
  k0_pay7 (iblk m c 6 t) (iblk m c 0 t) (View.ld (iblk m c 5 t) (Rect.unit ![0, 0] ![512, 1024] inb_S2560x1024_S512x1024_0_0)) (iblk m c 1 t)
    (View.ld (iblk m c 5 t) (Rect.unit ![512, 0] ![512, 1024] inb_S2560x1024_S512x1024_512_0)) (iblk m c 2 t)
    (View.ld (iblk m c 5 t) (Rect.unit ![1024, 0] ![512, 1024] inb_S2560x1024_S512x1024_1024_0)) (iblk m c 3 t)
    (View.ld (iblk m c 5 t) (Rect.unit ![1536, 0] ![512, 1024] inb_S2560x1024_S512x1024_1536_0))
abbrev fifth (m : (ℓ : Loc nD τ sig) → Buf (Elt Ideal) ℓ) (c : Dev nD) (t : Fin cfg0.N) : FVec Ideal S512x1024 .bf16 :=
  k0_pay9 (View.ld (iblk m c 5 t) (Rect.unit ![2048, 0] ![512, 1024] inb_S2560x1024_S512x1024_2048_0))

theorem ldD (H : ArgIs m A c) (t : Fin cfg0.N) : Is (k0_pay10 (F := Ideal) (four m c t) (k0_pay8 (iblk m c 4 t)) (fifth m c t) (constant S256x1024 .f32 0x00000000#32))
    (fun a => A.dy (256 * t.val + a)) :=
  dy_is (P := fun k a => A.p k (256 * t.val + a)) (W := fun k l j => A.w j (512 * k + l)) (ldS H t) (ld0 H t) (ld1 H t) (ld2 H t) (ld3 H t) (ld4 H t)
    (ldW H t 0 inb_S2560x1024_S512x1024_0_0) (ldW H t 1 inb_S2560x1024_S512x1024_512_0) (ldW H t 2 inb_S2560x1024_S512x1024_1024_0)
    (ldW H t 3 inb_S2560x1024_S512x1024_1536_0) (ldW H t 4 inb_S2560x1024_S512x1024_2048_0)

/-- What a grid point adds to the gains' and to the offsets' gradient. -/
abbrev gTerm (A : Args) (t j : ℕ) : EReal := ((∑ r ∈ range 256, A.dgAt j (256 * t + r) : ℝ) : EReal)
abbrev bTerm (A : Args) (t j : ℕ) : EReal := ((∑ r ∈ range 256, A.dy (256 * t + r) j : ℝ) : EReal)

theorem dg_tile (H : ArgIs m A c) (t : Fin cfg0.N) (P : S1x1024.Idx → EReal) (o : Fin 1) (b : Fin 1024) :
    (k0_pay5 (F := Ideal) (k0_pay15 (four m c t) (k0_pay8 (iblk m c 4 t)) (fifth m c t) (constant S256x1024 .f32 0x00000000#32) (iblk m c 7 t) (iblk m c 8 t)) P (ix2 o b) : EReal)
      = P (ix2 o b) + gTerm A t.val b.val := by
  pointwise [k0_pay5]
  exact congrArg (_ + ·) (dg_is (ldD H t) (ldX H t) (ldF H t) _ b)

theorem db_tile (H : ArgIs m A c) (t : Fin cfg0.N) (P : S1x1024.Idx → EReal) (o : Fin 1) (b : Fin 1024) :
    (k0_pay6 (F := Ideal) (k0_pay14 (four m c t) (k0_pay8 (iblk m c 4 t)) (fifth m c t) (constant S256x1024 .f32 0x00000000#32)) P (ix2 o b) : EReal)
      = P (ix2 o b) + bTerm A t.val b.val := by
  pointwise [k0_pay6]
  exact congrArg (_ + ·) (db_is (ldD H t) _ b)

/-! ### The result arrays after the run -/

theorem final11 (H : ArgIs m A c) : Is ((dats m 0 c).arrAt 11 cfg0.N : S8192x1024.Idx → EReal) A.dz := by
  have e : ((dats m 0 c).arrAt 11 cfg0.N : S8192x1024.Idx → EReal) = fun j : S8192x1024.Idx => ((A.dz (j 0).val (j 1).val : ℝ) : EReal) := by
    refine (dats m 0 c).arrAt_eq_of_covers 11 _ (by decide +kernel) fun t hf y => ?_
    obtain ⟨-, -, -, -, -, -, -, -, -, -, e0, -⟩ := idx0 t
    have key : (outsAt0 m c t.val t.isLt).1 = fun y : S256x1024.Idx => ((A.dz (256 * t.val + (y 0).val) (y 1).val : ℝ) : EReal) := by
      funext y
      idx_vars y
      by_cases h0 : t.val % 32 = 0
      · rw [outsAt0_A m c t h0]
        frame_out
        exact dz_is (ldD H t) (ldX H t) (ldF H t) (ldG H t) _ _
      · rw [outsAt0_B m c t h0]
        frame_out
        exact dz_is (ldD H t) (ldX H t) (ldF H t) (ldG H t) _ _
    blk_simp [e0]
    rw [after0_11, key]
    simp only [Nat.mul_comm t.val 256]
  intro a b
  exact congrFun e (ix2 a b)

theorem final12 (H : ArgIs m A c) : Is ((dats m 0 c).arrAt 12 cfg0.N : S8192x1024.Idx → EReal) A.dz := by
  have e : ((dats m 0 c).arrAt 12 cfg0.N : S8192x1024.Idx → EReal) = fun j : S8192x1024.Idx => ((A.dz (j 0).val (j 1).val : ℝ) : EReal) := by
    refine (dats m 0 c).arrAt_eq_of_covers 12 _ (by decide +kernel) fun t hf y => ?_
    obtain ⟨-, -, -, -, -, -, -, -, -, -, -, e0⟩ := idx0 t
    have key : (outsAt0 m c t.val t.isLt).2.1 = fun y : S256x1024.Idx => ((A.dz (256 * t.val + (y 0).val) (y 1).val : ℝ) : EReal) := by
      funext y
      idx_vars y
      by_cases h0 : t.val % 32 = 0
      · rw [outsAt0_A m c t h0]
        frame_out
        exact dzb_is (ldD H t) (ldX H t) (ldF H t) (ldG H t) _ _
      · rw [outsAt0_B m c t h0]
        frame_out
        exact dzb_is (ldD H t) (ldX H t) (ldF H t) (ldG H t) _ _
    blk_simp [e0]
    rw [after0_12, key]
    simp only [Nat.mul_comm t.val 256]
  intro a b
  exact congrFun e (ix2 a b)

theorem stepA13 (H : ArgIs m A c) (t : Fin cfg0.N) (h0 : t.val % 32 = 0) (o : Fin 1) (b : Fin 1024) : (outsAt0 m c t.val t.isLt).2.2.1 (ix2 o b) = 0 + gTerm A t.val b.val := by
  rw [outsAt0_A m c t h0]
  frame_open
  simp (disch := decide) only [↓ View.readCov_skip, ↓ View.readCov_cons_toLoadRect, ↓ View.readCov_fill, readCov_whole]
  frame_out
  refine (dg_tile H t _ o b).trans (congrArg (· + _) ?_)
  pointwise [k0_pay2]

theorem stepB13 (H : ArgIs m A c) (t : Fin cfg0.N) (h0 : ¬ t.val % 32 = 0) (o : Fin 1) (b : Fin 1024) : (outsAt0 m c t.val t.isLt).2.2.1 (ix2 o b)
    = (outsAt0 m c (t.val - 1) (by omega)).2.2.1 (ix2 o b) + gTerm A t.val b.val := by
  rw [outsAt0_B m c t h0]
  frame_out
  exact dg_tile H t _ o b

theorem stepA14 (H : ArgIs m A c) (t : Fin cfg0.N) (h0 : t.val % 32 = 0) (o : Fin 1) (b : Fin 1024) : (outsAt0 m c t.val t.isLt).2.2.2 (ix2 o b) = 0 + bTerm A t.val b.val := by
  rw [outsAt0_A m c t h0]
  frame_open
  simp (disch := decide) only [↓ View.readCov_skip, ↓ View.readCov_cons_toLoadRect, ↓ View.readCov_fill, readCov_whole]
  frame_out
  refine (db_tile H t _ o b).trans (congrArg (· + _) ?_)
  pointwise [k0_pay3]

theorem stepB14 (H : ArgIs m A c) (t : Fin cfg0.N) (h0 : ¬ t.val % 32 = 0) (o : Fin 1) (b : Fin 1024) : (outsAt0 m c t.val t.isLt).2.2.2 (ix2 o b)
    = (outsAt0 m c (t.val - 1) (by omega)).2.2.2 (ix2 o b) + bTerm A t.val b.val := by
  rw [outsAt0_B m c t h0]
  frame_out
  exact db_tile H t _ o b

/-- The last grid point. -/
def last : Fin cfg0.N := ⟨31, lt_of_lt_of_eq (by decide) (show 32 = cfg0.N from N_0.symm)⟩

theorem final13 (H : ArgIs m A c) : Is ((dats m 0 c).arrAt 13 cfg0.N : S1x1024.Idx → EReal) (fun _ j => ∑ r ∈ range 8192, A.dgAt j r) := by
  have e : ((dats m 0 c).arrAt 13 cfg0.N : S1x1024.Idx → EReal) = fun j : S1x1024.Idx => ((∑ r ∈ range 8192, A.dgAt (j 1).val r : ℝ) : EReal) := by
    refine (dats m 0 c).arrAt_eq_of_after_last 13 last (by decide +kernel) _ fun j => ?_
    idx_vars j
    rw [after0_13]
    exact (Pipeline.eq_sum_fin_of_reset_step_apply_last (fun n h => (outsAt0 m c n h).2.2.1) 32 (fun _ => 0) (fun t i => gTerm A t.val (i 1).val)
      (fun t h i => by idx_vars i; exact stepA13 H t h _ _) (fun t h i => by idx_vars i; exact stepB13 H t h _ _) (by decide) last rfl _).trans (blocks_sum 32 256 8192 (by norm_num) _)
  intro a b
  exact congrFun e (ix2 a b)

theorem final14 (H : ArgIs m A c) : Is ((dats m 0 c).arrAt 14 cfg0.N : S1x1024.Idx → EReal) (fun _ j => ∑ r ∈ range 8192, A.dy r j) := by
  have e : ((dats m 0 c).arrAt 14 cfg0.N : S1x1024.Idx → EReal) = fun j : S1x1024.Idx => ((∑ r ∈ range 8192, A.dy r (j 1).val : ℝ) : EReal) := by
    refine (dats m 0 c).arrAt_eq_of_after_last 14 last (by decide +kernel) _ fun j => ?_
    idx_vars j
    rw [after0_14]
    exact (Pipeline.eq_sum_fin_of_reset_step_apply_last (fun n h => (outsAt0 m c n h).2.2.2) 32 (fun _ => 0) (fun t i => bTerm A t.val (i 1).val)
      (fun t h i => by idx_vars i; exact stepA14 H t h _ _) (fun t h i => by idx_vars i; exact stepB14 H t h _ _) (by decide) last rfl _).trans
      (blocks_sum 32 256 8192 (by norm_num) (fun r => A.dy r _))
  intro a b
  exact congrFun e (ix2 a b)

end Cert.Ln1BwdIdeal.Hand

end

end
-- ==== Proof.Ln1Ref.lean ====
/-
  The derivative of the plain first layer norm, with the product before it, on finite arguments, as real numbers.
-/
module

public import proofs.«01_k».proof.Proof.Ln1Kernel
public import proofs.«01_k».proof.Proof.SbRef
public import proofs.«01_k».proof.Proof.Gen.Ln1RefIdeal.Read

@[expose] public section

set_option maxRecDepth 16384

noncomputable section

namespace Cert.Ln1RefIdeal.Hand

open Cert.Sb Cert.Norm Cert.Ffn Cert.Ln1 Cert.Ln1RefIdeal Cert.Ln1RefIdeal.Read Idealize.ShloMosaic Idealize.ShloMosaic.TcCoe Finset

variable {A : Args} {x0 x1 x10 : S8192x1024.Idx → Ideal .f32} {x2 : S1x1024.Idx → Ideal .f32} {x4 : S1024x2560.Idx → Ideal .f32} {x5 x6 x7 x8 x9 : S8192x512.Idx → Ideal .f32}

/-- The norm's input. -/
theorem z_is (h0 : Is x0 A.x) (h1 : Is x1 A.f) : Is (val_main_v4 (F := Ideal) x0 x1) A.z := by
  intro r j
  pointwise [val_main_v4, val_main_v3, val_main_v2, val_main_v1, val_main_v0, val_main_cst, val_main_cst_0]
  rw [alpha_bits, half_bits, h0 r j, h1 r j, ← EReal.coe_mul, ← EReal.coe_mul, ← EReal.coe_add]
  rfl

theorem zc_is (h0 : Is x0 A.x) (h1 : Is x1 A.f) : Is (val_main_v10 (F := Ideal) x0 x1) (fun r => cen 1024 (A.z r)) := by
  intro r j
  pointwise [val_main_v10, val_main_v9, val_main_v8, val_main_v7, val_main_cst_2, val_main_v6, val_main_v5, val_main_cst_1]
  rw [n1024]
  exact cen_of (by decide) (fun i => val_main_v4 (F := Ideal) x0 x1 (ix2 r i)) (A.z r) (fun i => z_is h0 h1 r i) j

theorem zc2_is (h0 : Is x0 A.x) (h1 : Is x1 A.f) : Is (val_main_v19 (F := Ideal) x0 x1) (fun r => cen 1024 (A.z r)) := zc_is h0 h1

theorem var_is (h0 : Is x0 A.x) (h1 : Is x1 A.f) : Is (val_main_v21 (F := Ideal) x0 x1) (fun r _ => vr 1024 lnEps (cen 1024 (A.z r))) := by
  intro r j
  pointwise [val_main_v21, val_main_v20, val_main_cst_6, val_main_v17, val_main_v16, val_main_cst_5, val_main_v15, val_main_v14, val_main_cst_4, val_main_v11]
  rw [n1024, eps_bits]
  exact vr_of (by decide) lnEps (fun i => val_main_v10 (F := Ideal) x0 x1 (ix2 r i)) _ (fun i => zc_is h0 h1 r i)

theorem rs_is (h0 : Is x0 A.x) (h1 : Is x1 A.f) : Is (val_main_v22 (F := Ideal) x0 x1) (fun r _ => rs 1024 lnEps (cen 1024 (A.z r))) := by
  intro r j
  pointwise [val_main_v22]
  exact rs_of eps_pos (var_is h0 h1 r j)

theorem hf_is (h0 : Is x0 A.x) (h1 : Is x1 A.f) : Is (val_main_v25 (F := Ideal) x0 x1) (fun r _ => Norm.hf 1024 lnEps (cen 1024 (A.z r))) := by
  intro r j
  pointwise [val_main_v25, val_main_v24, val_main_cst_7, val_main_v23]
  rw [neg_half]
  exact hf_of eps_pos (rs_is h0 h1 r j) (var_is h0 h1 r j)

theorem xh_is (h0 : Is x0 A.x) (h1 : Is x1 A.f) : Is (val_main_v27 (F := Ideal) x0 x1) (fun r => xh 1024 lnEps (A.z r)) := by
  intro r j
  pointwise [val_main_v27, val_main_v26]
  rw [zc2_is h0 h1 r j, rs_is h0 h1 r 0, ← EReal.coe_mul]
  rfl

/-- The five parts' gradients side by side. -/
theorem cat_is (h5 : Is x5 (A.p 0)) (h6 : Is x6 (A.p 1)) (h7 : Is x7 (A.p 2)) (h8 : Is x8 (A.p 3)) (h9 : Is x9 (A.p 4)) :
    Is (val_main_v42 (F := Ideal) x5 x6 x7 x8 x9) (fun r l => A.p (l / 512) r (l % 512)) := by
  intro r l
  have hl := l.isLt
  pointwise [val_main_v42]
  split
  · rename_i h
    rw [Nat.div_eq_of_lt h, Nat.mod_eq_of_lt h]
    exact h5 r ⟨l.val, h⟩
  · split
    · rename_i h' h
      rw [show l.val / 512 = 1 by omega, show l.val % 512 = l.val - 512 by omega]
      exact h6 r ⟨l.val - 512, h⟩
    · split
      · rename_i h'' h' h
        rw [show l.val / 512 = 2 by omega, show l.val % 512 = l.val - 512 - 512 by omega]
        exact h7 r ⟨l.val - 512 - 512, h⟩
      · split
        · rename_i h''' h'' h' h
          rw [show l.val / 512 = 3 by omega, show l.val % 512 = l.val - 512 - 512 - 512 by omega]
          exact h8 r ⟨l.val - 512 - 512 - 512, h⟩
        · rw [show l.val / 512 = 4 by omega, show l.val % 512 = l.val - 512 - 512 - 512 - 512 by omega]
          exact h9 r ⟨l.val - 512 - 512 - 512 - 512, by omega⟩

/-- The product over the parts side by side is the sum of the parts' products. -/
theorem parts_sum (A : Args) (r j : ℕ) : ∑ l ∈ range 2560, A.p (l / 512) r (l % 512) * A.w j l = A.part 0 r j + A.part 1 r j + A.part 2 r j + A.part 3 r j + A.part 4 r j := by
  have h : ∀ k : ℕ, ∑ l ∈ range 512, A.p ((512 * k + l) / 512) r ((512 * k + l) % 512) * A.w j (512 * k + l) = A.part k r j := fun k =>
    sum_congr rfl fun l hl => by
      have hl := mem_range.1 hl
      rw [show (512 * k + l) / 512 = k by omega, show (512 * k + l) % 512 = l by omega]
  rw [← h 0, ← h 1, ← h 2, ← h 3, ← h 4, show 2560 = 512 + 512 + 512 + 512 + 512 by norm_num, sum_range_add, sum_range_add, sum_range_add, sum_range_add]
  simp only [Nat.mul_zero, Nat.zero_add]

section dy
variable (h4 : Is x4 A.w) (h5 : Is x5 (A.p 0)) (h6 : Is x6 (A.p 1)) (h7 : Is x7 (A.p 2)) (h8 : Is x8 (A.p 3)) (h9 : Is x9 (A.p 4)) (h10 : Is x10 A.s)
include h4 h5 h6 h7 h8 h9 h10

/-- The gradient of the normed rows. -/
theorem dy_is : Is (val_main_v44 (F := Ideal) x4 x5 x6 x7 x8 x9 x10) A.dy := by
  intro r j
  pointwise [val_main_v44, val_main_v41, val_main_v40, val_main_cst_9, val_main_v43]
  rw [alpha_bits, h10 r j, dot_of _ _ (fun l => A.p (l / 512) r (l % 512)) (fun l => A.w j l) (fun l => cat_is h5 h6 h7 h8 h9 r l) (fun l => h4 j l), parts_sum, ← EReal.coe_mul, ← EReal.coe_add]
  refine congrArg Real.toEReal ?_
  unfold Args.dy
  ring

theorem db_is : Is (val_main_v46 (F := Ideal) x4 x5 x6 x7 x8 x9 x10) (fun _ j => ∑ r ∈ range 8192, A.dy r j) := by
  intro o j
  pointwise [val_main_v46, val_main_v45, val_main_cst_10]
  exact sum_of _ (fun r => A.dy r j) (fun r => dy_is h4 h5 h6 h7 h8 h9 h10 r j)

theorem dg_is (h0 : Is x0 A.x) (h1 : Is x1 A.f) :
    Is (val_main_v49 (F := Ideal) x0 x1 x4 x5 x6 x7 x8 x9 x10) (fun _ j => ∑ r ∈ range 8192, A.dgAt j r) := by
  intro o j
  pointwise [val_main_v49, val_main_v48, val_main_cst_11, val_main_v47]
  exact dot_of _ _ (fun r => xh 1024 lnEps (A.z r) j) (fun r => A.dy r j) (fun r => xh_is h0 h1 r j) (fun r => dy_is h4 h5 h6 h7 h8 h9 h10 r j)

/-- The gradient before the gains. -/
theorem t_is (h2 : Is x2 A.g) : Is (val_main_v51 (F := Ideal) x2 x4 x5 x6 x7 x8 x9 x10) (fun r l => A.dy r l * A.g 0 l) := by
  intro r j
  pointwise [val_main_v51, val_main_v50]
  rw [dy_is h4 h5 h6 h7 h8 h9 h10 r j, h2 0 j, ← EReal.coe_mul]
  rfl

end dy

section
variable (h0 : Is x0 A.x) (h1 : Is x1 A.f) (h2 : Is x2 A.g) (h4 : Is x4 A.w) (h5 : Is x5 (A.p 0)) (h6 : Is x6 (A.p 1)) (h7 : Is x7 (A.p 2)) (h8 : Is x8 (A.p 3)) (h9 : Is x9 (A.p 4))
  (h10 : Is x10 A.s)
include h0 h1 h2 h4 h5 h6 h7 h8 h9 h10

theorem sq_is : Is (val_main_v64 (F := Ideal) x0 x1 x2 x4 x5 x6 x7 x8 x9 x10) (fun r _ => Norm.sq 1024 lnEps (cen 1024 (A.z r)) (fun l => A.dy r l * A.g 0 l)) := by
  intro r j
  pointwise [val_main_v64, val_main_v63, val_main_cst_15, val_main_v62, val_main_v61, val_main_cst_14, val_main_v57, val_main_v54, val_main_v53, val_main_cst_12, val_main_v52]
  rw [n1024]
  simp only [Fin.sum_univ_one]
  exact sq_of (by decide) (fun i => val_main_v19 (F := Ideal) x0 x1 (ix2 r i)) (fun i => val_main_v51 (F := Ideal) x2 x4 x5 x6 x7 x8 x9 x10 (ix2 r i)) _ _ (fun i => zc2_is h0 h1 r i)
    (fun i => t_is h4 h5 h6 h7 h8 h9 h10 h2 r i) (hf_is h0 h1 r 0)

theorem p_is : Is (val_main_v56 (F := Ideal) x0 x1 x2 x4 x5 x6 x7 x8 x9 x10) (fun r j => A.dy r j * A.g 0 j * rs 1024 lnEps (cen 1024 (A.z r))) := by
  intro r j
  pointwise [val_main_v56, val_main_v55]
  rw [t_is h4 h5 h6 h7 h8 h9 h10 h2 r j, rs_is h0 h1 r 0, ← EReal.coe_mul]

theorem q_is : Is (val_main_v65 (F := Ideal) x0 x1 x2 x4 x5 x6 x7 x8 x9 x10)
    (fun r j => Norm.sq 1024 lnEps (cen 1024 (A.z r)) (fun l => A.dy r l * A.g 0 l) * (2 * cen 1024 (A.z r) j)) := by
  intro r j
  pointwise [val_main_v65, val_main_v13, val_main_v12, val_main_cst_3]
  rw [sq_is h0 h1 h2 h4 h5 h6 h7 h8 h9 h10 r j, two_bits, zc_is h0 h1 r j, ← EReal.coe_mul, ← EReal.coe_mul]

theorem dz_is : Is (val_main_v75 (F := Ideal) x0 x1 x2 x4 x5 x6 x7 x8 x9 x10) A.dz := by
  intro r j
  pointwise [val_main_v75, val_main_v74, val_main_v73, val_main_cst_18, val_main_v72, val_main_v71, val_main_cst_17, val_main_v70, val_main_v68, val_main_v67, val_main_cst_16,
    val_main_v66, val_main_v60, val_main_v59, val_main_cst_13, val_main_v58, val_main_v69]
  rw [n1024]
  simp only [Fin.sum_univ_one]
  exact ln2_of (by decide) (fun i => val_main_v56 (F := Ideal) x0 x1 x2 x4 x5 x6 x7 x8 x9 x10 (ix2 r i)) (fun i => val_main_v65 (F := Ideal) x0 x1 x2 x4 x5 x6 x7 x8 x9 x10 (ix2 r i)) (A.z r)
    (fun l => A.dy r l * A.g 0 l) (fun i => p_is h0 h1 h2 h4 h5 h6 h7 h8 h9 h10 r i) (fun i => q_is h0 h1 h2 h4 h5 h6 h7 h8 h9 h10 r i) j

theorem dzb_is : Is (val_main_v76 (F := Ideal) x0 x1 x2 x4 x5 x6 x7 x8 x9 x10) A.dz := by
  intro r j
  pointwise [val_main_v76]
  exact dz_is h0 h1 h2 h4 h5 h6 h7 h8 h9 h10 r j

end

end Cert.Ln1RefIdeal.Hand

end

end
-- ==== Proof.Ln1Finite.lean ====
/-
  The first layer norm's finite arguments are arrays of reals.
-/
module

public import proofs.«01_k».proof.Pre_ln1_finite
public import proofs.«01_k».proof.Proof.Finite

@[expose] public section

set_option maxRecDepth 16384

noncomputable section

namespace Cert.Pre_ln1_finite

open Idealize.ShloMosaic Cert.Norm Cert.Sb

/-- The side conditions of the predicate's operations. -/
instance facts : Facts where
  bcast_S_S8192x1024 := by decide
  reducesTo_S8192x1024_S_d0_1 := by decide
  h_S_ := by decide
  bcast_S_S1x1024 := by decide
  reducesTo_S1x1024_S_d0_1 := by decide
  bcast_S_S1024x2560 := by decide
  reducesTo_S1024x2560_S_d0_1 := by decide
  bcast_S_S8192x512 := by decide
  reducesTo_S8192x512_S_d0_1 := by decide

variable [Facts]
open Facts

/-- Arguments that pass are arrays of reals. -/
theorem reals (x0 x1 : FVec Ideal S8192x1024 .f32) (x2 x3 : FVec Ideal S1x1024 .f32) (x4 : FVec Ideal S1024x2560 .f32) (x5 x6 x7 x8 x9 : FVec Ideal S8192x512 .f32)
    (x10 : FVec Ideal S8192x1024 .f32) (h : fn (F := Ideal) x0 x1 x2 x3 x4 x5 x6 x7 x8 x9 x10 = fun _ => 1#1) :
    Is x0 (num x0) ∧ Is x1 (num x1) ∧ Is x2 (num x2) ∧ Is x4 (num x4) ∧ Is x5 (num x5) ∧ Is x6 (num x6) ∧ Is x7 (num x7) ∧ Is x8 (num x8) ∧ Is x9 (num x9) ∧ Is x10 (num x10) := by
  let i : S_.Idx := fun k => k.elim0
  let P (x : FVec Ideal S8192x512 .f32) := ok x bcast_S_S8192x512 reducesTo_S8192x512_S_d0_1 h_S_ i
  let Q (x : FVec Ideal S8192x1024 .f32) := ok x bcast_S_S8192x1024 reducesTo_S8192x1024_S_d0_1 h_S_ i
  have e : IntOp.andi (IntOp.andi (IntOp.andi (IntOp.andi (IntOp.andi (IntOp.andi (IntOp.andi (IntOp.andi (IntOp.andi (Q x0) (Q x1))
      (ok x2 bcast_S_S1x1024 reducesTo_S1x1024_S_d0_1 h_S_ i)) (ok x4 bcast_S_S1024x2560 reducesTo_S1024x2560_S_d0_1 h_S_ i))
      (P x5)) (P x6)) (P x7)) (P x8)) (P x9)) (Q x10) = 1#1 := congrFun h i
  obtain ⟨e, h10⟩ := IntOp.andi_eq_one.1 e
  obtain ⟨e, h9⟩ := IntOp.andi_eq_one.1 e
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h2⟩ := IntOp.andi_eq_one.1 e
  obtain ⟨h0, h1⟩ := IntOp.andi_eq_one.1 e
  exact ⟨is_of_ok h0, is_of_ok h1, is_of_ok h2, is_of_ok h4, is_of_ok h5, is_of_ok h6, is_of_ok h7, is_of_ok h8, is_of_ok h9, is_of_ok h10⟩

end Cert.Pre_ln1_finite

end

end
-- ==== Proof.Ln1Value.lean ====
/-
  The gradient kernel of the first layer norm equals the derivative of the plain norm and product, at finite arguments.
-/
module

public import proofs.«01_k».proof.Defs
public import proofs.«01_k».proof.Proof.Ln1Ref
public import proofs.«01_k».proof.Proof.Ln1Finite
public import proofs.«01_k».proof.Proof.CrossValue
public import proofs.«01_k».proof.Proof.Gen.Ln1RefIdeal.Run

@[expose] public section

set_option maxRecDepth 16384

noncomputable section

namespace Cert.Ln1

open Cert.Sb Cert.Norm Cert.Grad Idealize.ShloMosaic Idealize.ShloMosaic.TcCoe Idealize.SL.Sem

/-- The reference runs and keeps its arguments. -/
theorem frame_ref : Cert.quiescent_Ln1RefIdeal := fun m ρ _ =>
  (θ_run Cert.Ln1RefIdeal.defs _ _).mono (fun r h => ⟨fun c => (h c).2.2.2.2, sem_eq_zero_of_no_sems (by decide) r.2⟩)
    (Cert.Ln1RefIdeal.Value.run m ρ)

/-- The gradient kernel's four results are the derivative's. -/
theorem value [Cert.Pre_ln1_finite.Facts] : Cert.algebraic_Ln1BwdIdeal_Ln1RefIdeal_pre_ln1_finite := by
  intro m g m' g' hpre hagree
  have hA : ∀ c, ∃ A : Args, Cert.Ln1BwdIdeal.Hand.ArgIs m A c := fun c => by
    obtain ⟨h0, h1, h2, h4, h5, h6, h7, h8, h9, h10⟩ := Cert.Pre_ln1_finite.reals _ _ _ _ _ _ _ _ _ _ _ (hpre c)
    exact ⟨⟨_, _, _, _, fun k => match k with
      | 0 => num (Cert.Ln1BwdIdeal.Hand.a5 m c) | 1 => num (Cert.Ln1BwdIdeal.Hand.a6 m c) | 2 => num (Cert.Ln1BwdIdeal.Hand.a7 m c)
      | 3 => num (Cert.Ln1BwdIdeal.Hand.a8 m c) | _ => num (Cert.Ln1BwdIdeal.Hand.a9 m c), _⟩, ⟨h0, h1, h2, h4, h5, h6, h7, h8, h9, h10⟩⟩
  choose A hA using hA
  refine ⟨fun c => (Cert.Ln1BwdIdeal.Gen.dats m 0 c).arrAt 11 Cert.Ln1BwdIdeal.cfg0.N, fun c => (Cert.Ln1BwdIdeal.Gen.dats m 0 c).arrAt 12 Cert.Ln1BwdIdeal.cfg0.N,
    fun c => (Cert.Ln1BwdIdeal.Gen.dats m 0 c).arrAt 13 Cert.Ln1BwdIdeal.cfg0.N, fun c => (Cert.Ln1BwdIdeal.Gen.dats m 0 c).arrAt 14 Cert.Ln1BwdIdeal.cfg0.N,
    Cert.Ln1BwdIdeal.Value.run_blocks (F := Ideal) m g, (θ_run Cert.Ln1RefIdeal.defs _ _).mono (fun r h c => ?_) (Cert.Ln1RefIdeal.Value.run m' g')⟩
  obtain ⟨h1, h2, h3, h4, h5⟩ := h c
  obtain ⟨a0, a1, a2, a3, a4, a5, a6, a7, a8, a9, a10⟩ := hagree c
  rw [Cert.Ln1RefIdeal.Read.val_main_v75_eq, a0, a1, a2, a4, a5, a6, a7, a8, a9, a10] at h1
  rw [Cert.Ln1RefIdeal.Read.val_main_v76_eq, a0, a1, a2, a4, a5, a6, a7, a8, a9, a10] at h2
  rw [Cert.Ln1RefIdeal.Read.val_main_v49_eq, a0, a1, a4, a5, a6, a7, a8, a9, a10] at h3
  rw [Cert.Ln1RefIdeal.Read.val_main_v46_eq, a4, a5, a6, a7, a8, a9, a10] at h4
  obtain ⟨b0, b1, b2, b4, b5, b6, b7, b8, b9, b10⟩ := hA c
  exact ⟨h1.trans (Cert.Cross.ext2 (Cert.Ln1RefIdeal.Hand.dz_is b0 b1 b2 b4 b5 b6 b7 b8 b9 b10) (Cert.Ln1BwdIdeal.Hand.final11 (hA c))),
    h2.trans (Cert.Cross.ext2 (Cert.Ln1RefIdeal.Hand.dzb_is b0 b1 b2 b4 b5 b6 b7 b8 b9 b10) (Cert.Ln1BwdIdeal.Hand.final12 (hA c))),
    h3.trans (Cert.Cross.ext2 (Cert.Ln1RefIdeal.Hand.dg_is b4 b5 b6 b7 b8 b9 b10 b0 b1) (Cert.Ln1BwdIdeal.Hand.final13 (hA c))),
    h4.trans (Cert.Cross.ext2 (Cert.Ln1RefIdeal.Hand.db_is b4 b5 b6 b7 b8 b9 b10) (Cert.Ln1BwdIdeal.Hand.final14 (hA c))), h5⟩

end Cert.Ln1

end

end
-- ==== Proof.MixRef.lean ====
/-
  The derivative of the plain root-mean-square norms and product, on finite arguments, as real numbers.
-/
module

public import proofs.«01_k».proof.Proof.MixKernel
public import proofs.«01_k».proof.Proof.SbRef
public import proofs.«01_k».proof.Proof.Gen.MixRefIdeal.Read

@[expose] public section

set_option maxRecDepth 16384

noncomputable section

namespace Cert.MixRefIdeal.Hand

open Cert.Sb Cert.Norm Cert.Mix Cert.MixRefIdeal Cert.MixRefIdeal.Read Idealize.ShloMosaic Idealize.ShloMosaic.TcCoe Finset

variable {A : Args} {Y G : ℕ → ℕ → ℝ} {x : S8192x512.Idx → Ideal .f32} {g : S1x512.Idx → Ideal .f32} {x4 : S1024x1024.Idx → Ideal .f32} {x5 : S8192x1024.Idx → Ideal .f32}

/-! ### A norm's row, the same for both heads -/

theorem var_is (h : Is x Y) : Is (val_main_v8 (F := Ideal) x) (fun r _ => vr 512 rmsEps (Y r)) := by
  intro r j
  pointwise [val_main_v8, val_main_v7, val_main_cst_2, val_main_v6, val_main_v5, val_main_cst_1, val_main_v4, val_main_v3, val_main_cst_0, val_main_v0]
  rw [n512, rms_bits]
  exact vr_of (by decide) rmsEps (fun i => x (ix2 r i)) _ (fun i => h r i)

theorem rs_is (h : Is x Y) : Is (val_main_v9 (F := Ideal) x) (fun r _ => rs 512 rmsEps (Y r)) := by
  intro r j
  pointwise [val_main_v9]
  exact rs_of rms_pos (var_is h r j)

theorem hf_is (h : Is x Y) : Is (val_main_v12 (F := Ideal) x) (fun r _ => Norm.hf 512 rmsEps (Y r)) := by
  intro r j
  pointwise [val_main_v12, val_main_v11, val_main_cst_3, val_main_v10]
  rw [neg_half]
  exact hf_of rms_pos (rs_is h r j) (var_is h r j)

theorem xh_is (h : Is x Y) : Is (val_main_v14 (F := Ideal) x) (fun r j => Y r j * rs 512 rmsEps (Y r)) := by
  intro r j
  pointwise [val_main_v14, val_main_v13]
  rw [h r j, rs_is h r 0, ← EReal.coe_mul]

theorem two_is (h : Is x Y) : Is (val_main_v2 (F := Ideal) x) (fun r j => 2 * Y r j) := by
  intro r j
  pointwise [val_main_v2, val_main_v1, val_main_cst]
  rw [h r j, two_bits, ← EReal.coe_mul]

section
variable (h4 : Is x4 A.w) (h5 : Is x5 A.z)
include h4 h5

theorem da_is : Is (val_main_v36 (F := Ideal) x4 x5) A.da := by
  intro r j
  pointwise [val_main_v36]
  exact dot_of _ _ (A.z r) (A.w j) (fun e => h5 r e) (fun e => h4 j e)

theorem dl_is : Is (val_main_v37 (F := Ideal) x4 x5) A.dl := by
  intro r j
  pointwise [val_main_v37]
  exact da_is h4 h5 r ⟨j.val, by omega⟩

theorem ds_is : Is (val_main_v38 (F := Ideal) x4 x5) A.ds := by
  intro r j
  pointwise [val_main_v38]
  exact da_is h4 h5 r ⟨512 + j.val, by omega⟩

theorem dgl_is (h : Is x A.yl) : Is (val_main_v58 (F := Ideal) x x4 x5) (fun _ j => ∑ r ∈ range 8192, A.dgl j r) := by
  intro o j
  pointwise [val_main_v58, val_main_v57, val_main_cst_13, val_main_v56]
  exact dot_of _ _ (fun r => A.yl r j * rs 512 rmsEps (A.yl r)) (fun r => A.dl r j) (fun r => xh_is h r j) (fun r => dl_is h4 h5 r j)

theorem tl_is (hg : Is g A.gl) : Is (val_main_v60 (F := Ideal) g x4 x5) (fun r l => A.dl r l * A.gl 0 l) := by
  intro r j
  pointwise [val_main_v60, val_main_v59]
  rw [dl_is h4 h5 r j, hg 0 j, ← EReal.coe_mul]
  rfl

theorem sql_is (h : Is x A.yl) (hg : Is g A.gl) : Is (val_main_v70 (F := Ideal) x g x4 x5) (fun r _ => Norm.sq 512 rmsEps (A.yl r) (fun l => A.dl r l * A.gl 0 l)) := by
  intro r j
  pointwise [val_main_v70, val_main_v69, val_main_cst_16, val_main_v68, val_main_v67, val_main_cst_15, val_main_v66, val_main_v63, val_main_v62, val_main_cst_14, val_main_v61]
  rw [n512]
  simp only [Fin.sum_univ_one]
  exact sq_of (by decide) (fun i => x (ix2 r i)) (fun i => val_main_v60 (F := Ideal) g x4 x5 (ix2 r i)) _ _ (fun i => h r i) (fun i => tl_is h4 h5 hg r i) (hf_is h r 0)

theorem dyl_is (h : Is x A.yl) (hg : Is g A.gl) : Is (val_main_v72 (F := Ideal) x g x4 x5) A.dyl := by
  intro r j
  pointwise [val_main_v72, val_main_v65, val_main_v64, val_main_v71, val_main_v2, val_main_v1, val_main_v18, val_main_cst, val_main_cst_4]
  rw [two_bits]
  exact gr2_of (c := A.yl r) (t := fun l => A.dl r l * A.gl 0 l) (h r j) (tl_is h4 h5 hg r j) (rs_is h r 0) (sql_is h4 h5 h hg r j)

theorem dgs_is (h : Is x A.ys) : Is (val_main_v41 (F := Ideal) x x4 x5) (fun _ j => ∑ r ∈ range 8192, A.dgs j r) := by
  intro o j
  pointwise [val_main_v41, val_main_v40, val_main_cst_9, val_main_v39]
  exact dot_of _ _ (fun r => A.ys r j * rs 512 rmsEps (A.ys r)) (fun r => A.ds r j) (fun r => xh_is h r j) (fun r => ds_is h4 h5 r j)

theorem ts_is (hg : Is g A.gs) : Is (val_main_v43 (F := Ideal) g x4 x5) (fun r l => A.ds r l * A.gs 0 l) := by
  intro r j
  pointwise [val_main_v43, val_main_v42]
  rw [ds_is h4 h5 r j, hg 0 j, ← EReal.coe_mul]
  rfl

theorem sqs_is (h : Is x A.ys) (hg : Is g A.gs) : Is (val_main_v53 (F := Ideal) x g x4 x5) (fun r _ => Norm.sq 512 rmsEps (A.ys r) (fun l => A.ds r l * A.gs 0 l)) := by
  intro r j
  pointwise [val_main_v53, val_main_v52, val_main_cst_12, val_main_v51, val_main_v50, val_main_cst_11, val_main_v49, val_main_v46, val_main_v45, val_main_cst_10, val_main_v44]
  rw [n512]
  simp only [Fin.sum_univ_one]
  exact sq_of (by decide) (fun i => x (ix2 r i)) (fun i => val_main_v43 (F := Ideal) g x4 x5 (ix2 r i)) _ _ (fun i => h r i) (fun i => ts_is h4 h5 hg r i) (hf_is h r 0)

theorem dys_is (h : Is x A.ys) (hg : Is g A.gs) : Is (val_main_v55 (F := Ideal) x g x4 x5) A.dys := by
  intro r j
  pointwise [val_main_v55, val_main_v48, val_main_v47, val_main_v54, val_main_v19, val_main_v1, val_main_v18, val_main_cst, val_main_cst_4]
  rw [two_bits]
  exact gr2_of (c := A.ys r) (t := fun l => A.ds r l * A.gs 0 l) (h r j) (ts_is h4 h5 hg r j) (rs_is h r 0) (sqs_is h4 h5 h hg r j)

theorem dysb_is (h : Is x A.ys) (hg : Is g A.gs) : Is (val_main_v73 (F := Ideal) x g x4 x5) A.dys := by
  intro r j
  pointwise [val_main_v73]
  exact dys_is h4 h5 h hg r j

end

end Cert.MixRefIdeal.Hand

end

end
-- ==== Proof.MixFinite.lean ====
/-
  The two heads' finite arguments are arrays of reals.
-/
module

public import proofs.«01_k».proof.Pre_mix_finite
public import proofs.«01_k».proof.Proof.Finite

@[expose] public section

set_option maxRecDepth 16384

noncomputable section

namespace Cert.Pre_mix_finite

open Idealize.ShloMosaic Cert.Norm Cert.Sb

/-- The side conditions of the predicate's operations. -/
instance facts : Facts where
  bcast_S_S8192x512 := by decide
  reducesTo_S8192x512_S_d0_1 := by decide
  h_S_ := by decide
  bcast_S_S1x512 := by decide
  reducesTo_S1x512_S_d0_1 := by decide
  bcast_S_S1024x1024 := by decide
  reducesTo_S1024x1024_S_d0_1 := by decide
  bcast_S_S8192x1024 := by decide
  reducesTo_S8192x1024_S_d0_1 := by decide

variable [Facts]
open Facts

/-- Arguments that pass are arrays of reals. -/
theorem reals (x0 x1 : FVec Ideal S8192x512 .f32) (x2 x3 : FVec Ideal S1x512 .f32) (x4 : FVec Ideal S1024x1024 .f32) (x5 : FVec Ideal S8192x1024 .f32)
    (h : fn (F := Ideal) x0 x1 x2 x3 x4 x5 = fun _ => 1#1) : Is x0 (num x0) ∧ Is x1 (num x1) ∧ Is x2 (num x2) ∧ Is x3 (num x3) ∧ Is x4 (num x4) ∧ Is x5 (num x5) := by
  let i : S_.Idx := fun k => k.elim0
  let P (x : FVec Ideal S1x512 .f32) := ok x bcast_S_S1x512 reducesTo_S1x512_S_d0_1 h_S_ i
  let Q (x : FVec Ideal S8192x512 .f32) := ok x bcast_S_S8192x512 reducesTo_S8192x512_S_d0_1 h_S_ i
  have e : IntOp.andi (IntOp.andi (IntOp.andi (IntOp.andi (IntOp.andi (Q x0) (Q x1)) (P x2)) (P x3)) (ok x4 bcast_S_S1024x1024 reducesTo_S1024x1024_S_d0_1 h_S_ i))
      (ok x5 bcast_S_S8192x1024 reducesTo_S8192x1024_S_d0_1 h_S_ i) = 1#1 := congrFun h i
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨is_of_ok h0, is_of_ok h1, is_of_ok h2, is_of_ok h3, is_of_ok h4, is_of_ok h5⟩

end Cert.Pre_mix_finite

end

end
-- ==== Proof.MixValue.lean ====
/-
  The gradient kernel of the two heads' norms equals the derivative of the plain norms and product, at finite arguments.
-/
module

public import proofs.«01_k».proof.Defs
public import proofs.«01_k».proof.Proof.MixRef
public import proofs.«01_k».proof.Proof.MixFinite
public import proofs.«01_k».proof.Proof.CrossValue
public import proofs.«01_k».proof.Proof.Gen.MixRefIdeal.Run

@[expose] public section

set_option maxRecDepth 16384

noncomputable section

namespace Cert.Mix

open Cert.Sb Cert.Norm Cert.Grad Idealize.ShloMosaic Idealize.ShloMosaic.TcCoe Idealize.SL.Sem

/-- The reference runs and keeps its arguments. -/
theorem frame_ref : Cert.quiescent_MixRefIdeal := fun m ρ _ =>
  (θ_run Cert.MixRefIdeal.defs _ _).mono (fun r h => ⟨fun c => (h c).2.2.2.2, sem_eq_zero_of_no_sems (by decide) r.2⟩)
    (Cert.MixRefIdeal.Value.run m ρ)

/-- The gradient kernel's four results are the derivative's. -/
theorem value [Cert.Pre_mix_finite.Facts] : Cert.algebraic_MixBwdIdeal_MixRefIdeal_pre_mix_finite := by
  intro m g m' g' hpre hagree
  have hA : ∀ c, ∃ A : Args, Cert.MixBwdIdeal.Hand.ArgIs m A c := fun c => by
    obtain ⟨h0, h1, h2, h3, h4, h5⟩ := Cert.Pre_mix_finite.reals _ _ _ _ _ _ (hpre c)
    exact ⟨⟨_, _, _, _, _, _⟩, ⟨h0, h1, h2, h3, h4, h5⟩⟩
  choose A hA using hA
  refine ⟨fun c => (Cert.MixBwdIdeal.Gen.dats m 0 c).arrAt 6 Cert.MixBwdIdeal.cfg0.N, fun c => (Cert.MixBwdIdeal.Gen.dats m 0 c).arrAt 7 Cert.MixBwdIdeal.cfg0.N,
    fun c => (Cert.MixBwdIdeal.Gen.dats m 0 c).arrAt 8 Cert.MixBwdIdeal.cfg0.N, fun c => (Cert.MixBwdIdeal.Gen.dats m 0 c).arrAt 9 Cert.MixBwdIdeal.cfg0.N,
    Cert.MixBwdIdeal.Value.run_blocks (F := Ideal) m g, (θ_run Cert.MixRefIdeal.defs _ _).mono (fun r h c => ?_) (Cert.MixRefIdeal.Value.run m' g')⟩
  obtain ⟨h1, h2, h3, h4, h5⟩ := h c
  obtain ⟨a0, a1, a2, a3, a4, a5⟩ := hagree c
  rw [Cert.MixRefIdeal.Read.val_main_v72_eq, a0, a2, a4, a5] at h1
  rw [Cert.MixRefIdeal.Read.val_main_v73_eq, a1, a3, a4, a5] at h2
  rw [Cert.MixRefIdeal.Read.val_main_v58_eq, a0, a4, a5] at h3
  rw [Cert.MixRefIdeal.Read.val_main_v41_eq, a1, a4, a5] at h4
  obtain ⟨b0, b1, b2, b3, b4, b5⟩ := hA c
  exact ⟨h1.trans (Cert.Cross.ext2 (Cert.MixRefIdeal.Hand.dyl_is b4 b5 b0 b2) (Cert.MixBwdIdeal.Hand.final6 (hA c))),
    h2.trans (Cert.Cross.ext2 (Cert.MixRefIdeal.Hand.dysb_is b4 b5 b1 b3) (Cert.MixBwdIdeal.Hand.final7 (hA c))),
    h3.trans (Cert.Cross.ext2 (Cert.MixRefIdeal.Hand.dgl_is b4 b5 b0) (Cert.MixBwdIdeal.Hand.final8 (hA c))),
    h4.trans (Cert.Cross.ext2 (Cert.MixRefIdeal.Hand.dgs_is b4 b5 b1) (Cert.MixBwdIdeal.Hand.final9 (hA c))), h5⟩

end Cert.Mix

end

end
-- ==== Proof.Ffn2Ref.lean ====
/-
  The derivative of the plain second feed-forward layer and of the third layer norm, on finite arguments, as real numbers.
-/
module

public import proofs.«01_k».proof.Proof.Ln2Ref
public import proofs.«01_k».proof.Proof.FfnRef
public import proofs.«01_k».proof.Proof.Gen.Ffn2RefIdeal.Read

@[expose] public section

set_option maxRecDepth 16384

noncomputable section

namespace Cert.Ffn2

open Cert.Norm Cert.Ffn Finset

/-- The arguments' numbers: the two summands of the norm's input, the gains, the offsets, the layer's two weight matrices, the cotangent. -/
structure Args where
  x : ℕ → ℕ → ℝ
  f : ℕ → ℕ → ℝ
  g : ℕ → ℕ → ℝ
  b : ℕ → ℕ → ℝ
  w13 : ℕ → ℕ → ℝ
  w2 : ℕ → ℕ → ℝ
  z : ℕ → ℕ → ℝ

namespace Args

variable (A : Args)

/-- The normed rows. -/
def h (r j : ℕ) : ℝ := xh 1024 lnEps (mixR A.x A.f r) j * A.g 0 j + A.b 0 j

/-- The layer on the normed rows. -/
abbrev ffn : Cert.Ffn.Args := ⟨A.h, A.w13, A.w2, A.z⟩

/-- The gradient of the normed rows. -/
abbrev dy : ℕ → ℕ → ℝ := A.ffn.dh

/-- The gradient of the norm's input. -/
def dz (r j : ℕ) : ℝ := lnR 1024 lnEps (mixR A.x A.f r) (fun l => A.dy r l * A.g 0 l) j

/-- A row's term of the gains' gradient. -/
def dgAt (j r : ℕ) : ℝ := xh 1024 lnEps (mixR A.x A.f r) j * A.dy r j

end Args

end Cert.Ffn2

namespace Cert.Ffn2RefIdeal.Hand

open Cert.Sb Cert.Norm Cert.Ffn Cert.Ffn2 Cert.Ffn2RefIdeal Cert.Ffn2RefIdeal.Read Idealize.ShloMosaic Idealize.ShloMosaic.TcCoe Finset

variable {A : Cert.Ffn2.Args} {x0 x1 x6 : S8192x1024.Idx → Ideal .f32} {x2 x3 : S1x1024.Idx → Ideal .f32} {x4 : S1024x5376.Idx → Ideal .f32} {x5 : S2688x1024.Idx → Ideal .f32}

/-- The second norm's numbers with this norm's two summands. -/
abbrev ln (A : Cert.Ffn2.Args) : Cert.Ln2.Args := ⟨A.x, A.f, A.g, A.w2, A.z, A.z⟩

section norm
variable (h0 : Is x0 A.x) (h1 : Is x1 A.f)
include h0 h1

theorem zc_is : Is (val_main_v8 (F := Ideal) x0 x1) (fun r => cen 1024 (mixR A.x A.f r)) := Cert.Ln2RefIdeal.Hand.zc_is (A := ln A) h0 h1

theorem zc2_is : Is (val_main_v17 (F := Ideal) x0 x1) (fun r => cen 1024 (mixR A.x A.f r)) := Cert.Ln2RefIdeal.Hand.zc2_is (A := ln A) h0 h1

theorem rs_is : Is (val_main_v20 (F := Ideal) x0 x1) (fun r _ => rs 1024 lnEps (cen 1024 (mixR A.x A.f r))) := Cert.Ln2RefIdeal.Hand.rs_is (A := ln A) h0 h1

theorem hf_is : Is (val_main_v23 (F := Ideal) x0 x1) (fun r _ => Norm.hf 1024 lnEps (cen 1024 (mixR A.x A.f r))) := Cert.Ln2RefIdeal.Hand.hf_is (A := ln A) h0 h1

theorem xh_is : Is (val_main_v25 (F := Ideal) x0 x1) (fun r => xh 1024 lnEps (mixR A.x A.f r)) := Cert.Ln2RefIdeal.Hand.xh_is (A := ln A) h0 h1

/-- The normed rows. -/
theorem h_is (h2 : Is x2 A.g) (h3 : Is x3 A.b) : Is (val_main_v29 (F := Ideal) x0 x1 x2 x3) A.h := by
  intro r j
  pointwise [val_main_v29, val_main_v28, val_main_v27, val_main_v26]
  rw [xh_is h0 h1 r j, h2 0 j, h3 0 j, ← EReal.coe_mul, ← EReal.coe_add]
  rfl

end norm

section
variable (h0 : Is x0 A.x) (h1 : Is x1 A.f) (h2 : Is x2 A.g) (h3 : Is x3 A.b) (h4 : Is x4 A.w13) (h5 : Is x5 A.w2) (h6 : Is x6 A.z)
include h0 h1 h2 h3 h4

theorem act3_is : Is3 (val_main_v91 (F := Ideal) x0 x1 x2 x3 x4) A.ffn.act := Cert.FfnRefIdeal.Hand.act3_is (A := A.ffn) (h_is h0 h1 h2 h3) h4

include h5 h6

theorem dgu_is : Is3 (val_main_v88 (F := Ideal) x0 x1 x2 x3 x4 x5 x6) A.ffn.dgu := Cert.FfnRefIdeal.Hand.dgu_is (A := A.ffn) (h_is h0 h1 h2 h3) h4 h5 h6

/-- The gradient of the normed rows. -/
theorem dy_is : Is (val_main_v53 (F := Ideal) x0 x1 x2 x3 x4 x5 x6) A.dy := Cert.FfnRefIdeal.Hand.dh_is (A := A.ffn) (h_is h0 h1 h2 h3) h4 h5 h6

theorem db_is : Is (val_main_v55 (F := Ideal) x0 x1 x2 x3 x4 x5 x6) (fun _ j => ∑ r ∈ range 8192, A.dy r j) := by
  intro o j
  pointwise [val_main_v55, val_main_v54, val_main_cst_11]
  exact sum_of _ (fun r => A.dy r j) (fun r => dy_is h0 h1 h2 h3 h4 h5 h6 r j)

theorem dg_is : Is (val_main_v58 (F := Ideal) x0 x1 x2 x3 x4 x5 x6) (fun _ j => ∑ r ∈ range 8192, A.dgAt j r) := by
  intro o j
  pointwise [val_main_v58, val_main_v57, val_main_cst_12, val_main_v56]
  exact dot_of _ _ (fun r => xh 1024 lnEps (mixR A.x A.f r) j) (fun r => A.dy r j) (fun r => xh_is h0 h1 r j) (fun r => dy_is h0 h1 h2 h3 h4 h5 h6 r j)

/-- The gradient before the gains. -/
theorem t_is : Is (val_main_v60 (F := Ideal) x0 x1 x2 x3 x4 x5 x6) (fun r l => A.dy r l * A.g 0 l) := by
  intro r j
  pointwise [val_main_v60, val_main_v59]
  rw [dy_is h0 h1 h2 h3 h4 h5 h6 r j, h2 0 j, ← EReal.coe_mul]
  rfl

theorem sq_is : Is (val_main_v73 (F := Ideal) x0 x1 x2 x3 x4 x5 x6) (fun r _ => Norm.sq 1024 lnEps (cen 1024 (mixR A.x A.f r)) (fun l => A.dy r l * A.g 0 l)) := by
  intro r j
  pointwise [val_main_v73, val_main_v72, val_main_cst_16, val_main_v71, val_main_v70, val_main_cst_15, val_main_v66, val_main_v63, val_main_v62, val_main_cst_13, val_main_v61]
  rw [n1024]
  simp only [Fin.sum_univ_one]
  exact sq_of (by decide) (fun i => val_main_v17 (F := Ideal) x0 x1 (ix2 r i)) (fun i => val_main_v60 (F := Ideal) x0 x1 x2 x3 x4 x5 x6 (ix2 r i)) _ _ (fun i => zc2_is h0 h1 r i)
    (fun i => t_is h0 h1 h2 h3 h4 h5 h6 r i) (hf_is h0 h1 r 0)

theorem p_is : Is (val_main_v65 (F := Ideal) x0 x1 x2 x3 x4 x5 x6) (fun r j => A.dy r j * A.g 0 j * rs 1024 lnEps (cen 1024 (mixR A.x A.f r))) := by
  intro r j
  pointwise [val_main_v65, val_main_v64]
  rw [t_is h0 h1 h2 h3 h4 h5 h6 r j, rs_is h0 h1 r 0, ← EReal.coe_mul]

theorem q_is : Is (val_main_v74 (F := Ideal) x0 x1 x2 x3 x4 x5 x6)
    (fun r j => Norm.sq 1024 lnEps (cen 1024 (mixR A.x A.f r)) (fun l => A.dy r l * A.g 0 l) * (2 * cen 1024 (mixR A.x A.f r) j)) := by
  intro r j
  pointwise [val_main_v74, val_main_v11, val_main_v10, val_main_cst_2]
  rw [sq_is h0 h1 h2 h3 h4 h5 h6 r j, two_bits, zc_is h0 h1 r j, ← EReal.coe_mul, ← EReal.coe_mul]

theorem dz_is : Is (val_main_v84 (F := Ideal) x0 x1 x2 x3 x4 x5 x6) A.dz := by
  intro r j
  pointwise [val_main_v84, val_main_v83, val_main_v82, val_main_cst_19, val_main_v81, val_main_v80, val_main_cst_18, val_main_v79, val_main_v77, val_main_v76, val_main_cst_17,
    val_main_v75, val_main_v69, val_main_v68, val_main_cst_14, val_main_v67, val_main_v78]
  rw [n1024]
  simp only [Fin.sum_univ_one]
  exact ln2_of (by decide) (fun i => val_main_v65 (F := Ideal) x0 x1 x2 x3 x4 x5 x6 (ix2 r i)) (fun i => val_main_v74 (F := Ideal) x0 x1 x2 x3 x4 x5 x6 (ix2 r i)) (mixR A.x A.f r)
    (fun l => A.dy r l * A.g 0 l) (fun i => p_is h0 h1 h2 h3 h4 h5 h6 r i) (fun i => q_is h0 h1 h2 h3 h4 h5 h6 r i) j

theorem dzb_is : Is (val_main_v85 (F := Ideal) x0 x1 x2 x3 x4 x5 x6) A.dz := by
  intro r j
  pointwise [val_main_v85]
  exact dz_is h0 h1 h2 h3 h4 h5 h6 r j

end

end Cert.Ffn2RefIdeal.Hand

end

end
-- ==== Proof.Ffn2Run.lean ====
/-
  The run of the second feed-forward layer's gradient kernel: its six result arrays after the launch, its arguments unchanged.
-/
module

public import proofs.«01_k».proof.Proof.Gen.Ffn2BwdIdeal.Frame
public import Idealize.ShloMosaic.Lib.Pipeline.Value
public import Idealize.ShloMosaic.Lib.Claim
public import proofs.«01_k».proof.Proof.SbArr

@[expose] public section

noncomputable section

namespace Cert.Ffn2BwdIdeal.Hand

open Cert.Ffn2BwdIdeal Cert.Ffn2BwdIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

variable {m} {r : PUnit × MemSt nD τ sig (Elt Ideal)} (h : Pipeline.FramePost cfgs (dats m) 0 (V m) r) (c : Dev nD)
include h

theorem out6 : r.2.mem ((c : Thread nD τ).loc main_v33_0) = (dats m 0 c).arrAt 6 cfg0.N := (h c).1 6
theorem out7 : r.2.mem ((c : Thread nD τ).loc main_v33_1) = (dats m 0 c).arrAt 7 cfg0.N := (h c).1 7
theorem out8 : r.2.mem ((c : Thread nD τ).loc main_v33_2) = (dats m 0 c).arrAt 8 cfg0.N := (h c).1 8
theorem out9 : r.2.mem ((c : Thread nD τ).loc main_v33_3) = (dats m 0 c).arrAt 9 cfg0.N := (h c).1 9
theorem out10 : r.2.mem ((c : Thread nD τ).loc main_v33_4) = (dats m 0 c).arrAt 10 cfg0.N := (h c).1 10
theorem out11 : r.2.mem ((c : Thread nD τ).loc main_v33_5) = (dats m 0 c).arrAt 11 cfg0.N := (h c).1 11

omit h

variable (m) in
set_option maxHeartbeats 2000000 in
/-- After the run the result arrays hold what the grid's points wrote, and the arguments what they held. -/
theorem run_blocks : θ_run defs (onTc (τ := τ) (main (F := Ideal))) ⟨m, fun _ => 0, ρ⟩ fun r => ∀ c : Dev nD,
      r.2.mem ((c : Thread nD τ).loc main_v33_0) = (dats m 0 c).arrAt 6 cfg0.N
      ∧ r.2.mem ((c : Thread nD τ).loc main_v33_1) = (dats m 0 c).arrAt 7 cfg0.N
      ∧ r.2.mem ((c : Thread nD τ).loc main_v33_2) = (dats m 0 c).arrAt 8 cfg0.N
      ∧ r.2.mem ((c : Thread nD τ).loc main_v33_3) = (dats m 0 c).arrAt 9 cfg0.N
      ∧ r.2.mem ((c : Thread nD τ).loc main_v33_4) = (dats m 0 c).arrAt 10 cfg0.N
      ∧ r.2.mem ((c : Thread nD τ).loc main_v33_5) = (dats m 0 c).arrAt 11 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨out6 h c, out7 h c, out8 h c, out9 h c, out10 h c, out11 h c,
      (h.in_eq c 2 rfl).trans (V_main_arg0 m c), (h.in_eq c 3 rfl).trans (V_main_arg1 m c), (h.in_eq c 4 rfl).trans (V_main_arg2 m c), (h.in_eq c 5 rfl).trans (V_main_arg3 m c),
      (h.rest_eq c main_arg4 (Pipeline.mem_restRefs_of main_arg4 (by decide) (by decide))).trans (V_main_arg4 m c),
      (h.rest_eq c main_arg5 (Pipeline.mem_restRefs_of main_arg5 (by decide) (by decide))).trans (V_main_arg5 m c),
      (h.in_eq c 0 rfl).trans (V_main_arg6 m c)⟩)
    (run_main m ρ)

end Cert.Ffn2BwdIdeal.Hand

end

end
-- ==== Proof.Ffn2Kernel.lean ====
/-
  The gradient of the second feed-forward layer and of the third layer norm, on finite arguments: what the kernel's six result arrays
  hold after the run, as real numbers.
-/
module

public import proofs.«01_k».proof.Proof.Ffn2Ref
public import proofs.«01_k».proof.Proof.Ffn2Run
public import proofs.«01_k».proof.Proof.FfnKernel

@[expose] public section

set_option maxRecDepth 16384

noncomputable section

namespace Cert.Ffn2BwdIdeal.Hand

open Cert.Sb Cert.Norm Cert.Ffn Cert.Ffn2 Cert.Ffn2BwdIdeal Cert.Ffn2BwdIdeal.Gen Idealize.ShloMosaic Idealize.ShloMosaic.TcCoe Idealize.SL.Sem Finset Idealize.ShloMosaic.StableHlo
open Cert.FfnBwdIdeal.Hand (gL vL wL dh_point dgu_point act_point ld_chunk)
open Idealize.ShloMosaic.Pipeline (Dat)

/-- The layer's operations are the first layer's. -/
theorem same :
    @k0_pay1 Ideal _ = @Cert.FfnBwdIdeal.Gen.k0_pay2 Ideal _ ∧
    @k0_pay2 Ideal _ = @Cert.FfnBwdIdeal.Gen.k0_pay3 Ideal _ ∧
    @k0_pay8 Ideal _ = @Cert.FfnBwdIdeal.Gen.k0_pay9 Ideal _ ∧
    @k0_pay9 Ideal _ = @Cert.FfnBwdIdeal.Gen.k0_pay10 Ideal _ ∧
    @k0_pay10 Ideal _ = @Cert.FfnBwdIdeal.Gen.k0_pay11 Ideal _ ∧
    @k0_pay11 Ideal = @Cert.FfnBwdIdeal.Gen.k0_pay12 Ideal ∧
    @k0_pay12 Ideal = @Cert.FfnBwdIdeal.Gen.k0_pay13 Ideal ∧
    @k0_pay13 Ideal _ = @Cert.FfnBwdIdeal.Gen.k0_pay14 Ideal _ ∧
    @k0_pay15 Ideal _ = @Cert.FfnBwdIdeal.Gen.k0_pay16 Ideal _ ∧
    @k0_pay18 Ideal _ = @Cert.FfnBwdIdeal.Gen.k0_pay19 Ideal _ ∧
    @k0_pay19 Ideal _ = @Cert.FfnBwdIdeal.Gen.k0_pay20 Ideal _ ∧
    @k0_pay20 Ideal _ = @Cert.FfnBwdIdeal.Gen.k0_pay21 Ideal _ ∧
    @k0_pay21 Ideal _ = @Cert.FfnBwdIdeal.Gen.k0_pay22 Ideal _ ∧
    @k0_pay22 Ideal = @Cert.FfnBwdIdeal.Gen.k0_pay23 Ideal ∧
    @k0_pay23 Ideal = @Cert.FfnBwdIdeal.Gen.k0_pay24 Ideal ∧
    @k0_pay24 Ideal _ = @Cert.FfnBwdIdeal.Gen.k0_pay25 Ideal _ ∧
    @k0_pay25 Ideal _ = @Cert.FfnBwdIdeal.Gen.k0_pay26 Ideal _ ∧
    @k0_pay26 Ideal _ = @Cert.FfnBwdIdeal.Gen.k0_pay27 Ideal _ ∧
    @k0_pay27 Ideal _ = @Cert.FfnBwdIdeal.Gen.k0_pay28 Ideal _ ∧
    @k0_pay28 Ideal _ = @Cert.FfnBwdIdeal.Gen.k0_pay29 Ideal _ ∧
    @k0_pay29 Ideal _ = @Cert.FfnBwdIdeal.Gen.k0_pay30 Ideal _ ∧
    @k0_pay30 Ideal _ = @Cert.FfnBwdIdeal.Gen.k0_pay31 Ideal _ ∧
    @k0_pay33 Ideal _ = @Cert.FfnBwdIdeal.Gen.k0_pay34 Ideal _ ∧
    @k0_pay34 Ideal _ = @Cert.FfnBwdIdeal.Gen.k0_pay35 Ideal _ ∧
    @k0_pay35 Ideal _ = @Cert.FfnBwdIdeal.Gen.k0_pay36 Ideal _ ∧
    @k0_pay36 Ideal _ = @Cert.FfnBwdIdeal.Gen.k0_pay37 Ideal _ ∧
    @k0_pay37 Ideal _ = @Cert.FfnBwdIdeal.Gen.k0_pay38 Ideal _ ∧
    @k0_pay44 Ideal _ = @Cert.FfnBwdIdeal.Gen.k0_pay45 Ideal _ ∧
    @k0_pay45 Ideal _ = @Cert.FfnBwdIdeal.Gen.k0_pay46 Ideal _ ∧
    @k0_pay46 Ideal _ = @Cert.FfnBwdIdeal.Gen.k0_pay47 Ideal _ ∧
    @k0_pay47 Ideal _ = @Cert.FfnBwdIdeal.Gen.k0_pay48 Ideal _ ∧
    @k0_pay48 Ideal _ = @Cert.FfnBwdIdeal.Gen.k0_pay49 Ideal _ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩

/-! ### One tile of rows of the norm -/

variable {X Fm G D : ℕ → ℕ → ℝ}

/-- The norm's input. -/
theorem in_of {x f : EReal} {a b : ℝ} (hx : x = (a : EReal)) (hf : f = (b : EReal)) : ((alpha : ℝ) : EReal) * x + f = ((alpha * a + b : ℝ) : EReal) := by
  rw [hx, hf, ← EReal.coe_mul, ← EReal.coe_add]

theorem zc_is {x f : S256x1024.Idx → EReal} (hx : Is x X) (hf : Is f Fm) : Is (k0_pay50 (F := Ideal) x f) (fun a => cen 1024 (mixR X Fm a)) := by
  intro a b
  pointwise [k0_pay50]
  rw [alpha_bits, n1024]
  exact cen_of (by decide) (fun i => ((alpha : ℝ) : EReal) * x (ix2 a i) + f (ix2 a i)) (mixR X Fm a) (fun i => in_of (hx a i) (hf a i)) b

theorem var_is {x f : S256x1024.Idx → EReal} (hx : Is x X) (hf : Is f Fm) : Is (k0_pay51 (F := Ideal) x f) (fun a _ => vr 1024 lnEps (cen 1024 (mixR X Fm a))) := by
  intro a b
  pointwise [k0_pay51]
  rw [eps_bits, n1024]
  exact vr_of (by decide) lnEps (fun i => k0_pay50 (F := Ideal) x f (ix2 a i)) _ (fun i => zc_is hx hf a i)

theorem rs_is {x f : S256x1024.Idx → EReal} (hx : Is x X) (hf : Is f Fm) : Is (k0_pay52 (F := Ideal) x f) (fun a _ => rs 1024 lnEps (cen 1024 (mixR X Fm a))) := by
  intro a b
  pointwise [k0_pay52]
  exact rs_of eps_pos (var_is hx hf a b)

variable {v w : FVec Ideal S256x1024 .f32} {x f : S256x1024.Idx → EReal} {g : S1x1024.Idx → EReal}

/-- The layer's input gradient, which the norm takes, is the first layer's result. -/
theorem dy_of (h : Is (Cert.FfnBwdIdeal.Gen.k0_pay1 (F := Ideal) v w) D) : Is (k0_pay49 (F := Ideal) v w) D := h

theorem db_is (hd : Is (k0_pay49 (F := Ideal) v w) D) : Is (k0_pay53 (F := Ideal) v w) (fun _ j => ∑ r ∈ range 256, D r j) := by
  intro a b
  pointwise [k0_pay53]
  exact sum_of _ (fun r => D r b) (fun r => hd r b)

theorem dg_is (hd : Is (k0_pay49 (F := Ideal) v w) D) (hx : Is x X) (hf : Is f Fm) :
    Is (k0_pay54 (F := Ideal) v w x f) (fun _ j => ∑ r ∈ range 256, xh 1024 lnEps (mixR X Fm r) j * D r j) := by
  intro a b
  pointwise [k0_pay54]
  refine sum_of _ (fun r => xh 1024 lnEps (mixR X Fm r) b * D r b) (fun r => ?_)
  rw [zc_is hx hf r b, rs_is hx hf r 0, hd r b, ← EReal.coe_mul, ← EReal.coe_mul]
  rfl

theorem t_is (hd : Is (k0_pay49 (F := Ideal) v w) D) (hg : Is g G) : Is (k0_pay55 (F := Ideal) v w g) (fun a l => D a l * G 0 l) := by
  intro a b
  pointwise [k0_pay55]
  rw [hd a b, hg 0 b, ← EReal.coe_mul]
  rfl

theorem dz_is (hd : Is (k0_pay49 (F := Ideal) v w) D) (hx : Is x X) (hf : Is f Fm) (hg : Is g G) :
    Is (k0_pay59 (F := Ideal) (k0_pay50 x f) (k0_pay56 v w x f g) (k0_pay57 v w x f g) k0_pay58) (fun a => lnR 1024 lnEps (mixR X Fm a) (fun l => D a l * G 0 l)) := by
  intro a b
  pointwise [k0_pay59, k0_pay56, k0_pay57, k0_pay58]
  rw [n1024, neg_half]
  simp only [Fin.sum_univ_one]
  exact ln_of (by decide) _ (mixR X Fm a) (fun l => D a l * G 0 l) (fun i => gr_of (zc_is hx hf a i) (t_is hd hg a i) (rs_is hx hf a 0)
    (sq_of (by decide) (fun i => k0_pay50 (F := Ideal) x f (ix2 a i)) (fun i => k0_pay55 (F := Ideal) v w g (ix2 a i)) _ _ (fun i => zc_is hx hf a i) (fun i => t_is hd hg a i)
      (hf_of eps_pos (rs_is hx hf a 0) (var_is hx hf a 0)))) b

theorem dzb_is (hd : Is (k0_pay49 (F := Ideal) v w) D) (hx : Is x X) (hf : Is f Fm) (hg : Is g G) :
    Is (k0_pay62 (F := Ideal) (k0_pay50 x f) (k0_pay56 v w x f g) (k0_pay57 v w x f g) k0_pay58) (fun a => lnR 1024 lnEps (mixR X Fm a) (fun l => D a l * G 0 l)) := by
  intro a b
  pointwise [k0_pay62]
  exact dz_is hd hx hf hg a b

/-! ### The blocks a grid point reads -/

variable (m : (ℓ : Loc nD τ sig) → Buf (Elt Ideal) ℓ)

abbrev a0 (c : Dev nD) : S8192x1024.Idx → Ideal .f32 := m ((c.tc : Thread nD τ).loc main_arg0)
abbrev a1 (c : Dev nD) : S8192x1024.Idx → Ideal .f32 := m ((c.tc : Thread nD τ).loc main_arg1)
abbrev a2 (c : Dev nD) : S1x1024.Idx → Ideal .f32 := m ((c.tc : Thread nD τ).loc main_arg2)
abbrev a3 (c : Dev nD) : S1x1024.Idx → Ideal .f32 := m ((c.tc : Thread nD τ).loc main_arg3)
abbrev a4 (c : Dev nD) : S1024x5376.Idx → Ideal .f32 := m ((c.tc : Thread nD τ).loc main_arg4)
abbrev a5 (c : Dev nD) : S2688x1024.Idx → Ideal .f32 := m ((c.tc : Thread nD τ).loc main_arg5)
abbrev a6 (c : Dev nD) : S8192x1024.Idx → Ideal .f32 := m ((c.tc : Thread nD τ).loc main_arg6)

/-- The arguments hold the numbers `A`. -/
structure ArgIs (A : Cert.Ffn2.Args) (c : Dev nD) : Prop where
  x : Is (a0 m c) A.x
  f : Is (a1 m c) A.f
  g : Is (a2 m c) A.g
  b : Is (a3 m c) A.b
  w13 : Is (a4 m c) A.w13
  w2 : Is (a5 m c) A.w2
  z : Is (a6 m c) A.z

variable {m} {A : Cert.Ffn2.Args} {c : Dev nD}

theorem read_w2 (H : ArgIs m A c) : Is (V m c main_v32 : S2688x1024.Idx → EReal) A.w2 := by
  have e : (V m c main_v32 : S2688x1024.Idx → EReal) = a5 m c := by
    unfold V
    simp only [hostOps0, List.flatten_cons, List.flatten_nil, List.cons_append, List.nil_append, List.append_nil]
    after_reads_simp
    rfl
  rw [e]
  exact H.w2

theorem read_w13 (H : ArgIs m A c) : Is3 (V m c main_v31 : S8x672x1024.Idx → EReal) (fun k l e => A.w13 e (672 * k + l)) := by
  intro k l d
  have e : (V m c main_v31 : S8x672x1024.Idx → EReal) (ix3 k l d) = a4 m c (ix2 d ⟨672 * k.val + l.val, by have := k.isLt; have := l.isLt; omega⟩) := by
    unfold V
    simp only [hostOps0, List.flatten_cons, List.flatten_nil, List.cons_append, List.nil_append, List.append_nil]
    after_reads_at
    exact congrArg (a4 m c) (congrArg (ix2 d) (Fin.ext (by dsimp only; omega)))
  rw [e]
  exact H.w13 d _

/-- The gates and factors before they are cut into chunks are the plain program's. -/
theorem read_gu (H : ArgIs m A c) : Is3 (V m c main_v28 : S8x8192x672.Idx → EReal) (fun k r l => A.ffn.gu r (672 * k + l)) := by
  intro k r l
  have e : (V m c main_v28 : S8x8192x672.Idx → EReal) = (truncf .bf16 (transpose S8x8192x672 [1, 0, 2] (shapeCast S8192x8x672
      (Cert.Ffn2RefIdeal.Read.val_main_v30 (F := Ideal) (a0 m c) (a1 m c) (a2 m c) (a3 m c) (a4 m c)) shapeCasts_S8192x5376_S8192x8x672)
      transposes_S8192x8x672_S8x8192x672_1_0_2) bitsLt_bf16_f32 : FVec Ideal S8x8192x672 .bf16) := by
    unfold V
    simp only [hostOps0, List.flatten_cons, List.flatten_nil, List.cons_append, List.nil_append, List.append_nil]
    after_reads_simp
    rfl
  rw [e]
  pointwise []
  have h := Cert.FfnRefIdeal.Hand.gu_is (A := A.ffn) (Cert.Ffn2RefIdeal.Hand.h_is H.x H.f H.g H.b) H.w13
  refine (h r ⟨672 * k.val + l.val, by have := k.isLt; have := l.isLt; omega⟩ |> Eq.trans ?_)
  exact congrArg (Cert.Ffn2RefIdeal.Read.val_main_v30 (F := Ideal) (a0 m c) (a1 m c) (a2 m c) (a3 m c) (a4 m c)) (congrArg (ix2 r) (Fin.ext (by dsimp only; omega)))

/-- The windows' index maps over the grid's points. -/
theorem idx0 : ∀ t : Fin cfg0.N, win0_0.index t = ![t.val, 0] ∧ win0_1.index t = ![0, t.val, 0] ∧ win0_2.index t = ![t.val, 0] ∧ win0_3.index t = ![t.val, 0]
    ∧ win0_4.index t = ![0, 0] ∧ win0_6.index t = ![t.val, 0] ∧ win0_7.index t = ![t.val, 0] ∧ win0_8.index t = ![0, t.val, 0] ∧ win0_9.index t = ![0, t.val, 0] :=
  (by decide +kernel : ∀ t : Fin grid0.N, _)

theorem lt32 (t : Fin cfg0.N) : t.val < 32 := by have := t.isLt; have hN : cfg0.N = 32 := N_0; omega

section blocks
variable (H : ArgIs m A c) (t : Fin cfg0.N)
include H

theorem ldZ : Is (iblk m c 0 t : S256x1024.Idx → EReal) (fun a => A.z (256 * t.val + a)) := by
  have ht := lt32 t
  intro a e
  obtain ⟨e0, -⟩ := idx0 t
  refine Eq.trans ?_ (H.z ⟨256 * t.val + a.val, by omega⟩ e)
  blk_ext [iblk, V_main_arg6, e0]

theorem ldG (k : Fin 8) : Is3 (gL (iblk m c 1 t) k) (fun _ a l => A.ffn.gu (256 * t.val + a) (672 * k.val + l)) := by
  have ht := lt32 t
  intro o a l
  obtain rfl := Fin.eq_zero o
  obtain ⟨-, e0, -⟩ := idx0 t
  refine (ld_chunk _ k _ a l).trans (Eq.trans ?_ (read_gu H k ⟨256 * t.val + a.val, by omega⟩ l))
  blk_ext [iblk, e0]

theorem ldX : Is (iblk m c 2 t : S256x1024.Idx → EReal) (fun a => A.x (256 * t.val + a)) := by
  have ht := lt32 t
  intro a e
  obtain ⟨-, -, e0, -⟩ := idx0 t
  refine Eq.trans ?_ (H.x ⟨256 * t.val + a.val, by omega⟩ e)
  blk_ext [iblk, V_main_arg0, e0]

theorem ldF : Is (iblk m c 3 t : S256x1024.Idx → EReal) (fun a => A.f (256 * t.val + a)) := by
  have ht := lt32 t
  intro a e
  obtain ⟨-, -, -, e0, -⟩ := idx0 t
  refine Eq.trans ?_ (H.f ⟨256 * t.val + a.val, by omega⟩ e)
  blk_ext [iblk, V_main_arg1, e0]

theorem ldGain : Is (iblk m c 4 t : S1x1024.Idx → EReal) A.g := by
  intro a e
  obtain ⟨-, -, -, -, e0, -⟩ := idx0 t
  refine Eq.trans ?_ (H.g a e)
  blk_ext [iblk, V_main_arg2, e0]

end blocks

/-! ### What a grid point stores -/

/-- The kernel's two copies of the weights after every point. -/
theorem kept (m : (ℓ : Loc nD τ sig) → Buf (Elt Ideal) ℓ) (c : Dev nD) : ∀ (n : ℕ) (h : n < cfg0.N),
    (outsAt0 m c n h).2.2.2.2.2.2.1 = V m c main_v31 ∧ (outsAt0 m c n h).2.2.2.2.2.2.2 = V m c main_v32 := by
  intro n
  induction n with
  | zero =>
    intro h
    rw [outsAt0_A m c ⟨0, h⟩ rfl rfl]
    frame_out
    exact ⟨View.canon_unit_zero rfl _ _, View.canon_unit_zero rfl _ _⟩
  | succ n ih =>
    intro h
    have hN : cfg0.N = 32 := N_0
    have e := outsAt0_B m c ⟨n + 1, h⟩ (by dsimp only; omega) (by dsimp only; omega)
    have hi := ih (by omega)
    rw [e]
    frame_out
    exact hi

theorem kept13 (H : ArgIs m A c) (n : ℕ) (h : n < cfg0.N) : Is3 ((outsAt0 m c n h).2.2.2.2.2.2.1 : S8x672x1024.Idx → EReal) (fun k l e => A.w13 e (672 * k + l)) := by
  rw [(kept m c n h).1]
  exact read_w13 H

theorem kept2 (H : ArgIs m A c) (n : ℕ) (h : n < cfg0.N) : Is ((outsAt0 m c n h).2.2.2.2.2.2.2 : S2688x1024.Idx → EReal) A.w2 := by
  rw [(kept m c n h).2]
  exact read_w2 H

set_option maxHeartbeats 4000000 in
theorem dz_block (H : ArgIs m A c) (t : Fin cfg0.N) : Is ((outsAt0 m c t.val t.isLt).1 : S256x1024.Idx → EReal) (fun a => A.dz (256 * t.val + a)) := by
  intro a e
  by_cases h0 : t.val % 32 = 0
  · rw [outsAt0_A m c t h0 h0]
    frame_open
    simp (disch := decide) only [↓ View.readCov_skip, ↓ View.readCov_cons_toLoadRect, ↓ View.readCov_fill, readCov_whole]
    frame_out
    simp only [same]
    exact dz_is (dy_of (dh_point (A := A.ffn) (t := t.val) (ldZ H t) (ldG H t) (read_w13 H) (read_w2 H))) (ldX H t) (ldF H t) (ldGain H t) a e
  · rw [outsAt0_B m c t h0 h0]
    frame_open
    simp (disch := decide) only [↓ View.readCov_skip, ↓ View.readCov_cons_toLoadRect, ↓ View.readCov_fill]
    frame_out
    simp only [Idealize.ShloMosaic.read_unread_whole, same]
    have ht := t.isLt
    have h13 := kept13 H (t.val - 1) (by omega)
    have h2 := kept2 H (t.val - 1) (by omega)
    generalize outsAt0 m c (t.val - 1) _ = prev at h13 h2 ⊢
    exact dz_is (dy_of (dh_point (A := A.ffn) (t := t.val) (ldZ H t) (ldG H t) h13 h2)) (ldX H t) (ldF H t) (ldGain H t) a e

set_option maxHeartbeats 4000000 in
theorem dzb_block (H : ArgIs m A c) (t : Fin cfg0.N) : Is ((outsAt0 m c t.val t.isLt).2.1 : S256x1024.Idx → EReal) (fun a => A.dz (256 * t.val + a)) := by
  intro a e
  by_cases h0 : t.val % 32 = 0
  · rw [outsAt0_A m c t h0 h0]
    frame_open
    simp (disch := decide) only [↓ View.readCov_skip, ↓ View.readCov_cons_toLoadRect, ↓ View.readCov_fill, readCov_whole]
    frame_out
    simp only [same]
    exact dzb_is (dy_of (dh_point (A := A.ffn) (t := t.val) (ldZ H t) (ldG H t) (read_w13 H) (read_w2 H))) (ldX H t) (ldF H t) (ldGain H t) a e
  · rw [outsAt0_B m c t h0 h0]
    frame_open
    simp (disch := decide) only [↓ View.readCov_skip, ↓ View.readCov_cons_toLoadRect, ↓ View.readCov_fill]
    frame_out
    simp only [Idealize.ShloMosaic.read_unread_whole, same]
    have ht := t.isLt
    have h13 := kept13 H (t.val - 1) (by omega)
    have h2 := kept2 H (t.val - 1) (by omega)
    generalize outsAt0 m c (t.val - 1) _ = prev at h13 h2 ⊢
    exact dzb_is (dy_of (dh_point (A := A.ffn) (t := t.val) (ldZ H t) (ldG H t) h13 h2)) (ldX H t) (ldF H t) (ldGain H t) a e

/-- The gates' and factors' gradient in a block of rows. -/
theorem dgu_block (H : ArgIs m A c) (t : Fin cfg0.N) (k : Fin 8) (a : Fin 256) (l : Fin 672) :
    ((outsAt0 m c t.val t.isLt).2.2.1 (ix3 k a l) : EReal) = ((A.ffn.dgu k.val (256 * t.val + a.val) l.val : ℝ) : EReal) := by
  by_cases h0 : t.val % 32 = 0
  · rw [outsAt0_A m c t h0 h0]
    frame_open
    simp (disch := decide) only [↓ View.readCov_skip, ↓ View.readCov_cons_toLoadRect, ↓ View.readCov_fill, readCov_whole]
    frame_out
    simp only [same]
    exact dgu_point (A := A.ffn) (ldZ H t) (ldG H t) (read_w2 H) k a l
  · rw [outsAt0_B m c t h0 h0]
    frame_open
    simp (disch := decide) only [↓ View.readCov_skip, ↓ View.readCov_cons_toLoadRect, ↓ View.readCov_fill]
    frame_out
    simp only [Idealize.ShloMosaic.read_unread_whole, same]
    have ht := t.isLt
    have h13 := kept13 H (t.val - 1) (by omega)
    have h2 := kept2 H (t.val - 1) (by omega)
    generalize outsAt0 m c (t.val - 1) _ = prev at h13 h2 ⊢
    exact dgu_point (A := A.ffn) (ldZ H t) (ldG H t) h2 k a l

/-- The activation in a block of rows. -/
theorem act_block (H : ArgIs m A c) (t : Fin cfg0.N) (k : Fin 4) (a : Fin 256) (l : Fin 672) :
    ((outsAt0 m c t.val t.isLt).2.2.2.1 (ix3 k a l) : EReal) = ((A.ffn.act k.val (256 * t.val + a.val) l.val : ℝ) : EReal) := by
  by_cases h0 : t.val % 32 = 0
  · rw [outsAt0_A m c t h0 h0]
    frame_out
    simp only [same]
    exact act_point (A := A.ffn) (ldG H t) k a l
  · rw [outsAt0_B m c t h0 h0]
    frame_out
    simp only [same]
    exact act_point (A := A.ffn) (ldG H t) k a l

/-- What a grid point adds to the gains' and to the offsets' gradient. -/
abbrev gTerm (A : Cert.Ffn2.Args) (t j : ℕ) : EReal := ((∑ r ∈ range 256, A.dgAt j (256 * t + r) : ℝ) : EReal)
abbrev bTerm (A : Cert.Ffn2.Args) (t j : ℕ) : EReal := ((∑ r ∈ range 256, A.dy (256 * t + r) j : ℝ) : EReal)

theorem dg_tile (H : ArgIs m A c) (t : Fin cfg0.N) (hd : Is (k0_pay49 (F := Ideal) v w) (fun a => A.dy (256 * t.val + a))) (P : S1x1024.Idx → EReal) (o : Fin 1) (b : Fin 1024) :
    (k0_pay63 (F := Ideal) (k0_pay54 v w (iblk m c 2 t) (iblk m c 3 t)) P (ix2 o b) : EReal) = P (ix2 o b) + gTerm A t.val b.val := by
  pointwise [k0_pay63]
  exact congrArg (_ + ·) (dg_is hd (ldX H t) (ldF H t) _ b)

theorem db_tile (t : Fin cfg0.N) (hd : Is (k0_pay49 (F := Ideal) v w) (fun a => A.dy (256 * t.val + a))) (P : S1x1024.Idx → EReal) (o : Fin 1) (b : Fin 1024) :
    (k0_pay64 (F := Ideal) (k0_pay53 v w) P (ix2 o b) : EReal) = P (ix2 o b) + bTerm A t.val b.val := by
  pointwise [k0_pay64]
  exact congrArg (_ + ·) (db_is hd _ b)

set_option maxHeartbeats 4000000 in
theorem stepA10 (H : ArgIs m A c) (t : Fin cfg0.N) (h0 : t.val % 32 = 0) (o : Fin 1) (b : Fin 1024) : (outsAt0 m c t.val t.isLt).2.2.2.2.1 (ix2 o b) = 0 + gTerm A t.val b.val := by
  rw [outsAt0_A m c t h0 h0]
  frame_open
  simp (disch := decide) only [↓ View.readCov_skip, ↓ View.readCov_cons_toLoadRect, ↓ View.readCov_fill, readCov_whole]
  frame_out
  simp only [same]
  refine (dg_tile H t (dy_of (dh_point (A := A.ffn) (t := t.val) (ldZ H t) (ldG H t) (read_w13 H) (read_w2 H))) _ o b).trans (congrArg (· + _) ?_)
  pointwise [k0_pay60]

set_option maxHeartbeats 4000000 in
theorem stepB10 (H : ArgIs m A c) (t : Fin cfg0.N) (h0 : ¬ t.val % 32 = 0) (o : Fin 1) (b : Fin 1024) : (outsAt0 m c t.val t.isLt).2.2.2.2.1 (ix2 o b)
    = (outsAt0 m c (t.val - 1) (by omega)).2.2.2.2.1 (ix2 o b) + gTerm A t.val b.val := by
  rw [outsAt0_B m c t h0 h0]
  frame_open
  simp (disch := decide) only [↓ View.readCov_skip, ↓ View.readCov_cons_toLoadRect, ↓ View.readCov_fill]
  frame_out
  simp only [Idealize.ShloMosaic.read_unread_whole, same]
  have ht := t.isLt
  have h13 := kept13 H (t.val - 1) (by omega)
  have h2 := kept2 H (t.val - 1) (by omega)
  generalize outsAt0 m c (t.val - 1) _ = prev at h13 h2 ⊢
  exact dg_tile H t (dy_of (dh_point (A := A.ffn) (t := t.val) (ldZ H t) (ldG H t) h13 h2)) _ o b

set_option maxHeartbeats 4000000 in
theorem stepA11 (H : ArgIs m A c) (t : Fin cfg0.N) (h0 : t.val % 32 = 0) (o : Fin 1) (b : Fin 1024) : (outsAt0 m c t.val t.isLt).2.2.2.2.2.1 (ix2 o b) = 0 + bTerm A t.val b.val := by
  rw [outsAt0_A m c t h0 h0]
  frame_open
  simp (disch := decide) only [↓ View.readCov_skip, ↓ View.readCov_cons_toLoadRect, ↓ View.readCov_fill, readCov_whole]
  frame_out
  simp only [same]
  refine (db_tile t (dy_of (dh_point (A := A.ffn) (t := t.val) (ldZ H t) (ldG H t) (read_w13 H) (read_w2 H))) _ o b).trans (congrArg (· + _) ?_)
  pointwise [k0_pay61]

set_option maxHeartbeats 4000000 in
theorem stepB11 (H : ArgIs m A c) (t : Fin cfg0.N) (h0 : ¬ t.val % 32 = 0) (o : Fin 1) (b : Fin 1024) : (outsAt0 m c t.val t.isLt).2.2.2.2.2.1 (ix2 o b)
    = (outsAt0 m c (t.val - 1) (by omega)).2.2.2.2.2.1 (ix2 o b) + bTerm A t.val b.val := by
  rw [outsAt0_B m c t h0 h0]
  frame_open
  simp (disch := decide) only [↓ View.readCov_skip, ↓ View.readCov_cons_toLoadRect, ↓ View.readCov_fill]
  frame_out
  simp only [Idealize.ShloMosaic.read_unread_whole, same]
  have ht := t.isLt
  have h13 := kept13 H (t.val - 1) (by omega)
  have h2 := kept2 H (t.val - 1) (by omega)
  generalize outsAt0 m c (t.val - 1) _ = prev at h13 h2 ⊢
  exact db_tile t (dy_of (dh_point (A := A.ffn) (t := t.val) (ldZ H t) (ldG H t) h13 h2)) _ o b

/-! ### The result arrays after the run -/

theorem final6 (H : ArgIs m A c) : Is ((dats m 0 c).arrAt 6 cfg0.N : S8192x1024.Idx → EReal) A.dz := by
  have e : ((dats m 0 c).arrAt 6 cfg0.N : S8192x1024.Idx → EReal) = fun j : S8192x1024.Idx => ((A.dz (j 0).val (j 1).val : ℝ) : EReal) := by
    refine (dats m 0 c).arrAt_eq_of_covers 6 _ (by decide +kernel) fun t hf y => ?_
    obtain ⟨-, -, -, -, -, e0, -⟩ := idx0 t
    have key : (outsAt0 m c t.val t.isLt).1 = fun y : S256x1024.Idx => ((A.dz (256 * t.val + (y 0).val) (y 1).val : ℝ) : EReal) := by
      funext y
      idx_vars y
      exact dz_block H t y0 y1
    blk_simp [e0]
    rw [after0_6, key]
    simp only [Nat.mul_comm t.val 256]
  intro a b
  exact congrFun e (ix2 a b)

theorem final7 (H : ArgIs m A c) : Is ((dats m 0 c).arrAt 7 cfg0.N : S8192x1024.Idx → EReal) A.dz := by
  have e : ((dats m 0 c).arrAt 7 cfg0.N : S8192x1024.Idx → EReal) = fun j : S8192x1024.Idx => ((A.dz (j 0).val (j 1).val : ℝ) : EReal) := by
    refine (dats m 0 c).arrAt_eq_of_covers 7 _ (by decide +kernel) fun t hf y => ?_
    obtain ⟨-, -, -, -, -, -, e0, -⟩ := idx0 t
    have key : (outsAt0 m c t.val t.isLt).2.1 = fun y : S256x1024.Idx => ((A.dz (256 * t.val + (y 0).val) (y 1).val : ℝ) : EReal) := by
      funext y
      idx_vars y
      exact dzb_block H t y0 y1
    blk_simp [e0]
    rw [after0_7, key]
    simp only [Nat.mul_comm t.val 256]
  intro a b
  exact congrFun e (ix2 a b)

theorem final8 (H : ArgIs m A c) : Is3 ((dats m 0 c).arrAt 8 cfg0.N : S8x8192x672.Idx → EReal) A.ffn.dgu := by
  have e : ((dats m 0 c).arrAt 8 cfg0.N : S8x8192x672.Idx → EReal) = fun j : S8x8192x672.Idx => ((A.ffn.dgu (j 0).val (j 1).val (j 2).val : ℝ) : EReal) := by
    refine (dats m 0 c).arrAt_eq_of_covers 8 _ (by decide +kernel) fun t hf y => ?_
    obtain ⟨-, -, -, -, -, -, -, e0, -⟩ := idx0 t
    have key : (outsAt0 m c t.val t.isLt).2.2.1 = fun y : S8x256x672.Idx => ((A.ffn.dgu (y 0).val (256 * t.val + (y 1).val) (y 2).val : ℝ) : EReal) := by
      funext y
      idx_vars y
      exact dgu_block H t y0 y1 y2
    blk_simp [e0]
    rw [after0_8, key]
    simp only [Nat.mul_comm t.val 256]
  intro a b d
  exact congrFun e (ix3 a b d)

theorem final9 (H : ArgIs m A c) : Is3 ((dats m 0 c).arrAt 9 cfg0.N : S4x8192x672.Idx → EReal) A.ffn.act := by
  have e : ((dats m 0 c).arrAt 9 cfg0.N : S4x8192x672.Idx → EReal) = fun j : S4x8192x672.Idx => ((A.ffn.act (j 0).val (j 1).val (j 2).val : ℝ) : EReal) := by
    refine (dats m 0 c).arrAt_eq_of_covers 9 _ (by decide +kernel) fun t hf y => ?_
    obtain ⟨-, -, -, -, -, -, -, -, e0⟩ := idx0 t
    have key : (outsAt0 m c t.val t.isLt).2.2.2.1 = fun y : S4x256x672.Idx => ((A.ffn.act (y 0).val (256 * t.val + (y 1).val) (y 2).val : ℝ) : EReal) := by
      funext y
      idx_vars y
      exact act_block H t y0 y1 y2
    blk_simp [e0]
    rw [after0_9, key]
    simp only [Nat.mul_comm t.val 256]
  intro a b d
  exact congrFun e (ix3 a b d)

/-- The last grid point. -/
def last : Fin cfg0.N := ⟨31, lt_of_lt_of_eq (by decide) (show 32 = cfg0.N from N_0.symm)⟩

theorem final10 (H : ArgIs m A c) : Is ((dats m 0 c).arrAt 10 cfg0.N : S1x1024.Idx → EReal) (fun _ j => ∑ r ∈ range 8192, A.dgAt j r) := by
  have e : ((dats m 0 c).arrAt 10 cfg0.N : S1x1024.Idx → EReal) = fun j : S1x1024.Idx => ((∑ r ∈ range 8192, A.dgAt (j 1).val r : ℝ) : EReal) := by
    refine (dats m 0 c).arrAt_eq_of_after_last 10 last (by decide +kernel) _ fun j => ?_
    idx_vars j
    rw [after0_10]
    exact (Pipeline.eq_sum_fin_of_reset_step_apply_last (fun n h => (outsAt0 m c n h).2.2.2.2.1) 32 (fun _ => 0) (fun t i => gTerm A t.val (i 1).val)
      (fun t h i => by idx_vars i; exact stepA10 H t h _ _) (fun t h i => by idx_vars i; exact stepB10 H t h _ _) (by decide) last rfl _).trans
      (blocks_sum 32 256 8192 (by norm_num) _)
  intro a b
  exact congrFun e (ix2 a b)

theorem final11 (H : ArgIs m A c) : Is ((dats m 0 c).arrAt 11 cfg0.N : S1x1024.Idx → EReal) (fun _ j => ∑ r ∈ range 8192, A.dy r j) := by
  have e : ((dats m 0 c).arrAt 11 cfg0.N : S1x1024.Idx → EReal) = fun j : S1x1024.Idx => ((∑ r ∈ range 8192, A.dy r (j 1).val : ℝ) : EReal) := by
    refine (dats m 0 c).arrAt_eq_of_after_last 11 last (by decide +kernel) _ fun j => ?_
    idx_vars j
    rw [after0_11]
    exact (Pipeline.eq_sum_fin_of_reset_step_apply_last (fun n h => (outsAt0 m c n h).2.2.2.2.2.1) 32 (fun _ => 0) (fun t i => bTerm A t.val (i 1).val)
      (fun t h i => by idx_vars i; exact stepA11 H t h _ _) (fun t h i => by idx_vars i; exact stepB11 H t h _ _) (by decide) last rfl _).trans
      (blocks_sum 32 256 8192 (by norm_num) (fun r => A.dy r _))
  intro a b
  exact congrFun e (ix2 a b)

end Cert.Ffn2BwdIdeal.Hand

end

end
-- ==== Proof.Ffn2Finite.lean ====
/-
  The second feed-forward layer's finite arguments are arrays of reals.
-/
module

public import proofs.«01_k».proof.Pre_ffn2_finite
public import proofs.«01_k».proof.Proof.Finite

@[expose] public section

set_option maxRecDepth 16384

noncomputable section

namespace Cert.Pre_ffn2_finite

open Idealize.ShloMosaic Cert.Norm Cert.Sb

/-- The side conditions of the predicate's operations. -/
instance facts : Facts where
  bcast_S_S8192x1024 := by decide
  reducesTo_S8192x1024_S_d0_1 := by decide
  h_S_ := by decide
  bcast_S_S1x1024 := by decide
  reducesTo_S1x1024_S_d0_1 := by decide
  bcast_S_S1024x5376 := by decide
  reducesTo_S1024x5376_S_d0_1 := by decide
  bcast_S_S2688x1024 := by decide
  reducesTo_S2688x1024_S_d0_1 := by decide

variable [Facts]
open Facts

/-- Arguments that pass are arrays of reals. -/
theorem reals (x0 x1 : FVec Ideal S8192x1024 .f32) (x2 x3 : FVec Ideal S1x1024 .f32) (x4 : FVec Ideal S1024x5376 .f32) (x5 : FVec Ideal S2688x1024 .f32)
    (x6 : FVec Ideal S8192x1024 .f32) (h : fn (F := Ideal) x0 x1 x2 x3 x4 x5 x6 = fun _ => 1#1) :
    Is x0 (num x0) ∧ Is x1 (num x1) ∧ Is x2 (num x2) ∧ Is x3 (num x3) ∧ Is x4 (num x4) ∧ Is x5 (num x5) ∧ Is x6 (num x6) := by
  let i : S_.Idx := fun k => k.elim0
  let P (x : FVec Ideal S1x1024 .f32) := ok x bcast_S_S1x1024 reducesTo_S1x1024_S_d0_1 h_S_ i
  let Q (x : FVec Ideal S8192x1024 .f32) := ok x bcast_S_S8192x1024 reducesTo_S8192x1024_S_d0_1 h_S_ i
  have e : IntOp.andi (IntOp.andi (IntOp.andi (IntOp.andi (IntOp.andi (IntOp.andi (Q x0) (Q x1)) (P x2)) (P x3))
      (ok x4 bcast_S_S1024x5376 reducesTo_S1024x5376_S_d0_1 h_S_ i)) (ok x5 bcast_S_S2688x1024 reducesTo_S2688x1024_S_d0_1 h_S_ i)) (Q x6) = 1#1 := congrFun h i
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨is_of_ok h0, is_of_ok h1, is_of_ok h2, is_of_ok h3, is_of_ok h4, is_of_ok h5, is_of_ok h6⟩

end Cert.Pre_ffn2_finite

end

end
-- ==== Proof.Ffn2Value.lean ====
/-
  The gradient kernel of the second feed-forward layer and of its layer norm equals the derivative of the plain layer, at finite arguments.
-/
module

public import proofs.«01_k».proof.Defs
public import proofs.«01_k».proof.Proof.Ffn2Kernel
public import proofs.«01_k».proof.Proof.Ffn2Finite
public import proofs.«01_k».proof.Proof.CrossValue
public import proofs.«01_k».proof.Proof.Gen.Ffn2RefIdeal.Run

@[expose] public section

set_option maxRecDepth 16384

noncomputable section

namespace Cert.Ffn2

open Cert.Sb Cert.Norm Cert.Grad Idealize.ShloMosaic Idealize.ShloMosaic.TcCoe Idealize.SL.Sem

/-- The reference runs and keeps its arguments. -/
theorem frame_ref : Cert.quiescent_Ffn2RefIdeal := fun m ρ _ =>
  (θ_run Cert.Ffn2RefIdeal.defs _ _).mono (fun r h => ⟨fun c => (h c).2.2.2.2.2.2, sem_eq_zero_of_no_sems (by decide) r.2⟩)
    (Cert.Ffn2RefIdeal.Value.run m ρ)

/-- The gradient kernel's six results are the derivative's. -/
theorem value [Cert.Pre_ffn2_finite.Facts] : Cert.algebraic_Ffn2BwdIdeal_Ffn2RefIdeal_pre_ffn2_finite := by
  intro m g m' g' hpre hagree
  have hA : ∀ c, ∃ A : Args, Cert.Ffn2BwdIdeal.Hand.ArgIs m A c := fun c => by
    obtain ⟨h0, h1, h2, h3, h4, h5, h6⟩ := Cert.Pre_ffn2_finite.reals _ _ _ _ _ _ _ (hpre c)
    exact ⟨⟨_, _, _, _, _, _, _⟩, ⟨h0, h1, h2, h3, h4, h5, h6⟩⟩
  choose A hA using hA
  refine ⟨fun c => (Cert.Ffn2BwdIdeal.Gen.dats m 0 c).arrAt 6 Cert.Ffn2BwdIdeal.cfg0.N, fun c => (Cert.Ffn2BwdIdeal.Gen.dats m 0 c).arrAt 7 Cert.Ffn2BwdIdeal.cfg0.N,
    fun c => (Cert.Ffn2BwdIdeal.Gen.dats m 0 c).arrAt 8 Cert.Ffn2BwdIdeal.cfg0.N, fun c => (Cert.Ffn2BwdIdeal.Gen.dats m 0 c).arrAt 9 Cert.Ffn2BwdIdeal.cfg0.N,
    fun c => (Cert.Ffn2BwdIdeal.Gen.dats m 0 c).arrAt 10 Cert.Ffn2BwdIdeal.cfg0.N, fun c => (Cert.Ffn2BwdIdeal.Gen.dats m 0 c).arrAt 11 Cert.Ffn2BwdIdeal.cfg0.N,
    Cert.Ffn2BwdIdeal.Hand.run_blocks m g, (θ_run Cert.Ffn2RefIdeal.defs _ _).mono (fun r h c => ?_) (Cert.Ffn2RefIdeal.Value.run m' g')⟩
  obtain ⟨h1, h2, h3, h4, h5, h6, h7⟩ := h c
  obtain ⟨a0, a1, a2, a3, a4, a5, a6⟩ := hagree c
  have l0 : StableHlo.launchContents m' c (Proc.devRef .tc Cert.Ffn2RefIdeal.main_arg0) = Cert.Ffn2BwdIdeal.Hand.a0 m c := a0
  have l1 : StableHlo.launchContents m' c (Proc.devRef .tc Cert.Ffn2RefIdeal.main_arg1) = Cert.Ffn2BwdIdeal.Hand.a1 m c := a1
  have l2 : StableHlo.launchContents m' c (Proc.devRef .tc Cert.Ffn2RefIdeal.main_arg2) = Cert.Ffn2BwdIdeal.Hand.a2 m c := a2
  have l3 : StableHlo.launchContents m' c (Proc.devRef .tc Cert.Ffn2RefIdeal.main_arg3) = Cert.Ffn2BwdIdeal.Hand.a3 m c := a3
  have l4 : StableHlo.launchContents m' c (Proc.devRef .tc Cert.Ffn2RefIdeal.main_arg4) = Cert.Ffn2BwdIdeal.Hand.a4 m c := a4
  have l5 : StableHlo.launchContents m' c (Proc.devRef .tc Cert.Ffn2RefIdeal.main_arg5) = Cert.Ffn2BwdIdeal.Hand.a5 m c := a5
  have l6 : StableHlo.launchContents m' c (Proc.devRef .tc Cert.Ffn2RefIdeal.main_arg6) = Cert.Ffn2BwdIdeal.Hand.a6 m c := a6
  rw [Cert.Ffn2RefIdeal.Read.val_main_v84_eq, l0, l1, l2, l3, l4, l5, l6] at h1
  rw [Cert.Ffn2RefIdeal.Read.val_main_v85_eq, l0, l1, l2, l3, l4, l5, l6] at h2
  rw [Cert.Ffn2RefIdeal.Read.val_main_v88_eq, l0, l1, l2, l3, l4, l5, l6] at h3
  rw [Cert.Ffn2RefIdeal.Read.val_main_v91_eq, l0, l1, l2, l3, l4] at h4
  rw [Cert.Ffn2RefIdeal.Read.val_main_v58_eq, l0, l1, l2, l3, l4, l5, l6] at h5
  rw [Cert.Ffn2RefIdeal.Read.val_main_v55_eq, l0, l1, l2, l3, l4, l5, l6] at h6
  obtain ⟨b0, b1, b2, b3, b4, b5, b6⟩ := hA c
  exact ⟨h1.trans (Cert.Cross.ext2 (Cert.Ffn2RefIdeal.Hand.dz_is b0 b1 b2 b3 b4 b5 b6) (Cert.Ffn2BwdIdeal.Hand.final6 (hA c))),
    h2.trans (Cert.Cross.ext2 (Cert.Ffn2RefIdeal.Hand.dzb_is b0 b1 b2 b3 b4 b5 b6) (Cert.Ffn2BwdIdeal.Hand.final7 (hA c))),
    h3.trans (Cert.Cross.ext3 (Cert.Ffn2RefIdeal.Hand.dgu_is b0 b1 b2 b3 b4 b5 b6) (Cert.Ffn2BwdIdeal.Hand.final8 (hA c))),
    h4.trans (Cert.Cross.ext3 (Cert.Ffn2RefIdeal.Hand.act3_is b0 b1 b2 b3 b4) (Cert.Ffn2BwdIdeal.Hand.final9 (hA c))),
    h5.trans (Cert.Cross.ext2 (Cert.Ffn2RefIdeal.Hand.dg_is b0 b1 b2 b3 b4 b5 b6) (Cert.Ffn2BwdIdeal.Hand.final10 (hA c))),
    h6.trans (Cert.Cross.ext2 (Cert.Ffn2RefIdeal.Hand.db_is b0 b1 b2 b3 b4 b5 b6) (Cert.Ffn2BwdIdeal.Hand.final11 (hA c))), h7⟩

end Cert.Ffn2

end

end
-- ==== Proof.LossFrame.lean ====
/-
  The derivative of the plain loss runs and keeps its arguments.
-/
module

public import proofs.«01_k».proof.Defs
public import proofs.«01_k».proof.Proof.Gen.LossRefIdeal.Run

@[expose] public section

noncomputable section

namespace Cert.Loss

open Idealize.ShloMosaic Idealize.ShloMosaic.TcCoe Idealize.SL.Sem

/-- The reference runs and keeps its arguments. -/
theorem frame_ref : Cert.quiescent_LossRefIdeal := fun m ρ _ =>
  (θ_run Cert.LossRefIdeal.defs _ _).mono (fun r h => ⟨fun c => (h c).2.2.2.2.2.2, sem_eq_zero_of_no_sems (by decide) r.2⟩)
    (Cert.LossRefIdeal.Value.run m ρ)

end Cert.Loss

end

end
-- ==== Proof.LossRef.lean ====
/-
  The derivative of the plain last layer, its norm and the loss, on finite arguments, as real numbers.
-/
module

public import proofs.«01_k».proof.Proof.LossTile
public import proofs.«01_k».proof.Proof.FfnRef
public import proofs.«01_k».proof.Proof.Gen.LossRefIdeal.Read

@[expose] public section

set_option maxRecDepth 16384

noncomputable section

namespace Cert.LossRefIdeal.Hand

open Cert.Sb Cert.Norm Cert.Ffn Cert.Loss Cert.LossRefIdeal Cert.LossRefIdeal.Read Idealize.ShloMosaic Idealize.ShloMosaic.TcCoe Finset

variable {A : Cert.Loss.Args} {x0 x1 : S8192x1024.Idx → Ideal .f32} {x2 x3 : S1x1024.Idx → Ideal .f32} {x4 : S1024x5376.Idx → Ideal .f32} {x5 : S2688x1024.Idx → Ideal .f32}

/-- A sum over 2688 columns by four chunks of 672. -/
theorem sum_chunks4 (f : ℕ → ℝ) : ∑ j ∈ range 2688, f j = ∑ k ∈ range 4, ∑ l ∈ range 672, f (672 * k + l) := by
  have h := Fin.sum_univ_univ_mul_add 4 672 f
  simp only [Nat.mul_comm _ 672] at h
  rw [← Fin.sum_univ_eq_sum_range, ← Fin.sum_univ_eq_sum_range (fun k => ∑ l ∈ range 672, f (672 * k + l))]
  refine Eq.trans h.symm ?_
  exact sum_congr rfl fun p _ => (Fin.sum_univ_eq_sum_range (fun r => f (672 * p.val + r)) 672)

theorem f_eq (r e : ℕ) : ∑ j ∈ range 2688, A.ffn.gu r j * sg (A.ffn.gu r j) * A.ffn.gu r (2688 + j) * A.w2 j e = A.f r e := by
  have c (k : ℕ) : ∑ l ∈ range 672, A.ffn.gu r (672 * k + l) * sg (A.ffn.gu r (672 * k + l)) * A.ffn.gu r (2688 + (672 * k + l)) * A.w2 (672 * k + l) e = A.chunk k r e :=
    sum_congr rfl fun l _ => by rw [Cert.Ffn.Args.act, show 2688 + (672 * k + l) = 672 * (4 + k) + l by omega]
  rw [sum_chunks4, sum_congr rfl fun k _ => c k, Args.f]
  simp only [sum_range_succ, sum_range_zero]

section layer
variable (h0 : Is x0 A.h) (h4 : Is x4 A.w13)
include h0 h4

theorem gu_is : Is (val_main_v0 (F := Ideal) x0 x4) A.ffn.gu := by
  intro r j
  pointwise [val_main_v0]
  exact dot_of _ _ (fun e => A.h r e) (fun e => A.w13 e j) (fun e => h0 r e) (fun e => h4 e j)

theorem gu3_is : Is3 (val_main_v86 (F := Ideal) x0 x4) (fun k r l => A.ffn.gu r (672 * k + l)) := by
  intro k r l
  pointwise [val_main_v86, val_main_v85, val_main_v84]
  refine (gu_is h0 h4 r _).trans (congrArg Real.toEReal ?_)
  show A.ffn.gu r.val (k.val * 672 + l.val) = _
  rw [Nat.mul_comm k.val 672]

theorem g_is : Is (val_main_v3 (F := Ideal) x0 x4) A.ffn.gu := by
  intro r j
  pointwise [val_main_v3]
  exact gu_is h0 h4 r _

theorem sg_is : Is (val_main_call0_v5 (F := Ideal) x0 x4) (fun r j => sg (A.ffn.gu r j)) := by
  intro r j
  have e : (1 + Real.exp (-A.ffn.gu r j) : ℝ) ≠ 0 := by positivity
  pointwise [val_main_call0_v5, val_main_call0_v4, val_main_call0_cst_0, val_main_call0_v3, val_main_call0_v2, val_main_call0_cst, val_main_call0_v1, val_main_call0_v0]
  rw [g_is h0 h4 r j, ← EReal.coe_neg, Ideal.exp_coe, ← EReal.coe_one, ← EReal.coe_add, Ideal.div_coe e, ← EReal.coe_mul, one_mul, one_div]
  rfl

theorem act_is : Is (val_main_v6 (F := Ideal) x0 x4) (fun r j => A.ffn.gu r j * sg (A.ffn.gu r j) * A.ffn.gu r (2688 + j)) := by
  intro r j
  have hu : (val_main_v4 (F := Ideal) x0 x4 (ix2 r j) : EReal) = ((A.ffn.gu r (2688 + j.val) : ℝ) : EReal) := by
    pointwise [val_main_v4]
    exact gu_is h0 h4 r _
  pointwise [val_main_v6, val_main_v5]
  rw [g_is h0 h4 r j, sg_is h0 h4 r j, hu, ← EReal.coe_mul, ← EReal.coe_mul]

end layer

section norm
variable (h0 : Is x0 A.h) (h4 : Is x4 A.w13) (h5 : Is x5 A.w2)
include h0 h4 h5

/-- The last norm's input. -/
theorem z_is : Is (val_main_v10 (F := Ideal) x0 x4 x5) A.z := by
  intro r j
  pointwise [val_main_v10, val_main_v9, val_main_v8, val_main_cst_0, val_main_v7, val_main_v2, val_main_v1, val_main_cst]
  rw [alpha_bits, half_bits, h0 r j, dot_of _ _ (fun l => A.ffn.gu r l * sg (A.ffn.gu r l) * A.ffn.gu r (2688 + l)) (fun l => A.w2 l j) (fun l => act_is h0 h4 r l) (fun l => h5 l j),
    f_eq, ← EReal.coe_mul, ← EReal.coe_mul, ← EReal.coe_add]
  rfl

theorem zc_is : Is (val_main_v16 (F := Ideal) x0 x4 x5) (fun r => cen 1024 (A.z r)) := by
  intro r j
  pointwise [val_main_v16, val_main_v15, val_main_v14, val_main_v13, val_main_cst_2, val_main_v12, val_main_v11, val_main_cst_1]
  rw [n1024]
  exact cen_of (by decide) (fun i => val_main_v10 (F := Ideal) x0 x4 x5 (ix2 r i)) (A.z r) (fun i => z_is h0 h4 h5 r i) j

theorem zc2_is : Is (val_main_v25 (F := Ideal) x0 x4 x5) (fun r => cen 1024 (A.z r)) := zc_is h0 h4 h5

theorem var_is : Is (val_main_v27 (F := Ideal) x0 x4 x5) (fun r _ => vr 1024 lnEps (cen 1024 (A.z r))) := by
  intro r j
  pointwise [val_main_v27, val_main_v26, val_main_cst_6, val_main_v23, val_main_v22, val_main_cst_5, val_main_v21, val_main_v20, val_main_cst_4, val_main_v17]
  rw [n1024, eps_bits]
  exact vr_of (by decide) lnEps (fun i => val_main_v16 (F := Ideal) x0 x4 x5 (ix2 r i)) _ (fun i => zc_is h0 h4 h5 r i)

theorem rs_is : Is (val_main_v28 (F := Ideal) x0 x4 x5) (fun r _ => rs 1024 lnEps (cen 1024 (A.z r))) := by
  intro r j
  pointwise [val_main_v28]
  exact rs_of eps_pos (var_is h0 h4 h5 r j)

theorem hf_is : Is (val_main_v31 (F := Ideal) x0 x4 x5) (fun r _ => Norm.hf 1024 lnEps (cen 1024 (A.z r))) := by
  intro r j
  pointwise [val_main_v31, val_main_v30, val_main_cst_7, val_main_v29]
  rw [neg_half]
  exact hf_of eps_pos (rs_is h0 h4 h5 r j) (var_is h0 h4 h5 r j)

theorem xh_is : Is (val_main_v33 (F := Ideal) x0 x4 x5) (fun r => xh 1024 lnEps (A.z r)) := by
  intro r j
  pointwise [val_main_v33, val_main_v32]
  rw [zc2_is h0 h4 h5 r j, rs_is h0 h4 h5 r 0, ← EReal.coe_mul]
  rfl

end norm

section
variable (h0 : Is x0 A.h) (h1 : Is x1 A.t) (h2 : Is x2 A.g) (h3 : Is x3 A.b) (h4 : Is x4 A.w13) (h5 : Is x5 A.w2)
include h0 h1 h2 h3 h4 h5

/-- The error. -/
theorem err_is : Is (val_main_v38 (F := Ideal) x0 x1 x2 x3 x4 x5) A.err := by
  intro r j
  pointwise [val_main_v38, val_main_v37, val_main_v36, val_main_v35, val_main_v34]
  rw [xh_is h0 h4 h5 r j, h2 0 j, h3 0 j, h1 r j, ← EReal.coe_mul, ← EReal.coe_add, ← EReal.coe_sub]
  rfl

/-- The loss. -/
theorem loss_is : Is (val_main_v88 (F := Ideal) x0 x1 x2 x3 x4 x5) (fun _ _ => ∑ r ∈ range 8192, A.lossAt r * (1 / 2048)) := by
  intro i o
  pointwise [val_main_v88, val_main_v46, val_main_cst_12, val_main_v45, val_main_cst_11, val_main_v44, val_main_v43, val_main_cst_10, val_main_v42, val_main_cst_9, val_main_v39]
  rw [half_bits, n1024, sum_of _ (fun r => A.lossAt r / (1024 : ℕ))
    (fun r => div_n (by decide) (dot_of _ _ (A.err r) (A.err r) (fun j => err_is h0 h1 h2 h3 h4 h5 r j) (fun j => err_is h0 h1 h2 h3 h4 h5 r j))), ← EReal.coe_mul]
  refine congrArg Real.toEReal ?_
  rw [mul_sum]
  exact sum_congr rfl fun r _ => by push_cast; ring

/-- The gradient of the normed rows. -/
theorem dy_is : Is (val_main_v52 (F := Ideal) x0 x1 x2 x3 x4 x5) A.dy := by
  intro r j
  pointwise [val_main_v52, val_main_v51, val_main_v50, val_main_v49, val_main_cst_15, val_main_v48, val_main_v47, val_main_cst_13, val_main_cst_14, val_main_v41, val_main_v40, val_main_cst_8]
  rw [half_bits, n1024, two_bits, err_is h0 h1 h2 h3 h4 h5 r j, div_n (by decide) rfl, ← EReal.coe_mul, ← EReal.coe_mul]
  refine congrArg Real.toEReal ?_
  show _ = A.err r j * (1 / 1024)
  push_cast
  ring

theorem db_is : Is (val_main_v54 (F := Ideal) x0 x1 x2 x3 x4 x5) (fun _ j => ∑ r ∈ range 8192, A.dy r j) := by
  intro o j
  pointwise [val_main_v54, val_main_v53, val_main_cst_16]
  exact sum_of _ (fun r => A.dy r j) (fun r => dy_is h0 h1 h2 h3 h4 h5 r j)

theorem dg_is : Is (val_main_v57 (F := Ideal) x0 x1 x2 x3 x4 x5) (fun _ j => ∑ r ∈ range 8192, A.dgAt j r) := by
  intro o j
  pointwise [val_main_v57, val_main_v56, val_main_cst_17, val_main_v55]
  exact dot_of _ _ (fun r => xh 1024 lnEps (A.z r) j) (fun r => A.dy r j) (fun r => xh_is h0 h4 h5 r j) (fun r => dy_is h0 h1 h2 h3 h4 h5 r j)

/-- The gradient before the gains. -/
theorem t_is : Is (val_main_v59 (F := Ideal) x0 x1 x2 x3 x4 x5) (fun r l => A.dy r l * A.g 0 l) := by
  intro r j
  pointwise [val_main_v59, val_main_v58]
  rw [dy_is h0 h1 h2 h3 h4 h5 r j, h2 0 j, ← EReal.coe_mul]
  rfl

theorem sq_is : Is (val_main_v72 (F := Ideal) x0 x1 x2 x3 x4 x5) (fun r _ => Norm.sq 1024 lnEps (cen 1024 (A.z r)) (fun l => A.dy r l * A.g 0 l)) := by
  intro r j
  pointwise [val_main_v72, val_main_v71, val_main_cst_21, val_main_v70, val_main_v69, val_main_cst_20, val_main_v65, val_main_v62, val_main_v61, val_main_cst_18, val_main_v60]
  rw [n1024]
  simp only [Fin.sum_univ_one]
  exact sq_of (by decide) (fun i => val_main_v25 (F := Ideal) x0 x4 x5 (ix2 r i)) (fun i => val_main_v59 (F := Ideal) x0 x1 x2 x3 x4 x5 (ix2 r i)) _ _ (fun i => zc2_is h0 h4 h5 r i)
    (fun i => t_is h0 h1 h2 h3 h4 h5 r i) (hf_is h0 h4 h5 r 0)

theorem p_is : Is (val_main_v64 (F := Ideal) x0 x1 x2 x3 x4 x5) (fun r j => A.dy r j * A.g 0 j * rs 1024 lnEps (cen 1024 (A.z r))) := by
  intro r j
  pointwise [val_main_v64, val_main_v63]
  rw [t_is h0 h1 h2 h3 h4 h5 r j, rs_is h0 h4 h5 r 0, ← EReal.coe_mul]

theorem q_is : Is (val_main_v73 (F := Ideal) x0 x1 x2 x3 x4 x5)
    (fun r j => Norm.sq 1024 lnEps (cen 1024 (A.z r)) (fun l => A.dy r l * A.g 0 l) * (2 * cen 1024 (A.z r) j)) := by
  intro r j
  pointwise [val_main_v73, val_main_v19, val_main_v18, val_main_cst_3]
  rw [sq_is h0 h1 h2 h3 h4 h5 r j, two_bits, zc_is h0 h4 h5 r j, ← EReal.coe_mul, ← EReal.coe_mul]

theorem dz_is : Is (val_main_v83 (F := Ideal) x0 x1 x2 x3 x4 x5) A.dz := by
  intro r j
  pointwise [val_main_v83, val_main_v82, val_main_v81, val_main_cst_24, val_main_v80, val_main_v79, val_main_cst_23, val_main_v78, val_main_v76, val_main_v75, val_main_cst_22,
    val_main_v74, val_main_v68, val_main_v67, val_main_cst_19, val_main_v66, val_main_v77]
  rw [n1024]
  simp only [Fin.sum_univ_one]
  exact ln2_of (by decide) (fun i => val_main_v64 (F := Ideal) x0 x1 x2 x3 x4 x5 (ix2 r i)) (fun i => val_main_v73 (F := Ideal) x0 x1 x2 x3 x4 x5 (ix2 r i)) (A.z r)
    (fun l => A.dy r l * A.g 0 l) (fun i => p_is h0 h1 h2 h3 h4 h5 r i) (fun i => q_is h0 h1 h2 h3 h4 h5 r i) j

theorem dzb_is : Is (val_main_v87 (F := Ideal) x0 x1 x2 x3 x4 x5) A.dz := by
  intro r j
  pointwise [val_main_v87]
  exact dz_is h0 h1 h2 h3 h4 h5 r j

end

end Cert.LossRefIdeal.Hand

end

end
-- ==== Proof.LossFinite.lean ====
/-
  The loss head's finite arguments are arrays of reals.
-/
module

public import proofs.«01_k».proof.Pre_loss_finite
public import proofs.«01_k».proof.Proof.Finite

@[expose] public section

set_option maxRecDepth 16384

noncomputable section

namespace Cert.Pre_loss_finite

open Idealize.ShloMosaic Cert.Norm Cert.Sb

/-- The side conditions of the predicate's operations. -/
instance facts : Facts where
  bcast_S_S8192x1024 := by decide
  reducesTo_S8192x1024_S_d0_1 := by decide
  h_S_ := by decide
  bcast_S_S1x1024 := by decide
  reducesTo_S1x1024_S_d0_1 := by decide
  bcast_S_S1024x5376 := by decide
  reducesTo_S1024x5376_S_d0_1 := by decide
  bcast_S_S2688x1024 := by decide
  reducesTo_S2688x1024_S_d0_1 := by decide

variable [Facts]
open Facts

/-- Arguments that pass are arrays of reals. -/
theorem reals (x0 x1 : FVec Ideal S8192x1024 .f32) (x2 x3 : FVec Ideal S1x1024 .f32) (x4 : FVec Ideal S1024x5376 .f32) (x5 : FVec Ideal S2688x1024 .f32)
    (h : fn (F := Ideal) x0 x1 x2 x3 x4 x5 = fun _ => 1#1) :
    Is x0 (num x0) ∧ Is x1 (num x1) ∧ Is x2 (num x2) ∧ Is x3 (num x3) ∧ Is x4 (num x4) ∧ Is x5 (num x5) := by
  let i : S_.Idx := fun k => k.elim0
  let P (x : FVec Ideal S1x1024 .f32) := ok x bcast_S_S1x1024 reducesTo_S1x1024_S_d0_1 h_S_ i
  let Q (x : FVec Ideal S8192x1024 .f32) := ok x bcast_S_S8192x1024 reducesTo_S8192x1024_S_d0_1 h_S_ i
  have e : IntOp.andi (IntOp.andi (IntOp.andi (IntOp.andi (IntOp.andi (Q x0) (Q x1)) (P x2)) (P x3))
      (ok x4 bcast_S_S1024x5376 reducesTo_S1024x5376_S_d0_1 h_S_ i)) (ok x5 bcast_S_S2688x1024 reducesTo_S2688x1024_S_d0_1 h_S_ i) = 1#1 := congrFun h i
  obtain ⟨e, h5⟩ := IntOp.andi_eq_one.1 e
  obtain ⟨e, h4⟩ := IntOp.andi_eq_one.1 e
  obtain ⟨e, h3⟩ := IntOp.andi_eq_one.1 e
  obtain ⟨e, h2⟩ := IntOp.andi_eq_one.1 e
  obtain ⟨h0, h1⟩ := IntOp.andi_eq_one.1 e
  exact ⟨is_of_ok h0, is_of_ok h1, is_of_ok h2, is_of_ok h3, is_of_ok h4, is_of_ok h5⟩

end Cert.Pre_loss_finite

end

end
-- ==== Proof.LossValue.lean ====
/-
  The loss head's kernel equals the plain last layer's loss and its derivative, at finite arguments.
-/
module

public import proofs.«01_k».proof.Defs
public import proofs.«01_k».proof.Proof.LossKernel
public import proofs.«01_k».proof.Proof.LossFrame
public import proofs.«01_k».proof.Proof.LossRef
public import proofs.«01_k».proof.Proof.Gen.LossHeadIdeal.Value
public import proofs.«01_k».proof.Proof.LossFinite
public import proofs.«01_k».proof.Proof.CrossValue
public import proofs.«01_k».proof.Proof.Gen.LossRefIdeal.Run

@[expose] public section

set_option maxRecDepth 16384

noncomputable section

namespace Cert.Loss

open Cert.Sb Cert.Norm Cert.Grad Idealize.ShloMosaic Idealize.ShloMosaic.TcCoe Idealize.SL.Sem

/-- The loss head's six results: gates and factors, the norm input's gradient twice, the gains' and shifts' gradients, and the loss. -/
theorem value [Cert.Pre_loss_finite.Facts] : Cert.algebraic_LossHeadIdeal_LossRefIdeal_pre_loss_finite := by
  intro m g m' g' hpre hagree
  have hA : ∀ c, ∃ A : Cert.Loss.Args, Cert.LossHeadIdeal.Hand.ArgIs m A c := fun c => by
    obtain ⟨h0, h1, h2, h3, h4, h5⟩ := Cert.Pre_loss_finite.reals _ _ _ _ _ _ (hpre c)
    exact ⟨⟨_, _, _, _, _, _⟩, ⟨h0, h1, h2, h3, h4, h5⟩⟩
  choose A hA using hA
  refine ⟨fun c => (Cert.LossHeadIdeal.Gen.dats m 0 c).arrAt 5 Cert.LossHeadIdeal.cfg0.N, fun c => (Cert.LossHeadIdeal.Gen.dats m 0 c).arrAt 6 Cert.LossHeadIdeal.cfg0.N,
    fun c => (Cert.LossHeadIdeal.Gen.dats m 0 c).arrAt 7 Cert.LossHeadIdeal.cfg0.N, fun c => (Cert.LossHeadIdeal.Gen.dats m 0 c).arrAt 8 Cert.LossHeadIdeal.cfg0.N,
    fun c => (Cert.LossHeadIdeal.Gen.dats m 0 c).arrAt 9 Cert.LossHeadIdeal.cfg0.N, fun c => (Cert.LossHeadIdeal.Gen.dats m 0 c).arrAt 10 Cert.LossHeadIdeal.cfg0.N,
    Cert.LossHeadIdeal.Value.run_blocks m g, (θ_run Cert.LossRefIdeal.defs _ _).mono (fun r h c => ?_) (Cert.LossRefIdeal.Value.run m' g')⟩
  obtain ⟨h1, h2, h3, h4, h5, h6, h7⟩ := h c
  obtain ⟨a0, a1, a2, a3, a4, a5⟩ := hagree c
  have l0 : m' ((c.tc : Thread Cert.LossRefIdeal.nD Cert.LossRefIdeal.τ).loc Cert.LossRefIdeal.main_arg0) = Cert.LossHeadIdeal.Hand.a0 m c := a0
  have l1 : m' ((c.tc : Thread Cert.LossRefIdeal.nD Cert.LossRefIdeal.τ).loc Cert.LossRefIdeal.main_arg1) = Cert.LossHeadIdeal.Hand.a1 m c := a1
  have l2 : m' ((c.tc : Thread Cert.LossRefIdeal.nD Cert.LossRefIdeal.τ).loc Cert.LossRefIdeal.main_arg2) = Cert.LossHeadIdeal.Hand.a2 m c := a2
  have l3 : m' ((c.tc : Thread Cert.LossRefIdeal.nD Cert.LossRefIdeal.τ).loc Cert.LossRefIdeal.main_arg3) = Cert.LossHeadIdeal.Hand.a3 m c := a3
  have l4 : m' ((c.tc : Thread Cert.LossRefIdeal.nD Cert.LossRefIdeal.τ).loc Cert.LossRefIdeal.main_arg4) = Cert.LossHeadIdeal.Hand.a4 m c := a4
  have l5 : m' ((c.tc : Thread Cert.LossRefIdeal.nD Cert.LossRefIdeal.τ).loc Cert.LossRefIdeal.main_arg5) = Cert.LossHeadIdeal.Hand.a5 m c := a5
  rw [Cert.LossRefIdeal.Read.val_main_v86_eq, l0, l4] at h1
  rw [Cert.LossRefIdeal.Read.val_main_v83_eq, l0, l1, l2, l3, l4, l5] at h2
  rw [Cert.LossRefIdeal.Read.val_main_v87_eq, l0, l1, l2, l3, l4, l5] at h3
  rw [Cert.LossRefIdeal.Read.val_main_v57_eq, l0, l1, l2, l3, l4, l5] at h4
  rw [Cert.LossRefIdeal.Read.val_main_v54_eq, l0, l1, l2, l3, l4, l5] at h5
  rw [Cert.LossRefIdeal.Read.val_main_v88_eq, l0, l1, l2, l3, l4, l5] at h6
  obtain ⟨b0, b1, b2, b3, b4, b5⟩ := hA c
  exact ⟨h1.trans (Cert.Cross.ext3 (Cert.LossRefIdeal.Hand.gu3_is b0 b4) (Cert.LossHeadIdeal.Hand.final5 (hA c))),
    h2.trans (Cert.Cross.ext2 (Cert.LossRefIdeal.Hand.dz_is b0 b1 b2 b3 b4 b5) (Cert.LossHeadIdeal.Hand.final6 (hA c))),
    h3.trans (Cert.Cross.ext2 (Cert.LossRefIdeal.Hand.dzb_is b0 b1 b2 b3 b4 b5) (Cert.LossHeadIdeal.Hand.final7 (hA c))),
    h4.trans (Cert.Cross.ext2 (Cert.LossRefIdeal.Hand.dg_is b0 b1 b2 b3 b4 b5) (Cert.LossHeadIdeal.Hand.final8 (hA c))),
    h5.trans (Cert.Cross.ext2 (Cert.LossRefIdeal.Hand.db_is b0 b1 b2 b3 b4 b5) (Cert.LossHeadIdeal.Hand.final9 (hA c))),
    h6.trans (Cert.Cross.ext2 (Cert.LossRefIdeal.Hand.loss_is b0 b1 b2 b3 b4 b5) (Cert.LossHeadIdeal.Hand.final10 (hA c))), h7⟩

end Cert.Loss

end

end
-- ==== Proof.SbFrame.lean ====
module

public import proofs.«01_k».proof.Proof.SbRun
public import proofs.«01_k».proof.Defs

/-!
The frames of the stick-breaking attention's gradient kernel over the reals: it runs, leaves its arguments as they were
and every semaphore at zero.
-/

@[expose] public section

set_option maxRecDepth 16384

noncomputable section

namespace Cert.SbBwdIdeal.Hand

open Cert.SbBwdIdeal Cert.SbBwdIdeal.Gen
open Idealize.ShloMosaic Idealize.ShloMosaic.TcCoe

variable {F : FTy → Type} [FloatOps F] [Named F]

variable (m : (ℓ : Loc nD τ sig) → Buf (Elt F) ℓ) (ρ : Dev nD → PrngReg)

/-- The buffers that the host's operations write, in order. -/
abbrev preW : List (Ref sig .tc) :=
  [main_v0, main_v1, main_v2, main_v3, main_v4, main_v5, main_v6, main_cst, main_v7, main_v8, main_v9, main_v10, main_v11,
    main_v12, main_v13, main_v14, main_v15, main_v16, main_call0_v0, main_call0_call0_cst, main_call0_call0_v0,
    main_call0_call0_v1, main_call0_call0_v2, main_call0_call0_v3, main_call0_call0_v4, main_call0_call0_v5,
    main_call0_call0_v6, main_call0_call0_v7, main_call0_call0_v8, main_call0_call0_v9, main_call0_call0_v10,
    main_call0_call0_v11, main_call0_v1, main_v17, main_cst_0, main_call1_v0, main_call1_v1, main_call1_v2, main_v18,
    main_call2_cst, main_call2_v0, main_v19, main_v20, main_call3_v0, main_call3_call0_cst, main_call3_call0_v0,
    main_call3_call0_v1, main_call3_call0_v2, main_call3_call0_v3, main_call3_call0_v4, main_call3_call0_v5,
    main_call3_call0_v6, main_call3_call0_v7, main_call3_call0_v8, main_call3_call0_v9, main_call3_call0_v10,
    main_call3_call0_v11, main_call3_v1, main_v21, main_v22, main_v23, main_cst_1, main_call4_v0, main_call4_v1,
    main_call4_v2, main_v24, main_v25, main_v26, main_v27, main_cst_2, main_v28, main_v29, main_v30, main_v31, main_v32,
    main_v33]

theorem pre_writes : (pre (F := F)).flatten.Forall fun op => op.writes ⊆ (preW.map (Proc.devRef (τ := τ) .tc)).toFinset :=
  StableHlo.forall_writes_sub_of_map rfl

/-- A buffer that the host does not write is as launched when the grid starts. -/
theorem V_kept (c : Dev nD) (b : Ref sig .tc) (h : b ∉ preW) : V m c b = m ((c : Thread nD τ).loc b) :=
  StableHlo.after_of_writes_sub _ _ pre_writes h

/-- A buffer that neither the host nor the grid writes is as launched at the end. -/
theorem kept (c : Dev nD) (r : PUnit × MemSt nD τ sig (Elt F)) (h : Pipeline.FramePost (cfgs (F := F)) (dats m) 0 (V m) r)
    (b : Ref sig .tc) (hs : b.isScoped = false) (ha : ∀ w : Fin 8, (spec0 w).arr.view.ref ≠ b) (hw : b ∉ preW) :
    r.2.mem ((c : Thread nD τ).loc b) = m ((c : Thread nD τ).loc b) :=
  ((h c).2 b (Pipeline.mem_restRefs_of b hs ha)).trans (V_kept m c b hw)

/-- The run with the arguments as launched. -/
theorem run_kept : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run defs _ _).mono (fun r h => ⟨fun c => ⟨kept m c r h.1 main_arg0 (by decide) (by decide) (by decide),
    kept m c r h.1 main_arg1 (by decide) (by decide) (by decide), kept m c r h.1 main_arg2 (by decide) (by decide) (by decide),
    kept m c r h.1 main_arg3 (by decide) (by decide) (by decide)⟩, h.2⟩) (run_main m ρ)

/-- The frame over the reals. -/
theorem frame_sb_ideal : Cert.quiescent_SbBwdIdeal := fun m ρ _ => run_kept m ρ

theorem frame_sb_ideal_pre [Cert.Pre_sb_finite.Facts] : Cert.quiescent_SbBwdIdeal_pre_sb_finite := fun m ρ _ => run_kept m ρ

end Cert.SbBwdIdeal.Hand
-- ==== Proof.SbValue.lean ====
/-
  The stick-breaking attention's gradient kernel equals the derivative of the plain attention, at finite arguments.
-/
module

public import proofs.«01_k».proof.Defs
public import proofs.«01_k».proof.Proof.SbHost
public import proofs.«01_k».proof.Proof.SbFrame
public import proofs.«01_k».proof.Proof.SbFinite

@[expose] public section

set_option maxRecDepth 16384

noncomputable section

namespace Cert.Sb

open Cert.Grad Idealize.ShloMosaic Idealize.ShloMosaic.TcCoe Idealize.SL.Sem

/-- The reference runs and keeps its arguments. -/
theorem frame_ref : Cert.quiescent_SbRefIdeal := fun m ρ _ =>
  (θ_run Cert.SbRefIdeal.defs _ _).mono (fun r h => ⟨fun c => (h c).2.2.2, sem_eq_zero_of_no_sems (by decide) r.2⟩)
    (Cert.SbRefIdeal.Value.run m ρ)

theorem frame_ref_pre [Cert.Pre_sb_finite.Facts] : Cert.quiescent_SbRefIdeal_pre_sb_finite := fun m ρ _ => frame_ref m ρ trivial

/-- The score a dead block takes is below every other: named as the least. -/
theorem preserves : Cert.preserves_SbBwd_SbBwdIdeal :=
  IdealRules.named_const.statement Cert.SbBwdIdeal.κ "skip" .f32 0xC2DC0000#32 ⊥ rfl

/-- The gradient kernel's three results are the derivative's. -/
theorem value [Cert.Pre_sb_finite.Facts] : Cert.algebraic_SbBwdIdeal_SbRefIdeal_pre_sb_finite := by
  intro m g m' g' hpre hagree
  have hA : ∀ c, ∃ A : All, Cert.SbRefIdeal.Hand.ArgIs A (Cert.SbBwdIdeal.Hand.a0 m c) (Cert.SbBwdIdeal.Hand.a1 m c) (Cert.SbBwdIdeal.Hand.a2 m c) (Cert.SbBwdIdeal.Hand.a3 m c) := fun c => by
    obtain ⟨h0, h1, h2, h3⟩ := Cert.Pre_sb_finite.reals _ _ _ _ (hpre c)
    exact ⟨⟨_, _, _, _⟩, ⟨h0, h1, h2, h3⟩⟩
  choose A hA using hA
  refine ⟨fun c => (Cert.SbBwdIdeal.Hand.dats m 0 c).arrAt 5 (Cert.SbBwdIdeal.cfg0 (F := Ideal)).N,
    fun c => (Cert.SbBwdIdeal.Hand.dats m 0 c).arrAt 6 (Cert.SbBwdIdeal.cfg0 (F := Ideal)).N,
    fun c => (Cert.SbBwdIdeal.Hand.dats m 0 c).arrAt 7 (Cert.SbBwdIdeal.cfg0 (F := Ideal)).N,
    (θ_run Cert.SbBwdIdeal.defs _ _).mono (fun r h c => ⟨(h.1 c).1 5, (h.1 c).1 6, (h.1 c).1 7,
      Cert.SbBwdIdeal.Hand.kept m c r h.1 Cert.SbBwdIdeal.main_arg0 (by decide) (by decide) (by decide),
      Cert.SbBwdIdeal.Hand.kept m c r h.1 Cert.SbBwdIdeal.main_arg1 (by decide) (by decide) (by decide),
      Cert.SbBwdIdeal.Hand.kept m c r h.1 Cert.SbBwdIdeal.main_arg2 (by decide) (by decide) (by decide),
      Cert.SbBwdIdeal.Hand.kept m c r h.1 Cert.SbBwdIdeal.main_arg3 (by decide) (by decide) (by decide)⟩) (Cert.SbBwdIdeal.Hand.run_main m g),
    (θ_run Cert.SbRefIdeal.defs _ _).mono (fun r h c => ?_) (Cert.SbRefIdeal.Value.run m' g')⟩
  obtain ⟨h1, h2, h3, h4⟩ := h c
  obtain ⟨a0, a1, a2, a3⟩ := hagree c
  have hk := Cert.SbBwdIdeal.Hand.arrIs m c (hA c)
  rw [Cert.SbRefIdeal.Read.val_main_v53_eq, a0, a1, a2, a3] at h1
  rw [Cert.SbRefIdeal.Read.val_main_v54_eq, a0, a1, a2, a3] at h2
  rw [Cert.SbRefIdeal.Read.val_main_v55_eq, a0, a1, a3] at h3
  exact ⟨h1.trans ((funext fun j => Cert.SbRefIdeal.Hand.dq_val (hA c) j).trans (Cert.SbBwdIdeal.Hand.final5 hk).symm),
    h2.trans ((funext fun j => Cert.SbRefIdeal.Hand.dk_val (hA c) j).trans (Cert.SbBwdIdeal.Hand.final6 hk).symm),
    h3.trans ((funext fun j => Cert.SbRefIdeal.Hand.dv_val (hA c) j).trans (Cert.SbBwdIdeal.Hand.final7 hk).symm), h4⟩

end Cert.Sb

end

end
-- ==== Proof.lean ====
/-
  The certificate: for every call, the frames of its kernel (as printed and idealized) and of its reference, that the
  idealization preserves it, and that the kernel's results are the reference's over the extended reals.
-/
module

public import proofs.«01_k».proof.Proof.SbfValue
public import proofs.«01_k».proof.Proof.XfValue
public import proofs.«01_k».proof.Proof.MxValue
public import proofs.«01_k».proof.Proof.LnfValue
public import proofs.«01_k».proof.Proof.FffValue
public import proofs.«01_k».proof.Proof.W.SbfRun
public import proofs.«01_k».proof.Proof.Gen.SbBwdIdeal
public import proofs.«01_k».proof.Proof.Gen.SbBwd
public import proofs.«01_k».proof.Proof.Gen.SbBwd.Skeleton
public import proofs.«01_k».proof.Proof.Gen.SbBwd.Launch
public import proofs.«01_k».proof.Proof.Gen.SbBwd.Points
public import proofs.«01_k».proof.Proof.Gen.SbBwdIdeal.Skeleton
public import proofs.«01_k».proof.Proof.Gen.SbBwdIdeal.Launch
public import proofs.«01_k».proof.Proof.Gen.SbBwdIdeal.Points
public import proofs.«01_k».proof.Proof.Gen.SbRefIdeal.Run
public import proofs.«01_k».proof.Proof.Gen.SbRefIdeal.Read
public import proofs.«01_k».proof.Defs
public import proofs.«01_k».proof.Proof.Gen.ConvBwd
public import proofs.«01_k».proof.Proof.Gen.ConvBwd.Skeleton
public import proofs.«01_k».proof.Proof.Gen.ConvBwd.Launch
public import proofs.«01_k».proof.Proof.Gen.ConvBwd.Points
public import proofs.«01_k».proof.Proof.Gen.ConvBwd.Frame
public import proofs.«01_k».proof.Proof.Gen.ConvBwdIdeal
public import proofs.«01_k».proof.Proof.Gen.ConvBwdIdeal.Skeleton
public import proofs.«01_k».proof.Proof.Gen.ConvBwdIdeal.Launch
public import proofs.«01_k».proof.Proof.Gen.ConvBwdIdeal.Points
public import proofs.«01_k».proof.Proof.Gen.ConvBwdIdeal.Frame
public import proofs.«01_k».proof.Proof.Gen.ConvRefIdeal
public import proofs.«01_k».proof.Proof.Gen.ConvBwdIdeal.Value
public import proofs.«01_k».proof.Proof.Gen.ConvRefIdeal.Run
public import proofs.«01_k».proof.Proof.Gen.CrossBwdIdeal.Value
public import proofs.«01_k».proof.Proof.Gen.CrossBwd.Frame
public import proofs.«01_k».proof.Proof.Gen.CrossRefIdeal.Run
public import proofs.«01_k».proof.Proof.Gen.CrossRefIdeal.Read
public import proofs.«01_k».proof.Proof.Gen.FfnBwdIdeal.Value
public import proofs.«01_k».proof.Proof.Gen.FfnBwd.Frame
public import proofs.«01_k».proof.Proof.Gen.FfnRefIdeal.Run
public import proofs.«01_k».proof.Proof.Gen.FfnRefIdeal.Read
public import proofs.«01_k».proof.Proof.Gen.Ln2BwdIdeal.Value
public import proofs.«01_k».proof.Proof.Gen.Ln2Bwd.Frame
public import proofs.«01_k».proof.Proof.Gen.Ln2RefIdeal.Run
public import proofs.«01_k».proof.Proof.Gen.Ln2RefIdeal.Read
public import proofs.«01_k».proof.Proof.Gen.Ln1BwdIdeal.Value
public import proofs.«01_k».proof.Proof.Gen.Ln1Bwd.Frame
public import proofs.«01_k».proof.Proof.Gen.Ln1RefIdeal.Run
public import proofs.«01_k».proof.Proof.Gen.Ln1RefIdeal.Read
public import proofs.«01_k».proof.Proof.Gen.MixBwdIdeal.Value
public import proofs.«01_k».proof.Proof.Gen.MixBwd.Frame
public import proofs.«01_k».proof.Proof.Gen.MixRefIdeal.Run
public import proofs.«01_k».proof.Proof.Gen.MixRefIdeal.Read
public import proofs.«01_k».proof.Proof.Gen.Ffn2BwdIdeal.Frame
public import proofs.«01_k».proof.Proof.Gen.Ffn2Bwd.Frame
public import proofs.«01_k».proof.Proof.Gen.Ffn2RefIdeal.Run
public import proofs.«01_k».proof.Proof.Gen.Ffn2RefIdeal.Read
public import proofs.«01_k».proof.Proof.Gen.LossHeadIdeal.Value
public import proofs.«01_k».proof.Proof.Gen.LossHead.Frame
public import proofs.«01_k».proof.Proof.Gen.LossRefIdeal.Run
public import proofs.«01_k».proof.Proof.Gen.LossRefIdeal.Read
public import proofs.«01_k».proof.Proof.Gen.SbFwd
public import proofs.«01_k».proof.Proof.Gen.SbFwd.Skeleton
public import proofs.«01_k».proof.Proof.Gen.SbFwd.Launch
public import proofs.«01_k».proof.Proof.Gen.SbFwd.Points
public import proofs.«01_k».proof.Proof.Gen.SbFwdIdeal
public import proofs.«01_k».proof.Proof.Gen.SbFwdIdeal.Skeleton
public import proofs.«01_k».proof.Proof.Gen.SbFwdIdeal.Launch
public import proofs.«01_k».proof.Proof.Gen.SbFwdIdeal.Points
public import proofs.«01_k».proof.Proof.Gen.SbFwdRefIdeal.Run
public import proofs.«01_k».proof.Proof.Gen.SbFwdRefIdeal.Read
public import proofs.«01_k».proof.Proof.ConvValue
public import proofs.«01_k».proof.Proof.CrossValue
public import proofs.«01_k».proof.Proof.FfnValue
public import proofs.«01_k».proof.Proof.Ln2Value
public import proofs.«01_k».proof.Proof.Ln1Value
public import proofs.«01_k».proof.Proof.MixValue
public import proofs.«01_k».proof.Proof.Ffn2Value
public import proofs.«01_k».proof.Proof.LossValue
public import proofs.«01_k».proof.Proof.W.SbFrame
public import proofs.«01_k».proof.Proof.SbValue
public import Idealize.ShloMosaic.Adequacy
public import proofs.«01_k».proof.Proof.Gen.CrossFwdIdeal.Value
public import proofs.«01_k».proof.Proof.Gen.CrossFwd.Frame
public import proofs.«01_k».proof.Proof.Gen.CrossFwdRefIdeal.Run
public import proofs.«01_k».proof.Proof.Gen.CrossFwdRefIdeal.Read
public import proofs.«01_k».proof.Proof.Gen.MixFwdIdeal.Value
public import proofs.«01_k».proof.Proof.Gen.MixFwd.Frame
public import proofs.«01_k».proof.Proof.Gen.MixFwdRefIdeal.Run
public import proofs.«01_k».proof.Proof.Gen.MixFwdRefIdeal.Read
public import proofs.«01_k».proof.Proof.Gen.FfnFwdIdeal.Value
public import proofs.«01_k».proof.Proof.Gen.FfnFwd.Frame
public import proofs.«01_k».proof.Proof.Gen.FfnFwdRefIdeal.Run
public import proofs.«01_k».proof.Proof.Gen.FfnFwdRefIdeal.Read
public import proofs.«01_k».proof.Proof.Gen.LnFwdIdeal.Value
public import proofs.«01_k».proof.Proof.Gen.LnFwd.Frame
public import proofs.«01_k».proof.Proof.Gen.LnFwdRefIdeal.Run
public import proofs.«01_k».proof.Proof.Gen.LnFwdRefIdeal.Read
public import Idealize.ShloMosaic.Init

@[expose] public section

noncomputable section

namespace Cert.Proof

open Idealize.ShloMosaic Idealize.SL.Sem Cert.ConvBwd

theorem claim : Cert.Claim := ⟨Cert.ConvBwd.Gen.facts, Cert.ConvBwdIdeal.Gen.facts, Cert.ConvRefIdeal.Gen.facts,
  Cert.SbBwd.Gen.facts, Cert.SbBwdIdeal.Gen.facts, Cert.SbRefIdeal.Gen.facts,
  Cert.CrossBwd.Gen.facts, Cert.CrossBwdIdeal.Gen.facts, Cert.CrossRefIdeal.Gen.facts,
  Cert.FfnBwd.Gen.facts, Cert.FfnBwdIdeal.Gen.facts, Cert.FfnRefIdeal.Gen.facts,
  Cert.Ln2Bwd.Gen.facts, Cert.Ln2BwdIdeal.Gen.facts, Cert.Ln2RefIdeal.Gen.facts,
  Cert.Ln1Bwd.Gen.facts, Cert.Ln1BwdIdeal.Gen.facts, Cert.Ln1RefIdeal.Gen.facts,
  Cert.MixBwd.Gen.facts, Cert.MixBwdIdeal.Gen.facts, Cert.MixRefIdeal.Gen.facts,
  Cert.Ffn2Bwd.Gen.facts, Cert.Ffn2BwdIdeal.Gen.facts, Cert.Ffn2RefIdeal.Gen.facts,
  Cert.LossHead.Gen.facts, Cert.LossHeadIdeal.Gen.facts, Cert.LossRefIdeal.Gen.facts,
  Cert.SbFwd.Gen.facts, Cert.SbFwdIdeal.Gen.facts, Cert.SbFwdRefIdeal.Gen.facts,
  Cert.CrossFwd.Gen.facts, Cert.CrossFwdIdeal.Gen.facts, Cert.CrossFwdRefIdeal.Gen.facts,
  Cert.MixFwd.Gen.facts, Cert.MixFwdIdeal.Gen.facts, Cert.MixFwdRefIdeal.Gen.facts,
  Cert.LnFwd.Gen.facts, Cert.LnFwdIdeal.Gen.facts, Cert.LnFwdRefIdeal.Gen.facts,
  Cert.FfnFwd.Gen.facts, Cert.FfnFwdIdeal.Gen.facts, Cert.FfnFwdRefIdeal.Gen.facts,
  Cert.Pre_sb_finite.facts, Cert.Pre_cross_finite.facts, Cert.Pre_ffn_finite.facts,
  Cert.Pre_ln2_finite.facts, Cert.Pre_ln1_finite.facts, Cert.Pre_mix_finite.facts, Cert.Pre_ffn2_finite.facts, Cert.Pre_loss_finite.facts,
  Cert.Pre_sb_fwd_finite.facts,
  fun m ρ _ => Cert.ConvBwd.Gen.frame m ρ,
  fun m ρ _ => Cert.ConvBwdIdeal.Gen.frame m ρ,
  Cert.Grad.frame_convRef,
  Cert.SbBwd.Hand.frame_sb,
  Cert.SbBwdIdeal.Hand.frame_sb_ideal,
  Cert.SbBwdIdeal.Hand.frame_sb_ideal_pre,
  Cert.Sb.frame_ref,
  Cert.Sb.frame_ref_pre,
  fun m ρ _ => Cert.CrossBwd.Gen.frame m ρ,
  fun m ρ _ => Cert.CrossBwdIdeal.Gen.frame m ρ,
  fun m ρ _ => Cert.CrossBwdIdeal.Gen.frame m ρ,
  Cert.Cross.frame_ref,
  fun m ρ _ => Cert.Cross.frame_ref m ρ trivial,
  fun m ρ _ => Cert.FfnBwd.Gen.frame m ρ,
  fun m ρ _ => Cert.FfnBwdIdeal.Gen.frame m ρ,
  fun m ρ _ => Cert.FfnBwdIdeal.Gen.frame m ρ,
  Cert.Ffn.frame_ref,
  fun m ρ _ => Cert.Ffn.frame_ref m ρ trivial,
  fun m ρ _ => Cert.Ln2Bwd.Gen.frame m ρ,
  fun m ρ _ => Cert.Ln2BwdIdeal.Gen.frame m ρ,
  fun m ρ _ => Cert.Ln2BwdIdeal.Gen.frame m ρ,
  Cert.Ln2.frame_ref,
  fun m ρ _ => Cert.Ln2.frame_ref m ρ trivial,
  fun m ρ _ => Cert.Ln1Bwd.Gen.frame m ρ,
  fun m ρ _ => Cert.Ln1BwdIdeal.Gen.frame m ρ,
  fun m ρ _ => Cert.Ln1BwdIdeal.Gen.frame m ρ,
  Cert.Ln1.frame_ref,
  fun m ρ _ => Cert.Ln1.frame_ref m ρ trivial,
  fun m ρ _ => Cert.MixBwd.Gen.frame m ρ,
  fun m ρ _ => Cert.MixBwdIdeal.Gen.frame m ρ,
  fun m ρ _ => Cert.MixBwdIdeal.Gen.frame m ρ,
  Cert.Mix.frame_ref,
  fun m ρ _ => Cert.Mix.frame_ref m ρ trivial,
  fun m ρ _ => Cert.Ffn2Bwd.Gen.frame m ρ,
  fun m ρ _ => Cert.Ffn2BwdIdeal.Gen.frame m ρ,
  fun m ρ _ => Cert.Ffn2BwdIdeal.Gen.frame m ρ,
  Cert.Ffn2.frame_ref,
  fun m ρ _ => Cert.Ffn2.frame_ref m ρ trivial,
  fun m ρ _ => Cert.LossHead.Gen.frame m ρ,
  fun m ρ _ => Cert.LossHeadIdeal.Gen.frame m ρ,
  fun m ρ _ => Cert.LossHeadIdeal.Gen.frame m ρ,
  Cert.Loss.frame_ref,
  fun m ρ _ => Cert.Loss.frame_ref m ρ trivial,
  Cert.SbFwd.Hand.frame_sbf_words,
  Cert.Sbf.frame,
  Cert.Sbf.frame_pre,
  Cert.Sbf.frame_ref,
  Cert.Sbf.frame_ref_pre,
  fun m ρ _ => Cert.CrossFwd.Gen.frame m ρ,
  fun m ρ _ => Cert.CrossFwdIdeal.Gen.frame m ρ,
  Cert.Xf.frame_ref,
  fun m ρ _ => Cert.MixFwd.Gen.frame m ρ,
  fun m ρ _ => Cert.MixFwdIdeal.Gen.frame m ρ,
  Cert.Mxf.frame_ref,
  fun m ρ _ => Cert.LnFwd.Gen.frame m ρ,
  fun m ρ _ => Cert.LnFwdIdeal.Gen.frame m ρ,
  Cert.Lnf.frame_ref,
  fun m ρ _ => Cert.FfnFwd.Gen.frame m ρ,
  fun m ρ _ => Cert.FfnFwdIdeal.Gen.frame m ρ,
  Cert.Fff.frame_ref,
  trivial,
  Cert.Grad.value_conv,
  Cert.Sb.preserves,
  Cert.Sb.value,
  trivial,
  Cert.Cross.value,
  trivial,
  Cert.Ffn.value,
  trivial,
  Cert.Ln2.value,
  trivial,
  Cert.Ln1.value,
  trivial,
  Cert.Mix.value,
  trivial,
  Cert.Ffn2.value,
  trivial,
  Cert.Loss.value,
  Cert.Sbf.preserves,
  Cert.Sbf.value,
  trivial,
  Cert.Xf.value,
  trivial,
  Cert.Mxf.value,
  trivial,
  Cert.Lnf.value,
  trivial,
  Cert.Fff.value⟩

end Cert.Proof

end
